-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_a [hPre_finite_a : Cert.Pre_finite_a.Facts] (m : (ℓ : Loc Cert.KernelIdeal.nD Cert.KernelIdeal.τ Cert.KernelIdeal.sig) → Buf (Elt Ideal) ℓ) : Prop :=
  ∀ c : Dev Cert.KernelIdeal.nD,
    (Cert.Pre_finite_a.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_a.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_a [hPre_finite_a : Cert.Pre_finite_a.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_a.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_a.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_finite_c [hPre_finite_c : Cert.Pre_finite_c.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_finite_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).1 = (fun _ => 1#1)
    ∧ (Cert.Pre_finite_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.1 = (fun _ => 1#1)
    ∧ (Cert.Pre_finite_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.1 = (fun _ => 1#1)
    ∧ (Cert.Pre_finite_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.1 = (fun _ => 1#1)
    ∧ (Cert.Pre_finite_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.1 = (fun _ => 1#1)
    ∧ (Cert.Pre_finite_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.2.1 = (fun _ => 1#1)
    ∧ (Cert.Pre_finite_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2)) (m ((c.tc : Thread Cert.KernelCIdeal.nD Cert.KernelCIdeal.τ).loc Cert.KernelCIdeal.main_arg3)) (m ((c.tc : Thread Cert.KernelCIdeal.nD Cert.KernelCIdeal.τ).loc Cert.KernelCIdeal.main_arg4)) (m ((c.tc : Thread Cert.KernelCIdeal.nD Cert.KernelCIdeal.τ).loc Cert.KernelCIdeal.main_arg5)) (m ((c.tc : Thread Cert.KernelCIdeal.nD Cert.KernelCIdeal.τ).loc Cert.KernelCIdeal.main_arg6)) (m ((c.tc : Thread Cert.KernelCIdeal.nD Cert.KernelCIdeal.τ).loc Cert.KernelCIdeal.main_arg7))).2.2.2.2.2.2 = (fun _ => 1#1)

def Pre_ReferenceCIdeal (m : (ℓ : Loc Cert.ReferenceCIdeal.nD Cert.ReferenceCIdeal.τ Cert.ReferenceCIdeal.sig) → Buf (Elt Ideal) ℓ) : Prop :=
  True

def Pre_ReferenceCIdeal_finite_c [hPre_finite_c : Cert.Pre_finite_c.Facts] (m : (ℓ : Loc Cert.ReferenceCIdeal.nD Cert.ReferenceCIdeal.τ Cert.ReferenceCIdeal.sig) → Buf (Elt Ideal) ℓ) : Prop :=
  ∀ c : Dev Cert.ReferenceCIdeal.nD,
    (Cert.Pre_finite_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).1 = (fun _ => 1#1)
    ∧ (Cert.Pre_finite_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.1 = (fun _ => 1#1)
    ∧ (Cert.Pre_finite_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.1 = (fun _ => 1#1)
    ∧ (Cert.Pre_finite_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.1 = (fun _ => 1#1)
    ∧ (Cert.Pre_finite_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.1 = (fun _ => 1#1)
    ∧ (Cert.Pre_finite_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.2.1 = (fun _ => 1#1)
    ∧ (Cert.Pre_finite_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2)) (m ((c.tc : Thread Cert.ReferenceCIdeal.nD Cert.ReferenceCIdeal.τ).loc Cert.ReferenceCIdeal.main_arg3)) (m ((c.tc : Thread Cert.ReferenceCIdeal.nD Cert.ReferenceCIdeal.τ).loc Cert.ReferenceCIdeal.main_arg4)) (m ((c.tc : Thread Cert.ReferenceCIdeal.nD Cert.ReferenceCIdeal.τ).loc Cert.ReferenceCIdeal.main_arg5)) (m ((c.tc : Thread Cert.ReferenceCIdeal.nD Cert.ReferenceCIdeal.τ).loc Cert.ReferenceCIdeal.main_arg6)) (m ((c.tc : Thread Cert.ReferenceCIdeal.nD Cert.ReferenceCIdeal.τ).loc Cert.ReferenceCIdeal.main_arg7))).2.2.2.2.2.2 = (fun _ => 1#1)

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_ReferenceFIdeal (m : (ℓ : Loc Cert.ReferenceFIdeal.nD Cert.ReferenceFIdeal.τ Cert.ReferenceFIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_a [hKernelIdeal : Cert.KernelIdeal.Facts] [hPre_finite_a : Cert.Pre_finite_a.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_a m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_a [hReferenceIdeal : Cert.ReferenceIdeal.Facts] [hPre_finite_a : Cert.Pre_finite_a.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_a m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5)
      ∧ r.2.mem ((c.tc : Thread Cert.KernelC.nD Cert.KernelC.τ).loc Cert.KernelC.main_arg6) = m ((c.tc : Thread Cert.KernelC.nD Cert.KernelC.τ).loc Cert.KernelC.main_arg6)
      ∧ r.2.mem ((c.tc : Thread Cert.KernelC.nD Cert.KernelC.τ).loc Cert.KernelC.main_arg7) = m ((c.tc : Thread Cert.KernelC.nD Cert.KernelC.τ).loc Cert.KernelC.main_arg7))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7))
      ∧ r.2.sem = fun _ => 0)

def quiescent_KernelCIdeal_pre_finite_c [hKernelCIdeal : Cert.KernelCIdeal.Facts] [hPre_finite_c : Cert.Pre_finite_c.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_finite_c m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6)
      ∧ r.2.mem ((c.tc : Thread Cert.ReferenceCIdeal.nD Cert.ReferenceCIdeal.τ).loc Cert.ReferenceCIdeal.main_arg7) = m ((c.tc : Thread Cert.ReferenceCIdeal.nD Cert.ReferenceCIdeal.τ).loc Cert.ReferenceCIdeal.main_arg7))
      ∧ r.2.sem = fun _ => 0)

def quiescent_ReferenceCIdeal_pre_finite_c [hReferenceCIdeal : Cert.ReferenceCIdeal.Facts] [hPre_finite_c : Cert.Pre_finite_c.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal_finite_c m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2)
      ∧ r.2.mem ((c.tc : Thread Cert.ReferenceCIdeal.nD Cert.ReferenceCIdeal.τ).loc Cert.ReferenceCIdeal.main_arg3) = m ((c.tc : Thread Cert.ReferenceCIdeal.nD Cert.ReferenceCIdeal.τ).loc Cert.ReferenceCIdeal.main_arg3)
      ∧ r.2.mem ((c.tc : Thread Cert.ReferenceCIdeal.nD Cert.ReferenceCIdeal.τ).loc Cert.ReferenceCIdeal.main_arg4) = m ((c.tc : Thread Cert.ReferenceCIdeal.nD Cert.ReferenceCIdeal.τ).loc Cert.ReferenceCIdeal.main_arg4)
      ∧ r.2.mem ((c.tc : Thread Cert.ReferenceCIdeal.nD Cert.ReferenceCIdeal.τ).loc Cert.ReferenceCIdeal.main_arg5) = m ((c.tc : Thread Cert.ReferenceCIdeal.nD Cert.ReferenceCIdeal.τ).loc Cert.ReferenceCIdeal.main_arg5)
      ∧ r.2.mem ((c.tc : Thread Cert.ReferenceCIdeal.nD Cert.ReferenceCIdeal.τ).loc Cert.ReferenceCIdeal.main_arg6) = m ((c.tc : Thread Cert.ReferenceCIdeal.nD Cert.ReferenceCIdeal.τ).loc Cert.ReferenceCIdeal.main_arg6)
      ∧ r.2.mem ((c.tc : Thread Cert.ReferenceCIdeal.nD Cert.ReferenceCIdeal.τ).loc Cert.ReferenceCIdeal.main_arg7) = m ((c.tc : Thread Cert.ReferenceCIdeal.nD Cert.ReferenceCIdeal.τ).loc Cert.ReferenceCIdeal.main_arg7))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3)
      ∧ r.2.mem ((c.tc : Thread Cert.KernelF.nD Cert.KernelF.τ).loc Cert.KernelF.main_arg4) = m ((c.tc : Thread Cert.KernelF.nD Cert.KernelF.τ).loc Cert.KernelF.main_arg4)
      ∧ r.2.mem ((c.tc : Thread Cert.KernelF.nD Cert.KernelF.τ).loc Cert.KernelF.main_arg5) = m ((c.tc : Thread Cert.KernelF.nD Cert.KernelF.τ).loc Cert.KernelF.main_arg5)
      ∧ r.2.mem ((c.tc : Thread Cert.KernelF.nD Cert.KernelF.τ).loc Cert.KernelF.main_arg6) = m ((c.tc : Thread Cert.KernelF.nD Cert.KernelF.τ).loc Cert.KernelF.main_arg6)
      ∧ r.2.mem ((c.tc : Thread Cert.KernelF.nD Cert.KernelF.τ).loc Cert.KernelF.main_arg7) = m ((c.tc : Thread Cert.KernelF.nD Cert.KernelF.τ).loc Cert.KernelF.main_arg7)
      ∧ r.2.mem ((c.tc : Thread Cert.KernelF.nD Cert.KernelF.τ).loc Cert.KernelF.main_arg8) = m ((c.tc : Thread Cert.KernelF.nD Cert.KernelF.τ).loc Cert.KernelF.main_arg8)
      ∧ r.2.mem ((c.tc : Thread Cert.KernelF.nD Cert.KernelF.τ).loc Cert.KernelF.main_arg9) = m ((c.tc : Thread Cert.KernelF.nD Cert.KernelF.τ).loc Cert.KernelF.main_arg9)
      ∧ r.2.mem ((c.tc : Thread Cert.KernelF.nD Cert.KernelF.τ).loc Cert.KernelF.main_arg10) = m ((c.tc : Thread Cert.KernelF.nD Cert.KernelF.τ).loc Cert.KernelF.main_arg10))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
      ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
      ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
      ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7)
      ∧ r.2.mem ((c.tc : Thread Cert.KernelFIdeal.nD Cert.KernelFIdeal.τ).loc Cert.KernelFIdeal.main_arg8) = m ((c.tc : Thread Cert.KernelFIdeal.nD Cert.KernelFIdeal.τ).loc Cert.KernelFIdeal.main_arg8)
      ∧ r.2.mem ((c.tc : Thread Cert.KernelFIdeal.nD Cert.KernelFIdeal.τ).loc Cert.KernelFIdeal.main_arg9) = m ((c.tc : Thread Cert.KernelFIdeal.nD Cert.KernelFIdeal.τ).loc Cert.KernelFIdeal.main_arg9)
      ∧ r.2.mem ((c.tc : Thread Cert.KernelFIdeal.nD Cert.KernelFIdeal.τ).loc Cert.KernelFIdeal.main_arg10) = m ((c.tc : Thread Cert.KernelFIdeal.nD Cert.KernelFIdeal.τ).loc Cert.KernelFIdeal.main_arg10))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4)
      ∧ r.2.mem ((c.tc : Thread Cert.ReferenceFIdeal.nD Cert.ReferenceFIdeal.τ).loc Cert.ReferenceFIdeal.main_arg5) = m ((c.tc : Thread Cert.ReferenceFIdeal.nD Cert.ReferenceFIdeal.τ).loc Cert.ReferenceFIdeal.main_arg5)
      ∧ r.2.mem ((c.tc : Thread Cert.ReferenceFIdeal.nD Cert.ReferenceFIdeal.τ).loc Cert.ReferenceFIdeal.main_arg6) = m ((c.tc : Thread Cert.ReferenceFIdeal.nD Cert.ReferenceFIdeal.τ).loc Cert.ReferenceFIdeal.main_arg6)
      ∧ r.2.mem ((c.tc : Thread Cert.ReferenceFIdeal.nD Cert.ReferenceFIdeal.τ).loc Cert.ReferenceFIdeal.main_arg7) = m ((c.tc : Thread Cert.ReferenceFIdeal.nD Cert.ReferenceFIdeal.τ).loc Cert.ReferenceFIdeal.main_arg7)
      ∧ r.2.mem ((c.tc : Thread Cert.ReferenceFIdeal.nD Cert.ReferenceFIdeal.τ).loc Cert.ReferenceFIdeal.main_arg8) = m ((c.tc : Thread Cert.ReferenceFIdeal.nD Cert.ReferenceFIdeal.τ).loc Cert.ReferenceFIdeal.main_arg8)
      ∧ r.2.mem ((c.tc : Thread Cert.ReferenceFIdeal.nD Cert.ReferenceFIdeal.τ).loc Cert.ReferenceFIdeal.main_arg9) = m ((c.tc : Thread Cert.ReferenceFIdeal.nD Cert.ReferenceFIdeal.τ).loc Cert.ReferenceFIdeal.main_arg9)
      ∧ r.2.mem ((c.tc : Thread Cert.ReferenceFIdeal.nD Cert.ReferenceFIdeal.τ).loc Cert.ReferenceFIdeal.main_arg10) = m ((c.tc : Thread Cert.ReferenceFIdeal.nD Cert.ReferenceFIdeal.τ).loc Cert.ReferenceFIdeal.main_arg10))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1)
      ∧ r.2.mem ((c.tc : Thread Cert.KernelG.nD Cert.KernelG.τ).loc Cert.KernelG.main_arg2) = m ((c.tc : Thread Cert.KernelG.nD Cert.KernelG.τ).loc Cert.KernelG.main_arg2)
      ∧ r.2.mem ((c.tc : Thread Cert.KernelG.nD Cert.KernelG.τ).loc Cert.KernelG.main_arg3) = m ((c.tc : Thread Cert.KernelG.nD Cert.KernelG.τ).loc Cert.KernelG.main_arg3)
      ∧ r.2.mem ((c.tc : Thread Cert.KernelG.nD Cert.KernelG.τ).loc Cert.KernelG.main_arg4) = m ((c.tc : Thread Cert.KernelG.nD Cert.KernelG.τ).loc Cert.KernelG.main_arg4)
      ∧ r.2.mem ((c.tc : Thread Cert.KernelG.nD Cert.KernelG.τ).loc Cert.KernelG.main_arg5) = m ((c.tc : Thread Cert.KernelG.nD Cert.KernelG.τ).loc Cert.KernelG.main_arg5)
      ∧ r.2.mem ((c.tc : Thread Cert.KernelG.nD Cert.KernelG.τ).loc Cert.KernelG.main_arg6) = m ((c.tc : Thread Cert.KernelG.nD Cert.KernelG.τ).loc Cert.KernelG.main_arg6))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
      ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
      ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3)
      ∧ r.2.mem ((c.tc : Thread Cert.KernelGIdeal.nD Cert.KernelGIdeal.τ).loc Cert.KernelGIdeal.main_arg4) = m ((c.tc : Thread Cert.KernelGIdeal.nD Cert.KernelGIdeal.τ).loc Cert.KernelGIdeal.main_arg4)
      ∧ r.2.mem ((c.tc : Thread Cert.KernelGIdeal.nD Cert.KernelGIdeal.τ).loc Cert.KernelGIdeal.main_arg5) = m ((c.tc : Thread Cert.KernelGIdeal.nD Cert.KernelGIdeal.τ).loc Cert.KernelGIdeal.main_arg5)
      ∧ r.2.mem ((c.tc : Thread Cert.KernelGIdeal.nD Cert.KernelGIdeal.τ).loc Cert.KernelGIdeal.main_arg6) = m ((c.tc : Thread Cert.KernelGIdeal.nD Cert.KernelGIdeal.τ).loc Cert.KernelGIdeal.main_arg6))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1)
      ∧ r.2.mem ((c.tc : Thread Cert.ReferenceGIdeal.nD Cert.ReferenceGIdeal.τ).loc Cert.ReferenceGIdeal.main_arg2) = m ((c.tc : Thread Cert.ReferenceGIdeal.nD Cert.ReferenceGIdeal.τ).loc Cert.ReferenceGIdeal.main_arg2)
      ∧ r.2.mem ((c.tc : Thread Cert.ReferenceGIdeal.nD Cert.ReferenceGIdeal.τ).loc Cert.ReferenceGIdeal.main_arg3) = m ((c.tc : Thread Cert.ReferenceGIdeal.nD Cert.ReferenceGIdeal.τ).loc Cert.ReferenceGIdeal.main_arg3)
      ∧ r.2.mem ((c.tc : Thread Cert.ReferenceGIdeal.nD Cert.ReferenceGIdeal.τ).loc Cert.ReferenceGIdeal.main_arg4) = m ((c.tc : Thread Cert.ReferenceGIdeal.nD Cert.ReferenceGIdeal.τ).loc Cert.ReferenceGIdeal.main_arg4)
      ∧ r.2.mem ((c.tc : Thread Cert.ReferenceGIdeal.nD Cert.ReferenceGIdeal.τ).loc Cert.ReferenceGIdeal.main_arg5) = m ((c.tc : Thread Cert.ReferenceGIdeal.nD Cert.ReferenceGIdeal.τ).loc Cert.ReferenceGIdeal.main_arg5)
      ∧ r.2.mem ((c.tc : Thread Cert.ReferenceGIdeal.nD Cert.ReferenceGIdeal.τ).loc Cert.ReferenceGIdeal.main_arg6) = m ((c.tc : Thread Cert.ReferenceGIdeal.nD Cert.ReferenceGIdeal.τ).loc Cert.ReferenceGIdeal.main_arg6))
      ∧ r.2.sem = fun _ => 0)

def preserves_Kernel_KernelIdeal : Prop :=
  IdealRules.named_const.Statement Cert.KernelIdeal.κ "attn_scale" .f32 0x3E38AA3B#32 (((1 / 8) * (Real.log 2)⁻¹ : ℝ) : EReal)

def algebraic_KernelIdeal_ReferenceIdeal_pre_finite_a [hKernelIdeal : Cert.KernelIdeal.Facts] [hReferenceIdeal : Cert.ReferenceIdeal.Facts] [hPre_finite_a : Cert.Pre_finite_a.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_a m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelC_KernelCIdeal : Prop :=
  IdealRules.named_const.Statement Cert.KernelCIdeal.κ "attn_scale" .f32 0x3E38AA3B#32 (((1 / 8) * (Real.log 2)⁻¹ : ℝ) : EReal)

def algebraic_KernelCIdeal_ReferenceCIdeal_pre_finite_c [hKernelCIdeal : Cert.KernelCIdeal.Facts] [hReferenceCIdeal : Cert.ReferenceCIdeal.Facts] [hPre_finite_c : Cert.Pre_finite_c.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal_finite_c m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)
      ∧ m' ((c.tc : Thread Cert.ReferenceCIdeal.nD Cert.ReferenceCIdeal.τ).loc Cert.ReferenceCIdeal.main_arg3) = m ((c.tc : Thread Cert.KernelCIdeal.nD Cert.KernelCIdeal.τ).loc Cert.KernelCIdeal.main_arg3)
      ∧ m' ((c.tc : Thread Cert.ReferenceCIdeal.nD Cert.ReferenceCIdeal.τ).loc Cert.ReferenceCIdeal.main_arg4) = m ((c.tc : Thread Cert.KernelCIdeal.nD Cert.KernelCIdeal.τ).loc Cert.KernelCIdeal.main_arg4)
      ∧ m' ((c.tc : Thread Cert.ReferenceCIdeal.nD Cert.ReferenceCIdeal.τ).loc Cert.ReferenceCIdeal.main_arg5) = m ((c.tc : Thread Cert.KernelCIdeal.nD Cert.KernelCIdeal.τ).loc Cert.KernelCIdeal.main_arg5)
      ∧ m' ((c.tc : Thread Cert.ReferenceCIdeal.nD Cert.ReferenceCIdeal.τ).loc Cert.ReferenceCIdeal.main_arg6) = m ((c.tc : Thread Cert.KernelCIdeal.nD Cert.KernelCIdeal.τ).loc Cert.KernelCIdeal.main_arg6)
      ∧ m' ((c.tc : Thread Cert.ReferenceCIdeal.nD Cert.ReferenceCIdeal.τ).loc Cert.ReferenceCIdeal.main_arg7) = m ((c.tc : Thread Cert.KernelCIdeal.nD Cert.KernelCIdeal.τ).loc Cert.KernelCIdeal.main_arg7)) →
    ∃ (v0 : (c : Dev Cert.KernelCIdeal.nD) → Buf (Elt Ideal) ((c.tc : Thread Cert.KernelCIdeal.nD Cert.KernelCIdeal.τ).loc Cert.KernelCIdeal.main_v13)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v13) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
          ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
          ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
          ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
          ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
          ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v47) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2)
          ∧ r.2.mem ((c.tc : Thread Cert.ReferenceCIdeal.nD Cert.ReferenceCIdeal.τ).loc Cert.ReferenceCIdeal.main_arg3) = m' ((c.tc : Thread Cert.ReferenceCIdeal.nD Cert.ReferenceCIdeal.τ).loc Cert.ReferenceCIdeal.main_arg3)
          ∧ r.2.mem ((c.tc : Thread Cert.ReferenceCIdeal.nD Cert.ReferenceCIdeal.τ).loc Cert.ReferenceCIdeal.main_arg4) = m' ((c.tc : Thread Cert.ReferenceCIdeal.nD Cert.ReferenceCIdeal.τ).loc Cert.ReferenceCIdeal.main_arg4)
          ∧ r.2.mem ((c.tc : Thread Cert.ReferenceCIdeal.nD Cert.ReferenceCIdeal.τ).loc Cert.ReferenceCIdeal.main_arg5) = m' ((c.tc : Thread Cert.ReferenceCIdeal.nD Cert.ReferenceCIdeal.τ).loc Cert.ReferenceCIdeal.main_arg5)
          ∧ r.2.mem ((c.tc : Thread Cert.ReferenceCIdeal.nD Cert.ReferenceCIdeal.τ).loc Cert.ReferenceCIdeal.main_arg6) = m' ((c.tc : Thread Cert.ReferenceCIdeal.nD Cert.ReferenceCIdeal.τ).loc Cert.ReferenceCIdeal.main_arg6)
          ∧ r.2.mem ((c.tc : Thread Cert.ReferenceCIdeal.nD Cert.ReferenceCIdeal.τ).loc Cert.ReferenceCIdeal.main_arg7) = m' ((c.tc : Thread Cert.ReferenceCIdeal.nD Cert.ReferenceCIdeal.τ).loc Cert.ReferenceCIdeal.main_arg7))

def preserves_KernelF_KernelFIdeal : Prop :=
  True

def algebraic_KernelFIdeal_ReferenceFIdeal [hKernelFIdeal : Cert.KernelFIdeal.Facts] [hReferenceFIdeal : Cert.ReferenceFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)
      ∧ m' ((c.tc : Thread Cert.ReferenceFIdeal.nD Cert.ReferenceFIdeal.τ).loc Cert.ReferenceFIdeal.main_arg4) = m ((c.tc : Thread Cert.KernelFIdeal.nD Cert.KernelFIdeal.τ).loc Cert.KernelFIdeal.main_arg4)
      ∧ m' ((c.tc : Thread Cert.ReferenceFIdeal.nD Cert.ReferenceFIdeal.τ).loc Cert.ReferenceFIdeal.main_arg5) = m ((c.tc : Thread Cert.KernelFIdeal.nD Cert.KernelFIdeal.τ).loc Cert.KernelFIdeal.main_arg5)
      ∧ m' ((c.tc : Thread Cert.ReferenceFIdeal.nD Cert.ReferenceFIdeal.τ).loc Cert.ReferenceFIdeal.main_arg6) = m ((c.tc : Thread Cert.KernelFIdeal.nD Cert.KernelFIdeal.τ).loc Cert.KernelFIdeal.main_arg6)
      ∧ m' ((c.tc : Thread Cert.ReferenceFIdeal.nD Cert.ReferenceFIdeal.τ).loc Cert.ReferenceFIdeal.main_arg7) = m ((c.tc : Thread Cert.KernelFIdeal.nD Cert.KernelFIdeal.τ).loc Cert.KernelFIdeal.main_arg7)
      ∧ m' ((c.tc : Thread Cert.ReferenceFIdeal.nD Cert.ReferenceFIdeal.τ).loc Cert.ReferenceFIdeal.main_arg8) = m ((c.tc : Thread Cert.KernelFIdeal.nD Cert.KernelFIdeal.τ).loc Cert.KernelFIdeal.main_arg8)
      ∧ m' ((c.tc : Thread Cert.ReferenceFIdeal.nD Cert.ReferenceFIdeal.τ).loc Cert.ReferenceFIdeal.main_arg9) = m ((c.tc : Thread Cert.KernelFIdeal.nD Cert.KernelFIdeal.τ).loc Cert.KernelFIdeal.main_arg9)
      ∧ m' ((c.tc : Thread Cert.ReferenceFIdeal.nD Cert.ReferenceFIdeal.τ).loc Cert.ReferenceFIdeal.main_arg10) = m ((c.tc : Thread Cert.KernelFIdeal.nD Cert.KernelFIdeal.τ).loc Cert.KernelFIdeal.main_arg10)) →
    ∃ (v0 : (c : Dev Cert.KernelFIdeal.nD) → Buf (Elt Ideal) ((c.tc : Thread Cert.KernelFIdeal.nD Cert.KernelFIdeal.τ).loc Cert.KernelFIdeal.main_v11)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v11) = v0 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
          ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
          ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
          ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
          ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7)
          ∧ r.2.mem ((c.tc : Thread Cert.KernelFIdeal.nD Cert.KernelFIdeal.τ).loc Cert.KernelFIdeal.main_arg8) = m ((c.tc : Thread Cert.KernelFIdeal.nD Cert.KernelFIdeal.τ).loc Cert.KernelFIdeal.main_arg8)
          ∧ r.2.mem ((c.tc : Thread Cert.KernelFIdeal.nD Cert.KernelFIdeal.τ).loc Cert.KernelFIdeal.main_arg9) = m ((c.tc : Thread Cert.KernelFIdeal.nD Cert.KernelFIdeal.τ).loc Cert.KernelFIdeal.main_arg9)
          ∧ r.2.mem ((c.tc : Thread Cert.KernelFIdeal.nD Cert.KernelFIdeal.τ).loc Cert.KernelFIdeal.main_arg10) = m ((c.tc : Thread Cert.KernelFIdeal.nD Cert.KernelFIdeal.τ).loc Cert.KernelFIdeal.main_arg10))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v87) = v0 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3)
          ∧ r.2.mem ((c.tc : Thread Cert.ReferenceFIdeal.nD Cert.ReferenceFIdeal.τ).loc Cert.ReferenceFIdeal.main_arg4) = m' ((c.tc : Thread Cert.ReferenceFIdeal.nD Cert.ReferenceFIdeal.τ).loc Cert.ReferenceFIdeal.main_arg4)
          ∧ r.2.mem ((c.tc : Thread Cert.ReferenceFIdeal.nD Cert.ReferenceFIdeal.τ).loc Cert.ReferenceFIdeal.main_arg5) = m' ((c.tc : Thread Cert.ReferenceFIdeal.nD Cert.ReferenceFIdeal.τ).loc Cert.ReferenceFIdeal.main_arg5)
          ∧ r.2.mem ((c.tc : Thread Cert.ReferenceFIdeal.nD Cert.ReferenceFIdeal.τ).loc Cert.ReferenceFIdeal.main_arg6) = m' ((c.tc : Thread Cert.ReferenceFIdeal.nD Cert.ReferenceFIdeal.τ).loc Cert.ReferenceFIdeal.main_arg6)
          ∧ r.2.mem ((c.tc : Thread Cert.ReferenceFIdeal.nD Cert.ReferenceFIdeal.τ).loc Cert.ReferenceFIdeal.main_arg7) = m' ((c.tc : Thread Cert.ReferenceFIdeal.nD Cert.ReferenceFIdeal.τ).loc Cert.ReferenceFIdeal.main_arg7)
          ∧ r.2.mem ((c.tc : Thread Cert.ReferenceFIdeal.nD Cert.ReferenceFIdeal.τ).loc Cert.ReferenceFIdeal.main_arg8) = m' ((c.tc : Thread Cert.ReferenceFIdeal.nD Cert.ReferenceFIdeal.τ).loc Cert.ReferenceFIdeal.main_arg8)
          ∧ r.2.mem ((c.tc : Thread Cert.ReferenceFIdeal.nD Cert.ReferenceFIdeal.τ).loc Cert.ReferenceFIdeal.main_arg9) = m' ((c.tc : Thread Cert.ReferenceFIdeal.nD Cert.ReferenceFIdeal.τ).loc Cert.ReferenceFIdeal.main_arg9)
          ∧ r.2.mem ((c.tc : Thread Cert.ReferenceFIdeal.nD Cert.ReferenceFIdeal.τ).loc Cert.ReferenceFIdeal.main_arg10) = m' ((c.tc : Thread Cert.ReferenceFIdeal.nD Cert.ReferenceFIdeal.τ).loc Cert.ReferenceFIdeal.main_arg10))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)
      ∧ m' ((c.tc : Thread Cert.ReferenceGIdeal.nD Cert.ReferenceGIdeal.τ).loc Cert.ReferenceGIdeal.main_arg2) = m ((c.tc : Thread Cert.KernelGIdeal.nD Cert.KernelGIdeal.τ).loc Cert.KernelGIdeal.main_arg2)
      ∧ m' ((c.tc : Thread Cert.ReferenceGIdeal.nD Cert.ReferenceGIdeal.τ).loc Cert.ReferenceGIdeal.main_arg3) = m ((c.tc : Thread Cert.KernelGIdeal.nD Cert.KernelGIdeal.τ).loc Cert.KernelGIdeal.main_arg3)
      ∧ m' ((c.tc : Thread Cert.ReferenceGIdeal.nD Cert.ReferenceGIdeal.τ).loc Cert.ReferenceGIdeal.main_arg4) = m ((c.tc : Thread Cert.KernelGIdeal.nD Cert.KernelGIdeal.τ).loc Cert.KernelGIdeal.main_arg4)
      ∧ m' ((c.tc : Thread Cert.ReferenceGIdeal.nD Cert.ReferenceGIdeal.τ).loc Cert.ReferenceGIdeal.main_arg5) = m ((c.tc : Thread Cert.KernelGIdeal.nD Cert.KernelGIdeal.τ).loc Cert.KernelGIdeal.main_arg5)
      ∧ m' ((c.tc : Thread Cert.ReferenceGIdeal.nD Cert.ReferenceGIdeal.τ).loc Cert.ReferenceGIdeal.main_arg6) = m ((c.tc : Thread Cert.KernelGIdeal.nD Cert.KernelGIdeal.τ).loc Cert.KernelGIdeal.main_arg6)) →
    ∃ (v0 : (c : Dev Cert.KernelGIdeal.nD) → Buf (Elt Ideal) ((c.tc : Thread Cert.KernelGIdeal.nD Cert.KernelGIdeal.τ).loc Cert.KernelGIdeal.main_v6)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v6) = v0 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
          ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
          ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3)
          ∧ r.2.mem ((c.tc : Thread Cert.KernelGIdeal.nD Cert.KernelGIdeal.τ).loc Cert.KernelGIdeal.main_arg4) = m ((c.tc : Thread Cert.KernelGIdeal.nD Cert.KernelGIdeal.τ).loc Cert.KernelGIdeal.main_arg4)
          ∧ r.2.mem ((c.tc : Thread Cert.KernelGIdeal.nD Cert.KernelGIdeal.τ).loc Cert.KernelGIdeal.main_arg5) = m ((c.tc : Thread Cert.KernelGIdeal.nD Cert.KernelGIdeal.τ).loc Cert.KernelGIdeal.main_arg5)
          ∧ r.2.mem ((c.tc : Thread Cert.KernelGIdeal.nD Cert.KernelGIdeal.τ).loc Cert.KernelGIdeal.main_arg6) = m ((c.tc : Thread Cert.KernelGIdeal.nD Cert.KernelGIdeal.τ).loc Cert.KernelGIdeal.main_arg6))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v59) = v0 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1)
          ∧ r.2.mem ((c.tc : Thread Cert.ReferenceGIdeal.nD Cert.ReferenceGIdeal.τ).loc Cert.ReferenceGIdeal.main_arg2) = m' ((c.tc : Thread Cert.ReferenceGIdeal.nD Cert.ReferenceGIdeal.τ).loc Cert.ReferenceGIdeal.main_arg2)
          ∧ r.2.mem ((c.tc : Thread Cert.ReferenceGIdeal.nD Cert.ReferenceGIdeal.τ).loc Cert.ReferenceGIdeal.main_arg3) = m' ((c.tc : Thread Cert.ReferenceGIdeal.nD Cert.ReferenceGIdeal.τ).loc Cert.ReferenceGIdeal.main_arg3)
          ∧ r.2.mem ((c.tc : Thread Cert.ReferenceGIdeal.nD Cert.ReferenceGIdeal.τ).loc Cert.ReferenceGIdeal.main_arg4) = m' ((c.tc : Thread Cert.ReferenceGIdeal.nD Cert.ReferenceGIdeal.τ).loc Cert.ReferenceGIdeal.main_arg4)
          ∧ r.2.mem ((c.tc : Thread Cert.ReferenceGIdeal.nD Cert.ReferenceGIdeal.τ).loc Cert.ReferenceGIdeal.main_arg5) = m' ((c.tc : Thread Cert.ReferenceGIdeal.nD Cert.ReferenceGIdeal.τ).loc Cert.ReferenceGIdeal.main_arg5)
          ∧ r.2.mem ((c.tc : Thread Cert.ReferenceGIdeal.nD Cert.ReferenceGIdeal.τ).loc Cert.ReferenceGIdeal.main_arg6) = m' ((c.tc : Thread Cert.ReferenceGIdeal.nD Cert.ReferenceGIdeal.τ).loc Cert.ReferenceGIdeal.main_arg6))

def Claim : Prop :=
  ∃ (hKernel : Cert.Kernel.Facts) (hKernelIdeal : Cert.KernelIdeal.Facts) (hReferenceIdeal : Cert.ReferenceIdeal.Facts) (hKernelC : Cert.KernelC.Facts) (hKernelCIdeal : Cert.KernelCIdeal.Facts) (hReferenceCIdeal : Cert.ReferenceCIdeal.Facts) (hKernelF : Cert.KernelF.Facts) (hKernelFIdeal : Cert.KernelFIdeal.Facts) (hReferenceFIdeal : Cert.ReferenceFIdeal.Facts) (hKernelG : Cert.KernelG.Facts) (hKernelGIdeal : Cert.KernelGIdeal.Facts) (hReferenceGIdeal : Cert.ReferenceGIdeal.Facts) (hPre_finite_a : Cert.Pre_finite_a.Facts) (hPre_finite_c : Cert.Pre_finite_c.Facts),
    quiescent_Kernel (hKernel := hKernel)
    ∧ quiescent_KernelIdeal (hKernelIdeal := hKernelIdeal)
    ∧ quiescent_KernelIdeal_pre_finite_a (hKernelIdeal := hKernelIdeal) (hPre_finite_a := hPre_finite_a)
    ∧ quiescent_ReferenceIdeal (hReferenceIdeal := hReferenceIdeal)
    ∧ quiescent_ReferenceIdeal_pre_finite_a (hReferenceIdeal := hReferenceIdeal) (hPre_finite_a := hPre_finite_a)
    ∧ quiescent_KernelC (hKernelC := hKernelC)
    ∧ quiescent_KernelCIdeal (hKernelCIdeal := hKernelCIdeal)
    ∧ quiescent_KernelCIdeal_pre_finite_c (hKernelCIdeal := hKernelCIdeal) (hPre_finite_c := hPre_finite_c)
    ∧ quiescent_ReferenceCIdeal (hReferenceCIdeal := hReferenceCIdeal)
    ∧ quiescent_ReferenceCIdeal_pre_finite_c (hReferenceCIdeal := hReferenceCIdeal) (hPre_finite_c := hPre_finite_c)
    ∧ quiescent_KernelF (hKernelF := hKernelF)
    ∧ quiescent_KernelFIdeal (hKernelFIdeal := hKernelFIdeal)
    ∧ quiescent_ReferenceFIdeal (hReferenceFIdeal := hReferenceFIdeal)
    ∧ quiescent_KernelG (hKernelG := hKernelG)
    ∧ quiescent_KernelGIdeal (hKernelGIdeal := hKernelGIdeal)
    ∧ quiescent_ReferenceGIdeal (hReferenceGIdeal := hReferenceGIdeal)
    ∧ preserves_Kernel_KernelIdeal
    ∧ algebraic_KernelIdeal_ReferenceIdeal_pre_finite_a (hKernelIdeal := hKernelIdeal) (hReferenceIdeal := hReferenceIdeal) (hPre_finite_a := hPre_finite_a)
    ∧ preserves_KernelC_KernelCIdeal
    ∧ algebraic_KernelCIdeal_ReferenceCIdeal_pre_finite_c (hKernelCIdeal := hKernelCIdeal) (hReferenceCIdeal := hReferenceCIdeal) (hPre_finite_c := hPre_finite_c)
    ∧ preserves_KernelF_KernelFIdeal
    ∧ algebraic_KernelFIdeal_ReferenceFIdeal (hKernelFIdeal := hKernelFIdeal) (hReferenceFIdeal := hReferenceFIdeal)
    ∧ preserves_KernelG_KernelGIdeal
    ∧ algebraic_KernelGIdeal_ReferenceGIdeal (hKernelGIdeal := hKernelGIdeal) (hReferenceGIdeal := hReferenceGIdeal)
-- ==== Pre_finite_a.lean ====
abbrev S8x4096x4x4x64 : Shape := ⟨5, ![8, 4096, 4, 4, 64]⟩
abbrev S8x4096x4x64 : Shape := ⟨4, ![8, 4096, 4, 64]⟩
abbrev S_ : Shape := ⟨0, ![]⟩

class Facts : Prop where
  bcast_S_S8x4096x4x4x64 : S_.BroadcastsInDim S8x4096x4x4x64 (![] : Fin 0 → Fin S8x4096x4x4x64.rank)
  bcast_S_S8x4096x4x64 : S_.BroadcastsInDim S8x4096x4x64 (![] : Fin 0 → Fin S8x4096x4x64.rank)

variable [Facts]

def fn {F : FTy → Type} [FloatOps F] (main_arg0 : FVec F S8x4096x4x4x64 .f32) (main_arg1 : FVec F S8x4096x4x64 .f32) (main_arg2 : FVec F S8x4096x4x64 .f32) : IVec S8x4096x4x4x64 1 × IVec S8x4096x4x64 1 :=
  let main_v0 : FVec F S8x4096x4x4x64 .f32 := Host.absf main_arg0
  let main_cst : FVec F S_ .f32 := constant S_ .f32 0x7F800000#32
  let main_v1 : FVec F S8x4096x4x4x64 .f32 := broadcastInDim S8x4096x4x4x64 ![] bcast_S_S8x4096x4x4x64 main_cst
  let main_v2 : IVec S8x4096x4x4x64 1 := cmpf .olt main_v0 main_v1
  let main_v3 : FVec F S8x4096x4x64 .f32 := Host.absf main_arg1
  let main_cst_0 : FVec F S_ .f32 := constant S_ .f32 0x7F800000#32
  let main_v4 : FVec F S8x4096x4x64 .f32 := broadcastInDim S8x4096x4x64 ![] bcast_S_S8x4096x4x64 main_cst_0
  let main_v5 : IVec S8x4096x4x64 1 := cmpf .olt main_v3 main_v4
  (main_v2, main_v5)
-- ==== Pre_finite_c.lean ====
abbrev S8x4096x8x2x64 : Shape := ⟨5, ![8, 4096, 8, 2, 64]⟩
abbrev S8x4096x8x128 : Shape := ⟨4, ![8, 4096, 8, 128]⟩
abbrev S64 : Shape := ⟨1, ![64]⟩
abbrev S128 : Shape := ⟨1, ![128]⟩
abbrev S_ : Shape := ⟨0, ![]⟩

class Facts : Prop where
  bcast_S_S8x4096x8x2x64 : S_.BroadcastsInDim S8x4096x8x2x64 (![] : Fin 0 → Fin S8x4096x8x2x64.rank)
  bcast_S_S8x4096x8x128 : S_.BroadcastsInDim S8x4096x8x128 (![] : Fin 0 → Fin S8x4096x8x128.rank)
  bcast_S_S64 : S_.BroadcastsInDim S64 (![] : Fin 0 → Fin S64.rank)

variable [Facts]

def fn_part1 {F : FTy → Type} [FloatOps F] (main_arg6 : FVec F S64 .f32) (main_v2 : IVec S8x4096x8x2x64 1) (main_v5 : IVec S8x4096x8x2x64 1) (main_v8 : IVec S8x4096x8x128 1) (main_v11 : IVec S64 1) (main_v14 : IVec S64 1) (main_v17 : IVec S64 1) : IVec S8x4096x8x2x64 1 × IVec S8x4096x8x2x64 1 × IVec S8x4096x8x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S8x4096x8x2x64 .f32) (main_arg1 : FVec F S8x4096x8x2x64 .f32) (main_arg2 : FVec F S8x4096x8x128 .f32) (main_arg3 : FVec F S64 .f32) (main_arg4 : FVec F S64 .f32) (main_arg5 : FVec F S64 .f32) (main_arg6 : FVec F S64 .f32) (main_arg7 : FVec F S128 .f32) : IVec S8x4096x8x2x64 1 × IVec S8x4096x8x2x64 1 × IVec S8x4096x8x128 1 × IVec S64 1 × IVec S64 1 × IVec S64 1 × IVec S64 1 :=
  let main_v0 : FVec F S8x4096x8x2x64 .f32 := Host.absf main_arg0
  let main_cst : FVec F S_ .f32 := constant S_ .f32 0x7F800000#32
  let main_v1 : FVec F S8x4096x8x2x64 .f32 := broadcastInDim S8x4096x8x2x64 ![] bcast_S_S8x4096x8x2x64 main_cst
  let main_v2 : IVec S8x4096x8x2x64 1 := cmpf .olt main_v0 main_v1
  let main_v3 : FVec F S8x4096x8x2x64 .f32 := Host.absf main_arg1
  let main_cst_0 : FVec F S_ .f32 := constant S_ .f32 0x7F800000#32
  let main_v4 : FVec F S8x4096x8x2x64 .f32 := broadcastInDim S8x4096x8x2x64 ![] bcast_S_S8x4096x8x2x64 main_cst_0
  let main_v5 : IVec S8x4096x8x2x64 1 := cmpf .olt main_v3 main_v4
  let main_v6 : FVec F S8x4096x8x128 .f32 := Host.absf main_arg2
  let main_cst_1 : FVec F S_ .f32 := constant S_ .f32 0x7F800000#32
  let main_v7 : FVec F S8x4096x8x128 .f32 := broadcastInDim S8x4096x8x128 ![] bcast_S_S8x4096x8x128 main_cst_1
  let main_v8 : IVec S8x4096x8x128 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Kernel.lean ====
abbrev S8x4096x4x4x64 : Shape := ⟨5, ![8, 4096, 4, 4, 64]⟩
abbrev S8x4096x4x64 : Shape := ⟨4, ![8, 4096, 4, 64]⟩
abbrev S8x4096x4x128 : Shape := ⟨4, ![8, 4096, 4, 128]⟩
abbrev S_ : Shape := ⟨0, ![]⟩
abbrev S8x4096x4x256 : Shape := ⟨4, ![8, 4096, 4, 256]⟩
abbrev S8x4096x1024 : Shape := ⟨3, ![8, 4096, 1024]⟩
abbrev S8x4096x512 : Shape := ⟨3, ![8, 4096, 512]⟩
abbrev S1x1024x256 : Shape := ⟨3, ![1, 1024, 256]⟩
abbrev S1x4096x128 : Shape := ⟨3, ![1, 4096, 128]⟩
abbrev S1x4096x256 : Shape := ⟨3, ![1, 4096, 256]⟩
abbrev S2x256x4096 : Shape := ⟨3, ![2, 256, 4096]⟩
abbrev S256x128 : Shape := ⟨2, ![256, 128]⟩
abbrev S1x256x128 : Shape := ⟨3, ![1, 256, 128]⟩
abbrev S4096x128 : Shape := ⟨2, ![4096, 128]⟩
abbrev S256x4096 : Shape := ⟨2, ![256, 4096]⟩
abbrev S1x256x4096 : Shape := ⟨3, ![1, 256, 4096]⟩
abbrev S256 : Shape := ⟨1, ![256]⟩
abbrev S256x1 : Shape := ⟨2, ![256, 1]⟩
abbrev S256x256 : Shape := ⟨2, ![256, 256]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x4x4x64, .f32⟩
  | .hbm, ⟨1, _⟩ => ⟨S8x4096x4x64, .f32⟩
  | .hbm, ⟨2, _⟩ => ⟨S8x4096x4x64, .f32⟩
  | .hbm, ⟨3, _⟩ => ⟨S8x4096x4x128, .f32⟩
  | .hbm, ⟨4, _⟩ => ⟨S8x4096x4x128, .bf16⟩
  | .hbm, ⟨5, _⟩ => ⟨S_, .f32⟩
  | .hbm, ⟨6, _⟩ => ⟨S8x4096x4x64, .f32⟩
  | .hbm, ⟨7, _⟩ => ⟨S8x4096x4x256, .f32⟩
  | .hbm, ⟨8, _⟩ => ⟨S8x4096x4x256, .bf16⟩
  | .hbm, ⟨9, _⟩ => ⟨S8x4096x1024, .f32⟩
  | .hbm, ⟨10, _⟩ => ⟨S8x4096x512, .bf16⟩
  | .hbm, ⟨11, _⟩ => ⟨S8x4096x1024, .bf16⟩
  | .hbm, ⟨12, _⟩ => ⟨S8x4096x1024, .bf16⟩
  | .local _ .vmem, ⟨0, _⟩ => ⟨S1x1024x256, .f32⟩
  | .local _ .vmem, ⟨1, _⟩ => ⟨S1x1024x256, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S2x256x4096, .f32⟩
  | _, _ => ⟨S8x4096x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "attn_scale" => some (((1 / 8) * (Real.log 2)⁻¹ : ℝ) : EReal)
  | _ => none
-- ==== ReferenceIdeal.lean ====
abbrev S8x4096x4x4x64 : Shape := ⟨5, ![8, 4096, 4, 4, 64]⟩
abbrev S8x4096x4x64 : Shape := ⟨4, ![8, 4096, 4, 64]⟩
abbrev S8x4x4096x4096x4 : Shape := ⟨5, ![8, 4, 4096, 4096, 4]⟩
abbrev S8x4x4x4096x4096 : Shape := ⟨5, ![8, 4, 4, 4096, 4096]⟩
abbrev S_ : Shape := ⟨0, ![]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩
abbrev S8x4096x1024 : Shape := ⟨3, ![8, 4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x4x4x64, .f32⟩
  | .hbm, ⟨1, _⟩ => ⟨S8x4096x4x64, .f32⟩
  | .hbm, ⟨2, _⟩ => ⟨S8x4096x4x64, .f32⟩
  | .hbm, ⟨3, _⟩ => ⟨S8x4x4096x4096x4, .f32⟩
  | .hbm, ⟨4, _⟩ => ⟨S8x4x4x4096x4096, .f32⟩
  | .hbm, ⟨5, _⟩ => ⟨S_, .f32⟩
  | .hbm, ⟨6, _⟩ => ⟨S8x4x4x4096x4096, .f32⟩
  | .hbm, ⟨7, _⟩ => ⟨S8x4x4x4096x4096, .f32⟩
  | .hbm, ⟨8, _⟩ => ⟨S_, .f32⟩
  | .hbm, ⟨9, _⟩ => ⟨S8x4x4x4096, .f32⟩
  | .hbm, ⟨10, _⟩ => ⟨S_, .f32⟩
  | .hbm, ⟨11, _⟩ => ⟨S8x4x4x4096, .f32⟩
  | .hbm, ⟨12, _⟩ => ⟨S8x4x4x4096, .f32⟩
  | .hbm, ⟨13, _⟩ => ⟨S8x4x4x4096x1, .f32⟩
  | .hbm, ⟨14, _⟩ => ⟨S8x4x4x4096x4096, .f32⟩
  | .hbm, ⟨15, _⟩ => ⟨S8x4x4x4096x4096, .f32⟩
  | .hbm, ⟨16, _⟩ => ⟨S8x4x4x4096x4096, .f32⟩
  | .hbm, ⟨17, _⟩ => ⟨S_, .f32⟩
  | .hbm, ⟨18, _⟩ => ⟨S8x4x4x4096, .f32⟩
  | .hbm, ⟨19, _⟩ => ⟨S8x4x4x4096x1, .f32⟩
  | .hbm, ⟨20, _⟩ => ⟨S8x4x4x4096x4096, .f32⟩
  | .hbm, ⟨21, _⟩ => ⟨S8x4x4x4096x4096, .f32⟩
  | .hbm, ⟨22, _⟩ => ⟨S8x4x64x4x4096, .f32⟩
  | .hbm, ⟨23, _⟩ => ⟨S8x4096x4x4x64, .f32⟩
  | .hbm, ⟨24, _⟩ => ⟨S8x4096x1024, .f32⟩
  | .hbm, ⟨25, _⟩ => ⟨S8x4096x1024, .bf16⟩
  | _, _ => ⟨S8x4096x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelC.lean ====
abbrev S8x4096x8x2x64 : Shape := ⟨5, ![8, 4096, 8, 2, 64]⟩
abbrev S8x4096x8x128 : Shape := ⟨4, ![8, 4096, 8, 128]⟩
abbrev S64 : Shape := ⟨1, ![64]⟩
abbrev S128 : Shape := ⟨1, ![128]⟩
abbrev S_ : Shape := ⟨0, ![]⟩
abbrev S8x4096x8x256 : Shape := ⟨4, ![8, 4096, 8, 256]⟩
abbrev S1x64 : Shape := ⟨2, ![1, 64]⟩
abbrev S4x64 : Shape := ⟨2, ![4, 64]⟩
abbrev S8x4096x1024 : Shape := ⟨3, ![8, 4096, 1024]⟩
abbrev S8x4096x2048 : Shape := ⟨3, ![8, 4096, 2048]⟩
abbrev S1x128 : Shape := ⟨2, ![1, 128]⟩
abbrev S1x2048x128 : Shape := ⟨3, ![1, 2048, 128]⟩
abbrev S1x4096x128 : Shape := ⟨3, ![1, 4096, 128]⟩
abbrev S1x4096x256 : Shape := ⟨3, ![1, 4096, 256]⟩
abbrev S2x256x4096 : Shape := ⟨3, ![2, 256, 4096]⟩
abbrev S1 : Shape := ⟨1, ![1]⟩
abbrev S1x1 : Shape := ⟨2, ![1, 1]⟩
abbrev S256x128 : Shape := ⟨2, ![256, 128]⟩
abbrev S1x256x128 : Shape := ⟨3, ![1, 256, 128]⟩
abbrev S4096x128 : Shape := ⟨2, ![4096, 128]⟩
abbrev S256x4096 : Shape := ⟨2, ![256, 4096]⟩
abbrev S1x256x4096 : Shape := ⟨3, ![1, 256, 4096]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 23
  | .vmem => 11
  | .smem => 0
  | _ => 0

abbrev bufTy : (tb : Table) → Fin (tcTables nBuf tb) → BufTy
  | .hbm, ⟨0, _⟩ => ⟨S8x4096x8x2x64, .f32⟩
  | .hbm, ⟨1, _⟩ => ⟨S8x4096x8x2x64, .f32⟩
  | .hbm, ⟨2, _⟩ => ⟨S8x4096x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S_, .f32⟩
  | .hbm, ⟨9, _⟩ => ⟨S8x4096x8x128, .f32⟩
  | .hbm, ⟨10, _⟩ => ⟨S8x4096x8x256, .f32⟩
  | .hbm, ⟨11, _⟩ => ⟨S8x4096x8x256, .bf16⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4x64, .f32⟩
  | .hbm, ⟨17, _⟩ => ⟨S8x4096x1024, .f32⟩
  | .hbm, ⟨18, _⟩ => ⟨S8x4096x8x2x64, .bf16⟩
  | .hbm, ⟨19, _⟩ => ⟨S8x4096x1024, .bf16⟩
  | .hbm, ⟨20, _⟩ => ⟨S8x4096x2048, .bf16⟩
  | .hbm, ⟨21, _⟩ => ⟨S1x128, .f32⟩
  | .hbm, ⟨22, _⟩ => ⟨S8x4096x1024, .bf16⟩
  | .local _ .vmem, ⟨0, _⟩ => ⟨S4x64, .f32⟩
  | .local _ .vmem, ⟨1, _⟩ => ⟨S1x128, .f32⟩
  | .local _ .vmem, ⟨2, _⟩ => ⟨S1x2048x128, .f32⟩
  | .local _ .vmem, ⟨3, _⟩ => ⟨S1x2048x128, .f32⟩
  | .local _ .vmem, ⟨4, _⟩ => ⟨S1x4096x128, .bf16⟩
  | .local _ .vmem, ⟨5, _⟩ => ⟨S1x4096x128, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x2048x128, .bf16⟩
  | .local _ .vmem, ⟨9, _⟩ => ⟨S1x2048x128, .bf16⟩
  | .local _ .vmem, ⟨10, _⟩ => ⟨S2x256x4096, .f32⟩
  | _, _ => ⟨S8x4096x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelCIdeal.lean ====
variable {F : FTy → Type} [FloatOps F] [Named F]
def κ : String → Option EReal := fun
  | "attn_scale" => some (((1 / 8) * (Real.log 2)⁻¹ : ℝ) : EReal)
  | _ => none
-- ==== ReferenceCIdeal.lean ====
abbrev S8x4096x8x2x64 : Shape := ⟨5, ![8, 4096, 8, 2, 64]⟩
abbrev S8x4096x8x128 : Shape := ⟨4, ![8, 4096, 8, 128]⟩
abbrev S64 : Shape := ⟨1, ![64]⟩
abbrev S128 : Shape := ⟨1, ![128]⟩
abbrev S_ : Shape := ⟨0, ![]⟩
abbrev S8x8x2x4096x4096 : Shape := ⟨5, ![8, 8, 2, 4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x1024 : Shape := ⟨3, ![8, 4096, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x8x2x64, .f32⟩
  | .hbm, ⟨1, _⟩ => ⟨S8x4096x8x2x64, .f32⟩
  | .hbm, ⟨2, _⟩ => ⟨S8x4096x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x8x2x4096x4096, .f32⟩
  | .hbm, ⟨20, _⟩ => ⟨S_, .f32⟩
  | .hbm, ⟨21, _⟩ => ⟨S8x8x2x4096x4096, .f32⟩
  | .hbm, ⟨22, _⟩ => ⟨S8x8x2x4096x4096, .f32⟩
  | .hbm, ⟨23, _⟩ => ⟨S_, .f32⟩
  | .hbm, ⟨24, _⟩ => ⟨S8x8x2x4096, .f32⟩
  | .hbm, ⟨25, _⟩ => ⟨S_, .f32⟩
  | .hbm, ⟨26, _⟩ => ⟨S8x8x2x4096, .f32⟩
  | .hbm, ⟨27, _⟩ => ⟨S8x8x2x4096, .f32⟩
  | .hbm, ⟨28, _⟩ => ⟨S8x8x2x4096x1, .f32⟩
  | .hbm, ⟨29, _⟩ => ⟨S8x8x2x4096x4096, .f32⟩
  | .hbm, ⟨30, _⟩ => ⟨S8x8x2x4096x4096, .f32⟩
  | .hbm, ⟨31, _⟩ => ⟨S8x8x2x4096x4096, .f32⟩
  | .hbm, ⟨32, _⟩ => ⟨S_, .f32⟩
  | .hbm, ⟨33, _⟩ => ⟨S8x8x2x4096, .f32⟩
  | .hbm, ⟨34, _⟩ => ⟨S8x8x2x4096x1, .f32⟩
  | .hbm, ⟨35, _⟩ => ⟨S8x8x2x4096x4096, .f32⟩
  | .hbm, ⟨36, _⟩ => ⟨S8x8x2x4096x4096, .f32⟩
  | .hbm, ⟨37, _⟩ => ⟨S8x8x1x4096x4096, .f32⟩
  | .hbm, ⟨38, _⟩ => ⟨S8x8x4096x4096, .f32⟩
  | .hbm, ⟨39, _⟩ => ⟨S8x8x1x4096x4096, .f32⟩
  | .hbm, ⟨40, _⟩ => ⟨S8x8x4096x4096, .f32⟩
  | .hbm, ⟨41, _⟩ => ⟨S8x8x4096x4096, .f32⟩
  | .hbm, ⟨42, _⟩ => ⟨S8x8x4096x4096, .f32⟩
  | .hbm, ⟨43, _⟩ => ⟨S8x8x4096x4096, .f32⟩
  | .hbm, ⟨44, _⟩ => ⟨S8x8x128x4096, .f32⟩
  | .hbm, ⟨45, _⟩ => ⟨S8x4096x8x128, .f32⟩
  | .hbm, ⟨46, _⟩ => ⟨S8x4096x8x128, .f32⟩
  | .hbm, ⟨47, _⟩ => ⟨S_, .f32⟩
  | .hbm, ⟨48, _⟩ => ⟨S8x4096x8, .f32⟩
  | .hbm, ⟨49, _⟩ => ⟨S8x4096x8x1, .f32⟩
  | .hbm, ⟨50, _⟩ => ⟨S_, .f32⟩
  | .hbm, ⟨51, _⟩ => ⟨S8x4096x8x1, .f32⟩
  | .hbm, ⟨52, _⟩ => ⟨S8x4096x8x1, .f32⟩
  | .hbm, ⟨53, _⟩ => ⟨S_, .f32⟩
  | .hbm, ⟨54, _⟩ => ⟨S8x4096x8x1, .f32⟩
  | .hbm, ⟨55, _⟩ => ⟨S8x4096x8x1, .f32⟩
  | .hbm, ⟨56, _⟩ => ⟨S8x4096x8x1, .f32⟩
  | .hbm, ⟨57, _⟩ => ⟨S8x4096x8x128, .f32⟩
  | .hbm, ⟨58, _⟩ => ⟨S8x4096x8x128, .f32⟩
  | .hbm, ⟨59, _⟩ => ⟨S1x1x1x128, .f32⟩
  | .hbm, ⟨60, _⟩ => ⟨S8x4096x8x128, .f32⟩
  | .hbm, ⟨61, _⟩ => ⟨S8x4096x8x128, .f32⟩
  | .hbm, ⟨62, _⟩ => ⟨S_, .f32⟩
  | .hbm, ⟨63, _⟩ => ⟨S8x4096x8x128, .f32⟩
  | .hbm, ⟨64, _⟩ => ⟨S8x4096x8x128, .f32⟩
  | .hbm, ⟨65, _⟩ => ⟨S8x4096x1024, .f32⟩
  | .hbm, ⟨66, _⟩ => ⟨S8x4096x1024, .bf16⟩
  | _, _ => ⟨S8x4096x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== KernelF.lean ====
abbrev S8x4096x1024 : Shape := ⟨3, ![8, 4096, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1x5632 : Shape := ⟨2, ![1, 5632]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S4x544x128 : Shape := ⟨3, ![4, 544, 128]⟩
abbrev S512x2816 : Shape := ⟨2, ![512, 2816]⟩
abbrev S44x8x128 : Shape := ⟨3, ![44, 8, 128]⟩
abbrev S256x1024 : Shape := ⟨2, ![256, 1024]⟩
abbrev S256 : Shape := ⟨1, ![256]⟩
abbrev S256x1 : Shape := ⟨2, ![256, 1]⟩
abbrev S272x1024 : Shape := ⟨2, ![272, 1024]⟩
abbrev S16 : Shape := ⟨1, ![16]⟩
abbrev S16x1 : Shape := ⟨2, ![16, 1]⟩
abbrev S1024x256 : Shape := ⟨2, ![1024, 256]⟩
abbrev S528x256 : Shape := ⟨2, ![528, 256]⟩
abbrev S528x128 : Shape := ⟨2, ![528, 128]⟩
abbrev S1x528x128 : Shape := ⟨3, ![1, 528, 128]⟩
abbrev S1x8x128 : Shape := ⟨3, ![1, 8, 128]⟩
abbrev S8x128 : Shape := ⟨2, ![8, 128]⟩
abbrev S1x128 : Shape := ⟨2, ![1, 128]⟩
abbrev S1x512x128 : Shape := ⟨3, ![1, 512, 128]⟩
abbrev S512x128 : Shape := ⟨2, ![512, 128]⟩
abbrev S256x2816 : Shape := ⟨2, ![256, 2816]⟩

abbrev nBuf : Space → Nat
  | .hbm => 23
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S32768x1024, .f32⟩
  | .hbm, ⟨12, _⟩ => ⟨S8x4096x1024, .bf16⟩
  | .hbm, ⟨13, _⟩ => ⟨S32768x1024, .bf16⟩
  | .hbm, ⟨14, _⟩ => ⟨S1024x5632, .bf16⟩
  | .hbm, ⟨15, _⟩ => ⟨S1x5632, .f32⟩
  | .hbm, ⟨16, _⟩ => ⟨S2816x1024, .bf16⟩
  | .hbm, ⟨17, _⟩ => ⟨S1x1024, .f32⟩
  | .hbm, ⟨18, _⟩ => ⟨S1x1024, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S16x1024, .f32⟩
  | .local _ .vmem, ⟨10, _⟩ => ⟨S16x1024, .f32⟩
  | .local _ .vmem, ⟨11, _⟩ => ⟨S1024x5632, .bf16⟩
  | .local _ .vmem, ⟨12, _⟩ => ⟨S3x5632, .f32⟩
  | .local _ .vmem, ⟨13, _⟩ => ⟨S1x5632, .f32⟩
  | .local _ .vmem, ⟨14, _⟩ => ⟨S2816x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S528x1024, .bf16⟩
  | .local _ .vmem, ⟨20, _⟩ => ⟨S4x544x128, .f32⟩
  | .local _ .vmem, ⟨21, _⟩ => ⟨S512x2816, .bf16⟩
  | .local _ .vmem, ⟨22, _⟩ => ⟨S44x8x128, .f32⟩
  | .local _ .vmem, ⟨23, _⟩ => ⟨S528x1024, .bf16⟩
  | .local _ .vmem, ⟨24, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceFIdeal.lean ====
abbrev S8x4096x1024 : Shape := ⟨3, ![8, 4096, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S32768x1024 : Shape := ⟨2, ![32768, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096x1024, .f32⟩
  | .hbm, ⟨47, _⟩ => ⟨S8x4096x1024, .f32⟩
  | .hbm, ⟨48, _⟩ => ⟨S8x4096x5632, .f32⟩
  | .hbm, ⟨49, _⟩ => ⟨S_, .i32⟩
  | .hbm, ⟨50, _⟩ => ⟨S_, .f32⟩
  | .hbm, ⟨51, _⟩ => ⟨S8x4098x5632, .f32⟩
  | .hbm, ⟨52, _⟩ => ⟨S8x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S8x4096x5632, .f32⟩
  | .hbm, ⟨57, _⟩ => ⟨S8x4096x5632, .f32⟩
  | .hbm, ⟨58, _⟩ => ⟨S_, .f32⟩
  | .hbm, ⟨59, _⟩ => ⟨S8x4096x5632, .f32⟩
  | .hbm, ⟨60, _⟩ => ⟨S8x4096x5632, .f32⟩
  | .hbm, ⟨61, _⟩ => ⟨S8x4096x5632, .f32⟩
  | .hbm, ⟨62, _⟩ => ⟨S1x5632, .f32⟩
  | .hbm, ⟨63, _⟩ => ⟨S5632, .f32⟩
  | .hbm, ⟨64, _⟩ => ⟨S1x1x5632, .f32⟩
  | .hbm, ⟨65, _⟩ => ⟨S8x4096x5632, .f32⟩
  | .hbm, ⟨66, _⟩ => ⟨S8x4096x5632, .f32⟩
  | .hbm, ⟨67, _⟩ => ⟨S8x4096x5632, .f32⟩
  | .hbm, ⟨68, _⟩ => ⟨S8x4096x5632, .f32⟩
  | .hbm, ⟨69, _⟩ => ⟨S1x5632, .f32⟩
  | .hbm, ⟨70, _⟩ => ⟨S5632, .f32⟩
  | .hbm, ⟨71, _⟩ => ⟨S1x1x5632, .f32⟩
  | .hbm, ⟨72, _⟩ => ⟨S8x4096x5632, .f32⟩
  | .hbm, ⟨73, _⟩ => ⟨S8x4096x5632, .f32⟩
  | .hbm, ⟨74, _⟩ => ⟨S8x4096x5632, .f32⟩
  | .hbm, ⟨75, _⟩ => ⟨S1x1x5632, .f32⟩
  | .hbm, ⟨76, _⟩ => ⟨S8x4096x5632, .f32⟩
  | .hbm, ⟨77, _⟩ => ⟨S8x4096x5632, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x2816, .f32⟩
  | .hbm, ⟨82, _⟩ => ⟨S_, .f32⟩
  | .hbm, ⟨83, _⟩ => ⟨S8x4096x2816, .f32⟩
  | .hbm, ⟨84, _⟩ => ⟨S8x4096x2816, .f32⟩
  | .hbm, ⟨85, _⟩ => ⟨S_, .f32⟩
  | .hbm, ⟨86, _⟩ => ⟨S8x4096x2816, .f32⟩
  | .hbm, ⟨87, _⟩ => ⟨S8x4096x2816, .f32⟩
  | .hbm, ⟨88, _⟩ => ⟨S8x4096x2816, .f32⟩
  | .hbm, ⟨89, _⟩ => ⟨S8x4096x2816, .f32⟩
  | .hbm, ⟨90, _⟩ => ⟨S8x4096x1024, .f32⟩
  | .hbm, ⟨91, _⟩ => ⟨S8x4096x1024, .f32⟩
  | .hbm, ⟨92, _⟩ => ⟨S_, .f32⟩
  | .hbm, ⟨93, _⟩ => ⟨S8x4096, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S8x4096x1024, .f32⟩
  | .hbm, ⟨99, _⟩ => ⟨S8x4096x1024, .f32⟩
  | .hbm, ⟨100, _⟩ => ⟨S8x4096x1024, .f32⟩
  | .hbm, ⟨101, _⟩ => ⟨S_, .f32⟩
  | .hbm, ⟨102, _⟩ => ⟨S8x4096, .f32⟩
  | .hbm, ⟨103, _⟩ => ⟨S8x4096x1, .f32⟩
  | .hbm, ⟨104, _⟩ => ⟨S_, .f32⟩
  | .hbm, ⟨105, _⟩ => ⟨S8x4096x1, .f32⟩
  | .hbm, ⟨106, _⟩ => ⟨S8x4096x1, .f32⟩
  | .hbm, ⟨107, _⟩ => ⟨S8x4096x1024, .f32⟩
  | .hbm, ⟨108, _⟩ => ⟨S8x4096x1024, .f32⟩
  | .hbm, ⟨109, _⟩ => ⟨S_, .f32⟩
  | .hbm, ⟨110, _⟩ => ⟨S8x4096x1, .f32⟩
  | .hbm, ⟨111, _⟩ => ⟨S8x4096x1, .f32⟩
  | .hbm, ⟨112, _⟩ => ⟨S8x4096x1, .f32⟩
  | .hbm, ⟨113, _⟩ => ⟨S8x4096x1024, .f32⟩
  | .hbm, ⟨114, _⟩ => ⟨S8x4096x1024, .f32⟩
  | .hbm, ⟨115, _⟩ => ⟨S1x1x1024, .f32⟩
  | .hbm, ⟨116, _⟩ => ⟨S8x4096x1024, .f32⟩
  | .hbm, ⟨117, _⟩ => ⟨S8x4096x1024, .f32⟩
  | .hbm, ⟨118, _⟩ => ⟨S1x1x1024, .f32⟩
  | .hbm, ⟨119, _⟩ => ⟨S8x4096x1024, .f32⟩
  | .hbm, ⟨120, _⟩ => ⟨S8x4096x1024, .f32⟩
  | .hbm, ⟨121, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c : Ref sig .tc := ⟨.hbm, 49, rfl⟩
abbrev main_call0_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_7 : Ref sig .tc := ⟨.hbm, 92, rfl⟩
abbrev main_v63 : Ref sig .tc := ⟨.hbm, 93, rfl⟩
abbrev main_v64 : Ref sig .tc := ⟨.hbm, 94, rfl⟩
abbrev main_cst_8 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_v71 : Ref sig .tc := ⟨.hbm, 103, rfl⟩
abbrev main_cst_10 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_11 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]
-- ==== KernelG.lean ====
abbrev S8x4096x1024 : Shape := ⟨3, ![8, 4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S32768x1024 : Shape := ⟨2, ![32768, 1024]⟩
abbrev S1x5632 : Shape := ⟨2, ![1, 5632]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S4x544x128 : Shape := ⟨3, ![4, 544, 128]⟩
abbrev S512x2816 : Shape := ⟨2, ![512, 2816]⟩
abbrev S44x8x128 : Shape := ⟨3, ![44, 8, 128]⟩
abbrev S1024x256 : Shape := ⟨2, ![1024, 256]⟩
abbrev S528x256 : Shape := ⟨2, ![528, 256]⟩
abbrev S528x128 : Shape := ⟨2, ![528, 128]⟩
abbrev S1x528x128 : Shape := ⟨3, ![1, 528, 128]⟩
abbrev S1x8x128 : Shape := ⟨3, ![1, 8, 128]⟩
abbrev S8x128 : Shape := ⟨2, ![8, 128]⟩
abbrev S1x128 : Shape := ⟨2, ![1, 128]⟩
abbrev S1x512x128 : Shape := ⟨3, ![1, 512, 128]⟩
abbrev S512x128 : Shape := ⟨2, ![512, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S528x1024, .bf16⟩
  | .local _ .vmem, ⟨13, _⟩ => ⟨S4x544x128, .f32⟩
  | .local _ .vmem, ⟨14, _⟩ => ⟨S512x2816, .bf16⟩
  | .local _ .vmem, ⟨15, _⟩ => ⟨S44x8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceGIdeal.lean ====
abbrev S8x4096x1024 : Shape := ⟨3, ![8, 4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8x4096x1024, .f32⟩
  | .hbm, ⟨9, _⟩ => ⟨S8x4096x1024, .f32⟩
  | .hbm, ⟨10, _⟩ => ⟨S8x4096x5632, .f32⟩
  | .hbm, ⟨11, _⟩ => ⟨S_, .i32⟩
  | .hbm, ⟨12, _⟩ => ⟨S_, .f32⟩
  | .hbm, ⟨13, _⟩ => ⟨S8x4098x5632, .f32⟩
  | .hbm, ⟨14, _⟩ => ⟨S8x4096x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S8x4096x5632, .f32⟩
  | .hbm, ⟨19, _⟩ => ⟨S8x4096x5632, .f32⟩
  | .hbm, ⟨20, _⟩ => ⟨S_, .f32⟩
  | .hbm, ⟨21, _⟩ => ⟨S8x4096x5632, .f32⟩
  | .hbm, ⟨22, _⟩ => ⟨S8x4096x5632, .f32⟩
  | .hbm, ⟨23, _⟩ => ⟨S8x4096x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S8x4096x5632, .f32⟩
  | .hbm, ⟨28, _⟩ => ⟨S8x4096x5632, .f32⟩
  | .hbm, ⟨29, _⟩ => ⟨S8x4096x5632, .f32⟩
  | .hbm, ⟨30, _⟩ => ⟨S8x4096x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S8x4096x5632, .f32⟩
  | .hbm, ⟨35, _⟩ => ⟨S8x4096x5632, .f32⟩
  | .hbm, ⟨36, _⟩ => ⟨S8x4096x5632, .f32⟩
  | .hbm, ⟨37, _⟩ => ⟨S1x1x5632, .f32⟩
  | .hbm, ⟨38, _⟩ => ⟨S8x4096x5632, .f32⟩
  | .hbm, ⟨39, _⟩ => ⟨S8x4096x5632, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S8x4096x2816, .f32⟩
  | .hbm, ⟨44, _⟩ => ⟨S_, .f32⟩
  | .hbm, ⟨45, _⟩ => ⟨S8x4096x2816, .f32⟩
  | .hbm, ⟨46, _⟩ => ⟨S8x4096x2816, .f32⟩
  | .hbm, ⟨47, _⟩ => ⟨S_, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S8x4096x1024, .f32⟩
  | .hbm, ⟨53, _⟩ => ⟨S8x4096x1024, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1024, .f32⟩
  | .hbm, ⟨70, _⟩ => ⟨S8x4096x1024, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x1024, .f32⟩
  | .hbm, ⟨76, _⟩ => ⟨S8x4096x1024, .f32⟩
  | .hbm, ⟨77, _⟩ => ⟨S1x1x1024, .f32⟩
  | .hbm, ⟨78, _⟩ => ⟨S8x4096x1024, .f32⟩
  | .hbm, ⟨79, _⟩ => ⟨S8x4096x1024, .f32⟩
  | .hbm, ⟨80, _⟩ => ⟨S1x1x1024, .f32⟩
  | .hbm, ⟨81, _⟩ => ⟨S8x4096x1024, .f32⟩
  | .hbm, ⟨82, _⟩ => ⟨S8x4096x1024, .f32⟩
  | .hbm, ⟨83, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_1 : Ref sig .tc := ⟨.hbm, 54, rfl⟩
abbrev main_v35 : Ref sig .tc := ⟨.hbm, 55, rfl⟩
abbrev main_v36 : Ref sig .tc := ⟨.hbm, 56, rfl⟩
abbrev main_cst_2 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Proof.AttnReads.lean ====
/- The attention kernel's three operands at a grid point, element by element, in terms of its arguments. -/
module

public import proofs.«01_k».proof.Proof.Gen.KernelIdeal.Value
public import Idealize.ShloMosaic.Lib.Pipeline.ValueKit
public import Idealize.ShloMosaic.Lib.Pointwise
public import Idealize.ShloMosaic.Lib.StableHlo.RunRead

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

section

variable {F : FTy → Type} [FloatOps F] [Named F]

/-- The query operand, from the queries. -/
def packQ (a : FVec F S8x4096x4x4x64 .f32) : FVec F S8x4096x1024 .f32 := shapeCast S8x4096x1024 a shapeCasts_S8x4096x4x4x64_S8x4096x1024

/-- The key operand: every group's keys twice side by side. -/
def packK (a : FVec F S8x4096x4x64 .f32) : FVec F S8x4096x512 .bf16 :=
  shapeCast S8x4096x512 (truncf .bf16 (concatenate S8x4096x4x128 3 [⟨S8x4096x4x64, a⟩, ⟨S8x4096x4x64, a⟩] concatenates_S8x4096x4x64_S8x4096x4x64_S8x4096x4x128_d3) bitsLt_bf16_f32) shapeCasts_S8x4096x4x128_S8x4096x512

/-- The value operand: every group's values, ones, ones, values. -/
def packV (a : FVec F S8x4096x4x64 .f32) : FVec F S8x4096x1024 .bf16 :=
  shapeCast S8x4096x1024 (truncf .bf16 (concatenate S8x4096x4x256 3 [⟨S8x4096x4x64, a⟩, ⟨S8x4096x4x64, broadcastInDim S8x4096x4x64 ![] bcast_S_S8x4096x4x64 (constant S_ .f32 0x3F800000#32)⟩,
    ⟨S8x4096x4x64, broadcastInDim S8x4096x4x64 ![] bcast_S_S8x4096x4x64 (constant S_ .f32 0x3F800000#32)⟩, ⟨S8x4096x4x64, a⟩] concatenates_S8x4096x4x64_S8x4096x4x64_S8x4096x4x64_S8x4096x4x64_S8x4096x4x256_d3) bitsLt_bf16_f32) shapeCasts_S8x4096x4x256_S8x4096x1024

variable (m : (ℓ : Loc nD τ sig) → Buf (Elt F) ℓ) (c : Dev nD)

/-- The query array the call is given is the packed queries. -/
theorem V_q : V m c main_v5 = packQ (m ((c.tc : Thread nD τ).loc main_arg0)) := by
  show StableHlo.after hostOps0 (fun b => m (c, b)) (Proc.devRef .tc main_v5) = _
  after_reads_simp
  rfl

/-- The key array the call is given is the packed keys. -/
theorem V_k : V m c main_v6 = packK (m ((c.tc : Thread nD τ).loc main_arg1)) := by
  show StableHlo.after hostOps0 (fun b => m (c, b)) (Proc.devRef .tc main_v6) = _
  after_reads_simp
  rfl

/-- The value array the call is given is the packed values. -/
theorem V_v : V m c main_v7 = packV (m ((c.tc : Thread nD τ).loc main_arg2)) := by
  show StableHlo.after hostOps0 (fun b => m (c, b)) (Proc.devRef .tc main_v7) = _
  after_reads_simp
  rfl

/-- The contents of a reference that is the key operand. -/
theorem V_k_of (r : Ref sig .tc) (h : r = main_v6) : HEq (V m c r) (packK (m ((c.tc : Thread nD τ).loc main_arg1))) := by
  subst h
  exact heq_of_eq (V_k m c)

/-- The contents of a reference that is the value operand. -/
theorem V_v_of (r : Ref sig .tc) (h : r = main_v7) : HEq (V m c r) (packV (m ((c.tc : Thread nD τ).loc main_arg2))) := by
  subst h
  exact heq_of_eq (V_v m c)

/-- The key block of a point, as the key operand read through its window. -/
theorem iblk_k (t : Fin cfg0.N) : (iblk m c 1 t : Vec F S1x4096x128 .bf16) = (win0_1.blk t).view.read (Elt F) (packK (m ((c.tc : Thread nD τ).loc main_arg1))) :=
  congrArg (fun X => ((cfg0.win 1).blk t).view.read (Elt F) X) (eq_of_heq (V_k_of m c (Pipeline.arrRef spec0 1) rfl))

/-- The value block of a point, as the value operand read through its window. -/
theorem iblk_v (t : Fin cfg0.N) : (iblk m c 2 t : Vec F S1x4096x256 .bf16) = (win0_2.blk t).view.read (Elt F) (packV (m ((c.tc : Thread nD τ).loc main_arg2))) :=
  congrArg (fun X => ((cfg0.win 2).blk t).view.read (Elt F) X) (eq_of_heq (V_v_of m c (Pipeline.arrRef spec0 2) rfl))

/-- A block of the key array at a position is the array at the block's place for it. -/
theorem read_blk_k (t : Fin cfg0.N) (X : Vec F S8x4096x512 .bf16) (x : S1x4096x128.Idx) : ((win0_1.blk t).view.read (Elt F) X : Vec F S1x4096x128 .bf16) x = X ((win0_1.blk t).view.emb x) := rfl

/-- A block of the value array at a position is the array at the block's place for it. -/
theorem read_blk_v (t : Fin cfg0.N) (X : Vec F S8x4096x1024 .bf16) (x : S1x4096x256.Idx) : ((win0_2.blk t).view.read (Elt F) X : Vec F S1x4096x256 .bf16) x = X ((win0_2.blk t).view.emb x) := rfl

end

/-- The packed queries at a lane, as an element of the argument. -/
theorem packQ_at (a : FVec Ideal S8x4096x4x4x64 .f32) (b : Fin 8) (s : Fin 4096) (l : Fin 1024) :
    packQ a (ix3 b s l) = a (ix5 b s ⟨l.val / 256, by omega⟩ ⟨l.val / 64 % 4, by omega⟩ ⟨l.val % 64, by omega⟩) := by
  pointwise [packQ]

/-- The packed keys at a lane, as an element of the argument. -/
theorem packK_at (a : FVec Ideal S8x4096x4x64 .f32) (b : Fin 8) (s : Fin 4096) (l : Fin 512) :
    packK a (ix3 b s l) = a (ix4 b s ⟨l.val / 128, by omega⟩ ⟨l.val % 64, by omega⟩) := by
  pointwise [packK]
  split
  · refine congrArg (fun z => a (ix4 b s _ z)) (Fin.ext ?_); show l.val % 128 = l.val % 64; omega
  · refine congrArg (fun z => a (ix4 b s _ z)) (Fin.ext ?_); show l.val % 128 - 64 = l.val % 64; omega

/-- The packed values at a lane: an element of the argument or a one. -/
theorem packV_at (a : FVec Ideal S8x4096x4x64 .f32) (b : Fin 8) (s : Fin 4096) (l : Fin 1024) :
    packV a (ix3 b s l) = if l.val % 256 < 64 ∨ 192 ≤ l.val % 256 then a (ix4 b s ⟨l.val / 256, by omega⟩ ⟨l.val % 64, by omega⟩) else (1 : EReal) := by
  pointwise [packV]
  by_cases h1 : l.val % 256 < 64
  · refine (dif_pos h1).trans ((congrArg a ?_).trans (if_pos (Or.inl h1)).symm)
    have e : l.val % 256 = l.val % 64 := by omega
    simp only [e]
  · refine (dif_neg h1).trans ?_
    by_cases h2 : l.val % 256 - 64 < 64
    · exact (dif_pos h2).trans (if_neg (by omega)).symm
    · refine (dif_neg h2).trans ?_
      by_cases h3 : l.val % 256 - 64 - 64 < 64
      · exact (dif_pos h3).trans (if_neg (by omega)).symm
      · refine (dif_neg h3).trans ((congrArg a ?_).trans (if_pos (by omega)).symm)
        have e : l.val % 256 - 64 - 64 - 64 = l.val % 64 := by omega
        simp only [e]

/-- The query operand at a group's lanes. -/
theorem packQ_blk (a : FVec Ideal S8x4096x4x4x64 .f32) (b : Fin 8) (s : Fin 4096) (g : Fin 4) (l : Fin 256) :
    packQ a (ix3 b s ⟨g.val * 256 + l.val, by omega⟩) = a (ix5 b s g ⟨l.val / 64, by omega⟩ ⟨l.val % 64, by omega⟩) := by
  refine (packQ_at a b s _).trans ?_
  have e1 : (g.val * 256 + l.val) / 256 = g.val := by omega
  have e2 : (g.val * 256 + l.val) / 64 % 4 = l.val / 64 := by omega
  have e3 : (g.val * 256 + l.val) % 64 = l.val % 64 := by omega
  simp only [e1, e2, e3]

/-- The key operand at a group's lanes. -/
theorem packK_blk (a : FVec Ideal S8x4096x4x64 .f32) (b : Fin 8) (s : Fin 4096) (g : Fin 4) (l : Fin 128) :
    packK a (ix3 b s ⟨g.val * 128 + l.val, by omega⟩) = a (ix4 b s g ⟨l.val % 64, by omega⟩) := by
  refine (packK_at a b s _).trans ?_
  have e1 : (g.val * 128 + l.val) / 128 = g.val := by omega
  have e3 : (g.val * 128 + l.val) % 64 = l.val % 64 := by omega
  simp only [e1, e3]

/-- The value operand at a group's lanes. -/
theorem packV_blk (a : FVec Ideal S8x4096x4x64 .f32) (b : Fin 8) (s : Fin 4096) (g : Fin 4) (l : Fin 256) :
    packV a (ix3 b s ⟨g.val * 256 + l.val, by omega⟩) = if l.val < 64 ∨ 192 ≤ l.val then a (ix4 b s g ⟨l.val % 64, by omega⟩) else (1 : EReal) := by
  refine (packV_at a b s _).trans ?_
  have e0 : (g.val * 256 + l.val) % 256 = l.val := by omega
  have e1 : (g.val * 256 + l.val) / 256 = g.val := by omega
  have e3 : (g.val * 256 + l.val) % 64 = l.val % 64 := by omega
  simp only [e0, e1, e3]

/-- The blocks of the four windows at a grid point. -/
theorem idxA : ∀ t : Fin cfg0.N, win0_0.index t = ![t.val / 16, t.val % 4, t.val / 4 % 4] ∧ win0_1.index t = ![t.val / 16, 0, t.val / 4 % 4]
    ∧ win0_2.index t = ![t.val / 16, 0, t.val / 4 % 4] ∧ win0_3.index t = ![t.val / 16, t.val % 4, t.val / 4 % 4] :=
  (by decide +kernel : ∀ t : Fin grid0.N, _)

/-- There are 128 grid points. -/
theorem lt_N (t : Fin cfg0.N) : t.val < 128 := t.isLt

variable (m : (ℓ : Loc nD τ sig) → Buf (Elt Ideal) ℓ) (c : Dev nD) (t : Fin cfg0.N)

/-- A point's query block at a row and lane, as an element of the argument. -/
theorem read_q (p : Fin 1024) (l : Fin 256) : (iblk m c 0 t : Vec Ideal S1x1024x256 .f32) (ix3 0 p l) = m ((c.tc : Thread nD τ).loc main_arg0) (ix5 ⟨t.val / 16, by have := lt_N t; omega⟩ ⟨t.val % 4 * 1024 + p.val, by omega⟩ ⟨t.val / 4 % 4, by omega⟩ ⟨l.val / 64, by omega⟩ ⟨l.val % 64, by omega⟩) := by
  have ht := lt_N t
  have e : (win0_0.blk t).view.emb (ix3 0 p l) = ix3 (⟨t.val / 16, by omega⟩ : Fin 8) (⟨t.val % 4 * 1024 + p.val, by omega⟩ : Fin 4096) (⟨t.val / 4 % 4 * 256 + l.val, by omega⟩ : Fin 1024) := by
    blk_ext [idxA t]
  blk_simp [iblk]
  rw [V_q, e]
  exact packQ_blk _ _ _ ⟨t.val / 4 % 4, by omega⟩ _

/-- A point's key block at a row and lane, as an element of the argument. -/
theorem read_k (j : Fin 4096) (l : Fin 128) : (iblk m c 1 t : Vec Ideal S1x4096x128 .bf16) (ix3 0 j l) = m ((c.tc : Thread nD τ).loc main_arg1) (ix4 ⟨t.val / 16, by have := lt_N t; omega⟩ j ⟨t.val / 4 % 4, by omega⟩ ⟨l.val % 64, by omega⟩) := by
  have ht := lt_N t
  have e : (win0_1.blk t).view.emb (ix3 0 j l) = ix3 (⟨t.val / 16, by omega⟩ : Fin 8) j (⟨t.val / 4 % 4 * 128 + l.val, by omega⟩ : Fin 512) := by
    blk_ext [idxA t]
  exact (congrFun (iblk_k m c t) (ix3 0 j l)).trans ((read_blk_k t _ _).trans ((congrArg (packK (F := Ideal) (m ((c.tc : Thread nD τ).loc main_arg1))) e).trans
    (packK_blk _ ⟨t.val / 16, by omega⟩ j ⟨t.val / 4 % 4, by omega⟩ l)))

/-- A point's value block at a row and lane: an element of the argument or a one. -/
theorem read_v (j : Fin 4096) (l : Fin 256) : (iblk m c 2 t : Vec Ideal S1x4096x256 .bf16) (ix3 0 j l) = (if l.val < 64 ∨ 192 ≤ l.val then m ((c.tc : Thread nD τ).loc main_arg2) (ix4 ⟨t.val / 16, by have := lt_N t; omega⟩ j ⟨t.val / 4 % 4, by omega⟩ ⟨l.val % 64, by omega⟩) else (1 : EReal)) := by
  have ht := lt_N t
  have e : (win0_2.blk t).view.emb (ix3 0 j l) = ix3 (⟨t.val / 16, by omega⟩ : Fin 8) j (⟨t.val / 4 % 4 * 256 + l.val, by omega⟩ : Fin 1024) := by
    blk_ext [idxA t]
  exact (congrFun (iblk_v m c t) (ix3 0 j l)).trans ((read_blk_v t _ _).trans ((congrArg (packV (F := Ideal) (m ((c.tc : Thread nD τ).loc main_arg2))) e).trans
    (packV_blk _ ⟨t.val / 16, by omega⟩ j ⟨t.val / 4 % 4, by omega⟩ l)))

end Cert.KernelIdeal.Value

end
-- ==== Proof.Loads.lean ====
/- What a load of the two-slot score scratch reads. The scratch is written a whole slot (a 256 × 4096 score matrix) at a
   time; a load of a slot, or of a tile of a slot through the slice that drops the slot axis, reads the matrix last
   written to that slot, whether or not the other slot was written since. -/
module

public import Idealize.ShloMosaic.Lib.Pipeline.ValueKit
public import Idealize.ShloMosaic.PureOps

@[expose] public section

noncomputable section

namespace Cert.Loads

open Idealize.ShloMosaic

/-- The scratch: two slots of 256 × 4096. -/
abbrev SS : Shape := ⟨3, ![2, 256, 4096]⟩
/-- A slot. -/
abbrev S1 : Shape := ⟨3, ![1, 256, 4096]⟩
/-- A slot without its leading axis. -/
abbrev S0 : Shape := ⟨2, ![256, 4096]⟩

/-- Slot `c`, as a rectangle of the scratch. -/
abbrev slot (c : ℕ) (h : ∀ a, (![c, 0, 0] : Fin 3 → ℕ) a + S1.size a ≤ SS.size a) : Rect SS := Rect.unit (s := SS) ![c, 0, 0] S1.size h

variable {sig : RefSig} {κ : Kind} {sp : Space} {e : EltTy} {Val : EltTy → Type} [∀ e, Nonempty (Val e)]
variable (v : View sig κ sp SS e)

/-- No index of one slot lies in the other. -/
theorem slot_disjoint {c c' : ℕ} (hc : c ≠ c') (h h') (x : (slot c h).shape.Idx) : (slot c h).emb x ∉ (slot c' h').set := by
  intro hm
  obtain ⟨y, hy⟩ := LoadRect.exists_idx_of_mem _ hm
  have e := congrArg (fun z => (z 0).val) hy
  have hx := (x 0).isLt
  have hj := (y 0).isLt
  change (x 0).val < 1 at hx
  change (y 0).val < 1 at hj
  change c' + 1 * (y 0).val = c + 1 * (x 0).val at e
  omega

/-- A load of the slot written last reads the matrix written. -/
theorem load_same (c : ℕ) (h h') (w : S1.Idx → Val e) (L : List (View.Piece Val SS e)) :
    v.readCov (⟨slot c h, w⟩ :: L) (slot c h').toLoadRect = w :=
  View.readCov_cons_toLoadRect v _ _ _

/-- A load of a slot, the other having been written since, reads the matrix last written to it. -/
theorem load_other (c c' : ℕ) (hc : c ≠ c') (h h' h'') (w w' : S1.Idx → Val e) (L : List (View.Piece Val SS e)) :
    v.readCov (⟨slot c' h', w'⟩ :: ⟨slot c h, w⟩ :: L) (slot c h'').toLoadRect = w := by
  rw [View.readCov_eq_canon']
  funext j
  exact (View.canon_cons_of_not_mem ⟨slot c' h', w'⟩ _ (slot_disjoint hc h h' j)).trans (View.canon_cons_emb (slot c h) w L j)

/-- A load of a part of the slot written last reads that part of the matrix written. -/
theorem within_same (c : ℕ) (h h') (w : S1.Idx → Val e) (L : List (View.Piece Val SS e)) (lr : LoadRect S1) (h0) :
    v.readCov (⟨slot c h, w⟩ :: L) ((slot c h').withinL lr h0) = fun j => w (lr.idx j) := by
  rw [View.readCov_eq_canon']
  funext j
  refine (congrArg (View.canon _) (Rect.idx_withinL (slot c h') lr h0 j)).trans ?_
  exact View.canon_cons_emb (slot c h) w L (lr.idx j)

/-- A load of a part of a slot, the other having been written since, reads that part of the matrix last written to it. -/
theorem within_other (c c' : ℕ) (hc : c ≠ c') (h h' h'') (w w' : S1.Idx → Val e) (L : List (View.Piece Val SS e)) (lr : LoadRect S1) (h0) :
    v.readCov (⟨slot c' h', w'⟩ :: ⟨slot c h, w⟩ :: L) ((slot c h'').withinL lr h0) = fun j => w (lr.idx j) := by
  rw [View.readCov_eq_canon']
  funext j
  refine (congrArg (View.canon _) (Rect.idx_withinL (slot c h'') lr h0 j)).trans ?_
  exact (View.canon_cons_of_not_mem ⟨slot c' h', w'⟩ _ (slot_disjoint hc h h' (lr.idx j))).trans
    (View.canon_cons_emb (slot c h) w L (lr.idx j))

/-- A tile of a slot, the slot axis dropped, is a tile of the score matrix without that axis. -/
theorem along (lr : LoadRect S0) (h0 hs hR) (w : S1.Idx → Val e) (hc : S1.ShapeCasts S0) :
    LoadRect.valAlong (lr := lr) (LR := lr.consLift S1.size h0 hs) hR (fun j => w ((lr.consLift S1.size h0 hs).idx j))
      = fun x => shapeCast S0 w hc (lr.idx x) := by
  funext x
  exact congrArg w (LoadRect.liftsTo_consLift lr S1.size h0 hs x).symm

/-- A load of a tile, through the slice that drops the slot axis, of the slot written last. -/
theorem tile_same (c : ℕ) (h h') (w : S1.Idx → Val e) (L : List (View.Piece Val SS e)) (lr : LoadRect S0) (h0 hs hi hR) (hc : S1.ShapeCasts S0) :
    LoadRect.valAlong (lr := lr) hR (v.readCov (⟨slot c h, w⟩ :: L) ((slot c h').withinL (lr.consLift S1.size h0 hs) hi))
      = fun x => shapeCast S0 w hc (lr.idx x) := by
  rw [within_same]; exact along lr h0 hs hR w hc

/-- The same, the other slot having been written since. -/
theorem tile_other (c c' : ℕ) (hcc : c ≠ c') (h h' h'') (w w' : S1.Idx → Val e) (L : List (View.Piece Val SS e)) (lr : LoadRect S0) (h0 hs hi hR)
    (hc : S1.ShapeCasts S0) :
    LoadRect.valAlong (lr := lr) hR (v.readCov (⟨slot c' h', w'⟩ :: ⟨slot c h, w⟩ :: L) ((slot c h'').withinL (lr.consLift S1.size h0 hs) hi))
      = fun x => shapeCast S0 w hc (lr.idx x) := by
  rw [within_other v c c' hcc]; exact along lr h0 hs hR w hc

/-- Two lists of writes agree when their last payloads agree and the earlier writes do. -/
theorem cons_eq {s : Shape} {r : Rect s} {w w' : r.shape.Idx → Val e} {L L' : List (View.Piece Val s e)} (hw : w = w') (hL : L = L') :
    (⟨r, w⟩ :: L : List (View.Piece Val s e)) = ⟨r, w'⟩ :: L' := by rw [hw, hL]

end Cert.Loads

end
-- ==== Proof.AttnPieces.lean ====
/- What one grid point of the grouped-query attention kernel stores. The kernel keeps sixteen score streams per point in
   two scratch slots; here each of its eight stores is written as a function of the point's query, key and value blocks
   alone: two streams (an even and an odd head), each the sixteen-tile accumulation over one score matrix, normalised by
   the rotated reciprocal and merged by lanes. -/
module

public import proofs.«01_k».proof.Proof.Gen.KernelIdeal.Value
public import proofs.«01_k».proof.Proof.Loads
public import Idealize.ShloMosaic.Lib.Pipeline.ValueKit
public import Idealize.ShloMosaic.Lib.WholeRead

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] [Named F]

/-- The score matrix of a stream: its masked queries against all the keys. -/
def scoreA (q : FVec F S256x128 .bf16) (k : Vec F S1x4096x128 .bf16) : Vec F S1x256x4096 .f32 :=
  shapeCast S1x256x4096
    (matmul dot_S256x128_S4096x128_S256x4096_1_1_0_0_n_n none q (shapeCast S4096x128 k shapeCasts_S1x4096x128_S4096x128)
      (constant S256x4096 .f32 0x00000000#32)) shapeCasts_S256x4096_S1x256x4096

/-- Key tile `kt` of a score matrix. -/
def tileA (s : Vec F S1x256x4096 .f32) (kt : Fin 16) : Vec F S256x256 .f32 := fun x =>
  shapeCast S256x4096 s shapeCasts_S1x256x4096_S256x4096
    ((Rect.unit (s := S256x4096) ![0, 256 * kt.val] S256x256.size (by intro a; have := kt.isLt; fin_cases a <;> simp; omega)).toLoadRect.idx x)

/-- The row maxima of a score matrix, spread over a tile. -/
def maxA (s : Vec F S1x256x4096 .f32) : FVec F S256x256 .f32 :=
  broadcastTo S256x256 (shapeCast S256x1 (shapeCast S256x1
    (multiReduction .maximumf [1] S256 (shapeCast S256x4096 s shapeCasts_S1x256x4096_S256x4096) 0xFF800000#32 reduces_S256x4096_S256 (.inl rfl) rfl)
    shapeCasts_S256_S256x1) shapeCasts_S256x1_S256x1) broadcasts_S256x1_S256x256

/-- One key tile's contribution: the weights of the tile against its rows of the value block. -/
def stepA (m : FVec F S256x256 .f32) (t : Vec F S256x256 .f32) (u : Vec F S1x256x128 .bf16) : FVec F S256x128 .f32 :=
  matmul dot_S256x256_S256x128_S256x128_1_0_0_1_n_n none (truncf .bf16 (exp2 (subf t m)) bitsLt_bf16_f32)
    (shapeCast S256x128 u shapeCasts_S1x256x128_S256x128) (constant S256x128 .f32 0x00000000#32)

/-- Rows of key tile `kt` and lanes of half `half` of the value block. -/
def vtileA (v : Vec F S1x4096x256 .bf16) (half : Fin 2) (kt : Fin 16) : Vec F S1x256x128 .bf16 := fun x =>
  v ((Rect.unit (s := S1x4096x256) ![0, 256 * kt.val, 128 * half.val] S1x256x128.size
    (by intro a; have := kt.isLt; have := half.isLt; fin_cases a <;> simp <;> omega)).toLoadRect.idx x)

/-- Rows of group `r` and lanes of half `hp` of the query block. -/
def qtileA (q : Vec F S1x1024x256 .f32) (r : Fin 4) (hp : Fin 2) : Vec F S1x256x128 .f32 := fun x =>
  q ((Rect.unit (s := S1x1024x256) ![0, 256 * r.val, 128 * hp.val] S1x256x128.size
    (by intro a; have := r.isLt; have := hp.isLt; fin_cases a <;> simp <;> omega)).toLoadRect.idx x)

/-- A stream: the weights of the sixteen key tiles against the value block, added up in order. -/
def streamA (s : Vec F S1x256x4096 .f32) (u : Fin 16 → Vec F S1x256x128 .bf16) : FVec F S256x128 .f32 :=
  addf (addf (addf (addf (addf (addf (addf (addf (addf (addf (addf (addf (addf (addf (addf (stepA (maxA s) (tileA s 0) (u 0)) (stepA (maxA s) (tileA s 1) (u 1))) (stepA (maxA s) (tileA s 2) (u 2))) (stepA (maxA s) (tileA s 3) (u 3))) (stepA (maxA s) (tileA s 4) (u 4))) (stepA (maxA s) (tileA s 5) (u 5))) (stepA (maxA s) (tileA s 6) (u 6))) (stepA (maxA s) (tileA s 7) (u 7))) (stepA (maxA s) (tileA s 8) (u 8))) (stepA (maxA s) (tileA s 9) (u 9))) (stepA (maxA s) (tileA s 10) (u 10))) (stepA (maxA s) (tileA s 11) (u 11))) (stepA (maxA s) (tileA s 12) (u 12))) (stepA (maxA s) (tileA s 13) (u 13))) (stepA (maxA s) (tileA s 14) (u 14))) (stepA (maxA s) (tileA s 15) (u 15))

/-- A stream divided by the weight sums its other 64 lanes hold. -/
def normA (raw : FVec F S256x128 .f32) : FVec F S256x128 .f32 :=
  mulf raw (dynamicRotate 1 64#32 none (divf (broadcast S256x128 (Scalar.ofBits .f32 0x3F800000#32)) raw) rotates_S256x128_d1)

/-- Two normalised streams merged by lanes: a store of the kernel. -/
def mergeA (e o : FVec F S256x128 .f32) : FVec F S1x256x128 .bf16 :=
  shapeCast S1x256x128 (truncf .bf16 (select k0_pay2 (normA e) (normA o)) bitsLt_bf16_f32) shapeCasts_S256x128_S1x256x128

/-- The store of row group `r`, lane half `hp`, from the point's three blocks. -/
def pieceA (q : Vec F S1x1024x256 .f32) (k : Vec F S1x4096x128 .bf16) (v : Vec F S1x4096x256 .bf16) (r : Fin 4) (hp : Fin 2) : FVec F S1x256x128 .bf16 :=
  mergeA (streamA (scoreA (k0_pay3 (qtileA q r hp)) k) (vtileA v 0)) (streamA (scoreA (k0_pay4 (qtileA q r hp)) k) (vtileA v 1))

/-- A store of the kernel as written, its loads still to be read, is the piece of the point's blocks when each load is what the side conditions say. -/
theorem piece_of {q : Vec F S1x1024x256 .f32} {k : Vec F S1x4096x128 .bf16} {v : Vec F S1x4096x256 .bf16} {r : Fin 4} {hp : Fin 2}
    {sE sO mE mO : Vec F S1x256x4096 .f32} {a0 b0 a1 b1 a2 b2 a3 b3 a4 b4 a5 b5 a6 b6 a7 b7 a8 b8 a9 b9 a10 b10 a11 b11 a12 b12 a13 b13 a14 b14 a15 b15 : Vec F S256x256 .f32} {u0 w0 u1 w1 u2 w2 u3 w3 u4 w4 u5 w5 u6 w6 u7 w7 u8 w8 u9 w9 u10 w10 u11 w11 u12 w12 u13 w13 u14 w14 u15 w15 : Vec F S1x256x128 .bf16}
    (hmE : mE = sE) (hmO : mO = sO) (hsE : sE = scoreA (k0_pay3 (qtileA q r hp)) k) (hsO : sO = scoreA (k0_pay4 (qtileA q r hp)) k)
    (ha0 : a0 = tileA sE 0) (hb0 : b0 = tileA sO 0) (hu0 : u0 = vtileA v 0 0) (hw0 : w0 = vtileA v 1 0) (ha1 : a1 = tileA sE 1) (hb1 : b1 = tileA sO 1) (hu1 : u1 = vtileA v 0 1) (hw1 : w1 = vtileA v 1 1) (ha2 : a2 = tileA sE 2) (hb2 : b2 = tileA sO 2) (hu2 : u2 = vtileA v 0 2) (hw2 : w2 = vtileA v 1 2) (ha3 : a3 = tileA sE 3) (hb3 : b3 = tileA sO 3) (hu3 : u3 = vtileA v 0 3) (hw3 : w3 = vtileA v 1 3) (ha4 : a4 = tileA sE 4) (hb4 : b4 = tileA sO 4) (hu4 : u4 = vtileA v 0 4) (hw4 : w4 = vtileA v 1 4) (ha5 : a5 = tileA sE 5) (hb5 : b5 = tileA sO 5) (hu5 : u5 = vtileA v 0 5) (hw5 : w5 = vtileA v 1 5) (ha6 : a6 = tileA sE 6) (hb6 : b6 = tileA sO 6) (hu6 : u6 = vtileA v 0 6) (hw6 : w6 = vtileA v 1 6) (ha7 : a7 = tileA sE 7) (hb7 : b7 = tileA sO 7) (hu7 : u7 = vtileA v 0 7) (hw7 : w7 = vtileA v 1 7) (ha8 : a8 = tileA sE 8) (hb8 : b8 = tileA sO 8) (hu8 : u8 = vtileA v 0 8) (hw8 : w8 = vtileA v 1 8) (ha9 : a9 = tileA sE 9) (hb9 : b9 = tileA sO 9) (hu9 : u9 = vtileA v 0 9) (hw9 : w9 = vtileA v 1 9) (ha10 : a10 = tileA sE 10) (hb10 : b10 = tileA sO 10) (hu10 : u10 = vtileA v 0 10) (hw10 : w10 = vtileA v 1 10) (ha11 : a11 = tileA sE 11) (hb11 : b11 = tileA sO 11) (hu11 : u11 = vtileA v 0 11) (hw11 : w11 = vtileA v 1 11) (ha12 : a12 = tileA sE 12) (hb12 : b12 = tileA sO 12) (hu12 : u12 = vtileA v 0 12) (hw12 : w12 = vtileA v 1 12) (ha13 : a13 = tileA sE 13) (hb13 : b13 = tileA sO 13) (hu13 : u13 = vtileA v 0 13) (hw13 : w13 = vtileA v 1 13) (ha14 : a14 = tileA sE 14) (hb14 : b14 = tileA sO 14) (hu14 : u14 = vtileA v 0 14) (hw14 : w14 = vtileA v 1 14) (ha15 : a15 = tileA sE 15) (hb15 : b15 = tileA sO 15) (hu15 : u15 = vtileA v 0 15) (hw15 : w15 = vtileA v 1 15) :
    mergeA (addf (addf (addf (addf (addf (addf (addf (addf (addf (addf (addf (addf (addf (addf (addf (stepA (maxA mE) a0 u0) (stepA (maxA mE) a1 u1)) (stepA (maxA mE) a2 u2)) (stepA (maxA mE) a3 u3)) (stepA (maxA mE) a4 u4)) (stepA (maxA mE) a5 u5)) (stepA (maxA mE) a6 u6)) (stepA (maxA mE) a7 u7)) (stepA (maxA mE) a8 u8)) (stepA (maxA mE) a9 u9)) (stepA (maxA mE) a10 u10)) (stepA (maxA mE) a11 u11)) (stepA (maxA mE) a12 u12)) (stepA (maxA mE) a13 u13)) (stepA (maxA mE) a14 u14)) (stepA (maxA mE) a15 u15))
      (addf (addf (addf (addf (addf (addf (addf (addf (addf (addf (addf (addf (addf (addf (addf (stepA (maxA mO) b0 w0) (stepA (maxA mO) b1 w1)) (stepA (maxA mO) b2 w2)) (stepA (maxA mO) b3 w3)) (stepA (maxA mO) b4 w4)) (stepA (maxA mO) b5 w5)) (stepA (maxA mO) b6 w6)) (stepA (maxA mO) b7 w7)) (stepA (maxA mO) b8 w8)) (stepA (maxA mO) b9 w9)) (stepA (maxA mO) b10 w10)) (stepA (maxA mO) b11 w11)) (stepA (maxA mO) b12 w12)) (stepA (maxA mO) b13 w13)) (stepA (maxA mO) b14 w14)) (stepA (maxA mO) b15 w15)) = pieceA q k v r hp := by
  subst ha0 hb0 hu0 hw0 ha1 hb1 hu1 hw1 ha2 hb2 hu2 hw2 ha3 hb3 hu3 hw3 ha4 hb4 hu4 hw4 ha5 hb5 hu5 hw5 ha6 hb6 hu6 hw6 ha7 hb7 hu7 hw7 ha8 hb8 hu8 hw8 ha9 hb9 hu9 hw9 ha10 hb10 hu10 hw10 ha11 hb11 hu11 hw11 ha12 hb12 hu12 hw12 ha13 hb13 hu13 hw13 ha14 hb14 hu14 hw14 ha15 hb15 hu15 hw15
  rw [hmE, hmO, hsE, hsO]
  rfl

/-- Score matrices of equal queries and keys are equal: the first head of a pair. -/
theorem score_even {q q' : Vec F S1x256x128 .f32} {k k' : Vec F S1x4096x128 .bf16} (hq : q' = q) (hk : k' = k) :
    scoreA (k0_pay3 q') k' = scoreA (k0_pay3 q) k := by rw [hq, hk]

/-- Score matrices of equal queries and keys are equal: the second head of a pair. -/
theorem score_odd {q q' : Vec F S1x256x128 .f32} {k k' : Vec F S1x4096x128 .bf16} (hq : q' = q) (hk : k' = k) :
    scoreA (k0_pay4 q') k' = scoreA (k0_pay4 q) k := by rw [hq, hk]

/-- What a point stores: its eight pieces, each a function of the point's blocks. -/
theorem out_eq (c : Dev nD) (i : grid0.Coords) (arg3 : Memref sig .tc .vmem S1x1024x256 .f32) (harg3 : arg3.IsWhole) (arg4 : Memref sig .tc .vmem S1x4096x128 .bf16) (harg4 : arg4.IsWhole)
    (arg5 : Memref sig .tc .vmem S1x4096x256 .bf16) (harg5 : arg5.IsWhole) (arg6 : Memref sig .tc .vmem S1x1024x256 .bf16) (harg6 : arg6.IsWhole)
    (arg7 : Memref sig .tc .vmem S2x256x4096 .f32) (harg7 : arg7.IsWhole)
    (x0 : Vec F S1x1024x256 .f32) (x1 : Vec F S1x4096x128 .bf16) (x2 : Vec F S1x4096x256 .bf16) :
    out0_A_3 (F := F) c i arg3 harg3 arg4 harg4 arg5 harg5 arg6 harg6 arg7 harg7 x0 x1 x2 = View.canon (Val := Elt F) (e := .bf16) [
      ⟨Rect.unit (s := S1x1024x256) ![0, 768, 128] S1x256x128.size inb_S1x1024x256_S1x256x128_0_768_128, pieceA x0 x1 x2 3 1⟩,
      ⟨Rect.unit (s := S1x1024x256) ![0, 768, 0] S1x256x128.size inb_S1x1024x256_S1x256x128_0_768_0, pieceA x0 x1 x2 3 0⟩,
      ⟨Rect.unit (s := S1x1024x256) ![0, 512, 128] S1x256x128.size inb_S1x1024x256_S1x256x128_0_512_128, pieceA x0 x1 x2 2 1⟩,
      ⟨Rect.unit (s := S1x1024x256) ![0, 512, 0] S1x256x128.size inb_S1x1024x256_S1x256x128_0_512_0, pieceA x0 x1 x2 2 0⟩,
      ⟨Rect.unit (s := S1x1024x256) ![0, 256, 128] S1x256x128.size inb_S1x1024x256_S1x256x128_0_256_128, pieceA x0 x1 x2 1 1⟩,
      ⟨Rect.unit (s := S1x1024x256) ![0, 256, 0] S1x256x128.size inb_S1x1024x256_S1x256x128_0_256_0, pieceA x0 x1 x2 1 0⟩,
      ⟨Rect.unit (s := S1x1024x256) ![0, 0, 128] S1x256x128.size inb_S1x1024x256_S1x256x128_0_0_128, pieceA x0 x1 x2 0 1⟩,
      ⟨Rect.unit (s := S1x1024x256) ![0, 0, 0] S1x256x128.size inb_S1x1024x256_S1x256x128_0_0_0, pieceA x0 x1 x2 0 0⟩] := by
  have hv : ∀ (half : Fin 2) (kt : Fin 16) (h), View.readAt (Elt F) arg5.view
      (Rect.unit (s := S1x4096x256) ![0, 256 * kt.val, 128 * half.val] S1x256x128.size h).toLoadRect (harg5.unread x2) = vtileA x2 half kt :=
    fun half kt h => funext fun x => Memref.IsWhole.readAt_unread harg5 x2 _ x
  have hq : ∀ (r : Fin 4) (hp : Fin 2) (h), View.readAt (Elt F) arg3.view
      (Rect.unit (s := S1x1024x256) ![0, 256 * r.val, 128 * hp.val] S1x256x128.size h).toLoadRect (harg3.unread x0) = qtileA x0 r hp :=
    fun r hp h => funext fun x => Memref.IsWhole.readAt_unread harg3 x0 _ x
  have hk : ∀ h, View.readAt (Elt F) arg4.view
      (Rect.unit (s := S1x4096x128) ![0, 0, 0] S1x4096x128.size h).toLoadRect (harg4.unread x1) = x1 :=
    fun h => funext fun x => (Memref.IsWhole.readAt_unread harg4 x1 _ x).trans (congrArg x1 (funext fun a => Fin.ext (by
      fin_cases a <;> simp [LoadRect.idx_apply])))
  unfold out0_A_3
  rw [View.read_writes_junk_eq_canon]
  unfold kernelRun0_A
  dsimp only
  refine congrArg (View.canon (Val := Elt F) (e := .bf16)) (Loads.cons_eq (Val := Elt F) (e := .bf16) ?_ (Loads.cons_eq (Val := Elt F) (e := .bf16) ?_ (Loads.cons_eq (Val := Elt F) (e := .bf16) ?_ (Loads.cons_eq (Val := Elt F) (e := .bf16) ?_ (Loads.cons_eq (Val := Elt F) (e := .bf16) ?_ (Loads.cons_eq (Val := Elt F) (e := .bf16) ?_ (Loads.cons_eq (Val := Elt F) (e := .bf16) ?_ (Loads.cons_eq (Val := Elt F) (e := .bf16) ?_ rfl))))))))
  · exact (piece_of (r := 3) (hp := 1) (Loads.load_other _ 0 1 (by decide) _ _ _ _ _ _) (Loads.load_same _ 1 _ _ _ _) (score_even (hq 3 1 _) (hk _)) (score_odd (hq 3 1 _) (hk _))
      (Loads.tile_other _ 0 1 (by decide) _ _ _ _ _ _ _ _ _ _ _ _) (Loads.tile_same _ 1 _ _ _ _ _ _ _ _ _ _) (hv 0 0 _) (hv 1 0 _) (Loads.tile_other _ 0 1 (by decide) _ _ _ _ _ _ _ _ _ _ _ _) (Loads.tile_same _ 1 _ _ _ _ _ _ _ _ _ _) (hv 0 1 _) (hv 1 1 _) (Loads.tile_other _ 0 1 (by decide) _ _ _ _ _ _ _ _ _ _ _ _) (Loads.tile_same _ 1 _ _ _ _ _ _ _ _ _ _) (hv 0 2 _) (hv 1 2 _) (Loads.tile_other _ 0 1 (by decide) _ _ _ _ _ _ _ _ _ _ _ _) (Loads.tile_same _ 1 _ _ _ _ _ _ _ _ _ _) (hv 0 3 _) (hv 1 3 _) (Loads.tile_other _ 0 1 (by decide) _ _ _ _ _ _ _ _ _ _ _ _) (Loads.tile_same _ 1 _ _ _ _ _ _ _ _ _ _) (hv 0 4 _) (hv 1 4 _) (Loads.tile_other _ 0 1 (by decide) _ _ _ _ _ _ _ _ _ _ _ _) (Loads.tile_same _ 1 _ _ _ _ _ _ _ _ _ _) (hv 0 5 _) (hv 1 5 _) (Loads.tile_other _ 0 1 (by decide) _ _ _ _ _ _ _ _ _ _ _ _) (Loads.tile_same _ 1 _ _ _ _ _ _ _ _ _ _) (hv 0 6 _) (hv 1 6 _) (Loads.tile_other _ 0 1 (by decide) _ _ _ _ _ _ _ _ _ _ _ _) (Loads.tile_same _ 1 _ _ _ _ _ _ _ _ _ _) (hv 0 7 _) (hv 1 7 _) (Loads.tile_other _ 0 1 (by decide) _ _ _ _ _ _ _ _ _ _ _ _) (Loads.tile_same _ 1 _ _ _ _ _ _ _ _ _ _) (hv 0 8 _) (hv 1 8 _) (Loads.tile_other _ 0 1 (by decide) _ _ _ _ _ _ _ _ _ _ _ _) (Loads.tile_same _ 1 _ _ _ _ _ _ _ _ _ _) (hv 0 9 _) (hv 1 9 _) (Loads.tile_other _ 0 1 (by decide) _ _ _ _ _ _ _ _ _ _ _ _) (Loads.tile_same _ 1 _ _ _ _ _ _ _ _ _ _) (hv 0 10 _) (hv 1 10 _) (Loads.tile_other _ 0 1 (by decide) _ _ _ _ _ _ _ _ _ _ _ _) (Loads.tile_same _ 1 _ _ _ _ _ _ _ _ _ _) (hv 0 11 _) (hv 1 11 _) (Loads.tile_other _ 0 1 (by decide) _ _ _ _ _ _ _ _ _ _ _ _) (Loads.tile_same _ 1 _ _ _ _ _ _ _ _ _ _) (hv 0 12 _) (hv 1 12 _) (Loads.tile_other _ 0 1 (by decide) _ _ _ _ _ _ _ _ _ _ _ _) (Loads.tile_same _ 1 _ _ _ _ _ _ _ _ _ _) (hv 0 13 _) (hv 1 13 _) (Loads.tile_other _ 0 1 (by decide) _ _ _ _ _ _ _ _ _ _ _ _) (Loads.tile_same _ 1 _ _ _ _ _ _ _ _ _ _) (hv 0 14 _) (hv 1 14 _) (Loads.tile_other _ 0 1 (by decide) _ _ _ _ _ _ _ _ _ _ _ _) (Loads.tile_same _ 1 _ _ _ _ _ _ _ _ _ _) (hv 0 15 _) (hv 1 15 _))
  · exact (piece_of (r := 3) (hp := 0) (Loads.load_other _ 0 1 (by decide) _ _ _ _ _ _) (Loads.load_other _ 1 0 (by decide) _ _ _ _ _ _) (score_even (hq 3 0 _) (hk _)) (score_odd (hq 3 0 _) (hk _))
      (Loads.tile_other _ 0 1 (by decide) _ _ _ _ _ _ _ _ _ _ _ _) (Loads.tile_other _ 1 0 (by decide) _ _ _ _ _ _ _ _ _ _ _ _) (hv 0 0 _) (hv 1 0 _) (Loads.tile_other _ 0 1 (by decide) _ _ _ _ _ _ _ _ _ _ _ _) (Loads.tile_other _ 1 0 (by decide) _ _ _ _ _ _ _ _ _ _ _ _) (hv 0 1 _) (hv 1 1 _) (Loads.tile_other _ 0 1 (by decide) _ _ _ _ _ _ _ _ _ _ _ _) (Loads.tile_other _ 1 0 (by decide) _ _ _ _ _ _ _ _ _ _ _ _) (hv 0 2 _) (hv 1 2 _) (Loads.tile_other _ 0 1 (by decide) _ _ _ _ _ _ _ _ _ _ _ _) (Loads.tile_other _ 1 0 (by decide) _ _ _ _ _ _ _ _ _ _ _ _) (hv 0 3 _) (hv 1 3 _) (Loads.tile_other _ 0 1 (by decide) _ _ _ _ _ _ _ _ _ _ _ _) (Loads.tile_other _ 1 0 (by decide) _ _ _ _ _ _ _ _ _ _ _ _) (hv 0 4 _) (hv 1 4 _) (Loads.tile_other _ 0 1 (by decide) _ _ _ _ _ _ _ _ _ _ _ _) (Loads.tile_other _ 1 0 (by decide) _ _ _ _ _ _ _ _ _ _ _ _) (hv 0 5 _) (hv 1 5 _) (Loads.tile_other _ 0 1 (by decide) _ _ _ _ _ _ _ _ _ _ _ _) (Loads.tile_other _ 1 0 (by decide) _ _ _ _ _ _ _ _ _ _ _ _) (hv 0 6 _) (hv 1 6 _) (Loads.tile_other _ 0 1 (by decide) _ _ _ _ _ _ _ _ _ _ _ _) (Loads.tile_other _ 1 0 (by decide) _ _ _ _ _ _ _ _ _ _ _ _) (hv 0 7 _) (hv 1 7 _) (Loads.tile_other _ 0 1 (by decide) _ _ _ _ _ _ _ _ _ _ _ _) (Loads.tile_other _ 1 0 (by decide) _ _ _ _ _ _ _ _ _ _ _ _) (hv 0 8 _) (hv 1 8 _) (Loads.tile_other _ 0 1 (by decide) _ _ _ _ _ _ _ _ _ _ _ _) (Loads.tile_other _ 1 0 (by decide) _ _ _ _ _ _ _ _ _ _ _ _) (hv 0 9 _) (hv 1 9 _) (Loads.tile_other _ 0 1 (by decide) _ _ _ _ _ _ _ _ _ _ _ _) (Loads.tile_other _ 1 0 (by decide) _ _ _ _ _ _ _ _ _ _ _ _) (hv 0 10 _) (hv 1 10 _) (Loads.tile_other _ 0 1 (by decide) _ _ _ _ _ _ _ _ _ _ _ _) (Loads.tile_other _ 1 0 (by decide) _ _ _ _ _ _ _ _ _ _ _ _) (hv 0 11 _) (hv 1 11 _) (Loads.tile_other _ 0 1 (by decide) _ _ _ _ _ _ _ _ _ _ _ _) (Loads.tile_other _ 1 0 (by decide) _ _ _ _ _ _ _ _ _ _ _ _) (hv 0 12 _) (hv 1 12 _) (Loads.tile_other _ 0 1 (by decide) _ _ _ _ _ _ _ _ _ _ _ _) (Loads.tile_other _ 1 0 (by decide) _ _ _ _ _ _ _ _ _ _ _ _) (hv 0 13 _) (hv 1 13 _) (Loads.tile_other _ 0 1 (by decide) _ _ _ _ _ _ _ _ _ _ _ _) (Loads.tile_other _ 1 0 (by decide) _ _ _ _ _ _ _ _ _ _ _ _) (hv 0 14 _) (hv 1 14 _) (Loads.tile_other _ 0 1 (by decide) _ _ _ _ _ _ _ _ _ _ _ _) (Loads.tile_other _ 1 0 (by decide) _ _ _ _ _ _ _ _ _ _ _ _) (hv 0 15 _) (hv 1 15 _))
  · exact (piece_of (r := 2) (hp := 1) (Loads.load_other _ 0 1 (by decide) _ _ _ _ _ _) (Loads.load_other _ 1 0 (by decide) _ _ _ _ _ _) (score_even (hq 2 1 _) (hk _)) (score_odd (hq 2 1 _) (hk _))
      (Loads.tile_other _ 0 1 (by decide) _ _ _ _ _ _ _ _ _ _ _ _) (Loads.tile_other _ 1 0 (by decide) _ _ _ _ _ _ _ _ _ _ _ _) (hv 0 0 _) (hv 1 0 _) (Loads.tile_other _ 0 1 (by decide) _ _ _ _ _ _ _ _ _ _ _ _) (Loads.tile_other _ 1 0 (by decide) _ _ _ _ _ _ _ _ _ _ _ _) (hv 0 1 _) (hv 1 1 _) (Loads.tile_other _ 0 1 (by decide) _ _ _ _ _ _ _ _ _ _ _ _) (Loads.tile_other _ 1 0 (by decide) _ _ _ _ _ _ _ _ _ _ _ _) (hv 0 2 _) (hv 1 2 _) (Loads.tile_other _ 0 1 (by decide) _ _ _ _ _ _ _ _ _ _ _ _) (Loads.tile_other _ 1 0 (by decide) _ _ _ _ _ _ _ _ _ _ _ _) (hv 0 3 _) (hv 1 3 _) (Loads.tile_other _ 0 1 (by decide) _ _ _ _ _ _ _ _ _ _ _ _) (Loads.tile_other _ 1 0 (by decide) _ _ _ _ _ _ _ _ _ _ _ _) (hv 0 4 _) (hv 1 4 _) (Loads.tile_other _ 0 1 (by decide) _ _ _ _ _ _ _ _ _ _ _ _) (Loads.tile_other _ 1 0 (by decide) _ _ _ _ _ _ _ _ _ _ _ _) (hv 0 5 _) (hv 1 5 _) (Loads.tile_other _ 0 1 (by decide) _ _ _ _ _ _ _ _ _ _ _ _) (Loads.tile_other _ 1 0 (by decide) _ _ _ _ _ _ _ _ _ _ _ _) (hv 0 6 _) (hv 1 6 _) (Loads.tile_other _ 0 1 (by decide) _ _ _ _ _ _ _ _ _ _ _ _) (Loads.tile_other _ 1 0 (by decide) _ _ _ _ _ _ _ _ _ _ _ _) (hv 0 7 _) (hv 1 7 _) (Loads.tile_other _ 0 1 (by decide) _ _ _ _ _ _ _ _ _ _ _ _) (Loads.tile_other _ 1 0 (by decide) _ _ _ _ _ _ _ _ _ _ _ _) (hv 0 8 _) (hv 1 8 _) (Loads.tile_other _ 0 1 (by decide) _ _ _ _ _ _ _ _ _ _ _ _) (Loads.tile_other _ 1 0 (by decide) _ _ _ _ _ _ _ _ _ _ _ _) (hv 0 9 _) (hv 1 9 _) (Loads.tile_other _ 0 1 (by decide) _ _ _ _ _ _ _ _ _ _ _ _) (Loads.tile_other _ 1 0 (by decide) _ _ _ _ _ _ _ _ _ _ _ _) (hv 0 10 _) (hv 1 10 _) (Loads.tile_other _ 0 1 (by decide) _ _ _ _ _ _ _ _ _ _ _ _) (Loads.tile_other _ 1 0 (by decide) _ _ _ _ _ _ _ _ _ _ _ _) (hv 0 11 _) (hv 1 11 _) (Loads.tile_other _ 0 1 (by decide) _ _ _ _ _ _ _ _ _ _ _ _) (Loads.tile_other _ 1 0 (by decide) _ _ _ _ _ _ _ _ _ _ _ _) (hv 0 12 _) (hv 1 12 _) (Loads.tile_other _ 0 1 (by decide) _ _ _ _ _ _ _ _ _ _ _ _) (Loads.tile_other _ 1 0 (by decide) _ _ _ _ _ _ _ _ _ _ _ _) (hv 0 13 _) (hv 1 13 _) (Loads.tile_other _ 0 1 (by decide) _ _ _ _ _ _ _ _ _ _ _ _) (Loads.tile_other _ 1 0 (by decide) _ _ _ _ _ _ _ _ _ _ _ _) (hv 0 14 _) (hv 1 14 _) (Loads.tile_other _ 0 1 (by decide) _ _ _ _ _ _ _ _ _ _ _ _) (Loads.tile_other _ 1 0 (by decide) _ _ _ _ _ _ _ _ _ _ _ _) (hv 0 15 _) (hv 1 15 _))
  · exact (piece_of (r := 2) (hp := 0) (Loads.load_other _ 0 1 (by decide) _ _ _ _ _ _) (Loads.load_other _ 1 0 (by decide) _ _ _ _ _ _) (score_even (hq 2 0 _) (hk _)) (score_odd (hq 2 0 _) (hk _))
      (Loads.tile_other _ 0 1 (by decide) _ _ _ _ _ _ _ _ _ _ _ _) (Loads.tile_other _ 1 0 (by decide) _ _ _ _ _ _ _ _ _ _ _ _) (hv 0 0 _) (hv 1 0 _) (Loads.tile_other _ 0 1 (by decide) _ _ _ _ _ _ _ _ _ _ _ _) (Loads.tile_other _ 1 0 (by decide) _ _ _ _ _ _ _ _ _ _ _ _) (hv 0 1 _) (hv 1 1 _) (Loads.tile_other _ 0 1 (by decide) _ _ _ _ _ _ _ _ _ _ _ _) (Loads.tile_other _ 1 0 (by decide) _ _ _ _ _ _ _ _ _ _ _ _) (hv 0 2 _) (hv 1 2 _) (Loads.tile_other _ 0 1 (by decide) _ _ _ _ _ _ _ _ _ _ _ _) (Loads.tile_other _ 1 0 (by decide) _ _ _ _ _ _ _ _ _ _ _ _) (hv 0 3 _) (hv 1 3 _) (Loads.tile_other _ 0 1 (by decide) _ _ _ _ _ _ _ _ _ _ _ _) (Loads.tile_other _ 1 0 (by decide) _ _ _ _ _ _ _ _ _ _ _ _) (hv 0 4 _) (hv 1 4 _) (Loads.tile_other _ 0 1 (by decide) _ _ _ _ _ _ _ _ _ _ _ _) (Loads.tile_other _ 1 0 (by decide) _ _ _ _ _ _ _ _ _ _ _ _) (hv 0 5 _) (hv 1 5 _) (Loads.tile_other _ 0 1 (by decide) _ _ _ _ _ _ _ _ _ _ _ _) (Loads.tile_other _ 1 0 (by decide) _ _ _ _ _ _ _ _ _ _ _ _) (hv 0 6 _) (hv 1 6 _) (Loads.tile_other _ 0 1 (by decide) _ _ _ _ _ _ _ _ _ _ _ _) (Loads.tile_other _ 1 0 (by decide) _ _ _ _ _ _ _ _ _ _ _ _) (hv 0 7 _) (hv 1 7 _) (Loads.tile_other _ 0 1 (by decide) _ _ _ _ _ _ _ _ _ _ _ _) (Loads.tile_other _ 1 0 (by decide) _ _ _ _ _ _ _ _ _ _ _ _) (hv 0 8 _) (hv 1 8 _) (Loads.tile_other _ 0 1 (by decide) _ _ _ _ _ _ _ _ _ _ _ _) (Loads.tile_other _ 1 0 (by decide) _ _ _ _ _ _ _ _ _ _ _ _) (hv 0 9 _) (hv 1 9 _) (Loads.tile_other _ 0 1 (by decide) _ _ _ _ _ _ _ _ _ _ _ _) (Loads.tile_other _ 1 0 (by decide) _ _ _ _ _ _ _ _ _ _ _ _) (hv 0 10 _) (hv 1 10 _) (Loads.tile_other _ 0 1 (by decide) _ _ _ _ _ _ _ _ _ _ _ _) (Loads.tile_other _ 1 0 (by decide) _ _ _ _ _ _ _ _ _ _ _ _) (hv 0 11 _) (hv 1 11 _) (Loads.tile_other _ 0 1 (by decide) _ _ _ _ _ _ _ _ _ _ _ _) (Loads.tile_other _ 1 0 (by decide) _ _ _ _ _ _ _ _ _ _ _ _) (hv 0 12 _) (hv 1 12 _) (Loads.tile_other _ 0 1 (by decide) _ _ _ _ _ _ _ _ _ _ _ _) (Loads.tile_other _ 1 0 (by decide) _ _ _ _ _ _ _ _ _ _ _ _) (hv 0 13 _) (hv 1 13 _) (Loads.tile_other _ 0 1 (by decide) _ _ _ _ _ _ _ _ _ _ _ _) (Loads.tile_other _ 1 0 (by decide) _ _ _ _ _ _ _ _ _ _ _ _) (hv 0 14 _) (hv 1 14 _) (Loads.tile_other _ 0 1 (by decide) _ _ _ _ _ _ _ _ _ _ _ _) (Loads.tile_other _ 1 0 (by decide) _ _ _ _ _ _ _ _ _ _ _ _) (hv 0 15 _) (hv 1 15 _))
  · exact (piece_of (r := 1) (hp := 1) (Loads.load_other _ 0 1 (by decide) _ _ _ _ _ _) (Loads.load_other _ 1 0 (by decide) _ _ _ _ _ _) (score_even (hq 1 1 _) (hk _)) (score_odd (hq 1 1 _) (hk _))
      (Loads.tile_other _ 0 1 (by decide) _ _ _ _ _ _ _ _ _ _ _ _) (Loads.tile_other _ 1 0 (by decide) _ _ _ _ _ _ _ _ _ _ _ _) (hv 0 0 _) (hv 1 0 _) (Loads.tile_other _ 0 1 (by decide) _ _ _ _ _ _ _ _ _ _ _ _) (Loads.tile_other _ 1 0 (by decide) _ _ _ _ _ _ _ _ _ _ _ _) (hv 0 1 _) (hv 1 1 _) (Loads.tile_other _ 0 1 (by decide) _ _ _ _ _ _ _ _ _ _ _ _) (Loads.tile_other _ 1 0 (by decide) _ _ _ _ _ _ _ _ _ _ _ _) (hv 0 2 _) (hv 1 2 _) (Loads.tile_other _ 0 1 (by decide) _ _ _ _ _ _ _ _ _ _ _ _) (Loads.tile_other _ 1 0 (by decide) _ _ _ _ _ _ _ _ _ _ _ _) (hv 0 3 _) (hv 1 3 _) (Loads.tile_other _ 0 1 (by decide) _ _ _ _ _ _ _ _ _ _ _ _) (Loads.tile_other _ 1 0 (by decide) _ _ _ _ _ _ _ _ _ _ _ _) (hv 0 4 _) (hv 1 4 _) (Loads.tile_other _ 0 1 (by decide) _ _ _ _ _ _ _ _ _ _ _ _) (Loads.tile_other _ 1 0 (by decide) _ _ _ _ _ _ _ _ _ _ _ _) (hv 0 5 _) (hv 1 5 _) (Loads.tile_other _ 0 1 (by decide) _ _ _ _ _ _ _ _ _ _ _ _) (Loads.tile_other _ 1 0 (by decide) _ _ _ _ _ _ _ _ _ _ _ _) (hv 0 6 _) (hv 1 6 _) (Loads.tile_other _ 0 1 (by decide) _ _ _ _ _ _ _ _ _ _ _ _) (Loads.tile_other _ 1 0 (by decide) _ _ _ _ _ _ _ _ _ _ _ _) (hv 0 7 _) (hv 1 7 _) (Loads.tile_other _ 0 1 (by decide) _ _ _ _ _ _ _ _ _ _ _ _) (Loads.tile_other _ 1 0 (by decide) _ _ _ _ _ _ _ _ _ _ _ _) (hv 0 8 _) (hv 1 8 _) (Loads.tile_other _ 0 1 (by decide) _ _ _ _ _ _ _ _ _ _ _ _) (Loads.tile_other _ 1 0 (by decide) _ _ _ _ _ _ _ _ _ _ _ _) (hv 0 9 _) (hv 1 9 _) (Loads.tile_other _ 0 1 (by decide) _ _ _ _ _ _ _ _ _ _ _ _) (Loads.tile_other _ 1 0 (by decide) _ _ _ _ _ _ _ _ _ _ _ _) (hv 0 10 _) (hv 1 10 _) (Loads.tile_other _ 0 1 (by decide) _ _ _ _ _ _ _ _ _ _ _ _) (Loads.tile_other _ 1 0 (by decide) _ _ _ _ _ _ _ _ _ _ _ _) (hv 0 11 _) (hv 1 11 _) (Loads.tile_other _ 0 1 (by decide) _ _ _ _ _ _ _ _ _ _ _ _) (Loads.tile_other _ 1 0 (by decide) _ _ _ _ _ _ _ _ _ _ _ _) (hv 0 12 _) (hv 1 12 _) (Loads.tile_other _ 0 1 (by decide) _ _ _ _ _ _ _ _ _ _ _ _) (Loads.tile_other _ 1 0 (by decide) _ _ _ _ _ _ _ _ _ _ _ _) (hv 0 13 _) (hv 1 13 _) (Loads.tile_other _ 0 1 (by decide) _ _ _ _ _ _ _ _ _ _ _ _) (Loads.tile_other _ 1 0 (by decide) _ _ _ _ _ _ _ _ _ _ _ _) (hv 0 14 _) (hv 1 14 _) (Loads.tile_other _ 0 1 (by decide) _ _ _ _ _ _ _ _ _ _ _ _) (Loads.tile_other _ 1 0 (by decide) _ _ _ _ _ _ _ _ _ _ _ _) (hv 0 15 _) (hv 1 15 _))
  · exact (piece_of (r := 1) (hp := 0) (Loads.load_other _ 0 1 (by decide) _ _ _ _ _ _) (Loads.load_other _ 1 0 (by decide) _ _ _ _ _ _) (score_even (hq 1 0 _) (hk _)) (score_odd (hq 1 0 _) (hk _))
      (Loads.tile_other _ 0 1 (by decide) _ _ _ _ _ _ _ _ _ _ _ _) (Loads.tile_other _ 1 0 (by decide) _ _ _ _ _ _ _ _ _ _ _ _) (hv 0 0 _) (hv 1 0 _) (Loads.tile_other _ 0 1 (by decide) _ _ _ _ _ _ _ _ _ _ _ _) (Loads.tile_other _ 1 0 (by decide) _ _ _ _ _ _ _ _ _ _ _ _) (hv 0 1 _) (hv 1 1 _) (Loads.tile_other _ 0 1 (by decide) _ _ _ _ _ _ _ _ _ _ _ _) (Loads.tile_other _ 1 0 (by decide) _ _ _ _ _ _ _ _ _ _ _ _) (hv 0 2 _) (hv 1 2 _) (Loads.tile_other _ 0 1 (by decide) _ _ _ _ _ _ _ _ _ _ _ _) (Loads.tile_other _ 1 0 (by decide) _ _ _ _ _ _ _ _ _ _ _ _) (hv 0 3 _) (hv 1 3 _) (Loads.tile_other _ 0 1 (by decide) _ _ _ _ _ _ _ _ _ _ _ _) (Loads.tile_other _ 1 0 (by decide) _ _ _ _ _ _ _ _ _ _ _ _) (hv 0 4 _) (hv 1 4 _) (Loads.tile_other _ 0 1 (by decide) _ _ _ _ _ _ _ _ _ _ _ _) (Loads.tile_other _ 1 0 (by decide) _ _ _ _ _ _ _ _ _ _ _ _) (hv 0 5 _) (hv 1 5 _) (Loads.tile_other _ 0 1 (by decide) _ _ _ _ _ _ _ _ _ _ _ _) (Loads.tile_other _ 1 0 (by decide) _ _ _ _ _ _ _ _ _ _ _ _) (hv 0 6 _) (hv 1 6 _) (Loads.tile_other _ 0 1 (by decide) _ _ _ _ _ _ _ _ _ _ _ _) (Loads.tile_other _ 1 0 (by decide) _ _ _ _ _ _ _ _ _ _ _ _) (hv 0 7 _) (hv 1 7 _) (Loads.tile_other _ 0 1 (by decide) _ _ _ _ _ _ _ _ _ _ _ _) (Loads.tile_other _ 1 0 (by decide) _ _ _ _ _ _ _ _ _ _ _ _) (hv 0 8 _) (hv 1 8 _) (Loads.tile_other _ 0 1 (by decide) _ _ _ _ _ _ _ _ _ _ _ _) (Loads.tile_other _ 1 0 (by decide) _ _ _ _ _ _ _ _ _ _ _ _) (hv 0 9 _) (hv 1 9 _) (Loads.tile_other _ 0 1 (by decide) _ _ _ _ _ _ _ _ _ _ _ _) (Loads.tile_other _ 1 0 (by decide) _ _ _ _ _ _ _ _ _ _ _ _) (hv 0 10 _) (hv 1 10 _) (Loads.tile_other _ 0 1 (by decide) _ _ _ _ _ _ _ _ _ _ _ _) (Loads.tile_other _ 1 0 (by decide) _ _ _ _ _ _ _ _ _ _ _ _) (hv 0 11 _) (hv 1 11 _) (Loads.tile_other _ 0 1 (by decide) _ _ _ _ _ _ _ _ _ _ _ _) (Loads.tile_other _ 1 0 (by decide) _ _ _ _ _ _ _ _ _ _ _ _) (hv 0 12 _) (hv 1 12 _) (Loads.tile_other _ 0 1 (by decide) _ _ _ _ _ _ _ _ _ _ _ _) (Loads.tile_other _ 1 0 (by decide) _ _ _ _ _ _ _ _ _ _ _ _) (hv 0 13 _) (hv 1 13 _) (Loads.tile_other _ 0 1 (by decide) _ _ _ _ _ _ _ _ _ _ _ _) (Loads.tile_other _ 1 0 (by decide) _ _ _ _ _ _ _ _ _ _ _ _) (hv 0 14 _) (hv 1 14 _) (Loads.tile_other _ 0 1 (by decide) _ _ _ _ _ _ _ _ _ _ _ _) (Loads.tile_other _ 1 0 (by decide) _ _ _ _ _ _ _ _ _ _ _ _) (hv 0 15 _) (hv 1 15 _))
  · exact (piece_of (r := 0) (hp := 1) (Loads.load_other _ 0 1 (by decide) _ _ _ _ _ _) (Loads.load_other _ 1 0 (by decide) _ _ _ _ _ _) (score_even (hq 0 1 _) (hk _)) (score_odd (hq 0 1 _) (hk _))
      (Loads.tile_other _ 0 1 (by decide) _ _ _ _ _ _ _ _ _ _ _ _) (Loads.tile_other _ 1 0 (by decide) _ _ _ _ _ _ _ _ _ _ _ _) (hv 0 0 _) (hv 1 0 _) (Loads.tile_other _ 0 1 (by decide) _ _ _ _ _ _ _ _ _ _ _ _) (Loads.tile_other _ 1 0 (by decide) _ _ _ _ _ _ _ _ _ _ _ _) (hv 0 1 _) (hv 1 1 _) (Loads.tile_other _ 0 1 (by decide) _ _ _ _ _ _ _ _ _ _ _ _) (Loads.tile_other _ 1 0 (by decide) _ _ _ _ _ _ _ _ _ _ _ _) (hv 0 2 _) (hv 1 2 _) (Loads.tile_other _ 0 1 (by decide) _ _ _ _ _ _ _ _ _ _ _ _) (Loads.tile_other _ 1 0 (by decide) _ _ _ _ _ _ _ _ _ _ _ _) (hv 0 3 _) (hv 1 3 _) (Loads.tile_other _ 0 1 (by decide) _ _ _ _ _ _ _ _ _ _ _ _) (Loads.tile_other _ 1 0 (by decide) _ _ _ _ _ _ _ _ _ _ _ _) (hv 0 4 _) (hv 1 4 _) (Loads.tile_other _ 0 1 (by decide) _ _ _ _ _ _ _ _ _ _ _ _) (Loads.tile_other _ 1 0 (by decide) _ _ _ _ _ _ _ _ _ _ _ _) (hv 0 5 _) (hv 1 5 _) (Loads.tile_other _ 0 1 (by decide) _ _ _ _ _ _ _ _ _ _ _ _) (Loads.tile_other _ 1 0 (by decide) _ _ _ _ _ _ _ _ _ _ _ _) (hv 0 6 _) (hv 1 6 _) (Loads.tile_other _ 0 1 (by decide) _ _ _ _ _ _ _ _ _ _ _ _) (Loads.tile_other _ 1 0 (by decide) _ _ _ _ _ _ _ _ _ _ _ _) (hv 0 7 _) (hv 1 7 _) (Loads.tile_other _ 0 1 (by decide) _ _ _ _ _ _ _ _ _ _ _ _) (Loads.tile_other _ 1 0 (by decide) _ _ _ _ _ _ _ _ _ _ _ _) (hv 0 8 _) (hv 1 8 _) (Loads.tile_other _ 0 1 (by decide) _ _ _ _ _ _ _ _ _ _ _ _) (Loads.tile_other _ 1 0 (by decide) _ _ _ _ _ _ _ _ _ _ _ _) (hv 0 9 _) (hv 1 9 _) (Loads.tile_other _ 0 1 (by decide) _ _ _ _ _ _ _ _ _ _ _ _) (Loads.tile_other _ 1 0 (by decide) _ _ _ _ _ _ _ _ _ _ _ _) (hv 0 10 _) (hv 1 10 _) (Loads.tile_other _ 0 1 (by decide) _ _ _ _ _ _ _ _ _ _ _ _) (Loads.tile_other _ 1 0 (by decide) _ _ _ _ _ _ _ _ _ _ _ _) (hv 0 11 _) (hv 1 11 _) (Loads.tile_other _ 0 1 (by decide) _ _ _ _ _ _ _ _ _ _ _ _) (Loads.tile_other _ 1 0 (by decide) _ _ _ _ _ _ _ _ _ _ _ _) (hv 0 12 _) (hv 1 12 _) (Loads.tile_other _ 0 1 (by decide) _ _ _ _ _ _ _ _ _ _ _ _) (Loads.tile_other _ 1 0 (by decide) _ _ _ _ _ _ _ _ _ _ _ _) (hv 0 13 _) (hv 1 13 _) (Loads.tile_other _ 0 1 (by decide) _ _ _ _ _ _ _ _ _ _ _ _) (Loads.tile_other _ 1 0 (by decide) _ _ _ _ _ _ _ _ _ _ _ _) (hv 0 14 _) (hv 1 14 _) (Loads.tile_other _ 0 1 (by decide) _ _ _ _ _ _ _ _ _ _ _ _) (Loads.tile_other _ 1 0 (by decide) _ _ _ _ _ _ _ _ _ _ _ _) (hv 0 15 _) (hv 1 15 _))
  · exact (piece_of (r := 0) (hp := 0) (Loads.load_other _ 0 1 (by decide) _ _ _ _ _ _) (Loads.load_other _ 1 0 (by decide) _ _ _ _ _ _) (score_even (hq 0 0 _) (hk _)) (score_odd (hq 0 0 _) (hk _))
      (Loads.tile_other _ 0 1 (by decide) _ _ _ _ _ _ _ _ _ _ _ _) (Loads.tile_other _ 1 0 (by decide) _ _ _ _ _ _ _ _ _ _ _ _) (hv 0 0 _) (hv 1 0 _) (Loads.tile_other _ 0 1 (by decide) _ _ _ _ _ _ _ _ _ _ _ _) (Loads.tile_other _ 1 0 (by decide) _ _ _ _ _ _ _ _ _ _ _ _) (hv 0 1 _) (hv 1 1 _) (Loads.tile_other _ 0 1 (by decide) _ _ _ _ _ _ _ _ _ _ _ _) (Loads.tile_other _ 1 0 (by decide) _ _ _ _ _ _ _ _ _ _ _ _) (hv 0 2 _) (hv 1 2 _) (Loads.tile_other _ 0 1 (by decide) _ _ _ _ _ _ _ _ _ _ _ _) (Loads.tile_other _ 1 0 (by decide) _ _ _ _ _ _ _ _ _ _ _ _) (hv 0 3 _) (hv 1 3 _) (Loads.tile_other _ 0 1 (by decide) _ _ _ _ _ _ _ _ _ _ _ _) (Loads.tile_other _ 1 0 (by decide) _ _ _ _ _ _ _ _ _ _ _ _) (hv 0 4 _) (hv 1 4 _) (Loads.tile_other _ 0 1 (by decide) _ _ _ _ _ _ _ _ _ _ _ _) (Loads.tile_other _ 1 0 (by decide) _ _ _ _ _ _ _ _ _ _ _ _) (hv 0 5 _) (hv 1 5 _) (Loads.tile_other _ 0 1 (by decide) _ _ _ _ _ _ _ _ _ _ _ _) (Loads.tile_other _ 1 0 (by decide) _ _ _ _ _ _ _ _ _ _ _ _) (hv 0 6 _) (hv 1 6 _) (Loads.tile_other _ 0 1 (by decide) _ _ _ _ _ _ _ _ _ _ _ _) (Loads.tile_other _ 1 0 (by decide) _ _ _ _ _ _ _ _ _ _ _ _) (hv 0 7 _) (hv 1 7 _) (Loads.tile_other _ 0 1 (by decide) _ _ _ _ _ _ _ _ _ _ _ _) (Loads.tile_other _ 1 0 (by decide) _ _ _ _ _ _ _ _ _ _ _ _) (hv 0 8 _) (hv 1 8 _) (Loads.tile_other _ 0 1 (by decide) _ _ _ _ _ _ _ _ _ _ _ _) (Loads.tile_other _ 1 0 (by decide) _ _ _ _ _ _ _ _ _ _ _ _) (hv 0 9 _) (hv 1 9 _) (Loads.tile_other _ 0 1 (by decide) _ _ _ _ _ _ _ _ _ _ _ _) (Loads.tile_other _ 1 0 (by decide) _ _ _ _ _ _ _ _ _ _ _ _) (hv 0 10 _) (hv 1 10 _) (Loads.tile_other _ 0 1 (by decide) _ _ _ _ _ _ _ _ _ _ _ _) (Loads.tile_other _ 1 0 (by decide) _ _ _ _ _ _ _ _ _ _ _ _) (hv 0 11 _) (hv 1 11 _) (Loads.tile_other _ 0 1 (by decide) _ _ _ _ _ _ _ _ _ _ _ _) (Loads.tile_other _ 1 0 (by decide) _ _ _ _ _ _ _ _ _ _ _ _) (hv 0 12 _) (hv 1 12 _) (Loads.tile_other _ 0 1 (by decide) _ _ _ _ _ _ _ _ _ _ _ _) (Loads.tile_other _ 1 0 (by decide) _ _ _ _ _ _ _ _ _ _ _ _) (hv 0 13 _) (hv 1 13 _) (Loads.tile_other _ 0 1 (by decide) _ _ _ _ _ _ _ _ _ _ _ _) (Loads.tile_other _ 1 0 (by decide) _ _ _ _ _ _ _ _ _ _ _ _) (hv 0 14 _) (hv 1 14 _) (Loads.tile_other _ 0 1 (by decide) _ _ _ _ _ _ _ _ _ _ _ _) (Loads.tile_other _ 1 0 (by decide) _ _ _ _ _ _ _ _ _ _ _ _) (hv 0 15 _) (hv 1 15 _))

end Cert.KernelIdeal.Value

end
-- ==== Proof.Softmax.lean ====
/- The arithmetic of one row of attention over the extended reals: a softmax taken in base two, its division
   left to the end, is the softmax of the scaled scores. -/
module

public import Idealize.ShloMosaic.PureOps.Ideal
public import Mathlib.Analysis.SpecialFunctions.Pow.Real

@[expose] public section

noncomputable section

namespace Cert.Softmax

open Idealize.ShloMosaic

variable {ι : Type} [Fintype ι]

/-- A finite sum of reals, read in the extended reals, is the real sum. -/
theorem coe_sum {κ : Type} (s : Finset κ) (f : κ → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- Multiplication by a finite nonnegative number distributes over a finite sum, whatever the terms are. -/
theorem sum_mul_coe {κ : Type} (s : Finset κ) (f : κ → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- The greatest of finitely many reals, folded from minus infinity, is attained. -/
theorem fold_max_coe [Nonempty ι] (x : ι → ℝ) :
    ∃ i, (∀ j, x j ≤ x i) ∧ Finset.univ.fold max (⊥ : EReal) (fun j => ((x j : ℝ) : EReal)) = ((x i : ℝ) : EReal) := by
  obtain ⟨i, hi⟩ := Finite.exists_max x
  refine ⟨i, hi, le_antisymm ?_ ?_⟩
  · rw [Finset.fold_max_le]
    exact ⟨bot_le, fun j _ => by exact_mod_cast hi j⟩
  · rw [Finset.le_fold_max]
    exact Or.inr ⟨i, Finset.mem_univ i, le_refl _⟩

/-- Scaling by a positive number keeps the place of the maximum, so the fold of the scaled scores is the scaled fold. -/
theorem fold_max_scale [Nonempty ι] (x : ι → ℝ) {c d : ℝ} (hc : 0 < c) (hd : 0 < d) :
    ∃ M : ℝ, Finset.univ.fold max (⊥ : EReal) (fun j => ((x j * c : ℝ) : EReal)) = ((M * c : ℝ) : EReal)
      ∧ Finset.univ.fold max (⊥ : EReal) (fun j => ((x j * d : ℝ) : EReal)) = ((M * d : ℝ) : EReal) := by
  obtain ⟨i, hi, e⟩ := fold_max_coe fun j => x j * c
  obtain ⟨k, hk, e'⟩ := fold_max_coe fun j => x j * d
  refine ⟨x i, e, e'.trans ?_⟩
  have h1 : x k ≤ x i := le_of_mul_le_mul_right (hi k) hc
  have h2 : x i ≤ x k := le_of_mul_le_mul_right (hk i) hd
  rw [le_antisymm h1 h2]

/-- Two to the power `a / (8 · ln 2)` is the exponential of `a / 8`. -/
theorem rpow_scale (a : ℝ) : Real.rpow 2 (a * (8⁻¹ * (Real.log 2)⁻¹)) = Real.exp (a * 8⁻¹) := by
  have h2 : Real.log 2 ≠ 0 := (Real.log_pos (by norm_num)).ne'
  show (2 : ℝ) ^ (a * (8⁻¹ * (Real.log 2)⁻¹)) = _
  rw [Real.rpow_def_of_pos (by norm_num)]
  congr 1
  field_simp

/-- The weights of one row: what both programs exponentiate, for finite scores `x`. -/
theorem weights [Nonempty ι] (x : ι → ℝ) : ∃ w : ι → ℝ, (∀ j, 0 < w j)
    ∧ (∀ j, Ideal.exp2 (((x j * (8⁻¹ * (Real.log 2)⁻¹) : ℝ) : EReal)
          - Finset.univ.fold max (⊥ : EReal) (fun j => ((x j * (8⁻¹ * (Real.log 2)⁻¹) : ℝ) : EReal))) = ((w j : ℝ) : EReal))
    ∧ (∀ j, Ideal.exp (((x j * 8⁻¹ : ℝ) : EReal)
          - Finset.univ.fold max (⊥ : EReal) (fun j => ((x j * 8⁻¹ : ℝ) : EReal))) = ((w j : ℝ) : EReal)) := by
  have h2 : 0 < Real.log 2 := Real.log_pos (by norm_num)
  obtain ⟨M, e, e'⟩ := fold_max_scale x (c := 8⁻¹ * (Real.log 2)⁻¹) (d := 8⁻¹) (by positivity) (by norm_num)
  refine ⟨fun j => Real.exp ((x j - M) * 8⁻¹), fun j => Real.exp_pos _, fun j => ?_, fun j => ?_⟩
  · rw [e, ← EReal.coe_sub, Ideal.exp2_coe, ← sub_mul, rpow_scale]
  · rw [e', ← EReal.coe_sub, Ideal.exp_coe, ← sub_mul]

/-- ONE ROW OF ATTENTION. Weights in base two, values summed first and divided at the end by the sum of the weights
    (the product with a column of ones), against the softmax weights applied to the values. The values may be infinite. -/
theorem row [Nonempty ι] (x : ι → ℝ) (v : ι → EReal) :
    (∑ j, Ideal.exp2 (((x j * (8⁻¹ * (Real.log 2)⁻¹) : ℝ) : EReal)
          - Finset.univ.fold max (⊥ : EReal) (fun j => ((x j * (8⁻¹ * (Real.log 2)⁻¹) : ℝ) : EReal))) * v j)
        * Ideal.div 1 (∑ j, Ideal.exp2 (((x j * (8⁻¹ * (Real.log 2)⁻¹) : ℝ) : EReal)
          - Finset.univ.fold max (⊥ : EReal) (fun j => ((x j * (8⁻¹ * (Real.log 2)⁻¹) : ℝ) : EReal))) * 1)
      = ∑ j, v j * Ideal.div (Ideal.exp (((x j * 8⁻¹ : ℝ) : EReal)
          - Finset.univ.fold max (⊥ : EReal) (fun j => ((x j * 8⁻¹ : ℝ) : EReal))))
          (∑ j, Ideal.exp (((x j * 8⁻¹ : ℝ) : EReal)
          - Finset.univ.fold max (⊥ : EReal) (fun j => ((x j * 8⁻¹ : ℝ) : EReal)))) := by
  obtain ⟨w, hw, e, e'⟩ := weights x
  simp only [e, e', mul_one, coe_sum]
  have hl : 0 < ∑ j, w j := Finset.sum_pos (fun j _ => hw j) Finset.univ_nonempty
  simp only [Ideal.div_coe hl.ne', one_mul]
  rw [sum_mul_coe _ _ (by positivity)]
  exact Finset.sum_congr rfl fun j _ => by rw [mul_comm ((w j : ℝ) : EReal) (v j), mul_assoc]

end Cert.Softmax

end
-- ==== Proof.AttnMath.lean ====
/- The attention kernel's stores, element by element, over the extended reals. -/
module

public import proofs.«01_k».proof.Proof.AttnPieces
public import proofs.«01_k».proof.Proof.Softmax
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-- The word of the reductions' start is minus infinity. -/
theorem ofBits_neg_inf : Ideal.ofBits .f32 0xFF800000#32 = ⊥ := by
  simp [Ideal.ofBits, Ideal.ieee]

/-- The lane test: below 64 or not. -/
theorem lane_lt (x : Fin 128) : IntOp.cmpi .slt (BitVec.ofNat 32 x.val) 64#32 = if x.val < 64 then 1#1 else 0#1 := by
  revert x; decide +kernel

/-- The lane test, negated. -/
theorem lane_ge (x : Fin 128) : IntOp.xori (IntOp.cmpi .slt (BitVec.ofNat 32 x.val) 64#32) 1#1 = if x.val < 64 then 0#1 else 1#1 := by
  revert x; decide +kernel

/-- The kernel's folded scale denotes the real it was computed from. -/
theorem scale_eq : (Named.named κ "attn_scale" 0x3E38AA3B#32 : Ideal .f32) = ((8⁻¹ * (Real.log 2)⁻¹ : ℝ) : EReal) := by
  show (((1 / 8) * (Real.log 2)⁻¹ : ℝ) : EReal) = _
  norm_num

/-- An element of key tile `kt` of a score matrix. -/
theorem tile_at (s : Vec Ideal S1x256x4096 .f32) (kt : Fin 16) (r t : Fin 256) :
    tileA s kt (ix2 r t) = s (ix3 0 r ⟨kt.val * 256 + t.val, by omega⟩) := by
  unfold tileA
  pointwise
  refine congrArg (fun x => s (ix3 0 r x)) (Fin.ext ?_)
  show 256 * kt.val + t.val = kt.val * 256 + t.val
  omega

/-- An element of the rows of the value block beside key tile `kt`. -/
theorem vtile_at (v : Vec Ideal S1x4096x256 .bf16) (half : Fin 2) (kt : Fin 16) (t : Fin 256) (e : Fin 128) :
    vtileA v half kt (ix3 0 t e) = v (ix3 0 ⟨kt.val * 256 + t.val, by omega⟩ ⟨half.val * 128 + e.val, by omega⟩) := by
  unfold vtileA
  refine congrArg v (funext fun a => Fin.ext ?_)
  fin_cases a <;> simp [LoadRect.idx_apply] <;> omega

/-- One key tile's contribution at a row and lane: its weights against a column of the value rows, summed. -/
theorem step_at (m t : FVec Ideal S256x256 .f32) (u : Vec Ideal S1x256x128 .bf16) (r : Fin 256) (e : Fin 128) :
    stepA m t u (ix2 r e) = ∑ k : Fin 256, Ideal.exp2 (t (ix2 r k) - m (ix2 r k)) * u (ix3 0 k e) := by
  pointwise [stepA]
  rfl

/-- The row maxima of a score matrix, as spread over a tile, at an element. -/
theorem max_at (s : Vec Ideal S1x256x4096 .f32) (r t : Fin 256) :
    maxA s (ix2 r t) = Finset.univ.fold max ⊥ fun j : Fin 4096 => s (ix3 0 r j) := by
  pointwise [maxA]
  rw [ofBits_neg_inf]

/-- A stream at an index: the exponential weights of the whole row against the value block's column. -/
theorem stream_at (s : Vec Ideal S1x256x4096 .f32) (v : Vec Ideal S1x4096x256 .bf16) (half : Fin 2) (r : Fin 256) (e : Fin 128) :
    streamA s (vtileA v half) (ix2 r e)
      = ∑ j : Fin 4096, Ideal.exp2 (s (ix3 0 r j) - Finset.univ.fold max ⊥ fun j : Fin 4096 => s (ix3 0 r j))
          * v (ix3 0 j ⟨half.val * 128 + e.val, by omega⟩) := by
  rw [Fin.sum_univ_tiles 16 256 rfl]
  have h : ∀ kt : Fin 16, stepA (maxA s) (tileA s kt) (vtileA v half kt) (ix2 r e)
      = ∑ t : Fin 256, Ideal.exp2 (s (ix3 0 r ⟨kt.val * 256 + t.val, by omega⟩) - Finset.univ.fold max ⊥ fun j : Fin 4096 => s (ix3 0 r j))
          * v (ix3 0 ⟨kt.val * 256 + t.val, by omega⟩ ⟨half.val * 128 + e.val, by omega⟩) := by
    intro kt
    rw [step_at]
    refine Finset.sum_congr rfl fun t _ => ?_
    rw [tile_at, max_at, vtile_at]
  refine Eq.trans ?_ (Finset.sum_congr rfl fun kt _ => h kt)
  simp only [Fin.sum_univ_succ, Fin.sum_univ_zero]
  unfold streamA
  simp only [← add_assoc, add_zero]
  rfl

variable (q : Vec Ideal S1x256x128 .f32) (k : Vec Ideal S1x4096x128 .bf16) (r : Fin 256)

/-- A zero on the right of a sum drops out. -/
theorem add_of_zero {a b : EReal} (h : b = 0) : a + b = a := by rw [h, add_zero]

/-- A zero on the left of a sum drops out. -/
theorem zero_of_add {a b : EReal} (h : a = 0) : a + b = b := by rw [h, zero_add]

/-- A real score: the inner product of a query and a key. -/
def dotR (Q : Fin 64 → ℝ) (K : Fin 64 → ℝ) : ℝ := ∑ d, Q d * K d

/-- A dot product of scaled queries is the scaled dot product. -/
theorem scaled_dot (Q : Fin 64 → ℝ) (K : Fin 64 → ℝ) (a : ℝ) :
    ∑ d, ((Q d : ℝ) : EReal) * ((a : ℝ) : EReal) * ((K d : ℝ) : EReal) = ((dotR Q K * a : ℝ) : EReal) := by
  simp only [← EReal.coe_mul]
  rw [Softmax.coe_sum]
  congr 1
  unfold dotR
  rw [Finset.sum_mul]
  exact Finset.sum_congr rfl fun d _ => by ring

/-- A score of an even stream: the other head's lanes are masked to zero. -/
theorem score_even_at (Q K : Fin 64 → ℝ) (j : Fin 4096)
    (hq : ∀ d : Fin 64, q (ix3 0 r ⟨d.val, by omega⟩) = ((Q d : ℝ) : EReal)) (hk : ∀ d : Fin 64, k (ix3 0 j ⟨d.val, by omega⟩) = ((K d : ℝ) : EReal)) :
    scoreA (k0_pay3 q) k (ix3 0 r j) = ((dotR Q K * (8⁻¹ * (Real.log 2)⁻¹) : ℝ) : EReal) := by
  pointwise [scoreA, k0_pay3, k0_pay2]
  rw [← scaled_dot, Fin.sum_univ_tiles 2 64 rfl, Fin.sum_univ_two]
  refine (add_of_zero (Finset.sum_eq_zero fun t _ => ?_)).trans (Finset.sum_congr rfl fun t _ => ?_)
  · rw [lane_lt, if_neg (by show ¬ 1 * 64 + t.val < 64; omega)]; rfl
  · rw [lane_lt, if_pos (by show 0 * 64 + t.val < 64; omega), scale_eq, ← hq, ← hk]
    simp only [Fin.val_zero, Nat.zero_mul, Nat.zero_add]
    rfl

/-- A score of an odd stream. -/
theorem score_odd_at (Q K : Fin 64 → ℝ) (j : Fin 4096)
    (hq : ∀ d : Fin 64, q (ix3 0 r ⟨64 + d.val, by omega⟩) = ((Q d : ℝ) : EReal)) (hk : ∀ d : Fin 64, k (ix3 0 j ⟨64 + d.val, by omega⟩) = ((K d : ℝ) : EReal)) :
    scoreA (k0_pay4 q) k (ix3 0 r j) = ((dotR Q K * (8⁻¹ * (Real.log 2)⁻¹) : ℝ) : EReal) := by
  pointwise [scoreA, k0_pay4, k0_pay2]
  rw [← scaled_dot, Fin.sum_univ_tiles 2 64 rfl, Fin.sum_univ_two]
  refine (zero_of_add (Finset.sum_eq_zero fun t _ => ?_)).trans (Finset.sum_congr rfl fun t _ => ?_)
  · rw [lane_ge, if_pos (by show 0 * 64 + t.val < 64; omega)]; rfl
  · rw [lane_ge, if_neg (by show ¬ 1 * 64 + t.val < 64; omega), scale_eq, ← hq, ← hk]
    simp only [Fin.val_one, Nat.one_mul]
    rfl

/-- The first head's lanes of two streams merged. -/
theorem merge_low (x y : FVec Ideal S256x128 .f32) (e : Fin 64) :
    mergeA x y (ix3 0 r ⟨e.val, by omega⟩) = x (ix2 r ⟨e.val, by omega⟩) * Ideal.div 1 (x (ix2 r ⟨64 + e.val, by omega⟩)) := by
  pointwise [mergeA, normA, k0_pay2]
  have h := lane_lt ⟨e.val, by omega⟩
  rw [if_pos (by show e.val < 64; omega)] at h
  simp only at h
  rw [h]
  refine congrArg (fun z => x (ix2 r ⟨e.val, by omega⟩) * Ideal.div 1 (x (ix2 r z))) (Fin.ext ?_)
  show (e.val + 128 - 64) % 128 = 64 + e.val
  omega

/-- The second head's lanes of two streams merged. -/
theorem merge_high (x y : FVec Ideal S256x128 .f32) (e : Fin 64) :
    mergeA x y (ix3 0 r ⟨64 + e.val, by omega⟩) = y (ix2 r ⟨64 + e.val, by omega⟩) * Ideal.div 1 (y (ix2 r ⟨e.val, by omega⟩)) := by
  pointwise [mergeA, normA, k0_pay2]
  have h := lane_lt ⟨64 + e.val, by omega⟩
  rw [if_neg (by show ¬ 64 + e.val < 64; omega)] at h
  simp only at h
  rw [h]
  refine congrArg (fun z => y (ix2 r ⟨64 + e.val, by omega⟩) * Ideal.div 1 (y (ix2 r z))) (Fin.ext ?_)
  show (64 + e.val + 128 - 64) % 128 = e.val
  omega

/-- One row of softmax attention: real queries and keys, any values. -/
def attn (Q : Fin 64 → ℝ) (K : Fin 4096 → Fin 64 → ℝ) (V : Fin 4096 → EReal) : EReal :=
  ∑ j, V j * Ideal.div
    (Ideal.exp (((dotR Q (K j) * 8⁻¹ : ℝ) : EReal) - Finset.univ.fold max ⊥ fun j => ((dotR Q (K j) * 8⁻¹ : ℝ) : EReal)))
    (∑ j, Ideal.exp (((dotR Q (K j) * 8⁻¹ : ℝ) : EReal) - Finset.univ.fold max ⊥ fun j => ((dotR Q (K j) * 8⁻¹ : ℝ) : EReal)))

/-- The even head of a store. -/
theorem head_even (s' : Vec Ideal S1x256x4096 .f32) (y : FVec Ideal S256x128 .f32) (v : Vec Ideal S1x4096x256 .bf16)
    (Q : Fin 64 → ℝ) (K : Fin 4096 → Fin 64 → ℝ) (V : Fin 4096 → EReal) (e : Fin 64)
    (hs : ∀ j, s' (ix3 0 r j) = ((dotR Q (K j) * (8⁻¹ * (Real.log 2)⁻¹) : ℝ) : EReal))
    (hv : ∀ j, v (ix3 0 j ⟨e.val, by omega⟩) = V j) (ho : ∀ j, v (ix3 0 j ⟨64 + e.val, by omega⟩) = 1) :
    mergeA (streamA s' (vtileA v 0)) y (ix3 0 r ⟨e.val, by omega⟩) = attn Q K V := by
  rw [merge_low, stream_at, stream_at, attn, ← Softmax.row (fun j => dotR Q (K j)) V]
  simp only [hs]
  have e1 : ∀ j, v (ix3 0 j ⟨(0 : Fin 2).val * 128 + e.val, by show 0 * 128 + e.val < 256; omega⟩) = V j := fun j => by
    rw [← hv j]; exact congrArg (fun z => v (ix3 0 j z)) (Fin.ext (by show 0 * 128 + e.val = e.val; omega))
  have e2 : ∀ j, v (ix3 0 j ⟨(0 : Fin 2).val * 128 + (64 + e.val), by show 0 * 128 + (64 + e.val) < 256; omega⟩) = 1 := fun j => by
    rw [← ho j]; exact congrArg (fun z => v (ix3 0 j z)) (Fin.ext (by show 0 * 128 + (64 + e.val) = 64 + e.val; omega))
  simp only [e1, e2]

/-- The odd head of a store. -/
theorem head_odd (s' : Vec Ideal S1x256x4096 .f32) (x : FVec Ideal S256x128 .f32) (v : Vec Ideal S1x4096x256 .bf16)
    (Q : Fin 64 → ℝ) (K : Fin 4096 → Fin 64 → ℝ) (V : Fin 4096 → EReal) (e : Fin 64)
    (hs : ∀ j, s' (ix3 0 r j) = ((dotR Q (K j) * (8⁻¹ * (Real.log 2)⁻¹) : ℝ) : EReal))
    (hv : ∀ j, v (ix3 0 j ⟨192 + e.val, by omega⟩) = V j) (ho : ∀ j, v (ix3 0 j ⟨128 + e.val, by omega⟩) = 1) :
    mergeA x (streamA s' (vtileA v 1)) (ix3 0 r ⟨64 + e.val, by omega⟩) = attn Q K V := by
  rw [merge_high, stream_at, stream_at, attn, ← Softmax.row (fun j => dotR Q (K j)) V]
  simp only [hs]
  have e1 : ∀ j, v (ix3 0 j ⟨(1 : Fin 2).val * 128 + (64 + e.val), by show 1 * 128 + (64 + e.val) < 256; omega⟩) = V j := fun j => by
    rw [← hv j]; exact congrArg (fun z => v (ix3 0 j z)) (Fin.ext (by show 1 * 128 + (64 + e.val) = 192 + e.val; omega))
  have e2 : ∀ j, v (ix3 0 j ⟨(1 : Fin 2).val * 128 + e.val, by show 1 * 128 + e.val < 256; omega⟩) = 1 := fun j => by
    rw [← ho j]; exact congrArg (fun z => v (ix3 0 j z)) (Fin.ext (by show 1 * 128 + e.val = 128 + e.val; omega))
  simp only [e1, e2]

end Cert.KernelIdeal.Value

end
-- ==== Proof.AttnRef.lean ====
/- The attention reference's result, element by element, over the extended reals. -/
module

public import proofs.«01_k».proof.Proof.Gen.ReferenceIdeal.Run
public import proofs.«01_k».proof.Proof.AttnMath
public import Idealize.ShloMosaic.Lib.Pipeline.ValueKit
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.KernelIdeal.Value (attn dotR)

section

variable {F : FTy → Type} [FloatOps F] (a0 : FVec F S8x4096x4x4x64 .f32) (a1 a2 : FVec F S8x4096x4x64 .f32)

/-- The scaled scores. -/
def scR : FVec F S8x4x4x4096x4096 .f32 :=
  mulf (transpose S8x4x4x4096x4096 [0, 1, 4, 3, 2] (Host.dotGeneral dot_S8x4096x4x64_S8x4096x4x4x64_S8x4x4096x4096x4_3_4_1_13_02_02 none a1 a0) transposes_S8x4x4096x4096x4_S8x4x4x4096x4096_0_1_4_3_2) (broadcastInDim S8x4x4x4096x4096 ![] bcast_S_S8x4x4x4096x4096 (constant S_ .f32 0x3E000000#32))

/-- The exponentials of the scores less their row maximum. -/
def exR : FVec F S8x4x4x4096x4096 .f32 :=
  Host.exp (subf (scR a0 a1) (broadcastInDim S8x4x4x4096x4096 ![0, 1, 2, 3, 4] bcast_S8x4x4x4096x1_S8x4x4x4096x4096_0_1_2_3_4 (broadcastInDim S8x4x4x4096x1 ![0, 1, 2, 3] bcast_S8x4x4x4096_S8x4x4x4096x1_0_1_2_3 (maximumf (broadcastInDim S8x4x4x4096 ![] bcast_S_S8x4x4x4096 (constant S_ .f32 0xFF800000#32)) (Host.reduce FloatOps.maximumf (scR a0 a1) (constant S_ .f32 0xFF800000#32) reducesTo_S8x4x4x4096x4096_S8x4x4x4096_d4 h_S_)))))

/-- The softmax weights. -/
def wR : FVec F S8x4x4x4096x4096 .f32 :=
  Host.divf (exR a0 a1) (broadcastInDim S8x4x4x4096x4096 ![0, 1, 2, 3, 4] bcast_S8x4x4x4096x1_S8x4x4x4096x4096_0_1_2_3_4 (broadcastInDim S8x4x4x4096x1 ![0, 1, 2, 3] bcast_S8x4x4x4096_S8x4x4x4096x1_0_1_2_3 (Host.reduceAdd (exR a0 a1) (constant S_ .f32 0x00000000#32) reducesTo_S8x4x4x4096x4096_S8x4x4x4096_d4 h_S_)))

/-- The reference's result. -/
def REF : FVec F S8x4096x1024 .bf16 :=
  truncf .bf16 (shapeCast S8x4096x1024 (transpose S8x4096x4x4x64 [0, 4, 1, 3, 2] (Host.dotGeneral dot_S8x4096x4x64_S8x4x4x4096x4096_S8x4x64x4x4096_1_4_3_23_02_01 none a2 (wR a0 a1)) transposes_S8x4x64x4x4096_S8x4096x4x4x64_0_4_1_3_2) shapeCasts_S8x4096x4x4x64_S8x4096x1024) bitsLt_bf16_f32

end

variable (a0 : FVec Ideal S8x4096x4x4x64 .f32) (a1 a2 : FVec Ideal S8x4096x4x64 .f32)

/-- The reference's scaled score, at an element: the dot product of a query and a key times one eighth. -/
theorem scR_at (b : Fin 8) (g h : Fin 4) (s j : Fin 4096) :
    scR a0 a1 (ix5 b g h s j) = (∑ d : Fin 64, a1 (ix4 b j g d) * a0 (ix5 b s g h d)) * Ideal.ofBits .f32 0x3E000000#32 := by
  pointwise [scR]

/-- A host maximum along the last of five axes, at an index: the fold of `max` along that axis. -/
theorem hostMax_at {n0 n1 n2 n3 n4 : ℕ} (v : FVec Ideal ⟨5, ![n0, n1, n2, n3, n4]⟩ .f32) (c : FVec Ideal S_ .f32)
    (h : (⟨5, ![n0, n1, n2, n3, n4]⟩ : Shape).ReducesTo [4] ⟨4, ![n0, n1, n2, n3]⟩) (hu : 0 < S_.numel)
    (a : Fin n0) (b : Fin n1) (d : Fin n2) (e : Fin n3) :
    Host.reduce FloatOps.maximumf v c h hu (ix4 a b d e)
      = Finset.univ.fold max (c (Shape.Idx.first hu)) fun k : Fin n4 => v (ix5 a b d e k) := by
  simp only [pointwise]

/-- The row maxima of the scores. -/
def mxR (x : FVec Ideal S8x4x4x4096x4096 .f32) : FVec Ideal S8x4x4x4096 .f32 :=
  Host.reduce FloatOps.maximumf x (constant S_ .f32 0xFF800000#32) reducesTo_S8x4x4x4096x4096_S8x4x4x4096_d4 h_S_

/-- The reference's row maximum of the scores, at an element. -/
theorem mxR_at (x : FVec Ideal S8x4x4x4096x4096 .f32) (b : Fin 8) (g h : Fin 4) (s : Fin 4096) :
    mxR x (ix4 b g h s) = Finset.univ.fold max (⊥ : EReal) fun j : Fin 4096 => x (ix5 b g h s j) := by
  rw [← Cert.KernelIdeal.Value.ofBits_neg_inf]
  exact hostMax_at x (constant S_ .f32 0xFF800000#32) reducesTo_S8x4x4x4096x4096_S8x4x4x4096_d4 h_S_ b g h s

/-- The exponentials, from the scores and the row maxima. -/
def exQ (x : FVec Ideal S8x4x4x4096x4096 .f32) (y : FVec Ideal S8x4x4x4096 .f32) : FVec Ideal S8x4x4x4096x4096 .f32 :=
  Host.exp (subf x (broadcastInDim S8x4x4x4096x4096 ![0, 1, 2, 3, 4] bcast_S8x4x4x4096x1_S8x4x4x4096x4096_0_1_2_3_4 (broadcastInDim S8x4x4x4096x1 ![0, 1, 2, 3] bcast_S8x4x4x4096_S8x4x4x4096x1_0_1_2_3 (maximumf (broadcastInDim S8x4x4x4096 ![] bcast_S_S8x4x4x4096 (constant S_ .f32 0xFF800000#32)) y))))

/-- The exponential of the scores less a given row value, at an element. -/
theorem exQ_at (x : FVec Ideal S8x4x4x4096x4096 .f32) (y : FVec Ideal S8x4x4x4096 .f32) (b : Fin 8) (g h : Fin 4) (s j : Fin 4096) :
    exQ x y (ix5 b g h s j) = Ideal.exp (x (ix5 b g h s j) - max (Ideal.ofBits FTy.f32 4286578688#32) (y (ix4 b g h s))) := by
  pointwise [exQ]

/-- The exponentials the reference forms, at an element. -/
theorem exR_at (b : Fin 8) (g h : Fin 4) (s j : Fin 4096) :
    exR a0 a1 (ix5 b g h s j) = Ideal.exp (scR a0 a1 (ix5 b g h s j) - Finset.univ.fold max (⊥ : EReal) fun j : Fin 4096 => scR a0 a1 (ix5 b g h s j)) := by
  have e : exR a0 a1 = exQ (scR a0 a1) (mxR (scR a0 a1)) := by unfold exR exQ mxR; rfl
  rw [e, exQ_at, mxR_at, Cert.KernelIdeal.Value.ofBits_neg_inf, max_eq_right bot_le]

/-- The reference's softmax weight, at an element. -/
theorem wR_at (b : Fin 8) (g h : Fin 4) (s j : Fin 4096) :
    wR a0 a1 (ix5 b g h s j) = Ideal.div (exR a0 a1 (ix5 b g h s j)) (∑ j : Fin 4096, exR a0 a1 (ix5 b g h s j)) := by
  pointwise [wR]

/-- The reference's result at an element. -/
theorem REF_at (b : Fin 8) (s : Fin 4096) (l : Fin 1024) :
    REF a0 a1 a2 (ix3 b s l) = ∑ j : Fin 4096, a2 (ix4 b j ⟨l.val / 256, by omega⟩ ⟨l.val % 64, by omega⟩)
      * wR a0 a1 (ix5 b ⟨l.val / 256, by omega⟩ ⟨l.val / 64 % 4, by omega⟩ s j) := by
  pointwise [REF]

/-- The real numbers of a finite query array, along one head's lanes. -/
def qReal (a0 : FVec Ideal S8x4096x4x4x64 .f32) (b : Fin 8) (s : Fin 4096) (g h : Fin 4) (d : Fin 64) : ℝ := (a0 (ix5 b s g h d)).toReal

/-- The real numbers of a finite key array, by position and along one group's lanes. -/
def kReal (a1 : FVec Ideal S8x4096x4x64 .f32) (b : Fin 8) (g : Fin 4) (j : Fin 4096) (d : Fin 64) : ℝ := (a1 (ix4 b j g d)).toReal

/-- On finite queries and keys the reference's result is the softmax attention of its head. -/
theorem REF_attn (h0 : ∀ i, a0 i = (((a0 i).toReal : ℝ) : EReal)) (h1 : ∀ i, a1 i = (((a1 i).toReal : ℝ) : EReal))
    (b : Fin 8) (s : Fin 4096) (l : Fin 1024) :
    REF a0 a1 a2 (ix3 b s l) = attn (qReal a0 b s ⟨l.val / 256, by omega⟩ ⟨l.val / 64 % 4, by omega⟩) (kReal a1 b ⟨l.val / 256, by omega⟩)
      (fun j => a2 (ix4 b j ⟨l.val / 256, by omega⟩ ⟨l.val % 64, by omega⟩)) := by
  have c8 : Ideal.ofBits .f32 0x3E000000#32 = ((8⁻¹ : ℝ) : EReal) := by
    rw [show (8⁻¹ : ℝ) = 1 / 8 by norm_num]
    simp [Ideal.ofBits, Ideal.ieee]
    norm_num [← EReal.coe_mul, zpow_neg]
  have sc : ∀ (g h : Fin 4) (j : Fin 4096), scR a0 a1 (ix5 b g h s j) = ((dotR (qReal a0 b s g h) (kReal a1 b g j) * 8⁻¹ : ℝ) : EReal) := by
    intro g h j
    rw [scR_at, c8, EReal.coe_mul]
    congr 1
    unfold dotR qReal kReal
    rw [← Cert.Softmax.coe_sum]
    refine Finset.sum_congr rfl fun d _ => ?_
    rw [h0 (ix5 b s g h d), h1 (ix4 b j g d), EReal.coe_mul, mul_comm, EReal.toReal_coe, EReal.toReal_coe]
  rw [REF_at]
  unfold attn
  refine Finset.sum_congr rfl fun j _ => ?_
  rw [wR_at]
  simp only [exR_at, sc]

end Cert.ReferenceIdeal.Value

end
-- ==== Proof.AttnFinal.lean ====
/- The attention kernel's result is the reference's, on finite queries and keys. -/
module

public import proofs.«01_k».proof.Proof.AttnReads
public import proofs.«01_k».proof.Proof.AttnRef

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

/-- The query tile at a row and a lane. -/
theorem qtile_at (q : Vec Ideal S1x1024x256 .f32) (r : Fin 4) (hp : Fin 2) (row : Fin 256) (l : Fin 128) :
    qtileA q r hp (ix3 0 row l) = q (ix3 0 ⟨256 * r.val + row.val, by omega⟩ ⟨128 * hp.val + l.val, by omega⟩) := by
  unfold qtileA
  refine congrArg q ?_
  funext a
  refine Fin.ext ?_
  match a with
  | ⟨0, _⟩ => rfl
  | ⟨1, _⟩ => exact congrArg (256 * r.val + ·) (Nat.one_mul _)
  | ⟨2, _⟩ => exact congrArg (128 * hp.val + ·) (Nat.one_mul _)

/-- A store of the kernel at an element: the attention of that element's head. -/
theorem piece_at (q : Vec Ideal S1x1024x256 .f32) (k : Vec Ideal S1x4096x128 .bf16) (v : Vec Ideal S1x4096x256 .bf16) (r : Fin 4) (hp : Fin 2)
    (row : Fin 256) (lane : Fin 128) (Q : Fin 64 → ℝ) (K : Fin 4096 → Fin 64 → ℝ) (V : Fin 4096 → EReal)
    (hq : ∀ d : Fin 64, q (ix3 0 ⟨256 * r.val + row.val, by omega⟩ ⟨128 * hp.val + (64 * (lane.val / 64) + d.val), by omega⟩) = ((Q d : ℝ) : EReal))
    (hk : ∀ (j : Fin 4096) (l : Fin 128), k (ix3 0 j l) = ((K j ⟨l.val % 64, by omega⟩ : ℝ) : EReal))
    (hv : ∀ (j : Fin 4096) (l : Fin 256), l.val < 64 ∨ 192 ≤ l.val → l.val % 64 = lane.val % 64 → v (ix3 0 j l) = V j)
    (ho : ∀ (j : Fin 4096) (l : Fin 256), 64 ≤ l.val → l.val < 192 → v (ix3 0 j l) = 1) :
    pieceA q k v r hp (ix3 0 row lane) = attn Q K V := by
  unfold pieceA
  by_cases h : lane.val < 64
  · have e0 : 64 * (lane.val / 64) = 0 := by omega
    simp only [e0, Nat.zero_add] at hq
    refine head_even row _ _ v Q K V ⟨lane.val, h⟩ (fun j => ?_) (fun j => hv j _ (Or.inl h) rfl) (fun j => ho j _ (by show 64 ≤ 64 + lane.val; omega) (by show 64 + lane.val < 192; omega))
    refine score_even_at _ k row Q (K j) j (fun d => (qtile_at q r hp row _).trans (hq d)) (fun d => ?_)
    refine (hk j _).trans ?_
    have e : d.val % 64 = d.val := by omega
    simp only [e]
  · have e0 : 64 * (lane.val / 64) = 64 := by omega
    simp only [e0] at hq
    have el : lane = ⟨64 + (lane.val - 64), by omega⟩ := Fin.ext (by show lane.val = 64 + (lane.val - 64); omega)
    refine (congrArg (fun z => mergeA (streamA (scoreA (k0_pay3 (qtileA q r hp)) k) (vtileA v 0)) (streamA (scoreA (k0_pay4 (qtileA q r hp)) k) (vtileA v 1)) (ix3 0 row z)) el).trans ?_
    refine head_odd row _ _ v Q K V ⟨lane.val - 64, by omega⟩ (fun j => ?_) (fun j => hv j _ (Or.inr (by show 192 ≤ 192 + (lane.val - 64); omega)) (by show (192 + (lane.val - 64)) % 64 = lane.val % 64; omega))
      (fun j => ho j _ (by show 64 ≤ 128 + (lane.val - 64); omega) (by show 128 + (lane.val - 64) < 192; omega))
    refine score_odd_at _ k row Q (K j) j (fun d => (qtile_at q r hp row _).trans (hq d)) (fun d => ?_)
    refine (hk j _).trans ?_
    have e : (64 + d.val) % 64 = d.val := by omega
    simp only [e]

variable (m : (ℓ : Loc nD τ sig) → Buf (Elt Ideal) ℓ) (c : Dev nD)

/-- A store of a grid point at an element, as the reference's result there. -/
theorem point_at (h0 : ∀ i : S8x4096x4x4x64.Idx, (m ((c.tc : Thread nD τ).loc main_arg0) : FVec Ideal S8x4096x4x4x64 .f32) i = (((m ((c.tc : Thread nD τ).loc main_arg0) i : EReal).toReal : ℝ) : EReal))
    (h1 : ∀ i : S8x4096x4x64.Idx, (m ((c.tc : Thread nD τ).loc main_arg1) : FVec Ideal S8x4096x4x64 .f32) i = (((m ((c.tc : Thread nD τ).loc main_arg1) i : EReal).toReal : ℝ) : EReal))
    (t : Fin cfg0.N) (r : Fin 4) (hp : Fin 2) (row : Fin 256) (lane : Fin 128) :
    pieceA (iblk m c 0 t) (iblk m c 1 t) (iblk m c 2 t) r hp (ix3 0 row lane)
      = Cert.ReferenceIdeal.Value.REF (F := Ideal) (m ((c.tc : Thread nD τ).loc main_arg0)) (m ((c.tc : Thread nD τ).loc main_arg1)) (m ((c.tc : Thread nD τ).loc main_arg2))
        (ix3 (⟨t.val / 16, by have := lt_N t; omega⟩ : Fin 8) (⟨t.val % 4 * 1024 + (256 * r.val + row.val), by omega⟩ : Fin 4096)
          (⟨t.val / 4 % 4 * 256 + (128 * hp.val + lane.val), by omega⟩ : Fin 1024)) := by
  have ht := lt_N t
  have g1 : (t.val / 4 % 4 * 256 + (128 * hp.val + lane.val)) / 256 = t.val / 4 % 4 := by omega
  have g2 : (t.val / 4 % 4 * 256 + (128 * hp.val + lane.val)) / 64 % 4 = 2 * hp.val + lane.val / 64 := by omega
  have g3 : (t.val / 4 % 4 * 256 + (128 * hp.val + lane.val)) % 64 = lane.val % 64 := by omega
  refine Eq.trans ?_ (Cert.ReferenceIdeal.Value.REF_attn _ _ _ h0 h1 _ _ _).symm
  simp only [g1, g2, g3]
  refine piece_at _ _ _ r hp row lane _ _ _ (fun d => ?_) (fun j l => ?_) (fun j l hl he => ?_) (fun j l hl hl' => ?_)
  · refine (read_q m c t _ _).trans ?_
    have q1 : (128 * hp.val + (64 * (lane.val / 64) + d.val)) / 64 = 2 * hp.val + lane.val / 64 := by omega
    have q2 : (128 * hp.val + (64 * (lane.val / 64) + d.val)) % 64 = d.val := by omega
    simp only [q1, q2]
    exact h0 _
  · exact (read_k m c t j l).trans (h1 _)
  · refine (read_v m c t j l).trans ((if_pos hl).trans ?_)
    simp only [he]
  · exact (read_v m c t j l).trans (if_neg (by omega))

/-- The same, at any index of the result with the store's place. -/
theorem point_idx (h0 : ∀ i : S8x4096x4x4x64.Idx, (m ((c.tc : Thread nD τ).loc main_arg0) : FVec Ideal S8x4096x4x4x64 .f32) i = (((m ((c.tc : Thread nD τ).loc main_arg0) i : EReal).toReal : ℝ) : EReal))
    (h1 : ∀ i : S8x4096x4x64.Idx, (m ((c.tc : Thread nD τ).loc main_arg1) : FVec Ideal S8x4096x4x64 .f32) i = (((m ((c.tc : Thread nD τ).loc main_arg1) i : EReal).toReal : ℝ) : EReal))
    (t : Fin cfg0.N) (r : Fin 4) (hp : Fin 2) (x : S1x256x128.Idx) (i : S8x4096x1024.Idx)
    (e0 : (i 0).val = t.val / 16) (e1 : (i 1).val = t.val % 4 * 1024 + (256 * r.val + (x 1).val)) (e2 : (i 2).val = t.val / 4 % 4 * 256 + (128 * hp.val + (x 2).val)) :
    pieceA (iblk m c 0 t) (iblk m c 1 t) (iblk m c 2 t) r hp x
      = Cert.ReferenceIdeal.Value.REF (F := Ideal) (m ((c.tc : Thread nD τ).loc main_arg0)) (m ((c.tc : Thread nD τ).loc main_arg1)) (m ((c.tc : Thread nD τ).loc main_arg2)) i := by
  have hx0 : (x 0).val < 1 := (x 0).isLt
  have ex : x = ix3 0 (x 1) (x 2) := by
    funext a
    refine Fin.ext ?_
    match a with
    | ⟨0, _⟩ => show (x 0).val = 0; omega
    | ⟨1, _⟩ => rfl
    | ⟨2, _⟩ => rfl
  refine (congrArg (pieceA (F := Ideal) (iblk m c 0 t) (iblk m c 1 t) (iblk m c 2 t) r hp) ex).trans ((point_at m c h0 h1 t r hp (x 1) (x 2)).trans (congrArg _ ?_))
  funext a
  refine Fin.ext ?_
  match a with
  | ⟨0, _⟩ => exact e0.symm
  | ⟨1, _⟩ => exact e1.symm
  | ⟨2, _⟩ => exact e2.symm

/-- The kernel's result array is the reference's. -/
theorem final (h0' : ∀ i : S8x4096x4x4x64.Idx, (m ((c.tc : Thread nD τ).loc main_arg0) : FVec Ideal S8x4096x4x4x64 .f32) i = (((m ((c.tc : Thread nD τ).loc main_arg0) i : EReal).toReal : ℝ) : EReal))
    (h1' : ∀ i : S8x4096x4x64.Idx, (m ((c.tc : Thread nD τ).loc main_arg1) : FVec Ideal S8x4096x4x64 .f32) i = (((m ((c.tc : Thread nD τ).loc main_arg1) i : EReal).toReal : ℝ) : EReal)) :
    (dats m 0 c).arrAt 3 cfg0.N
      = Cert.ReferenceIdeal.Value.REF (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  unfold outsAt0
  rw [out_eq]
  canon_tiles x h
  · exact point_idx m c h0' h1' t 3 1 x _ (by blk_simp [idxA t]) (by blk_simp [idxA t]; show _ = t.val % 4 * 1024 + (768 + (x 1).val); omega) (by blk_simp [idxA t]; show _ = t.val / 4 % 4 * 256 + (128 + (x 2).val); omega)
  · exact point_idx m c h0' h1' t 3 0 x _ (by blk_simp [idxA t]) (by blk_simp [idxA t]; show _ = t.val % 4 * 1024 + (768 + (x 1).val); omega) (by blk_simp [idxA t]; show _ = t.val / 4 % 4 * 256 + (0 + (x 2).val); omega)
  · exact point_idx m c h0' h1' t 2 1 x _ (by blk_simp [idxA t]) (by blk_simp [idxA t]; show _ = t.val % 4 * 1024 + (512 + (x 1).val); omega) (by blk_simp [idxA t]; show _ = t.val / 4 % 4 * 256 + (128 + (x 2).val); omega)
  · exact point_idx m c h0' h1' t 2 0 x _ (by blk_simp [idxA t]) (by blk_simp [idxA t]; show _ = t.val % 4 * 1024 + (512 + (x 1).val); omega) (by blk_simp [idxA t]; show _ = t.val / 4 % 4 * 256 + (0 + (x 2).val); omega)
  · exact point_idx m c h0' h1' t 1 1 x _ (by blk_simp [idxA t]) (by blk_simp [idxA t]; show _ = t.val % 4 * 1024 + (256 + (x 1).val); omega) (by blk_simp [idxA t]; show _ = t.val / 4 % 4 * 256 + (128 + (x 2).val); omega)
  · exact point_idx m c h0' h1' t 1 0 x _ (by blk_simp [idxA t]) (by blk_simp [idxA t]; show _ = t.val % 4 * 1024 + (256 + (x 1).val); omega) (by blk_simp [idxA t]; show _ = t.val / 4 % 4 * 256 + (0 + (x 2).val); omega)
  · exact point_idx m c h0' h1' t 0 1 x _ (by blk_simp [idxA t]) (by blk_simp [idxA t]; show _ = t.val % 4 * 1024 + (0 + (x 1).val); omega) (by blk_simp [idxA t]; show _ = t.val / 4 % 4 * 256 + (128 + (x 2).val); omega)
  · exact point_idx m c h0' h1' t 0 0 x _ (by blk_simp [idxA t]) (by blk_simp [idxA t]; show _ = t.val % 4 * 1024 + (0 + (x 1).val); omega) (by blk_simp [idxA t]; show _ = t.val / 4 % 4 * 256 + (0 + (x 2).val); omega)

end Cert.KernelIdeal.Value

end
-- ==== Proof.AttnClaim.lean ====
/- The claims about the attention of the global layers. -/
module

public import proofs.«01_k».proof.Defs
public import proofs.«01_k».proof.Proof.Gen.Kernel.Frame
public import proofs.«01_k».proof.Proof.Gen.KernelIdeal.Frame
public import proofs.«01_k».proof.Proof.AttnFinal
public import Idealize.ShloMosaic.Adequacy
public import Idealize.ShloMosaic.Init

@[expose] public section

set_option maxRecDepth 16384

noncomputable section

namespace Cert.AttnClaim

open Idealize.ShloMosaic Idealize.SL.Sem

/-- A number below infinity in size is a real number. -/
theorem real_of_lt (x : EReal) (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee]
  rw [e] at h
  have hlt : max x (-x) < ⊤ := by
    by_contra hn
    simp [Ideal.cmp, hn] at h
  refine (EReal.coe_toReal (fun hx => ?_) (fun hx => ?_)).symm
  · simp [hx] at hlt
  · simp [hx] at hlt

/-- The witnesses of the precondition's side conditions. -/
theorem pre_facts : Cert.Pre_finite_a.Facts := ⟨by decide, by decide⟩

/-- The kernel ends, leaves its arguments as they were and all is quiescent. -/
theorem frame_p : Cert.quiescent_Kernel (hKernel := Cert.Kernel.Gen.facts) := fun m ρ _ => Cert.Kernel.Gen.frame m ρ

/-- The same of the idealized kernel. -/
theorem frame_pi : Cert.quiescent_KernelIdeal (hKernelIdeal := Cert.KernelIdeal.Gen.facts) := fun m ρ _ => Cert.KernelIdeal.Gen.frame m ρ

/-- The same of the reference. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel's frame under the precondition. -/
theorem frame_pi_pre : Cert.quiescent_KernelIdeal_pre_finite_a (hKernelIdeal := Cert.KernelIdeal.Gen.facts) (hPre_finite_a := pre_facts) :=
  fun m ρ _ => Cert.KernelIdeal.Gen.frame m ρ

/-- The reference's frame under the precondition. -/
theorem frame_ri_pre : Cert.quiescent_ReferenceIdeal_pre_finite_a (hReferenceIdeal := Cert.ReferenceIdeal.Gen.facts) (hPre_finite_a := pre_facts) :=
  fun m ρ _ => frame_ri m ρ trivial

/-- The idealized kernel differs from the kernel only in the named constant. -/
theorem preserves : Cert.preserves_Kernel_KernelIdeal :=
  IdealRules.named_const.statement Cert.KernelIdeal.κ "attn_scale" .f32 0x3E38AA3B#32 (((1 / 8) * (Real.log 2)⁻¹ : ℝ) : EReal) rfl

/-- On finite queries and keys the kernel and the reference end with the same result. -/
theorem algebraic : Cert.algebraic_KernelIdeal_ReferenceIdeal_pre_finite_a (hKernelIdeal := Cert.KernelIdeal.Gen.facts) (hReferenceIdeal := Cert.ReferenceIdeal.Gen.facts) (hPre_finite_a := pre_facts) := by
  intro m g m' g' hpre hagree
  refine ⟨_, Cert.KernelIdeal.Value.run_blocks (F := Ideal) m g, ?_⟩
  refine (θ_run Cert.ReferenceIdeal.defs _ _).mono (fun _ h c => ⟨(h c).1.trans ?_, (h c).2⟩) (Cert.ReferenceIdeal.Value.run (F := Ideal) m' g')
  rw [(hagree c).1, (hagree c).2.1, (hagree c).2.2]
  refine Eq.trans ?_ (Cert.KernelIdeal.Value.final m c (fun i => real_of_lt _ (congrFun (hpre c).1 i)) (fun i => real_of_lt _ (congrFun (hpre c).2 i))).symm
  rfl

end Cert.AttnClaim

end
-- ==== Proof.FfnLoads.lean ====
/- What the loads of the feed-forward kernel's scratch buffers read. The buffers are written a rectangle at a time; each
   lemma says what a load of a list of such writes holds, whatever was written before them. -/
module

public import Idealize.ShloMosaic.Lib.Pipeline.ValueKit
public import Idealize.ShloMosaic.PureOps

@[expose] public section

noncomputable section

namespace Cert.FfnLoads

open Idealize.ShloMosaic

variable {sig : RefSig} {κ : Kind} {sp : Space} {e : EltTy} {Val : EltTy → Type} [∀ e, Nonempty (Val e)]

/-- Two row blocks, one under the other. -/
def cat {α : Type} {n0 n1 N d : ℕ} (hN : N = n0 + n1) (w0 : (⟨2, ![n0, d]⟩ : Shape).Idx → α) (w1 : (⟨2, ![n1, d]⟩ : Shape).Idx → α) :
    (⟨2, ![N, d]⟩ : Shape).Idx → α := fun x =>
  if h : (x 0).val < n0 then w0 (ix2 ⟨(x 0).val, h⟩ (x 1))
  else w1 (ix2 ⟨(x 0).val - n0, by have h2 : (x 0).val < N := (x 0).isLt; omega⟩ (x 1))

/-- A buffer written as two row blocks holds one under the other. -/
theorem canon_cat {n0 n1 N d : ℕ} (hN : N = n0 + n1)
    (h1 : ∀ a, (![n0, 0] : Fin 2 → ℕ) a + (![n1, d] : Fin 2 → ℕ) a ≤ (⟨2, ![N, d]⟩ : Shape).size a)
    (h0 : ∀ a, (![0, 0] : Fin 2 → ℕ) a + (![n0, d] : Fin 2 → ℕ) a ≤ (⟨2, ![N, d]⟩ : Shape).size a)
    (w1 : (⟨2, ![n1, d]⟩ : Shape).Idx → Val e) (w0 : (⟨2, ![n0, d]⟩ : Shape).Idx → Val e) (x : (⟨2, ![N, d]⟩ : Shape).Idx) :
    View.canon (Val := Val) (e := e) [⟨Rect.unit (s := ⟨2, ![N, d]⟩) ![n0, 0] ![n1, d] h1, w1⟩, ⟨Rect.unit (s := ⟨2, ![N, d]⟩) ![0, 0] ![n0, d] h0, w0⟩] x
      = cat hN w0 w1 x := by
  have hx0 : (x 0).val < N := (x 0).isLt
  by_cases h : (x 0).val < n0
  · refine (View.canon_cons_of_not_mem _ _ ?_).trans ?_
    · intro hm
      obtain ⟨y, hy⟩ := LoadRect.exists_idx_of_mem _ hm
      have e1 := congrArg (fun z => (z 0).val) hy
      change n0 + 1 * (y 0).val = (x 0).val at e1
      omega
    · have ex : x = (Rect.unit (s := ⟨2, ![N, d]⟩) ![0, 0] ![n0, d] h0).emb (ix2 ⟨(x 0).val, h⟩ (x 1)) := by
        funext a; refine Fin.ext ?_
        match a with
        | 0 => change (x 0).val = 0 + 1 * (x 0).val; omega
        | 1 => change (x 1).val = 0 + 1 * (x 1).val; omega
      refine (congrArg _ ex).trans ((View.canon_cons_emb (Rect.unit (s := ⟨2, ![N, d]⟩) ![0, 0] ![n0, d] h0) w0 [] (ix2 ⟨(x 0).val, h⟩ (x 1))).trans ?_)
      unfold cat; rw [dif_pos h]
  · have ex : x = (Rect.unit (s := ⟨2, ![N, d]⟩) ![n0, 0] ![n1, d] h1).emb (ix2 ⟨(x 0).val - n0, by omega⟩ (x 1)) := by
      funext a; refine Fin.ext ?_
      match a with
      | 0 => change (x 0).val = n0 + 1 * ((x 0).val - n0); omega
      | 1 => change (x 1).val = 0 + 1 * (x 1).val; omega
    refine (congrArg _ ex).trans ((View.canon_cons_emb (Rect.unit (s := ⟨2, ![N, d]⟩) ![n0, 0] ![n1, d] h1) w1 _ (ix2 ⟨(x 0).val - n0, by omega⟩ (x 1))).trans ?_)
    unfold cat; rw [dif_neg h]

theorem load_cat {n0 n1 N d : ℕ} (hN : N = n0 + n1) (v : View sig κ sp ⟨2, ![N, d]⟩ e) (h1 h0)
    (w1 : (⟨2, ![n1, d]⟩ : Shape).Idx → Val e) (w0 : (⟨2, ![n0, d]⟩ : Shape).Idx → Val e) (lr : LoadRect ⟨2, ![N, d]⟩) :
    v.readCov [⟨Rect.unit (s := ⟨2, ![N, d]⟩) ![n0, 0] ![n1, d] h1, w1⟩, ⟨Rect.unit (s := ⟨2, ![N, d]⟩) ![0, 0] ![n0, d] h0, w0⟩] lr
      = fun j => cat hN w0 w1 (lr.idx j) := by
  rw [View.readCov_eq_canon']
  funext j
  exact canon_cat hN h1 h0 w1 w0 _

/-- The convolution scratch: four slots of eight carried rows (8 to 15) above 528 rows (16 to 543). -/
abbrev HS : Shape := ⟨3, ![4, 544, 128]⟩
abbrev SC : Shape := ⟨3, ![1, 8, 128]⟩
abbrev SH : Shape := ⟨3, ![1, 528, 128]⟩
abbrev SR : Shape := ⟨3, ![1, 512, 128]⟩

/-- 512 rows from row `15 + o` of a slot holding the carried rows `c` above the rows `h`. -/
def hcat {α : Type} (c : SC.Idx → α) (h : SH.Idx → α) (o : Fin 3) : SR.Idx → α := fun x =>
  if hx : 15 + o.val + (x 1).val < 16 then c (ix3 0 7 (x 2))
  else h (ix3 0 ⟨o.val + (x 1).val - 1, by have h2 : (x 1).val < 512 := (x 1).isLt; have := o.isLt; omega⟩ (x 2))

theorem hcat_congr {α : Type} {c c' : SC.Idx → α} {h h' : SH.Idx → α} {o : Fin 3} (hc : c = c') (hh : h = h') : hcat c h o = hcat c' h' o := by
  rw [hc, hh]

/-- A row of another slot is in neither rectangle of a slot. -/
theorem slot_skip {s s' : ℕ} (hs : s ≠ s') (r n : ℕ) (h) (w : (⟨3, ![1, n, 128]⟩ : Shape).Idx → Val e) (L : List (View.Piece Val HS e)) (x : HS.Idx)
    (hx : (x 0).val = s') :
    View.canon (⟨Rect.unit (s := HS) ![s, r, 0] ![1, n, 128] h, w⟩ :: L) x = View.canon L x := by
  refine View.canon_cons_of_not_mem _ _ ?_
  intro hm
  obtain ⟨y, hy⟩ := LoadRect.exists_idx_of_mem _ hm
  have e1 := congrArg (fun z => (z 0).val) hy
  change s + 1 * (y 0).val = (x 0).val at e1
  have hy0 : (y 0).val < 1 := (y 0).isLt
  omega

/-- What a slot holds once its rows and its carried rows are written. -/
theorem slot_hit (s : ℕ) (hs : s < 4) (hc hh) (c : SC.Idx → Val e) (h : SH.Idx → Val e) (L : List (View.Piece Val HS e)) (o : Fin 3) (hr) (j : SR.Idx) :
    View.canon (⟨Rect.unit (s := HS) ![s, 8, 0] SC.size hc, c⟩ :: ⟨Rect.unit (s := HS) ![s, 16, 0] SH.size hh, h⟩ :: L)
      ((Rect.unit (s := HS) ![s, 15 + o.val, 0] SR.size hr).toLoadRect.idx j) = hcat c h o j := by
  have hj0 : (j 0).val < 1 := (j 0).isLt
  have hj1 : (j 1).val < 512 := (j 1).isLt
  have ho := o.isLt
  by_cases hx : 15 + o.val + (j 1).val < 16
  · have ex : (Rect.unit (s := HS) ![s, 15 + o.val, 0] SR.size hr).toLoadRect.idx j
        = (Rect.unit (s := HS) ![s, 8, 0] SC.size hc).emb (ix3 0 7 (j 2)) := by
      funext a; refine Fin.ext ?_
      match a with
      | 0 => change s + 1 * (j 0).val = s + 1 * 0; omega
      | 1 => change 15 + o.val + 1 * (j 1).val = 8 + 1 * 7; omega
      | 2 => change 0 + 1 * (j 2).val = 0 + 1 * (j 2).val; omega
    refine (congrArg _ ex).trans ((View.canon_cons_emb (Rect.unit (s := HS) ![s, 8, 0] SC.size hc) c _ (ix3 0 7 (j 2))).trans ?_)
    unfold hcat; rw [dif_pos hx]
  · refine (View.canon_cons_of_not_mem _ _ ?_).trans ?_
    · intro hm
      obtain ⟨y, hy⟩ := LoadRect.exists_idx_of_mem _ hm
      have e1 := congrArg (fun z => (z 1).val) hy
      change 8 + 1 * (y 1).val = 15 + o.val + 1 * (j 1).val at e1
      have hy1 : (y 1).val < 8 := (y 1).isLt
      omega
    · have ex : (Rect.unit (s := HS) ![s, 15 + o.val, 0] SR.size hr).toLoadRect.idx j
          = (Rect.unit (s := HS) ![s, 16, 0] SH.size hh).emb (ix3 0 ⟨o.val + (j 1).val - 1, by omega⟩ (j 2)) := by
        funext a; refine Fin.ext ?_
        match a with
        | 0 => change s + 1 * (j 0).val = s + 1 * 0; omega
        | 1 => change 15 + o.val + 1 * (j 1).val = 16 + 1 * (o.val + (j 1).val - 1); omega
        | 2 => change 0 + 1 * (j 2).val = 0 + 1 * (j 2).val; omega
      refine (congrArg _ ex).trans ((View.canon_cons_emb (Rect.unit (s := HS) ![s, 16, 0] SH.size hh) h _ (ix3 0 ⟨o.val + (j 1).val - 1, by omega⟩ (j 2))).trans ?_)
      unfold hcat; rw [dif_neg hx]

variable (v : View sig κ sp HS e)

theorem row0 (s : ℕ) (o : ℕ) (hr) (j : SR.Idx) : (((Rect.unit (s := HS) ![s, o, 0] SR.size hr).toLoadRect.idx j) 0).val = s := by
  have hj0 : (j 0).val < 1 := (j 0).isLt
  change s + 1 * (j 0).val = s; omega

/-- A load of slot 3, the last written. -/
theorem conv3 (hc3 hh3) (c3 : SC.Idx → Val e) (h3 : SH.Idx → Val e) (L : List (View.Piece Val HS e)) (o : Fin 3) (hr) :
    v.readCov (⟨Rect.unit (s := HS) ![3, 8, 0] SC.size hc3, c3⟩ :: ⟨Rect.unit (s := HS) ![3, 16, 0] SH.size hh3, h3⟩ :: L)
      (Rect.unit (s := HS) ![3, 15 + o.val, 0] SR.size hr).toLoadRect = hcat c3 h3 o := by
  rw [View.readCov_eq_canon']; funext j
  exact slot_hit 3 (by decide) hc3 hh3 c3 h3 L o hr j

/-- A load of slot 2. -/
theorem conv2 (hc3 hh3) (c3 : SC.Idx → Val e) (h3 : SH.Idx → Val e) (hc2 hh2) (c2 : SC.Idx → Val e) (h2 : SH.Idx → Val e)
    (L : List (View.Piece Val HS e)) (o : Fin 3) (hr) :
    v.readCov (⟨Rect.unit (s := HS) ![3, 8, 0] SC.size hc3, c3⟩ :: ⟨Rect.unit (s := HS) ![3, 16, 0] SH.size hh3, h3⟩
      :: ⟨Rect.unit (s := HS) ![2, 8, 0] SC.size hc2, c2⟩ :: ⟨Rect.unit (s := HS) ![2, 16, 0] SH.size hh2, h2⟩ :: L)
      (Rect.unit (s := HS) ![2, 15 + o.val, 0] SR.size hr).toLoadRect = hcat c2 h2 o := by
  rw [View.readCov_eq_canon']; funext j
  have hx := row0 2 (15 + o.val) hr j
  exact (slot_skip (by decide) 8 8 hc3 c3 _ _ hx).trans ((slot_skip (by decide) 16 528 hh3 h3 _ _ hx).trans
    (slot_hit 2 (by decide) hc2 hh2 c2 h2 L o hr j))

/-- A load of slot 1. -/
theorem conv1 (hc3 hh3) (c3 : SC.Idx → Val e) (h3 : SH.Idx → Val e) (hc2 hh2) (c2 : SC.Idx → Val e) (h2 : SH.Idx → Val e)
    (hc1 hh1) (c1 : SC.Idx → Val e) (h1 : SH.Idx → Val e) (L : List (View.Piece Val HS e)) (o : Fin 3) (hr) :
    v.readCov (⟨Rect.unit (s := HS) ![3, 8, 0] SC.size hc3, c3⟩ :: ⟨Rect.unit (s := HS) ![3, 16, 0] SH.size hh3, h3⟩
      :: ⟨Rect.unit (s := HS) ![2, 8, 0] SC.size hc2, c2⟩ :: ⟨Rect.unit (s := HS) ![2, 16, 0] SH.size hh2, h2⟩
      :: ⟨Rect.unit (s := HS) ![1, 8, 0] SC.size hc1, c1⟩ :: ⟨Rect.unit (s := HS) ![1, 16, 0] SH.size hh1, h1⟩ :: L)
      (Rect.unit (s := HS) ![1, 15 + o.val, 0] SR.size hr).toLoadRect = hcat c1 h1 o := by
  rw [View.readCov_eq_canon']; funext j
  have hx := row0 1 (15 + o.val) hr j
  exact (slot_skip (by decide) 8 8 hc3 c3 _ _ hx).trans ((slot_skip (by decide) 16 528 hh3 h3 _ _ hx).trans
    ((slot_skip (by decide) 8 8 hc2 c2 _ _ hx).trans ((slot_skip (by decide) 16 528 hh2 h2 _ _ hx).trans
    (slot_hit 1 (by decide) hc1 hh1 c1 h1 L o hr j))))

/-- A load of slot 0, the first written. -/
theorem conv0 (hc3 hh3) (c3 : SC.Idx → Val e) (h3 : SH.Idx → Val e) (hc2 hh2) (c2 : SC.Idx → Val e) (h2 : SH.Idx → Val e)
    (hc1 hh1) (c1 : SC.Idx → Val e) (h1 : SH.Idx → Val e) (hc0 hh0) (c0 : SC.Idx → Val e) (h0 : SH.Idx → Val e)
    (L : List (View.Piece Val HS e)) (o : Fin 3) (hr) :
    v.readCov (⟨Rect.unit (s := HS) ![3, 8, 0] SC.size hc3, c3⟩ :: ⟨Rect.unit (s := HS) ![3, 16, 0] SH.size hh3, h3⟩
      :: ⟨Rect.unit (s := HS) ![2, 8, 0] SC.size hc2, c2⟩ :: ⟨Rect.unit (s := HS) ![2, 16, 0] SH.size hh2, h2⟩
      :: ⟨Rect.unit (s := HS) ![1, 8, 0] SC.size hc1, c1⟩ :: ⟨Rect.unit (s := HS) ![1, 16, 0] SH.size hh1, h1⟩
      :: ⟨Rect.unit (s := HS) ![0, 8, 0] SC.size hc0, c0⟩ :: ⟨Rect.unit (s := HS) ![0, 16, 0] SH.size hh0, h0⟩ :: L)
      (Rect.unit (s := HS) ![0, 15 + o.val, 0] SR.size hr).toLoadRect = hcat c0 h0 o := by
  rw [View.readCov_eq_canon']; funext j
  have hx := row0 0 (15 + o.val) hr j
  exact (slot_skip (by decide) 8 8 hc3 c3 _ _ hx).trans ((slot_skip (by decide) 16 528 hh3 h3 _ _ hx).trans
    ((slot_skip (by decide) 8 8 hc2 c2 _ _ hx).trans ((slot_skip (by decide) 16 528 hh2 h2 _ _ hx).trans
    ((slot_skip (by decide) 8 8 hc1 c1 _ _ hx).trans ((slot_skip (by decide) 16 528 hh1 h1 _ _ hx).trans
    (slot_hit 0 (by decide) hc0 hh0 c0 h0 L o hr j))))))

/-- The activations: 512 rows, written 128 lanes at a time. -/
abbrev SA : Shape := ⟨2, ![512, 2816]⟩
abbrev ST : Shape := ⟨2, ![512, 128]⟩

/-- The lanes written so far are those of a fixed family of tiles; so are they after the next tile. -/
theorem act_step (T : ℕ → ST.Idx → Val e) (n o : ℕ) (ho : o = 128 * n) {L : List (View.Piece Val SA e)} {w : ST.Idx → Val e} {h}
    (hw : w = T n)
    (hL : ∀ y : SA.Idx, (y 1).val < 128 * n → View.canon L y = T ((y 1).val / 128) (ix2 (y 0) ⟨(y 1).val % 128, Nat.mod_lt _ (by decide)⟩)) :
    ∀ y : SA.Idx, (y 1).val < 128 * (n + 1) →
      View.canon (⟨Rect.unit (s := SA) ![0, o] ST.size h, w⟩ :: L) y = T ((y 1).val / 128) (ix2 (y 0) ⟨(y 1).val % 128, Nat.mod_lt _ (by decide)⟩) := by
  intro y hy
  subst ho
  by_cases hn : (y 1).val < 128 * n
  · refine (View.canon_cons_of_not_mem _ _ ?_).trans (hL y hn)
    intro hm
    obtain ⟨z, hz⟩ := LoadRect.exists_idx_of_mem _ hm
    have e1 := congrArg (fun z => (z 1).val) hz
    change 128 * n + 1 * (z 1).val = (y 1).val at e1
    omega
  · have ex : y = (Rect.unit (s := SA) ![0, 128 * n] ST.size h).emb (ix2 (y 0) ⟨(y 1).val % 128, Nat.mod_lt _ (by decide)⟩) := by
      funext a; refine Fin.ext ?_
      match a with
      | 0 => change (y 0).val = 0 + 1 * (y 0).val; omega
      | 1 => change (y 1).val = 128 * n + 1 * ((y 1).val % 128); omega
    have en : (y 1).val / 128 = n := by omega
    refine (congrArg _ ex).trans ((View.canon_cons_emb (Rect.unit (s := SA) ![0, 128 * n] ST.size h) w L (ix2 (y 0) ⟨(y 1).val % 128, Nat.mod_lt _ (by decide)⟩)).trans ?_)
    rw [hw, en]

/-- The carried rows: 44 slots of eight rows. -/
abbrev SK : Shape := ⟨3, ![44, 8, 128]⟩

/-- The slots written so far are those of a fixed family; so are they after the next slot. -/
theorem carry_step (T : ℕ → SC.Idx → Val e) (n : ℕ) {L : List (View.Piece Val SK e)} {w : SC.Idx → Val e} {h}
    (hw : w = T n)
    (hL : ∀ y : SK.Idx, (y 0).val < n → View.canon L y = T (y 0).val (ix3 0 (y 1) (y 2))) :
    ∀ y : SK.Idx, (y 0).val < n + 1 →
      View.canon (⟨Rect.unit (s := SK) ![n, 0, 0] SC.size h, w⟩ :: L) y = T (y 0).val (ix3 0 (y 1) (y 2)) := by
  intro y hy
  by_cases hn : (y 0).val < n
  · refine (View.canon_cons_of_not_mem _ _ ?_).trans (hL y hn)
    intro hm
    obtain ⟨z, hz⟩ := LoadRect.exists_idx_of_mem _ hm
    have e1 := congrArg (fun z => (z 0).val) hz
    change n + 1 * (z 0).val = (y 0).val at e1
    omega
  · have ex : y = (Rect.unit (s := SK) ![n, 0, 0] SC.size h).emb (ix3 0 (y 1) (y 2)) := by
      funext a; refine Fin.ext ?_
      match a with
      | 0 => change (y 0).val = n + 1 * 0; omega
      | 1 => change (y 1).val = 0 + 1 * (y 1).val; omega
      | 2 => change (y 2).val = 0 + 1 * (y 2).val; omega
    have en : (y 0).val = n := by omega
    refine (congrArg _ ex).trans ((View.canon_cons_emb (Rect.unit (s := SK) ![n, 0, 0] SC.size h) w L (ix3 0 (y 1) (y 2))).trans ?_)
    rw [hw, en]

end Cert.FfnLoads

end
-- ==== Proof.FfnDefs.lean ====
/- What one grid point of the feed-forward kernel computes, as functions of its input blocks: the mixer's projection,
   the residual and the layer norm, the up projection with its causal convolution over the rows, the gated product and
   the down projection with the second layer norm. -/
module

public import proofs.«01_k».proof.Proof.Gen.KernelFIdeal.Frame
public import proofs.«01_k».proof.Proof.FfnLoads
public import Idealize.ShloMosaic.Lib.Pipeline.ValueKit
public import Idealize.ShloMosaic.Lib.WholeRead

@[expose] public section

set_option maxRecDepth 16384

noncomputable section

namespace Cert.Ffn

open Cert.KernelFIdeal Cert.KernelFIdeal.Gen Idealize.ShloMosaic Idealize.ShloMosaic.TcCoe Idealize.SL.Sem
open Cert.FfnLoads

/-- Rows `o` to `o + n - 1`. -/
def rows {α : Type} {N d : ℕ} (o n : ℕ) (h : o + n ≤ N) (w : (⟨2, ![N, d]⟩ : Shape).Idx → α) : (⟨2, ![n, d]⟩ : Shape).Idx → α :=
  fun j => w (ix2 ⟨o + (j 0).val, by have h2 : (j 0).val < n := (j 0).isLt; omega⟩ (j 1))

theorem idx_rows {N d o n : ℕ} (h : o + n ≤ N) (hh) (j : (⟨2, ![n, d]⟩ : Shape).Idx) :
    (Rect.unit (s := (⟨2, ![N, d]⟩ : Shape)) ![o, 0] ![n, d] hh).toLoadRect.idx j
      = ix2 ⟨o + (j 0).val, by have h2 : (j 0).val < n := (j 0).isLt; omega⟩ (j 1) := by
  funext a; refine Fin.ext ?_
  match a with
  | 0 => change o + 1 * (j 0).val = o + (j 0).val; omega
  | 1 => change 0 + 1 * (j 1).val = (j 1).val; omega

theorem rows_of {α : Type} {N d o n : ℕ} (h : o + n ≤ N) (hh) (w : (⟨2, ![N, d]⟩ : Shape).Idx → α) :
    (fun j => w ((Rect.unit (s := (⟨2, ![N, d]⟩ : Shape)) ![o, 0] ![n, d] hh).toLoadRect.idx j)) = rows o n h w :=
  funext fun j => congrArg w (idx_rows h hh j)

theorem rows_all {α : Type} {N d : ℕ} (w : (⟨2, ![N, d]⟩ : Shape).Idx → α) : rows 0 N (by omega) w = w := by
  funext j
  refine congrArg w ?_
  funext a; refine Fin.ext ?_
  match a with
  | 0 => change 0 + (j 0).val = (j 0).val; omega
  | 1 => rfl

/-- A load of rows of a two-row-block buffer. -/
theorem load_rows {sig : RefSig} {κ : Kind} {sp : Space} {e : EltTy} {Val : EltTy → Type} [∀ e, Nonempty (Val e)]
    {n0 n1 N d o n : ℕ} (hN : N = n0 + n1) (h : o + n ≤ N) (v : View sig κ sp ⟨2, ![N, d]⟩ e) (h1 h0 hh)
    (w1 : (⟨2, ![n1, d]⟩ : Shape).Idx → Val e) (w0 : (⟨2, ![n0, d]⟩ : Shape).Idx → Val e) :
    v.readCov [⟨Rect.unit (s := ⟨2, ![N, d]⟩) ![n0, 0] ![n1, d] h1, w1⟩, ⟨Rect.unit (s := ⟨2, ![N, d]⟩) ![0, 0] ![n0, d] h0, w0⟩]
      (Rect.unit (s := (⟨2, ![N, d]⟩ : Shape)) ![o, 0] ![n, d] hh).toLoadRect = rows o n h (cat hN w0 w1) :=
  (load_cat hN v h1 h0 w1 w0 _).trans (rows_of h hh _)

variable {F : FTy → Type} [FloatOps F] [Named F]

/-- The mixer's rows of a point, with the rows after them. -/
def ME (m : Vec F S512x1024 .bf16) (mn : Vec F S16x1024 .bf16) : Vec F S528x1024 .bf16 :=
  cat (n0 := 512) (n1 := 16) (N := 528) (d := 1024) rfl (k0_pay3 m) (k0_pay4 mn)

/-- The first residual's normed rows: the upper and the lower half. -/
def X1 (m : Vec F S512x1024 .bf16) (mn : Vec F S16x1024 .bf16) (wo : Vec F S1024x1024 .bf16) (g b : Vec F S1x1024 .f32)
    (x : Vec F S512x1024 .f32) : Vec F S512x1024 .f32 :=
  cat (n0 := 256) (n1 := 256) (N := 512) (d := 1024) rfl
    (k0_pay6 (k0_pay5 (rows (N := 528) (d := 1024) 0 256 (by omega) (ME m mn)) wo (rows (N := 512) (d := 1024) 0 256 (by omega) x)) g b)
    (k0_pay9 (k0_pay8 (rows (N := 528) (d := 1024) 256 272 (by omega) (ME m mn)) wo (rows (N := 512) (d := 1024) 256 256 (by omega) x)) g b)

/-- The product with the mixer's projection of the lower rows and of the rows after the point's own. -/
def Q (m : Vec F S512x1024 .bf16) (mn : Vec F S16x1024 .bf16) (wo : Vec F S1024x1024 .bf16) : FVec F S272x1024 .f32 :=
  k0_pay7 (rows (N := 528) (d := 1024) 256 272 (by omega) (ME m mn)) wo

/-- The normed rows, with the sixteen rows after them (zero at a sequence's end). -/
def XE (v9 : BitVec 32) (m : Vec F S512x1024 .bf16) (mn : Vec F S16x1024 .bf16) (wo : Vec F S1024x1024 .bf16) (g b : Vec F S1x1024 .f32)
    (x : Vec F S512x1024 .f32) (xn : Vec F S16x1024 .f32) : Vec F S528x1024 .bf16 :=
  cat (n0 := 512) (n1 := 16) (N := 528) (d := 1024) rfl (k0_pay14 (X1 m mn wo g b x))
    (k0_pay15 v9 (k0_pay10 (Q m mn wo) xn) (k0_pay11 g) (k0_pay12 b) (k0_pay13 (Q m mn wo) xn))

/-- 256 columns of the up projection's weight, from column `o`. -/
def wT (w : Vec F S1024x5632 .bf16) (o : ℕ) : Vec F S1024x256 .bf16 := fun x => w (ix2 (x 0) ⟨(o + (x 1).val) % 5632, Nat.mod_lt _ (by decide)⟩)
/-- 128 columns of a row of the convolution's taps, from column `o`. -/
def cwT (w : Vec F S3x5632 .f32) (r : Fin 3) (o : ℕ) : Vec F S1x128 .f32 := fun x => w (ix2 r ⟨(o + (x 1).val) % 5632, Nat.mod_lt _ (by decide)⟩)
/-- 128 columns of the convolution's bias, from column `o`. -/
def cbT (w : Vec F S1x5632 .f32) (o : ℕ) : Vec F S1x128 .f32 := fun x => w (ix2 0 ⟨(o + (x 1).val) % 5632, Nat.mod_lt _ (by decide)⟩)
/-- Slot `k` of the carried rows. -/
def carT (xs : Vec F S44x8x128 .f32) (k : ℕ) : Vec F S1x8x128 .f32 := fun x => xs (ix3 ⟨k % 44, Nat.mod_lt _ (by decide)⟩ (x 1) (x 2))

/-- A slot's carried rows, zero at a sequence's start. -/
def car (v9 : BitVec 32) (c : Vec F S1x8x128 .f32) : Vec F S1x8x128 .f32 := k0_pay21 v9 c
/-- No carried rows. -/
def ZT : Vec F S1x8x128 .f32 := shapeCast S1x8x128 (broadcast S8x128 (Scalar.ofBits .f32 0x00000000#32 : F .f32)) shapeCasts_S8x128_S1x8x128

theorem car_zero {v9 : BitVec 32} (h : v9 = 0#32) (c : Vec F S1x8x128 .f32) : car v9 c = ZT := by
  subst h; rfl

theorem car_zero3 {v9 : BitVec 32} (h : v9 = 0#32) (c : FVec F S8x128 .f32) :
    shapeCast S1x8x128 (Scalar.select (Scalar.cmpi .eq v9 0#32) (broadcast S8x128 (Scalar.ofBits .f32 0x00000000#32 : F .f32)) c) shapeCasts_S8x128_S1x8x128
      = ZT := by
  subst h; rfl

/-- The first column of the weight's tile of slot `k`. -/
def offw (k : ℕ) : ℕ := 256 * (k / 4) + 2816 * (k / 2 % 2)

def hA (xe : Vec F S528x1024 .bf16) (w : Vec F S1024x256 .bf16) : FVec F S528x256 .f32 := k0_pay16 xe w
def hT0 (H : FVec F S528x256 .f32) : FVec F S1x528x128 .f32 :=
  shapeCast S1x528x128 (extractStridedSlice S528x128 ![0, 0] H slices_S528x256_o0_0_S528x128) shapeCasts_S528x128_S1x528x128
def hT1 (H : FVec F S528x256 .f32) : FVec F S1x528x128 .f32 := k0_pay20 H
def hN0 (H : FVec F S528x256 .f32) : FVec F S1x8x128 .f32 := k0_pay19 H
def hN1 (H : FVec F S528x256 .f32) : FVec F S1x8x128 .f32 := k0_pay22 H

/-- The up projection's tile of slot `k`. -/
def hX (xe : Vec F S528x1024 .bf16) (w : Vec F S1024x5632 .bf16) (k : ℕ) : FVec F S1x528x128 .f32 :=
  if k % 2 = 0 then hT0 (hA xe (wT w (offw k))) else hT1 (hA xe (wT w (offw k)))
/-- The rows of the tile of slot `k` the next point carries. -/
def hNX (xe : Vec F S528x1024 .bf16) (w : Vec F S1024x5632 .bf16) (k : ℕ) : FVec F S1x8x128 .f32 :=
  if k % 2 = 0 then hN0 (hA xe (wT w (offw k))) else hN1 (hA xe (wT w (offw k)))

theorem hX_even {xe xe' : Vec F S528x1024 .bf16} {w : Vec F S1024x5632 .bf16} {w' : Vec F S1024x256 .bf16} (k : ℕ) (hk : k % 2 = 0)
    (hxe : xe' = xe) (hw : w' = wT w (offw k)) : hT0 (hA xe' w') = hX xe w k := by
  unfold hX; rw [if_pos hk, hxe, hw]
theorem hX_odd {xe xe' : Vec F S528x1024 .bf16} {w : Vec F S1024x5632 .bf16} {w' : Vec F S1024x256 .bf16} (k : ℕ) (hk : ¬ k % 2 = 0)
    (hxe : xe' = xe) (hw : w' = wT w (offw k)) : hT1 (hA xe' w') = hX xe w k := by
  unfold hX; rw [if_neg hk, hxe, hw]
theorem hN_even {xe xe' : Vec F S528x1024 .bf16} {w : Vec F S1024x5632 .bf16} {w' : Vec F S1024x256 .bf16} (k : ℕ) (hk : k % 2 = 0)
    (hxe : xe' = xe) (hw : w' = wT w (offw k)) : hN0 (hA xe' w') = hNX xe w k := by
  unfold hNX; rw [if_pos hk, hxe, hw]
theorem hN_odd {xe xe' : Vec F S528x1024 .bf16} {w : Vec F S1024x5632 .bf16} {w' : Vec F S1024x256 .bf16} (k : ℕ) (hk : ¬ k % 2 = 0)
    (hxe : xe' = xe) (hw : w' = wT w (offw k)) : hN1 (hA xe' w') = hNX xe w k := by
  unfold hNX; rw [if_neg hk, hxe, hw]

/-- The three-tap convolution of 512 rows. -/
def convV (cb : Vec F S1x128 .f32) (h0 : Vec F S1x512x128 .f32) (w0 : Vec F S1x128 .f32) (h1 : Vec F S1x512x128 .f32) (w1 : Vec F S1x128 .f32)
    (h2 : Vec F S1x512x128 .f32) (w2 : Vec F S1x128 .f32) : FVec F S512x128 .f32 :=
  addf (addf (addf (broadcastTo S512x128 (shapeCast S1x128 cb shapeCasts_S1x128_S1x128) broadcasts_S1x128_S512x128)
    (mulf (shapeCast S512x128 h0 shapeCasts_S1x512x128_S512x128) (broadcastTo S512x128 w0 broadcasts_S1x128_S512x128)))
    (mulf (shapeCast S512x128 h1 shapeCasts_S1x512x128_S512x128) (broadcastTo S512x128 w1 broadcasts_S1x128_S512x128)))
    (mulf (shapeCast S512x128 h2 shapeCasts_S1x512x128_S512x128) (broadcastTo S512x128 w2 broadcasts_S1x128_S512x128))

/-- The gated product of a tile. -/
def actV (g v : FVec F S512x128 .f32) : FVec F S512x128 .bf16 :=
  shapeCast S512x128 (truncf .bf16 (mulf (mulf g (divf (broadcast S512x128 (Scalar.ofBits .f32 0x3F800000#32 : F .f32))
    (addf (broadcast S512x128 (Scalar.ofBits .f32 0x3F800000#32 : F .f32))
      (exp (subf (broadcast S512x128 (Scalar.ofBits .f32 0x00000000#32 : F .f32)) g))))) v) bitsLt_bf16_f32) shapeCasts_S512x128_S512x128

/-- The slot of tile `n`'s gate; its value's is two further. -/
def kg (n : ℕ) : ℕ := 4 * (n / 2) + n % 2

/-- The activations' tile `n`. -/
def ACT (xe : Vec F S528x1024 .bf16) (w : Vec F S1024x5632 .bf16) (cw : Vec F S3x5632 .f32) (cb : Vec F S1x5632 .f32) (cc : ℕ → Vec F S1x8x128 .f32)
    (n : ℕ) : Vec F S512x128 .bf16 :=
  actV
    (convV (cbT cb (128 * n)) (hcat (cc (kg n)) (hX xe w (kg n)) 0) (cwT cw 0 (128 * n)) (hcat (cc (kg n)) (hX xe w (kg n)) 1) (cwT cw 1 (128 * n))
      (hcat (cc (kg n)) (hX xe w (kg n)) 2) (cwT cw 2 (128 * n)))
    (convV (cbT cb (2816 + 128 * n)) (hcat (cc (kg n + 2)) (hX xe w (kg n + 2)) 0) (cwT cw 0 (2816 + 128 * n)) (hcat (cc (kg n + 2)) (hX xe w (kg n + 2)) 1)
      (cwT cw 1 (2816 + 128 * n)) (hcat (cc (kg n + 2)) (hX xe w (kg n + 2)) 2) (cwT cw 2 (2816 + 128 * n)))

theorem act_of {xe : Vec F S528x1024 .bf16} {w : Vec F S1024x5632 .bf16} {cw : Vec F S3x5632 .f32} {cb : Vec F S1x5632 .f32}
    {cc : ℕ → Vec F S1x8x128 .f32} (n : ℕ) {cbg cbv wg0 wg1 wg2 wv0 wv1 wv2 : Vec F S1x128 .f32} {g0 g1 g2 v0 v1 v2 : Vec F S1x512x128 .f32}
    (hcbg : cbg = cbT cb (128 * n)) (hg0 : g0 = hcat (cc (kg n)) (hX xe w (kg n)) 0) (hwg0 : wg0 = cwT cw 0 (128 * n))
    (hg1 : g1 = hcat (cc (kg n)) (hX xe w (kg n)) 1) (hwg1 : wg1 = cwT cw 1 (128 * n))
    (hg2 : g2 = hcat (cc (kg n)) (hX xe w (kg n)) 2) (hwg2 : wg2 = cwT cw 2 (128 * n))
    (hcbv : cbv = cbT cb (2816 + 128 * n)) (hv0 : v0 = hcat (cc (kg n + 2)) (hX xe w (kg n + 2)) 0) (hwv0 : wv0 = cwT cw 0 (2816 + 128 * n))
    (hv1 : v1 = hcat (cc (kg n + 2)) (hX xe w (kg n + 2)) 1) (hwv1 : wv1 = cwT cw 1 (2816 + 128 * n))
    (hv2 : v2 = hcat (cc (kg n + 2)) (hX xe w (kg n + 2)) 2) (hwv2 : wv2 = cwT cw 2 (2816 + 128 * n)) :
    actV (convV cbg g0 wg0 g1 wg1 g2 wg2) (convV cbv v0 wv0 v1 wv1 v2 wv2) = ACT xe w cw cb cc n := by
  rw [hcbg, hg0, hwg0, hg1, hwg1, hg2, hwg2, hcbv, hv0, hwv0, hv1, hwv1, hv2, hwv2]; rfl

/-- All the activations. -/
def ACTALL (xe : Vec F S528x1024 .bf16) (w : Vec F S1024x5632 .bf16) (cw : Vec F S3x5632 .f32) (cb : Vec F S1x5632 .f32) (cc : ℕ → Vec F S1x8x128 .f32) :
    Vec F S512x2816 .bf16 := fun y =>
  ACT xe w cw cb cc ((y 1).val / 128) (ix2 (y 0) ⟨(y 1).val % 128, Nat.mod_lt _ (by decide)⟩)

/-- What a point stores, from its activations and its normed rows. -/
def FIN (a : Vec F S512x2816 .bf16) (wd : Vec F S2816x1024 .bf16) (x1 : Vec F S512x1024 .f32) (g b : Vec F S1x1024 .f32) : Vec F S512x1024 .f32 :=
  cat (n0 := 256) (n1 := 256) (N := 512) (d := 1024) rfl
    (k0_pay282 (rows (N := 512) (d := 2816) 0 256 (by omega) a) wd (rows (N := 512) (d := 1024) 0 256 (by omega) x1) g b)
    (k0_pay1 (rows (N := 512) (d := 2816) 256 256 (by omega) a) (k0_pay283 wd) (rows (N := 512) (d := 1024) 256 256 (by omega) x1) g b)

/-! Equal inputs give equal results, one lemma per fused step. -/
theorem pay5_congr {a a' : Vec F S256x1024 .bf16} {b b' : Vec F S1024x1024 .bf16} {c c' : Vec F S256x1024 .f32} (ha : a' = a) (hb : b' = b) (hc : c' = c) :
    k0_pay5 (F := F) a' b' c' = k0_pay5 (F := F) a b c := by rw [ha, hb, hc]
theorem pay6_congr {a a' : FVec F S256x1024 .f32} {b b' : Vec F S1x1024 .f32} {c c' : Vec F S1x1024 .f32} (ha : a' = a) (hb : b' = b) (hc : c' = c) :
    k0_pay6 (F := F) a' b' c' = k0_pay6 (F := F) a b c := by rw [ha, hb, hc]
theorem pay7_congr {a a' : Vec F S272x1024 .bf16} {b b' : Vec F S1024x1024 .bf16} (ha : a' = a) (hb : b' = b) :
    k0_pay7 (F := F) a' b' = k0_pay7 (F := F) a b := by rw [ha, hb]
theorem pay8_congr {a a' : Vec F S272x1024 .bf16} {b b' : Vec F S1024x1024 .bf16} {c c' : Vec F S256x1024 .f32} (ha : a' = a) (hb : b' = b) (hc : c' = c) :
    k0_pay8 (F := F) a' b' c' = k0_pay8 (F := F) a b c := by rw [ha, hb, hc]
theorem pay9_congr {a a' : FVec F S256x1024 .f32} {b b' : Vec F S1x1024 .f32} {c c' : Vec F S1x1024 .f32} (ha : a' = a) (hb : b' = b) (hc : c' = c) :
    k0_pay9 (F := F) a' b' c' = k0_pay9 (F := F) a b c := by rw [ha, hb, hc]
theorem pay10_congr {a a' : FVec F S272x1024 .f32} {b b' : Vec F S16x1024 .f32} (ha : a' = a) (hb : b' = b) :
    k0_pay10 (F := F) a' b' = k0_pay10 (F := F) a b := by rw [ha, hb]
theorem pay13_congr {a a' : FVec F S272x1024 .f32} {b b' : Vec F S16x1024 .f32} (ha : a' = a) (hb : b' = b) :
    k0_pay13 (F := F) a' b' = k0_pay13 (F := F) a b := by rw [ha, hb]
theorem pay15_congr (v : BitVec 32) {a a' : FVec F S16x1024 .f32} {b b' : FVec F S1x1024 .f32} {c c' : FVec F S1x1024 .f32} {d d' : FVec F S16x1024 .f32} (ha : a' = a) (hb : b' = b) (hc : c' = c) (hd : d' = d) :
    k0_pay15 (F := F) v a' b' c' d' = k0_pay15 (F := F) v a b c d := by rw [ha, hb, hc, hd]
theorem pay282_congr {a a' : Vec F S256x2816 .bf16} {b b' : Vec F S2816x1024 .bf16} {c c' : Vec F S256x1024 .f32} {d d' : Vec F S1x1024 .f32} {e e' : Vec F S1x1024 .f32} (ha : a' = a) (hb : b' = b) (hc : c' = c) (hd : d' = d) (he : e' = e) :
    k0_pay282 (F := F) a' b' c' d' e' = k0_pay282 (F := F) a b c d e := by rw [ha, hb, hc, hd, he]
theorem pay1_congr {a a' : Vec F S256x2816 .bf16} {b b' : FVec F S2816x1024 .bf16} {c c' : Vec F S256x1024 .f32} {d d' : Vec F S1x1024 .f32} {e e' : Vec F S1x1024 .f32} (ha : a' = a) (hb : b' = b) (hc : c' = c) (hd : d' = d) (he : e' = e) :
    k0_pay1 (F := F) a' b' c' d' e' = k0_pay1 (F := F) a b c d e := by rw [ha, hb, hc, hd, he]

/-! The indices the loads of tiles read. -/
theorem cb_idx (o : ℕ) (ho : o + 128 ≤ 5632) (h) (x : S1x128.Idx) : (Rect.unit (s := S1x5632) ![0, o] S1x128.size h).toLoadRect.idx x
    = ix2 0 ⟨(o + (x 1).val) % 5632, Nat.mod_lt _ (by decide)⟩ := by
  have h0 : (x 0).val < 1 := (x 0).isLt
  have h1 : (x 1).val < 128 := (x 1).isLt
  funext a; refine Fin.ext ?_
  match a with
  | 0 => change 0 + 1 * (x 0).val = 0; omega
  | 1 => change o + 1 * (x 1).val = (o + (x 1).val) % 5632; omega
theorem cw_idx (r : Fin 3) (o : ℕ) (ho : o + 128 ≤ 5632) (h) (x : S1x128.Idx) : (Rect.unit (s := S3x5632) ![r.val, o] S1x128.size h).toLoadRect.idx x
    = ix2 r ⟨(o + (x 1).val) % 5632, Nat.mod_lt _ (by decide)⟩ := by
  have h0 : (x 0).val < 1 := (x 0).isLt
  have h1 : (x 1).val < 128 := (x 1).isLt
  funext a; refine Fin.ext ?_
  match a with
  | 0 => change r.val + 1 * (x 0).val = r.val; omega
  | 1 => change o + 1 * (x 1).val = (o + (x 1).val) % 5632; omega
theorem w_idx (o : ℕ) (ho : o + 256 ≤ 5632) (h) (x : S1024x256.Idx) : (Rect.unit (s := S1024x5632) ![0, o] S1024x256.size h).toLoadRect.idx x
    = ix2 (x 0) ⟨(o + (x 1).val) % 5632, Nat.mod_lt _ (by decide)⟩ := by
  have h1 : (x 1).val < 256 := (x 1).isLt
  funext a; refine Fin.ext ?_
  match a with
  | 0 => change 0 + 1 * (x 0).val = (x 0).val; omega
  | 1 => change o + 1 * (x 1).val = (o + (x 1).val) % 5632; omega
theorem car_idx (k : ℕ) (hk : k < 44) (h) (x : S1x8x128.Idx) : (Rect.unit (s := S44x8x128) ![k, 0, 0] S1x8x128.size h).toLoadRect.idx x
    = ix3 ⟨k % 44, Nat.mod_lt _ (by decide)⟩ (x 1) (x 2) := by
  have h0 : (x 0).val < 1 := (x 0).isLt
  funext a; refine Fin.ext ?_
  match a with
  | 0 => change k + 1 * (x 0).val = k % 44; omega
  | 1 => change 0 + 1 * (x 1).val = (x 1).val; omega
  | 2 => change 0 + 1 * (x 2).val = (x 2).val; omega

end Cert.Ffn

end
-- ==== Proof.FfnMath.lean ====
/- The feed-forward kernel's steps, element by element, over the extended reals. -/
module

public import proofs.«01_k».proof.Proof.FfnDefs
public import Idealize.ShloMosaic.Lib.Pipeline.ValueKit
public import Idealize.ShloMosaic.Lib.Pointwise

@[expose] public section

set_option maxRecDepth 16384

noncomputable section

namespace Cert.Ffn

open Cert.KernelFIdeal Cert.KernelFIdeal.Gen Idealize.ShloMosaic Idealize.ShloMosaic.TcCoe Idealize.SL.Sem
open Cert.FfnLoads

/-- The residual's scale, the row length and the layer norm's epsilon, as the words denote them. -/
def cα : EReal := Ideal.ofBits .f32 0x3FD744FD#32
def cN : EReal := Ideal.ofBits .f32 0x44800000#32
def cE : EReal := Ideal.ofBits .f32 0x3727C5AC#32

theorem zero_eq : Ideal.ofBits .f32 0x00000000#32 = 0 := by simp [Ideal.ofBits, Ideal.ieee]

/-- A row's mean. -/
def mean (y : Fin 1024 → EReal) : EReal := Ideal.div (∑ k, y k) cN
/-- The layer norm of a row. -/
def LN (y g b : Fin 1024 → EReal) (k : Fin 1024) : EReal :=
  (y k - mean y) * Ideal.rsqrt (mean (fun j => (y j - mean y) * (y j - mean y)) + cE) * g k + b k

theorem pay6_at (y : FVec Ideal S256x1024 .f32) (g b : Vec Ideal S1x1024 .f32) (r : Fin 256) (k : Fin 1024) :
    k0_pay6 y g b (ix2 r k) = LN (fun j => y (ix2 r j)) (fun j => g (ix2 0 j)) (fun j => b (ix2 0 j)) k := by
  pointwise [k0_pay6, zero_eq]
  rfl

theorem pay9_at (y : FVec Ideal S256x1024 .f32) (g b : Vec Ideal S1x1024 .f32) (r : Fin 256) (k : Fin 1024) :
    k0_pay9 y g b (ix2 r k) = LN (fun j => y (ix2 r j)) (fun j => g (ix2 0 j)) (fun j => b (ix2 0 j)) k := by
  pointwise [k0_pay9, zero_eq]
  rfl

theorem pay5_at (a : Vec Ideal S256x1024 .bf16) (w : Vec Ideal S1024x1024 .bf16) (x : Vec Ideal S256x1024 .f32) (r : Fin 256) (k : Fin 1024) :
    k0_pay5 a w x (ix2 r k) = cα * x (ix2 r k) + ∑ j : Fin 1024, a (ix2 r j) * w (ix2 j k) := by
  pointwise [k0_pay5, zero_eq]
  rfl

theorem pay7_at (a : Vec Ideal S272x1024 .bf16) (w : Vec Ideal S1024x1024 .bf16) (r : Fin 272) (k : Fin 1024) :
    k0_pay7 a w (ix2 r k) = ∑ j : Fin 1024, a (ix2 r j) * w (ix2 j k) := by
  pointwise [k0_pay7, zero_eq]

theorem pay8_at (a : Vec Ideal S272x1024 .bf16) (w : Vec Ideal S1024x1024 .bf16) (x : Vec Ideal S256x1024 .f32) (r : Fin 256) (k : Fin 1024) :
    k0_pay8 a w x (ix2 r k) = cα * x (ix2 r k) + ∑ j : Fin 1024, a (ix2 ⟨r.val, by omega⟩ j) * w (ix2 j k) := by
  pointwise [k0_pay8, pay7_at]
  rfl

theorem pay10_at (q : FVec Ideal S272x1024 .f32) (x : Vec Ideal S16x1024 .f32) (r : Fin 16) (k : Fin 1024) :
    k0_pay10 q x (ix2 r k) = cα * x (ix2 r k) + q (ix2 ⟨256 + r.val, by omega⟩ k) := by
  pointwise [k0_pay10]
  rfl

theorem pay13_at (q : FVec Ideal S272x1024 .f32) (x : Vec Ideal S16x1024 .f32) (r : Fin 16) (k : Fin 1024) :
    k0_pay13 q x (ix2 r k) = mean fun j => cα * x (ix2 r j) + q (ix2 ⟨256 + r.val, by omega⟩ j) := by
  pointwise [k0_pay13, pay10_at, zero_eq]
  rfl

/-- The rows after the point's own, when they are of the same sequence. -/
theorem pay15_at (v : BitVec 32) (hv : v ≠ 7#32) (y : FVec Ideal S16x1024 .f32) (g b : FVec Ideal S1x1024 .f32) (u : FVec Ideal S16x1024 .f32) (r : Fin 16)
    (hu : ∀ k, u (ix2 r k) = mean fun j => y (ix2 r j)) (k : Fin 1024) :
    k0_pay15 v y g b u (ix2 r k) = LN (fun j => y (ix2 r j)) (fun j => g (ix2 0 j)) (fun j => b (ix2 0 j)) k := by
  have h : Scalar.cmpi .eq v 7#32 = 0#1 := by simp [Scalar.cmpi, IntOp.cmpi, beq_false_of_ne hv]
  pointwise [k0_pay15, zero_eq, h, hu]
  rfl

/-- The rows after a sequence's end are zero. -/
theorem pay15_zero (y : FVec Ideal S16x1024 .f32) (g b : FVec Ideal S1x1024 .f32) (u : FVec Ideal S16x1024 .f32) (r : Fin 16) (k : Fin 1024) :
    k0_pay15 7#32 y g b u (ix2 r k) = (0 : EReal) := by
  pointwise [k0_pay15, zero_eq]

theorem pay14_at (x : Vec Ideal S512x1024 .f32) (r : Fin 512) (k : Fin 1024) : k0_pay14 x (ix2 r k) = x (ix2 r k) := by
  pointwise [k0_pay14]

theorem pay16_at (xe : Vec Ideal S528x1024 .bf16) (w : Vec Ideal S1024x256 .bf16) (r : Fin 528) (k : Fin 256) :
    k0_pay16 xe w (ix2 r k) = ∑ j : Fin 1024, xe (ix2 r j) * w (ix2 j k) := by
  pointwise [k0_pay16, zero_eq]

theorem hT0_at (H : FVec Ideal S528x256 .f32) (r : Fin 528) (l : Fin 128) : hT0 H (ix3 0 r l) = H (ix2 r ⟨l.val, by omega⟩) := by
  pointwise [hT0]

theorem hT1_at (H : FVec Ideal S528x256 .f32) (r : Fin 528) (l : Fin 128) : hT1 H (ix3 0 r l) = H (ix2 r ⟨128 + l.val, by omega⟩) := by
  pointwise [hT1, k0_pay20]

theorem hN0_at (H : FVec Ideal S528x256 .f32) (r : Fin 8) (l : Fin 128) : hN0 H (ix3 0 r l) = H (ix2 ⟨504 + r.val, by omega⟩ ⟨l.val, by omega⟩) := by
  pointwise [hN0, k0_pay19]

theorem hN1_at (H : FVec Ideal S528x256 .f32) (r : Fin 8) (l : Fin 128) : hN1 H (ix3 0 r l) = H (ix2 ⟨504 + r.val, by omega⟩ ⟨128 + l.val, by omega⟩) := by
  pointwise [hN1, k0_pay22]

/-- Column `l` of slot `k`, among the up projection's. -/
def col (k : ℕ) (l : Fin 128) : Fin 5632 := ⟨(offw k + (128 * (k % 2) + l.val)) % 5632, Nat.mod_lt _ (by decide)⟩

theorem hX_at (xe : Vec Ideal S528x1024 .bf16) (w : Vec Ideal S1024x5632 .bf16) (k : ℕ) (r : Fin 528) (l : Fin 128) :
    hX xe w k (ix3 0 r l) = ∑ j : Fin 1024, xe (ix2 r j) * w (ix2 j (col k l)) := by
  unfold hX
  split
  · rename_i h
    rw [hT0_at, hA, pay16_at]
    refine Finset.sum_congr rfl fun j _ => congrArg (xe (ix2 r j) * ·) (congrArg (fun z => w (ix2 j z)) (Fin.ext ?_))
    show (offw k + l.val) % 5632 = (offw k + (128 * (k % 2) + l.val)) % 5632
    rw [h]; simp
  · rename_i h
    rw [hT1_at, hA, pay16_at]
    refine Finset.sum_congr rfl fun j _ => congrArg (xe (ix2 r j) * ·) (congrArg (fun z => w (ix2 j z)) (Fin.ext ?_))
    show (offw k + (128 + l.val)) % 5632 = (offw k + (128 * (k % 2) + l.val)) % 5632
    have : k % 2 = 1 := by omega
    rw [this]

theorem hNX_at (xe : Vec Ideal S528x1024 .bf16) (w : Vec Ideal S1024x5632 .bf16) (k : ℕ) (r : Fin 8) (l : Fin 128) :
    hNX xe w k (ix3 0 r l) = ∑ j : Fin 1024, xe (ix2 ⟨504 + r.val, by omega⟩ j) * w (ix2 j (col k l)) := by
  unfold hNX
  split
  · rename_i h
    rw [hN0_at, hA, pay16_at]
    refine Finset.sum_congr rfl fun j _ => congrArg (xe (ix2 _ j) * ·) (congrArg (fun z => w (ix2 j z)) (Fin.ext ?_))
    show (offw k + l.val) % 5632 = (offw k + (128 * (k % 2) + l.val)) % 5632
    rw [h]; simp
  · rename_i h
    rw [hN1_at, hA, pay16_at]
    refine Finset.sum_congr rfl fun j _ => congrArg (xe (ix2 _ j) * ·) (congrArg (fun z => w (ix2 j z)) (Fin.ext ?_))
    show (offw k + (128 + l.val)) % 5632 = (offw k + (128 * (k % 2) + l.val)) % 5632
    have : k % 2 = 1 := by omega
    rw [this]

theorem ZT_at (x : S1x8x128.Idx) : (ZT : Vec Ideal S1x8x128 .f32) x = (0 : EReal) := by
  unfold ZT
  exact zero_eq

theorem car_at (v : BitVec 32) (hv : v ≠ 0#32) (c : Vec Ideal S1x8x128 .f32) (r : Fin 8) (l : Fin 128) : car v c (ix3 0 r l) = c (ix3 0 r l) := by
  have h : Scalar.cmpi .eq v 0#32 = 0#1 := by simp [Scalar.cmpi, IntOp.cmpi, beq_false_of_ne hv]
  pointwise [car, k0_pay21, h]

/-- The three-tap convolution of a column. -/
def cv (b p0 w0 p1 w1 p2 w2 : EReal) : EReal := b + p0 * w0 + p1 * w1 + p2 * w2
/-- The gated product. -/
def gt (g v : EReal) : EReal := g * Ideal.div 1 (1 + Ideal.exp (0 - g)) * v

theorem convV_at (cb : Vec Ideal S1x128 .f32) (h0 : Vec Ideal S1x512x128 .f32) (w0 : Vec Ideal S1x128 .f32) (h1 : Vec Ideal S1x512x128 .f32) (w1 : Vec Ideal S1x128 .f32)
    (h2 : Vec Ideal S1x512x128 .f32) (w2 : Vec Ideal S1x128 .f32) (r : Fin 512) (l : Fin 128) :
    convV cb h0 w0 h1 w1 h2 w2 (ix2 r l) = cv (cb (ix2 0 l)) (h0 (ix3 0 r l)) (w0 (ix2 0 l)) (h1 (ix3 0 r l)) (w1 (ix2 0 l)) (h2 (ix3 0 r l)) (w2 (ix2 0 l)) := by
  pointwise [convV]
  rfl

theorem actV_at (g v : FVec Ideal S512x128 .f32) (r : Fin 512) (l : Fin 128) : actV g v (ix2 r l) = gt (g (ix2 r l)) (v (ix2 r l)) := by
  pointwise [actV, zero_eq]
  rfl

theorem pay282_at (a : Vec Ideal S256x2816 .bf16) (w : Vec Ideal S2816x1024 .bf16) (x : Vec Ideal S256x1024 .f32) (g b : Vec Ideal S1x1024 .f32) (r : Fin 256) (k : Fin 1024) :
    k0_pay282 a w x g b (ix2 r k) = LN (fun i => cα * x (ix2 r i) + ∑ j : Fin 2816, a (ix2 r j) * w (ix2 j i)) (fun j => g (ix2 0 j)) (fun j => b (ix2 0 j)) k := by
  pointwise [k0_pay282, zero_eq]
  rfl

theorem pay1_at (a : Vec Ideal S256x2816 .bf16) (w : Vec Ideal S2816x1024 .bf16) (x : Vec Ideal S256x1024 .f32) (g b : Vec Ideal S1x1024 .f32) (r : Fin 256) (k : Fin 1024) :
    k0_pay1 a (k0_pay283 w) x g b (ix2 r k) = LN (fun i => cα * x (ix2 r i) + ∑ j : Fin 2816, a (ix2 r j) * w (ix2 j i)) (fun j => g (ix2 0 j)) (fun j => b (ix2 0 j)) k := by
  pointwise [k0_pay1, k0_pay283, zero_eq]
  rfl

end Cert.Ffn

end
-- ==== Proof.Ffn1Defs.lean ====
/- What one grid point of the feed-forward kernel without the mixer computes, as functions of its input blocks: the up
   projection with its causal convolution over the rows, the gated product and the down projection with the layer norm. -/
module

public import proofs.«01_k».proof.Proof.Gen.KernelGIdeal.Frame
public import proofs.«01_k».proof.Proof.FfnMath

@[expose] public section

set_option maxRecDepth 16384

noncomputable section

namespace Cert.Ffn1

open Cert.KernelGIdeal Cert.KernelGIdeal.Gen Idealize.ShloMosaic Idealize.ShloMosaic.TcCoe Idealize.SL.Sem
open Cert.FfnLoads
open Cert.Ffn (rows idx_rows rows_of rows_all load_rows offw kg)

variable {F : FTy → Type} [FloatOps F]

/-- The rows after a point's own, zero at a sequence's end. -/
def nx (v9 : BitVec 32) (x : Vec F S16x1024 .f32) : FVec F S16x1024 .bf16 :=
  shapeCast S16x1024 (truncf .bf16 (Scalar.select (Scalar.cmpi .eq v9 7#32) (broadcast S16x1024 (Scalar.ofBits .f32 0x00000000#32 : F .f32))
    (shapeCast S16x1024 x shapeCasts_S16x1024_S16x1024)) bitsLt_bf16_f32) shapeCasts_S16x1024_S16x1024

/-- A point's rows, with the sixteen rows after them. -/
def XE (v9 : BitVec 32) (x : Vec F S512x1024 .f32) (xn : Vec F S16x1024 .f32) : Vec F S528x1024 .bf16 :=
  cat (n0 := 512) (n1 := 16) (N := 528) (d := 1024) rfl (k0_pay2 x) (nx v9 xn)

/-- 256 columns of the up projection's weight, from column `o`. -/
def wT (w : Vec F S1024x5632 .bf16) (o : ℕ) : Vec F S1024x256 .bf16 := fun x => w (ix2 (x 0) ⟨(o + (x 1).val) % 5632, Nat.mod_lt _ (by decide)⟩)
/-- 128 columns of a row of the convolution's taps, from column `o`. -/
def cwT (w : Vec F S3x5632 .f32) (r : Fin 3) (o : ℕ) : Vec F S1x128 .f32 := fun x => w (ix2 r ⟨(o + (x 1).val) % 5632, Nat.mod_lt _ (by decide)⟩)
/-- 128 columns of the convolution's bias, from column `o`. -/
def cbT (w : Vec F S1x5632 .f32) (o : ℕ) : Vec F S1x128 .f32 := fun x => w (ix2 0 ⟨(o + (x 1).val) % 5632, Nat.mod_lt _ (by decide)⟩)
/-- Slot `k` of the carried rows. -/
def carT (xs : Vec F S44x8x128 .f32) (k : ℕ) : Vec F S1x8x128 .f32 := fun x => xs (ix3 ⟨k % 44, Nat.mod_lt _ (by decide)⟩ (x 1) (x 2))

/-- A slot's carried rows, zero at a sequence's start. -/
def car (v9 : BitVec 32) (c : Vec F S1x8x128 .f32) : Vec F S1x8x128 .f32 := k0_pay7 v9 c
/-- No carried rows. -/
def ZT : Vec F S1x8x128 .f32 := shapeCast S1x8x128 (broadcast S8x128 (Scalar.ofBits .f32 0x00000000#32 : F .f32)) shapeCasts_S8x128_S1x8x128

theorem car_zero {v9 : BitVec 32} (h : v9 = 0#32) (c : Vec F S1x8x128 .f32) : car v9 c = ZT := by
  subst h; rfl

theorem car_zero3 {v9 : BitVec 32} (h : v9 = 0#32) (c : FVec F S8x128 .f32) :
    shapeCast S1x8x128 (Scalar.select (Scalar.cmpi .eq v9 0#32) (broadcast S8x128 (Scalar.ofBits .f32 0x00000000#32 : F .f32)) c) shapeCasts_S8x128_S1x8x128
      = ZT := by
  subst h; rfl

def hA (xe : Vec F S528x1024 .bf16) (w : Vec F S1024x256 .bf16) : FVec F S528x256 .f32 := k0_pay4 xe w
def hT0 (H : FVec F S528x256 .f32) : FVec F S1x528x128 .f32 :=
  shapeCast S1x528x128 (extractStridedSlice S528x128 ![0, 0] H slices_S528x256_o0_0_S528x128) shapeCasts_S528x128_S1x528x128
def hT1 (H : FVec F S528x256 .f32) : FVec F S1x528x128 .f32 := k0_pay9 H
def hN0 (H : FVec F S528x256 .f32) : FVec F S1x8x128 .f32 := k0_pay8 H
def hN1 (H : FVec F S528x256 .f32) : FVec F S1x8x128 .f32 :=
  shapeCast S1x8x128 (extractStridedSlice S8x128 ![504, 128] H slices_S528x256_o504_128_S8x128) shapeCasts_S8x128_S1x8x128

/-- The up projection's tile of slot `k`. -/
def hX (xe : Vec F S528x1024 .bf16) (w : Vec F S1024x5632 .bf16) (k : ℕ) : FVec F S1x528x128 .f32 :=
  if k % 2 = 0 then hT0 (hA xe (wT w (offw k))) else hT1 (hA xe (wT w (offw k)))
/-- The rows of the tile of slot `k` the next point carries. -/
def hNX (xe : Vec F S528x1024 .bf16) (w : Vec F S1024x5632 .bf16) (k : ℕ) : FVec F S1x8x128 .f32 :=
  if k % 2 = 0 then hN0 (hA xe (wT w (offw k))) else hN1 (hA xe (wT w (offw k)))

theorem hX_even {xe xe' : Vec F S528x1024 .bf16} {w : Vec F S1024x5632 .bf16} {w' : Vec F S1024x256 .bf16} (k : ℕ) (hk : k % 2 = 0)
    (hxe : xe' = xe) (hw : w' = wT w (offw k)) : hT0 (hA xe' w') = hX xe w k := by
  unfold hX; rw [if_pos hk, hxe, hw]
theorem hX_odd {xe xe' : Vec F S528x1024 .bf16} {w : Vec F S1024x5632 .bf16} {w' : Vec F S1024x256 .bf16} (k : ℕ) (hk : ¬ k % 2 = 0)
    (hxe : xe' = xe) (hw : w' = wT w (offw k)) : hT1 (hA xe' w') = hX xe w k := by
  unfold hX; rw [if_neg hk, hxe, hw]
theorem hN_even {xe xe' : Vec F S528x1024 .bf16} {w : Vec F S1024x5632 .bf16} {w' : Vec F S1024x256 .bf16} (k : ℕ) (hk : k % 2 = 0)
    (hxe : xe' = xe) (hw : w' = wT w (offw k)) : hN0 (hA xe' w') = hNX xe w k := by
  unfold hNX; rw [if_pos hk, hxe, hw]
theorem hN_odd {xe xe' : Vec F S528x1024 .bf16} {w : Vec F S1024x5632 .bf16} {w' : Vec F S1024x256 .bf16} (k : ℕ) (hk : ¬ k % 2 = 0)
    (hxe : xe' = xe) (hw : w' = wT w (offw k)) : hN1 (hA xe' w') = hNX xe w k := by
  unfold hNX; rw [if_neg hk, hxe, hw]

/-- The three-tap convolution of 512 rows. -/
def convV (cb : Vec F S1x128 .f32) (h0 : Vec F S1x512x128 .f32) (w0 : Vec F S1x128 .f32) (h1 : Vec F S1x512x128 .f32) (w1 : Vec F S1x128 .f32)
    (h2 : Vec F S1x512x128 .f32) (w2 : Vec F S1x128 .f32) : FVec F S512x128 .f32 :=
  addf (addf (addf (broadcastTo S512x128 (shapeCast S1x128 cb shapeCasts_S1x128_S1x128) broadcasts_S1x128_S512x128)
    (mulf (shapeCast S512x128 h0 shapeCasts_S1x512x128_S512x128) (broadcastTo S512x128 w0 broadcasts_S1x128_S512x128)))
    (mulf (shapeCast S512x128 h1 shapeCasts_S1x512x128_S512x128) (broadcastTo S512x128 w1 broadcasts_S1x128_S512x128)))
    (mulf (shapeCast S512x128 h2 shapeCasts_S1x512x128_S512x128) (broadcastTo S512x128 w2 broadcasts_S1x128_S512x128))

/-- The gated product of a tile. -/
def actV (g v : FVec F S512x128 .f32) : FVec F S512x128 .bf16 :=
  shapeCast S512x128 (truncf .bf16 (mulf (mulf g (divf (broadcast S512x128 (Scalar.ofBits .f32 0x3F800000#32 : F .f32))
    (addf (broadcast S512x128 (Scalar.ofBits .f32 0x3F800000#32 : F .f32))
      (exp (subf (broadcast S512x128 (Scalar.ofBits .f32 0x00000000#32 : F .f32)) g))))) v) bitsLt_bf16_f32) shapeCasts_S512x128_S512x128

/-- The activations' tile `n`. -/
def ACT (xe : Vec F S528x1024 .bf16) (w : Vec F S1024x5632 .bf16) (cw : Vec F S3x5632 .f32) (cb : Vec F S1x5632 .f32) (cc : ℕ → Vec F S1x8x128 .f32)
    (n : ℕ) : Vec F S512x128 .bf16 :=
  actV
    (convV (cbT cb (128 * n)) (hcat (cc (kg n)) (hX xe w (kg n)) 0) (cwT cw 0 (128 * n)) (hcat (cc (kg n)) (hX xe w (kg n)) 1) (cwT cw 1 (128 * n))
      (hcat (cc (kg n)) (hX xe w (kg n)) 2) (cwT cw 2 (128 * n)))
    (convV (cbT cb (2816 + 128 * n)) (hcat (cc (kg n + 2)) (hX xe w (kg n + 2)) 0) (cwT cw 0 (2816 + 128 * n)) (hcat (cc (kg n + 2)) (hX xe w (kg n + 2)) 1)
      (cwT cw 1 (2816 + 128 * n)) (hcat (cc (kg n + 2)) (hX xe w (kg n + 2)) 2) (cwT cw 2 (2816 + 128 * n)))

theorem act_of {xe : Vec F S528x1024 .bf16} {w : Vec F S1024x5632 .bf16} {cw : Vec F S3x5632 .f32} {cb : Vec F S1x5632 .f32}
    {cc : ℕ → Vec F S1x8x128 .f32} (n : ℕ) {cbg cbv wg0 wg1 wg2 wv0 wv1 wv2 : Vec F S1x128 .f32} {g0 g1 g2 v0 v1 v2 : Vec F S1x512x128 .f32}
    (hcbg : cbg = cbT cb (128 * n)) (hg0 : g0 = hcat (cc (kg n)) (hX xe w (kg n)) 0) (hwg0 : wg0 = cwT cw 0 (128 * n))
    (hg1 : g1 = hcat (cc (kg n)) (hX xe w (kg n)) 1) (hwg1 : wg1 = cwT cw 1 (128 * n))
    (hg2 : g2 = hcat (cc (kg n)) (hX xe w (kg n)) 2) (hwg2 : wg2 = cwT cw 2 (128 * n))
    (hcbv : cbv = cbT cb (2816 + 128 * n)) (hv0 : v0 = hcat (cc (kg n + 2)) (hX xe w (kg n + 2)) 0) (hwv0 : wv0 = cwT cw 0 (2816 + 128 * n))
    (hv1 : v1 = hcat (cc (kg n + 2)) (hX xe w (kg n + 2)) 1) (hwv1 : wv1 = cwT cw 1 (2816 + 128 * n))
    (hv2 : v2 = hcat (cc (kg n + 2)) (hX xe w (kg n + 2)) 2) (hwv2 : wv2 = cwT cw 2 (2816 + 128 * n)) :
    actV (convV cbg g0 wg0 g1 wg1 g2 wg2) (convV cbv v0 wv0 v1 wv1 v2 wv2) = ACT xe w cw cb cc n := by
  rw [hcbg, hg0, hwg0, hg1, hwg1, hg2, hwg2, hcbv, hv0, hwv0, hv1, hwv1, hv2, hwv2]; rfl

/-- All the activations. -/
def ACTALL (xe : Vec F S528x1024 .bf16) (w : Vec F S1024x5632 .bf16) (cw : Vec F S3x5632 .f32) (cb : Vec F S1x5632 .f32) (cc : ℕ → Vec F S1x8x128 .f32) :
    Vec F S512x2816 .bf16 := fun y =>
  ACT xe w cw cb cc ((y 1).val / 128) (ix2 (y 0) ⟨(y 1).val % 128, Nat.mod_lt _ (by decide)⟩)

/-- What a point stores, from its activations and its rows. -/
def FIN (a : Vec F S512x2816 .bf16) (wd : Vec F S2816x1024 .bf16) (x : Vec F S512x1024 .f32) (g b : Vec F S1x1024 .f32) : Vec F S512x1024 .f32 :=
  cat (n0 := 256) (n1 := 256) (N := 512) (d := 1024) rfl
    (k0_pay273 (rows (N := 512) (d := 2816) 0 256 (by omega) a) wd (rows (N := 512) (d := 1024) 0 256 (by omega) x) g b)
    (k0_pay274 (rows (N := 512) (d := 2816) 256 256 (by omega) a) wd (rows (N := 512) (d := 1024) 256 256 (by omega) x) g b)

/-! Equal inputs give equal results, one lemma per fused step. -/
theorem pay273_congr {a a' : Vec F S256x2816 .bf16} {b b' : Vec F S2816x1024 .bf16} {c c' : Vec F S256x1024 .f32} {d d' : Vec F S1x1024 .f32} {e e' : Vec F S1x1024 .f32}
    (ha : a' = a) (hb : b' = b) (hc : c' = c) (hd : d' = d) (he : e' = e) : k0_pay273 (F := F) a' b' c' d' e' = k0_pay273 (F := F) a b c d e := by
  rw [ha, hb, hc, hd, he]
theorem pay274_congr {a a' : Vec F S256x2816 .bf16} {b b' : Vec F S2816x1024 .bf16} {c c' : Vec F S256x1024 .f32} {d d' : Vec F S1x1024 .f32} {e e' : Vec F S1x1024 .f32}
    (ha : a' = a) (hb : b' = b) (hc : c' = c) (hd : d' = d) (he : e' = e) : k0_pay274 (F := F) a' b' c' d' e' = k0_pay274 (F := F) a b c d e := by
  rw [ha, hb, hc, hd, he]

/-! The indices the loads of tiles read. -/
theorem cb_idx (o : ℕ) (ho : o + 128 ≤ 5632) (h) (x : S1x128.Idx) : (Rect.unit (s := S1x5632) ![0, o] S1x128.size h).toLoadRect.idx x
    = ix2 0 ⟨(o + (x 1).val) % 5632, Nat.mod_lt _ (by decide)⟩ := by
  have h0 : (x 0).val < 1 := (x 0).isLt
  have h1 : (x 1).val < 128 := (x 1).isLt
  funext a; refine Fin.ext ?_
  match a with
  | 0 => change 0 + 1 * (x 0).val = 0; omega
  | 1 => change o + 1 * (x 1).val = (o + (x 1).val) % 5632; omega
theorem cw_idx (r : Fin 3) (o : ℕ) (ho : o + 128 ≤ 5632) (h) (x : S1x128.Idx) : (Rect.unit (s := S3x5632) ![r.val, o] S1x128.size h).toLoadRect.idx x
    = ix2 r ⟨(o + (x 1).val) % 5632, Nat.mod_lt _ (by decide)⟩ := by
  have h0 : (x 0).val < 1 := (x 0).isLt
  have h1 : (x 1).val < 128 := (x 1).isLt
  funext a; refine Fin.ext ?_
  match a with
  | 0 => change r.val + 1 * (x 0).val = r.val; omega
  | 1 => change o + 1 * (x 1).val = (o + (x 1).val) % 5632; omega
theorem w_idx (o : ℕ) (ho : o + 256 ≤ 5632) (h) (x : S1024x256.Idx) : (Rect.unit (s := S1024x5632) ![0, o] S1024x256.size h).toLoadRect.idx x
    = ix2 (x 0) ⟨(o + (x 1).val) % 5632, Nat.mod_lt _ (by decide)⟩ := by
  have h1 : (x 1).val < 256 := (x 1).isLt
  funext a; refine Fin.ext ?_
  match a with
  | 0 => change 0 + 1 * (x 0).val = (x 0).val; omega
  | 1 => change o + 1 * (x 1).val = (o + (x 1).val) % 5632; omega
theorem car_idx (k : ℕ) (hk : k < 44) (h) (x : S1x8x128.Idx) : (Rect.unit (s := S44x8x128) ![k, 0, 0] S1x8x128.size h).toLoadRect.idx x
    = ix3 ⟨k % 44, Nat.mod_lt _ (by decide)⟩ (x 1) (x 2) := by
  have h0 : (x 0).val < 1 := (x 0).isLt
  funext a; refine Fin.ext ?_
  match a with
  | 0 => change k + 1 * (x 0).val = k % 44; omega
  | 1 => change 0 + 1 * (x 1).val = (x 1).val; omega
  | 2 => change 0 + 1 * (x 2).val = (x 2).val; omega

end Cert.Ffn1

end
-- ==== Proof.FfnPoint.lean ====
/- What one grid point of the feed-forward kernel computes, row by row, over the extended reals: the specification of a row,
   and the point's block of rows as that specification, from what its input blocks and its carried rows hold. -/
module

public import proofs.«01_k».proof.Proof.FfnMath

@[expose] public section

set_option maxRecDepth 16384

noncomputable section

namespace Cert.Ffn

open Cert.KernelFIdeal Cert.KernelFIdeal.Gen Idealize.ShloMosaic Idealize.ShloMosaic.TcCoe Idealize.SL.Sem
open Cert.FfnLoads

/-- The arguments, with the rows of all sequences in one numbering: sequence `b`'s row `s` is row `4096 * b + s`. -/
structure P where
  M : ℕ → Fin 1024 → EReal
  X : ℕ → Fin 1024 → EReal
  WO : Fin 1024 → Fin 1024 → EReal
  G1 : Fin 1024 → EReal
  B1 : Fin 1024 → EReal
  W : Fin 1024 → Fin 5632 → EReal
  CW : Fin 3 → Fin 5632 → EReal
  CB : Fin 5632 → EReal
  WD : Fin 2816 → Fin 1024 → EReal
  G2 : Fin 1024 → EReal
  B2 : Fin 1024 → EReal

variable (p : P)

/-- The first residual's normed row. -/
def n1 (r : ℕ) : Fin 1024 → EReal := LN (fun i => cα * p.X r i + ∑ j : Fin 1024, p.M r j * p.WO j i) p.G1 p.B1
/-- The row's up projection. -/
def up (r : ℕ) (c : Fin 5632) : EReal := ∑ j : Fin 1024, n1 p r j * p.W j c
/-- The row before's, zero at a sequence's start. -/
def pm (r : ℕ) (c : Fin 5632) : EReal := if r % 4096 = 0 then 0 else up p (r - 1) c
/-- The row after's, zero at a sequence's end. -/
def pp (r : ℕ) (c : Fin 5632) : EReal := if r % 4096 = 4095 then 0 else up p (r + 1) c
/-- The row's convolution. -/
def cvr (r : ℕ) (c : Fin 5632) : EReal := cv (p.CB c) (pm p r c) (p.CW 0 c) (up p r c) (p.CW 1 c) (pp p r c) (p.CW 2 c)
/-- The row's activations. -/
def act (r : ℕ) (k : Fin 2816) : EReal := gt (cvr p r ⟨k.val, by omega⟩) (cvr p r ⟨2816 + k.val, by omega⟩)
/-- The row's output. -/
def out (r : ℕ) : Fin 1024 → EReal := LN (fun i => cα * n1 p r i + ∑ j : Fin 2816, act p r j * p.WD j i) p.G2 p.B2

/-- The input blocks of the point whose first row is `512 * t`. -/
structure Blk (t : ℕ) (x0 : Vec Ideal S512x1024 .bf16) (x1 : Vec Ideal S16x1024 .bf16) (x2 : Vec Ideal S1024x1024 .bf16) (x3 x4 : Vec Ideal S1x1024 .f32)
    (x5 : Vec Ideal S512x1024 .f32) (x6 : Vec Ideal S16x1024 .f32) (x7 : Vec Ideal S1024x5632 .bf16) (x8 : Vec Ideal S3x5632 .f32) (x9 : Vec Ideal S1x5632 .f32)
    (x10 : Vec Ideal S2816x1024 .bf16) (x11 x12 : Vec Ideal S1x1024 .f32) : Prop where
  h0 : ∀ r j, x0 (ix2 r j) = p.M (512 * t + r.val) j
  h1 : t % 8 ≠ 7 → ∀ j, x1 (ix2 0 j) = p.M (512 * t + 512) j
  h2 : ∀ i j, x2 (ix2 i j) = p.WO i j
  h3 : ∀ j, x3 (ix2 0 j) = p.G1 j
  h4 : ∀ j, x4 (ix2 0 j) = p.B1 j
  h5 : ∀ r j, x5 (ix2 r j) = p.X (512 * t + r.val) j
  h6 : t % 8 ≠ 7 → ∀ j, x6 (ix2 0 j) = p.X (512 * t + 512) j
  h7 : ∀ i j, x7 (ix2 i j) = p.W i j
  h8 : ∀ i j, x8 (ix2 i j) = p.CW i j
  h9 : ∀ j, x9 (ix2 0 j) = p.CB j
  h10 : ∀ i j, x10 (ix2 i j) = p.WD i j
  h11 : ∀ j, x11 (ix2 0 j) = p.G2 j
  h12 : ∀ j, x12 (ix2 0 j) = p.B2 j

theorem cat_lo {α : Type} {m0 m1 N d : ℕ} (hN : N = m0 + m1) (w0 : (⟨2, ![m0, d]⟩ : Shape).Idx → α) (w1 : (⟨2, ![m1, d]⟩ : Shape).Idx → α)
    (r : Fin N) (k : Fin d) (h : r.val < m0) : cat hN w0 w1 (ix2 r k) = w0 (ix2 ⟨r.val, h⟩ k) := dif_pos h

theorem cat_hi {α : Type} {m0 m1 N d : ℕ} (hN : N = m0 + m1) (w0 : (⟨2, ![m0, d]⟩ : Shape).Idx → α) (w1 : (⟨2, ![m1, d]⟩ : Shape).Idx → α)
    (r : Fin N) (k : Fin d) (h : ¬ r.val < m0) : cat hN w0 w1 (ix2 r k) = w1 (ix2 ⟨r.val - m0, by omega⟩ k) := dif_neg h

theorem rows_at {α : Type} {N d : ℕ} (o n : ℕ) (h : o + n ≤ N) (w : (⟨2, ![N, d]⟩ : Shape).Idx → α) (r : Fin n) (k : Fin d) :
    rows o n h w (ix2 r k) = w (ix2 ⟨o + r.val, by omega⟩ k) := rfl

theorem pay3_at (x : Vec Ideal S512x1024 .bf16) (r : Fin 512) (k : Fin 1024) : k0_pay3 x (ix2 r k) = x (ix2 r k) := by
  pointwise [k0_pay3]
theorem pay4_at (x : Vec Ideal S16x1024 .bf16) (r : Fin 16) (k : Fin 1024) : k0_pay4 x (ix2 r k) = x (ix2 r k) := by
  pointwise [k0_pay4]
theorem pay11_at (x : Vec Ideal S1x1024 .f32) (k : Fin 1024) : k0_pay11 x (ix2 0 k) = x (ix2 0 k) := by
  pointwise [k0_pay11]
theorem pay12_at (x : Vec Ideal S1x1024 .f32) (k : Fin 1024) : k0_pay12 x (ix2 0 k) = x (ix2 0 k) := by
  pointwise [k0_pay12]

theorem LN_congr {y y' g g' b b' : Fin 1024 → EReal} (hy : ∀ j, y j = y' j) (hg : ∀ j, g j = g' j) (hb : ∀ j, b j = b' j) (k : Fin 1024) :
    LN y g b k = LN y' g' b' k := by
  rw [funext hy, funext hg, funext hb]

variable {p} {t : ℕ} {x0 : Vec Ideal S512x1024 .bf16} {x1 : Vec Ideal S16x1024 .bf16} {x2 : Vec Ideal S1024x1024 .bf16} {x3 x4 : Vec Ideal S1x1024 .f32}
    {x5 : Vec Ideal S512x1024 .f32} {x6 : Vec Ideal S16x1024 .f32} {x7 : Vec Ideal S1024x5632 .bf16} {x8 : Vec Ideal S3x5632 .f32} {x9 : Vec Ideal S1x5632 .f32}
    {x10 : Vec Ideal S2816x1024 .bf16} {x11 x12 : Vec Ideal S1x1024 .f32} (H : Blk p t x0 x1 x2 x3 x4 x5 x6 x7 x8 x9 x10 x11 x12)

theorem ME_lo (r : Fin 528) (k : Fin 1024) (h : r.val < 512) : ME x0 x1 (ix2 r k) = x0 (ix2 ⟨r.val, h⟩ k) :=
  (cat_lo (m0 := 512) (m1 := 16) (N := 528) (d := 1024) rfl _ _ r k h).trans (pay3_at x0 ⟨r.val, h⟩ k)

theorem ME_hi (r : Fin 528) (k : Fin 1024) (h : ¬ r.val < 512) : ME x0 x1 (ix2 r k) = x1 (ix2 ⟨r.val - 512, by omega⟩ k) :=
  (cat_hi (m0 := 512) (m1 := 16) (N := 528) (d := 1024) rfl _ _ r k h).trans (pay4_at x1 ⟨r.val - 512, by omega⟩ k)

theorem cv_congr {b b' p0 p0' w0 w0' p1 p1' w1 w1' p2 p2' w2 w2' : EReal} (hb : b = b') (h0 : p0 = p0') (k0 : w0 = w0') (h1 : p1 = p1') (k1 : w1 = w1')
    (h2 : p2 = p2') (k2 : w2 = w2') : cv b p0 w0 p1 w1 p2 w2 = cv b' p0' w0' p1' w1' p2' w2' := by
  rw [hb, h0, k0, h1, k1, h2, k2]

include H in
/-- The point's normed rows. -/
theorem X1_at (r : Fin 512) (k : Fin 1024) : X1 x0 x1 x2 x3 x4 x5 (ix2 r k) = n1 p (512 * t + r.val) k := by
  unfold X1 n1
  by_cases h : r.val < 256
  · refine (cat_lo (m0 := 256) (m1 := 256) (N := 512) (d := 1024) rfl _ _ r k h).trans ((pay6_at _ _ _ _ _).trans ?_)
    refine LN_congr (fun i => ?_) H.h3 H.h4 k
    refine (pay5_at _ _ _ _ _).trans (congrArg₂ (· + ·) (congrArg (cα * ·) ?_) (Finset.sum_congr rfl fun j _ => congrArg₂ (· * ·) ?_ (H.h2 _ _)))
    · refine (rows_at (N := 512) (d := 1024) 0 256 (by omega) x5 _ _).trans ((H.h5 _ _).trans (congrArg (fun z => p.X z i) ?_))
      show 512 * t + (0 + r.val) = _; omega
    · refine (rows_at (N := 528) (d := 1024) 0 256 (by omega) (ME x0 x1) _ _).trans ((ME_lo _ _ (by show 0 + r.val < 512; omega)).trans
        ((H.h0 _ _).trans (congrArg (fun z => p.M z j) ?_)))
      show 512 * t + (0 + r.val) = _; omega
  · refine (cat_hi (m0 := 256) (m1 := 256) (N := 512) (d := 1024) rfl _ _ r k h).trans ((pay9_at _ _ _ _ _).trans ?_)
    refine LN_congr (fun i => ?_) H.h3 H.h4 k
    refine (pay8_at _ _ _ _ _).trans (congrArg₂ (· + ·) (congrArg (cα * ·) ?_) (Finset.sum_congr rfl fun j _ => congrArg₂ (· * ·) ?_ (H.h2 _ _)))
    · refine (rows_at (N := 512) (d := 1024) 256 256 (by omega) x5 _ _).trans ((H.h5 _ _).trans (congrArg (fun z => p.X z i) ?_))
      show 512 * t + (256 + (r.val - 256)) = _; omega
    · refine (rows_at (N := 528) (d := 1024) 256 272 (by omega) (ME x0 x1) _ _).trans ((ME_lo _ _ (by show 256 + (r.val - 256) < 512; omega)).trans
        ((H.h0 _ _).trans (congrArg (fun z => p.M z j) ?_)))
      show 512 * t + (256 + (r.val - 256)) = _; omega

include H in
/-- The point's normed rows, and the row after them. -/
theorem XE_at (v : BitVec 32) (hv : v = 7#32 ↔ t % 8 = 7) (r : Fin 528) (hr : r.val < 513) (k : Fin 1024) :
    XE v x0 x1 x2 x3 x4 x5 x6 (ix2 r k) = if r.val = 512 ∧ t % 8 = 7 then (0 : EReal) else n1 p (512 * t + r.val) k := by
  unfold XE
  by_cases h : r.val < 512
  · refine (cat_lo (m0 := 512) (m1 := 16) (N := 528) (d := 1024) rfl _ _ r k h).trans ((pay14_at _ _ _).trans ((X1_at H _ _).trans ?_))
    rw [if_neg (by omega)]
  · have h5 : r.val = 512 := by omega
    refine (cat_hi (m0 := 512) (m1 := 16) (N := 528) (d := 1024) rfl _ _ r k h).trans ?_
    have e0 : (⟨r.val - 512, by omega⟩ : Fin 16) = 0 := Fin.ext (by show r.val - 512 = 0; omega)
    rw [e0]
    by_cases h7 : t % 8 = 7
    · rw [if_pos ⟨h5, h7⟩, hv.mpr h7]
      exact pay15_zero _ _ _ _ _ _
    · rw [if_neg (fun hh => h7 hh.2)]
      refine (pay15_at v (fun hh => h7 (hv.mp hh)) _ _ _ _ _ (fun k' => ?_) k).trans ?_
      · refine (pay13_at _ _ _ _).trans (congrArg mean (funext fun j => (pay10_at _ _ _ _).symm))
      · unfold n1
        refine LN_congr (fun i => ?_) (fun j => (pay11_at _ _).trans (H.h3 j)) (fun j => (pay12_at _ _).trans (H.h4 j)) k
        refine (pay10_at _ _ _ _).trans (congrArg₂ (· + ·) (congrArg (cα * ·) ?_) ?_)
        · rw [h5]; exact H.h6 h7 i
        · refine (pay7_at _ _ _ _).trans (Finset.sum_congr rfl fun j _ => congrArg₂ (· * ·) ?_ (H.h2 _ _))
          refine (rows_at (N := 528) (d := 1024) 256 272 (by omega) (ME x0 x1) _ _).trans ((ME_hi _ _ (by show ¬ 256 + (256 + 0) < 512; omega)).trans ?_)
          rw [h5]; exact H.h1 h7 j

include H in
/-- The point's up projection, of a slot's columns. -/
theorem hX_row (v : BitVec 32) (hv : v = 7#32 ↔ t % 8 = 7) (k : ℕ) (r : Fin 528) (hr : r.val < 513) (l : Fin 128) :
    hX (XE v x0 x1 x2 x3 x4 x5 x6) x7 k (ix3 0 r l) = if r.val = 512 ∧ t % 8 = 7 then (0 : EReal) else up p (512 * t + r.val) (col k l) := by
  refine (hX_at _ _ _ _ _).trans ?_
  by_cases h : r.val = 512 ∧ t % 8 = 7
  · rw [if_pos h]
    refine Finset.sum_eq_zero fun j _ => ?_
    rw [XE_at H v hv r hr j, if_pos h, zero_mul]
  · rw [if_neg h]
    refine Finset.sum_congr rfl fun j _ => ?_
    rw [XE_at H v hv r hr j, if_neg h, H.h7]

include H in
/-- The last row a point carries, of a slot's columns. -/
theorem hNX_row (v : BitVec 32) (hv : v = 7#32 ↔ t % 8 = 7) (k : ℕ) (l : Fin 128) :
    hNX (XE v x0 x1 x2 x3 x4 x5 x6) x7 k (ix3 0 7 l) = up p (512 * t + 511) (col k l) := by
  refine (hNX_at _ _ _ _ _).trans ?_
  refine Finset.sum_congr rfl fun j _ => ?_
  rw [H.h7]
  refine congrArg (· * p.W j (col k l)) ((XE_at H v hv ⟨504 + 7, by omega⟩ (by show 504 + 7 < 513; omega) j).trans ?_)
  rw [if_neg (by show ¬ (504 + 7 = 512 ∧ _); omega)]

include H in
/-- The three rows a convolution reads. -/
theorem hcat0 (v : BitVec 32) (hv : v = 7#32 ↔ t % 8 = 7) (c : Vec Ideal S1x8x128 .f32) (k : ℕ)
    (hc : ∀ l, c (ix3 0 7 l) = if t % 8 = 0 then (0 : EReal) else up p (512 * t - 1) (col k l)) (r : Fin 512) (l : Fin 128) :
    hcat c (hX (XE v x0 x1 x2 x3 x4 x5 x6) x7 k) 0 (ix3 0 r l) = pm p (512 * t + r.val) (col k l) := by
  unfold pm
  by_cases h : r.val = 0
  · refine (dif_pos (show 15 + 0 + r.val < 16 by omega)).trans ((hc l).trans ?_)
    by_cases h8 : t % 8 = 0
    · rw [if_pos h8, if_pos (by omega)]
    · rw [if_neg h8, if_neg (by omega), h]; rfl
  · refine (dif_neg (show ¬ 15 + 0 + r.val < 16 by omega)).trans ((hX_row H v hv k _ (by show 0 + r.val - 1 < 513; omega) l).trans ?_)
    rw [if_neg (by show ¬ (0 + r.val - 1 = 512 ∧ _); omega), if_neg (by omega)]
    refine congrArg (fun z => up p z (col k l)) ?_
    show 512 * t + (0 + r.val - 1) = 512 * t + r.val - 1
    omega

include H in
theorem hcat1 (v : BitVec 32) (hv : v = 7#32 ↔ t % 8 = 7) (c : Vec Ideal S1x8x128 .f32) (k : ℕ) (r : Fin 512) (l : Fin 128) :
    hcat c (hX (XE v x0 x1 x2 x3 x4 x5 x6) x7 k) 1 (ix3 0 r l) = up p (512 * t + r.val) (col k l) := by
  refine (dif_neg (show ¬ 15 + 1 + r.val < 16 by omega)).trans ((hX_row H v hv k _ (by show 1 + r.val - 1 < 513; omega) l).trans ?_)
  rw [if_neg (by show ¬ (1 + r.val - 1 = 512 ∧ _); omega)]
  refine congrArg (fun z => up p z (col k l)) ?_
  show 512 * t + (1 + r.val - 1) = 512 * t + r.val
  omega

include H in
theorem hcat2 (v : BitVec 32) (hv : v = 7#32 ↔ t % 8 = 7) (c : Vec Ideal S1x8x128 .f32) (k : ℕ) (r : Fin 512) (l : Fin 128) :
    hcat c (hX (XE v x0 x1 x2 x3 x4 x5 x6) x7 k) 2 (ix3 0 r l) = pp p (512 * t + r.val) (col k l) := by
  unfold pp
  refine (dif_neg (show ¬ 15 + 2 + r.val < 16 by omega)).trans ((hX_row H v hv k _ (by show 2 + r.val - 1 < 513; omega) l).trans ?_)
  by_cases h : r.val = 511 ∧ t % 8 = 7
  · rw [if_pos (by show 2 + r.val - 1 = 512 ∧ _; omega), if_pos (by omega)]
  · rw [if_neg (by show ¬ (2 + r.val - 1 = 512 ∧ _); omega), if_neg (by omega)]
    refine congrArg (fun z => up p z (col k l)) ?_
    show 512 * t + (2 + r.val - 1) = 512 * t + r.val + 1
    omega

include H in
/-- A convolution of a slot, at a row. -/
theorem conv_row (v : BitVec 32) (hv : v = 7#32 ↔ t % 8 = 7) (c : Vec Ideal S1x8x128 .f32) (k o : ℕ)
    (hc : ∀ l, c (ix3 0 7 l) = if t % 8 = 0 then (0 : EReal) else up p (512 * t - 1) (col k l)) (r : Fin 512) (l : Fin 128)
    (ho : (o + l.val) % 5632 = (col k l).val) :
    convV (cbT x9 o) (hcat c (hX (XE v x0 x1 x2 x3 x4 x5 x6) x7 k) 0) (cwT x8 0 o) (hcat c (hX (XE v x0 x1 x2 x3 x4 x5 x6) x7 k) 1) (cwT x8 1 o)
      (hcat c (hX (XE v x0 x1 x2 x3 x4 x5 x6) x7 k) 2) (cwT x8 2 o) (ix2 r l) = cvr p (512 * t + r.val) (col k l) := by
  have ec : (⟨(o + l.val) % 5632, Nat.mod_lt _ (by decide)⟩ : Fin 5632) = col k l := Fin.ext ho
  have ew : ∀ q : Fin 3, cwT x8 q o (ix2 0 l) = p.CW q (col k l) := fun q => (congrArg (fun z => x8 (ix2 q z)) ec).trans (H.h8 q _)
  refine (convV_at _ _ _ _ _ _ _ _ _).trans ?_
  exact cv_congr ((congrArg (fun z => x9 (ix2 0 z)) ec).trans (H.h9 _)) (hcat0 H v hv c k hc r l) (ew 0) (hcat1 H v hv c k r l) (ew 1) (hcat2 H v hv c k r l) (ew 2)

include H in
/-- The point's activations. -/
theorem act_row (v : BitVec 32) (hv : v = 7#32 ↔ t % 8 = 7) (cc : ℕ → Vec Ideal S1x8x128 .f32)
    (hc : ∀ k, k < 44 → ∀ l, cc k (ix3 0 7 l) = if t % 8 = 0 then (0 : EReal) else up p (512 * t - 1) (col k l)) (r : Fin 512) (j : Fin 2816) :
    ACTALL (XE v x0 x1 x2 x3 x4 x5 x6) x7 x8 x9 cc (ix2 r j) = act p (512 * t + r.val) j := by
  show ACT (XE v x0 x1 x2 x3 x4 x5 x6) x7 x8 x9 cc (j.val / 128) (ix2 r ⟨j.val % 128, Nat.mod_lt _ (by decide)⟩) = _
  have hj := j.isLt
  have hg : (col (kg (j.val / 128)) ⟨j.val % 128, Nat.mod_lt _ (by decide)⟩ : Fin 5632) = ⟨j.val, by omega⟩ := Fin.ext (by
    show (256 * ((4 * (j.val / 128 / 2) + j.val / 128 % 2) / 4) + 2816 * ((4 * (j.val / 128 / 2) + j.val / 128 % 2) / 2 % 2)
      + (128 * ((4 * (j.val / 128 / 2) + j.val / 128 % 2) % 2) + j.val % 128)) % 5632 = j.val
    omega)
  have hv2 : (col (kg (j.val / 128) + 2) ⟨j.val % 128, Nat.mod_lt _ (by decide)⟩ : Fin 5632) = ⟨2816 + j.val, by omega⟩ := Fin.ext (by
    show (256 * ((4 * (j.val / 128 / 2) + j.val / 128 % 2 + 2) / 4) + 2816 * ((4 * (j.val / 128 / 2) + j.val / 128 % 2 + 2) / 2 % 2)
      + (128 * ((4 * (j.val / 128 / 2) + j.val / 128 % 2 + 2) % 2) + j.val % 128)) % 5632 = 2816 + j.val
    omega)
  unfold ACT act
  refine (actV_at _ _ _ _).trans (congrArg₂ gt ?_ ?_)
  · refine (conv_row H v hv _ (kg (j.val / 128)) _ (hc _ (by show 4 * (j.val / 128 / 2) + j.val / 128 % 2 < 44; omega)) r _ ?_).trans (by rw [hg])
    rw [hg]; show (128 * (j.val / 128) + j.val % 128) % 5632 = j.val; omega
  · refine (conv_row H v hv _ (kg (j.val / 128) + 2) _ (hc _ (by show 4 * (j.val / 128 / 2) + j.val / 128 % 2 + 2 < 44; omega)) r _ ?_).trans (by rw [hv2])
    rw [hv2]; show (2816 + 128 * (j.val / 128) + j.val % 128) % 5632 = 2816 + j.val; omega

include H in
/-- The point's output. -/
theorem fin_row (v : BitVec 32) (hv : v = 7#32 ↔ t % 8 = 7) (cc : ℕ → Vec Ideal S1x8x128 .f32)
    (hc : ∀ k, k < 44 → ∀ l, cc k (ix3 0 7 l) = if t % 8 = 0 then (0 : EReal) else up p (512 * t - 1) (col k l)) (r : Fin 512) (k : Fin 1024) :
    FIN (ACTALL (XE v x0 x1 x2 x3 x4 x5 x6) x7 x8 x9 cc) x10 (X1 x0 x1 x2 x3 x4 x5) x11 x12 (ix2 r k) = out p (512 * t + r.val) k := by
  unfold FIN out
  by_cases h : r.val < 256
  · refine (cat_lo (m0 := 256) (m1 := 256) (N := 512) (d := 1024) rfl _ _ r k h).trans ((pay282_at _ _ _ _ _ _ _).trans ?_)
    refine LN_congr (fun i => congrArg₂ (· + ·) (congrArg (cα * ·) ?_) (Finset.sum_congr rfl fun j _ => congrArg₂ (· * ·) ?_ (H.h10 _ _))) H.h11 H.h12 k
    · refine (rows_at (N := 512) (d := 1024) 0 256 (by omega) _ _ _).trans ((X1_at H _ _).trans (congrArg (fun z => n1 p z i) ?_))
      show 512 * t + (0 + r.val) = _; omega
    · refine (rows_at (N := 512) (d := 2816) 0 256 (by omega) _ _ _).trans ((act_row H v hv cc hc _ _).trans (congrArg (fun z => act p z j) ?_))
      show 512 * t + (0 + r.val) = _; omega
  · refine (cat_hi (m0 := 256) (m1 := 256) (N := 512) (d := 1024) rfl _ _ r k h).trans ((pay1_at _ _ _ _ _ _ _).trans ?_)
    refine LN_congr (fun i => congrArg₂ (· + ·) (congrArg (cα * ·) ?_) (Finset.sum_congr rfl fun j _ => congrArg₂ (· * ·) ?_ (H.h10 _ _))) H.h11 H.h12 k
    · refine (rows_at (N := 512) (d := 1024) 256 256 (by omega) _ _ _).trans ((X1_at H _ _).trans (congrArg (fun z => n1 p z i) ?_))
      show 512 * t + (256 + (r.val - 256)) = _; omega
    · refine (rows_at (N := 512) (d := 2816) 256 256 (by omega) _ _ _).trans ((act_row H v hv cc hc _ _).trans (congrArg (fun z => act p z j) ?_))
      show 512 * t + (256 + (r.val - 256)) = _; omega

end Cert.Ffn

end
-- ==== Proof.Ffn1Point.lean ====
/- The feed-forward kernel without the mixer, element by element over the extended reals: the specification of a row, and
   the point's block of rows as that specification, from what its input blocks and its carried rows hold. -/
module

public import proofs.«01_k».proof.Proof.Ffn1Defs
public import proofs.«01_k».proof.Proof.FfnPoint

@[expose] public section

set_option maxRecDepth 16384

noncomputable section

namespace Cert.Ffn1

open Cert.KernelGIdeal Cert.KernelGIdeal.Gen Idealize.ShloMosaic Idealize.ShloMosaic.TcCoe Idealize.SL.Sem
open Cert.FfnLoads
open Cert.Ffn (rows rows_of rows_all load_rows offw kg zero_eq cα cN cE mean LN col cv gt cat_lo cat_hi rows_at LN_congr cv_congr)

theorem pay4_at (xe : Vec Ideal S528x1024 .bf16) (w : Vec Ideal S1024x256 .bf16) (r : Fin 528) (k : Fin 256) :
    k0_pay4 xe w (ix2 r k) = ∑ j : Fin 1024, xe (ix2 r j) * w (ix2 j k) := by
  pointwise [k0_pay4, zero_eq]

theorem hT0_at (H : FVec Ideal S528x256 .f32) (r : Fin 528) (l : Fin 128) : hT0 H (ix3 0 r l) = H (ix2 r ⟨l.val, by omega⟩) := by
  pointwise [hT0]

theorem hT1_at (H : FVec Ideal S528x256 .f32) (r : Fin 528) (l : Fin 128) : hT1 H (ix3 0 r l) = H (ix2 r ⟨128 + l.val, by omega⟩) := by
  pointwise [hT1, k0_pay9]

theorem hN0_at (H : FVec Ideal S528x256 .f32) (r : Fin 8) (l : Fin 128) : hN0 H (ix3 0 r l) = H (ix2 ⟨504 + r.val, by omega⟩ ⟨l.val, by omega⟩) := by
  pointwise [hN0, k0_pay8]

theorem hN1_at (H : FVec Ideal S528x256 .f32) (r : Fin 8) (l : Fin 128) : hN1 H (ix3 0 r l) = H (ix2 ⟨504 + r.val, by omega⟩ ⟨128 + l.val, by omega⟩) := by
  pointwise [hN1]

theorem hX_at (xe : Vec Ideal S528x1024 .bf16) (w : Vec Ideal S1024x5632 .bf16) (k : ℕ) (r : Fin 528) (l : Fin 128) :
    hX xe w k (ix3 0 r l) = ∑ j : Fin 1024, xe (ix2 r j) * w (ix2 j (col k l)) := by
  unfold hX
  split
  · rename_i h
    rw [hT0_at, hA, pay4_at]
    refine Finset.sum_congr rfl fun j _ => congrArg (xe (ix2 r j) * ·) (congrArg (fun z => w (ix2 j z)) (Fin.ext ?_))
    show (offw k + l.val) % 5632 = (offw k + (128 * (k % 2) + l.val)) % 5632
    rw [h]; simp
  · rename_i h
    rw [hT1_at, hA, pay4_at]
    refine Finset.sum_congr rfl fun j _ => congrArg (xe (ix2 r j) * ·) (congrArg (fun z => w (ix2 j z)) (Fin.ext ?_))
    show (offw k + (128 + l.val)) % 5632 = (offw k + (128 * (k % 2) + l.val)) % 5632
    have : k % 2 = 1 := by omega
    rw [this]

theorem hNX_at (xe : Vec Ideal S528x1024 .bf16) (w : Vec Ideal S1024x5632 .bf16) (k : ℕ) (r : Fin 8) (l : Fin 128) :
    hNX xe w k (ix3 0 r l) = ∑ j : Fin 1024, xe (ix2 ⟨504 + r.val, by omega⟩ j) * w (ix2 j (col k l)) := by
  unfold hNX
  split
  · rename_i h
    rw [hN0_at, hA, pay4_at]
    refine Finset.sum_congr rfl fun j _ => congrArg (xe (ix2 _ j) * ·) (congrArg (fun z => w (ix2 j z)) (Fin.ext ?_))
    show (offw k + l.val) % 5632 = (offw k + (128 * (k % 2) + l.val)) % 5632
    rw [h]; simp
  · rename_i h
    rw [hN1_at, hA, pay4_at]
    refine Finset.sum_congr rfl fun j _ => congrArg (xe (ix2 _ j) * ·) (congrArg (fun z => w (ix2 j z)) (Fin.ext ?_))
    show (offw k + (128 + l.val)) % 5632 = (offw k + (128 * (k % 2) + l.val)) % 5632
    have : k % 2 = 1 := by omega
    rw [this]

theorem ZT_at (x : S1x8x128.Idx) : (ZT : Vec Ideal S1x8x128 .f32) x = (0 : EReal) := by
  unfold ZT
  exact zero_eq

theorem car_at (v : BitVec 32) (hv : v ≠ 0#32) (c : Vec Ideal S1x8x128 .f32) (r : Fin 8) (l : Fin 128) : car v c (ix3 0 r l) = c (ix3 0 r l) := by
  have h : Scalar.cmpi .eq v 0#32 = 0#1 := by simp [Scalar.cmpi, IntOp.cmpi, beq_false_of_ne hv]
  pointwise [car, k0_pay7, h]

theorem convV_at (cb : Vec Ideal S1x128 .f32) (h0 : Vec Ideal S1x512x128 .f32) (w0 : Vec Ideal S1x128 .f32) (h1 : Vec Ideal S1x512x128 .f32) (w1 : Vec Ideal S1x128 .f32)
    (h2 : Vec Ideal S1x512x128 .f32) (w2 : Vec Ideal S1x128 .f32) (r : Fin 512) (l : Fin 128) :
    convV cb h0 w0 h1 w1 h2 w2 (ix2 r l) = cv (cb (ix2 0 l)) (h0 (ix3 0 r l)) (w0 (ix2 0 l)) (h1 (ix3 0 r l)) (w1 (ix2 0 l)) (h2 (ix3 0 r l)) (w2 (ix2 0 l)) := by
  pointwise [convV]
  rfl

theorem actV_at (g v : FVec Ideal S512x128 .f32) (r : Fin 512) (l : Fin 128) : actV g v (ix2 r l) = gt (g (ix2 r l)) (v (ix2 r l)) := by
  pointwise [actV, zero_eq]
  rfl

theorem pay273_at (a : Vec Ideal S256x2816 .bf16) (w : Vec Ideal S2816x1024 .bf16) (x : Vec Ideal S256x1024 .f32) (g b : Vec Ideal S1x1024 .f32) (r : Fin 256) (k : Fin 1024) :
    k0_pay273 a w x g b (ix2 r k) = LN (fun i => cα * x (ix2 r i) + ∑ j : Fin 2816, a (ix2 r j) * w (ix2 j i)) (fun j => g (ix2 0 j)) (fun j => b (ix2 0 j)) k := by
  pointwise [k0_pay273, zero_eq]
  rfl

theorem pay274_at (a : Vec Ideal S256x2816 .bf16) (w : Vec Ideal S2816x1024 .bf16) (x : Vec Ideal S256x1024 .f32) (g b : Vec Ideal S1x1024 .f32) (r : Fin 256) (k : Fin 1024) :
    k0_pay274 a w x g b (ix2 r k) = LN (fun i => cα * x (ix2 r i) + ∑ j : Fin 2816, a (ix2 r j) * w (ix2 j i)) (fun j => g (ix2 0 j)) (fun j => b (ix2 0 j)) k := by
  pointwise [k0_pay274, zero_eq]
  rfl

theorem pay2_at (x : Vec Ideal S512x1024 .f32) (r : Fin 512) (k : Fin 1024) : k0_pay2 x (ix2 r k) = x (ix2 r k) := by
  pointwise [k0_pay2]

/-- The rows after the point's own, when they are of the same sequence. -/
theorem nx_at (v : BitVec 32) (hv : v ≠ 7#32) (x : Vec Ideal S16x1024 .f32) (r : Fin 16) (k : Fin 1024) : nx v x (ix2 r k) = x (ix2 r k) := by
  have h : Scalar.cmpi .eq v 7#32 = 0#1 := by simp [Scalar.cmpi, IntOp.cmpi, beq_false_of_ne hv]
  pointwise [nx, h]

/-- The rows after a sequence's end are zero. -/
theorem nx_zero (x : Vec Ideal S16x1024 .f32) (r : Fin 16) (k : Fin 1024) : nx 7#32 x (ix2 r k) = (0 : EReal) := by
  pointwise [nx, zero_eq]

/-- The arguments, with the rows of all sequences in one numbering: sequence `b`'s row `s` is row `4096 * b + s`. -/
structure P where
  X : ℕ → Fin 1024 → EReal
  W : Fin 1024 → Fin 5632 → EReal
  CW : Fin 3 → Fin 5632 → EReal
  CB : Fin 5632 → EReal
  WD : Fin 2816 → Fin 1024 → EReal
  G2 : Fin 1024 → EReal
  B2 : Fin 1024 → EReal

variable (p : P)

/-- The row's up projection. -/
def up (r : ℕ) (c : Fin 5632) : EReal := ∑ j : Fin 1024, p.X r j * p.W j c
/-- The row before's, zero at a sequence's start. -/
def pm (r : ℕ) (c : Fin 5632) : EReal := if r % 4096 = 0 then 0 else up p (r - 1) c
/-- The row after's, zero at a sequence's end. -/
def pp (r : ℕ) (c : Fin 5632) : EReal := if r % 4096 = 4095 then 0 else up p (r + 1) c
/-- The row's convolution. -/
def cvr (r : ℕ) (c : Fin 5632) : EReal := cv (p.CB c) (pm p r c) (p.CW 0 c) (up p r c) (p.CW 1 c) (pp p r c) (p.CW 2 c)
/-- The row's activations. -/
def act (r : ℕ) (k : Fin 2816) : EReal := gt (cvr p r ⟨k.val, by omega⟩) (cvr p r ⟨2816 + k.val, by omega⟩)
/-- The row's output. -/
def out (r : ℕ) : Fin 1024 → EReal := LN (fun i => cα * p.X r i + ∑ j : Fin 2816, act p r j * p.WD j i) p.G2 p.B2

/-- The input blocks of the point whose first row is `512 * t`. -/
structure Blk (t : ℕ) (x0 : Vec Ideal S512x1024 .f32) (x1 : Vec Ideal S16x1024 .f32) (x2 : Vec Ideal S1024x5632 .bf16) (x3 : Vec Ideal S3x5632 .f32) (x4 : Vec Ideal S1x5632 .f32)
    (x5 : Vec Ideal S2816x1024 .bf16) (x6 x7 : Vec Ideal S1x1024 .f32) : Prop where
  h0 : ∀ r j, x0 (ix2 r j) = p.X (512 * t + r.val) j
  h1 : t % 8 ≠ 7 → ∀ j, x1 (ix2 0 j) = p.X (512 * t + 512) j
  h2 : ∀ i j, x2 (ix2 i j) = p.W i j
  h3 : ∀ i j, x3 (ix2 i j) = p.CW i j
  h4 : ∀ j, x4 (ix2 0 j) = p.CB j
  h5 : ∀ i j, x5 (ix2 i j) = p.WD i j
  h6 : ∀ j, x6 (ix2 0 j) = p.G2 j
  h7 : ∀ j, x7 (ix2 0 j) = p.B2 j

variable {p} {t : ℕ} {x0 : Vec Ideal S512x1024 .f32} {x1 : Vec Ideal S16x1024 .f32} {x2 : Vec Ideal S1024x5632 .bf16} {x3 : Vec Ideal S3x5632 .f32} {x4 : Vec Ideal S1x5632 .f32}
    {x5 : Vec Ideal S2816x1024 .bf16} {x6 x7 : Vec Ideal S1x1024 .f32} (H : Blk p t x0 x1 x2 x3 x4 x5 x6 x7)

include H in
/-- The point's rows, and the row after them. -/
theorem XE_at (v : BitVec 32) (hv : v = 7#32 ↔ t % 8 = 7) (r : Fin 528) (hr : r.val < 513) (k : Fin 1024) :
    XE v x0 x1 (ix2 r k) = if r.val = 512 ∧ t % 8 = 7 then (0 : EReal) else p.X (512 * t + r.val) k := by
  unfold XE
  by_cases h : r.val < 512
  · refine (cat_lo (m0 := 512) (m1 := 16) (N := 528) (d := 1024) rfl _ _ r k h).trans ((pay2_at _ _ _).trans ((H.h0 _ _).trans ?_))
    rw [if_neg (by omega)]
  · have h5 : r.val = 512 := by omega
    refine (cat_hi (m0 := 512) (m1 := 16) (N := 528) (d := 1024) rfl _ _ r k h).trans ?_
    have e0 : (⟨r.val - 512, by omega⟩ : Fin 16) = 0 := Fin.ext (by show r.val - 512 = 0; omega)
    rw [e0]
    by_cases h7 : t % 8 = 7
    · rw [if_pos ⟨h5, h7⟩, hv.mpr h7]
      exact nx_zero _ _ _
    · rw [if_neg (fun hh => h7 hh.2), h5]
      exact (nx_at v (fun hh => h7 (hv.mp hh)) _ _ _).trans (H.h1 h7 k)

include H in
/-- The point's up projection, of a slot's columns. -/
theorem hX_row (v : BitVec 32) (hv : v = 7#32 ↔ t % 8 = 7) (k : ℕ) (r : Fin 528) (hr : r.val < 513) (l : Fin 128) :
    hX (XE v x0 x1) x2 k (ix3 0 r l) = if r.val = 512 ∧ t % 8 = 7 then (0 : EReal) else up p (512 * t + r.val) (col k l) := by
  refine (hX_at _ _ _ _ _).trans ?_
  by_cases h : r.val = 512 ∧ t % 8 = 7
  · rw [if_pos h]
    refine Finset.sum_eq_zero fun j _ => ?_
    rw [XE_at H v hv r hr j, if_pos h, zero_mul]
  · rw [if_neg h]
    refine Finset.sum_congr rfl fun j _ => ?_
    rw [XE_at H v hv r hr j, if_neg h, H.h2]

include H in
/-- The last row a point carries, of a slot's columns. -/
theorem hNX_row (v : BitVec 32) (hv : v = 7#32 ↔ t % 8 = 7) (k : ℕ) (l : Fin 128) :
    hNX (XE v x0 x1) x2 k (ix3 0 7 l) = up p (512 * t + 511) (col k l) := by
  refine (hNX_at _ _ _ _ _).trans ?_
  refine Finset.sum_congr rfl fun j _ => ?_
  rw [H.h2]
  refine congrArg (· * p.W j (col k l)) ((XE_at H v hv ⟨504 + 7, by omega⟩ (by show 504 + 7 < 513; omega) j).trans ?_)
  rw [if_neg (by show ¬ (504 + 7 = 512 ∧ _); omega)]

include H in
/-- The three rows a convolution reads. -/
theorem hcat0 (v : BitVec 32) (hv : v = 7#32 ↔ t % 8 = 7) (c : Vec Ideal S1x8x128 .f32) (k : ℕ)
    (hc : ∀ l, c (ix3 0 7 l) = if t % 8 = 0 then (0 : EReal) else up p (512 * t - 1) (col k l)) (r : Fin 512) (l : Fin 128) :
    hcat c (hX (XE v x0 x1) x2 k) 0 (ix3 0 r l) = pm p (512 * t + r.val) (col k l) := by
  unfold pm
  by_cases h : r.val = 0
  · refine (dif_pos (show 15 + 0 + r.val < 16 by omega)).trans ((hc l).trans ?_)
    by_cases h8 : t % 8 = 0
    · rw [if_pos h8, if_pos (by omega)]
    · rw [if_neg h8, if_neg (by omega), h]; rfl
  · refine (dif_neg (show ¬ 15 + 0 + r.val < 16 by omega)).trans ((hX_row H v hv k _ (by show 0 + r.val - 1 < 513; omega) l).trans ?_)
    rw [if_neg (by show ¬ (0 + r.val - 1 = 512 ∧ _); omega), if_neg (by omega)]
    refine congrArg (fun z => up p z (col k l)) ?_
    show 512 * t + (0 + r.val - 1) = 512 * t + r.val - 1
    omega

include H in
theorem hcat1 (v : BitVec 32) (hv : v = 7#32 ↔ t % 8 = 7) (c : Vec Ideal S1x8x128 .f32) (k : ℕ) (r : Fin 512) (l : Fin 128) :
    hcat c (hX (XE v x0 x1) x2 k) 1 (ix3 0 r l) = up p (512 * t + r.val) (col k l) := by
  refine (dif_neg (show ¬ 15 + 1 + r.val < 16 by omega)).trans ((hX_row H v hv k _ (by show 1 + r.val - 1 < 513; omega) l).trans ?_)
  rw [if_neg (by show ¬ (1 + r.val - 1 = 512 ∧ _); omega)]
  refine congrArg (fun z => up p z (col k l)) ?_
  show 512 * t + (1 + r.val - 1) = 512 * t + r.val
  omega

include H in
theorem hcat2 (v : BitVec 32) (hv : v = 7#32 ↔ t % 8 = 7) (c : Vec Ideal S1x8x128 .f32) (k : ℕ) (r : Fin 512) (l : Fin 128) :
    hcat c (hX (XE v x0 x1) x2 k) 2 (ix3 0 r l) = pp p (512 * t + r.val) (col k l) := by
  unfold pp
  refine (dif_neg (show ¬ 15 + 2 + r.val < 16 by omega)).trans ((hX_row H v hv k _ (by show 2 + r.val - 1 < 513; omega) l).trans ?_)
  by_cases h : r.val = 511 ∧ t % 8 = 7
  · rw [if_pos (by show 2 + r.val - 1 = 512 ∧ _; omega), if_pos (by omega)]
  · rw [if_neg (by show ¬ (2 + r.val - 1 = 512 ∧ _); omega), if_neg (by omega)]
    refine congrArg (fun z => up p z (col k l)) ?_
    show 512 * t + (2 + r.val - 1) = 512 * t + r.val + 1
    omega

include H in
/-- A convolution of a slot, at a row. -/
theorem conv_row (v : BitVec 32) (hv : v = 7#32 ↔ t % 8 = 7) (c : Vec Ideal S1x8x128 .f32) (k o : ℕ)
    (hc : ∀ l, c (ix3 0 7 l) = if t % 8 = 0 then (0 : EReal) else up p (512 * t - 1) (col k l)) (r : Fin 512) (l : Fin 128)
    (ho : (o + l.val) % 5632 = (col k l).val) :
    convV (cbT x4 o) (hcat c (hX (XE v x0 x1) x2 k) 0) (cwT x3 0 o) (hcat c (hX (XE v x0 x1) x2 k) 1) (cwT x3 1 o)
      (hcat c (hX (XE v x0 x1) x2 k) 2) (cwT x3 2 o) (ix2 r l) = cvr p (512 * t + r.val) (col k l) := by
  have ec : (⟨(o + l.val) % 5632, Nat.mod_lt _ (by decide)⟩ : Fin 5632) = col k l := Fin.ext ho
  have ew : ∀ q : Fin 3, cwT x3 q o (ix2 0 l) = p.CW q (col k l) := fun q => (congrArg (fun z => x3 (ix2 q z)) ec).trans (H.h3 q _)
  refine (convV_at _ _ _ _ _ _ _ _ _).trans ?_
  exact cv_congr ((congrArg (fun z => x4 (ix2 0 z)) ec).trans (H.h4 _)) (hcat0 H v hv c k hc r l) (ew 0) (hcat1 H v hv c k r l) (ew 1) (hcat2 H v hv c k r l) (ew 2)

include H in
/-- The point's activations. -/
theorem act_row (v : BitVec 32) (hv : v = 7#32 ↔ t % 8 = 7) (cc : ℕ → Vec Ideal S1x8x128 .f32)
    (hc : ∀ k, k < 44 → ∀ l, cc k (ix3 0 7 l) = if t % 8 = 0 then (0 : EReal) else up p (512 * t - 1) (col k l)) (r : Fin 512) (j : Fin 2816) :
    ACTALL (XE v x0 x1) x2 x3 x4 cc (ix2 r j) = act p (512 * t + r.val) j := by
  show ACT (XE v x0 x1) x2 x3 x4 cc (j.val / 128) (ix2 r ⟨j.val % 128, Nat.mod_lt _ (by decide)⟩) = _
  have hj := j.isLt
  have hg : (col (kg (j.val / 128)) ⟨j.val % 128, Nat.mod_lt _ (by decide)⟩ : Fin 5632) = ⟨j.val, by omega⟩ := Fin.ext (by
    show (256 * ((4 * (j.val / 128 / 2) + j.val / 128 % 2) / 4) + 2816 * ((4 * (j.val / 128 / 2) + j.val / 128 % 2) / 2 % 2)
      + (128 * ((4 * (j.val / 128 / 2) + j.val / 128 % 2) % 2) + j.val % 128)) % 5632 = j.val
    omega)
  have hv2 : (col (kg (j.val / 128) + 2) ⟨j.val % 128, Nat.mod_lt _ (by decide)⟩ : Fin 5632) = ⟨2816 + j.val, by omega⟩ := Fin.ext (by
    show (256 * ((4 * (j.val / 128 / 2) + j.val / 128 % 2 + 2) / 4) + 2816 * ((4 * (j.val / 128 / 2) + j.val / 128 % 2 + 2) / 2 % 2)
      + (128 * ((4 * (j.val / 128 / 2) + j.val / 128 % 2 + 2) % 2) + j.val % 128)) % 5632 = 2816 + j.val
    omega)
  unfold ACT act
  refine (actV_at _ _ _ _).trans (congrArg₂ gt ?_ ?_)
  · refine (conv_row H v hv _ (kg (j.val / 128)) _ (hc _ (by show 4 * (j.val / 128 / 2) + j.val / 128 % 2 < 44; omega)) r _ ?_).trans (by rw [hg])
    rw [hg]; show (128 * (j.val / 128) + j.val % 128) % 5632 = j.val; omega
  · refine (conv_row H v hv _ (kg (j.val / 128) + 2) _ (hc _ (by show 4 * (j.val / 128 / 2) + j.val / 128 % 2 + 2 < 44; omega)) r _ ?_).trans (by rw [hv2])
    rw [hv2]; show (2816 + 128 * (j.val / 128) + j.val % 128) % 5632 = 2816 + j.val; omega

include H in
/-- The point's output. -/
theorem fin_row (v : BitVec 32) (hv : v = 7#32 ↔ t % 8 = 7) (cc : ℕ → Vec Ideal S1x8x128 .f32)
    (hc : ∀ k, k < 44 → ∀ l, cc k (ix3 0 7 l) = if t % 8 = 0 then (0 : EReal) else up p (512 * t - 1) (col k l)) (r : Fin 512) (k : Fin 1024) :
    FIN (ACTALL (XE v x0 x1) x2 x3 x4 cc) x5 x0 x6 x7 (ix2 r k) = out p (512 * t + r.val) k := by
  unfold FIN out
  by_cases h : r.val < 256
  · refine (cat_lo (m0 := 256) (m1 := 256) (N := 512) (d := 1024) rfl _ _ r k h).trans ((pay273_at _ _ _ _ _ _ _).trans ?_)
    refine LN_congr (fun i => congrArg₂ (· + ·) (congrArg (cα * ·) ?_) (Finset.sum_congr rfl fun j _ => congrArg₂ (· * ·) ?_ (H.h5 _ _))) H.h6 H.h7 k
    · refine (rows_at (N := 512) (d := 1024) 0 256 (by omega) _ _ _).trans ((H.h0 _ _).trans (congrArg (fun z => p.X z i) ?_))
      show 512 * t + (0 + r.val) = _; omega
    · refine (rows_at (N := 512) (d := 2816) 0 256 (by omega) _ _ _).trans ((act_row H v hv cc hc _ _).trans (congrArg (fun z => act p z j) ?_))
      show 512 * t + (0 + r.val) = _; omega
  · refine (cat_hi (m0 := 256) (m1 := 256) (N := 512) (d := 1024) rfl _ _ r k h).trans ((pay274_at _ _ _ _ _ _ _).trans ?_)
    refine LN_congr (fun i => congrArg₂ (· + ·) (congrArg (cα * ·) ?_) (Finset.sum_congr rfl fun j _ => congrArg₂ (· * ·) ?_ (H.h5 _ _))) H.h6 H.h7 k
    · refine (rows_at (N := 512) (d := 1024) 256 256 (by omega) _ _ _).trans ((H.h0 _ _).trans (congrArg (fun z => p.X z i) ?_))
      show 512 * t + (256 + (r.val - 256)) = _; omega
    · refine (rows_at (N := 512) (d := 2816) 256 256 (by omega) _ _ _).trans ((act_row H v hv cc hc _ _).trans (congrArg (fun z => act p z j) ?_))
      show 512 * t + (256 + (r.val - 256)) = _; omega

end Cert.Ffn1

end
-- ==== Proof.Ffn1Args.lean ====
/- The arguments of the feed-forward call without the mixer, as the specification takes them. -/
module

public import proofs.«01_k».proof.Proof.Ffn1Point

@[expose] public section

noncomputable section

namespace Cert.Ffn1

open Idealize.ShloMosaic Idealize.ShloMosaic.TcCoe Idealize.SL.Sem

/-- The arguments read row by row. -/
def ofArgs (a0 : FVec Ideal (⟨3, ![8, 4096, 1024]⟩ : Shape) .f32) (a1 : FVec Ideal (⟨2, ![1024, 5632]⟩ : Shape) .f32) (a2 : FVec Ideal (⟨2, ![3, 5632]⟩ : Shape) .f32) (a3 : FVec Ideal (⟨1, ![5632]⟩ : Shape) .f32) (a4 : FVec Ideal (⟨2, ![2816, 1024]⟩ : Shape) .f32) (a5 : FVec Ideal (⟨1, ![1024]⟩ : Shape) .f32) (a6 : FVec Ideal (⟨1, ![1024]⟩ : Shape) .f32) : P where
  X r j := a0 (ix3 ⟨r / 4096 % 8, Nat.mod_lt _ (by decide)⟩ ⟨r % 4096, Nat.mod_lt _ (by decide)⟩ j)
  W i j := a1 (ix2 i j)
  CW i j := a2 (ix2 i j)
  CB j := a3 (ix1 j)
  WD i j := a4 (ix2 i j)
  G2 j := a5 (ix1 j)
  B2 j := a6 (ix1 j)

end Cert.Ffn1

end
-- ==== Proof.Ffn1Reads.lean ====
/- The operands of the feed-forward kernel without the mixer at a grid point, element by element, in terms of its arguments. -/
module

public import proofs.«01_k».proof.Proof.Ffn1Args
public import proofs.«01_k».proof.Proof.Gen.KernelGIdeal.Frame
public import Idealize.ShloMosaic.Lib.Pipeline.Value
public import Idealize.ShloMosaic.Lib.Pipeline.ValueKit
public import Idealize.ShloMosaic.Lib.Pointwise
public import Idealize.ShloMosaic.Lib.StableHlo.RunRead

@[expose] public section

set_option maxRecDepth 16384

noncomputable section

namespace Cert.Ffn1

open Cert.KernelGIdeal Cert.KernelGIdeal.Gen Idealize.ShloMosaic Idealize.ShloMosaic.TcCoe Idealize.SL.Sem Idealize.ShloMosaic.StableHlo

section

variable {F : FTy → Type} [FloatOps F]

/-- The residual input, rows of all sequences one under another. -/
def packX (a : FVec F S8x4096x1024 .f32) : FVec F S32768x1024 .f32 := shapeCast S32768x1024 a shapeCasts_S8x4096x1024_S32768x1024

/-- The up projection. -/
def packU (a : FVec F S1024x5632 .f32) : FVec F S1024x5632 .bf16 := truncf .bf16 a bitsLt_bf16_f32

/-- The convolution's weights. -/
def packC (a : FVec F S3x5632 .f32) : FVec F S3x5632 .f32 := a

/-- The convolution's bias, as a row. -/
def packB (a : FVec F S5632 .f32) : FVec F S1x5632 .f32 := broadcastInDim S1x5632 ![1] bcast_S5632_S1x5632_1 a

/-- The down projection. -/
def packD (a : FVec F S2816x1024 .f32) : FVec F S2816x1024 .bf16 := truncf .bf16 a bitsLt_bf16_f32

/-- A vector, as a row. -/
def packV (a : FVec F S1024 .f32) : FVec F S1x1024 .f32 := broadcastInDim S1x1024 ![1] bcast_S1024_S1x1024_1 a

variable (m : (ℓ : Loc nD τ sig) → Buf (Elt F) ℓ) (c : Dev nD)

theorem V_v0 : V m c main_v0 = packX (m ((c.tc : Thread nD τ).loc main_arg0)) := by
  show StableHlo.after hostOps0 (fun b => m (c, b)) (Proc.devRef .tc main_v0) = _
  after_reads_simp
  rfl

theorem V_v0_of (r : Ref sig .tc) (h : r = main_v0) : HEq (V m c r) (packX (m ((c.tc : Thread nD τ).loc main_arg0))) := by
  subst h
  exact heq_of_eq (V_v0 m c)

theorem V_v1 : V m c main_v1 = packU (m ((c.tc : Thread nD τ).loc main_arg1)) := by
  show StableHlo.after hostOps0 (fun b => m (c, b)) (Proc.devRef .tc main_v1) = _
  after_reads_simp
  rfl

theorem V_v1_of (r : Ref sig .tc) (h : r = main_v1) : HEq (V m c r) (packU (m ((c.tc : Thread nD τ).loc main_arg1))) := by
  subst h
  exact heq_of_eq (V_v1 m c)

theorem V_arg2 : V m c main_arg2 = packC (m ((c.tc : Thread nD τ).loc main_arg2)) := V_main_arg2 m c

theorem V_arg2_of (r : Ref sig .tc) (h : r = main_arg2) : HEq (V m c r) (packC (m ((c.tc : Thread nD τ).loc main_arg2))) := by
  subst h
  exact heq_of_eq (V_arg2 m c)

theorem V_v2 : V m c main_v2 = packB (m ((c.tc : Thread nD τ).loc main_arg3)) := by
  show StableHlo.after hostOps0 (fun b => m (c, b)) (Proc.devRef .tc main_v2) = _
  after_reads_simp
  rfl

theorem V_v2_of (r : Ref sig .tc) (h : r = main_v2) : HEq (V m c r) (packB (m ((c.tc : Thread nD τ).loc main_arg3))) := by
  subst h
  exact heq_of_eq (V_v2 m c)

theorem V_v3 : V m c main_v3 = packD (m ((c.tc : Thread nD τ).loc main_arg4)) := by
  show StableHlo.after hostOps0 (fun b => m (c, b)) (Proc.devRef .tc main_v3) = _
  after_reads_simp
  rfl

theorem V_v3_of (r : Ref sig .tc) (h : r = main_v3) : HEq (V m c r) (packD (m ((c.tc : Thread nD τ).loc main_arg4))) := by
  subst h
  exact heq_of_eq (V_v3 m c)

theorem V_v4 : V m c main_v4 = packV (m ((c.tc : Thread nD τ).loc main_arg5)) := by
  show StableHlo.after hostOps0 (fun b => m (c, b)) (Proc.devRef .tc main_v4) = _
  after_reads_simp
  rfl

theorem V_v4_of (r : Ref sig .tc) (h : r = main_v4) : HEq (V m c r) (packV (m ((c.tc : Thread nD τ).loc main_arg5))) := by
  subst h
  exact heq_of_eq (V_v4 m c)

theorem V_v5 : V m c main_v5 = packV (m ((c.tc : Thread nD τ).loc main_arg6)) := by
  show StableHlo.after hostOps0 (fun b => m (c, b)) (Proc.devRef .tc main_v5) = _
  after_reads_simp
  rfl

theorem V_v5_of (r : Ref sig .tc) (h : r = main_v5) : HEq (V m c r) (packV (m ((c.tc : Thread nD τ).loc main_arg6))) := by
  subst h
  exact heq_of_eq (V_v5 m c)

theorem iblk_0 (t : Fin cfg0.N) : (iblk m c 0 t : Vec F S512x1024 .f32) = (win0_0.blk t).view.read (Elt F) (packX (m ((c.tc : Thread nD τ).loc main_arg0))) :=
  congrArg (fun X => ((cfg0.win 0).blk t).view.read (Elt F) X) (eq_of_heq (V_v0_of m c (Pipeline.arrRef spec0 0) rfl))

theorem read_blk_0 (t : Fin cfg0.N) (X : Vec F S32768x1024 .f32) (x : S512x1024.Idx) : ((win0_0.blk t).view.read (Elt F) X : Vec F S512x1024 .f32) x = X ((win0_0.blk t).view.emb x) := rfl

theorem iblk_1 (t : Fin cfg0.N) : (iblk m c 1 t : Vec F S16x1024 .f32) = (win0_1.blk t).view.read (Elt F) (packX (m ((c.tc : Thread nD τ).loc main_arg0))) :=
  congrArg (fun X => ((cfg0.win 1).blk t).view.read (Elt F) X) (eq_of_heq (V_v0_of m c (Pipeline.arrRef spec0 1) rfl))

theorem read_blk_1 (t : Fin cfg0.N) (X : Vec F S32768x1024 .f32) (x : S16x1024.Idx) : ((win0_1.blk t).view.read (Elt F) X : Vec F S16x1024 .f32) x = X ((win0_1.blk t).view.emb x) := rfl

theorem iblk_2 (t : Fin cfg0.N) : (iblk m c 2 t : Vec F S1024x5632 .bf16) = (win0_2.blk t).view.read (Elt F) (packU (m ((c.tc : Thread nD τ).loc main_arg1))) :=
  congrArg (fun X => ((cfg0.win 2).blk t).view.read (Elt F) X) (eq_of_heq (V_v1_of m c (Pipeline.arrRef spec0 2) rfl))

theorem read_blk_2 (t : Fin cfg0.N) (X : Vec F S1024x5632 .bf16) (x : S1024x5632.Idx) : ((win0_2.blk t).view.read (Elt F) X : Vec F S1024x5632 .bf16) x = X ((win0_2.blk t).view.emb x) := rfl

theorem iblk_3 (t : Fin cfg0.N) : (iblk m c 3 t : Vec F S3x5632 .f32) = (win0_3.blk t).view.read (Elt F) (packC (m ((c.tc : Thread nD τ).loc main_arg2))) :=
  congrArg (fun X => ((cfg0.win 3).blk t).view.read (Elt F) X) (eq_of_heq (V_arg2_of m c (Pipeline.arrRef spec0 3) rfl))

theorem read_blk_3 (t : Fin cfg0.N) (X : Vec F S3x5632 .f32) (x : S3x5632.Idx) : ((win0_3.blk t).view.read (Elt F) X : Vec F S3x5632 .f32) x = X ((win0_3.blk t).view.emb x) := rfl

theorem iblk_4 (t : Fin cfg0.N) : (iblk m c 4 t : Vec F S1x5632 .f32) = (win0_4.blk t).view.read (Elt F) (packB (m ((c.tc : Thread nD τ).loc main_arg3))) :=
  congrArg (fun X => ((cfg0.win 4).blk t).view.read (Elt F) X) (eq_of_heq (V_v2_of m c (Pipeline.arrRef spec0 4) rfl))

theorem read_blk_4 (t : Fin cfg0.N) (X : Vec F S1x5632 .f32) (x : S1x5632.Idx) : ((win0_4.blk t).view.read (Elt F) X : Vec F S1x5632 .f32) x = X ((win0_4.blk t).view.emb x) := rfl

theorem iblk_5 (t : Fin cfg0.N) : (iblk m c 5 t : Vec F S2816x1024 .bf16) = (win0_5.blk t).view.read (Elt F) (packD (m ((c.tc : Thread nD τ).loc main_arg4))) :=
  congrArg (fun X => ((cfg0.win 5).blk t).view.read (Elt F) X) (eq_of_heq (V_v3_of m c (Pipeline.arrRef spec0 5) rfl))

theorem read_blk_5 (t : Fin cfg0.N) (X : Vec F S2816x1024 .bf16) (x : S2816x1024.Idx) : ((win0_5.blk t).view.read (Elt F) X : Vec F S2816x1024 .bf16) x = X ((win0_5.blk t).view.emb x) := rfl

theorem iblk_6 (t : Fin cfg0.N) : (iblk m c 6 t : Vec F S1x1024 .f32) = (win0_6.blk t).view.read (Elt F) (packV (m ((c.tc : Thread nD τ).loc main_arg5))) :=
  congrArg (fun X => ((cfg0.win 6).blk t).view.read (Elt F) X) (eq_of_heq (V_v4_of m c (Pipeline.arrRef spec0 6) rfl))

theorem read_blk_6 (t : Fin cfg0.N) (X : Vec F S1x1024 .f32) (x : S1x1024.Idx) : ((win0_6.blk t).view.read (Elt F) X : Vec F S1x1024 .f32) x = X ((win0_6.blk t).view.emb x) := rfl

theorem iblk_7 (t : Fin cfg0.N) : (iblk m c 7 t : Vec F S1x1024 .f32) = (win0_7.blk t).view.read (Elt F) (packV (m ((c.tc : Thread nD τ).loc main_arg6))) :=
  congrArg (fun X => ((cfg0.win 7).blk t).view.read (Elt F) X) (eq_of_heq (V_v5_of m c (Pipeline.arrRef spec0 7) rfl))

theorem read_blk_7 (t : Fin cfg0.N) (X : Vec F S1x1024 .f32) (x : S1x1024.Idx) : ((win0_7.blk t).view.read (Elt F) X : Vec F S1x1024 .f32) x = X ((win0_7.blk t).view.emb x) := rfl

end

/-- The blocks of the windows at a grid point. -/
theorem idxA : ∀ t : Fin cfg0.N, win0_0.index t = ![t.val, 0] ∧ win0_1.index t = ![min (32 * (t.val + 1)) 2047, 0] ∧ win0_8.index t = ![t.val, 0] :=
  (by decide +kernel : ∀ t : Fin grid0.N, _)

theorem idxB : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

theorem lt_N (t : Fin cfg0.N) : t.val < 64 := t.isLt

/-- The point's place in its sequence. -/
theorem v9_B : ∀ t : Fin cfg0.N, kernelRun0_B.sl.v9 (grid0.coords t) = BitVec.ofNat 32 (t.val % 8) :=
  (by decide +kernel : ∀ t : Fin grid0.N, kernelRun0_B.sl.v9 (grid0.coords t) = BitVec.ofNat 32 (t.val % 8))

theorem v9_A : ∀ t : Fin cfg0.N, kernelRun0_A.sl.v9 (grid0.coords t) = BitVec.ofNat 32 (t.val % 8) :=
  (by decide +kernel : ∀ t : Fin grid0.N, kernelRun0_A.sl.v9 (grid0.coords t) = BitVec.ofNat 32 (t.val % 8))

theorem packX_at (a : FVec Ideal S8x4096x1024 .f32) (r : Fin 32768) (j : Fin 1024) :
    packX a (ix2 r j) = a (ix3 ⟨r.val / 4096 % 8, by omega⟩ ⟨r.val % 4096, by omega⟩ j) := by
  have e : r.val / 4096 % 8 = r.val / 4096 := by omega
  simp only [e]
  pointwise [packX]

theorem packV_at (a : FVec Ideal S1024 .f32) (j : Fin 1024) : packV a (ix2 0 j) = a (ix1 j) := by
  pointwise [packV]
theorem packU_at (a : FVec Ideal S1024x5632 .f32) (i : Fin 1024) (j : Fin 5632) : packU a (ix2 i j) = a (ix2 i j) := by
  pointwise [packU]
theorem packB_at (a : FVec Ideal S5632 .f32) (j : Fin 5632) : packB a (ix2 0 j) = a (ix1 j) := by
  pointwise [packB]
theorem packD_at (a : FVec Ideal S2816x1024 .f32) (i : Fin 2816) (j : Fin 1024) : packD a (ix2 i j) = a (ix2 i j) := by
  pointwise [packD]

variable (m : (ℓ : Loc nD τ sig) → Buf (Elt Ideal) ℓ) (c : Dev nD)

/-- The specification's arguments, from the kernel's. -/
def pK : P :=
  ofArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (t : Fin cfg0.N)

theorem read_0 (r : Fin 512) (j : Fin 1024) : (iblk m c 0 t : Vec Ideal S512x1024 .f32) (ix2 r j) = (pK m c).X (512 * t.val + r.val) j := by
  have ht := lt_N t
  have e : (win0_0.blk t).view.emb (ix2 r j) = ix2 (⟨512 * t.val + r.val, by omega⟩ : Fin 32768) j := by
    blk_ext [idxA t]
  exact (congrFun (iblk_0 m c t) (ix2 r j)).trans ((read_blk_0 t _ _).trans ((congrArg (packX (F := Ideal) (m ((c.tc : Thread nD τ).loc main_arg0))) e).trans
    (packX_at _ _ _)))

theorem read_1 (h7 : t.val % 8 ≠ 7) (j : Fin 1024) : (iblk m c 1 t : Vec Ideal S16x1024 .f32) (ix2 0 j) = (pK m c).X (512 * t.val + 512) j := by
  have ht := lt_N t
  have e : (win0_1.blk t).view.emb (ix2 0 j) = ix2 (⟨512 * t.val + 512, by omega⟩ : Fin 32768) j := by
    blk_ext [idxA t]
  exact (congrFun (iblk_1 m c t) (ix2 0 j)).trans ((read_blk_1 t _ _).trans ((congrArg (packX (F := Ideal) (m ((c.tc : Thread nD τ).loc main_arg0))) e).trans
    (packX_at _ _ _)))

theorem read_2 (i : Fin 1024) (j : Fin 5632) : (iblk m c 2 t : Vec Ideal S1024x5632 .bf16) (ix2 i j) = (pK m c).W i j := by
  have ht := lt_N t
  have e : (win0_2.blk t).view.emb (ix2 i j) = ix2 i j := by
    blk_ext [idxB t]
  exact (congrFun (iblk_2 m c t) (ix2 i j)).trans ((read_blk_2 t _ _).trans ((congrArg (packU (F := Ideal) (m ((c.tc : Thread nD τ).loc main_arg1))) e).trans
    (packU_at _ _ _)))

theorem read_3 (i : Fin 3) (j : Fin 5632) : (iblk m c 3 t : Vec Ideal S3x5632 .f32) (ix2 i j) = (pK m c).CW i j := by
  have ht := lt_N t
  have e : (win0_3.blk t).view.emb (ix2 i j) = ix2 i j := by
    blk_ext [idxB t]
  exact (congrFun (iblk_3 m c t) (ix2 i j)).trans ((read_blk_3 t _ _).trans ((congrArg (packC (F := Ideal) (m ((c.tc : Thread nD τ).loc main_arg2))) e).trans
    (rfl)))

theorem read_4 (j : Fin 5632) : (iblk m c 4 t : Vec Ideal S1x5632 .f32) (ix2 0 j) = (pK m c).CB j := by
  have ht := lt_N t
  have e : (win0_4.blk t).view.emb (ix2 0 j) = ix2 0 j := by
    blk_ext [idxB t]
  exact (congrFun (iblk_4 m c t) (ix2 0 j)).trans ((read_blk_4 t _ _).trans ((congrArg (packB (F := Ideal) (m ((c.tc : Thread nD τ).loc main_arg3))) e).trans
    (packB_at _ _)))

theorem read_5 (i : Fin 2816) (j : Fin 1024) : (iblk m c 5 t : Vec Ideal S2816x1024 .bf16) (ix2 i j) = (pK m c).WD i j := by
  have ht := lt_N t
  have e : (win0_5.blk t).view.emb (ix2 i j) = ix2 i j := by
    blk_ext [idxB t]
  exact (congrFun (iblk_5 m c t) (ix2 i j)).trans ((read_blk_5 t _ _).trans ((congrArg (packD (F := Ideal) (m ((c.tc : Thread nD τ).loc main_arg4))) e).trans
    (packD_at _ _ _)))

theorem read_6 (j : Fin 1024) : (iblk m c 6 t : Vec Ideal S1x1024 .f32) (ix2 0 j) = (pK m c).G2 j := by
  have ht := lt_N t
  have e : (win0_6.blk t).view.emb (ix2 0 j) = ix2 0 j := by
    blk_ext [idxB t]
  exact (congrFun (iblk_6 m c t) (ix2 0 j)).trans ((read_blk_6 t _ _).trans ((congrArg (packV (F := Ideal) (m ((c.tc : Thread nD τ).loc main_arg5))) e).trans
    (packV_at _ _)))

theorem read_7 (j : Fin 1024) : (iblk m c 7 t : Vec Ideal S1x1024 .f32) (ix2 0 j) = (pK m c).B2 j := by
  have ht := lt_N t
  have e : (win0_7.blk t).view.emb (ix2 0 j) = ix2 0 j := by
    blk_ext [idxB t]
  exact (congrFun (iblk_7 m c t) (ix2 0 j)).trans ((read_blk_7 t _ _).trans ((congrArg (packV (F := Ideal) (m ((c.tc : Thread nD τ).loc main_arg6))) e).trans
    (packV_at _ _)))

/-- The input blocks of a point. -/
theorem blk : Blk (pK m c) t.val (iblk m c 0 t) (iblk m c 1 t) (iblk m c 2 t) (iblk m c 3 t) (iblk m c 4 t) (iblk m c 5 t) (iblk m c 6 t) (iblk m c 7 t) where
  h0 := read_0 m c t
  h1 := read_1 m c t
  h2 := read_2 m c t
  h3 := read_3 m c t
  h4 := read_4 m c t
  h5 := read_5 m c t
  h6 := read_6 m c t
  h7 := read_7 m c t

end Cert.Ffn1

end
-- ==== Proof.Ffn1ActsA.lean ====
/- The activations the feed-forward kernel without the mixer holds in its scratch at a point (case A of its body): 22
   tiles of 128 lanes. -/
module

public import proofs.«01_k».proof.Proof.Ffn1Defs

@[expose] public section

set_option maxRecDepth 16384
set_option maxHeartbeats 2000000

noncomputable section

namespace Cert.Ffn1

open Cert.KernelGIdeal Cert.KernelGIdeal.Gen Idealize.ShloMosaic Idealize.ShloMosaic.TcCoe Idealize.SL.Sem
open Cert.FfnLoads
open Cert.Ffn (rows idx_rows rows_of rows_all load_rows offw kg)

variable {F : FTy → Type} [FloatOps F]
variable (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S528x1024 .bf16) (harg10 : arg10.IsWhole) (arg11 : Memref sig .tc .vmem S4x544x128 .f32) (harg11 : arg11.IsWhole) (arg12 : Memref sig .tc .vmem S512x2816 .bf16) (harg12 : arg12.IsWhole) (arg13 : Memref sig .tc .vmem S44x8x128 .f32) (harg13 : arg13.IsWhole) (hc0 : cond0_0 i)
    (x0 : Vec F S512x1024 .f32) (x1 : Vec F S16x1024 .f32) (x2 : Vec F S1024x5632 .bf16) (x3 : Vec F S3x5632 .f32) (x4 : Vec F S1x5632 .f32) (x5 : Vec F S2816x1024 .bf16) (x6 : Vec F S1x1024 .f32) (x7 : Vec F S1x1024 .f32)

/-- The next rows' payload tests the point's place in its sequence. -/
theorem nx_A (i : grid0.Coords) (v : Vec F S16x1024 .f32) : k0_pay3 i v = nx (kernelRun0_A.sl.v9 i) v := rfl

/-- The rows' scratch, read whole. -/
theorem xe_A : kernelRun0_A.sl.v28 c i arg1 harg1 arg2 harg2 arg10 x0 x1 = (XE (kernelRun0_A.sl.v9 i) x0 x1) := by
  have hx : ∀ h, View.readAt (Elt F) arg1.view (Rect.unit (s := S512x1024) ![0, 0] S512x1024.size h).toLoadRect (harg1.unread x0) = x0 :=
    fun h => (funext fun j => Memref.IsWhole.readAt_unread harg1 x0 _ j).trans ((rows_of (N := 512) (d := 1024) (o := 0) (n := 512) (by omega) h x0).trans (rows_all (N := 512) (d := 1024) x0))
  have hxn : ∀ h, View.readAt (Elt F) arg2.view (Rect.unit (s := S16x1024) ![0, 0] S16x1024.size h).toLoadRect (harg2.unread x1) = x1 :=
    fun h => (funext fun j => Memref.IsWhole.readAt_unread harg2 x1 _ j).trans ((rows_of (N := 16) (d := 1024) (o := 0) (n := 16) (by omega) h x1).trans (rows_all (N := 16) (d := 1024) x1))
  refine ((load_rows (n0 := 512) (n1 := 16) (N := 528) (d := 1024) (o := 0) (n := 528) rfl (by omega) _ _ _ _ _ _).trans (rows_all (N := 528) (d := 1024) _)).trans ?_
  exact congrArg₂ (cat (n0 := 512) (n1 := 16) (N := 528) (d := 1024) rfl) (congrArg k0_pay2 (hx _)) ((congrArg (k0_pay3 i) (hxn _)).trans (nx_A i x1))

/-- Every tile of the activations' scratch is the gated product of its two convolutions. -/
theorem acts_A (h9 : kernelRun0_A.sl.v9 i = 0#32) (y : S512x2816.Idx) : View.canon (Val := Elt F) (e := .bf16) (kernelRun0_A.sl.HS2_22 c i arg1 harg1 arg2 harg2 arg3 harg3 arg4 harg4 arg5 harg5 arg10 arg11 arg13 x0 x1 x2 x3 x4) y
    = ACTALL (XE (kernelRun0_A.sl.v9 i) x0 x1) x2 x3 x4 (fun _ => ZT) y := by
  have hcb : ∀ (o : ℕ) (_ : o + 128 ≤ 5632) (h), View.readAt (Elt F) arg5.view (Rect.unit (s := S1x5632) ![0, o] S1x128.size h).toLoadRect (harg5.unread x4) = cbT x4 o :=
    fun o ho h => funext fun x => (Memref.IsWhole.readAt_unread harg5 x4 _ x).trans (congrArg x4 (cb_idx o ho h x))
  have hcw : ∀ (r : Fin 3) (o : ℕ) (_ : o + 128 ≤ 5632) (h), View.readAt (Elt F) arg4.view (Rect.unit (s := S3x5632) ![r.val, o] S1x128.size h).toLoadRect (harg4.unread x3) = cwT x3 r o :=
    fun r o ho h => funext fun x => (Memref.IsWhole.readAt_unread harg4 x3 _ x).trans (congrArg x3 (cw_idx r o ho h x))
  have hw : ∀ (o : ℕ) (_ : o + 256 ≤ 5632) (h), View.readAt (Elt F) arg3.view (Rect.unit (s := S1024x5632) ![0, o] S1024x256.size h).toLoadRect (harg3.unread x2) = wT x2 o :=
    fun o ho h => funext fun x => (Memref.IsWhole.readAt_unread harg3 x2 _ x).trans (congrArg x2 (w_idx o ho h x))
  have hxe := xe_A c i arg1 harg1 arg2 harg2 arg10 x0 x1
  have hlt : (y 1).val < 128 * (21 + 1) := (y 1).isLt
  revert y
  show ∀ y : SA.Idx, (y 1).val < 128 * (21 + 1) → View.canon (Val := Elt F) (e := .bf16) _ y = (ACT (XE (kernelRun0_A.sl.v9 i) x0 x1) x2 x3 x4 (fun _ => ZT)) ((y 1).val / 128) (ix2 (y 0) ⟨(y 1).val % 128, Nat.mod_lt _ (by decide)⟩)
  refine act_step (Val := Elt F) (e := .bf16) (ACT (XE (kernelRun0_A.sl.v9 i) x0 x1) x2 x3 x4 (fun _ => ZT)) 21 2688 rfl ?_ ?_
  · dsimp only [k0_pay265, k0_pay266, k0_pay267, k0_pay268, k0_pay269, k0_pay270, k0_pay271, k0_pay272, kernelRun0_A.sl.r_105, kernelRun0_A.sl.r_106, kernelRun0_A.sl.r_107, kernelRun0_A.sl.r_108, kernelRun0_A.sl.r_109, kernelRun0_A.sl.r_110]
    exact act_of 21 (hcb 2688 (by omega) _) ((conv1 _ _ _ _ _ _ _ _ _ _ _ _ _ _ 0 _).trans (hcat_congr (car_zero h9 _) (hX_odd 41 (by decide) hxe (hw 2560 (by omega) _)))) (hcw 0 2688 (by omega) _) ((conv1 _ _ _ _ _ _ _ _ _ _ _ _ _ _ 1 _).trans (hcat_congr (car_zero h9 _) (hX_odd 41 (by decide) hxe (hw 2560 (by omega) _)))) (hcw 1 2688 (by omega) _) ((conv1 _ _ _ _ _ _ _ _ _ _ _ _ _ _ 2 _).trans (hcat_congr (car_zero h9 _) (hX_odd 41 (by decide) hxe (hw 2560 (by omega) _)))) (hcw 2 2688 (by omega) _)
      (hcb 5504 (by omega) _) ((conv3 _ _ _ _ _ _ 0 _).trans (hcat_congr (car_zero h9 _) (hX_odd 43 (by decide) hxe (hw 5376 (by omega) _)))) (hcw 0 5504 (by omega) _) ((conv3 _ _ _ _ _ _ 1 _).trans (hcat_congr (car_zero h9 _) (hX_odd 43 (by decide) hxe (hw 5376 (by omega) _)))) (hcw 1 5504 (by omega) _) ((conv3 _ _ _ _ _ _ 2 _).trans (hcat_congr (car_zero h9 _) (hX_odd 43 (by decide) hxe (hw 5376 (by omega) _)))) (hcw 2 5504 (by omega) _)
  refine act_step (Val := Elt F) (e := .bf16) (ACT (XE (kernelRun0_A.sl.v9 i) x0 x1) x2 x3 x4 (fun _ => ZT)) 20 2560 rfl ?_ ?_
  · dsimp only [k0_pay261, k0_pay262, k0_pay263, k0_pay264, kernelRun0_A.sl.r_102, kernelRun0_A.sl.r_103, kernelRun0_A.sl.r_104]
    exact act_of 20 (hcb 2560 (by omega) _) ((conv0 _ _ _ _ _ _ _ _ _ _ _ _ _ _ _ _ _ _ 0 _).trans (hcat_congr (car_zero h9 _) (hX_even 40 (by decide) hxe (hw 2560 (by omega) _)))) (hcw 0 2560 (by omega) _) ((conv0 _ _ _ _ _ _ _ _ _ _ _ _ _ _ _ _ _ _ 1 _).trans (hcat_congr (car_zero h9 _) (hX_even 40 (by decide) hxe (hw 2560 (by omega) _)))) (hcw 1 2560 (by omega) _) ((conv0 _ _ _ _ _ _ _ _ _ _ _ _ _ _ _ _ _ _ 2 _).trans (hcat_congr (car_zero h9 _) (hX_even 40 (by decide) hxe (hw 2560 (by omega) _)))) (hcw 2 2560 (by omega) _)
      (hcb 5376 (by omega) _) ((conv2 _ _ _ _ _ _ _ _ _ _ 0 _).trans (hcat_congr (car_zero h9 _) (hX_even 42 (by decide) hxe (hw 5376 (by omega) _)))) (hcw 0 5376 (by omega) _) ((conv2 _ _ _ _ _ _ _ _ _ _ 1 _).trans (hcat_congr (car_zero h9 _) (hX_even 42 (by decide) hxe (hw 5376 (by omega) _)))) (hcw 1 5376 (by omega) _) ((conv2 _ _ _ _ _ _ _ _ _ _ 2 _).trans (hcat_congr (car_zero h9 _) (hX_even 42 (by decide) hxe (hw 5376 (by omega) _)))) (hcw 2 5376 (by omega) _)
  refine act_step (Val := Elt F) (e := .bf16) (ACT (XE (kernelRun0_A.sl.v9 i) x0 x1) x2 x3 x4 (fun _ => ZT)) 19 2432 rfl ?_ ?_
  · dsimp only [k0_pay241, k0_pay242, k0_pay243, k0_pay244, kernelRun0_A.sl.r_95, kernelRun0_A.sl.r_96, kernelRun0_A.sl.r_97]
    exact act_of 19 (hcb 2432 (by omega) _) ((conv1 _ _ _ _ _ _ _ _ _ _ _ _ _ _ 0 _).trans (hcat_congr (car_zero h9 _) (hX_odd 37 (by decide) hxe (hw 2304 (by omega) _)))) (hcw 0 2432 (by omega) _) ((conv1 _ _ _ _ _ _ _ _ _ _ _ _ _ _ 1 _).trans (hcat_congr (car_zero h9 _) (hX_odd 37 (by decide) hxe (hw 2304 (by omega) _)))) (hcw 1 2432 (by omega) _) ((conv1 _ _ _ _ _ _ _ _ _ _ _ _ _ _ 2 _).trans (hcat_congr (car_zero h9 _) (hX_odd 37 (by decide) hxe (hw 2304 (by omega) _)))) (hcw 2 2432 (by omega) _)
      (hcb 5248 (by omega) _) ((conv3 _ _ _ _ _ _ 0 _).trans (hcat_congr (car_zero h9 _) (hX_odd 39 (by decide) hxe (hw 5120 (by omega) _)))) (hcw 0 5248 (by omega) _) ((conv3 _ _ _ _ _ _ 1 _).trans (hcat_congr (car_zero h9 _) (hX_odd 39 (by decide) hxe (hw 5120 (by omega) _)))) (hcw 1 5248 (by omega) _) ((conv3 _ _ _ _ _ _ 2 _).trans (hcat_congr (car_zero h9 _) (hX_odd 39 (by decide) hxe (hw 5120 (by omega) _)))) (hcw 2 5248 (by omega) _)
  refine act_step (Val := Elt F) (e := .bf16) (ACT (XE (kernelRun0_A.sl.v9 i) x0 x1) x2 x3 x4 (fun _ => ZT)) 18 2304 rfl ?_ ?_
  · dsimp only [k0_pay239, k0_pay240, kernelRun0_A.sl.r_94]
    exact act_of 18 (hcb 2304 (by omega) _) ((conv0 _ _ _ _ _ _ _ _ _ _ _ _ _ _ _ _ _ _ 0 _).trans (hcat_congr (car_zero h9 _) (hX_even 36 (by decide) hxe (hw 2304 (by omega) _)))) (hcw 0 2304 (by omega) _) ((conv0 _ _ _ _ _ _ _ _ _ _ _ _ _ _ _ _ _ _ 1 _).trans (hcat_congr (car_zero h9 _) (hX_even 36 (by decide) hxe (hw 2304 (by omega) _)))) (hcw 1 2304 (by omega) _) ((conv0 _ _ _ _ _ _ _ _ _ _ _ _ _ _ _ _ _ _ 2 _).trans (hcat_congr (car_zero h9 _) (hX_even 36 (by decide) hxe (hw 2304 (by omega) _)))) (hcw 2 2304 (by omega) _)
      (hcb 5120 (by omega) _) ((conv2 _ _ _ _ _ _ _ _ _ _ 0 _).trans (hcat_congr (car_zero h9 _) (hX_even 38 (by decide) hxe (hw 5120 (by omega) _)))) (hcw 0 5120 (by omega) _) ((conv2 _ _ _ _ _ _ _ _ _ _ 1 _).trans (hcat_congr (car_zero h9 _) (hX_even 38 (by decide) hxe (hw 5120 (by omega) _)))) (hcw 1 5120 (by omega) _) ((conv2 _ _ _ _ _ _ _ _ _ _ 2 _).trans (hcat_congr (car_zero h9 _) (hX_even 38 (by decide) hxe (hw 5120 (by omega) _)))) (hcw 2 5120 (by omega) _)
  refine act_step (Val := Elt F) (e := .bf16) (ACT (XE (kernelRun0_A.sl.v9 i) x0 x1) x2 x3 x4 (fun _ => ZT)) 17 2176 rfl ?_ ?_
  · dsimp only [k0_pay220, k0_pay221, k0_pay222, kernelRun0_A.sl.r_88, kernelRun0_A.sl.r_89]
    exact act_of 17 (hcb 2176 (by omega) _) ((conv1 _ _ _ _ _ _ _ _ _ _ _ _ _ _ 0 _).trans (hcat_congr (car_zero h9 _) (hX_odd 33 (by decide) hxe (hw 2048 (by omega) _)))) (hcw 0 2176 (by omega) _) ((conv1 _ _ _ _ _ _ _ _ _ _ _ _ _ _ 1 _).trans (hcat_congr (car_zero h9 _) (hX_odd 33 (by decide) hxe (hw 2048 (by omega) _)))) (hcw 1 2176 (by omega) _) ((conv1 _ _ _ _ _ _ _ _ _ _ _ _ _ _ 2 _).trans (hcat_congr (car_zero h9 _) (hX_odd 33 (by decide) hxe (hw 2048 (by omega) _)))) (hcw 2 2176 (by omega) _)
      (hcb 4992 (by omega) _) ((conv3 _ _ _ _ _ _ 0 _).trans (hcat_congr (car_zero h9 _) (hX_odd 35 (by decide) hxe (hw 4864 (by omega) _)))) (hcw 0 4992 (by omega) _) ((conv3 _ _ _ _ _ _ 1 _).trans (hcat_congr (car_zero h9 _) (hX_odd 35 (by decide) hxe (hw 4864 (by omega) _)))) (hcw 1 4992 (by omega) _) ((conv3 _ _ _ _ _ _ 2 _).trans (hcat_congr (car_zero h9 _) (hX_odd 35 (by decide) hxe (hw 4864 (by omega) _)))) (hcw 2 4992 (by omega) _)
  refine act_step (Val := Elt F) (e := .bf16) (ACT (XE (kernelRun0_A.sl.v9 i) x0 x1) x2 x3 x4 (fun _ => ZT)) 16 2048 rfl ?_ ?_
  · dsimp only [k0_pay215, k0_pay216, k0_pay217, k0_pay218, k0_pay219, kernelRun0_A.sl.r_84, kernelRun0_A.sl.r_85, kernelRun0_A.sl.r_86, kernelRun0_A.sl.r_87]
    exact act_of 16 (hcb 2048 (by omega) _) ((conv0 _ _ _ _ _ _ _ _ _ _ _ _ _ _ _ _ _ _ 0 _).trans (hcat_congr (car_zero h9 _) (hX_even 32 (by decide) hxe (hw 2048 (by omega) _)))) (hcw 0 2048 (by omega) _) ((conv0 _ _ _ _ _ _ _ _ _ _ _ _ _ _ _ _ _ _ 1 _).trans (hcat_congr (car_zero h9 _) (hX_even 32 (by decide) hxe (hw 2048 (by omega) _)))) (hcw 1 2048 (by omega) _) ((conv0 _ _ _ _ _ _ _ _ _ _ _ _ _ _ _ _ _ _ 2 _).trans (hcat_congr (car_zero h9 _) (hX_even 32 (by decide) hxe (hw 2048 (by omega) _)))) (hcw 2 2048 (by omega) _)
      (hcb 4864 (by omega) _) ((conv2 _ _ _ _ _ _ _ _ _ _ 0 _).trans (hcat_congr (car_zero h9 _) (hX_even 34 (by decide) hxe (hw 4864 (by omega) _)))) (hcw 0 4864 (by omega) _) ((conv2 _ _ _ _ _ _ _ _ _ _ 1 _).trans (hcat_congr (car_zero h9 _) (hX_even 34 (by decide) hxe (hw 4864 (by omega) _)))) (hcw 1 4864 (by omega) _) ((conv2 _ _ _ _ _ _ _ _ _ _ 2 _).trans (hcat_congr (car_zero h9 _) (hX_even 34 (by decide) hxe (hw 4864 (by omega) _)))) (hcw 2 4864 (by omega) _)
  refine act_step (Val := Elt F) (e := .bf16) (ACT (XE (kernelRun0_A.sl.v9 i) x0 x1) x2 x3 x4 (fun _ => ZT)) 15 1920 rfl ?_ ?_
  · dsimp only [k0_pay192, k0_pay193, k0_pay194, k0_pay195, k0_pay196, k0_pay197, k0_pay198, k0_pay199, kernelRun0_A.sl.r_75, kernelRun0_A.sl.r_76, kernelRun0_A.sl.r_77, kernelRun0_A.sl.r_78, kernelRun0_A.sl.r_79, kernelRun0_A.sl.r_80]
    exact act_of 15 (hcb 1920 (by omega) _) ((conv1 _ _ _ _ _ _ _ _ _ _ _ _ _ _ 0 _).trans (hcat_congr (car_zero h9 _) (hX_odd 29 (by decide) hxe (hw 1792 (by omega) _)))) (hcw 0 1920 (by omega) _) ((conv1 _ _ _ _ _ _ _ _ _ _ _ _ _ _ 1 _).trans (hcat_congr (car_zero h9 _) (hX_odd 29 (by decide) hxe (hw 1792 (by omega) _)))) (hcw 1 1920 (by omega) _) ((conv1 _ _ _ _ _ _ _ _ _ _ _ _ _ _ 2 _).trans (hcat_congr (car_zero h9 _) (hX_odd 29 (by decide) hxe (hw 1792 (by omega) _)))) (hcw 2 1920 (by omega) _)
      (hcb 4736 (by omega) _) ((conv3 _ _ _ _ _ _ 0 _).trans (hcat_congr (car_zero h9 _) (hX_odd 31 (by decide) hxe (hw 4608 (by omega) _)))) (hcw 0 4736 (by omega) _) ((conv3 _ _ _ _ _ _ 1 _).trans (hcat_congr (car_zero h9 _) (hX_odd 31 (by decide) hxe (hw 4608 (by omega) _)))) (hcw 1 4736 (by omega) _) ((conv3 _ _ _ _ _ _ 2 _).trans (hcat_congr (car_zero h9 _) (hX_odd 31 (by decide) hxe (hw 4608 (by omega) _)))) (hcw 2 4736 (by omega) _)
  refine act_step (Val := Elt F) (e := .bf16) (ACT (XE (kernelRun0_A.sl.v9 i) x0 x1) x2 x3 x4 (fun _ => ZT)) 14 1792 rfl ?_ ?_
  · dsimp only [k0_pay188, k0_pay189, k0_pay190, k0_pay191, kernelRun0_A.sl.r_72, kernelRun0_A.sl.r_73, kernelRun0_A.sl.r_74]
    exact act_of 14 (hcb 1792 (by omega) _) ((conv0 _ _ _ _ _ _ _ _ _ _ _ _ _ _ _ _ _ _ 0 _).trans (hcat_congr (car_zero h9 _) (hX_even 28 (by decide) hxe (hw 1792 (by omega) _)))) (hcw 0 1792 (by omega) _) ((conv0 _ _ _ _ _ _ _ _ _ _ _ _ _ _ _ _ _ _ 1 _).trans (hcat_congr (car_zero h9 _) (hX_even 28 (by decide) hxe (hw 1792 (by omega) _)))) (hcw 1 1792 (by omega) _) ((conv0 _ _ _ _ _ _ _ _ _ _ _ _ _ _ _ _ _ _ 2 _).trans (hcat_congr (car_zero h9 _) (hX_even 28 (by decide) hxe (hw 1792 (by omega) _)))) (hcw 2 1792 (by omega) _)
      (hcb 4608 (by omega) _) ((conv2 _ _ _ _ _ _ _ _ _ _ 0 _).trans (hcat_congr (car_zero h9 _) (hX_even 30 (by decide) hxe (hw 4608 (by omega) _)))) (hcw 0 4608 (by omega) _) ((conv2 _ _ _ _ _ _ _ _ _ _ 1 _).trans (hcat_congr (car_zero h9 _) (hX_even 30 (by decide) hxe (hw 4608 (by omega) _)))) (hcw 1 4608 (by omega) _) ((conv2 _ _ _ _ _ _ _ _ _ _ 2 _).trans (hcat_congr (car_zero h9 _) (hX_even 30 (by decide) hxe (hw 4608 (by omega) _)))) (hcw 2 4608 (by omega) _)
  refine act_step (Val := Elt F) (e := .bf16) (ACT (XE (kernelRun0_A.sl.v9 i) x0 x1) x2 x3 x4 (fun _ => ZT)) 13 1664 rfl ?_ ?_
  · dsimp only [k0_pay168, k0_pay169, k0_pay170, k0_pay171, kernelRun0_A.sl.r_65, kernelRun0_A.sl.r_66, kernelRun0_A.sl.r_67]
    exact act_of 13 (hcb 1664 (by omega) _) ((conv1 _ _ _ _ _ _ _ _ _ _ _ _ _ _ 0 _).trans (hcat_congr (car_zero h9 _) (hX_odd 25 (by decide) hxe (hw 1536 (by omega) _)))) (hcw 0 1664 (by omega) _) ((conv1 _ _ _ _ _ _ _ _ _ _ _ _ _ _ 1 _).trans (hcat_congr (car_zero h9 _) (hX_odd 25 (by decide) hxe (hw 1536 (by omega) _)))) (hcw 1 1664 (by omega) _) ((conv1 _ _ _ _ _ _ _ _ _ _ _ _ _ _ 2 _).trans (hcat_congr (car_zero h9 _) (hX_odd 25 (by decide) hxe (hw 1536 (by omega) _)))) (hcw 2 1664 (by omega) _)
      (hcb 4480 (by omega) _) ((conv3 _ _ _ _ _ _ 0 _).trans (hcat_congr (car_zero h9 _) (hX_odd 27 (by decide) hxe (hw 4352 (by omega) _)))) (hcw 0 4480 (by omega) _) ((conv3 _ _ _ _ _ _ 1 _).trans (hcat_congr (car_zero h9 _) (hX_odd 27 (by decide) hxe (hw 4352 (by omega) _)))) (hcw 1 4480 (by omega) _) ((conv3 _ _ _ _ _ _ 2 _).trans (hcat_congr (car_zero h9 _) (hX_odd 27 (by decide) hxe (hw 4352 (by omega) _)))) (hcw 2 4480 (by omega) _)
  refine act_step (Val := Elt F) (e := .bf16) (ACT (XE (kernelRun0_A.sl.v9 i) x0 x1) x2 x3 x4 (fun _ => ZT)) 12 1536 rfl ?_ ?_
  · dsimp only [k0_pay166, k0_pay167, kernelRun0_A.sl.r_64]
    exact act_of 12 (hcb 1536 (by omega) _) ((conv0 _ _ _ _ _ _ _ _ _ _ _ _ _ _ _ _ _ _ 0 _).trans (hcat_congr (car_zero h9 _) (hX_even 24 (by decide) hxe (hw 1536 (by omega) _)))) (hcw 0 1536 (by omega) _) ((conv0 _ _ _ _ _ _ _ _ _ _ _ _ _ _ _ _ _ _ 1 _).trans (hcat_congr (car_zero h9 _) (hX_even 24 (by decide) hxe (hw 1536 (by omega) _)))) (hcw 1 1536 (by omega) _) ((conv0 _ _ _ _ _ _ _ _ _ _ _ _ _ _ _ _ _ _ 2 _).trans (hcat_congr (car_zero h9 _) (hX_even 24 (by decide) hxe (hw 1536 (by omega) _)))) (hcw 2 1536 (by omega) _)
      (hcb 4352 (by omega) _) ((conv2 _ _ _ _ _ _ _ _ _ _ 0 _).trans (hcat_congr (car_zero h9 _) (hX_even 26 (by decide) hxe (hw 4352 (by omega) _)))) (hcw 0 4352 (by omega) _) ((conv2 _ _ _ _ _ _ _ _ _ _ 1 _).trans (hcat_congr (car_zero h9 _) (hX_even 26 (by decide) hxe (hw 4352 (by omega) _)))) (hcw 1 4352 (by omega) _) ((conv2 _ _ _ _ _ _ _ _ _ _ 2 _).trans (hcat_congr (car_zero h9 _) (hX_even 26 (by decide) hxe (hw 4352 (by omega) _)))) (hcw 2 4352 (by omega) _)
  refine act_step (Val := Elt F) (e := .bf16) (ACT (XE (kernelRun0_A.sl.v9 i) x0 x1) x2 x3 x4 (fun _ => ZT)) 11 1408 rfl ?_ ?_
  · dsimp only [k0_pay147, k0_pay148, k0_pay149, kernelRun0_A.sl.r_58, kernelRun0_A.sl.r_59]
    exact act_of 11 (hcb 1408 (by omega) _) ((conv1 _ _ _ _ _ _ _ _ _ _ _ _ _ _ 0 _).trans (hcat_congr (car_zero h9 _) (hX_odd 21 (by decide) hxe (hw 1280 (by omega) _)))) (hcw 0 1408 (by omega) _) ((conv1 _ _ _ _ _ _ _ _ _ _ _ _ _ _ 1 _).trans (hcat_congr (car_zero h9 _) (hX_odd 21 (by decide) hxe (hw 1280 (by omega) _)))) (hcw 1 1408 (by omega) _) ((conv1 _ _ _ _ _ _ _ _ _ _ _ _ _ _ 2 _).trans (hcat_congr (car_zero h9 _) (hX_odd 21 (by decide) hxe (hw 1280 (by omega) _)))) (hcw 2 1408 (by omega) _)
      (hcb 4224 (by omega) _) ((conv3 _ _ _ _ _ _ 0 _).trans (hcat_congr (car_zero h9 _) (hX_odd 23 (by decide) hxe (hw 4096 (by omega) _)))) (hcw 0 4224 (by omega) _) ((conv3 _ _ _ _ _ _ 1 _).trans (hcat_congr (car_zero h9 _) (hX_odd 23 (by decide) hxe (hw 4096 (by omega) _)))) (hcw 1 4224 (by omega) _) ((conv3 _ _ _ _ _ _ 2 _).trans (hcat_congr (car_zero h9 _) (hX_odd 23 (by decide) hxe (hw 4096 (by omega) _)))) (hcw 2 4224 (by omega) _)
  refine act_step (Val := Elt F) (e := .bf16) (ACT (XE (kernelRun0_A.sl.v9 i) x0 x1) x2 x3 x4 (fun _ => ZT)) 10 1280 rfl ?_ ?_
  · dsimp only [k0_pay142, k0_pay143, k0_pay144, k0_pay145, k0_pay146, kernelRun0_A.sl.r_54, kernelRun0_A.sl.r_55, kernelRun0_A.sl.r_56, kernelRun0_A.sl.r_57]
    exact act_of 10 (hcb 1280 (by omega) _) ((conv0 _ _ _ _ _ _ _ _ _ _ _ _ _ _ _ _ _ _ 0 _).trans (hcat_congr (car_zero h9 _) (hX_even 20 (by decide) hxe (hw 1280 (by omega) _)))) (hcw 0 1280 (by omega) _) ((conv0 _ _ _ _ _ _ _ _ _ _ _ _ _ _ _ _ _ _ 1 _).trans (hcat_congr (car_zero h9 _) (hX_even 20 (by decide) hxe (hw 1280 (by omega) _)))) (hcw 1 1280 (by omega) _) ((conv0 _ _ _ _ _ _ _ _ _ _ _ _ _ _ _ _ _ _ 2 _).trans (hcat_congr (car_zero h9 _) (hX_even 20 (by decide) hxe (hw 1280 (by omega) _)))) (hcw 2 1280 (by omega) _)
      (hcb 4096 (by omega) _) ((conv2 _ _ _ _ _ _ _ _ _ _ 0 _).trans (hcat_congr (car_zero h9 _) (hX_even 22 (by decide) hxe (hw 4096 (by omega) _)))) (hcw 0 4096 (by omega) _) ((conv2 _ _ _ _ _ _ _ _ _ _ 1 _).trans (hcat_congr (car_zero h9 _) (hX_even 22 (by decide) hxe (hw 4096 (by omega) _)))) (hcw 1 4096 (by omega) _) ((conv2 _ _ _ _ _ _ _ _ _ _ 2 _).trans (hcat_congr (car_zero h9 _) (hX_even 22 (by decide) hxe (hw 4096 (by omega) _)))) (hcw 2 4096 (by omega) _)
  refine act_step (Val := Elt F) (e := .bf16) (ACT (XE (kernelRun0_A.sl.v9 i) x0 x1) x2 x3 x4 (fun _ => ZT)) 9 1152 rfl ?_ ?_
  · dsimp only [k0_pay119, k0_pay120, k0_pay121, k0_pay122, k0_pay123, k0_pay124, k0_pay125, k0_pay126, kernelRun0_A.sl.r_45, kernelRun0_A.sl.r_46, kernelRun0_A.sl.r_47, kernelRun0_A.sl.r_48, kernelRun0_A.sl.r_49, kernelRun0_A.sl.r_50]
    exact act_of 9 (hcb 1152 (by omega) _) ((conv1 _ _ _ _ _ _ _ _ _ _ _ _ _ _ 0 _).trans (hcat_congr (car_zero h9 _) (hX_odd 17 (by decide) hxe (hw 1024 (by omega) _)))) (hcw 0 1152 (by omega) _) ((conv1 _ _ _ _ _ _ _ _ _ _ _ _ _ _ 1 _).trans (hcat_congr (car_zero h9 _) (hX_odd 17 (by decide) hxe (hw 1024 (by omega) _)))) (hcw 1 1152 (by omega) _) ((conv1 _ _ _ _ _ _ _ _ _ _ _ _ _ _ 2 _).trans (hcat_congr (car_zero h9 _) (hX_odd 17 (by decide) hxe (hw 1024 (by omega) _)))) (hcw 2 1152 (by omega) _)
      (hcb 3968 (by omega) _) ((conv3 _ _ _ _ _ _ 0 _).trans (hcat_congr (car_zero h9 _) (hX_odd 19 (by decide) hxe (hw 3840 (by omega) _)))) (hcw 0 3968 (by omega) _) ((conv3 _ _ _ _ _ _ 1 _).trans (hcat_congr (car_zero h9 _) (hX_odd 19 (by decide) hxe (hw 3840 (by omega) _)))) (hcw 1 3968 (by omega) _) ((conv3 _ _ _ _ _ _ 2 _).trans (hcat_congr (car_zero h9 _) (hX_odd 19 (by decide) hxe (hw 3840 (by omega) _)))) (hcw 2 3968 (by omega) _)
  refine act_step (Val := Elt F) (e := .bf16) (ACT (XE (kernelRun0_A.sl.v9 i) x0 x1) x2 x3 x4 (fun _ => ZT)) 8 1024 rfl ?_ ?_
  · dsimp only [k0_pay115, k0_pay116, k0_pay117, k0_pay118, kernelRun0_A.sl.r_42, kernelRun0_A.sl.r_43, kernelRun0_A.sl.r_44]
    exact act_of 8 (hcb 1024 (by omega) _) ((conv0 _ _ _ _ _ _ _ _ _ _ _ _ _ _ _ _ _ _ 0 _).trans (hcat_congr (car_zero h9 _) (hX_even 16 (by decide) hxe (hw 1024 (by omega) _)))) (hcw 0 1024 (by omega) _) ((conv0 _ _ _ _ _ _ _ _ _ _ _ _ _ _ _ _ _ _ 1 _).trans (hcat_congr (car_zero h9 _) (hX_even 16 (by decide) hxe (hw 1024 (by omega) _)))) (hcw 1 1024 (by omega) _) ((conv0 _ _ _ _ _ _ _ _ _ _ _ _ _ _ _ _ _ _ 2 _).trans (hcat_congr (car_zero h9 _) (hX_even 16 (by decide) hxe (hw 1024 (by omega) _)))) (hcw 2 1024 (by omega) _)
      (hcb 3840 (by omega) _) ((conv2 _ _ _ _ _ _ _ _ _ _ 0 _).trans (hcat_congr (car_zero h9 _) (hX_even 18 (by decide) hxe (hw 3840 (by omega) _)))) (hcw 0 3840 (by omega) _) ((conv2 _ _ _ _ _ _ _ _ _ _ 1 _).trans (hcat_congr (car_zero h9 _) (hX_even 18 (by decide) hxe (hw 3840 (by omega) _)))) (hcw 1 3840 (by omega) _) ((conv2 _ _ _ _ _ _ _ _ _ _ 2 _).trans (hcat_congr (car_zero h9 _) (hX_even 18 (by decide) hxe (hw 3840 (by omega) _)))) (hcw 2 3840 (by omega) _)
  refine act_step (Val := Elt F) (e := .bf16) (ACT (XE (kernelRun0_A.sl.v9 i) x0 x1) x2 x3 x4 (fun _ => ZT)) 7 896 rfl ?_ ?_
  · dsimp only [k0_pay95, k0_pay96, k0_pay97, k0_pay98, kernelRun0_A.sl.r_35, kernelRun0_A.sl.r_36, kernelRun0_A.sl.r_37]
    exact act_of 7 (hcb 896 (by omega) _) ((conv1 _ _ _ _ _ _ _ _ _ _ _ _ _ _ 0 _).trans (hcat_congr (car_zero h9 _) (hX_odd 13 (by decide) hxe (hw 768 (by omega) _)))) (hcw 0 896 (by omega) _) ((conv1 _ _ _ _ _ _ _ _ _ _ _ _ _ _ 1 _).trans (hcat_congr (car_zero h9 _) (hX_odd 13 (by decide) hxe (hw 768 (by omega) _)))) (hcw 1 896 (by omega) _) ((conv1 _ _ _ _ _ _ _ _ _ _ _ _ _ _ 2 _).trans (hcat_congr (car_zero h9 _) (hX_odd 13 (by decide) hxe (hw 768 (by omega) _)))) (hcw 2 896 (by omega) _)
      (hcb 3712 (by omega) _) ((conv3 _ _ _ _ _ _ 0 _).trans (hcat_congr (car_zero h9 _) (hX_odd 15 (by decide) hxe (hw 3584 (by omega) _)))) (hcw 0 3712 (by omega) _) ((conv3 _ _ _ _ _ _ 1 _).trans (hcat_congr (car_zero h9 _) (hX_odd 15 (by decide) hxe (hw 3584 (by omega) _)))) (hcw 1 3712 (by omega) _) ((conv3 _ _ _ _ _ _ 2 _).trans (hcat_congr (car_zero h9 _) (hX_odd 15 (by decide) hxe (hw 3584 (by omega) _)))) (hcw 2 3712 (by omega) _)
  refine act_step (Val := Elt F) (e := .bf16) (ACT (XE (kernelRun0_A.sl.v9 i) x0 x1) x2 x3 x4 (fun _ => ZT)) 6 768 rfl ?_ ?_
  · dsimp only [k0_pay93, k0_pay94, kernelRun0_A.sl.r_34]
    exact act_of 6 (hcb 768 (by omega) _) ((conv0 _ _ _ _ _ _ _ _ _ _ _ _ _ _ _ _ _ _ 0 _).trans (hcat_congr (car_zero h9 _) (hX_even 12 (by decide) hxe (hw 768 (by omega) _)))) (hcw 0 768 (by omega) _) ((conv0 _ _ _ _ _ _ _ _ _ _ _ _ _ _ _ _ _ _ 1 _).trans (hcat_congr (car_zero h9 _) (hX_even 12 (by decide) hxe (hw 768 (by omega) _)))) (hcw 1 768 (by omega) _) ((conv0 _ _ _ _ _ _ _ _ _ _ _ _ _ _ _ _ _ _ 2 _).trans (hcat_congr (car_zero h9 _) (hX_even 12 (by decide) hxe (hw 768 (by omega) _)))) (hcw 2 768 (by omega) _)
      (hcb 3584 (by omega) _) ((conv2 _ _ _ _ _ _ _ _ _ _ 0 _).trans (hcat_congr (car_zero h9 _) (hX_even 14 (by decide) hxe (hw 3584 (by omega) _)))) (hcw 0 3584 (by omega) _) ((conv2 _ _ _ _ _ _ _ _ _ _ 1 _).trans (hcat_congr (car_zero h9 _) (hX_even 14 (by decide) hxe (hw 3584 (by omega) _)))) (hcw 1 3584 (by omega) _) ((conv2 _ _ _ _ _ _ _ _ _ _ 2 _).trans (hcat_congr (car_zero h9 _) (hX_even 14 (by decide) hxe (hw 3584 (by omega) _)))) (hcw 2 3584 (by omega) _)
  refine act_step (Val := Elt F) (e := .bf16) (ACT (XE (kernelRun0_A.sl.v9 i) x0 x1) x2 x3 x4 (fun _ => ZT)) 5 640 rfl ?_ ?_
  · dsimp only [k0_pay74, k0_pay75, k0_pay76, kernelRun0_A.sl.r_28, kernelRun0_A.sl.r_29]
    exact act_of 5 (hcb 640 (by omega) _) ((conv1 _ _ _ _ _ _ _ _ _ _ _ _ _ _ 0 _).trans (hcat_congr (car_zero h9 _) (hX_odd 9 (by decide) hxe (hw 512 (by omega) _)))) (hcw 0 640 (by omega) _) ((conv1 _ _ _ _ _ _ _ _ _ _ _ _ _ _ 1 _).trans (hcat_congr (car_zero h9 _) (hX_odd 9 (by decide) hxe (hw 512 (by omega) _)))) (hcw 1 640 (by omega) _) ((conv1 _ _ _ _ _ _ _ _ _ _ _ _ _ _ 2 _).trans (hcat_congr (car_zero h9 _) (hX_odd 9 (by decide) hxe (hw 512 (by omega) _)))) (hcw 2 640 (by omega) _)
      (hcb 3456 (by omega) _) ((conv3 _ _ _ _ _ _ 0 _).trans (hcat_congr (car_zero h9 _) (hX_odd 11 (by decide) hxe (hw 3328 (by omega) _)))) (hcw 0 3456 (by omega) _) ((conv3 _ _ _ _ _ _ 1 _).trans (hcat_congr (car_zero h9 _) (hX_odd 11 (by decide) hxe (hw 3328 (by omega) _)))) (hcw 1 3456 (by omega) _) ((conv3 _ _ _ _ _ _ 2 _).trans (hcat_congr (car_zero h9 _) (hX_odd 11 (by decide) hxe (hw 3328 (by omega) _)))) (hcw 2 3456 (by omega) _)
  refine act_step (Val := Elt F) (e := .bf16) (ACT (XE (kernelRun0_A.sl.v9 i) x0 x1) x2 x3 x4 (fun _ => ZT)) 4 512 rfl ?_ ?_
  · dsimp only [k0_pay69, k0_pay70, k0_pay71, k0_pay72, k0_pay73, kernelRun0_A.sl.r_24, kernelRun0_A.sl.r_25, kernelRun0_A.sl.r_26, kernelRun0_A.sl.r_27]
    exact act_of 4 (hcb 512 (by omega) _) ((conv0 _ _ _ _ _ _ _ _ _ _ _ _ _ _ _ _ _ _ 0 _).trans (hcat_congr (car_zero h9 _) (hX_even 8 (by decide) hxe (hw 512 (by omega) _)))) (hcw 0 512 (by omega) _) ((conv0 _ _ _ _ _ _ _ _ _ _ _ _ _ _ _ _ _ _ 1 _).trans (hcat_congr (car_zero h9 _) (hX_even 8 (by decide) hxe (hw 512 (by omega) _)))) (hcw 1 512 (by omega) _) ((conv0 _ _ _ _ _ _ _ _ _ _ _ _ _ _ _ _ _ _ 2 _).trans (hcat_congr (car_zero h9 _) (hX_even 8 (by decide) hxe (hw 512 (by omega) _)))) (hcw 2 512 (by omega) _)
      (hcb 3328 (by omega) _) ((conv2 _ _ _ _ _ _ _ _ _ _ 0 _).trans (hcat_congr (car_zero h9 _) (hX_even 10 (by decide) hxe (hw 3328 (by omega) _)))) (hcw 0 3328 (by omega) _) ((conv2 _ _ _ _ _ _ _ _ _ _ 1 _).trans (hcat_congr (car_zero h9 _) (hX_even 10 (by decide) hxe (hw 3328 (by omega) _)))) (hcw 1 3328 (by omega) _) ((conv2 _ _ _ _ _ _ _ _ _ _ 2 _).trans (hcat_congr (car_zero h9 _) (hX_even 10 (by decide) hxe (hw 3328 (by omega) _)))) (hcw 2 3328 (by omega) _)
  refine act_step (Val := Elt F) (e := .bf16) (ACT (XE (kernelRun0_A.sl.v9 i) x0 x1) x2 x3 x4 (fun _ => ZT)) 3 384 rfl ?_ ?_
  · dsimp only [k0_pay46, k0_pay47, k0_pay48, k0_pay49, k0_pay50, k0_pay51, k0_pay52, k0_pay53, kernelRun0_A.sl.r_15, kernelRun0_A.sl.r_16, kernelRun0_A.sl.r_17, kernelRun0_A.sl.r_18, kernelRun0_A.sl.r_19, kernelRun0_A.sl.r_20]
    exact act_of 3 (hcb 384 (by omega) _) ((conv1 _ _ _ _ _ _ _ _ _ _ _ _ _ _ 0 _).trans (hcat_congr (car_zero h9 _) (hX_odd 5 (by decide) hxe (hw 256 (by omega) _)))) (hcw 0 384 (by omega) _) ((conv1 _ _ _ _ _ _ _ _ _ _ _ _ _ _ 1 _).trans (hcat_congr (car_zero h9 _) (hX_odd 5 (by decide) hxe (hw 256 (by omega) _)))) (hcw 1 384 (by omega) _) ((conv1 _ _ _ _ _ _ _ _ _ _ _ _ _ _ 2 _).trans (hcat_congr (car_zero h9 _) (hX_odd 5 (by decide) hxe (hw 256 (by omega) _)))) (hcw 2 384 (by omega) _)
      (hcb 3200 (by omega) _) ((conv3 _ _ _ _ _ _ 0 _).trans (hcat_congr (car_zero h9 _) (hX_odd 7 (by decide) hxe (hw 3072 (by omega) _)))) (hcw 0 3200 (by omega) _) ((conv3 _ _ _ _ _ _ 1 _).trans (hcat_congr (car_zero h9 _) (hX_odd 7 (by decide) hxe (hw 3072 (by omega) _)))) (hcw 1 3200 (by omega) _) ((conv3 _ _ _ _ _ _ 2 _).trans (hcat_congr (car_zero h9 _) (hX_odd 7 (by decide) hxe (hw 3072 (by omega) _)))) (hcw 2 3200 (by omega) _)
  refine act_step (Val := Elt F) (e := .bf16) (ACT (XE (kernelRun0_A.sl.v9 i) x0 x1) x2 x3 x4 (fun _ => ZT)) 2 256 rfl ?_ ?_
  · dsimp only [k0_pay42, k0_pay43, k0_pay44, k0_pay45, kernelRun0_A.sl.r_12, kernelRun0_A.sl.r_13, kernelRun0_A.sl.r_14]
    exact act_of 2 (hcb 256 (by omega) _) ((conv0 _ _ _ _ _ _ _ _ _ _ _ _ _ _ _ _ _ _ 0 _).trans (hcat_congr (car_zero h9 _) (hX_even 4 (by decide) hxe (hw 256 (by omega) _)))) (hcw 0 256 (by omega) _) ((conv0 _ _ _ _ _ _ _ _ _ _ _ _ _ _ _ _ _ _ 1 _).trans (hcat_congr (car_zero h9 _) (hX_even 4 (by decide) hxe (hw 256 (by omega) _)))) (hcw 1 256 (by omega) _) ((conv0 _ _ _ _ _ _ _ _ _ _ _ _ _ _ _ _ _ _ 2 _).trans (hcat_congr (car_zero h9 _) (hX_even 4 (by decide) hxe (hw 256 (by omega) _)))) (hcw 2 256 (by omega) _)
      (hcb 3072 (by omega) _) ((conv2 _ _ _ _ _ _ _ _ _ _ 0 _).trans (hcat_congr (car_zero h9 _) (hX_even 6 (by decide) hxe (hw 3072 (by omega) _)))) (hcw 0 3072 (by omega) _) ((conv2 _ _ _ _ _ _ _ _ _ _ 1 _).trans (hcat_congr (car_zero h9 _) (hX_even 6 (by decide) hxe (hw 3072 (by omega) _)))) (hcw 1 3072 (by omega) _) ((conv2 _ _ _ _ _ _ _ _ _ _ 2 _).trans (hcat_congr (car_zero h9 _) (hX_even 6 (by decide) hxe (hw 3072 (by omega) _)))) (hcw 2 3072 (by omega) _)
  refine act_step (Val := Elt F) (e := .bf16) (ACT (XE (kernelRun0_A.sl.v9 i) x0 x1) x2 x3 x4 (fun _ => ZT)) 1 128 rfl ?_ ?_
  · dsimp only [k0_pay22, k0_pay23, k0_pay24, k0_pay25, kernelRun0_A.sl.r_5, kernelRun0_A.sl.r_6, kernelRun0_A.sl.r_7]
    exact act_of 1 (hcb 128 (by omega) _) ((conv1 _ _ _ _ _ _ _ _ _ _ _ _ _ _ 0 _).trans (hcat_congr (car_zero h9 _) (hX_odd 1 (by decide) hxe (hw 0 (by omega) _)))) (hcw 0 128 (by omega) _) ((conv1 _ _ _ _ _ _ _ _ _ _ _ _ _ _ 1 _).trans (hcat_congr (car_zero h9 _) (hX_odd 1 (by decide) hxe (hw 0 (by omega) _)))) (hcw 1 128 (by omega) _) ((conv1 _ _ _ _ _ _ _ _ _ _ _ _ _ _ 2 _).trans (hcat_congr (car_zero h9 _) (hX_odd 1 (by decide) hxe (hw 0 (by omega) _)))) (hcw 2 128 (by omega) _)
      (hcb 2944 (by omega) _) ((conv3 _ _ _ _ _ _ 0 _).trans (hcat_congr (car_zero h9 _) (hX_odd 3 (by decide) hxe (hw 2816 (by omega) _)))) (hcw 0 2944 (by omega) _) ((conv3 _ _ _ _ _ _ 1 _).trans (hcat_congr (car_zero h9 _) (hX_odd 3 (by decide) hxe (hw 2816 (by omega) _)))) (hcw 1 2944 (by omega) _) ((conv3 _ _ _ _ _ _ 2 _).trans (hcat_congr (car_zero h9 _) (hX_odd 3 (by decide) hxe (hw 2816 (by omega) _)))) (hcw 2 2944 (by omega) _)
  refine act_step (Val := Elt F) (e := .bf16) (ACT (XE (kernelRun0_A.sl.v9 i) x0 x1) x2 x3 x4 (fun _ => ZT)) 0 0 rfl ?_ ?_
  · dsimp only [k0_pay20, k0_pay21, kernelRun0_A.sl.r_4]
    exact act_of 0 (hcb 0 (by omega) _) ((conv0 _ _ _ _ _ _ _ _ _ _ _ _ _ _ _ _ _ _ 0 _).trans (hcat_congr (car_zero h9 _) (hX_even 0 (by decide) hxe (hw 0 (by omega) _)))) (hcw 0 0 (by omega) _) ((conv0 _ _ _ _ _ _ _ _ _ _ _ _ _ _ _ _ _ _ 1 _).trans (hcat_congr (car_zero h9 _) (hX_even 0 (by decide) hxe (hw 0 (by omega) _)))) (hcw 1 0 (by omega) _) ((conv0 _ _ _ _ _ _ _ _ _ _ _ _ _ _ _ _ _ _ 2 _).trans (hcat_congr (car_zero h9 _) (hX_even 0 (by decide) hxe (hw 0 (by omega) _)))) (hcw 2 0 (by omega) _)
      (hcb 2816 (by omega) _) ((conv2 _ _ _ _ _ _ _ _ _ _ 0 _).trans (hcat_congr (car_zero h9 _) (hX_even 2 (by decide) hxe (hw 2816 (by omega) _)))) (hcw 0 2816 (by omega) _) ((conv2 _ _ _ _ _ _ _ _ _ _ 1 _).trans (hcat_congr (car_zero h9 _) (hX_even 2 (by decide) hxe (hw 2816 (by omega) _)))) (hcw 1 2816 (by omega) _) ((conv2 _ _ _ _ _ _ _ _ _ _ 2 _).trans (hcat_congr (car_zero h9 _) (hX_even 2 (by decide) hxe (hw 2816 (by omega) _)))) (hcw 2 2816 (by omega) _)
  exact fun y h => absurd h (Nat.not_lt_zero _)

end Cert.Ffn1

end
-- ==== Proof.Ffn1OutA.lean ====
/- What the feed-forward kernel without the mixer leaves at a point (case A of its body): its output's rows, and the
   rows it carries to the next point. -/
module

public import proofs.«01_k».proof.Proof.Ffn1Defs
public import proofs.«01_k».proof.Proof.Ffn1ActsA

@[expose] public section

set_option maxRecDepth 16384
set_option maxHeartbeats 2000000

noncomputable section

namespace Cert.Ffn1

open Cert.KernelGIdeal Cert.KernelGIdeal.Gen Idealize.ShloMosaic Idealize.ShloMosaic.TcCoe Idealize.SL.Sem
open Cert.FfnLoads
open Cert.Ffn (rows idx_rows rows_of rows_all load_rows offw kg)

variable {F : FTy → Type} [FloatOps F]
variable (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S528x1024 .bf16) (harg10 : arg10.IsWhole) (arg11 : Memref sig .tc .vmem S4x544x128 .f32) (harg11 : arg11.IsWhole) (arg12 : Memref sig .tc .vmem S512x2816 .bf16) (harg12 : arg12.IsWhole) (arg13 : Memref sig .tc .vmem S44x8x128 .f32) (harg13 : arg13.IsWhole) (hc0 : cond0_0 i)
    (x0 : Vec F S512x1024 .f32) (x1 : Vec F S16x1024 .f32) (x2 : Vec F S1024x5632 .bf16) (x3 : Vec F S3x5632 .f32) (x4 : Vec F S1x5632 .f32) (x5 : Vec F S2816x1024 .bf16) (x6 : Vec F S1x1024 .f32) (x7 : Vec F S1x1024 .f32)

/-- The rows a point carries: the last eight of each of the up projection's tiles. -/
theorem sout_A (y : S44x8x128.Idx) : sout0_A_3 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 y
    = hNX (XE (kernelRun0_A.sl.v9 i) x0 x1) x2 (y 0).val (ix3 0 (y 1) (y 2)) := by
  have hw : ∀ (o : ℕ) (_ : o + 256 ≤ 5632) (h), View.readAt (Elt F) arg3.view (Rect.unit (s := S1024x5632) ![0, o] S1024x256.size h).toLoadRect (harg3.unread x2) = wT x2 o :=
    fun o ho h => funext fun x => (Memref.IsWhole.readAt_unread harg3 x2 _ x).trans (congrArg x2 (w_idx o ho h x))
  have hxe := xe_A c i arg1 harg1 arg2 harg2 arg10 x0 x1
  have hlt : (y 0).val < 43 + 1 := (y 0).isLt
  unfold sout0_A_3
  rw [View.read_writes_junk_eq_canon]
  revert y
  show ∀ y : SK.Idx, (y 0).val < 43 + 1 → View.canon (Val := Elt F) (e := .f32) _ y = hNX (XE (kernelRun0_A.sl.v9 i) x0 x1) x2 (y 0).val (ix3 0 (y 1) (y 2))
  refine carry_step (Val := Elt F) (e := .f32) (hNX (XE (kernelRun0_A.sl.v9 i) x0 x1) x2) 43 (hN_odd 43 (by decide) hxe (hw 5376 (by omega) _)) ?_
  refine carry_step (Val := Elt F) (e := .f32) (hNX (XE (kernelRun0_A.sl.v9 i) x0 x1) x2) 42 (hN_even 42 (by decide) hxe (hw 5376 (by omega) _)) ?_
  refine carry_step (Val := Elt F) (e := .f32) (hNX (XE (kernelRun0_A.sl.v9 i) x0 x1) x2) 41 (hN_odd 41 (by decide) hxe (hw 2560 (by omega) _)) ?_
  refine carry_step (Val := Elt F) (e := .f32) (hNX (XE (kernelRun0_A.sl.v9 i) x0 x1) x2) 40 (hN_even 40 (by decide) hxe (hw 2560 (by omega) _)) ?_
  refine carry_step (Val := Elt F) (e := .f32) (hNX (XE (kernelRun0_A.sl.v9 i) x0 x1) x2) 39 (hN_odd 39 (by decide) hxe (hw 5120 (by omega) _)) ?_
  refine carry_step (Val := Elt F) (e := .f32) (hNX (XE (kernelRun0_A.sl.v9 i) x0 x1) x2) 38 (hN_even 38 (by decide) hxe (hw 5120 (by omega) _)) ?_
  refine carry_step (Val := Elt F) (e := .f32) (hNX (XE (kernelRun0_A.sl.v9 i) x0 x1) x2) 37 (hN_odd 37 (by decide) hxe (hw 2304 (by omega) _)) ?_
  refine carry_step (Val := Elt F) (e := .f32) (hNX (XE (kernelRun0_A.sl.v9 i) x0 x1) x2) 36 (hN_even 36 (by decide) hxe (hw 2304 (by omega) _)) ?_
  refine carry_step (Val := Elt F) (e := .f32) (hNX (XE (kernelRun0_A.sl.v9 i) x0 x1) x2) 35 (hN_odd 35 (by decide) hxe (hw 4864 (by omega) _)) ?_
  refine carry_step (Val := Elt F) (e := .f32) (hNX (XE (kernelRun0_A.sl.v9 i) x0 x1) x2) 34 (hN_even 34 (by decide) hxe (hw 4864 (by omega) _)) ?_
  refine carry_step (Val := Elt F) (e := .f32) (hNX (XE (kernelRun0_A.sl.v9 i) x0 x1) x2) 33 (hN_odd 33 (by decide) hxe (hw 2048 (by omega) _)) ?_
  refine carry_step (Val := Elt F) (e := .f32) (hNX (XE (kernelRun0_A.sl.v9 i) x0 x1) x2) 32 (hN_even 32 (by decide) hxe (hw 2048 (by omega) _)) ?_
  refine carry_step (Val := Elt F) (e := .f32) (hNX (XE (kernelRun0_A.sl.v9 i) x0 x1) x2) 31 (hN_odd 31 (by decide) hxe (hw 4608 (by omega) _)) ?_
  refine carry_step (Val := Elt F) (e := .f32) (hNX (XE (kernelRun0_A.sl.v9 i) x0 x1) x2) 30 (hN_even 30 (by decide) hxe (hw 4608 (by omega) _)) ?_
  refine carry_step (Val := Elt F) (e := .f32) (hNX (XE (kernelRun0_A.sl.v9 i) x0 x1) x2) 29 (hN_odd 29 (by decide) hxe (hw 1792 (by omega) _)) ?_
  refine carry_step (Val := Elt F) (e := .f32) (hNX (XE (kernelRun0_A.sl.v9 i) x0 x1) x2) 28 (hN_even 28 (by decide) hxe (hw 1792 (by omega) _)) ?_
  refine carry_step (Val := Elt F) (e := .f32) (hNX (XE (kernelRun0_A.sl.v9 i) x0 x1) x2) 27 (hN_odd 27 (by decide) hxe (hw 4352 (by omega) _)) ?_
  refine carry_step (Val := Elt F) (e := .f32) (hNX (XE (kernelRun0_A.sl.v9 i) x0 x1) x2) 26 (hN_even 26 (by decide) hxe (hw 4352 (by omega) _)) ?_
  refine carry_step (Val := Elt F) (e := .f32) (hNX (XE (kernelRun0_A.sl.v9 i) x0 x1) x2) 25 (hN_odd 25 (by decide) hxe (hw 1536 (by omega) _)) ?_
  refine carry_step (Val := Elt F) (e := .f32) (hNX (XE (kernelRun0_A.sl.v9 i) x0 x1) x2) 24 (hN_even 24 (by decide) hxe (hw 1536 (by omega) _)) ?_
  refine carry_step (Val := Elt F) (e := .f32) (hNX (XE (kernelRun0_A.sl.v9 i) x0 x1) x2) 23 (hN_odd 23 (by decide) hxe (hw 4096 (by omega) _)) ?_
  refine carry_step (Val := Elt F) (e := .f32) (hNX (XE (kernelRun0_A.sl.v9 i) x0 x1) x2) 22 (hN_even 22 (by decide) hxe (hw 4096 (by omega) _)) ?_
  refine carry_step (Val := Elt F) (e := .f32) (hNX (XE (kernelRun0_A.sl.v9 i) x0 x1) x2) 21 (hN_odd 21 (by decide) hxe (hw 1280 (by omega) _)) ?_
  refine carry_step (Val := Elt F) (e := .f32) (hNX (XE (kernelRun0_A.sl.v9 i) x0 x1) x2) 20 (hN_even 20 (by decide) hxe (hw 1280 (by omega) _)) ?_
  refine carry_step (Val := Elt F) (e := .f32) (hNX (XE (kernelRun0_A.sl.v9 i) x0 x1) x2) 19 (hN_odd 19 (by decide) hxe (hw 3840 (by omega) _)) ?_
  refine carry_step (Val := Elt F) (e := .f32) (hNX (XE (kernelRun0_A.sl.v9 i) x0 x1) x2) 18 (hN_even 18 (by decide) hxe (hw 3840 (by omega) _)) ?_
  refine carry_step (Val := Elt F) (e := .f32) (hNX (XE (kernelRun0_A.sl.v9 i) x0 x1) x2) 17 (hN_odd 17 (by decide) hxe (hw 1024 (by omega) _)) ?_
  refine carry_step (Val := Elt F) (e := .f32) (hNX (XE (kernelRun0_A.sl.v9 i) x0 x1) x2) 16 (hN_even 16 (by decide) hxe (hw 1024 (by omega) _)) ?_
  refine carry_step (Val := Elt F) (e := .f32) (hNX (XE (kernelRun0_A.sl.v9 i) x0 x1) x2) 15 (hN_odd 15 (by decide) hxe (hw 3584 (by omega) _)) ?_
  refine carry_step (Val := Elt F) (e := .f32) (hNX (XE (kernelRun0_A.sl.v9 i) x0 x1) x2) 14 (hN_even 14 (by decide) hxe (hw 3584 (by omega) _)) ?_
  refine carry_step (Val := Elt F) (e := .f32) (hNX (XE (kernelRun0_A.sl.v9 i) x0 x1) x2) 13 (hN_odd 13 (by decide) hxe (hw 768 (by omega) _)) ?_
  refine carry_step (Val := Elt F) (e := .f32) (hNX (XE (kernelRun0_A.sl.v9 i) x0 x1) x2) 12 (hN_even 12 (by decide) hxe (hw 768 (by omega) _)) ?_
  refine carry_step (Val := Elt F) (e := .f32) (hNX (XE (kernelRun0_A.sl.v9 i) x0 x1) x2) 11 (hN_odd 11 (by decide) hxe (hw 3328 (by omega) _)) ?_
  refine carry_step (Val := Elt F) (e := .f32) (hNX (XE (kernelRun0_A.sl.v9 i) x0 x1) x2) 10 (hN_even 10 (by decide) hxe (hw 3328 (by omega) _)) ?_
  refine carry_step (Val := Elt F) (e := .f32) (hNX (XE (kernelRun0_A.sl.v9 i) x0 x1) x2) 9 (hN_odd 9 (by decide) hxe (hw 512 (by omega) _)) ?_
  refine carry_step (Val := Elt F) (e := .f32) (hNX (XE (kernelRun0_A.sl.v9 i) x0 x1) x2) 8 (hN_even 8 (by decide) hxe (hw 512 (by omega) _)) ?_
  refine carry_step (Val := Elt F) (e := .f32) (hNX (XE (kernelRun0_A.sl.v9 i) x0 x1) x2) 7 (hN_odd 7 (by decide) hxe (hw 3072 (by omega) _)) ?_
  refine carry_step (Val := Elt F) (e := .f32) (hNX (XE (kernelRun0_A.sl.v9 i) x0 x1) x2) 6 (hN_even 6 (by decide) hxe (hw 3072 (by omega) _)) ?_
  refine carry_step (Val := Elt F) (e := .f32) (hNX (XE (kernelRun0_A.sl.v9 i) x0 x1) x2) 5 (hN_odd 5 (by decide) hxe (hw 256 (by omega) _)) ?_
  refine carry_step (Val := Elt F) (e := .f32) (hNX (XE (kernelRun0_A.sl.v9 i) x0 x1) x2) 4 (hN_even 4 (by decide) hxe (hw 256 (by omega) _)) ?_
  refine carry_step (Val := Elt F) (e := .f32) (hNX (XE (kernelRun0_A.sl.v9 i) x0 x1) x2) 3 (hN_odd 3 (by decide) hxe (hw 2816 (by omega) _)) ?_
  refine carry_step (Val := Elt F) (e := .f32) (hNX (XE (kernelRun0_A.sl.v9 i) x0 x1) x2) 2 (hN_even 2 (by decide) hxe (hw 2816 (by omega) _)) ?_
  refine carry_step (Val := Elt F) (e := .f32) (hNX (XE (kernelRun0_A.sl.v9 i) x0 x1) x2) 1 (hN_odd 1 (by decide) hxe (hw 0 (by omega) _)) ?_
  refine carry_step (Val := Elt F) (e := .f32) (hNX (XE (kernelRun0_A.sl.v9 i) x0 x1) x2) 0 (hN_even 0 (by decide) hxe (hw 0 (by omega) _)) ?_
  exact fun y h => absurd h (Nat.not_lt_zero _)

/-- A point's output: the layer norm of the residual and the down projection of its activations. -/
theorem out_A (h9 : kernelRun0_A.sl.v9 i = 0#32) : out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7
    = FIN (ACTALL (XE (kernelRun0_A.sl.v9 i) x0 x1) x2 x3 x4 (fun _ => ZT)) x5 x0 x6 x7 := by
  have hwd : ∀ h, View.readAt (Elt F) arg6.view (Rect.unit (s := S2816x1024) ![0, 0] S2816x1024.size h).toLoadRect (harg6.unread x5) = x5 :=
    fun h => (funext fun j => Memref.IsWhole.readAt_unread harg6 x5 _ j).trans ((rows_of (N := 2816) (d := 1024) (o := 0) (n := 2816) (by omega) h x5).trans (rows_all (N := 2816) (d := 1024) x5))
  have hg2 : ∀ h, View.readAt (Elt F) arg7.view (Rect.unit (s := S1x1024) ![0, 0] S1x1024.size h).toLoadRect (harg7.unread x6) = x6 :=
    fun h => (funext fun j => Memref.IsWhole.readAt_unread harg7 x6 _ j).trans ((rows_of (N := 1) (d := 1024) (o := 0) (n := 1) (by omega) h x6).trans (rows_all (N := 1) (d := 1024) x6))
  have hb2 : ∀ h, View.readAt (Elt F) arg8.view (Rect.unit (s := S1x1024) ![0, 0] S1x1024.size h).toLoadRect (harg8.unread x7) = x7 :=
    fun h => (funext fun j => Memref.IsWhole.readAt_unread harg8 x7 _ j).trans ((rows_of (N := 1) (d := 1024) (o := 0) (n := 1) (by omega) h x7).trans (rows_all (N := 1) (d := 1024) x7))
  have hx0 : ∀ h, View.readAt (Elt F) arg1.view (Rect.unit (s := S512x1024) ![0, 0] S256x1024.size h).toLoadRect (harg1.unread x0) = rows (N := 512) (d := 1024) 0 256 (by omega) x0 :=
    fun h => (funext fun j => Memref.IsWhole.readAt_unread harg1 x0 _ j).trans (rows_of (N := 512) (d := 1024) (o := 0) (n := 256) (by omega) h x0)
  have hx256 : ∀ h, View.readAt (Elt F) arg1.view (Rect.unit (s := S512x1024) ![256, 0] S256x1024.size h).toLoadRect (harg1.unread x0) = rows (N := 512) (d := 1024) 256 256 (by omega) x0 :=
    fun h => (funext fun j => Memref.IsWhole.readAt_unread harg1 x0 _ j).trans (rows_of (N := 512) (d := 1024) (o := 256) (n := 256) (by omega) h x0)
  have ha : ∀ (o : ℕ) (ho : o + 256 ≤ 512) (h), arg12.view.readCov (kernelRun0_A.sl.HS2_22 c i arg1 harg1 arg2 harg2 arg3 harg3 arg4 harg4 arg5 harg5 arg10 arg11 arg13 x0 x1 x2 x3 x4) (Rect.unit (s := S512x2816) ![o, 0] S256x2816.size h).toLoadRect
      = rows (N := 512) (d := 2816) o 256 ho (ACTALL (XE (kernelRun0_A.sl.v9 i) x0 x1) x2 x3 x4 (fun _ => ZT)) := fun o ho h => by
    rw [View.readCov_eq_canon']
    exact (funext fun j => acts_A c i arg1 harg1 arg2 harg2 arg3 harg3 arg4 harg4 arg5 harg5 arg10 arg11 arg13 x0 x1 x2 x3 x4 h9 _).trans (rows_of (N := 512) (d := 2816) (o := o) (n := 256) ho h _)
  unfold out0_A_8
  rw [View.read_writes_junk_eq_canon]
  funext j
  refine (canon_cat (Val := Elt F) (e := .f32) (n0 := 256) (n1 := 256) (N := 512) (d := 1024) rfl _ _ _ _ j).trans ?_
  refine congrFun (congrArg₂ (cat (n0 := 256) (n1 := 256) (N := 512) (d := 1024) rfl) ?_ ?_) j
  · exact pay273_congr (ha 0 (by omega) _) (hwd _) (hx0 _) (hg2 _) (hb2 _)
  · exact pay274_congr (ha 256 (by omega) _) (hwd _) (hx256 _) (hg2 _) (hb2 _)

end Cert.Ffn1

end
-- ==== Proof.FfnArgs.lean ====
/- The feed-forward call's arguments as the specification takes them. -/
module

public import proofs.«01_k».proof.Proof.FfnPoint

@[expose] public section

noncomputable section

namespace Cert.Ffn

open Idealize.ShloMosaic Idealize.ShloMosaic.TcCoe Idealize.SL.Sem

/-- The arguments read row by row. -/
def ofArgs (a0 a1 : FVec Ideal (⟨3, ![8, 4096, 1024]⟩ : Shape) .f32) (a2 : FVec Ideal (⟨2, ![1024, 1024]⟩ : Shape) .f32) (a3 a4 : FVec Ideal (⟨1, ![1024]⟩ : Shape) .f32)
    (a5 : FVec Ideal (⟨2, ![1024, 5632]⟩ : Shape) .f32) (a6 : FVec Ideal (⟨2, ![3, 5632]⟩ : Shape) .f32) (a7 : FVec Ideal (⟨1, ![5632]⟩ : Shape) .f32)
    (a8 : FVec Ideal (⟨2, ![2816, 1024]⟩ : Shape) .f32) (a9 a10 : FVec Ideal (⟨1, ![1024]⟩ : Shape) .f32) : P where
  M r j := a0 (ix3 ⟨r / 4096 % 8, Nat.mod_lt _ (by decide)⟩ ⟨r % 4096, Nat.mod_lt _ (by decide)⟩ j)
  X r j := a1 (ix3 ⟨r / 4096 % 8, Nat.mod_lt _ (by decide)⟩ ⟨r % 4096, Nat.mod_lt _ (by decide)⟩ j)
  WO i j := a2 (ix2 i j)
  G1 j := a3 (ix1 j)
  B1 j := a4 (ix1 j)
  W i j := a5 (ix2 i j)
  CW i j := a6 (ix2 i j)
  CB j := a7 (ix1 j)
  WD i j := a8 (ix2 i j)
  G2 j := a9 (ix1 j)
  B2 j := a10 (ix1 j)

end Cert.Ffn

end
-- ==== Proof.FfnReads.lean ====
/- The feed-forward kernel's operands at a grid point, element by element, in terms of its arguments. -/
module

public import proofs.«01_k».proof.Proof.FfnArgs
public import proofs.«01_k».proof.Proof.Gen.KernelFIdeal.Frame
public import Idealize.ShloMosaic.Lib.Pipeline.Value
public import Idealize.ShloMosaic.Lib.Pipeline.ValueKit
public import Idealize.ShloMosaic.Lib.Pointwise
public import Idealize.ShloMosaic.Lib.StableHlo.RunRead

@[expose] public section

set_option maxRecDepth 16384

noncomputable section

namespace Cert.Ffn

open Cert.KernelFIdeal Cert.KernelFIdeal.Gen Idealize.ShloMosaic Idealize.ShloMosaic.TcCoe Idealize.SL.Sem Idealize.ShloMosaic.StableHlo

section

variable {F : FTy → Type} [FloatOps F] [Named F]

/-- The attention output, rows of all sequences one under another. -/
def packM (a : FVec F S8x4096x1024 .f32) : FVec F S32768x1024 .bf16 := shapeCast S32768x1024 (truncf .bf16 a bitsLt_bf16_f32) shapeCasts_S8x4096x1024_S32768x1024

/-- The output projection. -/
def packO (a : FVec F S1024x1024 .f32) : FVec F S1024x1024 .bf16 := truncf .bf16 a bitsLt_bf16_f32

/-- A vector, as a row. -/
def packV (a : FVec F S1024 .f32) : FVec F S1x1024 .f32 := broadcastInDim S1x1024 ![1] bcast_S1024_S1x1024_1 a

/-- The residual input, rows of all sequences one under another. -/
def packX (a : FVec F S8x4096x1024 .f32) : FVec F S32768x1024 .f32 := shapeCast S32768x1024 a shapeCasts_S8x4096x1024_S32768x1024

/-- The up projection. -/
def packU (a : FVec F S1024x5632 .f32) : FVec F S1024x5632 .bf16 := truncf .bf16 a bitsLt_bf16_f32

/-- The convolution's weights. -/
def packC (a : FVec F S3x5632 .f32) : FVec F S3x5632 .f32 := a

/-- The convolution's bias, as a row. -/
def packB (a : FVec F S5632 .f32) : FVec F S1x5632 .f32 := broadcastInDim S1x5632 ![1] bcast_S5632_S1x5632_1 a

/-- The down projection. -/
def packD (a : FVec F S2816x1024 .f32) : FVec F S2816x1024 .bf16 := truncf .bf16 a bitsLt_bf16_f32

variable (m : (ℓ : Loc nD τ sig) → Buf (Elt F) ℓ) (c : Dev nD)

theorem V_v2 : V m c main_v2 = packM (m ((c.tc : Thread nD τ).loc main_arg0)) := by
  show StableHlo.after hostOps0 (fun b => m (c, b)) (Proc.devRef .tc main_v2) = _
  after_reads_simp
  rfl

theorem V_v2_of (r : Ref sig .tc) (h : r = main_v2) : HEq (V m c r) (packM (m ((c.tc : Thread nD τ).loc main_arg0))) := by
  subst h
  exact heq_of_eq (V_v2 m c)

theorem V_v8 : V m c main_v8 = packO (m ((c.tc : Thread nD τ).loc main_arg2)) := by
  show StableHlo.after hostOps0 (fun b => m (c, b)) (Proc.devRef .tc main_v8) = _
  after_reads_simp
  rfl

theorem V_v8_of (r : Ref sig .tc) (h : r = main_v8) : HEq (V m c r) (packO (m ((c.tc : Thread nD τ).loc main_arg2))) := by
  subst h
  exact heq_of_eq (V_v8 m c)

theorem V_v9 : V m c main_v9 = packV (m ((c.tc : Thread nD τ).loc main_arg3)) := by
  show StableHlo.after hostOps0 (fun b => m (c, b)) (Proc.devRef .tc main_v9) = _
  after_reads_simp
  rfl

theorem V_v9_of (r : Ref sig .tc) (h : r = main_v9) : HEq (V m c r) (packV (m ((c.tc : Thread nD τ).loc main_arg3))) := by
  subst h
  exact heq_of_eq (V_v9 m c)

theorem V_v10 : V m c main_v10 = packV (m ((c.tc : Thread nD τ).loc main_arg4)) := by
  show StableHlo.after hostOps0 (fun b => m (c, b)) (Proc.devRef .tc main_v10) = _
  after_reads_simp
  rfl

theorem V_v10_of (r : Ref sig .tc) (h : r = main_v10) : HEq (V m c r) (packV (m ((c.tc : Thread nD τ).loc main_arg4))) := by
  subst h
  exact heq_of_eq (V_v10 m c)

theorem V_v0 : V m c main_v0 = packX (m ((c.tc : Thread nD τ).loc main_arg1)) := by
  show StableHlo.after hostOps0 (fun b => m (c, b)) (Proc.devRef .tc main_v0) = _
  after_reads_simp
  rfl

theorem V_v0_of (r : Ref sig .tc) (h : r = main_v0) : HEq (V m c r) (packX (m ((c.tc : Thread nD τ).loc main_arg1))) := by
  subst h
  exact heq_of_eq (V_v0 m c)

theorem V_v3 : V m c main_v3 = packU (m ((c.tc : Thread nD τ).loc main_arg5)) := by
  show StableHlo.after hostOps0 (fun b => m (c, b)) (Proc.devRef .tc main_v3) = _
  after_reads_simp
  rfl

theorem V_v3_of (r : Ref sig .tc) (h : r = main_v3) : HEq (V m c r) (packU (m ((c.tc : Thread nD τ).loc main_arg5))) := by
  subst h
  exact heq_of_eq (V_v3 m c)

theorem V_arg6 : V m c main_arg6 = packC (m ((c.tc : Thread nD τ).loc main_arg6)) := V_main_arg6 m c

theorem V_arg6_of (r : Ref sig .tc) (h : r = main_arg6) : HEq (V m c r) (packC (m ((c.tc : Thread nD τ).loc main_arg6))) := by
  subst h
  exact heq_of_eq (V_arg6 m c)

theorem V_v4 : V m c main_v4 = packB (m ((c.tc : Thread nD τ).loc main_arg7)) := by
  show StableHlo.after hostOps0 (fun b => m (c, b)) (Proc.devRef .tc main_v4) = _
  after_reads_simp
  rfl

theorem V_v4_of (r : Ref sig .tc) (h : r = main_v4) : HEq (V m c r) (packB (m ((c.tc : Thread nD τ).loc main_arg7))) := by
  subst h
  exact heq_of_eq (V_v4 m c)

theorem V_v5 : V m c main_v5 = packD (m ((c.tc : Thread nD τ).loc main_arg8)) := by
  show StableHlo.after hostOps0 (fun b => m (c, b)) (Proc.devRef .tc main_v5) = _
  after_reads_simp
  rfl

theorem V_v5_of (r : Ref sig .tc) (h : r = main_v5) : HEq (V m c r) (packD (m ((c.tc : Thread nD τ).loc main_arg8))) := by
  subst h
  exact heq_of_eq (V_v5 m c)

theorem V_v6 : V m c main_v6 = packV (m ((c.tc : Thread nD τ).loc main_arg9)) := by
  show StableHlo.after hostOps0 (fun b => m (c, b)) (Proc.devRef .tc main_v6) = _
  after_reads_simp
  rfl

theorem V_v6_of (r : Ref sig .tc) (h : r = main_v6) : HEq (V m c r) (packV (m ((c.tc : Thread nD τ).loc main_arg9))) := by
  subst h
  exact heq_of_eq (V_v6 m c)

theorem V_v7 : V m c main_v7 = packV (m ((c.tc : Thread nD τ).loc main_arg10)) := by
  show StableHlo.after hostOps0 (fun b => m (c, b)) (Proc.devRef .tc main_v7) = _
  after_reads_simp
  rfl

theorem V_v7_of (r : Ref sig .tc) (h : r = main_v7) : HEq (V m c r) (packV (m ((c.tc : Thread nD τ).loc main_arg10))) := by
  subst h
  exact heq_of_eq (V_v7 m c)

theorem iblk_0 (t : Fin cfg0.N) : (iblk m c 0 t : Vec F S512x1024 .bf16) = (win0_0.blk t).view.read (Elt F) (packM (m ((c.tc : Thread nD τ).loc main_arg0))) :=
  congrArg (fun X => ((cfg0.win 0).blk t).view.read (Elt F) X) (eq_of_heq (V_v2_of m c (Pipeline.arrRef spec0 0) rfl))

theorem read_blk_0 (t : Fin cfg0.N) (X : Vec F S32768x1024 .bf16) (x : S512x1024.Idx) : ((win0_0.blk t).view.read (Elt F) X : Vec F S512x1024 .bf16) x = X ((win0_0.blk t).view.emb x) := rfl

theorem iblk_1 (t : Fin cfg0.N) : (iblk m c 1 t : Vec F S16x1024 .bf16) = (win0_1.blk t).view.read (Elt F) (packM (m ((c.tc : Thread nD τ).loc main_arg0))) :=
  congrArg (fun X => ((cfg0.win 1).blk t).view.read (Elt F) X) (eq_of_heq (V_v2_of m c (Pipeline.arrRef spec0 1) rfl))

theorem read_blk_1 (t : Fin cfg0.N) (X : Vec F S32768x1024 .bf16) (x : S16x1024.Idx) : ((win0_1.blk t).view.read (Elt F) X : Vec F S16x1024 .bf16) x = X ((win0_1.blk t).view.emb x) := rfl

theorem iblk_2 (t : Fin cfg0.N) : (iblk m c 2 t : Vec F S1024x1024 .bf16) = (win0_2.blk t).view.read (Elt F) (packO (m ((c.tc : Thread nD τ).loc main_arg2))) :=
  congrArg (fun X => ((cfg0.win 2).blk t).view.read (Elt F) X) (eq_of_heq (V_v8_of m c (Pipeline.arrRef spec0 2) rfl))

theorem read_blk_2 (t : Fin cfg0.N) (X : Vec F S1024x1024 .bf16) (x : S1024x1024.Idx) : ((win0_2.blk t).view.read (Elt F) X : Vec F S1024x1024 .bf16) x = X ((win0_2.blk t).view.emb x) := rfl

theorem iblk_3 (t : Fin cfg0.N) : (iblk m c 3 t : Vec F S1x1024 .f32) = (win0_3.blk t).view.read (Elt F) (packV (m ((c.tc : Thread nD τ).loc main_arg3))) :=
  congrArg (fun X => ((cfg0.win 3).blk t).view.read (Elt F) X) (eq_of_heq (V_v9_of m c (Pipeline.arrRef spec0 3) rfl))

theorem read_blk_3 (t : Fin cfg0.N) (X : Vec F S1x1024 .f32) (x : S1x1024.Idx) : ((win0_3.blk t).view.read (Elt F) X : Vec F S1x1024 .f32) x = X ((win0_3.blk t).view.emb x) := rfl

theorem iblk_4 (t : Fin cfg0.N) : (iblk m c 4 t : Vec F S1x1024 .f32) = (win0_4.blk t).view.read (Elt F) (packV (m ((c.tc : Thread nD τ).loc main_arg4))) :=
  congrArg (fun X => ((cfg0.win 4).blk t).view.read (Elt F) X) (eq_of_heq (V_v10_of m c (Pipeline.arrRef spec0 4) rfl))

theorem read_blk_4 (t : Fin cfg0.N) (X : Vec F S1x1024 .f32) (x : S1x1024.Idx) : ((win0_4.blk t).view.read (Elt F) X : Vec F S1x1024 .f32) x = X ((win0_4.blk t).view.emb x) := rfl

theorem iblk_5 (t : Fin cfg0.N) : (iblk m c 5 t : Vec F S512x1024 .f32) = (win0_5.blk t).view.read (Elt F) (packX (m ((c.tc : Thread nD τ).loc main_arg1))) :=
  congrArg (fun X => ((cfg0.win 5).blk t).view.read (Elt F) X) (eq_of_heq (V_v0_of m c (Pipeline.arrRef spec0 5) rfl))

theorem read_blk_5 (t : Fin cfg0.N) (X : Vec F S32768x1024 .f32) (x : S512x1024.Idx) : ((win0_5.blk t).view.read (Elt F) X : Vec F S512x1024 .f32) x = X ((win0_5.blk t).view.emb x) := rfl

theorem iblk_6 (t : Fin cfg0.N) : (iblk m c 6 t : Vec F S16x1024 .f32) = (win0_6.blk t).view.read (Elt F) (packX (m ((c.tc : Thread nD τ).loc main_arg1))) :=
  congrArg (fun X => ((cfg0.win 6).blk t).view.read (Elt F) X) (eq_of_heq (V_v0_of m c (Pipeline.arrRef spec0 6) rfl))

theorem read_blk_6 (t : Fin cfg0.N) (X : Vec F S32768x1024 .f32) (x : S16x1024.Idx) : ((win0_6.blk t).view.read (Elt F) X : Vec F S16x1024 .f32) x = X ((win0_6.blk t).view.emb x) := rfl

theorem iblk_7 (t : Fin cfg0.N) : (iblk m c 7 t : Vec F S1024x5632 .bf16) = (win0_7.blk t).view.read (Elt F) (packU (m ((c.tc : Thread nD τ).loc main_arg5))) :=
  congrArg (fun X => ((cfg0.win 7).blk t).view.read (Elt F) X) (eq_of_heq (V_v3_of m c (Pipeline.arrRef spec0 7) rfl))

theorem read_blk_7 (t : Fin cfg0.N) (X : Vec F S1024x5632 .bf16) (x : S1024x5632.Idx) : ((win0_7.blk t).view.read (Elt F) X : Vec F S1024x5632 .bf16) x = X ((win0_7.blk t).view.emb x) := rfl

theorem iblk_8 (t : Fin cfg0.N) : (iblk m c 8 t : Vec F S3x5632 .f32) = (win0_8.blk t).view.read (Elt F) (packC (m ((c.tc : Thread nD τ).loc main_arg6))) :=
  congrArg (fun X => ((cfg0.win 8).blk t).view.read (Elt F) X) (eq_of_heq (V_arg6_of m c (Pipeline.arrRef spec0 8) rfl))

theorem read_blk_8 (t : Fin cfg0.N) (X : Vec F S3x5632 .f32) (x : S3x5632.Idx) : ((win0_8.blk t).view.read (Elt F) X : Vec F S3x5632 .f32) x = X ((win0_8.blk t).view.emb x) := rfl

theorem iblk_9 (t : Fin cfg0.N) : (iblk m c 9 t : Vec F S1x5632 .f32) = (win0_9.blk t).view.read (Elt F) (packB (m ((c.tc : Thread nD τ).loc main_arg7))) :=
  congrArg (fun X => ((cfg0.win 9).blk t).view.read (Elt F) X) (eq_of_heq (V_v4_of m c (Pipeline.arrRef spec0 9) rfl))

theorem read_blk_9 (t : Fin cfg0.N) (X : Vec F S1x5632 .f32) (x : S1x5632.Idx) : ((win0_9.blk t).view.read (Elt F) X : Vec F S1x5632 .f32) x = X ((win0_9.blk t).view.emb x) := rfl

theorem iblk_10 (t : Fin cfg0.N) : (iblk m c 10 t : Vec F S2816x1024 .bf16) = (win0_10.blk t).view.read (Elt F) (packD (m ((c.tc : Thread nD τ).loc main_arg8))) :=
  congrArg (fun X => ((cfg0.win 10).blk t).view.read (Elt F) X) (eq_of_heq (V_v5_of m c (Pipeline.arrRef spec0 10) rfl))

theorem read_blk_10 (t : Fin cfg0.N) (X : Vec F S2816x1024 .bf16) (x : S2816x1024.Idx) : ((win0_10.blk t).view.read (Elt F) X : Vec F S2816x1024 .bf16) x = X ((win0_10.blk t).view.emb x) := rfl

theorem iblk_11 (t : Fin cfg0.N) : (iblk m c 11 t : Vec F S1x1024 .f32) = (win0_11.blk t).view.read (Elt F) (packV (m ((c.tc : Thread nD τ).loc main_arg9))) :=
  congrArg (fun X => ((cfg0.win 11).blk t).view.read (Elt F) X) (eq_of_heq (V_v6_of m c (Pipeline.arrRef spec0 11) rfl))

theorem read_blk_11 (t : Fin cfg0.N) (X : Vec F S1x1024 .f32) (x : S1x1024.Idx) : ((win0_11.blk t).view.read (Elt F) X : Vec F S1x1024 .f32) x = X ((win0_11.blk t).view.emb x) := rfl

theorem iblk_12 (t : Fin cfg0.N) : (iblk m c 12 t : Vec F S1x1024 .f32) = (win0_12.blk t).view.read (Elt F) (packV (m ((c.tc : Thread nD τ).loc main_arg10))) :=
  congrArg (fun X => ((cfg0.win 12).blk t).view.read (Elt F) X) (eq_of_heq (V_v7_of m c (Pipeline.arrRef spec0 12) rfl))

theorem read_blk_12 (t : Fin cfg0.N) (X : Vec F S1x1024 .f32) (x : S1x1024.Idx) : ((win0_12.blk t).view.read (Elt F) X : Vec F S1x1024 .f32) x = X ((win0_12.blk t).view.emb x) := rfl

end

/-- The blocks of the windows at a grid point. -/
theorem idxA : ∀ t : Fin cfg0.N, win0_0.index t = ![t.val, 0] ∧ win0_1.index t = ![min (32 * (t.val + 1)) 2047, 0]
    ∧ win0_5.index t = ![t.val, 0] ∧ win0_6.index t = ![min (32 * (t.val + 1)) 2047, 0] ∧ win0_13.index t = ![t.val, 0] :=
  (by decide +kernel : ∀ t : Fin grid0.N, _)

theorem idxB : ∀ t : Fin cfg0.N, win0_2.index t = ![0, 0] ∧ win0_3.index t = ![0, 0] ∧ win0_4.index t = ![0, 0]
    ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

theorem lt_N (t : Fin cfg0.N) : t.val < 64 := t.isLt

/-- The point's place in its sequence. -/
theorem v9_B : ∀ t : Fin cfg0.N, kernelRun0_B.sl.v9 (grid0.coords t) = BitVec.ofNat 32 (t.val % 8) :=
  (by decide +kernel : ∀ t : Fin grid0.N, kernelRun0_B.sl.v9 (grid0.coords t) = BitVec.ofNat 32 (t.val % 8))

theorem v9_A : ∀ t : Fin cfg0.N, kernelRun0_A.sl.v9 (grid0.coords t) = BitVec.ofNat 32 (t.val % 8) :=
  (by decide +kernel : ∀ t : Fin grid0.N, kernelRun0_A.sl.v9 (grid0.coords t) = BitVec.ofNat 32 (t.val % 8))

theorem packM_at (a : FVec Ideal S8x4096x1024 .f32) (r : Fin 32768) (j : Fin 1024) :
    packM a (ix2 r j) = a (ix3 ⟨r.val / 4096 % 8, by omega⟩ ⟨r.val % 4096, by omega⟩ j) := by
  have e : r.val / 4096 % 8 = r.val / 4096 := by omega
  simp only [e]
  pointwise [packM]

theorem packX_at (a : FVec Ideal S8x4096x1024 .f32) (r : Fin 32768) (j : Fin 1024) :
    packX a (ix2 r j) = a (ix3 ⟨r.val / 4096 % 8, by omega⟩ ⟨r.val % 4096, by omega⟩ j) := by
  have e : r.val / 4096 % 8 = r.val / 4096 := by omega
  simp only [e]
  pointwise [packX]

theorem packO_at (a : FVec Ideal S1024x1024 .f32) (i : Fin 1024) (j : Fin 1024) : packO a (ix2 i j) = a (ix2 i j) := by
  pointwise [packO]
theorem packV_at (a : FVec Ideal S1024 .f32) (j : Fin 1024) : packV a (ix2 0 j) = a (ix1 j) := by
  pointwise [packV]
theorem packU_at (a : FVec Ideal S1024x5632 .f32) (i : Fin 1024) (j : Fin 5632) : packU a (ix2 i j) = a (ix2 i j) := by
  pointwise [packU]
theorem packB_at (a : FVec Ideal S5632 .f32) (j : Fin 5632) : packB a (ix2 0 j) = a (ix1 j) := by
  pointwise [packB]
theorem packD_at (a : FVec Ideal S2816x1024 .f32) (i : Fin 2816) (j : Fin 1024) : packD a (ix2 i j) = a (ix2 i j) := by
  pointwise [packD]

variable (m : (ℓ : Loc nD τ sig) → Buf (Elt Ideal) ℓ) (c : Dev nD)

/-- The specification's arguments, from the kernel's. -/
def pK : P :=
  ofArgs (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))

variable (t : Fin cfg0.N)

theorem read_0 (r : Fin 512) (j : Fin 1024) : (iblk m c 0 t : Vec Ideal S512x1024 .bf16) (ix2 r j) = (pK m c).M (512 * t.val + r.val) j := by
  have ht := lt_N t
  have e : (win0_0.blk t).view.emb (ix2 r j) = ix2 (⟨512 * t.val + r.val, by omega⟩ : Fin 32768) j := by
    blk_ext [idxA t]
  exact (congrFun (iblk_0 m c t) (ix2 r j)).trans ((read_blk_0 t _ _).trans ((congrArg (packM (F := Ideal) (m ((c.tc : Thread nD τ).loc main_arg0))) e).trans
    (packM_at _ _ _)))

theorem read_5 (r : Fin 512) (j : Fin 1024) : (iblk m c 5 t : Vec Ideal S512x1024 .f32) (ix2 r j) = (pK m c).X (512 * t.val + r.val) j := by
  have ht := lt_N t
  have e : (win0_5.blk t).view.emb (ix2 r j) = ix2 (⟨512 * t.val + r.val, by omega⟩ : Fin 32768) j := by
    blk_ext [idxA t]
  exact (congrFun (iblk_5 m c t) (ix2 r j)).trans ((read_blk_5 t _ _).trans ((congrArg (packX (F := Ideal) (m ((c.tc : Thread nD τ).loc main_arg1))) e).trans
    (packX_at _ _ _)))

theorem read_1 (h7 : t.val % 8 ≠ 7) (j : Fin 1024) : (iblk m c 1 t : Vec Ideal S16x1024 .bf16) (ix2 0 j) = (pK m c).M (512 * t.val + 512) j := by
  have ht := lt_N t
  have e : (win0_1.blk t).view.emb (ix2 0 j) = ix2 (⟨512 * t.val + 512, by omega⟩ : Fin 32768) j := by
    blk_ext [idxA t]
  exact (congrFun (iblk_1 m c t) (ix2 0 j)).trans ((read_blk_1 t _ _).trans ((congrArg (packM (F := Ideal) (m ((c.tc : Thread nD τ).loc main_arg0))) e).trans
    (packM_at _ _ _)))

theorem read_6 (h7 : t.val % 8 ≠ 7) (j : Fin 1024) : (iblk m c 6 t : Vec Ideal S16x1024 .f32) (ix2 0 j) = (pK m c).X (512 * t.val + 512) j := by
  have ht := lt_N t
  have e : (win0_6.blk t).view.emb (ix2 0 j) = ix2 (⟨512 * t.val + 512, by omega⟩ : Fin 32768) j := by
    blk_ext [idxA t]
  exact (congrFun (iblk_6 m c t) (ix2 0 j)).trans ((read_blk_6 t _ _).trans ((congrArg (packX (F := Ideal) (m ((c.tc : Thread nD τ).loc main_arg1))) e).trans
    (packX_at _ _ _)))

theorem read_2 (i : Fin 1024) (j : Fin 1024) : (iblk m c 2 t : Vec Ideal S1024x1024 .bf16) (ix2 i j) = (pK m c).WO i j := by
  have ht := lt_N t
  have e : (win0_2.blk t).view.emb (ix2 i j) = ix2 i j := by
    blk_ext [idxB t]
  exact (congrFun (iblk_2 m c t) (ix2 i j)).trans ((read_blk_2 t _ _).trans ((congrArg (packO (F := Ideal) (m ((c.tc : Thread nD τ).loc main_arg2))) e).trans
    (packO_at _ _ _)))

theorem read_7 (i : Fin 1024) (j : Fin 5632) : (iblk m c 7 t : Vec Ideal S1024x5632 .bf16) (ix2 i j) = (pK m c).W i j := by
  have ht := lt_N t
  have e : (win0_7.blk t).view.emb (ix2 i j) = ix2 i j := by
    blk_ext [idxB t]
  exact (congrFun (iblk_7 m c t) (ix2 i j)).trans ((read_blk_7 t _ _).trans ((congrArg (packU (F := Ideal) (m ((c.tc : Thread nD τ).loc main_arg5))) e).trans
    (packU_at _ _ _)))

theorem read_8 (i : Fin 3) (j : Fin 5632) : (iblk m c 8 t : Vec Ideal S3x5632 .f32) (ix2 i j) = (pK m c).CW i j := by
  have ht := lt_N t
  have e : (win0_8.blk t).view.emb (ix2 i j) = ix2 i j := by
    blk_ext [idxB t]
  exact (congrFun (iblk_8 m c t) (ix2 i j)).trans ((read_blk_8 t _ _).trans ((congrArg (packC (F := Ideal) (m ((c.tc : Thread nD τ).loc main_arg6))) e).trans
    (rfl)))

theorem read_10 (i : Fin 2816) (j : Fin 1024) : (iblk m c 10 t : Vec Ideal S2816x1024 .bf16) (ix2 i j) = (pK m c).WD i j := by
  have ht := lt_N t
  have e : (win0_10.blk t).view.emb (ix2 i j) = ix2 i j := by
    blk_ext [idxB t]
  exact (congrFun (iblk_10 m c t) (ix2 i j)).trans ((read_blk_10 t _ _).trans ((congrArg (packD (F := Ideal) (m ((c.tc : Thread nD τ).loc main_arg8))) e).trans
    (packD_at _ _ _)))

theorem read_3 (j : Fin 1024) : (iblk m c 3 t : Vec Ideal S1x1024 .f32) (ix2 0 j) = (pK m c).G1 j := by
  have ht := lt_N t
  have e : (win0_3.blk t).view.emb (ix2 0 j) = ix2 0 j := by
    blk_ext [idxB t]
  exact (congrFun (iblk_3 m c t) (ix2 0 j)).trans ((read_blk_3 t _ _).trans ((congrArg (packV (F := Ideal) (m ((c.tc : Thread nD τ).loc main_arg3))) e).trans
    (packV_at _ _)))

theorem read_4 (j : Fin 1024) : (iblk m c 4 t : Vec Ideal S1x1024 .f32) (ix2 0 j) = (pK m c).B1 j := by
  have ht := lt_N t
  have e : (win0_4.blk t).view.emb (ix2 0 j) = ix2 0 j := by
    blk_ext [idxB t]
  exact (congrFun (iblk_4 m c t) (ix2 0 j)).trans ((read_blk_4 t _ _).trans ((congrArg (packV (F := Ideal) (m ((c.tc : Thread nD τ).loc main_arg4))) e).trans
    (packV_at _ _)))

theorem read_9 (j : Fin 5632) : (iblk m c 9 t : Vec Ideal S1x5632 .f32) (ix2 0 j) = (pK m c).CB j := by
  have ht := lt_N t
  have e : (win0_9.blk t).view.emb (ix2 0 j) = ix2 0 j := by
    blk_ext [idxB t]
  exact (congrFun (iblk_9 m c t) (ix2 0 j)).trans ((read_blk_9 t _ _).trans ((congrArg (packB (F := Ideal) (m ((c.tc : Thread nD τ).loc main_arg7))) e).trans
    (packB_at _ _)))

theorem read_11 (j : Fin 1024) : (iblk m c 11 t : Vec Ideal S1x1024 .f32) (ix2 0 j) = (pK m c).G2 j := by
  have ht := lt_N t
  have e : (win0_11.blk t).view.emb (ix2 0 j) = ix2 0 j := by
    blk_ext [idxB t]
  exact (congrFun (iblk_11 m c t) (ix2 0 j)).trans ((read_blk_11 t _ _).trans ((congrArg (packV (F := Ideal) (m ((c.tc : Thread nD τ).loc main_arg9))) e).trans
    (packV_at _ _)))

theorem read_12 (j : Fin 1024) : (iblk m c 12 t : Vec Ideal S1x1024 .f32) (ix2 0 j) = (pK m c).B2 j := by
  have ht := lt_N t
  have e : (win0_12.blk t).view.emb (ix2 0 j) = ix2 0 j := by
    blk_ext [idxB t]
  exact (congrFun (iblk_12 m c t) (ix2 0 j)).trans ((read_blk_12 t _ _).trans ((congrArg (packV (F := Ideal) (m ((c.tc : Thread nD τ).loc main_arg10))) e).trans
    (packV_at _ _)))

/-- The input blocks of a point. -/
theorem blk : Blk (pK m c) t.val (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) where
  h0 := read_0 m c t
  h1 := read_1 m c t
  h2 := read_2 m c t
  h3 := read_3 m c t
  h4 := read_4 m c t
  h5 := read_5 m c t
  h6 := read_6 m c t
  h7 := read_7 m c t
  h8 := read_8 m c t
  h9 := read_9 m c t
  h10 := read_10 m c t
  h11 := read_11 m c t
  h12 := read_12 m c t

end Cert.Ffn

end
-- ==== Proof.FfnNormA.lean ====
/- The rows the feed-forward kernel norms at a point (case A of its body): its scratch holds the mixer's rows, the
   normed rows, and the normed rows with the rows after them. -/
module

public import proofs.«01_k».proof.Proof.FfnDefs

@[expose] public section

set_option maxRecDepth 16384
set_option maxHeartbeats 2000000

noncomputable section

namespace Cert.Ffn

open Cert.KernelFIdeal Cert.KernelFIdeal.Gen Idealize.ShloMosaic Idealize.ShloMosaic.TcCoe Idealize.SL.Sem
open Cert.FfnLoads

variable {F : FTy → Type} [FloatOps F] [Named F]
variable (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S16x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S528x1024 .bf16) (harg15 : arg15.IsWhole) (arg16 : Memref sig .tc .vmem S4x544x128 .f32) (harg16 : arg16.IsWhole) (arg17 : Memref sig .tc .vmem S512x2816 .bf16) (harg17 : arg17.IsWhole) (arg18 : Memref sig .tc .vmem S44x8x128 .f32) (harg18 : arg18.IsWhole) (arg19 : Memref sig .tc .vmem S528x1024 .bf16) (harg19 : arg19.IsWhole) (arg20 : Memref sig .tc .vmem S512x1024 .f32) (harg20 : arg20.IsWhole) (hc0 : cond0_0 i)
    (x0 : Vec F S512x1024 .bf16) (x1 : Vec F S16x1024 .bf16) (x2 : Vec F S1024x1024 .bf16) (x3 : Vec F S1x1024 .f32) (x4 : Vec F S1x1024 .f32) (x5 : Vec F S512x1024 .f32) (x6 : Vec F S16x1024 .f32) (x7 : Vec F S1024x5632 .bf16) (x8 : Vec F S3x5632 .f32) (x9 : Vec F S1x5632 .f32) (x10 : Vec F S2816x1024 .bf16) (x11 : Vec F S1x1024 .f32) (x12 : Vec F S1x1024 .f32)

/-- The mixer's scratch read at rows 0 to 255, and at rows 256 to 527. -/
theorem v23_A (h) : arg19.view.readCov (kernelRun0_A.sl.HS4_2 c arg1 harg1 arg2 harg2 x0 x1) (Rect.unit (s := S528x1024) ![0, 0] S256x1024.size h).toLoadRect = rows (N := 528) (d := 1024) 0 256 (by omega) (ME x0 x1) := by
  have hm : ∀ h, View.readAt (Elt F) arg1.view (Rect.unit (s := S512x1024) ![0, 0] S512x1024.size h).toLoadRect (harg1.unread x0) = x0 :=
    fun h => (funext fun j => Memref.IsWhole.readAt_unread harg1 x0 _ j).trans ((rows_of (N := 512) (d := 1024) (o := 0) (n := 512) (by omega) h x0).trans (rows_all (N := 512) (d := 1024) x0))
  have hmn : ∀ h, View.readAt (Elt F) arg2.view (Rect.unit (s := S16x1024) ![0, 0] S16x1024.size h).toLoadRect (harg2.unread x1) = x1 :=
    fun h => (funext fun j => Memref.IsWhole.readAt_unread harg2 x1 _ j).trans ((rows_of (N := 16) (d := 1024) (o := 0) (n := 16) (by omega) h x1).trans (rows_all (N := 16) (d := 1024) x1))
  refine (load_rows (n0 := 512) (n1 := 16) (N := 528) (d := 1024) (o := 0) (n := 256) rfl (by omega) _ _ _ _ _ _).trans ?_
  exact congrArg (rows (N := 528) (d := 1024) 0 256 (by omega)) (congrArg₂ (cat (n0 := 512) (n1 := 16) (N := 528) (d := 1024) rfl) (congrArg k0_pay3 (hm _)) (congrArg k0_pay4 (hmn _)))

theorem v59_A (h) : arg19.view.readCov (kernelRun0_A.sl.HS4_2 c arg1 harg1 arg2 harg2 x0 x1) (Rect.unit (s := S528x1024) ![256, 0] S272x1024.size h).toLoadRect = rows (N := 528) (d := 1024) 256 272 (by omega) (ME x0 x1) := by
  have hm : ∀ h, View.readAt (Elt F) arg1.view (Rect.unit (s := S512x1024) ![0, 0] S512x1024.size h).toLoadRect (harg1.unread x0) = x0 :=
    fun h => (funext fun j => Memref.IsWhole.readAt_unread harg1 x0 _ j).trans ((rows_of (N := 512) (d := 1024) (o := 0) (n := 512) (by omega) h x0).trans (rows_all (N := 512) (d := 1024) x0))
  have hmn : ∀ h, View.readAt (Elt F) arg2.view (Rect.unit (s := S16x1024) ![0, 0] S16x1024.size h).toLoadRect (harg2.unread x1) = x1 :=
    fun h => (funext fun j => Memref.IsWhole.readAt_unread harg2 x1 _ j).trans ((rows_of (N := 16) (d := 1024) (o := 0) (n := 16) (by omega) h x1).trans (rows_all (N := 16) (d := 1024) x1))
  refine (load_rows (n0 := 512) (n1 := 16) (N := 528) (d := 1024) (o := 256) (n := 272) rfl (by omega) _ _ _ _ _ _).trans ?_
  exact congrArg (rows (N := 528) (d := 1024) 256 272 (by omega)) (congrArg₂ (cat (n0 := 512) (n1 := 16) (N := 528) (d := 1024) rfl) (congrArg k0_pay3 (hm _)) (congrArg k0_pay4 (hmn _)))

/-- The residual's scratch read at any rows. -/
theorem x1_A (o n : ℕ) (hon : o + n ≤ 512) (h) : arg20.view.readCov (kernelRun0_A.sl.HS5_2 c arg1 harg1 arg2 harg2 arg3 harg3 arg4 harg4 arg5 harg5 arg6 harg6 arg19 x0 x1 x2 x3 x4 x5) (Rect.unit (s := S512x1024) ![o, 0] ![n, 1024] h).toLoadRect = rows (N := 512) (d := 1024) o n hon (X1 x0 x1 x2 x3 x4 x5) := by
  have hwo : ∀ h, View.readAt (Elt F) arg3.view (Rect.unit (s := S1024x1024) ![0, 0] S1024x1024.size h).toLoadRect (harg3.unread x2) = x2 :=
    fun h => (funext fun j => Memref.IsWhole.readAt_unread harg3 x2 _ j).trans ((rows_of (N := 1024) (d := 1024) (o := 0) (n := 1024) (by omega) h x2).trans (rows_all (N := 1024) (d := 1024) x2))
  have hg : ∀ h, View.readAt (Elt F) arg4.view (Rect.unit (s := S1x1024) ![0, 0] S1x1024.size h).toLoadRect (harg4.unread x3) = x3 :=
    fun h => (funext fun j => Memref.IsWhole.readAt_unread harg4 x3 _ j).trans ((rows_of (N := 1) (d := 1024) (o := 0) (n := 1) (by omega) h x3).trans (rows_all (N := 1) (d := 1024) x3))
  have hb : ∀ h, View.readAt (Elt F) arg5.view (Rect.unit (s := S1x1024) ![0, 0] S1x1024.size h).toLoadRect (harg5.unread x4) = x4 :=
    fun h => (funext fun j => Memref.IsWhole.readAt_unread harg5 x4 _ j).trans ((rows_of (N := 1) (d := 1024) (o := 0) (n := 1) (by omega) h x4).trans (rows_all (N := 1) (d := 1024) x4))
  have hx0 : ∀ h, View.readAt (Elt F) arg6.view (Rect.unit (s := S512x1024) ![0, 0] S256x1024.size h).toLoadRect (harg6.unread x5) = rows (N := 512) (d := 1024) 0 256 (by omega) x5 :=
    fun h => (funext fun j => Memref.IsWhole.readAt_unread harg6 x5 _ j).trans (rows_of (N := 512) (d := 1024) (o := 0) (n := 256) (by omega) h x5)
  have hx256 : ∀ h, View.readAt (Elt F) arg6.view (Rect.unit (s := S512x1024) ![256, 0] S256x1024.size h).toLoadRect (harg6.unread x5) = rows (N := 512) (d := 1024) 256 256 (by omega) x5 :=
    fun h => (funext fun j => Memref.IsWhole.readAt_unread harg6 x5 _ j).trans (rows_of (N := 512) (d := 1024) (o := 256) (n := 256) (by omega) h x5)
  refine (load_rows (n0 := 256) (n1 := 256) (N := 512) (d := 1024) (o := o) (n := n) rfl hon _ _ _ _ _ _).trans ?_
  refine congrArg (rows (N := 512) (d := 1024) o n hon) (congrArg₂ (cat (n0 := 256) (n1 := 256) (N := 512) (d := 1024) rfl) ?_ ?_)
  · refine pay6_congr ?_ (hg _) (hb _)
    exact pay5_congr (v23_A c arg1 harg1 arg2 harg2 arg19 x0 x1 _) (hwo _) (hx0 _)
  · refine pay9_congr ?_ (hg _) (hb _)
    exact pay8_congr (v59_A c arg1 harg1 arg2 harg2 arg19 x0 x1 _) (hwo _) (hx256 _)

/-- The normed rows' scratch, read whole. -/
theorem xe_A : kernelRun0_A.sl.v138 c i arg1 harg1 arg2 harg2 arg3 harg3 arg4 harg4 arg5 harg5 arg6 harg6 arg7 harg7 arg15 arg19 arg20 x0 x1 x2 x3 x4 x5 x6 = (XE (kernelRun0_A.sl.v9 i) x0 x1 x2 x3 x4 x5 x6) := by
  have hwo : ∀ h, View.readAt (Elt F) arg3.view (Rect.unit (s := S1024x1024) ![0, 0] S1024x1024.size h).toLoadRect (harg3.unread x2) = x2 :=
    fun h => (funext fun j => Memref.IsWhole.readAt_unread harg3 x2 _ j).trans ((rows_of (N := 1024) (d := 1024) (o := 0) (n := 1024) (by omega) h x2).trans (rows_all (N := 1024) (d := 1024) x2))
  have hg : ∀ h, View.readAt (Elt F) arg4.view (Rect.unit (s := S1x1024) ![0, 0] S1x1024.size h).toLoadRect (harg4.unread x3) = x3 :=
    fun h => (funext fun j => Memref.IsWhole.readAt_unread harg4 x3 _ j).trans ((rows_of (N := 1) (d := 1024) (o := 0) (n := 1) (by omega) h x3).trans (rows_all (N := 1) (d := 1024) x3))
  have hb : ∀ h, View.readAt (Elt F) arg5.view (Rect.unit (s := S1x1024) ![0, 0] S1x1024.size h).toLoadRect (harg5.unread x4) = x4 :=
    fun h => (funext fun j => Memref.IsWhole.readAt_unread harg5 x4 _ j).trans ((rows_of (N := 1) (d := 1024) (o := 0) (n := 1) (by omega) h x4).trans (rows_all (N := 1) (d := 1024) x4))
  have hxn : ∀ h, View.readAt (Elt F) arg7.view (Rect.unit (s := S16x1024) ![0, 0] S16x1024.size h).toLoadRect (harg7.unread x6) = x6 :=
    fun h => (funext fun j => Memref.IsWhole.readAt_unread harg7 x6 _ j).trans ((rows_of (N := 16) (d := 1024) (o := 0) (n := 16) (by omega) h x6).trans (rows_all (N := 16) (d := 1024) x6))
  refine ((load_rows (n0 := 512) (n1 := 16) (N := 528) (d := 1024) (o := 0) (n := 528) rfl (by omega) _ _ _ _ _ _).trans (rows_all (N := 528) (d := 1024) _)).trans ?_
  refine congrArg₂ (cat (n0 := 512) (n1 := 16) (N := 528) (d := 1024) rfl) (congrArg k0_pay14 ?_) ?_
  · exact (x1_A c arg1 harg1 arg2 harg2 arg3 harg3 arg4 harg4 arg5 harg5 arg6 harg6 arg19 arg20 x0 x1 x2 x3 x4 x5 0 512 (by omega) _).trans (rows_all (N := 512) (d := 1024) _)
  · have hQ : kernelRun0_A.sl.r_1 c arg1 harg1 arg2 harg2 arg3 harg3 arg19 x0 x1 x2 = Q x0 x1 x2 := pay7_congr (v59_A c arg1 harg1 arg2 harg2 arg19 x0 x1 _) (hwo _)
    exact pay15_congr (kernelRun0_A.sl.v9 i) (pay10_congr hQ (hxn _)) (congrArg k0_pay11 (hg _)) (congrArg k0_pay12 (hb _)) (pay13_congr hQ (hxn _))

end Cert.Ffn

end
-- ==== Proof.FfnActsA.lean ====
/- The activations the feed-forward kernel's scratch holds at a point (case A of its body): 22 tiles of 128 lanes. -/
module

public import proofs.«01_k».proof.Proof.FfnDefs
public import proofs.«01_k».proof.Proof.FfnNormA

@[expose] public section

set_option maxRecDepth 16384
set_option maxHeartbeats 2000000

noncomputable section

namespace Cert.Ffn

open Cert.KernelFIdeal Cert.KernelFIdeal.Gen Idealize.ShloMosaic Idealize.ShloMosaic.TcCoe Idealize.SL.Sem
open Cert.FfnLoads

variable {F : FTy → Type} [FloatOps F] [Named F]
variable (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S16x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S528x1024 .bf16) (harg15 : arg15.IsWhole) (arg16 : Memref sig .tc .vmem S4x544x128 .f32) (harg16 : arg16.IsWhole) (arg17 : Memref sig .tc .vmem S512x2816 .bf16) (harg17 : arg17.IsWhole) (arg18 : Memref sig .tc .vmem S44x8x128 .f32) (harg18 : arg18.IsWhole) (arg19 : Memref sig .tc .vmem S528x1024 .bf16) (harg19 : arg19.IsWhole) (arg20 : Memref sig .tc .vmem S512x1024 .f32) (harg20 : arg20.IsWhole) (hc0 : cond0_0 i)
    (x0 : Vec F S512x1024 .bf16) (x1 : Vec F S16x1024 .bf16) (x2 : Vec F S1024x1024 .bf16) (x3 : Vec F S1x1024 .f32) (x4 : Vec F S1x1024 .f32) (x5 : Vec F S512x1024 .f32) (x6 : Vec F S16x1024 .f32) (x7 : Vec F S1024x5632 .bf16) (x8 : Vec F S3x5632 .f32) (x9 : Vec F S1x5632 .f32) (x10 : Vec F S2816x1024 .bf16) (x11 : Vec F S1x1024 .f32) (x12 : Vec F S1x1024 .f32)

/-- Every tile of the activations' scratch is the gated product of its two convolutions. -/
theorem acts_A (h9 : kernelRun0_A.sl.v9 i = 0#32) (y : S512x2816.Idx) : View.canon (Val := Elt F) (e := .bf16) (kernelRun0_A.sl.HS2_22 c i arg1 harg1 arg2 harg2 arg3 harg3 arg4 harg4 arg5 harg5 arg6 harg6 arg7 harg7 arg8 harg8 arg9 harg9 arg10 harg10 arg15 arg16 arg18 arg19 arg20 x0 x1 x2 x3 x4 x5 x6 x7 x8 x9) y
    = ACTALL (XE (kernelRun0_A.sl.v9 i) x0 x1 x2 x3 x4 x5 x6) x7 x8 x9 (fun _ => ZT) y := by
  have hcb : ∀ (o : ℕ) (_ : o + 128 ≤ 5632) (h), View.readAt (Elt F) arg10.view (Rect.unit (s := S1x5632) ![0, o] S1x128.size h).toLoadRect (harg10.unread x9) = cbT x9 o :=
    fun o ho h => funext fun x => (Memref.IsWhole.readAt_unread harg10 x9 _ x).trans (congrArg x9 (cb_idx o ho h x))
  have hcw : ∀ (r : Fin 3) (o : ℕ) (_ : o + 128 ≤ 5632) (h), View.readAt (Elt F) arg9.view (Rect.unit (s := S3x5632) ![r.val, o] S1x128.size h).toLoadRect (harg9.unread x8) = cwT x8 r o :=
    fun r o ho h => funext fun x => (Memref.IsWhole.readAt_unread harg9 x8 _ x).trans (congrArg x8 (cw_idx r o ho h x))
  have hw : ∀ (o : ℕ) (_ : o + 256 ≤ 5632) (h), View.readAt (Elt F) arg8.view (Rect.unit (s := S1024x5632) ![0, o] S1024x256.size h).toLoadRect (harg8.unread x7) = wT x7 o :=
    fun o ho h => funext fun x => (Memref.IsWhole.readAt_unread harg8 x7 _ x).trans (congrArg x7 (w_idx o ho h x))
  have hxe := xe_A c i arg1 harg1 arg2 harg2 arg3 harg3 arg4 harg4 arg5 harg5 arg6 harg6 arg7 harg7 arg15 arg19 arg20 x0 x1 x2 x3 x4 x5 x6
  have hlt : (y 1).val < 128 * (21 + 1) := (y 1).isLt
  revert y
  show ∀ y : SA.Idx, (y 1).val < 128 * (21 + 1) → View.canon (Val := Elt F) (e := .bf16) _ y = (ACT (XE (kernelRun0_A.sl.v9 i) x0 x1 x2 x3 x4 x5 x6) x7 x8 x9 (fun _ => ZT)) ((y 1).val / 128) (ix2 (y 0) ⟨(y 1).val % 128, Nat.mod_lt _ (by decide)⟩)
  refine act_step (Val := Elt F) (e := .bf16) (ACT (XE (kernelRun0_A.sl.v9 i) x0 x1 x2 x3 x4 x5 x6) x7 x8 x9 (fun _ => ZT)) 21 2688 rfl ?_ ?_
  · dsimp only [k0_pay279, k0_pay280, k0_pay281, kernelRun0_A.sl.r_125, kernelRun0_A.sl.r_126, kernelRun0_A.sl.r_127]
    exact act_of 21 (hcb 2688 (by omega) _) ((conv1 _ _ _ _ _ _ _ _ _ _ _ _ _ _ 0 _).trans (hcat_congr (car_zero h9 _) (hX_odd 41 (by decide) hxe (hw 2560 (by omega) _)))) (hcw 0 2688 (by omega) _) ((conv1 _ _ _ _ _ _ _ _ _ _ _ _ _ _ 1 _).trans (hcat_congr (car_zero h9 _) (hX_odd 41 (by decide) hxe (hw 2560 (by omega) _)))) (hcw 1 2688 (by omega) _) ((conv1 _ _ _ _ _ _ _ _ _ _ _ _ _ _ 2 _).trans (hcat_congr (car_zero h9 _) (hX_odd 41 (by decide) hxe (hw 2560 (by omega) _)))) (hcw 2 2688 (by omega) _)
      (hcb 5504 (by omega) _) ((conv3 _ _ _ _ _ _ 0 _).trans (hcat_congr (car_zero h9 _) (hX_odd 43 (by decide) hxe (hw 5376 (by omega) _)))) (hcw 0 5504 (by omega) _) ((conv3 _ _ _ _ _ _ 1 _).trans (hcat_congr (car_zero h9 _) (hX_odd 43 (by decide) hxe (hw 5376 (by omega) _)))) (hcw 1 5504 (by omega) _) ((conv3 _ _ _ _ _ _ 2 _).trans (hcat_congr (car_zero h9 _) (hX_odd 43 (by decide) hxe (hw 5376 (by omega) _)))) (hcw 2 5504 (by omega) _)
  refine act_step (Val := Elt F) (e := .bf16) (ACT (XE (kernelRun0_A.sl.v9 i) x0 x1 x2 x3 x4 x5 x6) x7 x8 x9 (fun _ => ZT)) 20 2560 rfl ?_ ?_
  · dsimp only [k0_pay273, k0_pay274, k0_pay275, k0_pay276, k0_pay277, k0_pay278, kernelRun0_A.sl.r_120, kernelRun0_A.sl.r_121, kernelRun0_A.sl.r_122, kernelRun0_A.sl.r_123, kernelRun0_A.sl.r_124]
    exact act_of 20 (hcb 2560 (by omega) _) ((conv0 _ _ _ _ _ _ _ _ _ _ _ _ _ _ _ _ _ _ 0 _).trans (hcat_congr (car_zero h9 _) (hX_even 40 (by decide) hxe (hw 2560 (by omega) _)))) (hcw 0 2560 (by omega) _) ((conv0 _ _ _ _ _ _ _ _ _ _ _ _ _ _ _ _ _ _ 1 _).trans (hcat_congr (car_zero h9 _) (hX_even 40 (by decide) hxe (hw 2560 (by omega) _)))) (hcw 1 2560 (by omega) _) ((conv0 _ _ _ _ _ _ _ _ _ _ _ _ _ _ _ _ _ _ 2 _).trans (hcat_congr (car_zero h9 _) (hX_even 40 (by decide) hxe (hw 2560 (by omega) _)))) (hcw 2 2560 (by omega) _)
      (hcb 5376 (by omega) _) ((conv2 _ _ _ _ _ _ _ _ _ _ 0 _).trans (hcat_congr (car_zero3 h9 _) (hX_even 42 (by decide) hxe (hw 5376 (by omega) _)))) (hcw 0 5376 (by omega) _) ((conv2 _ _ _ _ _ _ _ _ _ _ 1 _).trans (hcat_congr (car_zero3 h9 _) (hX_even 42 (by decide) hxe (hw 5376 (by omega) _)))) (hcw 1 5376 (by omega) _) ((conv2 _ _ _ _ _ _ _ _ _ _ 2 _).trans (hcat_congr (car_zero3 h9 _) (hX_even 42 (by decide) hxe (hw 5376 (by omega) _)))) (hcw 2 5376 (by omega) _)
  refine act_step (Val := Elt F) (e := .bf16) (ACT (XE (kernelRun0_A.sl.v9 i) x0 x1 x2 x3 x4 x5 x6) x7 x8 x9 (fun _ => ZT)) 19 2432 rfl ?_ ?_
  · dsimp only [k0_pay251, k0_pay252, k0_pay253, k0_pay254, k0_pay255, k0_pay256, kernelRun0_A.sl.r_111, kernelRun0_A.sl.r_112, kernelRun0_A.sl.r_113, kernelRun0_A.sl.r_114, kernelRun0_A.sl.r_115]
    exact act_of 19 (hcb 2432 (by omega) _) ((conv1 _ _ _ _ _ _ _ _ _ _ _ _ _ _ 0 _).trans (hcat_congr (car_zero h9 _) (hX_odd 37 (by decide) hxe (hw 2304 (by omega) _)))) (hcw 0 2432 (by omega) _) ((conv1 _ _ _ _ _ _ _ _ _ _ _ _ _ _ 1 _).trans (hcat_congr (car_zero h9 _) (hX_odd 37 (by decide) hxe (hw 2304 (by omega) _)))) (hcw 1 2432 (by omega) _) ((conv1 _ _ _ _ _ _ _ _ _ _ _ _ _ _ 2 _).trans (hcat_congr (car_zero h9 _) (hX_odd 37 (by decide) hxe (hw 2304 (by omega) _)))) (hcw 2 2432 (by omega) _)
      (hcb 5248 (by omega) _) ((conv3 _ _ _ _ _ _ 0 _).trans (hcat_congr (car_zero h9 _) (hX_odd 39 (by decide) hxe (hw 5120 (by omega) _)))) (hcw 0 5248 (by omega) _) ((conv3 _ _ _ _ _ _ 1 _).trans (hcat_congr (car_zero h9 _) (hX_odd 39 (by decide) hxe (hw 5120 (by omega) _)))) (hcw 1 5248 (by omega) _) ((conv3 _ _ _ _ _ _ 2 _).trans (hcat_congr (car_zero h9 _) (hX_odd 39 (by decide) hxe (hw 5120 (by omega) _)))) (hcw 2 5248 (by omega) _)
  refine act_step (Val := Elt F) (e := .bf16) (ACT (XE (kernelRun0_A.sl.v9 i) x0 x1 x2 x3 x4 x5 x6) x7 x8 x9 (fun _ => ZT)) 18 2304 rfl ?_ ?_
  · dsimp only [k0_pay247, k0_pay248, k0_pay249, k0_pay250, kernelRun0_A.sl.r_107, kernelRun0_A.sl.r_108, kernelRun0_A.sl.r_109, kernelRun0_A.sl.r_110]
    exact act_of 18 (hcb 2304 (by omega) _) ((conv0 _ _ _ _ _ _ _ _ _ _ _ _ _ _ _ _ _ _ 0 _).trans (hcat_congr (car_zero h9 _) (hX_even 36 (by decide) hxe (hw 2304 (by omega) _)))) (hcw 0 2304 (by omega) _) ((conv0 _ _ _ _ _ _ _ _ _ _ _ _ _ _ _ _ _ _ 1 _).trans (hcat_congr (car_zero h9 _) (hX_even 36 (by decide) hxe (hw 2304 (by omega) _)))) (hcw 1 2304 (by omega) _) ((conv0 _ _ _ _ _ _ _ _ _ _ _ _ _ _ _ _ _ _ 2 _).trans (hcat_congr (car_zero h9 _) (hX_even 36 (by decide) hxe (hw 2304 (by omega) _)))) (hcw 2 2304 (by omega) _)
      (hcb 5120 (by omega) _) ((conv2 _ _ _ _ _ _ _ _ _ _ 0 _).trans (hcat_congr (car_zero h9 _) (hX_even 38 (by decide) hxe (hw 5120 (by omega) _)))) (hcw 0 5120 (by omega) _) ((conv2 _ _ _ _ _ _ _ _ _ _ 1 _).trans (hcat_congr (car_zero h9 _) (hX_even 38 (by decide) hxe (hw 5120 (by omega) _)))) (hcw 1 5120 (by omega) _) ((conv2 _ _ _ _ _ _ _ _ _ _ 2 _).trans (hcat_congr (car_zero h9 _) (hX_even 38 (by decide) hxe (hw 5120 (by omega) _)))) (hcw 2 5120 (by omega) _)
  refine act_step (Val := Elt F) (e := .bf16) (ACT (XE (kernelRun0_A.sl.v9 i) x0 x1 x2 x3 x4 x5 x6) x7 x8 x9 (fun _ => ZT)) 17 2176 rfl ?_ ?_
  · dsimp only [k0_pay229, k0_pay230, k0_pay231, kernelRun0_A.sl.r_102, kernelRun0_A.sl.r_103]
    exact act_of 17 (hcb 2176 (by omega) _) ((conv1 _ _ _ _ _ _ _ _ _ _ _ _ _ _ 0 _).trans (hcat_congr (car_zero h9 _) (hX_odd 33 (by decide) hxe (hw 2048 (by omega) _)))) (hcw 0 2176 (by omega) _) ((conv1 _ _ _ _ _ _ _ _ _ _ _ _ _ _ 1 _).trans (hcat_congr (car_zero h9 _) (hX_odd 33 (by decide) hxe (hw 2048 (by omega) _)))) (hcw 1 2176 (by omega) _) ((conv1 _ _ _ _ _ _ _ _ _ _ _ _ _ _ 2 _).trans (hcat_congr (car_zero h9 _) (hX_odd 33 (by decide) hxe (hw 2048 (by omega) _)))) (hcw 2 2176 (by omega) _)
      (hcb 4992 (by omega) _) ((conv3 _ _ _ _ _ _ 0 _).trans (hcat_congr (car_zero h9 _) (hX_odd 35 (by decide) hxe (hw 4864 (by omega) _)))) (hcw 0 4992 (by omega) _) ((conv3 _ _ _ _ _ _ 1 _).trans (hcat_congr (car_zero h9 _) (hX_odd 35 (by decide) hxe (hw 4864 (by omega) _)))) (hcw 1 4992 (by omega) _) ((conv3 _ _ _ _ _ _ 2 _).trans (hcat_congr (car_zero h9 _) (hX_odd 35 (by decide) hxe (hw 4864 (by omega) _)))) (hcw 2 4992 (by omega) _)
  refine act_step (Val := Elt F) (e := .bf16) (ACT (XE (kernelRun0_A.sl.v9 i) x0 x1 x2 x3 x4 x5 x6) x7 x8 x9 (fun _ => ZT)) 16 2048 rfl ?_ ?_
  · dsimp only [k0_pay226, k0_pay227, k0_pay228, kernelRun0_A.sl.r_100, kernelRun0_A.sl.r_101]
    exact act_of 16 (hcb 2048 (by omega) _) ((conv0 _ _ _ _ _ _ _ _ _ _ _ _ _ _ _ _ _ _ 0 _).trans (hcat_congr (car_zero h9 _) (hX_even 32 (by decide) hxe (hw 2048 (by omega) _)))) (hcw 0 2048 (by omega) _) ((conv0 _ _ _ _ _ _ _ _ _ _ _ _ _ _ _ _ _ _ 1 _).trans (hcat_congr (car_zero h9 _) (hX_even 32 (by decide) hxe (hw 2048 (by omega) _)))) (hcw 1 2048 (by omega) _) ((conv0 _ _ _ _ _ _ _ _ _ _ _ _ _ _ _ _ _ _ 2 _).trans (hcat_congr (car_zero h9 _) (hX_even 32 (by decide) hxe (hw 2048 (by omega) _)))) (hcw 2 2048 (by omega) _)
      (hcb 4864 (by omega) _) ((conv2 _ _ _ _ _ _ _ _ _ _ 0 _).trans (hcat_congr (car_zero h9 _) (hX_even 34 (by decide) hxe (hw 4864 (by omega) _)))) (hcw 0 4864 (by omega) _) ((conv2 _ _ _ _ _ _ _ _ _ _ 1 _).trans (hcat_congr (car_zero h9 _) (hX_even 34 (by decide) hxe (hw 4864 (by omega) _)))) (hcw 1 4864 (by omega) _) ((conv2 _ _ _ _ _ _ _ _ _ _ 2 _).trans (hcat_congr (car_zero h9 _) (hX_even 34 (by decide) hxe (hw 4864 (by omega) _)))) (hcw 2 4864 (by omega) _)
  refine act_step (Val := Elt F) (e := .bf16) (ACT (XE (kernelRun0_A.sl.v9 i) x0 x1 x2 x3 x4 x5 x6) x7 x8 x9 (fun _ => ZT)) 15 1920 rfl ?_ ?_
  · dsimp only [k0_pay207, k0_pay208, k0_pay209, kernelRun0_A.sl.r_93, kernelRun0_A.sl.r_94, kernelRun0_A.sl.r_95]
    exact act_of 15 (hcb 1920 (by omega) _) ((conv1 _ _ _ _ _ _ _ _ _ _ _ _ _ _ 0 _).trans (hcat_congr (car_zero h9 _) (hX_odd 29 (by decide) hxe (hw 1792 (by omega) _)))) (hcw 0 1920 (by omega) _) ((conv1 _ _ _ _ _ _ _ _ _ _ _ _ _ _ 1 _).trans (hcat_congr (car_zero h9 _) (hX_odd 29 (by decide) hxe (hw 1792 (by omega) _)))) (hcw 1 1920 (by omega) _) ((conv1 _ _ _ _ _ _ _ _ _ _ _ _ _ _ 2 _).trans (hcat_congr (car_zero h9 _) (hX_odd 29 (by decide) hxe (hw 1792 (by omega) _)))) (hcw 2 1920 (by omega) _)
      (hcb 4736 (by omega) _) ((conv3 _ _ _ _ _ _ 0 _).trans (hcat_congr (car_zero h9 _) (hX_odd 31 (by decide) hxe (hw 4608 (by omega) _)))) (hcw 0 4736 (by omega) _) ((conv3 _ _ _ _ _ _ 1 _).trans (hcat_congr (car_zero h9 _) (hX_odd 31 (by decide) hxe (hw 4608 (by omega) _)))) (hcw 1 4736 (by omega) _) ((conv3 _ _ _ _ _ _ 2 _).trans (hcat_congr (car_zero h9 _) (hX_odd 31 (by decide) hxe (hw 4608 (by omega) _)))) (hcw 2 4736 (by omega) _)
  refine act_step (Val := Elt F) (e := .bf16) (ACT (XE (kernelRun0_A.sl.v9 i) x0 x1 x2 x3 x4 x5 x6) x7 x8 x9 (fun _ => ZT)) 14 1792 rfl ?_ ?_
  · dsimp only [k0_pay201, k0_pay202, k0_pay203, k0_pay204, k0_pay205, k0_pay206, kernelRun0_A.sl.r_88, kernelRun0_A.sl.r_89, kernelRun0_A.sl.r_90, kernelRun0_A.sl.r_91, kernelRun0_A.sl.r_92]
    exact act_of 14 (hcb 1792 (by omega) _) ((conv0 _ _ _ _ _ _ _ _ _ _ _ _ _ _ _ _ _ _ 0 _).trans (hcat_congr (car_zero h9 _) (hX_even 28 (by decide) hxe (hw 1792 (by omega) _)))) (hcw 0 1792 (by omega) _) ((conv0 _ _ _ _ _ _ _ _ _ _ _ _ _ _ _ _ _ _ 1 _).trans (hcat_congr (car_zero h9 _) (hX_even 28 (by decide) hxe (hw 1792 (by omega) _)))) (hcw 1 1792 (by omega) _) ((conv0 _ _ _ _ _ _ _ _ _ _ _ _ _ _ _ _ _ _ 2 _).trans (hcat_congr (car_zero h9 _) (hX_even 28 (by decide) hxe (hw 1792 (by omega) _)))) (hcw 2 1792 (by omega) _)
      (hcb 4608 (by omega) _) ((conv2 _ _ _ _ _ _ _ _ _ _ 0 _).trans (hcat_congr (car_zero3 h9 _) (hX_even 30 (by decide) hxe (hw 4608 (by omega) _)))) (hcw 0 4608 (by omega) _) ((conv2 _ _ _ _ _ _ _ _ _ _ 1 _).trans (hcat_congr (car_zero3 h9 _) (hX_even 30 (by decide) hxe (hw 4608 (by omega) _)))) (hcw 1 4608 (by omega) _) ((conv2 _ _ _ _ _ _ _ _ _ _ 2 _).trans (hcat_congr (car_zero3 h9 _) (hX_even 30 (by decide) hxe (hw 4608 (by omega) _)))) (hcw 2 4608 (by omega) _)
  refine act_step (Val := Elt F) (e := .bf16) (ACT (XE (kernelRun0_A.sl.v9 i) x0 x1 x2 x3 x4 x5 x6) x7 x8 x9 (fun _ => ZT)) 13 1664 rfl ?_ ?_
  · dsimp only [k0_pay179, k0_pay180, k0_pay181, k0_pay182, k0_pay183, k0_pay184, kernelRun0_A.sl.r_79, kernelRun0_A.sl.r_80, kernelRun0_A.sl.r_81, kernelRun0_A.sl.r_82, kernelRun0_A.sl.r_83]
    exact act_of 13 (hcb 1664 (by omega) _) ((conv1 _ _ _ _ _ _ _ _ _ _ _ _ _ _ 0 _).trans (hcat_congr (car_zero h9 _) (hX_odd 25 (by decide) hxe (hw 1536 (by omega) _)))) (hcw 0 1664 (by omega) _) ((conv1 _ _ _ _ _ _ _ _ _ _ _ _ _ _ 1 _).trans (hcat_congr (car_zero h9 _) (hX_odd 25 (by decide) hxe (hw 1536 (by omega) _)))) (hcw 1 1664 (by omega) _) ((conv1 _ _ _ _ _ _ _ _ _ _ _ _ _ _ 2 _).trans (hcat_congr (car_zero h9 _) (hX_odd 25 (by decide) hxe (hw 1536 (by omega) _)))) (hcw 2 1664 (by omega) _)
      (hcb 4480 (by omega) _) ((conv3 _ _ _ _ _ _ 0 _).trans (hcat_congr (car_zero h9 _) (hX_odd 27 (by decide) hxe (hw 4352 (by omega) _)))) (hcw 0 4480 (by omega) _) ((conv3 _ _ _ _ _ _ 1 _).trans (hcat_congr (car_zero h9 _) (hX_odd 27 (by decide) hxe (hw 4352 (by omega) _)))) (hcw 1 4480 (by omega) _) ((conv3 _ _ _ _ _ _ 2 _).trans (hcat_congr (car_zero h9 _) (hX_odd 27 (by decide) hxe (hw 4352 (by omega) _)))) (hcw 2 4480 (by omega) _)
  refine act_step (Val := Elt F) (e := .bf16) (ACT (XE (kernelRun0_A.sl.v9 i) x0 x1 x2 x3 x4 x5 x6) x7 x8 x9 (fun _ => ZT)) 12 1536 rfl ?_ ?_
  · dsimp only [k0_pay175, k0_pay176, k0_pay177, k0_pay178, kernelRun0_A.sl.r_75, kernelRun0_A.sl.r_76, kernelRun0_A.sl.r_77, kernelRun0_A.sl.r_78]
    exact act_of 12 (hcb 1536 (by omega) _) ((conv0 _ _ _ _ _ _ _ _ _ _ _ _ _ _ _ _ _ _ 0 _).trans (hcat_congr (car_zero h9 _) (hX_even 24 (by decide) hxe (hw 1536 (by omega) _)))) (hcw 0 1536 (by omega) _) ((conv0 _ _ _ _ _ _ _ _ _ _ _ _ _ _ _ _ _ _ 1 _).trans (hcat_congr (car_zero h9 _) (hX_even 24 (by decide) hxe (hw 1536 (by omega) _)))) (hcw 1 1536 (by omega) _) ((conv0 _ _ _ _ _ _ _ _ _ _ _ _ _ _ _ _ _ _ 2 _).trans (hcat_congr (car_zero h9 _) (hX_even 24 (by decide) hxe (hw 1536 (by omega) _)))) (hcw 2 1536 (by omega) _)
      (hcb 4352 (by omega) _) ((conv2 _ _ _ _ _ _ _ _ _ _ 0 _).trans (hcat_congr (car_zero h9 _) (hX_even 26 (by decide) hxe (hw 4352 (by omega) _)))) (hcw 0 4352 (by omega) _) ((conv2 _ _ _ _ _ _ _ _ _ _ 1 _).trans (hcat_congr (car_zero h9 _) (hX_even 26 (by decide) hxe (hw 4352 (by omega) _)))) (hcw 1 4352 (by omega) _) ((conv2 _ _ _ _ _ _ _ _ _ _ 2 _).trans (hcat_congr (car_zero h9 _) (hX_even 26 (by decide) hxe (hw 4352 (by omega) _)))) (hcw 2 4352 (by omega) _)
  refine act_step (Val := Elt F) (e := .bf16) (ACT (XE (kernelRun0_A.sl.v9 i) x0 x1 x2 x3 x4 x5 x6) x7 x8 x9 (fun _ => ZT)) 11 1408 rfl ?_ ?_
  · dsimp only [k0_pay157, k0_pay158, k0_pay159, kernelRun0_A.sl.r_70, kernelRun0_A.sl.r_71]
    exact act_of 11 (hcb 1408 (by omega) _) ((conv1 _ _ _ _ _ _ _ _ _ _ _ _ _ _ 0 _).trans (hcat_congr (car_zero h9 _) (hX_odd 21 (by decide) hxe (hw 1280 (by omega) _)))) (hcw 0 1408 (by omega) _) ((conv1 _ _ _ _ _ _ _ _ _ _ _ _ _ _ 1 _).trans (hcat_congr (car_zero h9 _) (hX_odd 21 (by decide) hxe (hw 1280 (by omega) _)))) (hcw 1 1408 (by omega) _) ((conv1 _ _ _ _ _ _ _ _ _ _ _ _ _ _ 2 _).trans (hcat_congr (car_zero h9 _) (hX_odd 21 (by decide) hxe (hw 1280 (by omega) _)))) (hcw 2 1408 (by omega) _)
      (hcb 4224 (by omega) _) ((conv3 _ _ _ _ _ _ 0 _).trans (hcat_congr (car_zero h9 _) (hX_odd 23 (by decide) hxe (hw 4096 (by omega) _)))) (hcw 0 4224 (by omega) _) ((conv3 _ _ _ _ _ _ 1 _).trans (hcat_congr (car_zero h9 _) (hX_odd 23 (by decide) hxe (hw 4096 (by omega) _)))) (hcw 1 4224 (by omega) _) ((conv3 _ _ _ _ _ _ 2 _).trans (hcat_congr (car_zero h9 _) (hX_odd 23 (by decide) hxe (hw 4096 (by omega) _)))) (hcw 2 4224 (by omega) _)
  refine act_step (Val := Elt F) (e := .bf16) (ACT (XE (kernelRun0_A.sl.v9 i) x0 x1 x2 x3 x4 x5 x6) x7 x8 x9 (fun _ => ZT)) 10 1280 rfl ?_ ?_
  · dsimp only [k0_pay154, k0_pay155, k0_pay156, kernelRun0_A.sl.r_68, kernelRun0_A.sl.r_69]
    exact act_of 10 (hcb 1280 (by omega) _) ((conv0 _ _ _ _ _ _ _ _ _ _ _ _ _ _ _ _ _ _ 0 _).trans (hcat_congr (car_zero h9 _) (hX_even 20 (by decide) hxe (hw 1280 (by omega) _)))) (hcw 0 1280 (by omega) _) ((conv0 _ _ _ _ _ _ _ _ _ _ _ _ _ _ _ _ _ _ 1 _).trans (hcat_congr (car_zero h9 _) (hX_even 20 (by decide) hxe (hw 1280 (by omega) _)))) (hcw 1 1280 (by omega) _) ((conv0 _ _ _ _ _ _ _ _ _ _ _ _ _ _ _ _ _ _ 2 _).trans (hcat_congr (car_zero h9 _) (hX_even 20 (by decide) hxe (hw 1280 (by omega) _)))) (hcw 2 1280 (by omega) _)
      (hcb 4096 (by omega) _) ((conv2 _ _ _ _ _ _ _ _ _ _ 0 _).trans (hcat_congr (car_zero h9 _) (hX_even 22 (by decide) hxe (hw 4096 (by omega) _)))) (hcw 0 4096 (by omega) _) ((conv2 _ _ _ _ _ _ _ _ _ _ 1 _).trans (hcat_congr (car_zero h9 _) (hX_even 22 (by decide) hxe (hw 4096 (by omega) _)))) (hcw 1 4096 (by omega) _) ((conv2 _ _ _ _ _ _ _ _ _ _ 2 _).trans (hcat_congr (car_zero h9 _) (hX_even 22 (by decide) hxe (hw 4096 (by omega) _)))) (hcw 2 4096 (by omega) _)
  refine act_step (Val := Elt F) (e := .bf16) (ACT (XE (kernelRun0_A.sl.v9 i) x0 x1 x2 x3 x4 x5 x6) x7 x8 x9 (fun _ => ZT)) 9 1152 rfl ?_ ?_
  · dsimp only [k0_pay135, k0_pay136, k0_pay137, kernelRun0_A.sl.r_61, kernelRun0_A.sl.r_62, kernelRun0_A.sl.r_63]
    exact act_of 9 (hcb 1152 (by omega) _) ((conv1 _ _ _ _ _ _ _ _ _ _ _ _ _ _ 0 _).trans (hcat_congr (car_zero h9 _) (hX_odd 17 (by decide) hxe (hw 1024 (by omega) _)))) (hcw 0 1152 (by omega) _) ((conv1 _ _ _ _ _ _ _ _ _ _ _ _ _ _ 1 _).trans (hcat_congr (car_zero h9 _) (hX_odd 17 (by decide) hxe (hw 1024 (by omega) _)))) (hcw 1 1152 (by omega) _) ((conv1 _ _ _ _ _ _ _ _ _ _ _ _ _ _ 2 _).trans (hcat_congr (car_zero h9 _) (hX_odd 17 (by decide) hxe (hw 1024 (by omega) _)))) (hcw 2 1152 (by omega) _)
      (hcb 3968 (by omega) _) ((conv3 _ _ _ _ _ _ 0 _).trans (hcat_congr (car_zero h9 _) (hX_odd 19 (by decide) hxe (hw 3840 (by omega) _)))) (hcw 0 3968 (by omega) _) ((conv3 _ _ _ _ _ _ 1 _).trans (hcat_congr (car_zero h9 _) (hX_odd 19 (by decide) hxe (hw 3840 (by omega) _)))) (hcw 1 3968 (by omega) _) ((conv3 _ _ _ _ _ _ 2 _).trans (hcat_congr (car_zero h9 _) (hX_odd 19 (by decide) hxe (hw 3840 (by omega) _)))) (hcw 2 3968 (by omega) _)
  refine act_step (Val := Elt F) (e := .bf16) (ACT (XE (kernelRun0_A.sl.v9 i) x0 x1 x2 x3 x4 x5 x6) x7 x8 x9 (fun _ => ZT)) 8 1024 rfl ?_ ?_
  · dsimp only [k0_pay129, k0_pay130, k0_pay131, k0_pay132, k0_pay133, k0_pay134, kernelRun0_A.sl.r_56, kernelRun0_A.sl.r_57, kernelRun0_A.sl.r_58, kernelRun0_A.sl.r_59, kernelRun0_A.sl.r_60]
    exact act_of 8 (hcb 1024 (by omega) _) ((conv0 _ _ _ _ _ _ _ _ _ _ _ _ _ _ _ _ _ _ 0 _).trans (hcat_congr (car_zero h9 _) (hX_even 16 (by decide) hxe (hw 1024 (by omega) _)))) (hcw 0 1024 (by omega) _) ((conv0 _ _ _ _ _ _ _ _ _ _ _ _ _ _ _ _ _ _ 1 _).trans (hcat_congr (car_zero h9 _) (hX_even 16 (by decide) hxe (hw 1024 (by omega) _)))) (hcw 1 1024 (by omega) _) ((conv0 _ _ _ _ _ _ _ _ _ _ _ _ _ _ _ _ _ _ 2 _).trans (hcat_congr (car_zero h9 _) (hX_even 16 (by decide) hxe (hw 1024 (by omega) _)))) (hcw 2 1024 (by omega) _)
      (hcb 3840 (by omega) _) ((conv2 _ _ _ _ _ _ _ _ _ _ 0 _).trans (hcat_congr (car_zero3 h9 _) (hX_even 18 (by decide) hxe (hw 3840 (by omega) _)))) (hcw 0 3840 (by omega) _) ((conv2 _ _ _ _ _ _ _ _ _ _ 1 _).trans (hcat_congr (car_zero3 h9 _) (hX_even 18 (by decide) hxe (hw 3840 (by omega) _)))) (hcw 1 3840 (by omega) _) ((conv2 _ _ _ _ _ _ _ _ _ _ 2 _).trans (hcat_congr (car_zero3 h9 _) (hX_even 18 (by decide) hxe (hw 3840 (by omega) _)))) (hcw 2 3840 (by omega) _)
  refine act_step (Val := Elt F) (e := .bf16) (ACT (XE (kernelRun0_A.sl.v9 i) x0 x1 x2 x3 x4 x5 x6) x7 x8 x9 (fun _ => ZT)) 7 896 rfl ?_ ?_
  · dsimp only [k0_pay107, k0_pay108, k0_pay109, k0_pay110, k0_pay111, k0_pay112, kernelRun0_A.sl.r_47, kernelRun0_A.sl.r_48, kernelRun0_A.sl.r_49, kernelRun0_A.sl.r_50, kernelRun0_A.sl.r_51]
    exact act_of 7 (hcb 896 (by omega) _) ((conv1 _ _ _ _ _ _ _ _ _ _ _ _ _ _ 0 _).trans (hcat_congr (car_zero h9 _) (hX_odd 13 (by decide) hxe (hw 768 (by omega) _)))) (hcw 0 896 (by omega) _) ((conv1 _ _ _ _ _ _ _ _ _ _ _ _ _ _ 1 _).trans (hcat_congr (car_zero h9 _) (hX_odd 13 (by decide) hxe (hw 768 (by omega) _)))) (hcw 1 896 (by omega) _) ((conv1 _ _ _ _ _ _ _ _ _ _ _ _ _ _ 2 _).trans (hcat_congr (car_zero h9 _) (hX_odd 13 (by decide) hxe (hw 768 (by omega) _)))) (hcw 2 896 (by omega) _)
      (hcb 3712 (by omega) _) ((conv3 _ _ _ _ _ _ 0 _).trans (hcat_congr (car_zero h9 _) (hX_odd 15 (by decide) hxe (hw 3584 (by omega) _)))) (hcw 0 3712 (by omega) _) ((conv3 _ _ _ _ _ _ 1 _).trans (hcat_congr (car_zero h9 _) (hX_odd 15 (by decide) hxe (hw 3584 (by omega) _)))) (hcw 1 3712 (by omega) _) ((conv3 _ _ _ _ _ _ 2 _).trans (hcat_congr (car_zero h9 _) (hX_odd 15 (by decide) hxe (hw 3584 (by omega) _)))) (hcw 2 3712 (by omega) _)
  refine act_step (Val := Elt F) (e := .bf16) (ACT (XE (kernelRun0_A.sl.v9 i) x0 x1 x2 x3 x4 x5 x6) x7 x8 x9 (fun _ => ZT)) 6 768 rfl ?_ ?_
  · dsimp only [k0_pay103, k0_pay104, k0_pay105, k0_pay106, kernelRun0_A.sl.r_43, kernelRun0_A.sl.r_44, kernelRun0_A.sl.r_45, kernelRun0_A.sl.r_46]
    exact act_of 6 (hcb 768 (by omega) _) ((conv0 _ _ _ _ _ _ _ _ _ _ _ _ _ _ _ _ _ _ 0 _).trans (hcat_congr (car_zero h9 _) (hX_even 12 (by decide) hxe (hw 768 (by omega) _)))) (hcw 0 768 (by omega) _) ((conv0 _ _ _ _ _ _ _ _ _ _ _ _ _ _ _ _ _ _ 1 _).trans (hcat_congr (car_zero h9 _) (hX_even 12 (by decide) hxe (hw 768 (by omega) _)))) (hcw 1 768 (by omega) _) ((conv0 _ _ _ _ _ _ _ _ _ _ _ _ _ _ _ _ _ _ 2 _).trans (hcat_congr (car_zero h9 _) (hX_even 12 (by decide) hxe (hw 768 (by omega) _)))) (hcw 2 768 (by omega) _)
      (hcb 3584 (by omega) _) ((conv2 _ _ _ _ _ _ _ _ _ _ 0 _).trans (hcat_congr (car_zero h9 _) (hX_even 14 (by decide) hxe (hw 3584 (by omega) _)))) (hcw 0 3584 (by omega) _) ((conv2 _ _ _ _ _ _ _ _ _ _ 1 _).trans (hcat_congr (car_zero h9 _) (hX_even 14 (by decide) hxe (hw 3584 (by omega) _)))) (hcw 1 3584 (by omega) _) ((conv2 _ _ _ _ _ _ _ _ _ _ 2 _).trans (hcat_congr (car_zero h9 _) (hX_even 14 (by decide) hxe (hw 3584 (by omega) _)))) (hcw 2 3584 (by omega) _)
  refine act_step (Val := Elt F) (e := .bf16) (ACT (XE (kernelRun0_A.sl.v9 i) x0 x1 x2 x3 x4 x5 x6) x7 x8 x9 (fun _ => ZT)) 5 640 rfl ?_ ?_
  · dsimp only [k0_pay85, k0_pay86, k0_pay87, kernelRun0_A.sl.r_38, kernelRun0_A.sl.r_39]
    exact act_of 5 (hcb 640 (by omega) _) ((conv1 _ _ _ _ _ _ _ _ _ _ _ _ _ _ 0 _).trans (hcat_congr (car_zero h9 _) (hX_odd 9 (by decide) hxe (hw 512 (by omega) _)))) (hcw 0 640 (by omega) _) ((conv1 _ _ _ _ _ _ _ _ _ _ _ _ _ _ 1 _).trans (hcat_congr (car_zero h9 _) (hX_odd 9 (by decide) hxe (hw 512 (by omega) _)))) (hcw 1 640 (by omega) _) ((conv1 _ _ _ _ _ _ _ _ _ _ _ _ _ _ 2 _).trans (hcat_congr (car_zero h9 _) (hX_odd 9 (by decide) hxe (hw 512 (by omega) _)))) (hcw 2 640 (by omega) _)
      (hcb 3456 (by omega) _) ((conv3 _ _ _ _ _ _ 0 _).trans (hcat_congr (car_zero h9 _) (hX_odd 11 (by decide) hxe (hw 3328 (by omega) _)))) (hcw 0 3456 (by omega) _) ((conv3 _ _ _ _ _ _ 1 _).trans (hcat_congr (car_zero h9 _) (hX_odd 11 (by decide) hxe (hw 3328 (by omega) _)))) (hcw 1 3456 (by omega) _) ((conv3 _ _ _ _ _ _ 2 _).trans (hcat_congr (car_zero h9 _) (hX_odd 11 (by decide) hxe (hw 3328 (by omega) _)))) (hcw 2 3456 (by omega) _)
  refine act_step (Val := Elt F) (e := .bf16) (ACT (XE (kernelRun0_A.sl.v9 i) x0 x1 x2 x3 x4 x5 x6) x7 x8 x9 (fun _ => ZT)) 4 512 rfl ?_ ?_
  · dsimp only [k0_pay82, k0_pay83, k0_pay84, kernelRun0_A.sl.r_36, kernelRun0_A.sl.r_37]
    exact act_of 4 (hcb 512 (by omega) _) ((conv0 _ _ _ _ _ _ _ _ _ _ _ _ _ _ _ _ _ _ 0 _).trans (hcat_congr (car_zero h9 _) (hX_even 8 (by decide) hxe (hw 512 (by omega) _)))) (hcw 0 512 (by omega) _) ((conv0 _ _ _ _ _ _ _ _ _ _ _ _ _ _ _ _ _ _ 1 _).trans (hcat_congr (car_zero h9 _) (hX_even 8 (by decide) hxe (hw 512 (by omega) _)))) (hcw 1 512 (by omega) _) ((conv0 _ _ _ _ _ _ _ _ _ _ _ _ _ _ _ _ _ _ 2 _).trans (hcat_congr (car_zero h9 _) (hX_even 8 (by decide) hxe (hw 512 (by omega) _)))) (hcw 2 512 (by omega) _)
      (hcb 3328 (by omega) _) ((conv2 _ _ _ _ _ _ _ _ _ _ 0 _).trans (hcat_congr (car_zero h9 _) (hX_even 10 (by decide) hxe (hw 3328 (by omega) _)))) (hcw 0 3328 (by omega) _) ((conv2 _ _ _ _ _ _ _ _ _ _ 1 _).trans (hcat_congr (car_zero h9 _) (hX_even 10 (by decide) hxe (hw 3328 (by omega) _)))) (hcw 1 3328 (by omega) _) ((conv2 _ _ _ _ _ _ _ _ _ _ 2 _).trans (hcat_congr (car_zero h9 _) (hX_even 10 (by decide) hxe (hw 3328 (by omega) _)))) (hcw 2 3328 (by omega) _)
  refine act_step (Val := Elt F) (e := .bf16) (ACT (XE (kernelRun0_A.sl.v9 i) x0 x1 x2 x3 x4 x5 x6) x7 x8 x9 (fun _ => ZT)) 3 384 rfl ?_ ?_
  · dsimp only [k0_pay63, k0_pay64, k0_pay65, kernelRun0_A.sl.r_29, kernelRun0_A.sl.r_30, kernelRun0_A.sl.r_31]
    exact act_of 3 (hcb 384 (by omega) _) ((conv1 _ _ _ _ _ _ _ _ _ _ _ _ _ _ 0 _).trans (hcat_congr (car_zero h9 _) (hX_odd 5 (by decide) hxe (hw 256 (by omega) _)))) (hcw 0 384 (by omega) _) ((conv1 _ _ _ _ _ _ _ _ _ _ _ _ _ _ 1 _).trans (hcat_congr (car_zero h9 _) (hX_odd 5 (by decide) hxe (hw 256 (by omega) _)))) (hcw 1 384 (by omega) _) ((conv1 _ _ _ _ _ _ _ _ _ _ _ _ _ _ 2 _).trans (hcat_congr (car_zero h9 _) (hX_odd 5 (by decide) hxe (hw 256 (by omega) _)))) (hcw 2 384 (by omega) _)
      (hcb 3200 (by omega) _) ((conv3 _ _ _ _ _ _ 0 _).trans (hcat_congr (car_zero h9 _) (hX_odd 7 (by decide) hxe (hw 3072 (by omega) _)))) (hcw 0 3200 (by omega) _) ((conv3 _ _ _ _ _ _ 1 _).trans (hcat_congr (car_zero h9 _) (hX_odd 7 (by decide) hxe (hw 3072 (by omega) _)))) (hcw 1 3200 (by omega) _) ((conv3 _ _ _ _ _ _ 2 _).trans (hcat_congr (car_zero h9 _) (hX_odd 7 (by decide) hxe (hw 3072 (by omega) _)))) (hcw 2 3200 (by omega) _)
  refine act_step (Val := Elt F) (e := .bf16) (ACT (XE (kernelRun0_A.sl.v9 i) x0 x1 x2 x3 x4 x5 x6) x7 x8 x9 (fun _ => ZT)) 2 256 rfl ?_ ?_
  · dsimp only [k0_pay57, k0_pay58, k0_pay59, k0_pay60, k0_pay61, k0_pay62, kernelRun0_A.sl.r_24, kernelRun0_A.sl.r_25, kernelRun0_A.sl.r_26, kernelRun0_A.sl.r_27, kernelRun0_A.sl.r_28]
    exact act_of 2 (hcb 256 (by omega) _) ((conv0 _ _ _ _ _ _ _ _ _ _ _ _ _ _ _ _ _ _ 0 _).trans (hcat_congr (car_zero h9 _) (hX_even 4 (by decide) hxe (hw 256 (by omega) _)))) (hcw 0 256 (by omega) _) ((conv0 _ _ _ _ _ _ _ _ _ _ _ _ _ _ _ _ _ _ 1 _).trans (hcat_congr (car_zero h9 _) (hX_even 4 (by decide) hxe (hw 256 (by omega) _)))) (hcw 1 256 (by omega) _) ((conv0 _ _ _ _ _ _ _ _ _ _ _ _ _ _ _ _ _ _ 2 _).trans (hcat_congr (car_zero h9 _) (hX_even 4 (by decide) hxe (hw 256 (by omega) _)))) (hcw 2 256 (by omega) _)
      (hcb 3072 (by omega) _) ((conv2 _ _ _ _ _ _ _ _ _ _ 0 _).trans (hcat_congr (car_zero3 h9 _) (hX_even 6 (by decide) hxe (hw 3072 (by omega) _)))) (hcw 0 3072 (by omega) _) ((conv2 _ _ _ _ _ _ _ _ _ _ 1 _).trans (hcat_congr (car_zero3 h9 _) (hX_even 6 (by decide) hxe (hw 3072 (by omega) _)))) (hcw 1 3072 (by omega) _) ((conv2 _ _ _ _ _ _ _ _ _ _ 2 _).trans (hcat_congr (car_zero3 h9 _) (hX_even 6 (by decide) hxe (hw 3072 (by omega) _)))) (hcw 2 3072 (by omega) _)
  refine act_step (Val := Elt F) (e := .bf16) (ACT (XE (kernelRun0_A.sl.v9 i) x0 x1 x2 x3 x4 x5 x6) x7 x8 x9 (fun _ => ZT)) 1 128 rfl ?_ ?_
  · dsimp only [k0_pay35, k0_pay36, k0_pay37, k0_pay38, k0_pay39, k0_pay40, kernelRun0_A.sl.r_15, kernelRun0_A.sl.r_16, kernelRun0_A.sl.r_17, kernelRun0_A.sl.r_18, kernelRun0_A.sl.r_19]
    exact act_of 1 (hcb 128 (by omega) _) ((conv1 _ _ _ _ _ _ _ _ _ _ _ _ _ _ 0 _).trans (hcat_congr (car_zero h9 _) (hX_odd 1 (by decide) hxe (hw 0 (by omega) _)))) (hcw 0 128 (by omega) _) ((conv1 _ _ _ _ _ _ _ _ _ _ _ _ _ _ 1 _).trans (hcat_congr (car_zero h9 _) (hX_odd 1 (by decide) hxe (hw 0 (by omega) _)))) (hcw 1 128 (by omega) _) ((conv1 _ _ _ _ _ _ _ _ _ _ _ _ _ _ 2 _).trans (hcat_congr (car_zero h9 _) (hX_odd 1 (by decide) hxe (hw 0 (by omega) _)))) (hcw 2 128 (by omega) _)
      (hcb 2944 (by omega) _) ((conv3 _ _ _ _ _ _ 0 _).trans (hcat_congr (car_zero h9 _) (hX_odd 3 (by decide) hxe (hw 2816 (by omega) _)))) (hcw 0 2944 (by omega) _) ((conv3 _ _ _ _ _ _ 1 _).trans (hcat_congr (car_zero h9 _) (hX_odd 3 (by decide) hxe (hw 2816 (by omega) _)))) (hcw 1 2944 (by omega) _) ((conv3 _ _ _ _ _ _ 2 _).trans (hcat_congr (car_zero h9 _) (hX_odd 3 (by decide) hxe (hw 2816 (by omega) _)))) (hcw 2 2944 (by omega) _)
  refine act_step (Val := Elt F) (e := .bf16) (ACT (XE (kernelRun0_A.sl.v9 i) x0 x1 x2 x3 x4 x5 x6) x7 x8 x9 (fun _ => ZT)) 0 0 rfl ?_ ?_
  · dsimp only [k0_pay31, k0_pay32, k0_pay33, k0_pay34, kernelRun0_A.sl.r_11, kernelRun0_A.sl.r_12, kernelRun0_A.sl.r_13, kernelRun0_A.sl.r_14]
    exact act_of 0 (hcb 0 (by omega) _) ((conv0 _ _ _ _ _ _ _ _ _ _ _ _ _ _ _ _ _ _ 0 _).trans (hcat_congr (car_zero h9 _) (hX_even 0 (by decide) hxe (hw 0 (by omega) _)))) (hcw 0 0 (by omega) _) ((conv0 _ _ _ _ _ _ _ _ _ _ _ _ _ _ _ _ _ _ 1 _).trans (hcat_congr (car_zero h9 _) (hX_even 0 (by decide) hxe (hw 0 (by omega) _)))) (hcw 1 0 (by omega) _) ((conv0 _ _ _ _ _ _ _ _ _ _ _ _ _ _ _ _ _ _ 2 _).trans (hcat_congr (car_zero h9 _) (hX_even 0 (by decide) hxe (hw 0 (by omega) _)))) (hcw 2 0 (by omega) _)
      (hcb 2816 (by omega) _) ((conv2 _ _ _ _ _ _ _ _ _ _ 0 _).trans (hcat_congr (car_zero h9 _) (hX_even 2 (by decide) hxe (hw 2816 (by omega) _)))) (hcw 0 2816 (by omega) _) ((conv2 _ _ _ _ _ _ _ _ _ _ 1 _).trans (hcat_congr (car_zero h9 _) (hX_even 2 (by decide) hxe (hw 2816 (by omega) _)))) (hcw 1 2816 (by omega) _) ((conv2 _ _ _ _ _ _ _ _ _ _ 2 _).trans (hcat_congr (car_zero h9 _) (hX_even 2 (by decide) hxe (hw 2816 (by omega) _)))) (hcw 2 2816 (by omega) _)
  exact fun y h => absurd h (Nat.not_lt_zero _)

end Cert.Ffn

end
-- ==== Proof.FfnOutA.lean ====
/- What the feed-forward kernel leaves at a point (case A of its body): its output's rows, and the rows it carries to
   the next point. -/
module

public import proofs.«01_k».proof.Proof.FfnDefs
public import proofs.«01_k».proof.Proof.FfnActsA

@[expose] public section

set_option maxRecDepth 16384
set_option maxHeartbeats 2000000

noncomputable section

namespace Cert.Ffn

open Cert.KernelFIdeal Cert.KernelFIdeal.Gen Idealize.ShloMosaic Idealize.ShloMosaic.TcCoe Idealize.SL.Sem
open Cert.FfnLoads

variable {F : FTy → Type} [FloatOps F] [Named F]
variable (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S16x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S528x1024 .bf16) (harg15 : arg15.IsWhole) (arg16 : Memref sig .tc .vmem S4x544x128 .f32) (harg16 : arg16.IsWhole) (arg17 : Memref sig .tc .vmem S512x2816 .bf16) (harg17 : arg17.IsWhole) (arg18 : Memref sig .tc .vmem S44x8x128 .f32) (harg18 : arg18.IsWhole) (arg19 : Memref sig .tc .vmem S528x1024 .bf16) (harg19 : arg19.IsWhole) (arg20 : Memref sig .tc .vmem S512x1024 .f32) (harg20 : arg20.IsWhole) (hc0 : cond0_0 i)
    (x0 : Vec F S512x1024 .bf16) (x1 : Vec F S16x1024 .bf16) (x2 : Vec F S1024x1024 .bf16) (x3 : Vec F S1x1024 .f32) (x4 : Vec F S1x1024 .f32) (x5 : Vec F S512x1024 .f32) (x6 : Vec F S16x1024 .f32) (x7 : Vec F S1024x5632 .bf16) (x8 : Vec F S3x5632 .f32) (x9 : Vec F S1x5632 .f32) (x10 : Vec F S2816x1024 .bf16) (x11 : Vec F S1x1024 .f32) (x12 : Vec F S1x1024 .f32)

/-- The rows a point carries: the last eight of each of the up projection's tiles. -/
theorem sout_A (y : S44x8x128.Idx) : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 y
    = hNX (XE (kernelRun0_A.sl.v9 i) x0 x1 x2 x3 x4 x5 x6) x7 (y 0).val (ix3 0 (y 1) (y 2)) := by
  have hw : ∀ (o : ℕ) (_ : o + 256 ≤ 5632) (h), View.readAt (Elt F) arg8.view (Rect.unit (s := S1024x5632) ![0, o] S1024x256.size h).toLoadRect (harg8.unread x7) = wT x7 o :=
    fun o ho h => funext fun x => (Memref.IsWhole.readAt_unread harg8 x7 _ x).trans (congrArg x7 (w_idx o ho h x))
  have hxe := xe_A c i arg1 harg1 arg2 harg2 arg3 harg3 arg4 harg4 arg5 harg5 arg6 harg6 arg7 harg7 arg15 arg19 arg20 x0 x1 x2 x3 x4 x5 x6
  have hlt : (y 0).val < 43 + 1 := (y 0).isLt
  unfold sout0_A_3
  rw [View.read_writes_junk_eq_canon]
  revert y
  show ∀ y : SK.Idx, (y 0).val < 43 + 1 → View.canon (Val := Elt F) (e := .f32) _ y = hNX (XE (kernelRun0_A.sl.v9 i) x0 x1 x2 x3 x4 x5 x6) x7 (y 0).val (ix3 0 (y 1) (y 2))
  refine carry_step (Val := Elt F) (e := .f32) (hNX (XE (kernelRun0_A.sl.v9 i) x0 x1 x2 x3 x4 x5 x6) x7) 43 (hN_odd 43 (by decide) hxe (hw 5376 (by omega) _)) ?_
  refine carry_step (Val := Elt F) (e := .f32) (hNX (XE (kernelRun0_A.sl.v9 i) x0 x1 x2 x3 x4 x5 x6) x7) 42 (hN_even 42 (by decide) hxe (hw 5376 (by omega) _)) ?_
  refine carry_step (Val := Elt F) (e := .f32) (hNX (XE (kernelRun0_A.sl.v9 i) x0 x1 x2 x3 x4 x5 x6) x7) 41 (hN_odd 41 (by decide) hxe (hw 2560 (by omega) _)) ?_
  refine carry_step (Val := Elt F) (e := .f32) (hNX (XE (kernelRun0_A.sl.v9 i) x0 x1 x2 x3 x4 x5 x6) x7) 40 (hN_even 40 (by decide) hxe (hw 2560 (by omega) _)) ?_
  refine carry_step (Val := Elt F) (e := .f32) (hNX (XE (kernelRun0_A.sl.v9 i) x0 x1 x2 x3 x4 x5 x6) x7) 39 (hN_odd 39 (by decide) hxe (hw 5120 (by omega) _)) ?_
  refine carry_step (Val := Elt F) (e := .f32) (hNX (XE (kernelRun0_A.sl.v9 i) x0 x1 x2 x3 x4 x5 x6) x7) 38 (hN_even 38 (by decide) hxe (hw 5120 (by omega) _)) ?_
  refine carry_step (Val := Elt F) (e := .f32) (hNX (XE (kernelRun0_A.sl.v9 i) x0 x1 x2 x3 x4 x5 x6) x7) 37 (hN_odd 37 (by decide) hxe (hw 2304 (by omega) _)) ?_
  refine carry_step (Val := Elt F) (e := .f32) (hNX (XE (kernelRun0_A.sl.v9 i) x0 x1 x2 x3 x4 x5 x6) x7) 36 (hN_even 36 (by decide) hxe (hw 2304 (by omega) _)) ?_
  refine carry_step (Val := Elt F) (e := .f32) (hNX (XE (kernelRun0_A.sl.v9 i) x0 x1 x2 x3 x4 x5 x6) x7) 35 (hN_odd 35 (by decide) hxe (hw 4864 (by omega) _)) ?_
  refine carry_step (Val := Elt F) (e := .f32) (hNX (XE (kernelRun0_A.sl.v9 i) x0 x1 x2 x3 x4 x5 x6) x7) 34 (hN_even 34 (by decide) hxe (hw 4864 (by omega) _)) ?_
  refine carry_step (Val := Elt F) (e := .f32) (hNX (XE (kernelRun0_A.sl.v9 i) x0 x1 x2 x3 x4 x5 x6) x7) 33 (hN_odd 33 (by decide) hxe (hw 2048 (by omega) _)) ?_
  refine carry_step (Val := Elt F) (e := .f32) (hNX (XE (kernelRun0_A.sl.v9 i) x0 x1 x2 x3 x4 x5 x6) x7) 32 (hN_even 32 (by decide) hxe (hw 2048 (by omega) _)) ?_
  refine carry_step (Val := Elt F) (e := .f32) (hNX (XE (kernelRun0_A.sl.v9 i) x0 x1 x2 x3 x4 x5 x6) x7) 31 (hN_odd 31 (by decide) hxe (hw 4608 (by omega) _)) ?_
  refine carry_step (Val := Elt F) (e := .f32) (hNX (XE (kernelRun0_A.sl.v9 i) x0 x1 x2 x3 x4 x5 x6) x7) 30 (hN_even 30 (by decide) hxe (hw 4608 (by omega) _)) ?_
  refine carry_step (Val := Elt F) (e := .f32) (hNX (XE (kernelRun0_A.sl.v9 i) x0 x1 x2 x3 x4 x5 x6) x7) 29 (hN_odd 29 (by decide) hxe (hw 1792 (by omega) _)) ?_
  refine carry_step (Val := Elt F) (e := .f32) (hNX (XE (kernelRun0_A.sl.v9 i) x0 x1 x2 x3 x4 x5 x6) x7) 28 (hN_even 28 (by decide) hxe (hw 1792 (by omega) _)) ?_
  refine carry_step (Val := Elt F) (e := .f32) (hNX (XE (kernelRun0_A.sl.v9 i) x0 x1 x2 x3 x4 x5 x6) x7) 27 (hN_odd 27 (by decide) hxe (hw 4352 (by omega) _)) ?_
  refine carry_step (Val := Elt F) (e := .f32) (hNX (XE (kernelRun0_A.sl.v9 i) x0 x1 x2 x3 x4 x5 x6) x7) 26 (hN_even 26 (by decide) hxe (hw 4352 (by omega) _)) ?_
  refine carry_step (Val := Elt F) (e := .f32) (hNX (XE (kernelRun0_A.sl.v9 i) x0 x1 x2 x3 x4 x5 x6) x7) 25 (hN_odd 25 (by decide) hxe (hw 1536 (by omega) _)) ?_
  refine carry_step (Val := Elt F) (e := .f32) (hNX (XE (kernelRun0_A.sl.v9 i) x0 x1 x2 x3 x4 x5 x6) x7) 24 (hN_even 24 (by decide) hxe (hw 1536 (by omega) _)) ?_
  refine carry_step (Val := Elt F) (e := .f32) (hNX (XE (kernelRun0_A.sl.v9 i) x0 x1 x2 x3 x4 x5 x6) x7) 23 (hN_odd 23 (by decide) hxe (hw 4096 (by omega) _)) ?_
  refine carry_step (Val := Elt F) (e := .f32) (hNX (XE (kernelRun0_A.sl.v9 i) x0 x1 x2 x3 x4 x5 x6) x7) 22 (hN_even 22 (by decide) hxe (hw 4096 (by omega) _)) ?_
  refine carry_step (Val := Elt F) (e := .f32) (hNX (XE (kernelRun0_A.sl.v9 i) x0 x1 x2 x3 x4 x5 x6) x7) 21 (hN_odd 21 (by decide) hxe (hw 1280 (by omega) _)) ?_
  refine carry_step (Val := Elt F) (e := .f32) (hNX (XE (kernelRun0_A.sl.v9 i) x0 x1 x2 x3 x4 x5 x6) x7) 20 (hN_even 20 (by decide) hxe (hw 1280 (by omega) _)) ?_
  refine carry_step (Val := Elt F) (e := .f32) (hNX (XE (kernelRun0_A.sl.v9 i) x0 x1 x2 x3 x4 x5 x6) x7) 19 (hN_odd 19 (by decide) hxe (hw 3840 (by omega) _)) ?_
  refine carry_step (Val := Elt F) (e := .f32) (hNX (XE (kernelRun0_A.sl.v9 i) x0 x1 x2 x3 x4 x5 x6) x7) 18 (hN_even 18 (by decide) hxe (hw 3840 (by omega) _)) ?_
  refine carry_step (Val := Elt F) (e := .f32) (hNX (XE (kernelRun0_A.sl.v9 i) x0 x1 x2 x3 x4 x5 x6) x7) 17 (hN_odd 17 (by decide) hxe (hw 1024 (by omega) _)) ?_
  refine carry_step (Val := Elt F) (e := .f32) (hNX (XE (kernelRun0_A.sl.v9 i) x0 x1 x2 x3 x4 x5 x6) x7) 16 (hN_even 16 (by decide) hxe (hw 1024 (by omega) _)) ?_
  refine carry_step (Val := Elt F) (e := .f32) (hNX (XE (kernelRun0_A.sl.v9 i) x0 x1 x2 x3 x4 x5 x6) x7) 15 (hN_odd 15 (by decide) hxe (hw 3584 (by omega) _)) ?_
  refine carry_step (Val := Elt F) (e := .f32) (hNX (XE (kernelRun0_A.sl.v9 i) x0 x1 x2 x3 x4 x5 x6) x7) 14 (hN_even 14 (by decide) hxe (hw 3584 (by omega) _)) ?_
  refine carry_step (Val := Elt F) (e := .f32) (hNX (XE (kernelRun0_A.sl.v9 i) x0 x1 x2 x3 x4 x5 x6) x7) 13 (hN_odd 13 (by decide) hxe (hw 768 (by omega) _)) ?_
  refine carry_step (Val := Elt F) (e := .f32) (hNX (XE (kernelRun0_A.sl.v9 i) x0 x1 x2 x3 x4 x5 x6) x7) 12 (hN_even 12 (by decide) hxe (hw 768 (by omega) _)) ?_
  refine carry_step (Val := Elt F) (e := .f32) (hNX (XE (kernelRun0_A.sl.v9 i) x0 x1 x2 x3 x4 x5 x6) x7) 11 (hN_odd 11 (by decide) hxe (hw 3328 (by omega) _)) ?_
  refine carry_step (Val := Elt F) (e := .f32) (hNX (XE (kernelRun0_A.sl.v9 i) x0 x1 x2 x3 x4 x5 x6) x7) 10 (hN_even 10 (by decide) hxe (hw 3328 (by omega) _)) ?_
  refine carry_step (Val := Elt F) (e := .f32) (hNX (XE (kernelRun0_A.sl.v9 i) x0 x1 x2 x3 x4 x5 x6) x7) 9 (hN_odd 9 (by decide) hxe (hw 512 (by omega) _)) ?_
  refine carry_step (Val := Elt F) (e := .f32) (hNX (XE (kernelRun0_A.sl.v9 i) x0 x1 x2 x3 x4 x5 x6) x7) 8 (hN_even 8 (by decide) hxe (hw 512 (by omega) _)) ?_
  refine carry_step (Val := Elt F) (e := .f32) (hNX (XE (kernelRun0_A.sl.v9 i) x0 x1 x2 x3 x4 x5 x6) x7) 7 (hN_odd 7 (by decide) hxe (hw 3072 (by omega) _)) ?_
  refine carry_step (Val := Elt F) (e := .f32) (hNX (XE (kernelRun0_A.sl.v9 i) x0 x1 x2 x3 x4 x5 x6) x7) 6 (hN_even 6 (by decide) hxe (hw 3072 (by omega) _)) ?_
  refine carry_step (Val := Elt F) (e := .f32) (hNX (XE (kernelRun0_A.sl.v9 i) x0 x1 x2 x3 x4 x5 x6) x7) 5 (hN_odd 5 (by decide) hxe (hw 256 (by omega) _)) ?_
  refine carry_step (Val := Elt F) (e := .f32) (hNX (XE (kernelRun0_A.sl.v9 i) x0 x1 x2 x3 x4 x5 x6) x7) 4 (hN_even 4 (by decide) hxe (hw 256 (by omega) _)) ?_
  refine carry_step (Val := Elt F) (e := .f32) (hNX (XE (kernelRun0_A.sl.v9 i) x0 x1 x2 x3 x4 x5 x6) x7) 3 (hN_odd 3 (by decide) hxe (hw 2816 (by omega) _)) ?_
  refine carry_step (Val := Elt F) (e := .f32) (hNX (XE (kernelRun0_A.sl.v9 i) x0 x1 x2 x3 x4 x5 x6) x7) 2 (hN_even 2 (by decide) hxe (hw 2816 (by omega) _)) ?_
  refine carry_step (Val := Elt F) (e := .f32) (hNX (XE (kernelRun0_A.sl.v9 i) x0 x1 x2 x3 x4 x5 x6) x7) 1 (hN_odd 1 (by decide) hxe (hw 0 (by omega) _)) ?_
  refine carry_step (Val := Elt F) (e := .f32) (hNX (XE (kernelRun0_A.sl.v9 i) x0 x1 x2 x3 x4 x5 x6) x7) 0 (hN_even 0 (by decide) hxe (hw 0 (by omega) _)) ?_
  exact fun y h => absurd h (Nat.not_lt_zero _)

/-- A point's output: the second layer norm of the residual and the down projection of its activations. -/
theorem out_A (h9 : kernelRun0_A.sl.v9 i = 0#32) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12
    = FIN (ACTALL (XE (kernelRun0_A.sl.v9 i) x0 x1 x2 x3 x4 x5 x6) x7 x8 x9 (fun _ => ZT)) x10 (X1 x0 x1 x2 x3 x4 x5) x11 x12 := by
  have hwd : ∀ h, View.readAt (Elt F) arg11.view (Rect.unit (s := S2816x1024) ![0, 0] S2816x1024.size h).toLoadRect (harg11.unread x10) = x10 :=
    fun h => (funext fun j => Memref.IsWhole.readAt_unread harg11 x10 _ j).trans ((rows_of (N := 2816) (d := 1024) (o := 0) (n := 2816) (by omega) h x10).trans (rows_all (N := 2816) (d := 1024) x10))
  have hg2 : ∀ h, View.readAt (Elt F) arg12.view (Rect.unit (s := S1x1024) ![0, 0] S1x1024.size h).toLoadRect (harg12.unread x11) = x11 :=
    fun h => (funext fun j => Memref.IsWhole.readAt_unread harg12 x11 _ j).trans ((rows_of (N := 1) (d := 1024) (o := 0) (n := 1) (by omega) h x11).trans (rows_all (N := 1) (d := 1024) x11))
  have hb2 : ∀ h, View.readAt (Elt F) arg13.view (Rect.unit (s := S1x1024) ![0, 0] S1x1024.size h).toLoadRect (harg13.unread x12) = x12 :=
    fun h => (funext fun j => Memref.IsWhole.readAt_unread harg13 x12 _ j).trans ((rows_of (N := 1) (d := 1024) (o := 0) (n := 1) (by omega) h x12).trans (rows_all (N := 1) (d := 1024) x12))
  have ha : ∀ (o : ℕ) (ho : o + 256 ≤ 512) (h), arg17.view.readCov (kernelRun0_A.sl.HS2_22 c i arg1 harg1 arg2 harg2 arg3 harg3 arg4 harg4 arg5 harg5 arg6 harg6 arg7 harg7 arg8 harg8 arg9 harg9 arg10 harg10 arg15 arg16 arg18 arg19 arg20 x0 x1 x2 x3 x4 x5 x6 x7 x8 x9) (Rect.unit (s := S512x2816) ![o, 0] S256x2816.size h).toLoadRect
      = rows (N := 512) (d := 2816) o 256 ho (ACTALL (XE (kernelRun0_A.sl.v9 i) x0 x1 x2 x3 x4 x5 x6) x7 x8 x9 (fun _ => ZT)) := fun o ho h => by
    rw [View.readCov_eq_canon']
    exact (funext fun j => acts_A c i arg1 harg1 arg2 harg2 arg3 harg3 arg4 harg4 arg5 harg5 arg6 harg6 arg7 harg7 arg8 harg8 arg9 harg9 arg10 harg10 arg15 arg16 arg18 arg19 arg20 x0 x1 x2 x3 x4 x5 x6 x7 x8 x9 h9 _).trans (rows_of (N := 512) (d := 2816) (o := o) (n := 256) ho h _)
  unfold out0_A_13
  rw [View.read_writes_junk_eq_canon]
  funext j
  refine (canon_cat (Val := Elt F) (e := .f32) (n0 := 256) (n1 := 256) (N := 512) (d := 1024) rfl _ _ _ _ j).trans ?_
  refine congrFun (congrArg₂ (cat (n0 := 256) (n1 := 256) (N := 512) (d := 1024) rfl) ?_ ?_) j
  · exact pay282_congr (ha 0 (by omega) _) (hwd _) (x1_A c arg1 harg1 arg2 harg2 arg3 harg3 arg4 harg4 arg5 harg5 arg6 harg6 arg19 arg20 x0 x1 x2 x3 x4 x5 0 256 (by omega) _) (hg2 _) (hb2 _)
  · exact pay1_congr (ha 256 (by omega) _) (congrArg k0_pay283 (hwd _)) (x1_A c arg1 harg1 arg2 harg2 arg3 harg3 arg4 harg4 arg5 harg5 arg6 harg6 arg19 arg20 x0 x1 x2 x3 x4 x5 256 256 (by omega) _) (hg2 _) (hb2 _)

end Cert.Ffn

end
-- ==== Proof.FfnNormB.lean ====
/- The rows the feed-forward kernel norms at a point (case B of its body): its scratch holds the mixer's rows, the
   normed rows, and the normed rows with the rows after them. -/
module

public import proofs.«01_k».proof.Proof.FfnDefs

@[expose] public section

set_option maxRecDepth 16384
set_option maxHeartbeats 2000000

noncomputable section

namespace Cert.Ffn

open Cert.KernelFIdeal Cert.KernelFIdeal.Gen Idealize.ShloMosaic Idealize.ShloMosaic.TcCoe Idealize.SL.Sem
open Cert.FfnLoads

variable {F : FTy → Type} [FloatOps F] [Named F]
variable (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S16x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S528x1024 .bf16) (harg15 : arg15.IsWhole) (arg16 : Memref sig .tc .vmem S4x544x128 .f32) (harg16 : arg16.IsWhole) (arg17 : Memref sig .tc .vmem S512x2816 .bf16) (harg17 : arg17.IsWhole) (arg18 : Memref sig .tc .vmem S44x8x128 .f32) (harg18 : arg18.IsWhole) (arg19 : Memref sig .tc .vmem S528x1024 .bf16) (harg19 : arg19.IsWhole) (arg20 : Memref sig .tc .vmem S512x1024 .f32) (harg20 : arg20.IsWhole) (hc0 : ¬cond0_0 i)
    (x0 : Vec F S512x1024 .bf16) (x1 : Vec F S16x1024 .bf16) (x2 : Vec F S1024x1024 .bf16) (x3 : Vec F S1x1024 .f32) (x4 : Vec F S1x1024 .f32) (x5 : Vec F S512x1024 .f32) (x6 : Vec F S16x1024 .f32) (x7 : Vec F S1024x5632 .bf16) (x8 : Vec F S3x5632 .f32) (x9 : Vec F S1x5632 .f32) (x10 : Vec F S2816x1024 .bf16) (x11 : Vec F S1x1024 .f32) (x12 : Vec F S1x1024 .f32) (xs3 : Vec F S44x8x128 .f32)

/-- The mixer's scratch read at rows 0 to 255, and at rows 256 to 527. -/
theorem v23_B (h) : arg19.view.readCov (kernelRun0_B.sl.HS4_2 c arg1 harg1 arg2 harg2 x0 x1) (Rect.unit (s := S528x1024) ![0, 0] S256x1024.size h).toLoadRect = rows (N := 528) (d := 1024) 0 256 (by omega) (ME x0 x1) := by
  have hm : ∀ h, View.readAt (Elt F) arg1.view (Rect.unit (s := S512x1024) ![0, 0] S512x1024.size h).toLoadRect (harg1.unread x0) = x0 :=
    fun h => (funext fun j => Memref.IsWhole.readAt_unread harg1 x0 _ j).trans ((rows_of (N := 512) (d := 1024) (o := 0) (n := 512) (by omega) h x0).trans (rows_all (N := 512) (d := 1024) x0))
  have hmn : ∀ h, View.readAt (Elt F) arg2.view (Rect.unit (s := S16x1024) ![0, 0] S16x1024.size h).toLoadRect (harg2.unread x1) = x1 :=
    fun h => (funext fun j => Memref.IsWhole.readAt_unread harg2 x1 _ j).trans ((rows_of (N := 16) (d := 1024) (o := 0) (n := 16) (by omega) h x1).trans (rows_all (N := 16) (d := 1024) x1))
  refine (load_rows (n0 := 512) (n1 := 16) (N := 528) (d := 1024) (o := 0) (n := 256) rfl (by omega) _ _ _ _ _ _).trans ?_
  exact congrArg (rows (N := 528) (d := 1024) 0 256 (by omega)) (congrArg₂ (cat (n0 := 512) (n1 := 16) (N := 528) (d := 1024) rfl) (congrArg k0_pay3 (hm _)) (congrArg k0_pay4 (hmn _)))

theorem v59_B (h) : arg19.view.readCov (kernelRun0_B.sl.HS4_2 c arg1 harg1 arg2 harg2 x0 x1) (Rect.unit (s := S528x1024) ![256, 0] S272x1024.size h).toLoadRect = rows (N := 528) (d := 1024) 256 272 (by omega) (ME x0 x1) := by
  have hm : ∀ h, View.readAt (Elt F) arg1.view (Rect.unit (s := S512x1024) ![0, 0] S512x1024.size h).toLoadRect (harg1.unread x0) = x0 :=
    fun h => (funext fun j => Memref.IsWhole.readAt_unread harg1 x0 _ j).trans ((rows_of (N := 512) (d := 1024) (o := 0) (n := 512) (by omega) h x0).trans (rows_all (N := 512) (d := 1024) x0))
  have hmn : ∀ h, View.readAt (Elt F) arg2.view (Rect.unit (s := S16x1024) ![0, 0] S16x1024.size h).toLoadRect (harg2.unread x1) = x1 :=
    fun h => (funext fun j => Memref.IsWhole.readAt_unread harg2 x1 _ j).trans ((rows_of (N := 16) (d := 1024) (o := 0) (n := 16) (by omega) h x1).trans (rows_all (N := 16) (d := 1024) x1))
  refine (load_rows (n0 := 512) (n1 := 16) (N := 528) (d := 1024) (o := 256) (n := 272) rfl (by omega) _ _ _ _ _ _).trans ?_
  exact congrArg (rows (N := 528) (d := 1024) 256 272 (by omega)) (congrArg₂ (cat (n0 := 512) (n1 := 16) (N := 528) (d := 1024) rfl) (congrArg k0_pay3 (hm _)) (congrArg k0_pay4 (hmn _)))

/-- The residual's scratch read at any rows. -/
theorem x1_B (o n : ℕ) (hon : o + n ≤ 512) (h) : arg20.view.readCov (kernelRun0_B.sl.HS5_2 c arg1 harg1 arg2 harg2 arg3 harg3 arg4 harg4 arg5 harg5 arg6 harg6 arg19 x0 x1 x2 x3 x4 x5) (Rect.unit (s := S512x1024) ![o, 0] ![n, 1024] h).toLoadRect = rows (N := 512) (d := 1024) o n hon (X1 x0 x1 x2 x3 x4 x5) := by
  have hwo : ∀ h, View.readAt (Elt F) arg3.view (Rect.unit (s := S1024x1024) ![0, 0] S1024x1024.size h).toLoadRect (harg3.unread x2) = x2 :=
    fun h => (funext fun j => Memref.IsWhole.readAt_unread harg3 x2 _ j).trans ((rows_of (N := 1024) (d := 1024) (o := 0) (n := 1024) (by omega) h x2).trans (rows_all (N := 1024) (d := 1024) x2))
  have hg : ∀ h, View.readAt (Elt F) arg4.view (Rect.unit (s := S1x1024) ![0, 0] S1x1024.size h).toLoadRect (harg4.unread x3) = x3 :=
    fun h => (funext fun j => Memref.IsWhole.readAt_unread harg4 x3 _ j).trans ((rows_of (N := 1) (d := 1024) (o := 0) (n := 1) (by omega) h x3).trans (rows_all (N := 1) (d := 1024) x3))
  have hb : ∀ h, View.readAt (Elt F) arg5.view (Rect.unit (s := S1x1024) ![0, 0] S1x1024.size h).toLoadRect (harg5.unread x4) = x4 :=
    fun h => (funext fun j => Memref.IsWhole.readAt_unread harg5 x4 _ j).trans ((rows_of (N := 1) (d := 1024) (o := 0) (n := 1) (by omega) h x4).trans (rows_all (N := 1) (d := 1024) x4))
  have hx0 : ∀ h, View.readAt (Elt F) arg6.view (Rect.unit (s := S512x1024) ![0, 0] S256x1024.size h).toLoadRect (harg6.unread x5) = rows (N := 512) (d := 1024) 0 256 (by omega) x5 :=
    fun h => (funext fun j => Memref.IsWhole.readAt_unread harg6 x5 _ j).trans (rows_of (N := 512) (d := 1024) (o := 0) (n := 256) (by omega) h x5)
  have hx256 : ∀ h, View.readAt (Elt F) arg6.view (Rect.unit (s := S512x1024) ![256, 0] S256x1024.size h).toLoadRect (harg6.unread x5) = rows (N := 512) (d := 1024) 256 256 (by omega) x5 :=
    fun h => (funext fun j => Memref.IsWhole.readAt_unread harg6 x5 _ j).trans (rows_of (N := 512) (d := 1024) (o := 256) (n := 256) (by omega) h x5)
  refine (load_rows (n0 := 256) (n1 := 256) (N := 512) (d := 1024) (o := o) (n := n) rfl hon _ _ _ _ _ _).trans ?_
  refine congrArg (rows (N := 512) (d := 1024) o n hon) (congrArg₂ (cat (n0 := 256) (n1 := 256) (N := 512) (d := 1024) rfl) ?_ ?_)
  · refine pay6_congr ?_ (hg _) (hb _)
    exact pay5_congr (v23_B c arg1 harg1 arg2 harg2 arg19 x0 x1 _) (hwo _) (hx0 _)
  · refine pay9_congr ?_ (hg _) (hb _)
    exact pay8_congr (v59_B c arg1 harg1 arg2 harg2 arg19 x0 x1 _) (hwo _) (hx256 _)

/-- The normed rows' scratch, read whole. -/
theorem xe_B : kernelRun0_B.sl.v138 c i arg1 harg1 arg2 harg2 arg3 harg3 arg4 harg4 arg5 harg5 arg6 harg6 arg7 harg7 arg15 arg19 arg20 x0 x1 x2 x3 x4 x5 x6 = (XE (kernelRun0_B.sl.v9 i) x0 x1 x2 x3 x4 x5 x6) := by
  have hwo : ∀ h, View.readAt (Elt F) arg3.view (Rect.unit (s := S1024x1024) ![0, 0] S1024x1024.size h).toLoadRect (harg3.unread x2) = x2 :=
    fun h => (funext fun j => Memref.IsWhole.readAt_unread harg3 x2 _ j).trans ((rows_of (N := 1024) (d := 1024) (o := 0) (n := 1024) (by omega) h x2).trans (rows_all (N := 1024) (d := 1024) x2))
  have hg : ∀ h, View.readAt (Elt F) arg4.view (Rect.unit (s := S1x1024) ![0, 0] S1x1024.size h).toLoadRect (harg4.unread x3) = x3 :=
    fun h => (funext fun j => Memref.IsWhole.readAt_unread harg4 x3 _ j).trans ((rows_of (N := 1) (d := 1024) (o := 0) (n := 1) (by omega) h x3).trans (rows_all (N := 1) (d := 1024) x3))
  have hb : ∀ h, View.readAt (Elt F) arg5.view (Rect.unit (s := S1x1024) ![0, 0] S1x1024.size h).toLoadRect (harg5.unread x4) = x4 :=
    fun h => (funext fun j => Memref.IsWhole.readAt_unread harg5 x4 _ j).trans ((rows_of (N := 1) (d := 1024) (o := 0) (n := 1) (by omega) h x4).trans (rows_all (N := 1) (d := 1024) x4))
  have hxn : ∀ h, View.readAt (Elt F) arg7.view (Rect.unit (s := S16x1024) ![0, 0] S16x1024.size h).toLoadRect (harg7.unread x6) = x6 :=
    fun h => (funext fun j => Memref.IsWhole.readAt_unread harg7 x6 _ j).trans ((rows_of (N := 16) (d := 1024) (o := 0) (n := 16) (by omega) h x6).trans (rows_all (N := 16) (d := 1024) x6))
  refine ((load_rows (n0 := 512) (n1 := 16) (N := 528) (d := 1024) (o := 0) (n := 528) rfl (by omega) _ _ _ _ _ _).trans (rows_all (N := 528) (d := 1024) _)).trans ?_
  refine congrArg₂ (cat (n0 := 512) (n1 := 16) (N := 528) (d := 1024) rfl) (congrArg k0_pay14 ?_) ?_
  · exact (x1_B c arg1 harg1 arg2 harg2 arg3 harg3 arg4 harg4 arg5 harg5 arg6 harg6 arg19 arg20 x0 x1 x2 x3 x4 x5 0 512 (by omega) _).trans (rows_all (N := 512) (d := 1024) _)
  · have hQ : kernelRun0_B.sl.r_1 c arg1 harg1 arg2 harg2 arg3 harg3 arg19 x0 x1 x2 = Q x0 x1 x2 := pay7_congr (v59_B c arg1 harg1 arg2 harg2 arg19 x0 x1 _) (hwo _)
    exact pay15_congr (kernelRun0_B.sl.v9 i) (pay10_congr hQ (hxn _)) (congrArg k0_pay11 (hg _)) (congrArg k0_pay12 (hb _)) (pay13_congr hQ (hxn _))

end Cert.Ffn

end
-- ==== Proof.FfnActsB.lean ====
/- The activations the feed-forward kernel's scratch holds at a point (case B of its body): 22 tiles of 128 lanes. -/
module

public import proofs.«01_k».proof.Proof.FfnDefs
public import proofs.«01_k».proof.Proof.FfnNormB

@[expose] public section

set_option maxRecDepth 16384
set_option maxHeartbeats 2000000

noncomputable section

namespace Cert.Ffn

open Cert.KernelFIdeal Cert.KernelFIdeal.Gen Idealize.ShloMosaic Idealize.ShloMosaic.TcCoe Idealize.SL.Sem
open Cert.FfnLoads

variable {F : FTy → Type} [FloatOps F] [Named F]
variable (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S16x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S528x1024 .bf16) (harg15 : arg15.IsWhole) (arg16 : Memref sig .tc .vmem S4x544x128 .f32) (harg16 : arg16.IsWhole) (arg17 : Memref sig .tc .vmem S512x2816 .bf16) (harg17 : arg17.IsWhole) (arg18 : Memref sig .tc .vmem S44x8x128 .f32) (harg18 : arg18.IsWhole) (arg19 : Memref sig .tc .vmem S528x1024 .bf16) (harg19 : arg19.IsWhole) (arg20 : Memref sig .tc .vmem S512x1024 .f32) (harg20 : arg20.IsWhole) (hc0 : ¬cond0_0 i)
    (x0 : Vec F S512x1024 .bf16) (x1 : Vec F S16x1024 .bf16) (x2 : Vec F S1024x1024 .bf16) (x3 : Vec F S1x1024 .f32) (x4 : Vec F S1x1024 .f32) (x5 : Vec F S512x1024 .f32) (x6 : Vec F S16x1024 .f32) (x7 : Vec F S1024x5632 .bf16) (x8 : Vec F S3x5632 .f32) (x9 : Vec F S1x5632 .f32) (x10 : Vec F S2816x1024 .bf16) (x11 : Vec F S1x1024 .f32) (x12 : Vec F S1x1024 .f32) (xs3 : Vec F S44x8x128 .f32)

/-- Every tile of the activations' scratch is the gated product of its two convolutions. -/
theorem acts_B (y : S512x2816.Idx) : View.canon (Val := Elt F) (e := .bf16) (kernelRun0_B.sl.HS2_22 c i arg1 harg1 arg2 harg2 arg3 harg3 arg4 harg4 arg5 harg5 arg6 harg6 arg7 harg7 arg8 harg8 arg9 harg9 arg10 harg10 arg15 arg16 arg18 harg18 arg19 arg20 x0 x1 x2 x3 x4 x5 x6 x7 x8 x9 xs3) y
    = ACTALL (XE (kernelRun0_B.sl.v9 i) x0 x1 x2 x3 x4 x5 x6) x7 x8 x9 (fun k => car (kernelRun0_B.sl.v9 i) (carT xs3 k)) y := by
  have hcb : ∀ (o : ℕ) (_ : o + 128 ≤ 5632) (h), View.readAt (Elt F) arg10.view (Rect.unit (s := S1x5632) ![0, o] S1x128.size h).toLoadRect (harg10.unread x9) = cbT x9 o :=
    fun o ho h => funext fun x => (Memref.IsWhole.readAt_unread harg10 x9 _ x).trans (congrArg x9 (cb_idx o ho h x))
  have hcw : ∀ (r : Fin 3) (o : ℕ) (_ : o + 128 ≤ 5632) (h), View.readAt (Elt F) arg9.view (Rect.unit (s := S3x5632) ![r.val, o] S1x128.size h).toLoadRect (harg9.unread x8) = cwT x8 r o :=
    fun r o ho h => funext fun x => (Memref.IsWhole.readAt_unread harg9 x8 _ x).trans (congrArg x8 (cw_idx r o ho h x))
  have hw : ∀ (o : ℕ) (_ : o + 256 ≤ 5632) (h), View.readAt (Elt F) arg8.view (Rect.unit (s := S1024x5632) ![0, o] S1024x256.size h).toLoadRect (harg8.unread x7) = wT x7 o :=
    fun o ho h => funext fun x => (Memref.IsWhole.readAt_unread harg8 x7 _ x).trans (congrArg x7 (w_idx o ho h x))
  have hcar : ∀ (k : ℕ) (_ : k < 44) (h), View.readAt (Elt F) arg18.view (Rect.unit (s := S44x8x128) ![k, 0, 0] S1x8x128.size h).toLoadRect (harg18.unread xs3) = carT xs3 k :=
    fun k hk h => funext fun x => (Memref.IsWhole.readAt_unread harg18 xs3 _ x).trans (congrArg xs3 (car_idx k hk h x))
  have hxe := xe_B c i arg1 harg1 arg2 harg2 arg3 harg3 arg4 harg4 arg5 harg5 arg6 harg6 arg7 harg7 arg15 arg19 arg20 x0 x1 x2 x3 x4 x5 x6
  have hlt : (y 1).val < 128 * (21 + 1) := (y 1).isLt
  revert y
  show ∀ y : SA.Idx, (y 1).val < 128 * (21 + 1) → View.canon (Val := Elt F) (e := .bf16) _ y = (ACT (XE (kernelRun0_B.sl.v9 i) x0 x1 x2 x3 x4 x5 x6) x7 x8 x9 (fun k => car (kernelRun0_B.sl.v9 i) (carT xs3 k))) ((y 1).val / 128) (ix2 (y 0) ⟨(y 1).val % 128, Nat.mod_lt _ (by decide)⟩)
  refine act_step (Val := Elt F) (e := .bf16) (ACT (XE (kernelRun0_B.sl.v9 i) x0 x1 x2 x3 x4 x5 x6) x7 x8 x9 (fun k => car (kernelRun0_B.sl.v9 i) (carT xs3 k))) 21 2688 rfl ?_ ?_
  · dsimp only [k0_pay279, k0_pay280, k0_pay281, kernelRun0_B.sl.r_125, kernelRun0_B.sl.r_126, kernelRun0_B.sl.r_127]
    exact act_of 21 (hcb 2688 (by omega) _) ((conv1 _ _ _ _ _ _ _ _ _ _ _ _ _ _ 0 _).trans (hcat_congr (congrArg (car (kernelRun0_B.sl.v9 i)) (hcar 41 (by omega) _)) (hX_odd 41 (by decide) hxe (hw 2560 (by omega) _)))) (hcw 0 2688 (by omega) _) ((conv1 _ _ _ _ _ _ _ _ _ _ _ _ _ _ 1 _).trans (hcat_congr (congrArg (car (kernelRun0_B.sl.v9 i)) (hcar 41 (by omega) _)) (hX_odd 41 (by decide) hxe (hw 2560 (by omega) _)))) (hcw 1 2688 (by omega) _) ((conv1 _ _ _ _ _ _ _ _ _ _ _ _ _ _ 2 _).trans (hcat_congr (congrArg (car (kernelRun0_B.sl.v9 i)) (hcar 41 (by omega) _)) (hX_odd 41 (by decide) hxe (hw 2560 (by omega) _)))) (hcw 2 2688 (by omega) _)
      (hcb 5504 (by omega) _) ((conv3 _ _ _ _ _ _ 0 _).trans (hcat_congr (congrArg (car (kernelRun0_B.sl.v9 i)) (hcar 43 (by omega) _)) (hX_odd 43 (by decide) hxe (hw 5376 (by omega) _)))) (hcw 0 5504 (by omega) _) ((conv3 _ _ _ _ _ _ 1 _).trans (hcat_congr (congrArg (car (kernelRun0_B.sl.v9 i)) (hcar 43 (by omega) _)) (hX_odd 43 (by decide) hxe (hw 5376 (by omega) _)))) (hcw 1 5504 (by omega) _) ((conv3 _ _ _ _ _ _ 2 _).trans (hcat_congr (congrArg (car (kernelRun0_B.sl.v9 i)) (hcar 43 (by omega) _)) (hX_odd 43 (by decide) hxe (hw 5376 (by omega) _)))) (hcw 2 5504 (by omega) _)
  refine act_step (Val := Elt F) (e := .bf16) (ACT (XE (kernelRun0_B.sl.v9 i) x0 x1 x2 x3 x4 x5 x6) x7 x8 x9 (fun k => car (kernelRun0_B.sl.v9 i) (carT xs3 k))) 20 2560 rfl ?_ ?_
  · dsimp only [k0_pay273, k0_pay274, k0_pay275, k0_pay276, k0_pay277, k0_pay278, kernelRun0_B.sl.r_120, kernelRun0_B.sl.r_121, kernelRun0_B.sl.r_122, kernelRun0_B.sl.r_123, kernelRun0_B.sl.r_124]
    exact act_of 20 (hcb 2560 (by omega) _) ((conv0 _ _ _ _ _ _ _ _ _ _ _ _ _ _ _ _ _ _ 0 _).trans (hcat_congr (congrArg (car (kernelRun0_B.sl.v9 i)) (hcar 40 (by omega) _)) (hX_even 40 (by decide) hxe (hw 2560 (by omega) _)))) (hcw 0 2560 (by omega) _) ((conv0 _ _ _ _ _ _ _ _ _ _ _ _ _ _ _ _ _ _ 1 _).trans (hcat_congr (congrArg (car (kernelRun0_B.sl.v9 i)) (hcar 40 (by omega) _)) (hX_even 40 (by decide) hxe (hw 2560 (by omega) _)))) (hcw 1 2560 (by omega) _) ((conv0 _ _ _ _ _ _ _ _ _ _ _ _ _ _ _ _ _ _ 2 _).trans (hcat_congr (congrArg (car (kernelRun0_B.sl.v9 i)) (hcar 40 (by omega) _)) (hX_even 40 (by decide) hxe (hw 2560 (by omega) _)))) (hcw 2 2560 (by omega) _)
      (hcb 5376 (by omega) _) ((conv2 _ _ _ _ _ _ _ _ _ _ 0 _).trans (hcat_congr (congrArg (car (kernelRun0_B.sl.v9 i)) (hcar 42 (by omega) _)) (hX_even 42 (by decide) hxe (hw 5376 (by omega) _)))) (hcw 0 5376 (by omega) _) ((conv2 _ _ _ _ _ _ _ _ _ _ 1 _).trans (hcat_congr (congrArg (car (kernelRun0_B.sl.v9 i)) (hcar 42 (by omega) _)) (hX_even 42 (by decide) hxe (hw 5376 (by omega) _)))) (hcw 1 5376 (by omega) _) ((conv2 _ _ _ _ _ _ _ _ _ _ 2 _).trans (hcat_congr (congrArg (car (kernelRun0_B.sl.v9 i)) (hcar 42 (by omega) _)) (hX_even 42 (by decide) hxe (hw 5376 (by omega) _)))) (hcw 2 5376 (by omega) _)
  refine act_step (Val := Elt F) (e := .bf16) (ACT (XE (kernelRun0_B.sl.v9 i) x0 x1 x2 x3 x4 x5 x6) x7 x8 x9 (fun k => car (kernelRun0_B.sl.v9 i) (carT xs3 k))) 19 2432 rfl ?_ ?_
  · dsimp only [k0_pay251, k0_pay252, k0_pay253, k0_pay254, k0_pay255, k0_pay256, kernelRun0_B.sl.r_111, kernelRun0_B.sl.r_112, kernelRun0_B.sl.r_113, kernelRun0_B.sl.r_114, kernelRun0_B.sl.r_115]
    exact act_of 19 (hcb 2432 (by omega) _) ((conv1 _ _ _ _ _ _ _ _ _ _ _ _ _ _ 0 _).trans (hcat_congr (congrArg (car (kernelRun0_B.sl.v9 i)) (hcar 37 (by omega) _)) (hX_odd 37 (by decide) hxe (hw 2304 (by omega) _)))) (hcw 0 2432 (by omega) _) ((conv1 _ _ _ _ _ _ _ _ _ _ _ _ _ _ 1 _).trans (hcat_congr (congrArg (car (kernelRun0_B.sl.v9 i)) (hcar 37 (by omega) _)) (hX_odd 37 (by decide) hxe (hw 2304 (by omega) _)))) (hcw 1 2432 (by omega) _) ((conv1 _ _ _ _ _ _ _ _ _ _ _ _ _ _ 2 _).trans (hcat_congr (congrArg (car (kernelRun0_B.sl.v9 i)) (hcar 37 (by omega) _)) (hX_odd 37 (by decide) hxe (hw 2304 (by omega) _)))) (hcw 2 2432 (by omega) _)
      (hcb 5248 (by omega) _) ((conv3 _ _ _ _ _ _ 0 _).trans (hcat_congr (congrArg (car (kernelRun0_B.sl.v9 i)) (hcar 39 (by omega) _)) (hX_odd 39 (by decide) hxe (hw 5120 (by omega) _)))) (hcw 0 5248 (by omega) _) ((conv3 _ _ _ _ _ _ 1 _).trans (hcat_congr (congrArg (car (kernelRun0_B.sl.v9 i)) (hcar 39 (by omega) _)) (hX_odd 39 (by decide) hxe (hw 5120 (by omega) _)))) (hcw 1 5248 (by omega) _) ((conv3 _ _ _ _ _ _ 2 _).trans (hcat_congr (congrArg (car (kernelRun0_B.sl.v9 i)) (hcar 39 (by omega) _)) (hX_odd 39 (by decide) hxe (hw 5120 (by omega) _)))) (hcw 2 5248 (by omega) _)
  refine act_step (Val := Elt F) (e := .bf16) (ACT (XE (kernelRun0_B.sl.v9 i) x0 x1 x2 x3 x4 x5 x6) x7 x8 x9 (fun k => car (kernelRun0_B.sl.v9 i) (carT xs3 k))) 18 2304 rfl ?_ ?_
  · dsimp only [k0_pay247, k0_pay248, k0_pay249, k0_pay250, kernelRun0_B.sl.r_107, kernelRun0_B.sl.r_108, kernelRun0_B.sl.r_109, kernelRun0_B.sl.r_110]
    exact act_of 18 (hcb 2304 (by omega) _) ((conv0 _ _ _ _ _ _ _ _ _ _ _ _ _ _ _ _ _ _ 0 _).trans (hcat_congr (congrArg (car (kernelRun0_B.sl.v9 i)) (hcar 36 (by omega) _)) (hX_even 36 (by decide) hxe (hw 2304 (by omega) _)))) (hcw 0 2304 (by omega) _) ((conv0 _ _ _ _ _ _ _ _ _ _ _ _ _ _ _ _ _ _ 1 _).trans (hcat_congr (congrArg (car (kernelRun0_B.sl.v9 i)) (hcar 36 (by omega) _)) (hX_even 36 (by decide) hxe (hw 2304 (by omega) _)))) (hcw 1 2304 (by omega) _) ((conv0 _ _ _ _ _ _ _ _ _ _ _ _ _ _ _ _ _ _ 2 _).trans (hcat_congr (congrArg (car (kernelRun0_B.sl.v9 i)) (hcar 36 (by omega) _)) (hX_even 36 (by decide) hxe (hw 2304 (by omega) _)))) (hcw 2 2304 (by omega) _)
      (hcb 5120 (by omega) _) ((conv2 _ _ _ _ _ _ _ _ _ _ 0 _).trans (hcat_congr (congrArg (car (kernelRun0_B.sl.v9 i)) (hcar 38 (by omega) _)) (hX_even 38 (by decide) hxe (hw 5120 (by omega) _)))) (hcw 0 5120 (by omega) _) ((conv2 _ _ _ _ _ _ _ _ _ _ 1 _).trans (hcat_congr (congrArg (car (kernelRun0_B.sl.v9 i)) (hcar 38 (by omega) _)) (hX_even 38 (by decide) hxe (hw 5120 (by omega) _)))) (hcw 1 5120 (by omega) _) ((conv2 _ _ _ _ _ _ _ _ _ _ 2 _).trans (hcat_congr (congrArg (car (kernelRun0_B.sl.v9 i)) (hcar 38 (by omega) _)) (hX_even 38 (by decide) hxe (hw 5120 (by omega) _)))) (hcw 2 5120 (by omega) _)
  refine act_step (Val := Elt F) (e := .bf16) (ACT (XE (kernelRun0_B.sl.v9 i) x0 x1 x2 x3 x4 x5 x6) x7 x8 x9 (fun k => car (kernelRun0_B.sl.v9 i) (carT xs3 k))) 17 2176 rfl ?_ ?_
  · dsimp only [k0_pay229, k0_pay230, k0_pay231, kernelRun0_B.sl.r_102, kernelRun0_B.sl.r_103]
    exact act_of 17 (hcb 2176 (by omega) _) ((conv1 _ _ _ _ _ _ _ _ _ _ _ _ _ _ 0 _).trans (hcat_congr (congrArg (car (kernelRun0_B.sl.v9 i)) (hcar 33 (by omega) _)) (hX_odd 33 (by decide) hxe (hw 2048 (by omega) _)))) (hcw 0 2176 (by omega) _) ((conv1 _ _ _ _ _ _ _ _ _ _ _ _ _ _ 1 _).trans (hcat_congr (congrArg (car (kernelRun0_B.sl.v9 i)) (hcar 33 (by omega) _)) (hX_odd 33 (by decide) hxe (hw 2048 (by omega) _)))) (hcw 1 2176 (by omega) _) ((conv1 _ _ _ _ _ _ _ _ _ _ _ _ _ _ 2 _).trans (hcat_congr (congrArg (car (kernelRun0_B.sl.v9 i)) (hcar 33 (by omega) _)) (hX_odd 33 (by decide) hxe (hw 2048 (by omega) _)))) (hcw 2 2176 (by omega) _)
      (hcb 4992 (by omega) _) ((conv3 _ _ _ _ _ _ 0 _).trans (hcat_congr (congrArg (car (kernelRun0_B.sl.v9 i)) (hcar 35 (by omega) _)) (hX_odd 35 (by decide) hxe (hw 4864 (by omega) _)))) (hcw 0 4992 (by omega) _) ((conv3 _ _ _ _ _ _ 1 _).trans (hcat_congr (congrArg (car (kernelRun0_B.sl.v9 i)) (hcar 35 (by omega) _)) (hX_odd 35 (by decide) hxe (hw 4864 (by omega) _)))) (hcw 1 4992 (by omega) _) ((conv3 _ _ _ _ _ _ 2 _).trans (hcat_congr (congrArg (car (kernelRun0_B.sl.v9 i)) (hcar 35 (by omega) _)) (hX_odd 35 (by decide) hxe (hw 4864 (by omega) _)))) (hcw 2 4992 (by omega) _)
  refine act_step (Val := Elt F) (e := .bf16) (ACT (XE (kernelRun0_B.sl.v9 i) x0 x1 x2 x3 x4 x5 x6) x7 x8 x9 (fun k => car (kernelRun0_B.sl.v9 i) (carT xs3 k))) 16 2048 rfl ?_ ?_
  · dsimp only [k0_pay226, k0_pay227, k0_pay228, kernelRun0_B.sl.r_100, kernelRun0_B.sl.r_101]
    exact act_of 16 (hcb 2048 (by omega) _) ((conv0 _ _ _ _ _ _ _ _ _ _ _ _ _ _ _ _ _ _ 0 _).trans (hcat_congr (congrArg (car (kernelRun0_B.sl.v9 i)) (hcar 32 (by omega) _)) (hX_even 32 (by decide) hxe (hw 2048 (by omega) _)))) (hcw 0 2048 (by omega) _) ((conv0 _ _ _ _ _ _ _ _ _ _ _ _ _ _ _ _ _ _ 1 _).trans (hcat_congr (congrArg (car (kernelRun0_B.sl.v9 i)) (hcar 32 (by omega) _)) (hX_even 32 (by decide) hxe (hw 2048 (by omega) _)))) (hcw 1 2048 (by omega) _) ((conv0 _ _ _ _ _ _ _ _ _ _ _ _ _ _ _ _ _ _ 2 _).trans (hcat_congr (congrArg (car (kernelRun0_B.sl.v9 i)) (hcar 32 (by omega) _)) (hX_even 32 (by decide) hxe (hw 2048 (by omega) _)))) (hcw 2 2048 (by omega) _)
      (hcb 4864 (by omega) _) ((conv2 _ _ _ _ _ _ _ _ _ _ 0 _).trans (hcat_congr (congrArg (car (kernelRun0_B.sl.v9 i)) (hcar 34 (by omega) _)) (hX_even 34 (by decide) hxe (hw 4864 (by omega) _)))) (hcw 0 4864 (by omega) _) ((conv2 _ _ _ _ _ _ _ _ _ _ 1 _).trans (hcat_congr (congrArg (car (kernelRun0_B.sl.v9 i)) (hcar 34 (by omega) _)) (hX_even 34 (by decide) hxe (hw 4864 (by omega) _)))) (hcw 1 4864 (by omega) _) ((conv2 _ _ _ _ _ _ _ _ _ _ 2 _).trans (hcat_congr (congrArg (car (kernelRun0_B.sl.v9 i)) (hcar 34 (by omega) _)) (hX_even 34 (by decide) hxe (hw 4864 (by omega) _)))) (hcw 2 4864 (by omega) _)
  refine act_step (Val := Elt F) (e := .bf16) (ACT (XE (kernelRun0_B.sl.v9 i) x0 x1 x2 x3 x4 x5 x6) x7 x8 x9 (fun k => car (kernelRun0_B.sl.v9 i) (carT xs3 k))) 15 1920 rfl ?_ ?_
  · dsimp only [k0_pay207, k0_pay208, k0_pay209, kernelRun0_B.sl.r_93, kernelRun0_B.sl.r_94, kernelRun0_B.sl.r_95]
    exact act_of 15 (hcb 1920 (by omega) _) ((conv1 _ _ _ _ _ _ _ _ _ _ _ _ _ _ 0 _).trans (hcat_congr (congrArg (car (kernelRun0_B.sl.v9 i)) (hcar 29 (by omega) _)) (hX_odd 29 (by decide) hxe (hw 1792 (by omega) _)))) (hcw 0 1920 (by omega) _) ((conv1 _ _ _ _ _ _ _ _ _ _ _ _ _ _ 1 _).trans (hcat_congr (congrArg (car (kernelRun0_B.sl.v9 i)) (hcar 29 (by omega) _)) (hX_odd 29 (by decide) hxe (hw 1792 (by omega) _)))) (hcw 1 1920 (by omega) _) ((conv1 _ _ _ _ _ _ _ _ _ _ _ _ _ _ 2 _).trans (hcat_congr (congrArg (car (kernelRun0_B.sl.v9 i)) (hcar 29 (by omega) _)) (hX_odd 29 (by decide) hxe (hw 1792 (by omega) _)))) (hcw 2 1920 (by omega) _)
      (hcb 4736 (by omega) _) ((conv3 _ _ _ _ _ _ 0 _).trans (hcat_congr (congrArg (car (kernelRun0_B.sl.v9 i)) (hcar 31 (by omega) _)) (hX_odd 31 (by decide) hxe (hw 4608 (by omega) _)))) (hcw 0 4736 (by omega) _) ((conv3 _ _ _ _ _ _ 1 _).trans (hcat_congr (congrArg (car (kernelRun0_B.sl.v9 i)) (hcar 31 (by omega) _)) (hX_odd 31 (by decide) hxe (hw 4608 (by omega) _)))) (hcw 1 4736 (by omega) _) ((conv3 _ _ _ _ _ _ 2 _).trans (hcat_congr (congrArg (car (kernelRun0_B.sl.v9 i)) (hcar 31 (by omega) _)) (hX_odd 31 (by decide) hxe (hw 4608 (by omega) _)))) (hcw 2 4736 (by omega) _)
  refine act_step (Val := Elt F) (e := .bf16) (ACT (XE (kernelRun0_B.sl.v9 i) x0 x1 x2 x3 x4 x5 x6) x7 x8 x9 (fun k => car (kernelRun0_B.sl.v9 i) (carT xs3 k))) 14 1792 rfl ?_ ?_
  · dsimp only [k0_pay201, k0_pay202, k0_pay203, k0_pay204, k0_pay205, k0_pay206, kernelRun0_B.sl.r_88, kernelRun0_B.sl.r_89, kernelRun0_B.sl.r_90, kernelRun0_B.sl.r_91, kernelRun0_B.sl.r_92]
    exact act_of 14 (hcb 1792 (by omega) _) ((conv0 _ _ _ _ _ _ _ _ _ _ _ _ _ _ _ _ _ _ 0 _).trans (hcat_congr (congrArg (car (kernelRun0_B.sl.v9 i)) (hcar 28 (by omega) _)) (hX_even 28 (by decide) hxe (hw 1792 (by omega) _)))) (hcw 0 1792 (by omega) _) ((conv0 _ _ _ _ _ _ _ _ _ _ _ _ _ _ _ _ _ _ 1 _).trans (hcat_congr (congrArg (car (kernelRun0_B.sl.v9 i)) (hcar 28 (by omega) _)) (hX_even 28 (by decide) hxe (hw 1792 (by omega) _)))) (hcw 1 1792 (by omega) _) ((conv0 _ _ _ _ _ _ _ _ _ _ _ _ _ _ _ _ _ _ 2 _).trans (hcat_congr (congrArg (car (kernelRun0_B.sl.v9 i)) (hcar 28 (by omega) _)) (hX_even 28 (by decide) hxe (hw 1792 (by omega) _)))) (hcw 2 1792 (by omega) _)
      (hcb 4608 (by omega) _) ((conv2 _ _ _ _ _ _ _ _ _ _ 0 _).trans (hcat_congr (congrArg (car (kernelRun0_B.sl.v9 i)) (hcar 30 (by omega) _)) (hX_even 30 (by decide) hxe (hw 4608 (by omega) _)))) (hcw 0 4608 (by omega) _) ((conv2 _ _ _ _ _ _ _ _ _ _ 1 _).trans (hcat_congr (congrArg (car (kernelRun0_B.sl.v9 i)) (hcar 30 (by omega) _)) (hX_even 30 (by decide) hxe (hw 4608 (by omega) _)))) (hcw 1 4608 (by omega) _) ((conv2 _ _ _ _ _ _ _ _ _ _ 2 _).trans (hcat_congr (congrArg (car (kernelRun0_B.sl.v9 i)) (hcar 30 (by omega) _)) (hX_even 30 (by decide) hxe (hw 4608 (by omega) _)))) (hcw 2 4608 (by omega) _)
  refine act_step (Val := Elt F) (e := .bf16) (ACT (XE (kernelRun0_B.sl.v9 i) x0 x1 x2 x3 x4 x5 x6) x7 x8 x9 (fun k => car (kernelRun0_B.sl.v9 i) (carT xs3 k))) 13 1664 rfl ?_ ?_
  · dsimp only [k0_pay179, k0_pay180, k0_pay181, k0_pay182, k0_pay183, k0_pay184, kernelRun0_B.sl.r_79, kernelRun0_B.sl.r_80, kernelRun0_B.sl.r_81, kernelRun0_B.sl.r_82, kernelRun0_B.sl.r_83]
    exact act_of 13 (hcb 1664 (by omega) _) ((conv1 _ _ _ _ _ _ _ _ _ _ _ _ _ _ 0 _).trans (hcat_congr (congrArg (car (kernelRun0_B.sl.v9 i)) (hcar 25 (by omega) _)) (hX_odd 25 (by decide) hxe (hw 1536 (by omega) _)))) (hcw 0 1664 (by omega) _) ((conv1 _ _ _ _ _ _ _ _ _ _ _ _ _ _ 1 _).trans (hcat_congr (congrArg (car (kernelRun0_B.sl.v9 i)) (hcar 25 (by omega) _)) (hX_odd 25 (by decide) hxe (hw 1536 (by omega) _)))) (hcw 1 1664 (by omega) _) ((conv1 _ _ _ _ _ _ _ _ _ _ _ _ _ _ 2 _).trans (hcat_congr (congrArg (car (kernelRun0_B.sl.v9 i)) (hcar 25 (by omega) _)) (hX_odd 25 (by decide) hxe (hw 1536 (by omega) _)))) (hcw 2 1664 (by omega) _)
      (hcb 4480 (by omega) _) ((conv3 _ _ _ _ _ _ 0 _).trans (hcat_congr (congrArg (car (kernelRun0_B.sl.v9 i)) (hcar 27 (by omega) _)) (hX_odd 27 (by decide) hxe (hw 4352 (by omega) _)))) (hcw 0 4480 (by omega) _) ((conv3 _ _ _ _ _ _ 1 _).trans (hcat_congr (congrArg (car (kernelRun0_B.sl.v9 i)) (hcar 27 (by omega) _)) (hX_odd 27 (by decide) hxe (hw 4352 (by omega) _)))) (hcw 1 4480 (by omega) _) ((conv3 _ _ _ _ _ _ 2 _).trans (hcat_congr (congrArg (car (kernelRun0_B.sl.v9 i)) (hcar 27 (by omega) _)) (hX_odd 27 (by decide) hxe (hw 4352 (by omega) _)))) (hcw 2 4480 (by omega) _)
  refine act_step (Val := Elt F) (e := .bf16) (ACT (XE (kernelRun0_B.sl.v9 i) x0 x1 x2 x3 x4 x5 x6) x7 x8 x9 (fun k => car (kernelRun0_B.sl.v9 i) (carT xs3 k))) 12 1536 rfl ?_ ?_
  · dsimp only [k0_pay175, k0_pay176, k0_pay177, k0_pay178, kernelRun0_B.sl.r_75, kernelRun0_B.sl.r_76, kernelRun0_B.sl.r_77, kernelRun0_B.sl.r_78]
    exact act_of 12 (hcb 1536 (by omega) _) ((conv0 _ _ _ _ _ _ _ _ _ _ _ _ _ _ _ _ _ _ 0 _).trans (hcat_congr (congrArg (car (kernelRun0_B.sl.v9 i)) (hcar 24 (by omega) _)) (hX_even 24 (by decide) hxe (hw 1536 (by omega) _)))) (hcw 0 1536 (by omega) _) ((conv0 _ _ _ _ _ _ _ _ _ _ _ _ _ _ _ _ _ _ 1 _).trans (hcat_congr (congrArg (car (kernelRun0_B.sl.v9 i)) (hcar 24 (by omega) _)) (hX_even 24 (by decide) hxe (hw 1536 (by omega) _)))) (hcw 1 1536 (by omega) _) ((conv0 _ _ _ _ _ _ _ _ _ _ _ _ _ _ _ _ _ _ 2 _).trans (hcat_congr (congrArg (car (kernelRun0_B.sl.v9 i)) (hcar 24 (by omega) _)) (hX_even 24 (by decide) hxe (hw 1536 (by omega) _)))) (hcw 2 1536 (by omega) _)
      (hcb 4352 (by omega) _) ((conv2 _ _ _ _ _ _ _ _ _ _ 0 _).trans (hcat_congr (congrArg (car (kernelRun0_B.sl.v9 i)) (hcar 26 (by omega) _)) (hX_even 26 (by decide) hxe (hw 4352 (by omega) _)))) (hcw 0 4352 (by omega) _) ((conv2 _ _ _ _ _ _ _ _ _ _ 1 _).trans (hcat_congr (congrArg (car (kernelRun0_B.sl.v9 i)) (hcar 26 (by omega) _)) (hX_even 26 (by decide) hxe (hw 4352 (by omega) _)))) (hcw 1 4352 (by omega) _) ((conv2 _ _ _ _ _ _ _ _ _ _ 2 _).trans (hcat_congr (congrArg (car (kernelRun0_B.sl.v9 i)) (hcar 26 (by omega) _)) (hX_even 26 (by decide) hxe (hw 4352 (by omega) _)))) (hcw 2 4352 (by omega) _)
  refine act_step (Val := Elt F) (e := .bf16) (ACT (XE (kernelRun0_B.sl.v9 i) x0 x1 x2 x3 x4 x5 x6) x7 x8 x9 (fun k => car (kernelRun0_B.sl.v9 i) (carT xs3 k))) 11 1408 rfl ?_ ?_
  · dsimp only [k0_pay157, k0_pay158, k0_pay159, kernelRun0_B.sl.r_70, kernelRun0_B.sl.r_71]
    exact act_of 11 (hcb 1408 (by omega) _) ((conv1 _ _ _ _ _ _ _ _ _ _ _ _ _ _ 0 _).trans (hcat_congr (congrArg (car (kernelRun0_B.sl.v9 i)) (hcar 21 (by omega) _)) (hX_odd 21 (by decide) hxe (hw 1280 (by omega) _)))) (hcw 0 1408 (by omega) _) ((conv1 _ _ _ _ _ _ _ _ _ _ _ _ _ _ 1 _).trans (hcat_congr (congrArg (car (kernelRun0_B.sl.v9 i)) (hcar 21 (by omega) _)) (hX_odd 21 (by decide) hxe (hw 1280 (by omega) _)))) (hcw 1 1408 (by omega) _) ((conv1 _ _ _ _ _ _ _ _ _ _ _ _ _ _ 2 _).trans (hcat_congr (congrArg (car (kernelRun0_B.sl.v9 i)) (hcar 21 (by omega) _)) (hX_odd 21 (by decide) hxe (hw 1280 (by omega) _)))) (hcw 2 1408 (by omega) _)
      (hcb 4224 (by omega) _) ((conv3 _ _ _ _ _ _ 0 _).trans (hcat_congr (congrArg (car (kernelRun0_B.sl.v9 i)) (hcar 23 (by omega) _)) (hX_odd 23 (by decide) hxe (hw 4096 (by omega) _)))) (hcw 0 4224 (by omega) _) ((conv3 _ _ _ _ _ _ 1 _).trans (hcat_congr (congrArg (car (kernelRun0_B.sl.v9 i)) (hcar 23 (by omega) _)) (hX_odd 23 (by decide) hxe (hw 4096 (by omega) _)))) (hcw 1 4224 (by omega) _) ((conv3 _ _ _ _ _ _ 2 _).trans (hcat_congr (congrArg (car (kernelRun0_B.sl.v9 i)) (hcar 23 (by omega) _)) (hX_odd 23 (by decide) hxe (hw 4096 (by omega) _)))) (hcw 2 4224 (by omega) _)
  refine act_step (Val := Elt F) (e := .bf16) (ACT (XE (kernelRun0_B.sl.v9 i) x0 x1 x2 x3 x4 x5 x6) x7 x8 x9 (fun k => car (kernelRun0_B.sl.v9 i) (carT xs3 k))) 10 1280 rfl ?_ ?_
  · dsimp only [k0_pay154, k0_pay155, k0_pay156, kernelRun0_B.sl.r_68, kernelRun0_B.sl.r_69]
    exact act_of 10 (hcb 1280 (by omega) _) ((conv0 _ _ _ _ _ _ _ _ _ _ _ _ _ _ _ _ _ _ 0 _).trans (hcat_congr (congrArg (car (kernelRun0_B.sl.v9 i)) (hcar 20 (by omega) _)) (hX_even 20 (by decide) hxe (hw 1280 (by omega) _)))) (hcw 0 1280 (by omega) _) ((conv0 _ _ _ _ _ _ _ _ _ _ _ _ _ _ _ _ _ _ 1 _).trans (hcat_congr (congrArg (car (kernelRun0_B.sl.v9 i)) (hcar 20 (by omega) _)) (hX_even 20 (by decide) hxe (hw 1280 (by omega) _)))) (hcw 1 1280 (by omega) _) ((conv0 _ _ _ _ _ _ _ _ _ _ _ _ _ _ _ _ _ _ 2 _).trans (hcat_congr (congrArg (car (kernelRun0_B.sl.v9 i)) (hcar 20 (by omega) _)) (hX_even 20 (by decide) hxe (hw 1280 (by omega) _)))) (hcw 2 1280 (by omega) _)
      (hcb 4096 (by omega) _) ((conv2 _ _ _ _ _ _ _ _ _ _ 0 _).trans (hcat_congr (congrArg (car (kernelRun0_B.sl.v9 i)) (hcar 22 (by omega) _)) (hX_even 22 (by decide) hxe (hw 4096 (by omega) _)))) (hcw 0 4096 (by omega) _) ((conv2 _ _ _ _ _ _ _ _ _ _ 1 _).trans (hcat_congr (congrArg (car (kernelRun0_B.sl.v9 i)) (hcar 22 (by omega) _)) (hX_even 22 (by decide) hxe (hw 4096 (by omega) _)))) (hcw 1 4096 (by omega) _) ((conv2 _ _ _ _ _ _ _ _ _ _ 2 _).trans (hcat_congr (congrArg (car (kernelRun0_B.sl.v9 i)) (hcar 22 (by omega) _)) (hX_even 22 (by decide) hxe (hw 4096 (by omega) _)))) (hcw 2 4096 (by omega) _)
  refine act_step (Val := Elt F) (e := .bf16) (ACT (XE (kernelRun0_B.sl.v9 i) x0 x1 x2 x3 x4 x5 x6) x7 x8 x9 (fun k => car (kernelRun0_B.sl.v9 i) (carT xs3 k))) 9 1152 rfl ?_ ?_
  · dsimp only [k0_pay135, k0_pay136, k0_pay137, kernelRun0_B.sl.r_61, kernelRun0_B.sl.r_62, kernelRun0_B.sl.r_63]
    exact act_of 9 (hcb 1152 (by omega) _) ((conv1 _ _ _ _ _ _ _ _ _ _ _ _ _ _ 0 _).trans (hcat_congr (congrArg (car (kernelRun0_B.sl.v9 i)) (hcar 17 (by omega) _)) (hX_odd 17 (by decide) hxe (hw 1024 (by omega) _)))) (hcw 0 1152 (by omega) _) ((conv1 _ _ _ _ _ _ _ _ _ _ _ _ _ _ 1 _).trans (hcat_congr (congrArg (car (kernelRun0_B.sl.v9 i)) (hcar 17 (by omega) _)) (hX_odd 17 (by decide) hxe (hw 1024 (by omega) _)))) (hcw 1 1152 (by omega) _) ((conv1 _ _ _ _ _ _ _ _ _ _ _ _ _ _ 2 _).trans (hcat_congr (congrArg (car (kernelRun0_B.sl.v9 i)) (hcar 17 (by omega) _)) (hX_odd 17 (by decide) hxe (hw 1024 (by omega) _)))) (hcw 2 1152 (by omega) _)
      (hcb 3968 (by omega) _) ((conv3 _ _ _ _ _ _ 0 _).trans (hcat_congr (congrArg (car (kernelRun0_B.sl.v9 i)) (hcar 19 (by omega) _)) (hX_odd 19 (by decide) hxe (hw 3840 (by omega) _)))) (hcw 0 3968 (by omega) _) ((conv3 _ _ _ _ _ _ 1 _).trans (hcat_congr (congrArg (car (kernelRun0_B.sl.v9 i)) (hcar 19 (by omega) _)) (hX_odd 19 (by decide) hxe (hw 3840 (by omega) _)))) (hcw 1 3968 (by omega) _) ((conv3 _ _ _ _ _ _ 2 _).trans (hcat_congr (congrArg (car (kernelRun0_B.sl.v9 i)) (hcar 19 (by omega) _)) (hX_odd 19 (by decide) hxe (hw 3840 (by omega) _)))) (hcw 2 3968 (by omega) _)
  refine act_step (Val := Elt F) (e := .bf16) (ACT (XE (kernelRun0_B.sl.v9 i) x0 x1 x2 x3 x4 x5 x6) x7 x8 x9 (fun k => car (kernelRun0_B.sl.v9 i) (carT xs3 k))) 8 1024 rfl ?_ ?_
  · dsimp only [k0_pay129, k0_pay130, k0_pay131, k0_pay132, k0_pay133, k0_pay134, kernelRun0_B.sl.r_56, kernelRun0_B.sl.r_57, kernelRun0_B.sl.r_58, kernelRun0_B.sl.r_59, kernelRun0_B.sl.r_60]
    exact act_of 8 (hcb 1024 (by omega) _) ((conv0 _ _ _ _ _ _ _ _ _ _ _ _ _ _ _ _ _ _ 0 _).trans (hcat_congr (congrArg (car (kernelRun0_B.sl.v9 i)) (hcar 16 (by omega) _)) (hX_even 16 (by decide) hxe (hw 1024 (by omega) _)))) (hcw 0 1024 (by omega) _) ((conv0 _ _ _ _ _ _ _ _ _ _ _ _ _ _ _ _ _ _ 1 _).trans (hcat_congr (congrArg (car (kernelRun0_B.sl.v9 i)) (hcar 16 (by omega) _)) (hX_even 16 (by decide) hxe (hw 1024 (by omega) _)))) (hcw 1 1024 (by omega) _) ((conv0 _ _ _ _ _ _ _ _ _ _ _ _ _ _ _ _ _ _ 2 _).trans (hcat_congr (congrArg (car (kernelRun0_B.sl.v9 i)) (hcar 16 (by omega) _)) (hX_even 16 (by decide) hxe (hw 1024 (by omega) _)))) (hcw 2 1024 (by omega) _)
      (hcb 3840 (by omega) _) ((conv2 _ _ _ _ _ _ _ _ _ _ 0 _).trans (hcat_congr (congrArg (car (kernelRun0_B.sl.v9 i)) (hcar 18 (by omega) _)) (hX_even 18 (by decide) hxe (hw 3840 (by omega) _)))) (hcw 0 3840 (by omega) _) ((conv2 _ _ _ _ _ _ _ _ _ _ 1 _).trans (hcat_congr (congrArg (car (kernelRun0_B.sl.v9 i)) (hcar 18 (by omega) _)) (hX_even 18 (by decide) hxe (hw 3840 (by omega) _)))) (hcw 1 3840 (by omega) _) ((conv2 _ _ _ _ _ _ _ _ _ _ 2 _).trans (hcat_congr (congrArg (car (kernelRun0_B.sl.v9 i)) (hcar 18 (by omega) _)) (hX_even 18 (by decide) hxe (hw 3840 (by omega) _)))) (hcw 2 3840 (by omega) _)
  refine act_step (Val := Elt F) (e := .bf16) (ACT (XE (kernelRun0_B.sl.v9 i) x0 x1 x2 x3 x4 x5 x6) x7 x8 x9 (fun k => car (kernelRun0_B.sl.v9 i) (carT xs3 k))) 7 896 rfl ?_ ?_
  · dsimp only [k0_pay107, k0_pay108, k0_pay109, k0_pay110, k0_pay111, k0_pay112, kernelRun0_B.sl.r_47, kernelRun0_B.sl.r_48, kernelRun0_B.sl.r_49, kernelRun0_B.sl.r_50, kernelRun0_B.sl.r_51]
    exact act_of 7 (hcb 896 (by omega) _) ((conv1 _ _ _ _ _ _ _ _ _ _ _ _ _ _ 0 _).trans (hcat_congr (congrArg (car (kernelRun0_B.sl.v9 i)) (hcar 13 (by omega) _)) (hX_odd 13 (by decide) hxe (hw 768 (by omega) _)))) (hcw 0 896 (by omega) _) ((conv1 _ _ _ _ _ _ _ _ _ _ _ _ _ _ 1 _).trans (hcat_congr (congrArg (car (kernelRun0_B.sl.v9 i)) (hcar 13 (by omega) _)) (hX_odd 13 (by decide) hxe (hw 768 (by omega) _)))) (hcw 1 896 (by omega) _) ((conv1 _ _ _ _ _ _ _ _ _ _ _ _ _ _ 2 _).trans (hcat_congr (congrArg (car (kernelRun0_B.sl.v9 i)) (hcar 13 (by omega) _)) (hX_odd 13 (by decide) hxe (hw 768 (by omega) _)))) (hcw 2 896 (by omega) _)
      (hcb 3712 (by omega) _) ((conv3 _ _ _ _ _ _ 0 _).trans (hcat_congr (congrArg (car (kernelRun0_B.sl.v9 i)) (hcar 15 (by omega) _)) (hX_odd 15 (by decide) hxe (hw 3584 (by omega) _)))) (hcw 0 3712 (by omega) _) ((conv3 _ _ _ _ _ _ 1 _).trans (hcat_congr (congrArg (car (kernelRun0_B.sl.v9 i)) (hcar 15 (by omega) _)) (hX_odd 15 (by decide) hxe (hw 3584 (by omega) _)))) (hcw 1 3712 (by omega) _) ((conv3 _ _ _ _ _ _ 2 _).trans (hcat_congr (congrArg (car (kernelRun0_B.sl.v9 i)) (hcar 15 (by omega) _)) (hX_odd 15 (by decide) hxe (hw 3584 (by omega) _)))) (hcw 2 3712 (by omega) _)
  refine act_step (Val := Elt F) (e := .bf16) (ACT (XE (kernelRun0_B.sl.v9 i) x0 x1 x2 x3 x4 x5 x6) x7 x8 x9 (fun k => car (kernelRun0_B.sl.v9 i) (carT xs3 k))) 6 768 rfl ?_ ?_
  · dsimp only [k0_pay103, k0_pay104, k0_pay105, k0_pay106, kernelRun0_B.sl.r_43, kernelRun0_B.sl.r_44, kernelRun0_B.sl.r_45, kernelRun0_B.sl.r_46]
    exact act_of 6 (hcb 768 (by omega) _) ((conv0 _ _ _ _ _ _ _ _ _ _ _ _ _ _ _ _ _ _ 0 _).trans (hcat_congr (congrArg (car (kernelRun0_B.sl.v9 i)) (hcar 12 (by omega) _)) (hX_even 12 (by decide) hxe (hw 768 (by omega) _)))) (hcw 0 768 (by omega) _) ((conv0 _ _ _ _ _ _ _ _ _ _ _ _ _ _ _ _ _ _ 1 _).trans (hcat_congr (congrArg (car (kernelRun0_B.sl.v9 i)) (hcar 12 (by omega) _)) (hX_even 12 (by decide) hxe (hw 768 (by omega) _)))) (hcw 1 768 (by omega) _) ((conv0 _ _ _ _ _ _ _ _ _ _ _ _ _ _ _ _ _ _ 2 _).trans (hcat_congr (congrArg (car (kernelRun0_B.sl.v9 i)) (hcar 12 (by omega) _)) (hX_even 12 (by decide) hxe (hw 768 (by omega) _)))) (hcw 2 768 (by omega) _)
      (hcb 3584 (by omega) _) ((conv2 _ _ _ _ _ _ _ _ _ _ 0 _).trans (hcat_congr (congrArg (car (kernelRun0_B.sl.v9 i)) (hcar 14 (by omega) _)) (hX_even 14 (by decide) hxe (hw 3584 (by omega) _)))) (hcw 0 3584 (by omega) _) ((conv2 _ _ _ _ _ _ _ _ _ _ 1 _).trans (hcat_congr (congrArg (car (kernelRun0_B.sl.v9 i)) (hcar 14 (by omega) _)) (hX_even 14 (by decide) hxe (hw 3584 (by omega) _)))) (hcw 1 3584 (by omega) _) ((conv2 _ _ _ _ _ _ _ _ _ _ 2 _).trans (hcat_congr (congrArg (car (kernelRun0_B.sl.v9 i)) (hcar 14 (by omega) _)) (hX_even 14 (by decide) hxe (hw 3584 (by omega) _)))) (hcw 2 3584 (by omega) _)
  refine act_step (Val := Elt F) (e := .bf16) (ACT (XE (kernelRun0_B.sl.v9 i) x0 x1 x2 x3 x4 x5 x6) x7 x8 x9 (fun k => car (kernelRun0_B.sl.v9 i) (carT xs3 k))) 5 640 rfl ?_ ?_
  · dsimp only [k0_pay85, k0_pay86, k0_pay87, kernelRun0_B.sl.r_38, kernelRun0_B.sl.r_39]
    exact act_of 5 (hcb 640 (by omega) _) ((conv1 _ _ _ _ _ _ _ _ _ _ _ _ _ _ 0 _).trans (hcat_congr (congrArg (car (kernelRun0_B.sl.v9 i)) (hcar 9 (by omega) _)) (hX_odd 9 (by decide) hxe (hw 512 (by omega) _)))) (hcw 0 640 (by omega) _) ((conv1 _ _ _ _ _ _ _ _ _ _ _ _ _ _ 1 _).trans (hcat_congr (congrArg (car (kernelRun0_B.sl.v9 i)) (hcar 9 (by omega) _)) (hX_odd 9 (by decide) hxe (hw 512 (by omega) _)))) (hcw 1 640 (by omega) _) ((conv1 _ _ _ _ _ _ _ _ _ _ _ _ _ _ 2 _).trans (hcat_congr (congrArg (car (kernelRun0_B.sl.v9 i)) (hcar 9 (by omega) _)) (hX_odd 9 (by decide) hxe (hw 512 (by omega) _)))) (hcw 2 640 (by omega) _)
      (hcb 3456 (by omega) _) ((conv3 _ _ _ _ _ _ 0 _).trans (hcat_congr (congrArg (car (kernelRun0_B.sl.v9 i)) (hcar 11 (by omega) _)) (hX_odd 11 (by decide) hxe (hw 3328 (by omega) _)))) (hcw 0 3456 (by omega) _) ((conv3 _ _ _ _ _ _ 1 _).trans (hcat_congr (congrArg (car (kernelRun0_B.sl.v9 i)) (hcar 11 (by omega) _)) (hX_odd 11 (by decide) hxe (hw 3328 (by omega) _)))) (hcw 1 3456 (by omega) _) ((conv3 _ _ _ _ _ _ 2 _).trans (hcat_congr (congrArg (car (kernelRun0_B.sl.v9 i)) (hcar 11 (by omega) _)) (hX_odd 11 (by decide) hxe (hw 3328 (by omega) _)))) (hcw 2 3456 (by omega) _)
  refine act_step (Val := Elt F) (e := .bf16) (ACT (XE (kernelRun0_B.sl.v9 i) x0 x1 x2 x3 x4 x5 x6) x7 x8 x9 (fun k => car (kernelRun0_B.sl.v9 i) (carT xs3 k))) 4 512 rfl ?_ ?_
  · dsimp only [k0_pay82, k0_pay83, k0_pay84, kernelRun0_B.sl.r_36, kernelRun0_B.sl.r_37]
    exact act_of 4 (hcb 512 (by omega) _) ((conv0 _ _ _ _ _ _ _ _ _ _ _ _ _ _ _ _ _ _ 0 _).trans (hcat_congr (congrArg (car (kernelRun0_B.sl.v9 i)) (hcar 8 (by omega) _)) (hX_even 8 (by decide) hxe (hw 512 (by omega) _)))) (hcw 0 512 (by omega) _) ((conv0 _ _ _ _ _ _ _ _ _ _ _ _ _ _ _ _ _ _ 1 _).trans (hcat_congr (congrArg (car (kernelRun0_B.sl.v9 i)) (hcar 8 (by omega) _)) (hX_even 8 (by decide) hxe (hw 512 (by omega) _)))) (hcw 1 512 (by omega) _) ((conv0 _ _ _ _ _ _ _ _ _ _ _ _ _ _ _ _ _ _ 2 _).trans (hcat_congr (congrArg (car (kernelRun0_B.sl.v9 i)) (hcar 8 (by omega) _)) (hX_even 8 (by decide) hxe (hw 512 (by omega) _)))) (hcw 2 512 (by omega) _)
      (hcb 3328 (by omega) _) ((conv2 _ _ _ _ _ _ _ _ _ _ 0 _).trans (hcat_congr (congrArg (car (kernelRun0_B.sl.v9 i)) (hcar 10 (by omega) _)) (hX_even 10 (by decide) hxe (hw 3328 (by omega) _)))) (hcw 0 3328 (by omega) _) ((conv2 _ _ _ _ _ _ _ _ _ _ 1 _).trans (hcat_congr (congrArg (car (kernelRun0_B.sl.v9 i)) (hcar 10 (by omega) _)) (hX_even 10 (by decide) hxe (hw 3328 (by omega) _)))) (hcw 1 3328 (by omega) _) ((conv2 _ _ _ _ _ _ _ _ _ _ 2 _).trans (hcat_congr (congrArg (car (kernelRun0_B.sl.v9 i)) (hcar 10 (by omega) _)) (hX_even 10 (by decide) hxe (hw 3328 (by omega) _)))) (hcw 2 3328 (by omega) _)
  refine act_step (Val := Elt F) (e := .bf16) (ACT (XE (kernelRun0_B.sl.v9 i) x0 x1 x2 x3 x4 x5 x6) x7 x8 x9 (fun k => car (kernelRun0_B.sl.v9 i) (carT xs3 k))) 3 384 rfl ?_ ?_
  · dsimp only [k0_pay63, k0_pay64, k0_pay65, kernelRun0_B.sl.r_29, kernelRun0_B.sl.r_30, kernelRun0_B.sl.r_31]
    exact act_of 3 (hcb 384 (by omega) _) ((conv1 _ _ _ _ _ _ _ _ _ _ _ _ _ _ 0 _).trans (hcat_congr (congrArg (car (kernelRun0_B.sl.v9 i)) (hcar 5 (by omega) _)) (hX_odd 5 (by decide) hxe (hw 256 (by omega) _)))) (hcw 0 384 (by omega) _) ((conv1 _ _ _ _ _ _ _ _ _ _ _ _ _ _ 1 _).trans (hcat_congr (congrArg (car (kernelRun0_B.sl.v9 i)) (hcar 5 (by omega) _)) (hX_odd 5 (by decide) hxe (hw 256 (by omega) _)))) (hcw 1 384 (by omega) _) ((conv1 _ _ _ _ _ _ _ _ _ _ _ _ _ _ 2 _).trans (hcat_congr (congrArg (car (kernelRun0_B.sl.v9 i)) (hcar 5 (by omega) _)) (hX_odd 5 (by decide) hxe (hw 256 (by omega) _)))) (hcw 2 384 (by omega) _)
      (hcb 3200 (by omega) _) ((conv3 _ _ _ _ _ _ 0 _).trans (hcat_congr (congrArg (car (kernelRun0_B.sl.v9 i)) (hcar 7 (by omega) _)) (hX_odd 7 (by decide) hxe (hw 3072 (by omega) _)))) (hcw 0 3200 (by omega) _) ((conv3 _ _ _ _ _ _ 1 _).trans (hcat_congr (congrArg (car (kernelRun0_B.sl.v9 i)) (hcar 7 (by omega) _)) (hX_odd 7 (by decide) hxe (hw 3072 (by omega) _)))) (hcw 1 3200 (by omega) _) ((conv3 _ _ _ _ _ _ 2 _).trans (hcat_congr (congrArg (car (kernelRun0_B.sl.v9 i)) (hcar 7 (by omega) _)) (hX_odd 7 (by decide) hxe (hw 3072 (by omega) _)))) (hcw 2 3200 (by omega) _)
  refine act_step (Val := Elt F) (e := .bf16) (ACT (XE (kernelRun0_B.sl.v9 i) x0 x1 x2 x3 x4 x5 x6) x7 x8 x9 (fun k => car (kernelRun0_B.sl.v9 i) (carT xs3 k))) 2 256 rfl ?_ ?_
  · dsimp only [k0_pay57, k0_pay58, k0_pay59, k0_pay60, k0_pay61, k0_pay62, kernelRun0_B.sl.r_24, kernelRun0_B.sl.r_25, kernelRun0_B.sl.r_26, kernelRun0_B.sl.r_27, kernelRun0_B.sl.r_28]
    exact act_of 2 (hcb 256 (by omega) _) ((conv0 _ _ _ _ _ _ _ _ _ _ _ _ _ _ _ _ _ _ 0 _).trans (hcat_congr (congrArg (car (kernelRun0_B.sl.v9 i)) (hcar 4 (by omega) _)) (hX_even 4 (by decide) hxe (hw 256 (by omega) _)))) (hcw 0 256 (by omega) _) ((conv0 _ _ _ _ _ _ _ _ _ _ _ _ _ _ _ _ _ _ 1 _).trans (hcat_congr (congrArg (car (kernelRun0_B.sl.v9 i)) (hcar 4 (by omega) _)) (hX_even 4 (by decide) hxe (hw 256 (by omega) _)))) (hcw 1 256 (by omega) _) ((conv0 _ _ _ _ _ _ _ _ _ _ _ _ _ _ _ _ _ _ 2 _).trans (hcat_congr (congrArg (car (kernelRun0_B.sl.v9 i)) (hcar 4 (by omega) _)) (hX_even 4 (by decide) hxe (hw 256 (by omega) _)))) (hcw 2 256 (by omega) _)
      (hcb 3072 (by omega) _) ((conv2 _ _ _ _ _ _ _ _ _ _ 0 _).trans (hcat_congr (congrArg (car (kernelRun0_B.sl.v9 i)) (hcar 6 (by omega) _)) (hX_even 6 (by decide) hxe (hw 3072 (by omega) _)))) (hcw 0 3072 (by omega) _) ((conv2 _ _ _ _ _ _ _ _ _ _ 1 _).trans (hcat_congr (congrArg (car (kernelRun0_B.sl.v9 i)) (hcar 6 (by omega) _)) (hX_even 6 (by decide) hxe (hw 3072 (by omega) _)))) (hcw 1 3072 (by omega) _) ((conv2 _ _ _ _ _ _ _ _ _ _ 2 _).trans (hcat_congr (congrArg (car (kernelRun0_B.sl.v9 i)) (hcar 6 (by omega) _)) (hX_even 6 (by decide) hxe (hw 3072 (by omega) _)))) (hcw 2 3072 (by omega) _)
  refine act_step (Val := Elt F) (e := .bf16) (ACT (XE (kernelRun0_B.sl.v9 i) x0 x1 x2 x3 x4 x5 x6) x7 x8 x9 (fun k => car (kernelRun0_B.sl.v9 i) (carT xs3 k))) 1 128 rfl ?_ ?_
  · dsimp only [k0_pay35, k0_pay36, k0_pay37, k0_pay38, k0_pay39, k0_pay40, kernelRun0_B.sl.r_15, kernelRun0_B.sl.r_16, kernelRun0_B.sl.r_17, kernelRun0_B.sl.r_18, kernelRun0_B.sl.r_19]
    exact act_of 1 (hcb 128 (by omega) _) ((conv1 _ _ _ _ _ _ _ _ _ _ _ _ _ _ 0 _).trans (hcat_congr (congrArg (car (kernelRun0_B.sl.v9 i)) (hcar 1 (by omega) _)) (hX_odd 1 (by decide) hxe (hw 0 (by omega) _)))) (hcw 0 128 (by omega) _) ((conv1 _ _ _ _ _ _ _ _ _ _ _ _ _ _ 1 _).trans (hcat_congr (congrArg (car (kernelRun0_B.sl.v9 i)) (hcar 1 (by omega) _)) (hX_odd 1 (by decide) hxe (hw 0 (by omega) _)))) (hcw 1 128 (by omega) _) ((conv1 _ _ _ _ _ _ _ _ _ _ _ _ _ _ 2 _).trans (hcat_congr (congrArg (car (kernelRun0_B.sl.v9 i)) (hcar 1 (by omega) _)) (hX_odd 1 (by decide) hxe (hw 0 (by omega) _)))) (hcw 2 128 (by omega) _)
      (hcb 2944 (by omega) _) ((conv3 _ _ _ _ _ _ 0 _).trans (hcat_congr (congrArg (car (kernelRun0_B.sl.v9 i)) (hcar 3 (by omega) _)) (hX_odd 3 (by decide) hxe (hw 2816 (by omega) _)))) (hcw 0 2944 (by omega) _) ((conv3 _ _ _ _ _ _ 1 _).trans (hcat_congr (congrArg (car (kernelRun0_B.sl.v9 i)) (hcar 3 (by omega) _)) (hX_odd 3 (by decide) hxe (hw 2816 (by omega) _)))) (hcw 1 2944 (by omega) _) ((conv3 _ _ _ _ _ _ 2 _).trans (hcat_congr (congrArg (car (kernelRun0_B.sl.v9 i)) (hcar 3 (by omega) _)) (hX_odd 3 (by decide) hxe (hw 2816 (by omega) _)))) (hcw 2 2944 (by omega) _)
  refine act_step (Val := Elt F) (e := .bf16) (ACT (XE (kernelRun0_B.sl.v9 i) x0 x1 x2 x3 x4 x5 x6) x7 x8 x9 (fun k => car (kernelRun0_B.sl.v9 i) (carT xs3 k))) 0 0 rfl ?_ ?_
  · dsimp only [k0_pay31, k0_pay32, k0_pay33, k0_pay34, kernelRun0_B.sl.r_11, kernelRun0_B.sl.r_12, kernelRun0_B.sl.r_13, kernelRun0_B.sl.r_14]
    exact act_of 0 (hcb 0 (by omega) _) ((conv0 _ _ _ _ _ _ _ _ _ _ _ _ _ _ _ _ _ _ 0 _).trans (hcat_congr (congrArg (car (kernelRun0_B.sl.v9 i)) (hcar 0 (by omega) _)) (hX_even 0 (by decide) hxe (hw 0 (by omega) _)))) (hcw 0 0 (by omega) _) ((conv0 _ _ _ _ _ _ _ _ _ _ _ _ _ _ _ _ _ _ 1 _).trans (hcat_congr (congrArg (car (kernelRun0_B.sl.v9 i)) (hcar 0 (by omega) _)) (hX_even 0 (by decide) hxe (hw 0 (by omega) _)))) (hcw 1 0 (by omega) _) ((conv0 _ _ _ _ _ _ _ _ _ _ _ _ _ _ _ _ _ _ 2 _).trans (hcat_congr (congrArg (car (kernelRun0_B.sl.v9 i)) (hcar 0 (by omega) _)) (hX_even 0 (by decide) hxe (hw 0 (by omega) _)))) (hcw 2 0 (by omega) _)
      (hcb 2816 (by omega) _) ((conv2 _ _ _ _ _ _ _ _ _ _ 0 _).trans (hcat_congr (congrArg (car (kernelRun0_B.sl.v9 i)) (hcar 2 (by omega) _)) (hX_even 2 (by decide) hxe (hw 2816 (by omega) _)))) (hcw 0 2816 (by omega) _) ((conv2 _ _ _ _ _ _ _ _ _ _ 1 _).trans (hcat_congr (congrArg (car (kernelRun0_B.sl.v9 i)) (hcar 2 (by omega) _)) (hX_even 2 (by decide) hxe (hw 2816 (by omega) _)))) (hcw 1 2816 (by omega) _) ((conv2 _ _ _ _ _ _ _ _ _ _ 2 _).trans (hcat_congr (congrArg (car (kernelRun0_B.sl.v9 i)) (hcar 2 (by omega) _)) (hX_even 2 (by decide) hxe (hw 2816 (by omega) _)))) (hcw 2 2816 (by omega) _)
  exact fun y h => absurd h (Nat.not_lt_zero _)

end Cert.Ffn

end
-- ==== Proof.FfnOutB.lean ====
/- What the feed-forward kernel leaves at a point (case B of its body): its output's rows, and the rows it carries to
   the next point. -/
module

public import proofs.«01_k».proof.Proof.FfnDefs
public import proofs.«01_k».proof.Proof.FfnActsB

@[expose] public section

set_option maxRecDepth 16384
set_option maxHeartbeats 2000000

noncomputable section

namespace Cert.Ffn

open Cert.KernelFIdeal Cert.KernelFIdeal.Gen Idealize.ShloMosaic Idealize.ShloMosaic.TcCoe Idealize.SL.Sem
open Cert.FfnLoads

variable {F : FTy → Type} [FloatOps F] [Named F]
variable (c : Dev nD) (i : grid0.Coords) (arg1 : Memref sig .tc .vmem S512x1024 .bf16) (harg1 : arg1.IsWhole) (arg2 : Memref sig .tc .vmem S16x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S16x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S512x1024 .f32) (harg14 : arg14.IsWhole) (arg15 : Memref sig .tc .vmem S528x1024 .bf16) (harg15 : arg15.IsWhole) (arg16 : Memref sig .tc .vmem S4x544x128 .f32) (harg16 : arg16.IsWhole) (arg17 : Memref sig .tc .vmem S512x2816 .bf16) (harg17 : arg17.IsWhole) (arg18 : Memref sig .tc .vmem S44x8x128 .f32) (harg18 : arg18.IsWhole) (arg19 : Memref sig .tc .vmem S528x1024 .bf16) (harg19 : arg19.IsWhole) (arg20 : Memref sig .tc .vmem S512x1024 .f32) (harg20 : arg20.IsWhole) (hc0 : ¬cond0_0 i)
    (x0 : Vec F S512x1024 .bf16) (x1 : Vec F S16x1024 .bf16) (x2 : Vec F S1024x1024 .bf16) (x3 : Vec F S1x1024 .f32) (x4 : Vec F S1x1024 .f32) (x5 : Vec F S512x1024 .f32) (x6 : Vec F S16x1024 .f32) (x7 : Vec F S1024x5632 .bf16) (x8 : Vec F S3x5632 .f32) (x9 : Vec F S1x5632 .f32) (x10 : Vec F S2816x1024 .bf16) (x11 : Vec F S1x1024 .f32) (x12 : Vec F S1x1024 .f32) (xs3 : Vec F S44x8x128 .f32)

/-- The rows a point carries: the last eight of each of the up projection's tiles. -/
theorem sout_B (y : S44x8x128.Idx) : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs3 y
    = hNX (XE (kernelRun0_B.sl.v9 i) x0 x1 x2 x3 x4 x5 x6) x7 (y 0).val (ix3 0 (y 1) (y 2)) := by
  have hw : ∀ (o : ℕ) (_ : o + 256 ≤ 5632) (h), View.readAt (Elt F) arg8.view (Rect.unit (s := S1024x5632) ![0, o] S1024x256.size h).toLoadRect (harg8.unread x7) = wT x7 o :=
    fun o ho h => funext fun x => (Memref.IsWhole.readAt_unread harg8 x7 _ x).trans (congrArg x7 (w_idx o ho h x))
  have hxe := xe_B c i arg1 harg1 arg2 harg2 arg3 harg3 arg4 harg4 arg5 harg5 arg6 harg6 arg7 harg7 arg15 arg19 arg20 x0 x1 x2 x3 x4 x5 x6
  have hlt : (y 0).val < 43 + 1 := (y 0).isLt
  unfold sout0_B_3
  rw [View.read_writes_junk_eq_canon]
  revert y
  show ∀ y : SK.Idx, (y 0).val < 43 + 1 → View.canon (Val := Elt F) (e := .f32) _ y = hNX (XE (kernelRun0_B.sl.v9 i) x0 x1 x2 x3 x4 x5 x6) x7 (y 0).val (ix3 0 (y 1) (y 2))
  refine carry_step (Val := Elt F) (e := .f32) (hNX (XE (kernelRun0_B.sl.v9 i) x0 x1 x2 x3 x4 x5 x6) x7) 43 (hN_odd 43 (by decide) hxe (hw 5376 (by omega) _)) ?_
  refine carry_step (Val := Elt F) (e := .f32) (hNX (XE (kernelRun0_B.sl.v9 i) x0 x1 x2 x3 x4 x5 x6) x7) 42 (hN_even 42 (by decide) hxe (hw 5376 (by omega) _)) ?_
  refine carry_step (Val := Elt F) (e := .f32) (hNX (XE (kernelRun0_B.sl.v9 i) x0 x1 x2 x3 x4 x5 x6) x7) 41 (hN_odd 41 (by decide) hxe (hw 2560 (by omega) _)) ?_
  refine carry_step (Val := Elt F) (e := .f32) (hNX (XE (kernelRun0_B.sl.v9 i) x0 x1 x2 x3 x4 x5 x6) x7) 40 (hN_even 40 (by decide) hxe (hw 2560 (by omega) _)) ?_
  refine carry_step (Val := Elt F) (e := .f32) (hNX (XE (kernelRun0_B.sl.v9 i) x0 x1 x2 x3 x4 x5 x6) x7) 39 (hN_odd 39 (by decide) hxe (hw 5120 (by omega) _)) ?_
  refine carry_step (Val := Elt F) (e := .f32) (hNX (XE (kernelRun0_B.sl.v9 i) x0 x1 x2 x3 x4 x5 x6) x7) 38 (hN_even 38 (by decide) hxe (hw 5120 (by omega) _)) ?_
  refine carry_step (Val := Elt F) (e := .f32) (hNX (XE (kernelRun0_B.sl.v9 i) x0 x1 x2 x3 x4 x5 x6) x7) 37 (hN_odd 37 (by decide) hxe (hw 2304 (by omega) _)) ?_
  refine carry_step (Val := Elt F) (e := .f32) (hNX (XE (kernelRun0_B.sl.v9 i) x0 x1 x2 x3 x4 x5 x6) x7) 36 (hN_even 36 (by decide) hxe (hw 2304 (by omega) _)) ?_
  refine carry_step (Val := Elt F) (e := .f32) (hNX (XE (kernelRun0_B.sl.v9 i) x0 x1 x2 x3 x4 x5 x6) x7) 35 (hN_odd 35 (by decide) hxe (hw 4864 (by omega) _)) ?_
  refine carry_step (Val := Elt F) (e := .f32) (hNX (XE (kernelRun0_B.sl.v9 i) x0 x1 x2 x3 x4 x5 x6) x7) 34 (hN_even 34 (by decide) hxe (hw 4864 (by omega) _)) ?_
  refine carry_step (Val := Elt F) (e := .f32) (hNX (XE (kernelRun0_B.sl.v9 i) x0 x1 x2 x3 x4 x5 x6) x7) 33 (hN_odd 33 (by decide) hxe (hw 2048 (by omega) _)) ?_
  refine carry_step (Val := Elt F) (e := .f32) (hNX (XE (kernelRun0_B.sl.v9 i) x0 x1 x2 x3 x4 x5 x6) x7) 32 (hN_even 32 (by decide) hxe (hw 2048 (by omega) _)) ?_
  refine carry_step (Val := Elt F) (e := .f32) (hNX (XE (kernelRun0_B.sl.v9 i) x0 x1 x2 x3 x4 x5 x6) x7) 31 (hN_odd 31 (by decide) hxe (hw 4608 (by omega) _)) ?_
  refine carry_step (Val := Elt F) (e := .f32) (hNX (XE (kernelRun0_B.sl.v9 i) x0 x1 x2 x3 x4 x5 x6) x7) 30 (hN_even 30 (by decide) hxe (hw 4608 (by omega) _)) ?_
  refine carry_step (Val := Elt F) (e := .f32) (hNX (XE (kernelRun0_B.sl.v9 i) x0 x1 x2 x3 x4 x5 x6) x7) 29 (hN_odd 29 (by decide) hxe (hw 1792 (by omega) _)) ?_
  refine carry_step (Val := Elt F) (e := .f32) (hNX (XE (kernelRun0_B.sl.v9 i) x0 x1 x2 x3 x4 x5 x6) x7) 28 (hN_even 28 (by decide) hxe (hw 1792 (by omega) _)) ?_
  refine carry_step (Val := Elt F) (e := .f32) (hNX (XE (kernelRun0_B.sl.v9 i) x0 x1 x2 x3 x4 x5 x6) x7) 27 (hN_odd 27 (by decide) hxe (hw 4352 (by omega) _)) ?_
  refine carry_step (Val := Elt F) (e := .f32) (hNX (XE (kernelRun0_B.sl.v9 i) x0 x1 x2 x3 x4 x5 x6) x7) 26 (hN_even 26 (by decide) hxe (hw 4352 (by omega) _)) ?_
  refine carry_step (Val := Elt F) (e := .f32) (hNX (XE (kernelRun0_B.sl.v9 i) x0 x1 x2 x3 x4 x5 x6) x7) 25 (hN_odd 25 (by decide) hxe (hw 1536 (by omega) _)) ?_
  refine carry_step (Val := Elt F) (e := .f32) (hNX (XE (kernelRun0_B.sl.v9 i) x0 x1 x2 x3 x4 x5 x6) x7) 24 (hN_even 24 (by decide) hxe (hw 1536 (by omega) _)) ?_
  refine carry_step (Val := Elt F) (e := .f32) (hNX (XE (kernelRun0_B.sl.v9 i) x0 x1 x2 x3 x4 x5 x6) x7) 23 (hN_odd 23 (by decide) hxe (hw 4096 (by omega) _)) ?_
  refine carry_step (Val := Elt F) (e := .f32) (hNX (XE (kernelRun0_B.sl.v9 i) x0 x1 x2 x3 x4 x5 x6) x7) 22 (hN_even 22 (by decide) hxe (hw 4096 (by omega) _)) ?_
  refine carry_step (Val := Elt F) (e := .f32) (hNX (XE (kernelRun0_B.sl.v9 i) x0 x1 x2 x3 x4 x5 x6) x7) 21 (hN_odd 21 (by decide) hxe (hw 1280 (by omega) _)) ?_
  refine carry_step (Val := Elt F) (e := .f32) (hNX (XE (kernelRun0_B.sl.v9 i) x0 x1 x2 x3 x4 x5 x6) x7) 20 (hN_even 20 (by decide) hxe (hw 1280 (by omega) _)) ?_
  refine carry_step (Val := Elt F) (e := .f32) (hNX (XE (kernelRun0_B.sl.v9 i) x0 x1 x2 x3 x4 x5 x6) x7) 19 (hN_odd 19 (by decide) hxe (hw 3840 (by omega) _)) ?_
  refine carry_step (Val := Elt F) (e := .f32) (hNX (XE (kernelRun0_B.sl.v9 i) x0 x1 x2 x3 x4 x5 x6) x7) 18 (hN_even 18 (by decide) hxe (hw 3840 (by omega) _)) ?_
  refine carry_step (Val := Elt F) (e := .f32) (hNX (XE (kernelRun0_B.sl.v9 i) x0 x1 x2 x3 x4 x5 x6) x7) 17 (hN_odd 17 (by decide) hxe (hw 1024 (by omega) _)) ?_
  refine carry_step (Val := Elt F) (e := .f32) (hNX (XE (kernelRun0_B.sl.v9 i) x0 x1 x2 x3 x4 x5 x6) x7) 16 (hN_even 16 (by decide) hxe (hw 1024 (by omega) _)) ?_
  refine carry_step (Val := Elt F) (e := .f32) (hNX (XE (kernelRun0_B.sl.v9 i) x0 x1 x2 x3 x4 x5 x6) x7) 15 (hN_odd 15 (by decide) hxe (hw 3584 (by omega) _)) ?_
  refine carry_step (Val := Elt F) (e := .f32) (hNX (XE (kernelRun0_B.sl.v9 i) x0 x1 x2 x3 x4 x5 x6) x7) 14 (hN_even 14 (by decide) hxe (hw 3584 (by omega) _)) ?_
  refine carry_step (Val := Elt F) (e := .f32) (hNX (XE (kernelRun0_B.sl.v9 i) x0 x1 x2 x3 x4 x5 x6) x7) 13 (hN_odd 13 (by decide) hxe (hw 768 (by omega) _)) ?_
  refine carry_step (Val := Elt F) (e := .f32) (hNX (XE (kernelRun0_B.sl.v9 i) x0 x1 x2 x3 x4 x5 x6) x7) 12 (hN_even 12 (by decide) hxe (hw 768 (by omega) _)) ?_
  refine carry_step (Val := Elt F) (e := .f32) (hNX (XE (kernelRun0_B.sl.v9 i) x0 x1 x2 x3 x4 x5 x6) x7) 11 (hN_odd 11 (by decide) hxe (hw 3328 (by omega) _)) ?_
  refine carry_step (Val := Elt F) (e := .f32) (hNX (XE (kernelRun0_B.sl.v9 i) x0 x1 x2 x3 x4 x5 x6) x7) 10 (hN_even 10 (by decide) hxe (hw 3328 (by omega) _)) ?_
  refine carry_step (Val := Elt F) (e := .f32) (hNX (XE (kernelRun0_B.sl.v9 i) x0 x1 x2 x3 x4 x5 x6) x7) 9 (hN_odd 9 (by decide) hxe (hw 512 (by omega) _)) ?_
  refine carry_step (Val := Elt F) (e := .f32) (hNX (XE (kernelRun0_B.sl.v9 i) x0 x1 x2 x3 x4 x5 x6) x7) 8 (hN_even 8 (by decide) hxe (hw 512 (by omega) _)) ?_
  refine carry_step (Val := Elt F) (e := .f32) (hNX (XE (kernelRun0_B.sl.v9 i) x0 x1 x2 x3 x4 x5 x6) x7) 7 (hN_odd 7 (by decide) hxe (hw 3072 (by omega) _)) ?_
  refine carry_step (Val := Elt F) (e := .f32) (hNX (XE (kernelRun0_B.sl.v9 i) x0 x1 x2 x3 x4 x5 x6) x7) 6 (hN_even 6 (by decide) hxe (hw 3072 (by omega) _)) ?_
  refine carry_step (Val := Elt F) (e := .f32) (hNX (XE (kernelRun0_B.sl.v9 i) x0 x1 x2 x3 x4 x5 x6) x7) 5 (hN_odd 5 (by decide) hxe (hw 256 (by omega) _)) ?_
  refine carry_step (Val := Elt F) (e := .f32) (hNX (XE (kernelRun0_B.sl.v9 i) x0 x1 x2 x3 x4 x5 x6) x7) 4 (hN_even 4 (by decide) hxe (hw 256 (by omega) _)) ?_
  refine carry_step (Val := Elt F) (e := .f32) (hNX (XE (kernelRun0_B.sl.v9 i) x0 x1 x2 x3 x4 x5 x6) x7) 3 (hN_odd 3 (by decide) hxe (hw 2816 (by omega) _)) ?_
  refine carry_step (Val := Elt F) (e := .f32) (hNX (XE (kernelRun0_B.sl.v9 i) x0 x1 x2 x3 x4 x5 x6) x7) 2 (hN_even 2 (by decide) hxe (hw 2816 (by omega) _)) ?_
  refine carry_step (Val := Elt F) (e := .f32) (hNX (XE (kernelRun0_B.sl.v9 i) x0 x1 x2 x3 x4 x5 x6) x7) 1 (hN_odd 1 (by decide) hxe (hw 0 (by omega) _)) ?_
  refine carry_step (Val := Elt F) (e := .f32) (hNX (XE (kernelRun0_B.sl.v9 i) x0 x1 x2 x3 x4 x5 x6) x7) 0 (hN_even 0 (by decide) hxe (hw 0 (by omega) _)) ?_
  exact fun y h => absurd h (Nat.not_lt_zero _)

/-- A point's output: the second layer norm of the residual and the down projection of its activations. -/
theorem out_B : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 xs3
    = FIN (ACTALL (XE (kernelRun0_B.sl.v9 i) x0 x1 x2 x3 x4 x5 x6) x7 x8 x9 (fun k => car (kernelRun0_B.sl.v9 i) (carT xs3 k))) x10 (X1 x0 x1 x2 x3 x4 x5) x11 x12 := by
  have hwd : ∀ h, View.readAt (Elt F) arg11.view (Rect.unit (s := S2816x1024) ![0, 0] S2816x1024.size h).toLoadRect (harg11.unread x10) = x10 :=
    fun h => (funext fun j => Memref.IsWhole.readAt_unread harg11 x10 _ j).trans ((rows_of (N := 2816) (d := 1024) (o := 0) (n := 2816) (by omega) h x10).trans (rows_all (N := 2816) (d := 1024) x10))
  have hg2 : ∀ h, View.readAt (Elt F) arg12.view (Rect.unit (s := S1x1024) ![0, 0] S1x1024.size h).toLoadRect (harg12.unread x11) = x11 :=
    fun h => (funext fun j => Memref.IsWhole.readAt_unread harg12 x11 _ j).trans ((rows_of (N := 1) (d := 1024) (o := 0) (n := 1) (by omega) h x11).trans (rows_all (N := 1) (d := 1024) x11))
  have hb2 : ∀ h, View.readAt (Elt F) arg13.view (Rect.unit (s := S1x1024) ![0, 0] S1x1024.size h).toLoadRect (harg13.unread x12) = x12 :=
    fun h => (funext fun j => Memref.IsWhole.readAt_unread harg13 x12 _ j).trans ((rows_of (N := 1) (d := 1024) (o := 0) (n := 1) (by omega) h x12).trans (rows_all (N := 1) (d := 1024) x12))
  have ha : ∀ (o : ℕ) (ho : o + 256 ≤ 512) (h), arg17.view.readCov (kernelRun0_B.sl.HS2_22 c i arg1 harg1 arg2 harg2 arg3 harg3 arg4 harg4 arg5 harg5 arg6 harg6 arg7 harg7 arg8 harg8 arg9 harg9 arg10 harg10 arg15 arg16 arg18 harg18 arg19 arg20 x0 x1 x2 x3 x4 x5 x6 x7 x8 x9 xs3) (Rect.unit (s := S512x2816) ![o, 0] S256x2816.size h).toLoadRect
      = rows (N := 512) (d := 2816) o 256 ho (ACTALL (XE (kernelRun0_B.sl.v9 i) x0 x1 x2 x3 x4 x5 x6) x7 x8 x9 (fun k => car (kernelRun0_B.sl.v9 i) (carT xs3 k))) := fun o ho h => by
    rw [View.readCov_eq_canon']
    exact (funext fun j => acts_B c i arg1 harg1 arg2 harg2 arg3 harg3 arg4 harg4 arg5 harg5 arg6 harg6 arg7 harg7 arg8 harg8 arg9 harg9 arg10 harg10 arg15 arg16 arg18 harg18 arg19 arg20 x0 x1 x2 x3 x4 x5 x6 x7 x8 x9 xs3 _).trans (rows_of (N := 512) (d := 2816) (o := o) (n := 256) ho h _)
  unfold out0_B_13
  rw [View.read_writes_junk_eq_canon]
  funext j
  refine (canon_cat (Val := Elt F) (e := .f32) (n0 := 256) (n1 := 256) (N := 512) (d := 1024) rfl _ _ _ _ j).trans ?_
  refine congrFun (congrArg₂ (cat (n0 := 256) (n1 := 256) (N := 512) (d := 1024) rfl) ?_ ?_) j
  · exact pay282_congr (ha 0 (by omega) _) (hwd _) (x1_B c arg1 harg1 arg2 harg2 arg3 harg3 arg4 harg4 arg5 harg5 arg6 harg6 arg19 arg20 x0 x1 x2 x3 x4 x5 0 256 (by omega) _) (hg2 _) (hb2 _)
  · exact pay1_congr (ha 256 (by omega) _) (congrArg k0_pay283 (hwd _)) (x1_B c arg1 harg1 arg2 harg2 arg3 harg3 arg4 harg4 arg5 harg5 arg6 harg6 arg19 arg20 x0 x1 x2 x3 x4 x5 256 256 (by omega) _) (hg2 _) (hb2 _)

end Cert.Ffn

end
-- ==== Proof.FfnFinal.lean ====
/- The feed-forward kernel's result array is the specification's, row by row. -/
module

public import proofs.«01_k».proof.Proof.FfnReads
public import proofs.«01_k».proof.Proof.FfnOutA
public import proofs.«01_k».proof.Proof.FfnOutB

@[expose] public section

set_option maxRecDepth 16384

noncomputable section

namespace Cert.Ffn

open Cert.KernelFIdeal Cert.KernelFIdeal.Gen Idealize.ShloMosaic Idealize.ShloMosaic.TcCoe Idealize.SL.Sem Idealize.ShloMosaic.StableHlo
open Cert.FfnLoads

/-- The test for a sequence's last block. -/
theorem is7 (n : ℕ) : BitVec.ofNat 32 (n % 8) = 7#32 ↔ n % 8 = 7 := by
  have h : ∀ k : Fin 8, BitVec.ofNat 32 k.val = 7#32 ↔ k.val = 7 := by decide
  exact h ⟨n % 8, Nat.mod_lt _ (by decide)⟩

/-- The test for a sequence's first block. -/
theorem is0 (n : ℕ) : BitVec.ofNat 32 (n % 8) = 0#32 ↔ n % 8 = 0 := by
  have h : ∀ k : Fin 8, BitVec.ofNat 32 k.val = 0#32 ↔ k.val = 0 := by decide
  exact h ⟨n % 8, Nat.mod_lt _ (by decide)⟩

variable (m : (ℓ : Loc nD τ sig) → Buf (Elt Ideal) ℓ) (c : Dev nD)

/-- What a point carries to the next: its last row's up projection. -/
theorem carry (t : Fin cfg0.N) (k : Fin 44) (l : Fin 128) :
    (outsAt0 m c t.val t.isLt).2 (ix3 k 7 l) = up (pK m c) (512 * t.val + 511) (col k.val l) := by
  by_cases h : t.val % 64 = 0
  · rw [outsAt0_A m c t h]
    dsimp only
    refine (sout_A (F := Ideal) ..).trans ?_
    exact hNX_row (blk m c t) _ ((v9_A t).symm ▸ is7 t.val) k.val l
  · rw [outsAt0_B m c t h]
    dsimp only
    refine (sout_B (F := Ideal) ..).trans ?_
    exact hNX_row (blk m c t) _ ((v9_B t).symm ▸ is7 t.val) k.val l

/-- The rows a point starts from, over what the point before carried. -/
theorem carried (t : Fin cfg0.N) (h : ¬ t.val % 64 = 0) (k : ℕ) (hk : k < 44) (l : Fin 128) :
    car (F := Ideal) (kernelRun0_B.sl.v9 (grid0.coords t)) (carT (outsAt0 m c (t.val - 1) (Nat.lt_of_le_of_lt (Nat.sub_le _ _) t.isLt)).2 k) (ix3 0 7 l)
      = if t.val % 8 = 0 then (0 : EReal) else up (pK m c) (512 * t.val - 1) (col k l) := by
  rw [v9_B t]
  by_cases h8 : t.val % 8 = 0
  · rw [if_pos h8, car_zero ((is0 t.val).mpr h8)]
    exact ZT_at _
  · rw [if_neg h8]
    refine (car_at _ (fun hh => h8 ((is0 t.val).mp hh)) _ _ _).trans ?_
    have hl := Nat.lt_of_le_of_lt (Nat.sub_le t.val 1) t.isLt
    have e := carry m c ⟨t.val - 1, hl⟩ ⟨k, hk⟩ l
    have e1 : 512 * (t.val - 1) + 511 = 512 * t.val - 1 := by omega
    rw [← e1]
    refine Eq.trans ?_ e
    unfold carT
    refine congrArg _ ?_
    funext a
    refine Fin.ext ?_
    match a with
    | ⟨0, _⟩ => exact Nat.mod_eq_of_lt hk
    | ⟨1, _⟩ => rfl
    | ⟨2, _⟩ => rfl

/-- A point's output row. -/
theorem point_at (t : Fin cfg0.N) (r : Fin 512) (k : Fin 1024) :
    (outsAt0 m c t.val t.isLt).1 (ix2 r k) = out (pK m c) (512 * t.val + r.val) k := by
  by_cases h : t.val % 64 = 0
  · have h8 : t.val % 8 = 0 := by omega
    rw [outsAt0_A m c t h]
    dsimp only
    refine (congrFun (out_A (F := Ideal) (h9 := (v9_A t).trans ((is0 t.val).mpr h8)) ..) (ix2 r k)).trans ?_
    refine fin_row (blk m c t) _ ((v9_A t).symm ▸ is7 t.val) _ (fun k' _ l => ?_) r k
    rw [if_pos h8]
    exact ZT_at _
  · rw [outsAt0_B m c t h]
    dsimp only
    refine (congrFun (out_B (F := Ideal) ..) (ix2 r k)).trans ?_
    exact fin_row (blk m c t) _ ((v9_B t).symm ▸ is7 t.val) _ (fun k' hk l => carried m c t h k' hk l) r k

/-- The specification's result. -/
def OUTK (p : P) : FVec Ideal S32768x1024 .f32 := fun i => out p (i 0).val (i 1)

/-- The same, at any index of the result with the row's place. -/
theorem point_idx (t : Fin cfg0.N) (y : S512x1024.Idx) (i : S32768x1024.Idx) (e0 : (i 0).val = 512 * t.val + (y 0).val) (e1 : (i 1).val = (y 1).val) :
    (outsAt0 m c t.val t.isLt).1 y = OUTK (pK m c) i := by
  have ey : y = ix2 (y 0) (y 1) := by
    funext a
    match a with
    | ⟨0, _⟩ => rfl
    | ⟨1, _⟩ => rfl
  refine (congrArg (outsAt0 m c t.val t.isLt).1 ey).trans ((point_at m c t (y 0) (y 1)).trans ?_)
  unfold OUTK
  rw [e0]
  exact congrArg (out (pK m c) _) (Fin.ext e1.symm)

/-- The kernel's result array. -/
theorem final : (dats m 0 c).arrAt 13 cfg0.N = OUTK (pK m c) := by
  refine (dats m 0 c).arrAt_eq_of_covers 13 _ (by decide +kernel) fun t _ y => ?_
  blk_simp
  rw [after0_13]
  exact point_idx m c t _ _ (by blk_simp [idxA t]; try omega) (by blk_simp [idxA t])

end Cert.Ffn

end
-- ==== Proof.Ffn1ActsB.lean ====
/- The activations the feed-forward kernel without the mixer holds in its scratch at a point (case B of its body): 22
   tiles of 128 lanes. -/
module

public import proofs.«01_k».proof.Proof.Ffn1Defs

@[expose] public section

set_option maxRecDepth 16384
set_option maxHeartbeats 2000000

noncomputable section

namespace Cert.Ffn1

open Cert.KernelGIdeal Cert.KernelGIdeal.Gen Idealize.ShloMosaic Idealize.ShloMosaic.TcCoe Idealize.SL.Sem
open Cert.FfnLoads
open Cert.Ffn (rows idx_rows rows_of rows_all load_rows offw kg)

variable {F : FTy → Type} [FloatOps F]
variable (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S528x1024 .bf16) (harg10 : arg10.IsWhole) (arg11 : Memref sig .tc .vmem S4x544x128 .f32) (harg11 : arg11.IsWhole) (arg12 : Memref sig .tc .vmem S512x2816 .bf16) (harg12 : arg12.IsWhole) (arg13 : Memref sig .tc .vmem S44x8x128 .f32) (harg13 : arg13.IsWhole) (hc0 : ¬cond0_0 i)
    (x0 : Vec F S512x1024 .f32) (x1 : Vec F S16x1024 .f32) (x2 : Vec F S1024x5632 .bf16) (x3 : Vec F S3x5632 .f32) (x4 : Vec F S1x5632 .f32) (x5 : Vec F S2816x1024 .bf16) (x6 : Vec F S1x1024 .f32) (x7 : Vec F S1x1024 .f32) (xs3 : Vec F S44x8x128 .f32)

/-- The next rows' payload tests the point's place in its sequence. -/
theorem nx_B (i : grid0.Coords) (v : Vec F S16x1024 .f32) : k0_pay3 i v = nx (kernelRun0_B.sl.v9 i) v := rfl

/-- The rows' scratch, read whole. -/
theorem xe_B : kernelRun0_B.sl.v28 c i arg1 harg1 arg2 harg2 arg10 x0 x1 = (XE (kernelRun0_B.sl.v9 i) x0 x1) := by
  have hx : ∀ h, View.readAt (Elt F) arg1.view (Rect.unit (s := S512x1024) ![0, 0] S512x1024.size h).toLoadRect (harg1.unread x0) = x0 :=
    fun h => (funext fun j => Memref.IsWhole.readAt_unread harg1 x0 _ j).trans ((rows_of (N := 512) (d := 1024) (o := 0) (n := 512) (by omega) h x0).trans (rows_all (N := 512) (d := 1024) x0))
  have hxn : ∀ h, View.readAt (Elt F) arg2.view (Rect.unit (s := S16x1024) ![0, 0] S16x1024.size h).toLoadRect (harg2.unread x1) = x1 :=
    fun h => (funext fun j => Memref.IsWhole.readAt_unread harg2 x1 _ j).trans ((rows_of (N := 16) (d := 1024) (o := 0) (n := 16) (by omega) h x1).trans (rows_all (N := 16) (d := 1024) x1))
  refine ((load_rows (n0 := 512) (n1 := 16) (N := 528) (d := 1024) (o := 0) (n := 528) rfl (by omega) _ _ _ _ _ _).trans (rows_all (N := 528) (d := 1024) _)).trans ?_
  exact congrArg₂ (cat (n0 := 512) (n1 := 16) (N := 528) (d := 1024) rfl) (congrArg k0_pay2 (hx _)) ((congrArg (k0_pay3 i) (hxn _)).trans (nx_B i x1))

/-- Every tile of the activations' scratch is the gated product of its two convolutions. -/
theorem acts_B (y : S512x2816.Idx) : View.canon (Val := Elt F) (e := .bf16) (kernelRun0_B.sl.HS2_22 c i arg1 harg1 arg2 harg2 arg3 harg3 arg4 harg4 arg5 harg5 arg10 arg11 arg13 harg13 x0 x1 x2 x3 x4 xs3) y
    = ACTALL (XE (kernelRun0_B.sl.v9 i) x0 x1) x2 x3 x4 (fun k => car (kernelRun0_B.sl.v9 i) (carT xs3 k)) y := by
  have hcb : ∀ (o : ℕ) (_ : o + 128 ≤ 5632) (h), View.readAt (Elt F) arg5.view (Rect.unit (s := S1x5632) ![0, o] S1x128.size h).toLoadRect (harg5.unread x4) = cbT x4 o :=
    fun o ho h => funext fun x => (Memref.IsWhole.readAt_unread harg5 x4 _ x).trans (congrArg x4 (cb_idx o ho h x))
  have hcw : ∀ (r : Fin 3) (o : ℕ) (_ : o + 128 ≤ 5632) (h), View.readAt (Elt F) arg4.view (Rect.unit (s := S3x5632) ![r.val, o] S1x128.size h).toLoadRect (harg4.unread x3) = cwT x3 r o :=
    fun r o ho h => funext fun x => (Memref.IsWhole.readAt_unread harg4 x3 _ x).trans (congrArg x3 (cw_idx r o ho h x))
  have hw : ∀ (o : ℕ) (_ : o + 256 ≤ 5632) (h), View.readAt (Elt F) arg3.view (Rect.unit (s := S1024x5632) ![0, o] S1024x256.size h).toLoadRect (harg3.unread x2) = wT x2 o :=
    fun o ho h => funext fun x => (Memref.IsWhole.readAt_unread harg3 x2 _ x).trans (congrArg x2 (w_idx o ho h x))
  have hcar : ∀ (k : ℕ) (_ : k < 44) (h), View.readAt (Elt F) arg13.view (Rect.unit (s := S44x8x128) ![k, 0, 0] S1x8x128.size h).toLoadRect (harg13.unread xs3) = carT xs3 k :=
    fun k hk h => funext fun x => (Memref.IsWhole.readAt_unread harg13 xs3 _ x).trans (congrArg xs3 (car_idx k hk h x))
  have hxe := xe_B c i arg1 harg1 arg2 harg2 arg10 x0 x1
  have hlt : (y 1).val < 128 * (21 + 1) := (y 1).isLt
  revert y
  show ∀ y : SA.Idx, (y 1).val < 128 * (21 + 1) → View.canon (Val := Elt F) (e := .bf16) _ y = (ACT (XE (kernelRun0_B.sl.v9 i) x0 x1) x2 x3 x4 (fun k => car (kernelRun0_B.sl.v9 i) (carT xs3 k))) ((y 1).val / 128) (ix2 (y 0) ⟨(y 1).val % 128, Nat.mod_lt _ (by decide)⟩)
  refine act_step (Val := Elt F) (e := .bf16) (ACT (XE (kernelRun0_B.sl.v9 i) x0 x1) x2 x3 x4 (fun k => car (kernelRun0_B.sl.v9 i) (carT xs3 k))) 21 2688 rfl ?_ ?_
  · dsimp only [k0_pay265, k0_pay266, k0_pay267, k0_pay268, k0_pay269, k0_pay270, k0_pay271, k0_pay272, kernelRun0_B.sl.r_105, kernelRun0_B.sl.r_106, kernelRun0_B.sl.r_107, kernelRun0_B.sl.r_108, kernelRun0_B.sl.r_109, kernelRun0_B.sl.r_110]
    exact act_of 21 (hcb 2688 (by omega) _) ((conv1 _ _ _ _ _ _ _ _ _ _ _ _ _ _ 0 _).trans (hcat_congr (congrArg (car (kernelRun0_B.sl.v9 i)) (hcar 41 (by omega) _)) (hX_odd 41 (by decide) hxe (hw 2560 (by omega) _)))) (hcw 0 2688 (by omega) _) ((conv1 _ _ _ _ _ _ _ _ _ _ _ _ _ _ 1 _).trans (hcat_congr (congrArg (car (kernelRun0_B.sl.v9 i)) (hcar 41 (by omega) _)) (hX_odd 41 (by decide) hxe (hw 2560 (by omega) _)))) (hcw 1 2688 (by omega) _) ((conv1 _ _ _ _ _ _ _ _ _ _ _ _ _ _ 2 _).trans (hcat_congr (congrArg (car (kernelRun0_B.sl.v9 i)) (hcar 41 (by omega) _)) (hX_odd 41 (by decide) hxe (hw 2560 (by omega) _)))) (hcw 2 2688 (by omega) _)
      (hcb 5504 (by omega) _) ((conv3 _ _ _ _ _ _ 0 _).trans (hcat_congr (congrArg (car (kernelRun0_B.sl.v9 i)) (hcar 43 (by omega) _)) (hX_odd 43 (by decide) hxe (hw 5376 (by omega) _)))) (hcw 0 5504 (by omega) _) ((conv3 _ _ _ _ _ _ 1 _).trans (hcat_congr (congrArg (car (kernelRun0_B.sl.v9 i)) (hcar 43 (by omega) _)) (hX_odd 43 (by decide) hxe (hw 5376 (by omega) _)))) (hcw 1 5504 (by omega) _) ((conv3 _ _ _ _ _ _ 2 _).trans (hcat_congr (congrArg (car (kernelRun0_B.sl.v9 i)) (hcar 43 (by omega) _)) (hX_odd 43 (by decide) hxe (hw 5376 (by omega) _)))) (hcw 2 5504 (by omega) _)
  refine act_step (Val := Elt F) (e := .bf16) (ACT (XE (kernelRun0_B.sl.v9 i) x0 x1) x2 x3 x4 (fun k => car (kernelRun0_B.sl.v9 i) (carT xs3 k))) 20 2560 rfl ?_ ?_
  · dsimp only [k0_pay261, k0_pay262, k0_pay263, k0_pay264, kernelRun0_B.sl.r_102, kernelRun0_B.sl.r_103, kernelRun0_B.sl.r_104]
    exact act_of 20 (hcb 2560 (by omega) _) ((conv0 _ _ _ _ _ _ _ _ _ _ _ _ _ _ _ _ _ _ 0 _).trans (hcat_congr (congrArg (car (kernelRun0_B.sl.v9 i)) (hcar 40 (by omega) _)) (hX_even 40 (by decide) hxe (hw 2560 (by omega) _)))) (hcw 0 2560 (by omega) _) ((conv0 _ _ _ _ _ _ _ _ _ _ _ _ _ _ _ _ _ _ 1 _).trans (hcat_congr (congrArg (car (kernelRun0_B.sl.v9 i)) (hcar 40 (by omega) _)) (hX_even 40 (by decide) hxe (hw 2560 (by omega) _)))) (hcw 1 2560 (by omega) _) ((conv0 _ _ _ _ _ _ _ _ _ _ _ _ _ _ _ _ _ _ 2 _).trans (hcat_congr (congrArg (car (kernelRun0_B.sl.v9 i)) (hcar 40 (by omega) _)) (hX_even 40 (by decide) hxe (hw 2560 (by omega) _)))) (hcw 2 2560 (by omega) _)
      (hcb 5376 (by omega) _) ((conv2 _ _ _ _ _ _ _ _ _ _ 0 _).trans (hcat_congr (congrArg (car (kernelRun0_B.sl.v9 i)) (hcar 42 (by omega) _)) (hX_even 42 (by decide) hxe (hw 5376 (by omega) _)))) (hcw 0 5376 (by omega) _) ((conv2 _ _ _ _ _ _ _ _ _ _ 1 _).trans (hcat_congr (congrArg (car (kernelRun0_B.sl.v9 i)) (hcar 42 (by omega) _)) (hX_even 42 (by decide) hxe (hw 5376 (by omega) _)))) (hcw 1 5376 (by omega) _) ((conv2 _ _ _ _ _ _ _ _ _ _ 2 _).trans (hcat_congr (congrArg (car (kernelRun0_B.sl.v9 i)) (hcar 42 (by omega) _)) (hX_even 42 (by decide) hxe (hw 5376 (by omega) _)))) (hcw 2 5376 (by omega) _)
  refine act_step (Val := Elt F) (e := .bf16) (ACT (XE (kernelRun0_B.sl.v9 i) x0 x1) x2 x3 x4 (fun k => car (kernelRun0_B.sl.v9 i) (carT xs3 k))) 19 2432 rfl ?_ ?_
  · dsimp only [k0_pay241, k0_pay242, k0_pay243, k0_pay244, kernelRun0_B.sl.r_95, kernelRun0_B.sl.r_96, kernelRun0_B.sl.r_97]
    exact act_of 19 (hcb 2432 (by omega) _) ((conv1 _ _ _ _ _ _ _ _ _ _ _ _ _ _ 0 _).trans (hcat_congr (congrArg (car (kernelRun0_B.sl.v9 i)) (hcar 37 (by omega) _)) (hX_odd 37 (by decide) hxe (hw 2304 (by omega) _)))) (hcw 0 2432 (by omega) _) ((conv1 _ _ _ _ _ _ _ _ _ _ _ _ _ _ 1 _).trans (hcat_congr (congrArg (car (kernelRun0_B.sl.v9 i)) (hcar 37 (by omega) _)) (hX_odd 37 (by decide) hxe (hw 2304 (by omega) _)))) (hcw 1 2432 (by omega) _) ((conv1 _ _ _ _ _ _ _ _ _ _ _ _ _ _ 2 _).trans (hcat_congr (congrArg (car (kernelRun0_B.sl.v9 i)) (hcar 37 (by omega) _)) (hX_odd 37 (by decide) hxe (hw 2304 (by omega) _)))) (hcw 2 2432 (by omega) _)
      (hcb 5248 (by omega) _) ((conv3 _ _ _ _ _ _ 0 _).trans (hcat_congr (congrArg (car (kernelRun0_B.sl.v9 i)) (hcar 39 (by omega) _)) (hX_odd 39 (by decide) hxe (hw 5120 (by omega) _)))) (hcw 0 5248 (by omega) _) ((conv3 _ _ _ _ _ _ 1 _).trans (hcat_congr (congrArg (car (kernelRun0_B.sl.v9 i)) (hcar 39 (by omega) _)) (hX_odd 39 (by decide) hxe (hw 5120 (by omega) _)))) (hcw 1 5248 (by omega) _) ((conv3 _ _ _ _ _ _ 2 _).trans (hcat_congr (congrArg (car (kernelRun0_B.sl.v9 i)) (hcar 39 (by omega) _)) (hX_odd 39 (by decide) hxe (hw 5120 (by omega) _)))) (hcw 2 5248 (by omega) _)
  refine act_step (Val := Elt F) (e := .bf16) (ACT (XE (kernelRun0_B.sl.v9 i) x0 x1) x2 x3 x4 (fun k => car (kernelRun0_B.sl.v9 i) (carT xs3 k))) 18 2304 rfl ?_ ?_
  · dsimp only [k0_pay239, k0_pay240, kernelRun0_B.sl.r_94]
    exact act_of 18 (hcb 2304 (by omega) _) ((conv0 _ _ _ _ _ _ _ _ _ _ _ _ _ _ _ _ _ _ 0 _).trans (hcat_congr (congrArg (car (kernelRun0_B.sl.v9 i)) (hcar 36 (by omega) _)) (hX_even 36 (by decide) hxe (hw 2304 (by omega) _)))) (hcw 0 2304 (by omega) _) ((conv0 _ _ _ _ _ _ _ _ _ _ _ _ _ _ _ _ _ _ 1 _).trans (hcat_congr (congrArg (car (kernelRun0_B.sl.v9 i)) (hcar 36 (by omega) _)) (hX_even 36 (by decide) hxe (hw 2304 (by omega) _)))) (hcw 1 2304 (by omega) _) ((conv0 _ _ _ _ _ _ _ _ _ _ _ _ _ _ _ _ _ _ 2 _).trans (hcat_congr (congrArg (car (kernelRun0_B.sl.v9 i)) (hcar 36 (by omega) _)) (hX_even 36 (by decide) hxe (hw 2304 (by omega) _)))) (hcw 2 2304 (by omega) _)
      (hcb 5120 (by omega) _) ((conv2 _ _ _ _ _ _ _ _ _ _ 0 _).trans (hcat_congr (congrArg (car (kernelRun0_B.sl.v9 i)) (hcar 38 (by omega) _)) (hX_even 38 (by decide) hxe (hw 5120 (by omega) _)))) (hcw 0 5120 (by omega) _) ((conv2 _ _ _ _ _ _ _ _ _ _ 1 _).trans (hcat_congr (congrArg (car (kernelRun0_B.sl.v9 i)) (hcar 38 (by omega) _)) (hX_even 38 (by decide) hxe (hw 5120 (by omega) _)))) (hcw 1 5120 (by omega) _) ((conv2 _ _ _ _ _ _ _ _ _ _ 2 _).trans (hcat_congr (congrArg (car (kernelRun0_B.sl.v9 i)) (hcar 38 (by omega) _)) (hX_even 38 (by decide) hxe (hw 5120 (by omega) _)))) (hcw 2 5120 (by omega) _)
  refine act_step (Val := Elt F) (e := .bf16) (ACT (XE (kernelRun0_B.sl.v9 i) x0 x1) x2 x3 x4 (fun k => car (kernelRun0_B.sl.v9 i) (carT xs3 k))) 17 2176 rfl ?_ ?_
  · dsimp only [k0_pay220, k0_pay221, k0_pay222, kernelRun0_B.sl.r_88, kernelRun0_B.sl.r_89]
    exact act_of 17 (hcb 2176 (by omega) _) ((conv1 _ _ _ _ _ _ _ _ _ _ _ _ _ _ 0 _).trans (hcat_congr (congrArg (car (kernelRun0_B.sl.v9 i)) (hcar 33 (by omega) _)) (hX_odd 33 (by decide) hxe (hw 2048 (by omega) _)))) (hcw 0 2176 (by omega) _) ((conv1 _ _ _ _ _ _ _ _ _ _ _ _ _ _ 1 _).trans (hcat_congr (congrArg (car (kernelRun0_B.sl.v9 i)) (hcar 33 (by omega) _)) (hX_odd 33 (by decide) hxe (hw 2048 (by omega) _)))) (hcw 1 2176 (by omega) _) ((conv1 _ _ _ _ _ _ _ _ _ _ _ _ _ _ 2 _).trans (hcat_congr (congrArg (car (kernelRun0_B.sl.v9 i)) (hcar 33 (by omega) _)) (hX_odd 33 (by decide) hxe (hw 2048 (by omega) _)))) (hcw 2 2176 (by omega) _)
      (hcb 4992 (by omega) _) ((conv3 _ _ _ _ _ _ 0 _).trans (hcat_congr (congrArg (car (kernelRun0_B.sl.v9 i)) (hcar 35 (by omega) _)) (hX_odd 35 (by decide) hxe (hw 4864 (by omega) _)))) (hcw 0 4992 (by omega) _) ((conv3 _ _ _ _ _ _ 1 _).trans (hcat_congr (congrArg (car (kernelRun0_B.sl.v9 i)) (hcar 35 (by omega) _)) (hX_odd 35 (by decide) hxe (hw 4864 (by omega) _)))) (hcw 1 4992 (by omega) _) ((conv3 _ _ _ _ _ _ 2 _).trans (hcat_congr (congrArg (car (kernelRun0_B.sl.v9 i)) (hcar 35 (by omega) _)) (hX_odd 35 (by decide) hxe (hw 4864 (by omega) _)))) (hcw 2 4992 (by omega) _)
  refine act_step (Val := Elt F) (e := .bf16) (ACT (XE (kernelRun0_B.sl.v9 i) x0 x1) x2 x3 x4 (fun k => car (kernelRun0_B.sl.v9 i) (carT xs3 k))) 16 2048 rfl ?_ ?_
  · dsimp only [k0_pay215, k0_pay216, k0_pay217, k0_pay218, k0_pay219, kernelRun0_B.sl.r_84, kernelRun0_B.sl.r_85, kernelRun0_B.sl.r_86, kernelRun0_B.sl.r_87]
    exact act_of 16 (hcb 2048 (by omega) _) ((conv0 _ _ _ _ _ _ _ _ _ _ _ _ _ _ _ _ _ _ 0 _).trans (hcat_congr (congrArg (car (kernelRun0_B.sl.v9 i)) (hcar 32 (by omega) _)) (hX_even 32 (by decide) hxe (hw 2048 (by omega) _)))) (hcw 0 2048 (by omega) _) ((conv0 _ _ _ _ _ _ _ _ _ _ _ _ _ _ _ _ _ _ 1 _).trans (hcat_congr (congrArg (car (kernelRun0_B.sl.v9 i)) (hcar 32 (by omega) _)) (hX_even 32 (by decide) hxe (hw 2048 (by omega) _)))) (hcw 1 2048 (by omega) _) ((conv0 _ _ _ _ _ _ _ _ _ _ _ _ _ _ _ _ _ _ 2 _).trans (hcat_congr (congrArg (car (kernelRun0_B.sl.v9 i)) (hcar 32 (by omega) _)) (hX_even 32 (by decide) hxe (hw 2048 (by omega) _)))) (hcw 2 2048 (by omega) _)
      (hcb 4864 (by omega) _) ((conv2 _ _ _ _ _ _ _ _ _ _ 0 _).trans (hcat_congr (congrArg (car (kernelRun0_B.sl.v9 i)) (hcar 34 (by omega) _)) (hX_even 34 (by decide) hxe (hw 4864 (by omega) _)))) (hcw 0 4864 (by omega) _) ((conv2 _ _ _ _ _ _ _ _ _ _ 1 _).trans (hcat_congr (congrArg (car (kernelRun0_B.sl.v9 i)) (hcar 34 (by omega) _)) (hX_even 34 (by decide) hxe (hw 4864 (by omega) _)))) (hcw 1 4864 (by omega) _) ((conv2 _ _ _ _ _ _ _ _ _ _ 2 _).trans (hcat_congr (congrArg (car (kernelRun0_B.sl.v9 i)) (hcar 34 (by omega) _)) (hX_even 34 (by decide) hxe (hw 4864 (by omega) _)))) (hcw 2 4864 (by omega) _)
  refine act_step (Val := Elt F) (e := .bf16) (ACT (XE (kernelRun0_B.sl.v9 i) x0 x1) x2 x3 x4 (fun k => car (kernelRun0_B.sl.v9 i) (carT xs3 k))) 15 1920 rfl ?_ ?_
  · dsimp only [k0_pay192, k0_pay193, k0_pay194, k0_pay195, k0_pay196, k0_pay197, k0_pay198, k0_pay199, kernelRun0_B.sl.r_75, kernelRun0_B.sl.r_76, kernelRun0_B.sl.r_77, kernelRun0_B.sl.r_78, kernelRun0_B.sl.r_79, kernelRun0_B.sl.r_80]
    exact act_of 15 (hcb 1920 (by omega) _) ((conv1 _ _ _ _ _ _ _ _ _ _ _ _ _ _ 0 _).trans (hcat_congr (congrArg (car (kernelRun0_B.sl.v9 i)) (hcar 29 (by omega) _)) (hX_odd 29 (by decide) hxe (hw 1792 (by omega) _)))) (hcw 0 1920 (by omega) _) ((conv1 _ _ _ _ _ _ _ _ _ _ _ _ _ _ 1 _).trans (hcat_congr (congrArg (car (kernelRun0_B.sl.v9 i)) (hcar 29 (by omega) _)) (hX_odd 29 (by decide) hxe (hw 1792 (by omega) _)))) (hcw 1 1920 (by omega) _) ((conv1 _ _ _ _ _ _ _ _ _ _ _ _ _ _ 2 _).trans (hcat_congr (congrArg (car (kernelRun0_B.sl.v9 i)) (hcar 29 (by omega) _)) (hX_odd 29 (by decide) hxe (hw 1792 (by omega) _)))) (hcw 2 1920 (by omega) _)
      (hcb 4736 (by omega) _) ((conv3 _ _ _ _ _ _ 0 _).trans (hcat_congr (congrArg (car (kernelRun0_B.sl.v9 i)) (hcar 31 (by omega) _)) (hX_odd 31 (by decide) hxe (hw 4608 (by omega) _)))) (hcw 0 4736 (by omega) _) ((conv3 _ _ _ _ _ _ 1 _).trans (hcat_congr (congrArg (car (kernelRun0_B.sl.v9 i)) (hcar 31 (by omega) _)) (hX_odd 31 (by decide) hxe (hw 4608 (by omega) _)))) (hcw 1 4736 (by omega) _) ((conv3 _ _ _ _ _ _ 2 _).trans (hcat_congr (congrArg (car (kernelRun0_B.sl.v9 i)) (hcar 31 (by omega) _)) (hX_odd 31 (by decide) hxe (hw 4608 (by omega) _)))) (hcw 2 4736 (by omega) _)
  refine act_step (Val := Elt F) (e := .bf16) (ACT (XE (kernelRun0_B.sl.v9 i) x0 x1) x2 x3 x4 (fun k => car (kernelRun0_B.sl.v9 i) (carT xs3 k))) 14 1792 rfl ?_ ?_
  · dsimp only [k0_pay188, k0_pay189, k0_pay190, k0_pay191, kernelRun0_B.sl.r_72, kernelRun0_B.sl.r_73, kernelRun0_B.sl.r_74]
    exact act_of 14 (hcb 1792 (by omega) _) ((conv0 _ _ _ _ _ _ _ _ _ _ _ _ _ _ _ _ _ _ 0 _).trans (hcat_congr (congrArg (car (kernelRun0_B.sl.v9 i)) (hcar 28 (by omega) _)) (hX_even 28 (by decide) hxe (hw 1792 (by omega) _)))) (hcw 0 1792 (by omega) _) ((conv0 _ _ _ _ _ _ _ _ _ _ _ _ _ _ _ _ _ _ 1 _).trans (hcat_congr (congrArg (car (kernelRun0_B.sl.v9 i)) (hcar 28 (by omega) _)) (hX_even 28 (by decide) hxe (hw 1792 (by omega) _)))) (hcw 1 1792 (by omega) _) ((conv0 _ _ _ _ _ _ _ _ _ _ _ _ _ _ _ _ _ _ 2 _).trans (hcat_congr (congrArg (car (kernelRun0_B.sl.v9 i)) (hcar 28 (by omega) _)) (hX_even 28 (by decide) hxe (hw 1792 (by omega) _)))) (hcw 2 1792 (by omega) _)
      (hcb 4608 (by omega) _) ((conv2 _ _ _ _ _ _ _ _ _ _ 0 _).trans (hcat_congr (congrArg (car (kernelRun0_B.sl.v9 i)) (hcar 30 (by omega) _)) (hX_even 30 (by decide) hxe (hw 4608 (by omega) _)))) (hcw 0 4608 (by omega) _) ((conv2 _ _ _ _ _ _ _ _ _ _ 1 _).trans (hcat_congr (congrArg (car (kernelRun0_B.sl.v9 i)) (hcar 30 (by omega) _)) (hX_even 30 (by decide) hxe (hw 4608 (by omega) _)))) (hcw 1 4608 (by omega) _) ((conv2 _ _ _ _ _ _ _ _ _ _ 2 _).trans (hcat_congr (congrArg (car (kernelRun0_B.sl.v9 i)) (hcar 30 (by omega) _)) (hX_even 30 (by decide) hxe (hw 4608 (by omega) _)))) (hcw 2 4608 (by omega) _)
  refine act_step (Val := Elt F) (e := .bf16) (ACT (XE (kernelRun0_B.sl.v9 i) x0 x1) x2 x3 x4 (fun k => car (kernelRun0_B.sl.v9 i) (carT xs3 k))) 13 1664 rfl ?_ ?_
  · dsimp only [k0_pay168, k0_pay169, k0_pay170, k0_pay171, kernelRun0_B.sl.r_65, kernelRun0_B.sl.r_66, kernelRun0_B.sl.r_67]
    exact act_of 13 (hcb 1664 (by omega) _) ((conv1 _ _ _ _ _ _ _ _ _ _ _ _ _ _ 0 _).trans (hcat_congr (congrArg (car (kernelRun0_B.sl.v9 i)) (hcar 25 (by omega) _)) (hX_odd 25 (by decide) hxe (hw 1536 (by omega) _)))) (hcw 0 1664 (by omega) _) ((conv1 _ _ _ _ _ _ _ _ _ _ _ _ _ _ 1 _).trans (hcat_congr (congrArg (car (kernelRun0_B.sl.v9 i)) (hcar 25 (by omega) _)) (hX_odd 25 (by decide) hxe (hw 1536 (by omega) _)))) (hcw 1 1664 (by omega) _) ((conv1 _ _ _ _ _ _ _ _ _ _ _ _ _ _ 2 _).trans (hcat_congr (congrArg (car (kernelRun0_B.sl.v9 i)) (hcar 25 (by omega) _)) (hX_odd 25 (by decide) hxe (hw 1536 (by omega) _)))) (hcw 2 1664 (by omega) _)
      (hcb 4480 (by omega) _) ((conv3 _ _ _ _ _ _ 0 _).trans (hcat_congr (congrArg (car (kernelRun0_B.sl.v9 i)) (hcar 27 (by omega) _)) (hX_odd 27 (by decide) hxe (hw 4352 (by omega) _)))) (hcw 0 4480 (by omega) _) ((conv3 _ _ _ _ _ _ 1 _).trans (hcat_congr (congrArg (car (kernelRun0_B.sl.v9 i)) (hcar 27 (by omega) _)) (hX_odd 27 (by decide) hxe (hw 4352 (by omega) _)))) (hcw 1 4480 (by omega) _) ((conv3 _ _ _ _ _ _ 2 _).trans (hcat_congr (congrArg (car (kernelRun0_B.sl.v9 i)) (hcar 27 (by omega) _)) (hX_odd 27 (by decide) hxe (hw 4352 (by omega) _)))) (hcw 2 4480 (by omega) _)
  refine act_step (Val := Elt F) (e := .bf16) (ACT (XE (kernelRun0_B.sl.v9 i) x0 x1) x2 x3 x4 (fun k => car (kernelRun0_B.sl.v9 i) (carT xs3 k))) 12 1536 rfl ?_ ?_
  · dsimp only [k0_pay166, k0_pay167, kernelRun0_B.sl.r_64]
    exact act_of 12 (hcb 1536 (by omega) _) ((conv0 _ _ _ _ _ _ _ _ _ _ _ _ _ _ _ _ _ _ 0 _).trans (hcat_congr (congrArg (car (kernelRun0_B.sl.v9 i)) (hcar 24 (by omega) _)) (hX_even 24 (by decide) hxe (hw 1536 (by omega) _)))) (hcw 0 1536 (by omega) _) ((conv0 _ _ _ _ _ _ _ _ _ _ _ _ _ _ _ _ _ _ 1 _).trans (hcat_congr (congrArg (car (kernelRun0_B.sl.v9 i)) (hcar 24 (by omega) _)) (hX_even 24 (by decide) hxe (hw 1536 (by omega) _)))) (hcw 1 1536 (by omega) _) ((conv0 _ _ _ _ _ _ _ _ _ _ _ _ _ _ _ _ _ _ 2 _).trans (hcat_congr (congrArg (car (kernelRun0_B.sl.v9 i)) (hcar 24 (by omega) _)) (hX_even 24 (by decide) hxe (hw 1536 (by omega) _)))) (hcw 2 1536 (by omega) _)
      (hcb 4352 (by omega) _) ((conv2 _ _ _ _ _ _ _ _ _ _ 0 _).trans (hcat_congr (congrArg (car (kernelRun0_B.sl.v9 i)) (hcar 26 (by omega) _)) (hX_even 26 (by decide) hxe (hw 4352 (by omega) _)))) (hcw 0 4352 (by omega) _) ((conv2 _ _ _ _ _ _ _ _ _ _ 1 _).trans (hcat_congr (congrArg (car (kernelRun0_B.sl.v9 i)) (hcar 26 (by omega) _)) (hX_even 26 (by decide) hxe (hw 4352 (by omega) _)))) (hcw 1 4352 (by omega) _) ((conv2 _ _ _ _ _ _ _ _ _ _ 2 _).trans (hcat_congr (congrArg (car (kernelRun0_B.sl.v9 i)) (hcar 26 (by omega) _)) (hX_even 26 (by decide) hxe (hw 4352 (by omega) _)))) (hcw 2 4352 (by omega) _)
  refine act_step (Val := Elt F) (e := .bf16) (ACT (XE (kernelRun0_B.sl.v9 i) x0 x1) x2 x3 x4 (fun k => car (kernelRun0_B.sl.v9 i) (carT xs3 k))) 11 1408 rfl ?_ ?_
  · dsimp only [k0_pay147, k0_pay148, k0_pay149, kernelRun0_B.sl.r_58, kernelRun0_B.sl.r_59]
    exact act_of 11 (hcb 1408 (by omega) _) ((conv1 _ _ _ _ _ _ _ _ _ _ _ _ _ _ 0 _).trans (hcat_congr (congrArg (car (kernelRun0_B.sl.v9 i)) (hcar 21 (by omega) _)) (hX_odd 21 (by decide) hxe (hw 1280 (by omega) _)))) (hcw 0 1408 (by omega) _) ((conv1 _ _ _ _ _ _ _ _ _ _ _ _ _ _ 1 _).trans (hcat_congr (congrArg (car (kernelRun0_B.sl.v9 i)) (hcar 21 (by omega) _)) (hX_odd 21 (by decide) hxe (hw 1280 (by omega) _)))) (hcw 1 1408 (by omega) _) ((conv1 _ _ _ _ _ _ _ _ _ _ _ _ _ _ 2 _).trans (hcat_congr (congrArg (car (kernelRun0_B.sl.v9 i)) (hcar 21 (by omega) _)) (hX_odd 21 (by decide) hxe (hw 1280 (by omega) _)))) (hcw 2 1408 (by omega) _)
      (hcb 4224 (by omega) _) ((conv3 _ _ _ _ _ _ 0 _).trans (hcat_congr (congrArg (car (kernelRun0_B.sl.v9 i)) (hcar 23 (by omega) _)) (hX_odd 23 (by decide) hxe (hw 4096 (by omega) _)))) (hcw 0 4224 (by omega) _) ((conv3 _ _ _ _ _ _ 1 _).trans (hcat_congr (congrArg (car (kernelRun0_B.sl.v9 i)) (hcar 23 (by omega) _)) (hX_odd 23 (by decide) hxe (hw 4096 (by omega) _)))) (hcw 1 4224 (by omega) _) ((conv3 _ _ _ _ _ _ 2 _).trans (hcat_congr (congrArg (car (kernelRun0_B.sl.v9 i)) (hcar 23 (by omega) _)) (hX_odd 23 (by decide) hxe (hw 4096 (by omega) _)))) (hcw 2 4224 (by omega) _)
  refine act_step (Val := Elt F) (e := .bf16) (ACT (XE (kernelRun0_B.sl.v9 i) x0 x1) x2 x3 x4 (fun k => car (kernelRun0_B.sl.v9 i) (carT xs3 k))) 10 1280 rfl ?_ ?_
  · dsimp only [k0_pay142, k0_pay143, k0_pay144, k0_pay145, k0_pay146, kernelRun0_B.sl.r_54, kernelRun0_B.sl.r_55, kernelRun0_B.sl.r_56, kernelRun0_B.sl.r_57]
    exact act_of 10 (hcb 1280 (by omega) _) ((conv0 _ _ _ _ _ _ _ _ _ _ _ _ _ _ _ _ _ _ 0 _).trans (hcat_congr (congrArg (car (kernelRun0_B.sl.v9 i)) (hcar 20 (by omega) _)) (hX_even 20 (by decide) hxe (hw 1280 (by omega) _)))) (hcw 0 1280 (by omega) _) ((conv0 _ _ _ _ _ _ _ _ _ _ _ _ _ _ _ _ _ _ 1 _).trans (hcat_congr (congrArg (car (kernelRun0_B.sl.v9 i)) (hcar 20 (by omega) _)) (hX_even 20 (by decide) hxe (hw 1280 (by omega) _)))) (hcw 1 1280 (by omega) _) ((conv0 _ _ _ _ _ _ _ _ _ _ _ _ _ _ _ _ _ _ 2 _).trans (hcat_congr (congrArg (car (kernelRun0_B.sl.v9 i)) (hcar 20 (by omega) _)) (hX_even 20 (by decide) hxe (hw 1280 (by omega) _)))) (hcw 2 1280 (by omega) _)
      (hcb 4096 (by omega) _) ((conv2 _ _ _ _ _ _ _ _ _ _ 0 _).trans (hcat_congr (congrArg (car (kernelRun0_B.sl.v9 i)) (hcar 22 (by omega) _)) (hX_even 22 (by decide) hxe (hw 4096 (by omega) _)))) (hcw 0 4096 (by omega) _) ((conv2 _ _ _ _ _ _ _ _ _ _ 1 _).trans (hcat_congr (congrArg (car (kernelRun0_B.sl.v9 i)) (hcar 22 (by omega) _)) (hX_even 22 (by decide) hxe (hw 4096 (by omega) _)))) (hcw 1 4096 (by omega) _) ((conv2 _ _ _ _ _ _ _ _ _ _ 2 _).trans (hcat_congr (congrArg (car (kernelRun0_B.sl.v9 i)) (hcar 22 (by omega) _)) (hX_even 22 (by decide) hxe (hw 4096 (by omega) _)))) (hcw 2 4096 (by omega) _)
  refine act_step (Val := Elt F) (e := .bf16) (ACT (XE (kernelRun0_B.sl.v9 i) x0 x1) x2 x3 x4 (fun k => car (kernelRun0_B.sl.v9 i) (carT xs3 k))) 9 1152 rfl ?_ ?_
  · dsimp only [k0_pay119, k0_pay120, k0_pay121, k0_pay122, k0_pay123, k0_pay124, k0_pay125, k0_pay126, kernelRun0_B.sl.r_45, kernelRun0_B.sl.r_46, kernelRun0_B.sl.r_47, kernelRun0_B.sl.r_48, kernelRun0_B.sl.r_49, kernelRun0_B.sl.r_50]
    exact act_of 9 (hcb 1152 (by omega) _) ((conv1 _ _ _ _ _ _ _ _ _ _ _ _ _ _ 0 _).trans (hcat_congr (congrArg (car (kernelRun0_B.sl.v9 i)) (hcar 17 (by omega) _)) (hX_odd 17 (by decide) hxe (hw 1024 (by omega) _)))) (hcw 0 1152 (by omega) _) ((conv1 _ _ _ _ _ _ _ _ _ _ _ _ _ _ 1 _).trans (hcat_congr (congrArg (car (kernelRun0_B.sl.v9 i)) (hcar 17 (by omega) _)) (hX_odd 17 (by decide) hxe (hw 1024 (by omega) _)))) (hcw 1 1152 (by omega) _) ((conv1 _ _ _ _ _ _ _ _ _ _ _ _ _ _ 2 _).trans (hcat_congr (congrArg (car (kernelRun0_B.sl.v9 i)) (hcar 17 (by omega) _)) (hX_odd 17 (by decide) hxe (hw 1024 (by omega) _)))) (hcw 2 1152 (by omega) _)
      (hcb 3968 (by omega) _) ((conv3 _ _ _ _ _ _ 0 _).trans (hcat_congr (congrArg (car (kernelRun0_B.sl.v9 i)) (hcar 19 (by omega) _)) (hX_odd 19 (by decide) hxe (hw 3840 (by omega) _)))) (hcw 0 3968 (by omega) _) ((conv3 _ _ _ _ _ _ 1 _).trans (hcat_congr (congrArg (car (kernelRun0_B.sl.v9 i)) (hcar 19 (by omega) _)) (hX_odd 19 (by decide) hxe (hw 3840 (by omega) _)))) (hcw 1 3968 (by omega) _) ((conv3 _ _ _ _ _ _ 2 _).trans (hcat_congr (congrArg (car (kernelRun0_B.sl.v9 i)) (hcar 19 (by omega) _)) (hX_odd 19 (by decide) hxe (hw 3840 (by omega) _)))) (hcw 2 3968 (by omega) _)
  refine act_step (Val := Elt F) (e := .bf16) (ACT (XE (kernelRun0_B.sl.v9 i) x0 x1) x2 x3 x4 (fun k => car (kernelRun0_B.sl.v9 i) (carT xs3 k))) 8 1024 rfl ?_ ?_
  · dsimp only [k0_pay115, k0_pay116, k0_pay117, k0_pay118, kernelRun0_B.sl.r_42, kernelRun0_B.sl.r_43, kernelRun0_B.sl.r_44]
    exact act_of 8 (hcb 1024 (by omega) _) ((conv0 _ _ _ _ _ _ _ _ _ _ _ _ _ _ _ _ _ _ 0 _).trans (hcat_congr (congrArg (car (kernelRun0_B.sl.v9 i)) (hcar 16 (by omega) _)) (hX_even 16 (by decide) hxe (hw 1024 (by omega) _)))) (hcw 0 1024 (by omega) _) ((conv0 _ _ _ _ _ _ _ _ _ _ _ _ _ _ _ _ _ _ 1 _).trans (hcat_congr (congrArg (car (kernelRun0_B.sl.v9 i)) (hcar 16 (by omega) _)) (hX_even 16 (by decide) hxe (hw 1024 (by omega) _)))) (hcw 1 1024 (by omega) _) ((conv0 _ _ _ _ _ _ _ _ _ _ _ _ _ _ _ _ _ _ 2 _).trans (hcat_congr (congrArg (car (kernelRun0_B.sl.v9 i)) (hcar 16 (by omega) _)) (hX_even 16 (by decide) hxe (hw 1024 (by omega) _)))) (hcw 2 1024 (by omega) _)
      (hcb 3840 (by omega) _) ((conv2 _ _ _ _ _ _ _ _ _ _ 0 _).trans (hcat_congr (congrArg (car (kernelRun0_B.sl.v9 i)) (hcar 18 (by omega) _)) (hX_even 18 (by decide) hxe (hw 3840 (by omega) _)))) (hcw 0 3840 (by omega) _) ((conv2 _ _ _ _ _ _ _ _ _ _ 1 _).trans (hcat_congr (congrArg (car (kernelRun0_B.sl.v9 i)) (hcar 18 (by omega) _)) (hX_even 18 (by decide) hxe (hw 3840 (by omega) _)))) (hcw 1 3840 (by omega) _) ((conv2 _ _ _ _ _ _ _ _ _ _ 2 _).trans (hcat_congr (congrArg (car (kernelRun0_B.sl.v9 i)) (hcar 18 (by omega) _)) (hX_even 18 (by decide) hxe (hw 3840 (by omega) _)))) (hcw 2 3840 (by omega) _)
  refine act_step (Val := Elt F) (e := .bf16) (ACT (XE (kernelRun0_B.sl.v9 i) x0 x1) x2 x3 x4 (fun k => car (kernelRun0_B.sl.v9 i) (carT xs3 k))) 7 896 rfl ?_ ?_
  · dsimp only [k0_pay95, k0_pay96, k0_pay97, k0_pay98, kernelRun0_B.sl.r_35, kernelRun0_B.sl.r_36, kernelRun0_B.sl.r_37]
    exact act_of 7 (hcb 896 (by omega) _) ((conv1 _ _ _ _ _ _ _ _ _ _ _ _ _ _ 0 _).trans (hcat_congr (congrArg (car (kernelRun0_B.sl.v9 i)) (hcar 13 (by omega) _)) (hX_odd 13 (by decide) hxe (hw 768 (by omega) _)))) (hcw 0 896 (by omega) _) ((conv1 _ _ _ _ _ _ _ _ _ _ _ _ _ _ 1 _).trans (hcat_congr (congrArg (car (kernelRun0_B.sl.v9 i)) (hcar 13 (by omega) _)) (hX_odd 13 (by decide) hxe (hw 768 (by omega) _)))) (hcw 1 896 (by omega) _) ((conv1 _ _ _ _ _ _ _ _ _ _ _ _ _ _ 2 _).trans (hcat_congr (congrArg (car (kernelRun0_B.sl.v9 i)) (hcar 13 (by omega) _)) (hX_odd 13 (by decide) hxe (hw 768 (by omega) _)))) (hcw 2 896 (by omega) _)
      (hcb 3712 (by omega) _) ((conv3 _ _ _ _ _ _ 0 _).trans (hcat_congr (congrArg (car (kernelRun0_B.sl.v9 i)) (hcar 15 (by omega) _)) (hX_odd 15 (by decide) hxe (hw 3584 (by omega) _)))) (hcw 0 3712 (by omega) _) ((conv3 _ _ _ _ _ _ 1 _).trans (hcat_congr (congrArg (car (kernelRun0_B.sl.v9 i)) (hcar 15 (by omega) _)) (hX_odd 15 (by decide) hxe (hw 3584 (by omega) _)))) (hcw 1 3712 (by omega) _) ((conv3 _ _ _ _ _ _ 2 _).trans (hcat_congr (congrArg (car (kernelRun0_B.sl.v9 i)) (hcar 15 (by omega) _)) (hX_odd 15 (by decide) hxe (hw 3584 (by omega) _)))) (hcw 2 3712 (by omega) _)
  refine act_step (Val := Elt F) (e := .bf16) (ACT (XE (kernelRun0_B.sl.v9 i) x0 x1) x2 x3 x4 (fun k => car (kernelRun0_B.sl.v9 i) (carT xs3 k))) 6 768 rfl ?_ ?_
  · dsimp only [k0_pay93, k0_pay94, kernelRun0_B.sl.r_34]
    exact act_of 6 (hcb 768 (by omega) _) ((conv0 _ _ _ _ _ _ _ _ _ _ _ _ _ _ _ _ _ _ 0 _).trans (hcat_congr (congrArg (car (kernelRun0_B.sl.v9 i)) (hcar 12 (by omega) _)) (hX_even 12 (by decide) hxe (hw 768 (by omega) _)))) (hcw 0 768 (by omega) _) ((conv0 _ _ _ _ _ _ _ _ _ _ _ _ _ _ _ _ _ _ 1 _).trans (hcat_congr (congrArg (car (kernelRun0_B.sl.v9 i)) (hcar 12 (by omega) _)) (hX_even 12 (by decide) hxe (hw 768 (by omega) _)))) (hcw 1 768 (by omega) _) ((conv0 _ _ _ _ _ _ _ _ _ _ _ _ _ _ _ _ _ _ 2 _).trans (hcat_congr (congrArg (car (kernelRun0_B.sl.v9 i)) (hcar 12 (by omega) _)) (hX_even 12 (by decide) hxe (hw 768 (by omega) _)))) (hcw 2 768 (by omega) _)
      (hcb 3584 (by omega) _) ((conv2 _ _ _ _ _ _ _ _ _ _ 0 _).trans (hcat_congr (congrArg (car (kernelRun0_B.sl.v9 i)) (hcar 14 (by omega) _)) (hX_even 14 (by decide) hxe (hw 3584 (by omega) _)))) (hcw 0 3584 (by omega) _) ((conv2 _ _ _ _ _ _ _ _ _ _ 1 _).trans (hcat_congr (congrArg (car (kernelRun0_B.sl.v9 i)) (hcar 14 (by omega) _)) (hX_even 14 (by decide) hxe (hw 3584 (by omega) _)))) (hcw 1 3584 (by omega) _) ((conv2 _ _ _ _ _ _ _ _ _ _ 2 _).trans (hcat_congr (congrArg (car (kernelRun0_B.sl.v9 i)) (hcar 14 (by omega) _)) (hX_even 14 (by decide) hxe (hw 3584 (by omega) _)))) (hcw 2 3584 (by omega) _)
  refine act_step (Val := Elt F) (e := .bf16) (ACT (XE (kernelRun0_B.sl.v9 i) x0 x1) x2 x3 x4 (fun k => car (kernelRun0_B.sl.v9 i) (carT xs3 k))) 5 640 rfl ?_ ?_
  · dsimp only [k0_pay74, k0_pay75, k0_pay76, kernelRun0_B.sl.r_28, kernelRun0_B.sl.r_29]
    exact act_of 5 (hcb 640 (by omega) _) ((conv1 _ _ _ _ _ _ _ _ _ _ _ _ _ _ 0 _).trans (hcat_congr (congrArg (car (kernelRun0_B.sl.v9 i)) (hcar 9 (by omega) _)) (hX_odd 9 (by decide) hxe (hw 512 (by omega) _)))) (hcw 0 640 (by omega) _) ((conv1 _ _ _ _ _ _ _ _ _ _ _ _ _ _ 1 _).trans (hcat_congr (congrArg (car (kernelRun0_B.sl.v9 i)) (hcar 9 (by omega) _)) (hX_odd 9 (by decide) hxe (hw 512 (by omega) _)))) (hcw 1 640 (by omega) _) ((conv1 _ _ _ _ _ _ _ _ _ _ _ _ _ _ 2 _).trans (hcat_congr (congrArg (car (kernelRun0_B.sl.v9 i)) (hcar 9 (by omega) _)) (hX_odd 9 (by decide) hxe (hw 512 (by omega) _)))) (hcw 2 640 (by omega) _)
      (hcb 3456 (by omega) _) ((conv3 _ _ _ _ _ _ 0 _).trans (hcat_congr (congrArg (car (kernelRun0_B.sl.v9 i)) (hcar 11 (by omega) _)) (hX_odd 11 (by decide) hxe (hw 3328 (by omega) _)))) (hcw 0 3456 (by omega) _) ((conv3 _ _ _ _ _ _ 1 _).trans (hcat_congr (congrArg (car (kernelRun0_B.sl.v9 i)) (hcar 11 (by omega) _)) (hX_odd 11 (by decide) hxe (hw 3328 (by omega) _)))) (hcw 1 3456 (by omega) _) ((conv3 _ _ _ _ _ _ 2 _).trans (hcat_congr (congrArg (car (kernelRun0_B.sl.v9 i)) (hcar 11 (by omega) _)) (hX_odd 11 (by decide) hxe (hw 3328 (by omega) _)))) (hcw 2 3456 (by omega) _)
  refine act_step (Val := Elt F) (e := .bf16) (ACT (XE (kernelRun0_B.sl.v9 i) x0 x1) x2 x3 x4 (fun k => car (kernelRun0_B.sl.v9 i) (carT xs3 k))) 4 512 rfl ?_ ?_
  · dsimp only [k0_pay69, k0_pay70, k0_pay71, k0_pay72, k0_pay73, kernelRun0_B.sl.r_24, kernelRun0_B.sl.r_25, kernelRun0_B.sl.r_26, kernelRun0_B.sl.r_27]
    exact act_of 4 (hcb 512 (by omega) _) ((conv0 _ _ _ _ _ _ _ _ _ _ _ _ _ _ _ _ _ _ 0 _).trans (hcat_congr (congrArg (car (kernelRun0_B.sl.v9 i)) (hcar 8 (by omega) _)) (hX_even 8 (by decide) hxe (hw 512 (by omega) _)))) (hcw 0 512 (by omega) _) ((conv0 _ _ _ _ _ _ _ _ _ _ _ _ _ _ _ _ _ _ 1 _).trans (hcat_congr (congrArg (car (kernelRun0_B.sl.v9 i)) (hcar 8 (by omega) _)) (hX_even 8 (by decide) hxe (hw 512 (by omega) _)))) (hcw 1 512 (by omega) _) ((conv0 _ _ _ _ _ _ _ _ _ _ _ _ _ _ _ _ _ _ 2 _).trans (hcat_congr (congrArg (car (kernelRun0_B.sl.v9 i)) (hcar 8 (by omega) _)) (hX_even 8 (by decide) hxe (hw 512 (by omega) _)))) (hcw 2 512 (by omega) _)
      (hcb 3328 (by omega) _) ((conv2 _ _ _ _ _ _ _ _ _ _ 0 _).trans (hcat_congr (congrArg (car (kernelRun0_B.sl.v9 i)) (hcar 10 (by omega) _)) (hX_even 10 (by decide) hxe (hw 3328 (by omega) _)))) (hcw 0 3328 (by omega) _) ((conv2 _ _ _ _ _ _ _ _ _ _ 1 _).trans (hcat_congr (congrArg (car (kernelRun0_B.sl.v9 i)) (hcar 10 (by omega) _)) (hX_even 10 (by decide) hxe (hw 3328 (by omega) _)))) (hcw 1 3328 (by omega) _) ((conv2 _ _ _ _ _ _ _ _ _ _ 2 _).trans (hcat_congr (congrArg (car (kernelRun0_B.sl.v9 i)) (hcar 10 (by omega) _)) (hX_even 10 (by decide) hxe (hw 3328 (by omega) _)))) (hcw 2 3328 (by omega) _)
  refine act_step (Val := Elt F) (e := .bf16) (ACT (XE (kernelRun0_B.sl.v9 i) x0 x1) x2 x3 x4 (fun k => car (kernelRun0_B.sl.v9 i) (carT xs3 k))) 3 384 rfl ?_ ?_
  · dsimp only [k0_pay46, k0_pay47, k0_pay48, k0_pay49, k0_pay50, k0_pay51, k0_pay52, k0_pay53, kernelRun0_B.sl.r_15, kernelRun0_B.sl.r_16, kernelRun0_B.sl.r_17, kernelRun0_B.sl.r_18, kernelRun0_B.sl.r_19, kernelRun0_B.sl.r_20]
    exact act_of 3 (hcb 384 (by omega) _) ((conv1 _ _ _ _ _ _ _ _ _ _ _ _ _ _ 0 _).trans (hcat_congr (congrArg (car (kernelRun0_B.sl.v9 i)) (hcar 5 (by omega) _)) (hX_odd 5 (by decide) hxe (hw 256 (by omega) _)))) (hcw 0 384 (by omega) _) ((conv1 _ _ _ _ _ _ _ _ _ _ _ _ _ _ 1 _).trans (hcat_congr (congrArg (car (kernelRun0_B.sl.v9 i)) (hcar 5 (by omega) _)) (hX_odd 5 (by decide) hxe (hw 256 (by omega) _)))) (hcw 1 384 (by omega) _) ((conv1 _ _ _ _ _ _ _ _ _ _ _ _ _ _ 2 _).trans (hcat_congr (congrArg (car (kernelRun0_B.sl.v9 i)) (hcar 5 (by omega) _)) (hX_odd 5 (by decide) hxe (hw 256 (by omega) _)))) (hcw 2 384 (by omega) _)
      (hcb 3200 (by omega) _) ((conv3 _ _ _ _ _ _ 0 _).trans (hcat_congr (congrArg (car (kernelRun0_B.sl.v9 i)) (hcar 7 (by omega) _)) (hX_odd 7 (by decide) hxe (hw 3072 (by omega) _)))) (hcw 0 3200 (by omega) _) ((conv3 _ _ _ _ _ _ 1 _).trans (hcat_congr (congrArg (car (kernelRun0_B.sl.v9 i)) (hcar 7 (by omega) _)) (hX_odd 7 (by decide) hxe (hw 3072 (by omega) _)))) (hcw 1 3200 (by omega) _) ((conv3 _ _ _ _ _ _ 2 _).trans (hcat_congr (congrArg (car (kernelRun0_B.sl.v9 i)) (hcar 7 (by omega) _)) (hX_odd 7 (by decide) hxe (hw 3072 (by omega) _)))) (hcw 2 3200 (by omega) _)
  refine act_step (Val := Elt F) (e := .bf16) (ACT (XE (kernelRun0_B.sl.v9 i) x0 x1) x2 x3 x4 (fun k => car (kernelRun0_B.sl.v9 i) (carT xs3 k))) 2 256 rfl ?_ ?_
  · dsimp only [k0_pay42, k0_pay43, k0_pay44, k0_pay45, kernelRun0_B.sl.r_12, kernelRun0_B.sl.r_13, kernelRun0_B.sl.r_14]
    exact act_of 2 (hcb 256 (by omega) _) ((conv0 _ _ _ _ _ _ _ _ _ _ _ _ _ _ _ _ _ _ 0 _).trans (hcat_congr (congrArg (car (kernelRun0_B.sl.v9 i)) (hcar 4 (by omega) _)) (hX_even 4 (by decide) hxe (hw 256 (by omega) _)))) (hcw 0 256 (by omega) _) ((conv0 _ _ _ _ _ _ _ _ _ _ _ _ _ _ _ _ _ _ 1 _).trans (hcat_congr (congrArg (car (kernelRun0_B.sl.v9 i)) (hcar 4 (by omega) _)) (hX_even 4 (by decide) hxe (hw 256 (by omega) _)))) (hcw 1 256 (by omega) _) ((conv0 _ _ _ _ _ _ _ _ _ _ _ _ _ _ _ _ _ _ 2 _).trans (hcat_congr (congrArg (car (kernelRun0_B.sl.v9 i)) (hcar 4 (by omega) _)) (hX_even 4 (by decide) hxe (hw 256 (by omega) _)))) (hcw 2 256 (by omega) _)
      (hcb 3072 (by omega) _) ((conv2 _ _ _ _ _ _ _ _ _ _ 0 _).trans (hcat_congr (congrArg (car (kernelRun0_B.sl.v9 i)) (hcar 6 (by omega) _)) (hX_even 6 (by decide) hxe (hw 3072 (by omega) _)))) (hcw 0 3072 (by omega) _) ((conv2 _ _ _ _ _ _ _ _ _ _ 1 _).trans (hcat_congr (congrArg (car (kernelRun0_B.sl.v9 i)) (hcar 6 (by omega) _)) (hX_even 6 (by decide) hxe (hw 3072 (by omega) _)))) (hcw 1 3072 (by omega) _) ((conv2 _ _ _ _ _ _ _ _ _ _ 2 _).trans (hcat_congr (congrArg (car (kernelRun0_B.sl.v9 i)) (hcar 6 (by omega) _)) (hX_even 6 (by decide) hxe (hw 3072 (by omega) _)))) (hcw 2 3072 (by omega) _)
  refine act_step (Val := Elt F) (e := .bf16) (ACT (XE (kernelRun0_B.sl.v9 i) x0 x1) x2 x3 x4 (fun k => car (kernelRun0_B.sl.v9 i) (carT xs3 k))) 1 128 rfl ?_ ?_
  · dsimp only [k0_pay22, k0_pay23, k0_pay24, k0_pay25, kernelRun0_B.sl.r_5, kernelRun0_B.sl.r_6, kernelRun0_B.sl.r_7]
    exact act_of 1 (hcb 128 (by omega) _) ((conv1 _ _ _ _ _ _ _ _ _ _ _ _ _ _ 0 _).trans (hcat_congr (congrArg (car (kernelRun0_B.sl.v9 i)) (hcar 1 (by omega) _)) (hX_odd 1 (by decide) hxe (hw 0 (by omega) _)))) (hcw 0 128 (by omega) _) ((conv1 _ _ _ _ _ _ _ _ _ _ _ _ _ _ 1 _).trans (hcat_congr (congrArg (car (kernelRun0_B.sl.v9 i)) (hcar 1 (by omega) _)) (hX_odd 1 (by decide) hxe (hw 0 (by omega) _)))) (hcw 1 128 (by omega) _) ((conv1 _ _ _ _ _ _ _ _ _ _ _ _ _ _ 2 _).trans (hcat_congr (congrArg (car (kernelRun0_B.sl.v9 i)) (hcar 1 (by omega) _)) (hX_odd 1 (by decide) hxe (hw 0 (by omega) _)))) (hcw 2 128 (by omega) _)
      (hcb 2944 (by omega) _) ((conv3 _ _ _ _ _ _ 0 _).trans (hcat_congr (congrArg (car (kernelRun0_B.sl.v9 i)) (hcar 3 (by omega) _)) (hX_odd 3 (by decide) hxe (hw 2816 (by omega) _)))) (hcw 0 2944 (by omega) _) ((conv3 _ _ _ _ _ _ 1 _).trans (hcat_congr (congrArg (car (kernelRun0_B.sl.v9 i)) (hcar 3 (by omega) _)) (hX_odd 3 (by decide) hxe (hw 2816 (by omega) _)))) (hcw 1 2944 (by omega) _) ((conv3 _ _ _ _ _ _ 2 _).trans (hcat_congr (congrArg (car (kernelRun0_B.sl.v9 i)) (hcar 3 (by omega) _)) (hX_odd 3 (by decide) hxe (hw 2816 (by omega) _)))) (hcw 2 2944 (by omega) _)
  refine act_step (Val := Elt F) (e := .bf16) (ACT (XE (kernelRun0_B.sl.v9 i) x0 x1) x2 x3 x4 (fun k => car (kernelRun0_B.sl.v9 i) (carT xs3 k))) 0 0 rfl ?_ ?_
  · dsimp only [k0_pay20, k0_pay21, kernelRun0_B.sl.r_4]
    exact act_of 0 (hcb 0 (by omega) _) ((conv0 _ _ _ _ _ _ _ _ _ _ _ _ _ _ _ _ _ _ 0 _).trans (hcat_congr (congrArg (car (kernelRun0_B.sl.v9 i)) (hcar 0 (by omega) _)) (hX_even 0 (by decide) hxe (hw 0 (by omega) _)))) (hcw 0 0 (by omega) _) ((conv0 _ _ _ _ _ _ _ _ _ _ _ _ _ _ _ _ _ _ 1 _).trans (hcat_congr (congrArg (car (kernelRun0_B.sl.v9 i)) (hcar 0 (by omega) _)) (hX_even 0 (by decide) hxe (hw 0 (by omega) _)))) (hcw 1 0 (by omega) _) ((conv0 _ _ _ _ _ _ _ _ _ _ _ _ _ _ _ _ _ _ 2 _).trans (hcat_congr (congrArg (car (kernelRun0_B.sl.v9 i)) (hcar 0 (by omega) _)) (hX_even 0 (by decide) hxe (hw 0 (by omega) _)))) (hcw 2 0 (by omega) _)
      (hcb 2816 (by omega) _) ((conv2 _ _ _ _ _ _ _ _ _ _ 0 _).trans (hcat_congr (congrArg (car (kernelRun0_B.sl.v9 i)) (hcar 2 (by omega) _)) (hX_even 2 (by decide) hxe (hw 2816 (by omega) _)))) (hcw 0 2816 (by omega) _) ((conv2 _ _ _ _ _ _ _ _ _ _ 1 _).trans (hcat_congr (congrArg (car (kernelRun0_B.sl.v9 i)) (hcar 2 (by omega) _)) (hX_even 2 (by decide) hxe (hw 2816 (by omega) _)))) (hcw 1 2816 (by omega) _) ((conv2 _ _ _ _ _ _ _ _ _ _ 2 _).trans (hcat_congr (congrArg (car (kernelRun0_B.sl.v9 i)) (hcar 2 (by omega) _)) (hX_even 2 (by decide) hxe (hw 2816 (by omega) _)))) (hcw 2 2816 (by omega) _)
  exact fun y h => absurd h (Nat.not_lt_zero _)

end Cert.Ffn1

end
-- ==== Proof.Ffn1OutB.lean ====
/- What the feed-forward kernel without the mixer leaves at a point (case B of its body): its output's rows, and the
   rows it carries to the next point. -/
module

public import proofs.«01_k».proof.Proof.Ffn1Defs
public import proofs.«01_k».proof.Proof.Ffn1ActsB

@[expose] public section

set_option maxRecDepth 16384
set_option maxHeartbeats 2000000

noncomputable section

namespace Cert.Ffn1

open Cert.KernelGIdeal Cert.KernelGIdeal.Gen Idealize.ShloMosaic Idealize.ShloMosaic.TcCoe Idealize.SL.Sem
open Cert.FfnLoads
open Cert.Ffn (rows idx_rows rows_of rows_all load_rows offw kg)

variable {F : FTy → Type} [FloatOps F]
variable (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S528x1024 .bf16) (harg10 : arg10.IsWhole) (arg11 : Memref sig .tc .vmem S4x544x128 .f32) (harg11 : arg11.IsWhole) (arg12 : Memref sig .tc .vmem S512x2816 .bf16) (harg12 : arg12.IsWhole) (arg13 : Memref sig .tc .vmem S44x8x128 .f32) (harg13 : arg13.IsWhole) (hc0 : ¬cond0_0 i)
    (x0 : Vec F S512x1024 .f32) (x1 : Vec F S16x1024 .f32) (x2 : Vec F S1024x5632 .bf16) (x3 : Vec F S3x5632 .f32) (x4 : Vec F S1x5632 .f32) (x5 : Vec F S2816x1024 .bf16) (x6 : Vec F S1x1024 .f32) (x7 : Vec F S1x1024 .f32) (xs3 : Vec F S44x8x128 .f32)

/-- The rows a point carries: the last eight of each of the up projection's tiles. -/
theorem sout_B (y : S44x8x128.Idx) : sout0_B_3 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs3 y
    = hNX (XE (kernelRun0_B.sl.v9 i) x0 x1) x2 (y 0).val (ix3 0 (y 1) (y 2)) := by
  have hw : ∀ (o : ℕ) (_ : o + 256 ≤ 5632) (h), View.readAt (Elt F) arg3.view (Rect.unit (s := S1024x5632) ![0, o] S1024x256.size h).toLoadRect (harg3.unread x2) = wT x2 o :=
    fun o ho h => funext fun x => (Memref.IsWhole.readAt_unread harg3 x2 _ x).trans (congrArg x2 (w_idx o ho h x))
  have hxe := xe_B c i arg1 harg1 arg2 harg2 arg10 x0 x1
  have hlt : (y 0).val < 43 + 1 := (y 0).isLt
  unfold sout0_B_3
  rw [View.read_writes_junk_eq_canon]
  revert y
  show ∀ y : SK.Idx, (y 0).val < 43 + 1 → View.canon (Val := Elt F) (e := .f32) _ y = hNX (XE (kernelRun0_B.sl.v9 i) x0 x1) x2 (y 0).val (ix3 0 (y 1) (y 2))
  refine carry_step (Val := Elt F) (e := .f32) (hNX (XE (kernelRun0_B.sl.v9 i) x0 x1) x2) 43 (hN_odd 43 (by decide) hxe (hw 5376 (by omega) _)) ?_
  refine carry_step (Val := Elt F) (e := .f32) (hNX (XE (kernelRun0_B.sl.v9 i) x0 x1) x2) 42 (hN_even 42 (by decide) hxe (hw 5376 (by omega) _)) ?_
  refine carry_step (Val := Elt F) (e := .f32) (hNX (XE (kernelRun0_B.sl.v9 i) x0 x1) x2) 41 (hN_odd 41 (by decide) hxe (hw 2560 (by omega) _)) ?_
  refine carry_step (Val := Elt F) (e := .f32) (hNX (XE (kernelRun0_B.sl.v9 i) x0 x1) x2) 40 (hN_even 40 (by decide) hxe (hw 2560 (by omega) _)) ?_
  refine carry_step (Val := Elt F) (e := .f32) (hNX (XE (kernelRun0_B.sl.v9 i) x0 x1) x2) 39 (hN_odd 39 (by decide) hxe (hw 5120 (by omega) _)) ?_
  refine carry_step (Val := Elt F) (e := .f32) (hNX (XE (kernelRun0_B.sl.v9 i) x0 x1) x2) 38 (hN_even 38 (by decide) hxe (hw 5120 (by omega) _)) ?_
  refine carry_step (Val := Elt F) (e := .f32) (hNX (XE (kernelRun0_B.sl.v9 i) x0 x1) x2) 37 (hN_odd 37 (by decide) hxe (hw 2304 (by omega) _)) ?_
  refine carry_step (Val := Elt F) (e := .f32) (hNX (XE (kernelRun0_B.sl.v9 i) x0 x1) x2) 36 (hN_even 36 (by decide) hxe (hw 2304 (by omega) _)) ?_
  refine carry_step (Val := Elt F) (e := .f32) (hNX (XE (kernelRun0_B.sl.v9 i) x0 x1) x2) 35 (hN_odd 35 (by decide) hxe (hw 4864 (by omega) _)) ?_
  refine carry_step (Val := Elt F) (e := .f32) (hNX (XE (kernelRun0_B.sl.v9 i) x0 x1) x2) 34 (hN_even 34 (by decide) hxe (hw 4864 (by omega) _)) ?_
  refine carry_step (Val := Elt F) (e := .f32) (hNX (XE (kernelRun0_B.sl.v9 i) x0 x1) x2) 33 (hN_odd 33 (by decide) hxe (hw 2048 (by omega) _)) ?_
  refine carry_step (Val := Elt F) (e := .f32) (hNX (XE (kernelRun0_B.sl.v9 i) x0 x1) x2) 32 (hN_even 32 (by decide) hxe (hw 2048 (by omega) _)) ?_
  refine carry_step (Val := Elt F) (e := .f32) (hNX (XE (kernelRun0_B.sl.v9 i) x0 x1) x2) 31 (hN_odd 31 (by decide) hxe (hw 4608 (by omega) _)) ?_
  refine carry_step (Val := Elt F) (e := .f32) (hNX (XE (kernelRun0_B.sl.v9 i) x0 x1) x2) 30 (hN_even 30 (by decide) hxe (hw 4608 (by omega) _)) ?_
  refine carry_step (Val := Elt F) (e := .f32) (hNX (XE (kernelRun0_B.sl.v9 i) x0 x1) x2) 29 (hN_odd 29 (by decide) hxe (hw 1792 (by omega) _)) ?_
  refine carry_step (Val := Elt F) (e := .f32) (hNX (XE (kernelRun0_B.sl.v9 i) x0 x1) x2) 28 (hN_even 28 (by decide) hxe (hw 1792 (by omega) _)) ?_
  refine carry_step (Val := Elt F) (e := .f32) (hNX (XE (kernelRun0_B.sl.v9 i) x0 x1) x2) 27 (hN_odd 27 (by decide) hxe (hw 4352 (by omega) _)) ?_
  refine carry_step (Val := Elt F) (e := .f32) (hNX (XE (kernelRun0_B.sl.v9 i) x0 x1) x2) 26 (hN_even 26 (by decide) hxe (hw 4352 (by omega) _)) ?_
  refine carry_step (Val := Elt F) (e := .f32) (hNX (XE (kernelRun0_B.sl.v9 i) x0 x1) x2) 25 (hN_odd 25 (by decide) hxe (hw 1536 (by omega) _)) ?_
  refine carry_step (Val := Elt F) (e := .f32) (hNX (XE (kernelRun0_B.sl.v9 i) x0 x1) x2) 24 (hN_even 24 (by decide) hxe (hw 1536 (by omega) _)) ?_
  refine carry_step (Val := Elt F) (e := .f32) (hNX (XE (kernelRun0_B.sl.v9 i) x0 x1) x2) 23 (hN_odd 23 (by decide) hxe (hw 4096 (by omega) _)) ?_
  refine carry_step (Val := Elt F) (e := .f32) (hNX (XE (kernelRun0_B.sl.v9 i) x0 x1) x2) 22 (hN_even 22 (by decide) hxe (hw 4096 (by omega) _)) ?_
  refine carry_step (Val := Elt F) (e := .f32) (hNX (XE (kernelRun0_B.sl.v9 i) x0 x1) x2) 21 (hN_odd 21 (by decide) hxe (hw 1280 (by omega) _)) ?_
  refine carry_step (Val := Elt F) (e := .f32) (hNX (XE (kernelRun0_B.sl.v9 i) x0 x1) x2) 20 (hN_even 20 (by decide) hxe (hw 1280 (by omega) _)) ?_
  refine carry_step (Val := Elt F) (e := .f32) (hNX (XE (kernelRun0_B.sl.v9 i) x0 x1) x2) 19 (hN_odd 19 (by decide) hxe (hw 3840 (by omega) _)) ?_
  refine carry_step (Val := Elt F) (e := .f32) (hNX (XE (kernelRun0_B.sl.v9 i) x0 x1) x2) 18 (hN_even 18 (by decide) hxe (hw 3840 (by omega) _)) ?_
  refine carry_step (Val := Elt F) (e := .f32) (hNX (XE (kernelRun0_B.sl.v9 i) x0 x1) x2) 17 (hN_odd 17 (by decide) hxe (hw 1024 (by omega) _)) ?_
  refine carry_step (Val := Elt F) (e := .f32) (hNX (XE (kernelRun0_B.sl.v9 i) x0 x1) x2) 16 (hN_even 16 (by decide) hxe (hw 1024 (by omega) _)) ?_
  refine carry_step (Val := Elt F) (e := .f32) (hNX (XE (kernelRun0_B.sl.v9 i) x0 x1) x2) 15 (hN_odd 15 (by decide) hxe (hw 3584 (by omega) _)) ?_
  refine carry_step (Val := Elt F) (e := .f32) (hNX (XE (kernelRun0_B.sl.v9 i) x0 x1) x2) 14 (hN_even 14 (by decide) hxe (hw 3584 (by omega) _)) ?_
  refine carry_step (Val := Elt F) (e := .f32) (hNX (XE (kernelRun0_B.sl.v9 i) x0 x1) x2) 13 (hN_odd 13 (by decide) hxe (hw 768 (by omega) _)) ?_
  refine carry_step (Val := Elt F) (e := .f32) (hNX (XE (kernelRun0_B.sl.v9 i) x0 x1) x2) 12 (hN_even 12 (by decide) hxe (hw 768 (by omega) _)) ?_
  refine carry_step (Val := Elt F) (e := .f32) (hNX (XE (kernelRun0_B.sl.v9 i) x0 x1) x2) 11 (hN_odd 11 (by decide) hxe (hw 3328 (by omega) _)) ?_
  refine carry_step (Val := Elt F) (e := .f32) (hNX (XE (kernelRun0_B.sl.v9 i) x0 x1) x2) 10 (hN_even 10 (by decide) hxe (hw 3328 (by omega) _)) ?_
  refine carry_step (Val := Elt F) (e := .f32) (hNX (XE (kernelRun0_B.sl.v9 i) x0 x1) x2) 9 (hN_odd 9 (by decide) hxe (hw 512 (by omega) _)) ?_
  refine carry_step (Val := Elt F) (e := .f32) (hNX (XE (kernelRun0_B.sl.v9 i) x0 x1) x2) 8 (hN_even 8 (by decide) hxe (hw 512 (by omega) _)) ?_
  refine carry_step (Val := Elt F) (e := .f32) (hNX (XE (kernelRun0_B.sl.v9 i) x0 x1) x2) 7 (hN_odd 7 (by decide) hxe (hw 3072 (by omega) _)) ?_
  refine carry_step (Val := Elt F) (e := .f32) (hNX (XE (kernelRun0_B.sl.v9 i) x0 x1) x2) 6 (hN_even 6 (by decide) hxe (hw 3072 (by omega) _)) ?_
  refine carry_step (Val := Elt F) (e := .f32) (hNX (XE (kernelRun0_B.sl.v9 i) x0 x1) x2) 5 (hN_odd 5 (by decide) hxe (hw 256 (by omega) _)) ?_
  refine carry_step (Val := Elt F) (e := .f32) (hNX (XE (kernelRun0_B.sl.v9 i) x0 x1) x2) 4 (hN_even 4 (by decide) hxe (hw 256 (by omega) _)) ?_
  refine carry_step (Val := Elt F) (e := .f32) (hNX (XE (kernelRun0_B.sl.v9 i) x0 x1) x2) 3 (hN_odd 3 (by decide) hxe (hw 2816 (by omega) _)) ?_
  refine carry_step (Val := Elt F) (e := .f32) (hNX (XE (kernelRun0_B.sl.v9 i) x0 x1) x2) 2 (hN_even 2 (by decide) hxe (hw 2816 (by omega) _)) ?_
  refine carry_step (Val := Elt F) (e := .f32) (hNX (XE (kernelRun0_B.sl.v9 i) x0 x1) x2) 1 (hN_odd 1 (by decide) hxe (hw 0 (by omega) _)) ?_
  refine carry_step (Val := Elt F) (e := .f32) (hNX (XE (kernelRun0_B.sl.v9 i) x0 x1) x2) 0 (hN_even 0 (by decide) hxe (hw 0 (by omega) _)) ?_
  exact fun y h => absurd h (Nat.not_lt_zero _)

/-- A point's output: the layer norm of the residual and the down projection of its activations. -/
theorem out_B : out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs3
    = FIN (ACTALL (XE (kernelRun0_B.sl.v9 i) x0 x1) x2 x3 x4 (fun k => car (kernelRun0_B.sl.v9 i) (carT xs3 k))) x5 x0 x6 x7 := by
  have hwd : ∀ h, View.readAt (Elt F) arg6.view (Rect.unit (s := S2816x1024) ![0, 0] S2816x1024.size h).toLoadRect (harg6.unread x5) = x5 :=
    fun h => (funext fun j => Memref.IsWhole.readAt_unread harg6 x5 _ j).trans ((rows_of (N := 2816) (d := 1024) (o := 0) (n := 2816) (by omega) h x5).trans (rows_all (N := 2816) (d := 1024) x5))
  have hg2 : ∀ h, View.readAt (Elt F) arg7.view (Rect.unit (s := S1x1024) ![0, 0] S1x1024.size h).toLoadRect (harg7.unread x6) = x6 :=
    fun h => (funext fun j => Memref.IsWhole.readAt_unread harg7 x6 _ j).trans ((rows_of (N := 1) (d := 1024) (o := 0) (n := 1) (by omega) h x6).trans (rows_all (N := 1) (d := 1024) x6))
  have hb2 : ∀ h, View.readAt (Elt F) arg8.view (Rect.unit (s := S1x1024) ![0, 0] S1x1024.size h).toLoadRect (harg8.unread x7) = x7 :=
    fun h => (funext fun j => Memref.IsWhole.readAt_unread harg8 x7 _ j).trans ((rows_of (N := 1) (d := 1024) (o := 0) (n := 1) (by omega) h x7).trans (rows_all (N := 1) (d := 1024) x7))
  have hx0 : ∀ h, View.readAt (Elt F) arg1.view (Rect.unit (s := S512x1024) ![0, 0] S256x1024.size h).toLoadRect (harg1.unread x0) = rows (N := 512) (d := 1024) 0 256 (by omega) x0 :=
    fun h => (funext fun j => Memref.IsWhole.readAt_unread harg1 x0 _ j).trans (rows_of (N := 512) (d := 1024) (o := 0) (n := 256) (by omega) h x0)
  have hx256 : ∀ h, View.readAt (Elt F) arg1.view (Rect.unit (s := S512x1024) ![256, 0] S256x1024.size h).toLoadRect (harg1.unread x0) = rows (N := 512) (d := 1024) 256 256 (by omega) x0 :=
    fun h => (funext fun j => Memref.IsWhole.readAt_unread harg1 x0 _ j).trans (rows_of (N := 512) (d := 1024) (o := 256) (n := 256) (by omega) h x0)
  have ha : ∀ (o : ℕ) (ho : o + 256 ≤ 512) (h), arg12.view.readCov (kernelRun0_B.sl.HS2_22 c i arg1 harg1 arg2 harg2 arg3 harg3 arg4 harg4 arg5 harg5 arg10 arg11 arg13 harg13 x0 x1 x2 x3 x4 xs3) (Rect.unit (s := S512x2816) ![o, 0] S256x2816.size h).toLoadRect
      = rows (N := 512) (d := 2816) o 256 ho (ACTALL (XE (kernelRun0_B.sl.v9 i) x0 x1) x2 x3 x4 (fun k => car (kernelRun0_B.sl.v9 i) (carT xs3 k))) := fun o ho h => by
    rw [View.readCov_eq_canon']
    exact (funext fun j => acts_B c i arg1 harg1 arg2 harg2 arg3 harg3 arg4 harg4 arg5 harg5 arg10 arg11 arg13 harg13 x0 x1 x2 x3 x4 xs3 _).trans (rows_of (N := 512) (d := 2816) (o := o) (n := 256) ho h _)
  unfold out0_B_8
  rw [View.read_writes_junk_eq_canon]
  funext j
  refine (canon_cat (Val := Elt F) (e := .f32) (n0 := 256) (n1 := 256) (N := 512) (d := 1024) rfl _ _ _ _ j).trans ?_
  refine congrFun (congrArg₂ (cat (n0 := 256) (n1 := 256) (N := 512) (d := 1024) rfl) ?_ ?_) j
  · exact pay273_congr (ha 0 (by omega) _) (hwd _) (hx0 _) (hg2 _) (hb2 _)
  · exact pay274_congr (ha 256 (by omega) _) (hwd _) (hx256 _) (hg2 _) (hb2 _)

end Cert.Ffn1

end
-- ==== Proof.Ffn1Final.lean ====
/- The result array of the feed-forward kernel without the mixer is the specification's, row by row. -/
module

public import proofs.«01_k».proof.Proof.Ffn1Reads
public import proofs.«01_k».proof.Proof.Ffn1OutA
public import proofs.«01_k».proof.Proof.FfnFinal
public import proofs.«01_k».proof.Proof.Ffn1OutB

@[expose] public section

set_option maxRecDepth 16384

noncomputable section

namespace Cert.Ffn1

open Cert.KernelGIdeal Cert.KernelGIdeal.Gen Idealize.ShloMosaic Idealize.ShloMosaic.TcCoe Idealize.SL.Sem Idealize.ShloMosaic.StableHlo
open Cert.FfnLoads
open Cert.Ffn (is7 is0 col)

variable (m : (ℓ : Loc nD τ sig) → Buf (Elt Ideal) ℓ) (c : Dev nD)

/-- What a point carries to the next: its last row's up projection. -/
theorem carry (t : Fin cfg0.N) (k : Fin 44) (l : Fin 128) :
    (outsAt0 m c t.val t.isLt).2 (ix3 k 7 l) = up (pK m c) (512 * t.val + 511) (col k.val l) := by
  by_cases h : t.val % 64 = 0
  · rw [outsAt0_A m c t h]
    dsimp only
    refine (sout_A (F := Ideal) ..).trans ?_
    exact hNX_row (blk m c t) _ ((v9_A t).symm ▸ is7 t.val) k.val l
  · rw [outsAt0_B m c t h]
    dsimp only
    refine (sout_B (F := Ideal) ..).trans ?_
    exact hNX_row (blk m c t) _ ((v9_B t).symm ▸ is7 t.val) k.val l

/-- The rows a point starts from, over what the point before carried. -/
theorem carried (t : Fin cfg0.N) (h : ¬ t.val % 64 = 0) (k : ℕ) (hk : k < 44) (l : Fin 128) :
    car (F := Ideal) (kernelRun0_B.sl.v9 (grid0.coords t)) (carT (outsAt0 m c (t.val - 1) (Nat.lt_of_le_of_lt (Nat.sub_le _ _) t.isLt)).2 k) (ix3 0 7 l)
      = if t.val % 8 = 0 then (0 : EReal) else up (pK m c) (512 * t.val - 1) (col k l) := by
  rw [v9_B t]
  by_cases h8 : t.val % 8 = 0
  · rw [if_pos h8, car_zero ((is0 t.val).mpr h8)]
    exact ZT_at _
  · rw [if_neg h8]
    refine (car_at _ (fun hh => h8 ((is0 t.val).mp hh)) _ _ _).trans ?_
    have hl := Nat.lt_of_le_of_lt (Nat.sub_le t.val 1) t.isLt
    have e := carry m c ⟨t.val - 1, hl⟩ ⟨k, hk⟩ l
    have e1 : 512 * (t.val - 1) + 511 = 512 * t.val - 1 := by omega
    rw [← e1]
    refine Eq.trans ?_ e
    unfold carT
    refine congrArg _ ?_
    funext a
    refine Fin.ext ?_
    match a with
    | ⟨0, _⟩ => exact Nat.mod_eq_of_lt hk
    | ⟨1, _⟩ => rfl
    | ⟨2, _⟩ => rfl

/-- A point's output row. -/
theorem point_at (t : Fin cfg0.N) (r : Fin 512) (k : Fin 1024) :
    (outsAt0 m c t.val t.isLt).1 (ix2 r k) = out (pK m c) (512 * t.val + r.val) k := by
  by_cases h : t.val % 64 = 0
  · have h8 : t.val % 8 = 0 := by omega
    rw [outsAt0_A m c t h]
    dsimp only
    refine (congrFun (out_A (F := Ideal) (h9 := (v9_A t).trans ((is0 t.val).mpr h8)) ..) (ix2 r k)).trans ?_
    refine fin_row (blk m c t) _ ((v9_A t).symm ▸ is7 t.val) _ (fun k' _ l => ?_) r k
    rw [if_pos h8]
    exact ZT_at _
  · rw [outsAt0_B m c t h]
    dsimp only
    refine (congrFun (out_B (F := Ideal) ..) (ix2 r k)).trans ?_
    exact fin_row (blk m c t) _ ((v9_B t).symm ▸ is7 t.val) _ (fun k' hk l => carried m c t h k' hk l) r k

/-- The specification's result. -/
def OUTK (p : P) : FVec Ideal S32768x1024 .f32 := fun i => out p (i 0).val (i 1)

/-- The same, at any index of the result with the row's place. -/
theorem point_idx (t : Fin cfg0.N) (y : S512x1024.Idx) (i : S32768x1024.Idx) (e0 : (i 0).val = 512 * t.val + (y 0).val) (e1 : (i 1).val = (y 1).val) :
    (outsAt0 m c t.val t.isLt).1 y = OUTK (pK m c) i := by
  have ey : y = ix2 (y 0) (y 1) := by
    funext a
    match a with
    | ⟨0, _⟩ => rfl
    | ⟨1, _⟩ => rfl
  refine (congrArg (outsAt0 m c t.val t.isLt).1 ey).trans ((point_at m c t (y 0) (y 1)).trans ?_)
  unfold OUTK
  rw [e0]
  exact congrArg (out (pK m c) _) (Fin.ext e1.symm)

/-- The kernel's result array. -/
theorem final : (dats m 0 c).arrAt 8 cfg0.N = OUTK (pK m c) := by
  refine (dats m 0 c).arrAt_eq_of_covers 8 _ (by decide +kernel) fun t _ y => ?_
  blk_simp
  rw [after0_8]
  exact point_idx m c t _ _ (by blk_simp [idxA t]; try omega) (by blk_simp [idxA t])

end Cert.Ffn1

end
-- ==== Proof.Ffn1Ref.lean ====
/- The feed-forward reference without the mixer, row by row, over the extended reals: its result is the specification's. -/
module

public import proofs.«01_k».proof.Proof.Ffn1Args
public import proofs.«01_k».proof.Proof.Gen.ReferenceGIdeal.Run
public import Idealize.ShloMosaic.Lib.Pointwise

@[expose] public section

set_option maxRecDepth 16384

noncomputable section

namespace Cert.ReferenceGIdeal.Value

open Cert.ReferenceGIdeal Cert.ReferenceGIdeal.Gen Idealize.ShloMosaic Idealize.ShloMosaic.TcCoe Idealize.SL.Sem Idealize.ShloMosaic.StableHlo
open Cert.Ffn (LN mean gt cv cα cN cE)
open Cert.Ffn1 (P ofArgs up pm pp cvr act)

/-- The up projection, a zero row before and after each sequence. -/
def v3 (a0 : FVec Ideal S8x4096x1024 .f32) (a1 : FVec Ideal S1024x5632 .f32) : FVec Ideal S8x4098x5632 .f32 := pad S8x4098x5632 ![0, 1, 0] ![0, 1, 0] ![0, 0, 0] (Host.dotGeneral dot_S8x4096x1024_S1024x5632_S8x4096x5632_2_0_01_1_n_n none a0 a1) (sitofp .f32 (constantI S_ 32 0#32)) pads_S8x4096x5632_S8x4098x5632_000_110_000 h_S_

/-- The convolution. -/
def v28 (a0 : FVec Ideal S8x4096x1024 .f32) (a1 : FVec Ideal S1024x5632 .f32) (a2 : FVec Ideal S3x5632 .f32) (a3 : FVec Ideal S5632 .f32) : FVec Ideal S8x4096x5632 .f32 := addf (broadcastInDim S8x4096x5632 ![0, 1, 2] bcast_S1x1x5632_S8x4096x5632_0_1_2 (broadcastInDim S1x1x5632 ![2] bcast_S5632_S1x1x5632_2 a3)) (addf (addf (addf (broadcastInDim S8x4096x5632 ![] bcast_S_S8x4096x5632 (constant S_ .f32 0x00000000#32)) (mulf (extractStridedSlice S8x4096x5632 ![0, 0, 0] (v3 a0 a1) slices_S8x4098x5632_S8x4096x5632_0_0_0) (broadcastInDim S8x4096x5632 ![0, 1, 2] bcast_S1x1x5632_S8x4096x5632_0_1_2 (broadcastInDim S1x1x5632 ![2] bcast_S5632_S1x1x5632_2 (shapeCast S5632 (extractStridedSlice S1x5632 ![0, 0] a2 slices_S3x5632_S1x5632_0_0) shapeCasts_S1x5632_S5632))))) (mulf (extractStridedSlice S8x4096x5632 ![0, 1, 0] (v3 a0 a1) slices_S8x4098x5632_S8x4096x5632_0_1_0) (broadcastInDim S8x4096x5632 ![0, 1, 2] bcast_S1x1x5632_S8x4096x5632_0_1_2 (broadcastInDim S1x1x5632 ![2] bcast_S5632_S1x1x5632_2 (shapeCast S5632 (extractStridedSlice S1x5632 ![1, 0] a2 slices_S3x5632_S1x5632_1_0) shapeCasts_S1x5632_S5632))))) (mulf (extractStridedSlice S8x4096x5632 ![0, 2, 0] (v3 a0 a1) slices_S8x4098x5632_S8x4096x5632_0_2_0) (broadcastInDim S8x4096x5632 ![0, 1, 2] bcast_S1x1x5632_S8x4096x5632_0_1_2 (broadcastInDim S1x1x5632 ![2] bcast_S5632_S1x1x5632_2 (shapeCast S5632 (extractStridedSlice S1x5632 ![2, 0] a2 slices_S3x5632_S1x5632_2_0) shapeCasts_S1x5632_S5632)))))

/-- The gates. -/
def v29 (a0 : FVec Ideal S8x4096x1024 .f32) (a1 : FVec Ideal S1024x5632 .f32) (a2 : FVec Ideal S3x5632 .f32) (a3 : FVec Ideal S5632 .f32) : FVec Ideal S8x4096x2816 .f32 := extractStridedSlice S8x4096x2816 ![0, 0, 0] (v28 a0 a1 a2 a3) slices_S8x4096x5632_S8x4096x2816_0_0_0

/-- The residual and the down projection. -/
def v34 (a0 : FVec Ideal S8x4096x1024 .f32) (a1 : FVec Ideal S1024x5632 .f32) (a2 : FVec Ideal S3x5632 .f32) (a3 : FVec Ideal S5632 .f32) (a4 : FVec Ideal S2816x1024 .f32) : FVec Ideal S8x4096x1024 .f32 := addf (mulf (broadcastInDim S8x4096x1024 ![] bcast_S_S8x4096x1024 (constant S_ .f32 0x3FD744FD#32)) a0) (Host.dotGeneral dot_S8x4096x2816_S2816x1024_S8x4096x1024_2_0_01_1_n_n none (mulf (mulf (v29 a0 a1 a2 a3) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (v29 a0 a1 a2 a3)))))) (extractStridedSlice S8x4096x2816 ![0, 0, 2816] (v28 a0 a1 a2 a3) slices_S8x4096x5632_S8x4096x2816_0_0_2816)) a4)

/-- Its mean. -/
def v38 (a0 : FVec Ideal S8x4096x1024 .f32) (a1 : FVec Ideal S1024x5632 .f32) (a2 : FVec Ideal S3x5632 .f32) (a3 : FVec Ideal S5632 .f32) (a4 : FVec Ideal S2816x1024 .f32) : FVec Ideal S8x4096x1 .f32 := Host.divf (broadcastInDim S8x4096x1 ![0, 1] bcast_S8x4096_S8x4096x1_0_1 (Host.reduceAdd (v34 a0 a1 a2 a3 a4) (constant S_ .f32 0x00000000#32) reducesTo_S8x4096x1024_S8x4096_d2 h_S_)) (broadcastInDim S8x4096x1 ![] bcast_S_S8x4096x1 (constant S_ .f32 0x44800000#32))

/-- Its difference from its mean. -/
def v40 (a0 : FVec Ideal S8x4096x1024 .f32) (a1 : FVec Ideal S1024x5632 .f32) (a2 : FVec Ideal S3x5632 .f32) (a3 : FVec Ideal S5632 .f32) (a4 : FVec Ideal S2816x1024 .f32) : FVec Ideal S8x4096x1024 .f32 := subf (v34 a0 a1 a2 a3 a4) (broadcastInDim S8x4096x1024 ![0, 1, 2] bcast_S8x4096x1_S8x4096x1024_0_1_2 (v38 a0 a1 a2 a3 a4))

/-- The result, as one term. -/
def RES (a0 : FVec Ideal S8x4096x1024 .f32) (a1 : FVec Ideal S1024x5632 .f32) (a2 : FVec Ideal S3x5632 .f32) (a3 : FVec Ideal S5632 .f32) (a4 : FVec Ideal S2816x1024 .f32) (a5 : FVec Ideal S1024 .f32) (a6 : FVec Ideal S1024 .f32) : FVec Ideal S32768x1024 .f32 := shapeCast S32768x1024 (addf (mulf (mulf (subf (v34 a0 a1 a2 a3 a4) (broadcastInDim S8x4096x1024 ![0, 1, 2] bcast_S8x4096x1_S8x4096x1024_0_1_2 (v38 a0 a1 a2 a3 a4))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (v40 a0 a1 a2 a3 a4) (v40 a0 a1 a2 a3 a4)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 a5))) (broadcastInDim S8x4096x1024 ![0, 1, 2] bcast_S1x1x1024_S8x4096x1024_0_1_2 (broadcastInDim S1x1x1024 ![2] bcast_S1024_S1x1x1024_2 a6))) shapeCasts_S8x4096x1024_S32768x1024

/-- The result the run states is that term. -/
theorem res_eq (m : (ℓ : Loc nD τ sig) → Buf (Elt Ideal) ℓ) (c : Dev nD) : res_main_v59 m c = RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- The residual and its difference from its mean, as numbers. -/
def y62 (a0 : FVec Ideal S8x4096x1024 .f32) (a1 : FVec Ideal S1024x5632 .f32) (a2 : FVec Ideal S3x5632 .f32) (a3 : FVec Ideal S5632 .f32) (a4 : FVec Ideal S2816x1024 .f32) (b : Fin 8) (s : Fin 4096) (k : Fin 1024) : EReal := v34 a0 a1 a2 a3 a4 (ix3 b s k)
def y68 (a0 : FVec Ideal S8x4096x1024 .f32) (a1 : FVec Ideal S1024x5632 .f32) (a2 : FVec Ideal S3x5632 .f32) (a3 : FVec Ideal S5632 .f32) (a4 : FVec Ideal S2816x1024 .f32) (b : Fin 8) (s : Fin 4096) (k : Fin 1024) : EReal := v40 a0 a1 a2 a3 a4 (ix3 b s k)

theorem sum_mul_congr {n : ℕ} (f f' g : Fin n → EReal) (h : ∀ j, f j = f' j) : ∑ j, f j * g j = ∑ j, f' j * g j := by
  rw [funext h]

theorem add_three (b x y z : EReal) : b + (x + y + z) = b + x + y + z := by
  rw [← add_assoc, ← add_assoc]

variable (a0 : FVec Ideal S8x4096x1024 .f32) (a1 : FVec Ideal S1024x5632 .f32) (a2 : FVec Ideal S3x5632 .f32) (a3 : FVec Ideal S5632 .f32) (a4 : FVec Ideal S2816x1024 .f32) (a5 : FVec Ideal S1024 .f32) (a6 : FVec Ideal S1024 .f32)

include a0 a1 a2 a3 a4 a5 a6

theorem X_at (b : Fin 8) (s : Fin 4096) (j : Fin 1024) : (ofArgs a0 a1 a2 a3 a4 a5 a6).X (4096 * b.val + s.val) j = a0 (ix3 b s j) := by
  have e1 : (4096 * b.val + s.val) / 4096 % 8 = b.val := by omega
  have e2 : (4096 * b.val + s.val) % 4096 = s.val := by omega
  show a0 (ix3 ⟨(4096 * b.val + s.val) / 4096 % 8, _⟩ ⟨(4096 * b.val + s.val) % 4096, _⟩ j) = _
  simp only [e1, e2]

theorem v3_at (b : Fin 8) (s : Fin 4098) (c : Fin 5632) : (v3 a0 a1) (ix3 b s c)
    = if s.val = 0 ∨ s.val = 4097 then (0 : EReal) else up (ofArgs a0 a1 a2 a3 a4 a5 a6) (4096 * b.val + (s.val - 1)) c := by
  pointwise [v3]
  by_cases h : 1 ≤ s.val ∧ s.val - 1 < 4096
  · rw [dif_pos h, if_neg (by omega)]
    have h2 : s.val - 1 < 4096 := h.2
    unfold up
    exact sum_mul_congr (fun j => a0 (ix3 b ⟨s.val - 1, h2⟩ j)) _ (fun j => (ofArgs a0 a1 a2 a3 a4 a5 a6).W j c) fun j => (X_at a0 a1 a2 a3 a4 a5 a6 b ⟨s.val - 1, h2⟩ j).symm
  · have hs := s.isLt
    rw [dif_neg h, if_pos (by omega)]
    show (((0#32 : BitVec 32).toInt : ℝ) : EReal) = 0
    simp

theorem v28_at (b : Fin 8) (s : Fin 4096) (c : Fin 5632) : (v28 a0 a1 a2 a3) (ix3 b s c)
    = cvr (ofArgs a0 a1 a2 a3 a4 a5 a6) (4096 * b.val + s.val) c := by
  pointwise [v28]
  simp only [v3_at a0 a1 a2 a3 a4 a5 a6]
  have h0 : (if s.val = 0 ∨ s.val = 4097 then (0 : EReal) else up (ofArgs a0 a1 a2 a3 a4 a5 a6) (4096 * b.val + (s.val - 1)) c) = pm (ofArgs a0 a1 a2 a3 a4 a5 a6) (4096 * b.val + s.val) c := by
    unfold pm
    by_cases h : s.val = 0
    · rw [if_pos (Or.inl h), if_pos (by omega)]
    · rw [if_neg (by omega), if_neg (by omega)]
      exact congrArg (fun z => up (ofArgs a0 a1 a2 a3 a4 a5 a6) z c) (by omega)
  have h1 : (if 1 + s.val = 0 ∨ 1 + s.val = 4097 then (0 : EReal) else up (ofArgs a0 a1 a2 a3 a4 a5 a6) (4096 * b.val + (1 + s.val - 1)) c) = up (ofArgs a0 a1 a2 a3 a4 a5 a6) (4096 * b.val + s.val) c := by
    rw [if_neg (by omega)]
    exact congrArg (fun z => up (ofArgs a0 a1 a2 a3 a4 a5 a6) z c) (by omega)
  have h2 : (if 2 + s.val = 0 ∨ 2 + s.val = 4097 then (0 : EReal) else up (ofArgs a0 a1 a2 a3 a4 a5 a6) (4096 * b.val + (2 + s.val - 1)) c) = pp (ofArgs a0 a1 a2 a3 a4 a5 a6) (4096 * b.val + s.val) c := by
    unfold pp
    by_cases h : s.val = 4095
    · rw [if_pos (by omega), if_pos (by omega)]
    · rw [if_neg (by omega), if_neg (by omega)]
      exact congrArg (fun z => up (ofArgs a0 a1 a2 a3 a4 a5 a6) z c) (by omega)
  rw [h0, h1, h2]
  unfold cvr cv
  exact add_three _ _ _ _

theorem v29_at (b : Fin 8) (s : Fin 4096) (c : Fin 2816) : (v29 a0 a1 a2 a3) (ix3 b s c)
    = cvr (ofArgs a0 a1 a2 a3 a4 a5 a6) (4096 * b.val + s.val) ⟨c.val, by omega⟩ := by
  refine Eq.trans ?_ (v28_at a0 a1 a2 a3 a4 a5 a6 b s ⟨c.val, by omega⟩)
  pointwise [v29]

theorem v34_at (b : Fin 8) (s : Fin 4096) (k : Fin 1024) : y62 a0 a1 a2 a3 a4 b s k
    = cα * (ofArgs a0 a1 a2 a3 a4 a5 a6).X (4096 * b.val + s.val) k + ∑ j : Fin 2816, act (ofArgs a0 a1 a2 a3 a4 a5 a6) (4096 * b.val + s.val) j * (ofArgs a0 a1 a2 a3 a4 a5 a6).WD j k := by
  unfold y62
  pointwise [v34]
  refine congrArg₂ (· + ·) (congrArg (cα * ·) (X_at a0 a1 a2 a3 a4 a5 a6 b s k).symm) (Finset.sum_congr rfl fun j _ => congrArg (· * (ofArgs a0 a1 a2 a3 a4 a5 a6).WD j k) ?_)
  unfold act gt
  rw [v29_at a0 a1 a2 a3 a4 a5 a6 b s j, v28_at a0 a1 a2 a3 a4 a5 a6 b s _, zero_sub]

theorem v38_at (b : Fin 8) (s : Fin 4096) : (v38 a0 a1 a2 a3 a4) (ix3 b s 0) = mean (y62 a0 a1 a2 a3 a4 b s) := by
  pointwise [v38]
  rfl

theorem v40_at (b : Fin 8) (s : Fin 4096) (k : Fin 1024) : y68 a0 a1 a2 a3 a4 b s k = y62 a0 a1 a2 a3 a4 b s k - mean (y62 a0 a1 a2 a3 a4 b s) := by
  refine Eq.trans ?_ (congrArg (y62 a0 a1 a2 a3 a4 b s k - ·) (v38_at a0 a1 a2 a3 a4 a5 a6 b s))
  unfold y68
  pointwise [v40]
  rfl

/-- The reference's result is the specification's. -/
theorem RES_at (r : Fin 32768) (k : Fin 1024) : RES a0 a1 a2 a3 a4 a5 a6 (ix2 r k) = Cert.Ffn1.out (ofArgs a0 a1 a2 a3 a4 a5 a6) r.val k := by
  have hr : 4096 * (r.val / 4096) + r.val % 4096 = r.val := by omega
  have e : (fun k => cα * (ofArgs a0 a1 a2 a3 a4 a5 a6).X r.val k + ∑ j : Fin 2816, act (ofArgs a0 a1 a2 a3 a4 a5 a6) r.val j * (ofArgs a0 a1 a2 a3 a4 a5 a6).WD j k) = y62 a0 a1 a2 a3 a4 ⟨r.val / 4096, by omega⟩ ⟨r.val % 4096, by omega⟩ := by
    funext k
    refine Eq.trans ?_ (v34_at a0 a1 a2 a3 a4 a5 a6 ⟨r.val / 4096, by omega⟩ ⟨r.val % 4096, by omega⟩ k).symm
    simp only [hr]
  unfold Cert.Ffn1.out
  rw [e]
  pointwise [RES]
  rw [v38_at a0 a1 a2 a3 a4 a5 a6 _ _]
  have e9 : ∀ (b : Fin 8) (s : Fin 4096), (fun j => y68 a0 a1 a2 a3 a4 b s j * y68 a0 a1 a2 a3 a4 b s j) = fun j => (y62 a0 a1 a2 a3 a4 b s j - mean (y62 a0 a1 a2 a3 a4 b s)) * (y62 a0 a1 a2 a3 a4 b s j - mean (y62 a0 a1 a2 a3 a4 b s)) :=
    fun b s => funext fun j => by rw [v40_at a0 a1 a2 a3 a4 a5 a6]
  unfold LN
  rw [← e9]
  rfl

end Cert.ReferenceGIdeal.Value

end
-- ==== Proof.Ffn1Claim.lean ====
/- The claim about the feed-forward call without its mixer: the kernel and the reference end with the same result. -/
module

public import proofs.«01_k».proof.Defs
public import proofs.«01_k».proof.Proof.Ffn1Final
public import proofs.«01_k».proof.Proof.Ffn1Ref
public import Idealize.ShloMosaic.Adequacy
public import Idealize.ShloMosaic.Init

@[expose] public section

set_option maxRecDepth 16384

noncomputable section

namespace Cert.Ffn1

open Cert.KernelGIdeal Cert.KernelGIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Every run ends with the result array at what the points wrote back, the arguments unchanged. -/
theorem run_blocks : θ_run defs (onTc (τ := τ) (main (F := F))) ⟨m, fun _ => 0, ρ⟩ fun r => ∀ c : Dev nD,
      r.2.mem ((c : Thread nD τ).loc main_v6) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 8,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Ffn1

namespace Cert.Ffn1Claim

open Idealize.ShloMosaic Idealize.SL.Sem

/-- The kernel and the reference end with the same result. -/
theorem algebraic : Cert.algebraic_KernelGIdeal_ReferenceGIdeal (hKernelGIdeal := Cert.KernelGIdeal.Gen.facts) (hReferenceGIdeal := Cert.ReferenceGIdeal.Gen.facts) := by
  intro m g m' g' _ hagree
  refine ⟨_, Cert.Ffn1.run_blocks (F := Ideal) m g, ?_⟩
  refine (θ_run Cert.ReferenceGIdeal.defs _ _).mono (fun _ h c => ⟨(h c).1.trans ?_, (h c).2⟩) (Cert.ReferenceGIdeal.Value.run (F := Ideal) m' g')
  obtain ⟨e0, e1, e2, e3, e4, e5, e6⟩ := hagree c
  have ep : Cert.Ffn1.ofArgs (m' ((c.tc : Thread Cert.ReferenceGIdeal.nD Cert.ReferenceGIdeal.τ).loc Cert.ReferenceGIdeal.main_arg0)) (m' ((c.tc : Thread Cert.ReferenceGIdeal.nD Cert.ReferenceGIdeal.τ).loc Cert.ReferenceGIdeal.main_arg1)) (m' ((c.tc : Thread Cert.ReferenceGIdeal.nD Cert.ReferenceGIdeal.τ).loc Cert.ReferenceGIdeal.main_arg2)) (m' ((c.tc : Thread Cert.ReferenceGIdeal.nD Cert.ReferenceGIdeal.τ).loc Cert.ReferenceGIdeal.main_arg3)) (m' ((c.tc : Thread Cert.ReferenceGIdeal.nD Cert.ReferenceGIdeal.τ).loc Cert.ReferenceGIdeal.main_arg4)) (m' ((c.tc : Thread Cert.ReferenceGIdeal.nD Cert.ReferenceGIdeal.τ).loc Cert.ReferenceGIdeal.main_arg5)) (m' ((c.tc : Thread Cert.ReferenceGIdeal.nD Cert.ReferenceGIdeal.τ).loc Cert.ReferenceGIdeal.main_arg6)) = Cert.Ffn1.pK m c := by
    rw [e0, e1, e2, e3, e4, e5, e6]
    rfl
  refine (Cert.ReferenceGIdeal.Value.res_eq m' c).trans (Eq.trans ?_ (Cert.Ffn1.final m c).symm)
  rw [← ep]
  funext i
  have ei : i = ix2 (i 0) (i 1) := by
    funext a
    match a with
    | ⟨0, _⟩ => rfl
    | ⟨1, _⟩ => rfl
  exact (congrArg (Cert.ReferenceGIdeal.Value.RES _ _ _ _ _ _ _) ei).trans (Cert.ReferenceGIdeal.Value.RES_at _ _ _ _ _ _ _ (i 0) (i 1))

end Cert.Ffn1Claim

end
-- ==== Proof.DiffReads.lean ====
/- The differential attention kernel's five operands at a grid point, element by element, in terms of its arguments. -/
module

public import proofs.«01_k».proof.Proof.Gen.KernelCIdeal.Frame
public import Idealize.ShloMosaic.Lib.Pipeline.ValueKit
public import Idealize.ShloMosaic.Lib.Pointwise
public import Idealize.ShloMosaic.Lib.StableHlo.RunRead

@[expose] public section

set_option maxRecDepth 16384

noncomputable section

namespace Cert.Diff

open Cert.KernelCIdeal Cert.KernelCIdeal.Gen Idealize.ShloMosaic Idealize.ShloMosaic.TcCoe Idealize.SL.Sem Idealize.ShloMosaic.StableHlo

section

variable {F : FTy → Type} [FloatOps F] [Named F]

/-- The operand of lambda: its four vectors, one a row. -/
def packL (a b c d : FVec F S64 .f32) : FVec F S4x64 .f32 :=
  concatenate S4x64 0 [⟨S1x64, broadcastInDim S1x64 ![1] bcast_S64_S1x64_1 a⟩, ⟨S1x64, broadcastInDim S1x64 ![1] bcast_S64_S1x64_1 b⟩,
    ⟨S1x64, broadcastInDim S1x64 ![1] bcast_S64_S1x64_1 c⟩, ⟨S1x64, broadcastInDim S1x64 ![1] bcast_S64_S1x64_1 d⟩] concatenates_S1x64_S1x64_S1x64_S1x64_S4x64_d0

/-- The operand of the norm's gain. -/
def packG (a : FVec F S128 .f32) : FVec F S1x128 .f32 := broadcastInDim S1x128 ![1] bcast_S128_S1x128_1 a

/-- The query operand, from the queries. -/
def packQ (a : FVec F S8x4096x8x2x64 .f32) : FVec F S8x4096x1024 .f32 := shapeCast S8x4096x1024 a shapeCasts_S8x4096x8x2x64_S8x4096x1024

/-- The key operand, from the keys. -/
def packK (a : FVec F S8x4096x8x2x64 .f32) : FVec F S8x4096x1024 .bf16 :=
  shapeCast S8x4096x1024 (truncf .bf16 a bitsLt_bf16_f32) shapeCasts_S8x4096x8x2x64_S8x4096x1024

/-- The value operand: every head's values, then ones. -/
def packV (a : FVec F S8x4096x8x128 .f32) : FVec F S8x4096x2048 .bf16 :=
  shapeCast S8x4096x2048 (truncf .bf16 (concatenate S8x4096x8x256 3 [⟨S8x4096x8x128, a⟩, ⟨S8x4096x8x128, broadcastInDim S8x4096x8x128 ![] bcast_S_S8x4096x8x128 (constant S_ .f32 0x3F800000#32)⟩]
    concatenates_S8x4096x8x128_S8x4096x8x128_S8x4096x8x256_d3) bitsLt_bf16_f32) shapeCasts_S8x4096x8x256_S8x4096x2048

variable (m : (ℓ : Loc nD τ sig) → Buf (Elt F) ℓ) (c : Dev nD)

/-- The array of lambda's vectors the call is given is the four vectors stacked. -/
theorem V_l : V m c main_v7 = packL (m ((c.tc : Thread nD τ).loc main_arg3)) (m ((c.tc : Thread nD τ).loc main_arg4)) (m ((c.tc : Thread nD τ).loc main_arg5)) (m ((c.tc : Thread nD τ).loc main_arg6)) := by
  show StableHlo.after hostOps0 (fun b => m (c, b)) (Proc.devRef .tc main_v7) = _
  after_reads_simp
  rfl

/-- The gain array the call is given is the gain as one row. -/
theorem V_g : V m c main_v12 = packG (m ((c.tc : Thread nD τ).loc main_arg7)) := by
  show StableHlo.after hostOps0 (fun b => m (c, b)) (Proc.devRef .tc main_v12) = _
  after_reads_simp
  rfl

/-- The query array the call is given is the packed queries. -/
theorem V_q : V m c main_v8 = packQ (m ((c.tc : Thread nD τ).loc main_arg0)) := by
  show StableHlo.after hostOps0 (fun b => m (c, b)) (Proc.devRef .tc main_v8) = _
  after_reads_simp
  rfl

/-- The key array the call is given is the packed keys. -/
theorem V_k : V m c main_v10 = packK (m ((c.tc : Thread nD τ).loc main_arg1)) := by
  show StableHlo.after hostOps0 (fun b => m (c, b)) (Proc.devRef .tc main_v10) = _
  after_reads_simp
  rfl

/-- The value array the call is given is the packed values. -/
theorem V_v : V m c main_v11 = packV (m ((c.tc : Thread nD τ).loc main_arg2)) := by
  show StableHlo.after hostOps0 (fun b => m (c, b)) (Proc.devRef .tc main_v11) = _
  after_reads_simp
  rfl

/-- The same under any name of that array. -/
theorem V_l_of (r : Ref sig .tc) (h : r = main_v7) : HEq (V m c r) (packL (m ((c.tc : Thread nD τ).loc main_arg3)) (m ((c.tc : Thread nD τ).loc main_arg4)) (m ((c.tc : Thread nD τ).loc main_arg5)) (m ((c.tc : Thread nD τ).loc main_arg6))) := by
  subst h
  exact heq_of_eq (V_l m c)

/-- The same under any name of that array. -/
theorem V_g_of (r : Ref sig .tc) (h : r = main_v12) : HEq (V m c r) (packG (m ((c.tc : Thread nD τ).loc main_arg7))) := by
  subst h
  exact heq_of_eq (V_g m c)

/-- The same under any name of that array. -/
theorem V_q_of (r : Ref sig .tc) (h : r = main_v8) : HEq (V m c r) (packQ (m ((c.tc : Thread nD τ).loc main_arg0))) := by
  subst h
  exact heq_of_eq (V_q m c)

/-- The same under any name of that array. -/
theorem V_k_of (r : Ref sig .tc) (h : r = main_v10) : HEq (V m c r) (packK (m ((c.tc : Thread nD τ).loc main_arg1))) := by
  subst h
  exact heq_of_eq (V_k m c)

/-- The same under any name of that array. -/
theorem V_v_of (r : Ref sig .tc) (h : r = main_v11) : HEq (V m c r) (packV (m ((c.tc : Thread nD τ).loc main_arg2))) := by
  subst h
  exact heq_of_eq (V_v m c)

/-- The five blocks of a point, as the operands read through their windows. -/
theorem iblk_l (t : Fin cfg0.N) : (iblk m c 0 t : Vec F S4x64 .f32) = (win0_0.blk t).view.read (Elt F) (packL (m ((c.tc : Thread nD τ).loc main_arg3)) (m ((c.tc : Thread nD τ).loc main_arg4)) (m ((c.tc : Thread nD τ).loc main_arg5)) (m ((c.tc : Thread nD τ).loc main_arg6))) :=
  congrArg (fun X => ((cfg0.win 0).blk t).view.read (Elt F) X) (eq_of_heq (V_l_of m c (Pipeline.arrRef spec0 0) rfl))

/-- A point's gain block is read from the gain. -/
theorem iblk_g (t : Fin cfg0.N) : (iblk m c 1 t : Vec F S1x128 .f32) = (win0_1.blk t).view.read (Elt F) (packG (m ((c.tc : Thread nD τ).loc main_arg7))) :=
  congrArg (fun X => ((cfg0.win 1).blk t).view.read (Elt F) X) (eq_of_heq (V_g_of m c (Pipeline.arrRef spec0 1) rfl))

/-- A point's query block is read from the packed queries. -/
theorem iblk_q (t : Fin cfg0.N) : (iblk m c 2 t : Vec F S1x2048x128 .f32) = (win0_2.blk t).view.read (Elt F) (packQ (m ((c.tc : Thread nD τ).loc main_arg0))) :=
  congrArg (fun X => ((cfg0.win 2).blk t).view.read (Elt F) X) (eq_of_heq (V_q_of m c (Pipeline.arrRef spec0 2) rfl))

/-- A point's key block is read from the packed keys. -/
theorem iblk_k (t : Fin cfg0.N) : (iblk m c 3 t : Vec F S1x4096x128 .bf16) = (win0_3.blk t).view.read (Elt F) (packK (m ((c.tc : Thread nD τ).loc main_arg1))) :=
  congrArg (fun X => ((cfg0.win 3).blk t).view.read (Elt F) X) (eq_of_heq (V_k_of m c (Pipeline.arrRef spec0 3) rfl))

/-- A point's value block is read from the packed values. -/
theorem iblk_v (t : Fin cfg0.N) : (iblk m c 4 t : Vec F S1x4096x256 .bf16) = (win0_4.blk t).view.read (Elt F) (packV (m ((c.tc : Thread nD τ).loc main_arg2))) :=
  congrArg (fun X => ((cfg0.win 4).blk t).view.read (Elt F) X) (eq_of_heq (V_v_of m c (Pipeline.arrRef spec0 4) rfl))

/-- The block of lambda's vectors at a position is the array at the block's place for it. -/
theorem read_blk_l (t : Fin cfg0.N) (X : Vec F S4x64 .f32) (x : S4x64.Idx) : ((win0_0.blk t).view.read (Elt F) X : Vec F S4x64 .f32) x = X ((win0_0.blk t).view.emb x) := rfl

/-- The gain block at a position is the array at the block's place for it. -/
theorem read_blk_g (t : Fin cfg0.N) (X : Vec F S1x128 .f32) (x : S1x128.Idx) : ((win0_1.blk t).view.read (Elt F) X : Vec F S1x128 .f32) x = X ((win0_1.blk t).view.emb x) := rfl

/-- A block of the query array at a position is the array at the block's place for it. -/
theorem read_blk_q (t : Fin cfg0.N) (X : Vec F S8x4096x1024 .f32) (x : S1x2048x128.Idx) : ((win0_2.blk t).view.read (Elt F) X : Vec F S1x2048x128 .f32) x = X ((win0_2.blk t).view.emb x) := rfl

/-- A block of the key array at a position is the array at the block's place for it. -/
theorem read_blk_k (t : Fin cfg0.N) (X : Vec F S8x4096x1024 .bf16) (x : S1x4096x128.Idx) : ((win0_3.blk t).view.read (Elt F) X : Vec F S1x4096x128 .bf16) x = X ((win0_3.blk t).view.emb x) := rfl

/-- A block of the value array at a position is the array at the block's place for it. -/
theorem read_blk_v (t : Fin cfg0.N) (X : Vec F S8x4096x2048 .bf16) (x : S1x4096x256.Idx) : ((win0_4.blk t).view.read (Elt F) X : Vec F S1x4096x256 .bf16) x = X ((win0_4.blk t).view.emb x) := rfl

end

/-- The first row of the stack is the first vector. -/
theorem packL_0 (a b c d : FVec Ideal S64 .f32) (x : Fin 64) : packL a b c d (ix2 0 x) = a (ix1 x) := by
  pointwise [packL]

/-- The second row of the stack is the second vector. -/
theorem packL_1 (a b c d : FVec Ideal S64 .f32) (x : Fin 64) : packL a b c d (ix2 1 x) = b (ix1 x) := by
  pointwise [packL]

/-- The third row of the stack is the third vector. -/
theorem packL_2 (a b c d : FVec Ideal S64 .f32) (x : Fin 64) : packL a b c d (ix2 2 x) = c (ix1 x) := by
  pointwise [packL]

/-- The fourth row of the stack is the fourth vector. -/
theorem packL_3 (a b c d : FVec Ideal S64 .f32) (x : Fin 64) : packL a b c d (ix2 3 x) = d (ix1 x) := by
  pointwise [packL]

/-- The gain's row at a lane is the gain there. -/
theorem packG_at (a : FVec Ideal S128 .f32) (x : Fin 128) : packG a (ix2 0 x) = a (ix1 x) := by
  pointwise [packG]

/-- The packed queries at a lane, as an element of the argument. -/
theorem packQ_at (a : FVec Ideal S8x4096x8x2x64 .f32) (b : Fin 8) (s : Fin 4096) (l : Fin 1024) :
    packQ a (ix3 b s l) = a (ix5 b s ⟨l.val / 128, by omega⟩ ⟨l.val / 64 % 2, by omega⟩ ⟨l.val % 64, by omega⟩) := by
  pointwise [packQ]

/-- The packed keys at a lane, as an element of the argument. -/
theorem packK_at (a : FVec Ideal S8x4096x8x2x64 .f32) (b : Fin 8) (s : Fin 4096) (l : Fin 1024) :
    packK a (ix3 b s l) = a (ix5 b s ⟨l.val / 128, by omega⟩ ⟨l.val / 64 % 2, by omega⟩ ⟨l.val % 64, by omega⟩) := by
  pointwise [packK]

/-- The packed values at a lane: an element of the argument or a one. -/
theorem packV_at (a : FVec Ideal S8x4096x8x128 .f32) (b : Fin 8) (s : Fin 4096) (l : Fin 2048) :
    packV a (ix3 b s l) = if l.val % 256 < 128 then a (ix4 b s ⟨l.val / 256, by omega⟩ ⟨l.val % 128, by omega⟩) else (1 : EReal) := by
  pointwise [packV]
  by_cases h1 : l.val % 256 < 128
  · refine (dif_pos h1).trans ((congrArg a ?_).trans (if_pos h1).symm)
    have e : l.val % 256 = l.val % 128 := by omega
    simp only [e]
  · exact (dif_neg h1).trans (if_neg h1).symm

/-- The query operand at a head's lanes. -/
theorem packQ_blk (a : FVec Ideal S8x4096x8x2x64 .f32) (b : Fin 8) (s : Fin 4096) (g : Fin 8) (l : Fin 128) :
    packQ a (ix3 b s ⟨g.val * 128 + l.val, by omega⟩) = a (ix5 b s g ⟨l.val / 64, by omega⟩ ⟨l.val % 64, by omega⟩) := by
  refine (packQ_at a b s _).trans ?_
  have e1 : (g.val * 128 + l.val) / 128 = g.val := by omega
  have e2 : (g.val * 128 + l.val) / 64 % 2 = l.val / 64 := by omega
  have e3 : (g.val * 128 + l.val) % 64 = l.val % 64 := by omega
  simp only [e1, e2, e3]

/-- The key operand at a head's lanes. -/
theorem packK_blk (a : FVec Ideal S8x4096x8x2x64 .f32) (b : Fin 8) (s : Fin 4096) (g : Fin 8) (l : Fin 128) :
    packK a (ix3 b s ⟨g.val * 128 + l.val, by omega⟩) = a (ix5 b s g ⟨l.val / 64, by omega⟩ ⟨l.val % 64, by omega⟩) := by
  refine (packK_at a b s _).trans ?_
  have e1 : (g.val * 128 + l.val) / 128 = g.val := by omega
  have e2 : (g.val * 128 + l.val) / 64 % 2 = l.val / 64 := by omega
  have e3 : (g.val * 128 + l.val) % 64 = l.val % 64 := by omega
  simp only [e1, e2, e3]

/-- The value operand at a head's lanes. -/
theorem packV_blk (a : FVec Ideal S8x4096x8x128 .f32) (b : Fin 8) (s : Fin 4096) (g : Fin 8) (l : Fin 256) :
    packV a (ix3 b s ⟨g.val * 256 + l.val, by omega⟩) = if l.val < 128 then a (ix4 b s g ⟨l.val % 128, by omega⟩) else (1 : EReal) := by
  refine (packV_at a b s _).trans ?_
  have e0 : (g.val * 256 + l.val) % 256 = l.val := by omega
  have e1 : (g.val * 256 + l.val) / 256 = g.val := by omega
  have e3 : (g.val * 256 + l.val) % 128 = l.val % 128 := by omega
  simp only [e0, e1, e3]

/-- The blocks of the six windows at a grid point. -/
theorem idxC : ∀ t : Fin cfg0.N, win0_0.index t = ![0, 0] ∧ win0_1.index t = ![0, 0] ∧ win0_2.index t = ![t.val / 16, t.val % 2, t.val / 2 % 8]
    ∧ win0_3.index t = ![t.val / 16, 0, t.val / 2 % 8] ∧ win0_4.index t = ![t.val / 16, 0, t.val / 2 % 8] ∧ win0_5.index t = ![t.val / 16, t.val % 2, t.val / 2 % 8] :=
  (by decide +kernel : ∀ t : Fin grid0.N, _)

/-- There are 128 grid points. -/
theorem lt_N (t : Fin cfg0.N) : t.val < 128 := t.isLt

variable (m : (ℓ : Loc nD τ sig) → Buf (Elt Ideal) ℓ) (c : Dev nD) (t : Fin cfg0.N)

/-- The point's block of lambda's vectors, as elements of the arguments. -/
theorem read_l (i : Fin 4) (d : Fin 64) : (iblk m c 0 t : Vec Ideal S4x64 .f32) (ix2 i d)
    = packL (F := Ideal) (m ((c.tc : Thread nD τ).loc main_arg3)) (m ((c.tc : Thread nD τ).loc main_arg4)) (m ((c.tc : Thread nD τ).loc main_arg5)) (m ((c.tc : Thread nD τ).loc main_arg6)) (ix2 i d) := by
  have e : (win0_0.blk t).view.emb (ix2 i d) = ix2 i d := by
    blk_ext [idxC t]
  exact (congrFun (iblk_l m c t) (ix2 i d)).trans ((read_blk_l t _ _).trans (congrArg _ e))

/-- The point's gain block, as an element of the argument. -/
theorem read_g (e : Fin 128) : (iblk m c 1 t : Vec Ideal S1x128 .f32) (ix2 0 e) = m ((c.tc : Thread nD τ).loc main_arg7) (ix1 e) := by
  have e' : (win0_1.blk t).view.emb (ix2 0 e) = ix2 0 e := by
    blk_ext [idxC t]
  exact (congrFun (iblk_g m c t) (ix2 0 e)).trans ((read_blk_g t _ _).trans ((congrArg _ e').trans (packG_at _ e)))

/-- A point's query block at a row and lane, as an element of the argument. -/
theorem read_q (p : Fin 2048) (l : Fin 128) : (iblk m c 2 t : Vec Ideal S1x2048x128 .f32) (ix3 0 p l) = m ((c.tc : Thread nD τ).loc main_arg0) (ix5 ⟨t.val / 16, by have := lt_N t; omega⟩ ⟨t.val % 2 * 2048 + p.val, by omega⟩ ⟨t.val / 2 % 8, by omega⟩ ⟨l.val / 64, by omega⟩ ⟨l.val % 64, by omega⟩) := by
  have ht := lt_N t
  have e : (win0_2.blk t).view.emb (ix3 0 p l) = ix3 (⟨t.val / 16, by omega⟩ : Fin 8) (⟨t.val % 2 * 2048 + p.val, by omega⟩ : Fin 4096) (⟨t.val / 2 % 8 * 128 + l.val, by omega⟩ : Fin 1024) := by
    blk_ext [idxC t]
  exact (congrFun (iblk_q m c t) (ix3 0 p l)).trans ((read_blk_q t _ _).trans ((congrArg (packQ (F := Ideal) (m ((c.tc : Thread nD τ).loc main_arg0))) e).trans
    (packQ_blk _ ⟨t.val / 16, by omega⟩ _ ⟨t.val / 2 % 8, by omega⟩ l)))

/-- A point's key block at a row and lane, as an element of the argument. -/
theorem read_k (j : Fin 4096) (l : Fin 128) : (iblk m c 3 t : Vec Ideal S1x4096x128 .bf16) (ix3 0 j l) = m ((c.tc : Thread nD τ).loc main_arg1) (ix5 ⟨t.val / 16, by have := lt_N t; omega⟩ j ⟨t.val / 2 % 8, by omega⟩ ⟨l.val / 64, by omega⟩ ⟨l.val % 64, by omega⟩) := by
  have ht := lt_N t
  have e : (win0_3.blk t).view.emb (ix3 0 j l) = ix3 (⟨t.val / 16, by omega⟩ : Fin 8) j (⟨t.val / 2 % 8 * 128 + l.val, by omega⟩ : Fin 1024) := by
    blk_ext [idxC t]
  exact (congrFun (iblk_k m c t) (ix3 0 j l)).trans ((read_blk_k t _ _).trans ((congrArg (packK (F := Ideal) (m ((c.tc : Thread nD τ).loc main_arg1))) e).trans
    (packK_blk _ ⟨t.val / 16, by omega⟩ j ⟨t.val / 2 % 8, by omega⟩ l)))

/-- A point's value block at a row and lane: an element of the argument or a one. -/
theorem read_v (j : Fin 4096) (l : Fin 256) : (iblk m c 4 t : Vec Ideal S1x4096x256 .bf16) (ix3 0 j l) = (if l.val < 128 then m ((c.tc : Thread nD τ).loc main_arg2) (ix4 ⟨t.val / 16, by have := lt_N t; omega⟩ j ⟨t.val / 2 % 8, by omega⟩ ⟨l.val % 128, by omega⟩) else (1 : EReal)) := by
  have ht := lt_N t
  have e : (win0_4.blk t).view.emb (ix3 0 j l) = ix3 (⟨t.val / 16, by omega⟩ : Fin 8) j (⟨t.val / 2 % 8 * 256 + l.val, by omega⟩ : Fin 2048) := by
    blk_ext [idxC t]
  exact (congrFun (iblk_v m c t) (ix3 0 j l)).trans ((read_blk_v t _ _).trans ((congrArg (packV (F := Ideal) (m ((c.tc : Thread nD τ).loc main_arg2))) e).trans
    (packV_blk _ ⟨t.val / 16, by omega⟩ j ⟨t.val / 2 % 8, by omega⟩ l)))

end Cert.Diff

end
-- ==== Proof.DiffPieces.lean ====
/- What one grid point of the differential attention kernel stores. The kernel keeps sixteen score streams per point in
   two scratch slots; here each of its eight stores is written as a function of the point's query, key and value blocks,
   the vectors of lambda and the norm's gain alone: two streams (the first and the second softmax of 256 queries), each the
   sixteen-tile accumulation over one score matrix divided by its weight sums, the second scaled by lambda and taken from
   the first, and the difference normalised. -/
module

public import proofs.«01_k».proof.Proof.Gen.KernelCIdeal.Frame
public import proofs.«01_k».proof.Proof.Loads
public import Idealize.ShloMosaic.Lib.Pipeline.ValueKit
public import Idealize.ShloMosaic.Lib.WholeRead

@[expose] public section

set_option maxRecDepth 16384

noncomputable section

namespace Cert.Diff

open Cert.KernelCIdeal Cert.KernelCIdeal.Gen Idealize.ShloMosaic Idealize.ShloMosaic.TcCoe Idealize.SL.Sem

variable {F : FTy → Type} [FloatOps F] [Named F]

/-- The score matrix of a stream: its masked queries against all the keys. -/
def scoreC (q : FVec F S256x128 .bf16) (k : Vec F S1x4096x128 .bf16) : Vec F S1x256x4096 .f32 :=
  shapeCast S1x256x4096
    (matmul dot_S256x128_S4096x128_S256x4096_1_1_0_0_n_n none q (shapeCast S4096x128 k shapeCasts_S1x4096x128_S4096x128)
      (constant S256x4096 .f32 0x00000000#32)) shapeCasts_S256x4096_S1x256x4096

/-- Key tile `kt` of a score matrix. -/
def tileC (s : Vec F S1x256x4096 .f32) (kt : Fin 16) : Vec F S256x256 .f32 := fun x =>
  shapeCast S256x4096 s shapeCasts_S1x256x4096_S256x4096
    ((Rect.unit (s := S256x4096) ![0, 256 * kt.val] S256x256.size (by intro a; have := kt.isLt; fin_cases a <;> simp; omega)).toLoadRect.idx x)

/-- The row maxima of a score matrix, spread over a tile. -/
def maxC (s : Vec F S1x256x4096 .f32) : FVec F S256x256 .f32 :=
  broadcastTo S256x256 (shapeCast S256x1 (shapeCast S256x1
    (multiReduction .maximumf [1] S256 (shapeCast S256x4096 s shapeCasts_S1x256x4096_S256x4096) 0xFF800000#32 reduces_S256x4096_S256 (.inl rfl) rfl)
    shapeCasts_S256_S256x1) shapeCasts_S256x1_S256x1) broadcasts_S256x1_S256x256

/-- One key tile's contribution: the weights of the tile against its rows of the value block. -/
def stepC (m : FVec F S256x256 .f32) (t : Vec F S256x256 .f32) (u : Vec F S1x256x256 .bf16) : FVec F S256x256 .f32 :=
  matmul dot_S256x256_S256x256_S256x256_1_0_0_1_n_n none (truncf .bf16 (exp2 (subf t m)) bitsLt_bf16_f32)
    (shapeCast S256x256 u shapeCasts_S1x256x256_S256x256) (constant S256x256 .f32 0x00000000#32)

/-- Rows of key tile `kt` of the value block. -/
def vtileC (v : Vec F S1x4096x256 .bf16) (kt : Fin 16) : Vec F S1x256x256 .bf16 := fun x =>
  v ((Rect.unit (s := S1x4096x256) ![0, 256 * kt.val, 0] S1x256x256.size
    (by intro a; have := kt.isLt; fin_cases a <;> simp <;> omega)).toLoadRect.idx x)

/-- Rows of group `r` of the query block. -/
def qtileC (q : Vec F S1x2048x128 .f32) (r : Fin 8) : Vec F S1x256x128 .f32 := fun x =>
  q ((Rect.unit (s := S1x2048x128) ![0, 256 * r.val, 0] S1x256x128.size
    (by intro a; have := r.isLt; fin_cases a <;> simp <;> omega)).toLoadRect.idx x)

/-- A stream: the weights of the sixteen key tiles against the value block, added up in order. -/
def streamC (s : Vec F S1x256x4096 .f32) (u : Fin 16 → Vec F S1x256x256 .bf16) : FVec F S256x256 .f32 :=
  addf (addf (addf (addf (addf (addf (addf (addf (addf (addf (addf (addf (addf (addf (addf (stepC (maxC s) (tileC s 0) (u 0)) (stepC (maxC s) (tileC s 1) (u 1))) (stepC (maxC s) (tileC s 2) (u 2))) (stepC (maxC s) (tileC s 3) (u 3))) (stepC (maxC s) (tileC s 4) (u 4))) (stepC (maxC s) (tileC s 5) (u 5))) (stepC (maxC s) (tileC s 6) (u 6))) (stepC (maxC s) (tileC s 7) (u 7))) (stepC (maxC s) (tileC s 8) (u 8))) (stepC (maxC s) (tileC s 9) (u 9))) (stepC (maxC s) (tileC s 10) (u 10))) (stepC (maxC s) (tileC s 11) (u 11))) (stepC (maxC s) (tileC s 12) (u 12))) (stepC (maxC s) (tileC s 13) (u 13))) (stepC (maxC s) (tileC s 14) (u 14))) (stepC (maxC s) (tileC s 15) (u 15))

/-- A stream's values divided by the weight sums its other 128 lanes hold. -/
def divC (raw : FVec F S256x256 .f32) : FVec F S256x128 .f32 :=
  divf (extractStridedSlice S256x128 ![0, 0] raw slices_S256x256_o0_0_S256x128) (extractStridedSlice S256x128 ![0, 128] raw slices_S256x256_o0_128_S256x128)

/-- The first softmax's values less lambda times the second's. -/
def diffC (lam : FVec F S1x1 .f32) (x y : FVec F S256x256 .f32) : FVec F S256x128 .f32 :=
  subf (divC x) (mulf (broadcastTo S256x128 lam broadcasts_S1x1_S256x128) (divC y))

/-- The root mean square norm, its gain and the closing constant: a store of the kernel. -/
def normC (z : FVec F S256x128 .f32) (g : Vec F S1x128 .f32) : FVec F S1x256x128 .bf16 :=
  shapeCast S1x256x128 (truncf .bf16 (mulf (mulf (mulf z (broadcastTo S256x128 (rsqrt (addf (divf
      (shapeCast S256x1 (multiReduction .add [1] S256 (mulf z z) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)) (broadcast S256x128 (Scalar.ofBits .f32 0x3F077F5A#32))) bitsLt_bf16_f32)
    shapeCasts_S256x128_S1x256x128

/-- The store of row group `r`, from the point's five blocks. -/
def pieceC (l : Vec F S4x64 .f32) (g : Vec F S1x128 .f32) (q : Vec F S1x2048x128 .f32) (k : Vec F S1x4096x128 .bf16) (v : Vec F S1x4096x256 .bf16) (r : Fin 8) : FVec F S1x256x128 .bf16 :=
  normC (diffC (k0_pay2 l) (streamC (scoreC (k0_pay5 (qtileC q r)) k) (vtileC v)) (streamC (scoreC (k0_pay6 (qtileC q r)) k) (vtileC v))) g

/-- A store of the kernel as written, its loads still to be read, is the piece of the point's blocks when each load is what the side conditions say. -/
theorem piece_of {l l' : Vec F S4x64 .f32} {g g' : Vec F S1x128 .f32} {q : Vec F S1x2048x128 .f32} {k : Vec F S1x4096x128 .bf16} {v : Vec F S1x4096x256 .bf16} {r : Fin 8}
    {sE sO mE mO : Vec F S1x256x4096 .f32} {a0 b0 a1 b1 a2 b2 a3 b3 a4 b4 a5 b5 a6 b6 a7 b7 a8 b8 a9 b9 a10 b10 a11 b11 a12 b12 a13 b13 a14 b14 a15 b15 : Vec F S256x256 .f32} {u0 w0 u1 w1 u2 w2 u3 w3 u4 w4 u5 w5 u6 w6 u7 w7 u8 w8 u9 w9 u10 w10 u11 w11 u12 w12 u13 w13 u14 w14 u15 w15 : Vec F S1x256x256 .bf16}
    (hl : l' = l) (hg : g' = g) (hmE : mE = sE) (hmO : mO = sO) (hsE : sE = scoreC (k0_pay5 (qtileC q r)) k) (hsO : sO = scoreC (k0_pay6 (qtileC q r)) k)
    (ha0 : a0 = tileC sE 0) (hb0 : b0 = tileC sO 0) (hu0 : u0 = vtileC v 0) (hw0 : w0 = vtileC v 0) (ha1 : a1 = tileC sE 1) (hb1 : b1 = tileC sO 1) (hu1 : u1 = vtileC v 1) (hw1 : w1 = vtileC v 1) (ha2 : a2 = tileC sE 2) (hb2 : b2 = tileC sO 2) (hu2 : u2 = vtileC v 2) (hw2 : w2 = vtileC v 2) (ha3 : a3 = tileC sE 3) (hb3 : b3 = tileC sO 3) (hu3 : u3 = vtileC v 3) (hw3 : w3 = vtileC v 3) (ha4 : a4 = tileC sE 4) (hb4 : b4 = tileC sO 4) (hu4 : u4 = vtileC v 4) (hw4 : w4 = vtileC v 4) (ha5 : a5 = tileC sE 5) (hb5 : b5 = tileC sO 5) (hu5 : u5 = vtileC v 5) (hw5 : w5 = vtileC v 5) (ha6 : a6 = tileC sE 6) (hb6 : b6 = tileC sO 6) (hu6 : u6 = vtileC v 6) (hw6 : w6 = vtileC v 6) (ha7 : a7 = tileC sE 7) (hb7 : b7 = tileC sO 7) (hu7 : u7 = vtileC v 7) (hw7 : w7 = vtileC v 7) (ha8 : a8 = tileC sE 8) (hb8 : b8 = tileC sO 8) (hu8 : u8 = vtileC v 8) (hw8 : w8 = vtileC v 8) (ha9 : a9 = tileC sE 9) (hb9 : b9 = tileC sO 9) (hu9 : u9 = vtileC v 9) (hw9 : w9 = vtileC v 9) (ha10 : a10 = tileC sE 10) (hb10 : b10 = tileC sO 10) (hu10 : u10 = vtileC v 10) (hw10 : w10 = vtileC v 10) (ha11 : a11 = tileC sE 11) (hb11 : b11 = tileC sO 11) (hu11 : u11 = vtileC v 11) (hw11 : w11 = vtileC v 11) (ha12 : a12 = tileC sE 12) (hb12 : b12 = tileC sO 12) (hu12 : u12 = vtileC v 12) (hw12 : w12 = vtileC v 12) (ha13 : a13 = tileC sE 13) (hb13 : b13 = tileC sO 13) (hu13 : u13 = vtileC v 13) (hw13 : w13 = vtileC v 13) (ha14 : a14 = tileC sE 14) (hb14 : b14 = tileC sO 14) (hu14 : u14 = vtileC v 14) (hw14 : w14 = vtileC v 14) (ha15 : a15 = tileC sE 15) (hb15 : b15 = tileC sO 15) (hu15 : u15 = vtileC v 15) (hw15 : w15 = vtileC v 15) :
    normC (diffC (k0_pay2 l') (addf (addf (addf (addf (addf (addf (addf (addf (addf (addf (addf (addf (addf (addf (addf (stepC (maxC mE) a0 u0) (stepC (maxC mE) a1 u1)) (stepC (maxC mE) a2 u2)) (stepC (maxC mE) a3 u3)) (stepC (maxC mE) a4 u4)) (stepC (maxC mE) a5 u5)) (stepC (maxC mE) a6 u6)) (stepC (maxC mE) a7 u7)) (stepC (maxC mE) a8 u8)) (stepC (maxC mE) a9 u9)) (stepC (maxC mE) a10 u10)) (stepC (maxC mE) a11 u11)) (stepC (maxC mE) a12 u12)) (stepC (maxC mE) a13 u13)) (stepC (maxC mE) a14 u14)) (stepC (maxC mE) a15 u15))
      (addf (addf (addf (addf (addf (addf (addf (addf (addf (addf (addf (addf (addf (addf (addf (stepC (maxC mO) b0 w0) (stepC (maxC mO) b1 w1)) (stepC (maxC mO) b2 w2)) (stepC (maxC mO) b3 w3)) (stepC (maxC mO) b4 w4)) (stepC (maxC mO) b5 w5)) (stepC (maxC mO) b6 w6)) (stepC (maxC mO) b7 w7)) (stepC (maxC mO) b8 w8)) (stepC (maxC mO) b9 w9)) (stepC (maxC mO) b10 w10)) (stepC (maxC mO) b11 w11)) (stepC (maxC mO) b12 w12)) (stepC (maxC mO) b13 w13)) (stepC (maxC mO) b14 w14)) (stepC (maxC mO) b15 w15))) g' = pieceC l g q k v r := by
  subst ha0 hb0 hu0 hw0 ha1 hb1 hu1 hw1 ha2 hb2 hu2 hw2 ha3 hb3 hu3 hw3 ha4 hb4 hu4 hw4 ha5 hb5 hu5 hw5 ha6 hb6 hu6 hw6 ha7 hb7 hu7 hw7 ha8 hb8 hu8 hw8 ha9 hb9 hu9 hw9 ha10 hb10 hu10 hw10 ha11 hb11 hu11 hw11 ha12 hb12 hu12 hw12 ha13 hb13 hu13 hw13 ha14 hb14 hu14 hw14 ha15 hb15 hu15 hw15
  rw [hl, hg, hmE, hmO, hsE, hsO]
  rfl

/-- Score matrices of equal queries and keys are equal: the first softmax. -/
theorem score_fst {q q' : Vec F S1x256x128 .f32} {k k' : Vec F S1x4096x128 .bf16} (hq : q' = q) (hk : k' = k) :
    scoreC (k0_pay5 q') k' = scoreC (k0_pay5 q) k := by rw [hq, hk]

/-- Score matrices of equal queries and keys are equal: the second softmax. -/
theorem score_snd {q q' : Vec F S1x256x128 .f32} {k k' : Vec F S1x4096x128 .bf16} (hq : q' = q) (hk : k' = k) :
    scoreC (k0_pay6 q') k' = scoreC (k0_pay6 q) k := by rw [hq, hk]

/-- Sixteen tiles' contributions added in order are the stream of the score matrix the tiles are cut from. -/
theorem stream_of {q : FVec F S256x128 .bf16} {k : Vec F S1x4096x128 .bf16} {v : Vec F S1x4096x256 .bf16} {s m : Vec F S1x256x4096 .f32} {a0 a1 a2 a3 a4 a5 a6 a7 a8 a9 a10 a11 a12 a13 a14 a15 : Vec F S256x256 .f32} {u0 u1 u2 u3 u4 u5 u6 u7 u8 u9 u10 u11 u12 u13 u14 u15 : Vec F S1x256x256 .bf16}
    (hm : m = s) (hs : s = scoreC q k) (ha0 : a0 = tileC s 0) (hu0 : u0 = vtileC v 0) (ha1 : a1 = tileC s 1) (hu1 : u1 = vtileC v 1) (ha2 : a2 = tileC s 2) (hu2 : u2 = vtileC v 2) (ha3 : a3 = tileC s 3) (hu3 : u3 = vtileC v 3) (ha4 : a4 = tileC s 4) (hu4 : u4 = vtileC v 4) (ha5 : a5 = tileC s 5) (hu5 : u5 = vtileC v 5) (ha6 : a6 = tileC s 6) (hu6 : u6 = vtileC v 6) (ha7 : a7 = tileC s 7) (hu7 : u7 = vtileC v 7) (ha8 : a8 = tileC s 8) (hu8 : u8 = vtileC v 8) (ha9 : a9 = tileC s 9) (hu9 : u9 = vtileC v 9) (ha10 : a10 = tileC s 10) (hu10 : u10 = vtileC v 10) (ha11 : a11 = tileC s 11) (hu11 : u11 = vtileC v 11) (ha12 : a12 = tileC s 12) (hu12 : u12 = vtileC v 12) (ha13 : a13 = tileC s 13) (hu13 : u13 = vtileC v 13) (ha14 : a14 = tileC s 14) (hu14 : u14 = vtileC v 14) (ha15 : a15 = tileC s 15) (hu15 : u15 = vtileC v 15) :
    addf (addf (addf (addf (addf (addf (addf (addf (addf (addf (addf (addf (addf (addf (addf (stepC (maxC m) a0 u0) (stepC (maxC m) a1 u1)) (stepC (maxC m) a2 u2)) (stepC (maxC m) a3 u3)) (stepC (maxC m) a4 u4)) (stepC (maxC m) a5 u5)) (stepC (maxC m) a6 u6)) (stepC (maxC m) a7 u7)) (stepC (maxC m) a8 u8)) (stepC (maxC m) a9 u9)) (stepC (maxC m) a10 u10)) (stepC (maxC m) a11 u11)) (stepC (maxC m) a12 u12)) (stepC (maxC m) a13 u13)) (stepC (maxC m) a14 u14)) (stepC (maxC m) a15 u15) = streamC (scoreC q k) (vtileC v) := by
  subst ha0 hu0 ha1 hu1 ha2 hu2 ha3 hu3 ha4 hu4 ha5 hu5 ha6 hu6 ha7 hu7 ha8 hu8 ha9 hu9 ha10 hu10 ha11 hu11 ha12 hu12 ha13 hu13 ha14 hu14 ha15 hu15
  rw [hm, hs]
  rfl

/-- A store, from its two streams. -/
theorem last_of {l l' : Vec F S4x64 .f32} {g g' : Vec F S1x128 .f32} {q : Vec F S1x2048x128 .f32} {k : Vec F S1x4096x128 .bf16} {v : Vec F S1x4096x256 .bf16} {r : Fin 8}
    {x y : FVec F S256x256 .f32} (hl : l' = l) (hg : g' = g)
    (hx : x = streamC (scoreC (k0_pay5 (qtileC q r)) k) (vtileC v)) (hy : y = streamC (scoreC (k0_pay6 (qtileC q r)) k) (vtileC v)) :
    normC (diffC (k0_pay2 l') x y) g' = pieceC l g q k v r := by
  rw [hx, hy, hl, hg]
  rfl

/-- What a point stores: its eight pieces, each a function of the point's blocks. -/
theorem out_eq (c : Dev nD) (i : grid0.Coords) (arg3 : Memref sig .tc .vmem S4x64 .f32) (harg3 : arg3.IsWhole) (arg4 : Memref sig .tc .vmem S1x128 .f32) (harg4 : arg4.IsWhole) (arg5 : Memref sig .tc .vmem S1x2048x128 .f32) (harg5 : arg5.IsWhole)
    (arg6 : Memref sig .tc .vmem S1x4096x128 .bf16) (harg6 : arg6.IsWhole) (arg7 : Memref sig .tc .vmem S1x4096x256 .bf16) (harg7 : arg7.IsWhole) (arg8 : Memref sig .tc .vmem S1x2048x128 .bf16) (harg8 : arg8.IsWhole) (arg9 : Memref sig .tc .vmem S2x256x4096 .f32) (harg9 : arg9.IsWhole)
    (x0 : Vec F S4x64 .f32) (x1 : Vec F S1x128 .f32) (x2 : Vec F S1x2048x128 .f32) (x3 : Vec F S1x4096x128 .bf16) (x4 : Vec F S1x4096x256 .bf16) :
    out0_A_5 (F := F) c i arg3 harg3 arg4 harg4 arg5 harg5 arg6 harg6 arg7 harg7 arg8 harg8 arg9 harg9 x0 x1 x2 x3 x4 = View.canon (Val := Elt F) (e := .bf16) [
      ⟨Rect.unit (s := S1x2048x128) ![0, 1792, 0] S1x256x128.size inb_S1x2048x128_S1x256x128_0_1792_0, pieceC x0 x1 x2 x3 x4 7⟩,
      ⟨Rect.unit (s := S1x2048x128) ![0, 1536, 0] S1x256x128.size inb_S1x2048x128_S1x256x128_0_1536_0, pieceC x0 x1 x2 x3 x4 6⟩,
      ⟨Rect.unit (s := S1x2048x128) ![0, 1280, 0] S1x256x128.size inb_S1x2048x128_S1x256x128_0_1280_0, pieceC x0 x1 x2 x3 x4 5⟩,
      ⟨Rect.unit (s := S1x2048x128) ![0, 1024, 0] S1x256x128.size inb_S1x2048x128_S1x256x128_0_1024_0, pieceC x0 x1 x2 x3 x4 4⟩,
      ⟨Rect.unit (s := S1x2048x128) ![0, 768, 0] S1x256x128.size inb_S1x2048x128_S1x256x128_0_768_0, pieceC x0 x1 x2 x3 x4 3⟩,
      ⟨Rect.unit (s := S1x2048x128) ![0, 512, 0] S1x256x128.size inb_S1x2048x128_S1x256x128_0_512_0, pieceC x0 x1 x2 x3 x4 2⟩,
      ⟨Rect.unit (s := S1x2048x128) ![0, 256, 0] S1x256x128.size inb_S1x2048x128_S1x256x128_0_256_0, pieceC x0 x1 x2 x3 x4 1⟩,
      ⟨Rect.unit (s := S1x2048x128) ![0, 0, 0] S1x256x128.size inb_S1x2048x128_S1x256x128_0_0_0, pieceC x0 x1 x2 x3 x4 0⟩] := by
  have hv : ∀ (kt : Fin 16) (h), View.readAt (Elt F) arg7.view
      (Rect.unit (s := S1x4096x256) ![0, 256 * kt.val, 0] S1x256x256.size h).toLoadRect (harg7.unread x4) = vtileC x4 kt :=
    fun kt h => funext fun x => Memref.IsWhole.readAt_unread harg7 x4 _ x
  have hq : ∀ (r : Fin 8) (h), View.readAt (Elt F) arg5.view
      (Rect.unit (s := S1x2048x128) ![0, 256 * r.val, 0] S1x256x128.size h).toLoadRect (harg5.unread x2) = qtileC x2 r :=
    fun r h => funext fun x => Memref.IsWhole.readAt_unread harg5 x2 _ x
  have hk : ∀ h, View.readAt (Elt F) arg6.view
      (Rect.unit (s := S1x4096x128) ![0, 0, 0] S1x4096x128.size h).toLoadRect (harg6.unread x3) = x3 :=
    fun h => funext fun x => (Memref.IsWhole.readAt_unread harg6 x3 _ x).trans (congrArg x3 (funext fun a => Fin.ext (by
      fin_cases a <;> simp [LoadRect.idx_apply])))
  have hl : ∀ h, View.readAt (Elt F) arg3.view
      (Rect.unit (s := S4x64) ![0, 0] S4x64.size h).toLoadRect (harg3.unread x0) = x0 :=
    fun h => funext fun x => (Memref.IsWhole.readAt_unread harg3 x0 _ x).trans (congrArg x0 (funext fun a => Fin.ext (by
      fin_cases a <;> simp [LoadRect.idx_apply])))
  have hg : ∀ h, View.readAt (Elt F) arg4.view
      (Rect.unit (s := S1x128) ![0, 0] S1x128.size h).toLoadRect (harg4.unread x1) = x1 :=
    fun h => funext fun x => (Memref.IsWhole.readAt_unread harg4 x1 _ x).trans (congrArg x1 (funext fun a => Fin.ext (by
      fin_cases a <;> simp [LoadRect.idx_apply])))
  unfold out0_A_5
  rw [View.read_writes_junk_eq_canon]
  unfold kernelRun0_A
  dsimp only
  refine congrArg (View.canon (Val := Elt F) (e := .bf16)) (Loads.cons_eq (Val := Elt F) (e := .bf16) ?_ (Loads.cons_eq (Val := Elt F) (e := .bf16) ?_ (Loads.cons_eq (Val := Elt F) (e := .bf16) ?_ (Loads.cons_eq (Val := Elt F) (e := .bf16) ?_ (Loads.cons_eq (Val := Elt F) (e := .bf16) ?_ (Loads.cons_eq (Val := Elt F) (e := .bf16) ?_ (Loads.cons_eq (Val := Elt F) (e := .bf16) ?_ (Loads.cons_eq (Val := Elt F) (e := .bf16) ?_ rfl))))))))
  · dsimp only [kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, k0_pay1, k0_pay173, k0_pay174, k0_pay175, k0_pay176, k0_pay177, k0_pay178, k0_pay179, k0_pay180, k0_pay181, k0_pay183, k0_pay184, k0_pay185, k0_pay186, k0_pay187, k0_pay188, k0_pay189, k0_pay190, k0_pay191, k0_pay192, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212]
    exact last_of (r := 7) (hl _) (hg _)
      (stream_of (Loads.load_other _ 0 1 (by decide) _ _ _ _ _ _) (score_fst (hq 7 _) (hk _)) (Loads.tile_other _ 0 1 (by decide) _ _ _ _ _ _ _ _ _ _ _ _) (hv 0 _) (Loads.tile_other _ 0 1 (by decide) _ _ _ _ _ _ _ _ _ _ _ _) (hv 1 _) (Loads.tile_other _ 0 1 (by decide) _ _ _ _ _ _ _ _ _ _ _ _) (hv 2 _) (Loads.tile_other _ 0 1 (by decide) _ _ _ _ _ _ _ _ _ _ _ _) (hv 3 _) (Loads.tile_other _ 0 1 (by decide) _ _ _ _ _ _ _ _ _ _ _ _) (hv 4 _) (Loads.tile_other _ 0 1 (by decide) _ _ _ _ _ _ _ _ _ _ _ _) (hv 5 _) (Loads.tile_other _ 0 1 (by decide) _ _ _ _ _ _ _ _ _ _ _ _) (hv 6 _) (Loads.tile_other _ 0 1 (by decide) _ _ _ _ _ _ _ _ _ _ _ _) (hv 7 _) (Loads.tile_other _ 0 1 (by decide) _ _ _ _ _ _ _ _ _ _ _ _) (hv 8 _) (Loads.tile_other _ 0 1 (by decide) _ _ _ _ _ _ _ _ _ _ _ _) (hv 9 _) (Loads.tile_other _ 0 1 (by decide) _ _ _ _ _ _ _ _ _ _ _ _) (hv 10 _) (Loads.tile_other _ 0 1 (by decide) _ _ _ _ _ _ _ _ _ _ _ _) (hv 11 _) (Loads.tile_other _ 0 1 (by decide) _ _ _ _ _ _ _ _ _ _ _ _) (hv 12 _) (Loads.tile_other _ 0 1 (by decide) _ _ _ _ _ _ _ _ _ _ _ _) (hv 13 _) (Loads.tile_other _ 0 1 (by decide) _ _ _ _ _ _ _ _ _ _ _ _) (hv 14 _) (Loads.tile_other _ 0 1 (by decide) _ _ _ _ _ _ _ _ _ _ _ _) (hv 15 _))
      (stream_of (Loads.load_same _ 1 _ _ _ _) (score_snd (hq 7 _) (hk _)) (Loads.tile_same _ 1 _ _ _ _ _ _ _ _ _ _) (hv 0 _) (Loads.tile_same _ 1 _ _ _ _ _ _ _ _ _ _) (hv 1 _) (Loads.tile_same _ 1 _ _ _ _ _ _ _ _ _ _) (hv 2 _) (Loads.tile_same _ 1 _ _ _ _ _ _ _ _ _ _) (hv 3 _) (Loads.tile_same _ 1 _ _ _ _ _ _ _ _ _ _) (hv 4 _) (Loads.tile_same _ 1 _ _ _ _ _ _ _ _ _ _) (hv 5 _) (Loads.tile_same _ 1 _ _ _ _ _ _ _ _ _ _) (hv 6 _) (Loads.tile_same _ 1 _ _ _ _ _ _ _ _ _ _) (hv 7 _) (Loads.tile_same _ 1 _ _ _ _ _ _ _ _ _ _) (hv 8 _) (Loads.tile_same _ 1 _ _ _ _ _ _ _ _ _ _) (hv 9 _) (Loads.tile_same _ 1 _ _ _ _ _ _ _ _ _ _) (hv 10 _) (Loads.tile_same _ 1 _ _ _ _ _ _ _ _ _ _) (hv 11 _) (Loads.tile_same _ 1 _ _ _ _ _ _ _ _ _ _) (hv 12 _) (Loads.tile_same _ 1 _ _ _ _ _ _ _ _ _ _) (hv 13 _) (Loads.tile_same _ 1 _ _ _ _ _ _ _ _ _ _) (hv 14 _) (Loads.tile_same _ 1 _ _ _ _ _ _ _ _ _ _) (hv 15 _))
  · dsimp only [kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, k0_pay1, k0_pay173, k0_pay174, k0_pay175, k0_pay176, k0_pay177, k0_pay178, k0_pay179, k0_pay180, k0_pay181, k0_pay183, k0_pay184, k0_pay185, k0_pay186, k0_pay187, k0_pay188, k0_pay189, k0_pay190, k0_pay191, k0_pay192, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212]
    exact last_of (r := 6) (hl _) (hg _)
      (stream_of (Loads.load_other _ 0 1 (by decide) _ _ _ _ _ _) (score_fst (hq 6 _) (hk _)) (Loads.tile_other _ 0 1 (by decide) _ _ _ _ _ _ _ _ _ _ _ _) (hv 0 _) (Loads.tile_other _ 0 1 (by decide) _ _ _ _ _ _ _ _ _ _ _ _) (hv 1 _) (Loads.tile_other _ 0 1 (by decide) _ _ _ _ _ _ _ _ _ _ _ _) (hv 2 _) (Loads.tile_other _ 0 1 (by decide) _ _ _ _ _ _ _ _ _ _ _ _) (hv 3 _) (Loads.tile_other _ 0 1 (by decide) _ _ _ _ _ _ _ _ _ _ _ _) (hv 4 _) (Loads.tile_other _ 0 1 (by decide) _ _ _ _ _ _ _ _ _ _ _ _) (hv 5 _) (Loads.tile_other _ 0 1 (by decide) _ _ _ _ _ _ _ _ _ _ _ _) (hv 6 _) (Loads.tile_other _ 0 1 (by decide) _ _ _ _ _ _ _ _ _ _ _ _) (hv 7 _) (Loads.tile_other _ 0 1 (by decide) _ _ _ _ _ _ _ _ _ _ _ _) (hv 8 _) (Loads.tile_other _ 0 1 (by decide) _ _ _ _ _ _ _ _ _ _ _ _) (hv 9 _) (Loads.tile_other _ 0 1 (by decide) _ _ _ _ _ _ _ _ _ _ _ _) (hv 10 _) (Loads.tile_other _ 0 1 (by decide) _ _ _ _ _ _ _ _ _ _ _ _) (hv 11 _) (Loads.tile_other _ 0 1 (by decide) _ _ _ _ _ _ _ _ _ _ _ _) (hv 12 _) (Loads.tile_other _ 0 1 (by decide) _ _ _ _ _ _ _ _ _ _ _ _) (hv 13 _) (Loads.tile_other _ 0 1 (by decide) _ _ _ _ _ _ _ _ _ _ _ _) (hv 14 _) (Loads.tile_other _ 0 1 (by decide) _ _ _ _ _ _ _ _ _ _ _ _) (hv 15 _))
      (stream_of (Loads.load_other _ 1 0 (by decide) _ _ _ _ _ _) (score_snd (hq 6 _) (hk _)) (Loads.tile_other _ 1 0 (by decide) _ _ _ _ _ _ _ _ _ _ _ _) (hv 0 _) (Loads.tile_other _ 1 0 (by decide) _ _ _ _ _ _ _ _ _ _ _ _) (hv 1 _) (Loads.tile_other _ 1 0 (by decide) _ _ _ _ _ _ _ _ _ _ _ _) (hv 2 _) (Loads.tile_other _ 1 0 (by decide) _ _ _ _ _ _ _ _ _ _ _ _) (hv 3 _) (Loads.tile_other _ 1 0 (by decide) _ _ _ _ _ _ _ _ _ _ _ _) (hv 4 _) (Loads.tile_other _ 1 0 (by decide) _ _ _ _ _ _ _ _ _ _ _ _) (hv 5 _) (Loads.tile_other _ 1 0 (by decide) _ _ _ _ _ _ _ _ _ _ _ _) (hv 6 _) (Loads.tile_other _ 1 0 (by decide) _ _ _ _ _ _ _ _ _ _ _ _) (hv 7 _) (Loads.tile_other _ 1 0 (by decide) _ _ _ _ _ _ _ _ _ _ _ _) (hv 8 _) (Loads.tile_other _ 1 0 (by decide) _ _ _ _ _ _ _ _ _ _ _ _) (hv 9 _) (Loads.tile_other _ 1 0 (by decide) _ _ _ _ _ _ _ _ _ _ _ _) (hv 10 _) (Loads.tile_other _ 1 0 (by decide) _ _ _ _ _ _ _ _ _ _ _ _) (hv 11 _) (Loads.tile_other _ 1 0 (by decide) _ _ _ _ _ _ _ _ _ _ _ _) (hv 12 _) (Loads.tile_other _ 1 0 (by decide) _ _ _ _ _ _ _ _ _ _ _ _) (hv 13 _) (Loads.tile_other _ 1 0 (by decide) _ _ _ _ _ _ _ _ _ _ _ _) (hv 14 _) (Loads.tile_other _ 1 0 (by decide) _ _ _ _ _ _ _ _ _ _ _ _) (hv 15 _))
  · exact (piece_of (r := 5) (hl _) (hg _) (Loads.load_other _ 0 1 (by decide) _ _ _ _ _ _) (Loads.load_other _ 1 0 (by decide) _ _ _ _ _ _) (score_fst (hq 5 _) (hk _)) (score_snd (hq 5 _) (hk _))
      (Loads.tile_other _ 0 1 (by decide) _ _ _ _ _ _ _ _ _ _ _ _) (Loads.tile_other _ 1 0 (by decide) _ _ _ _ _ _ _ _ _ _ _ _) (hv 0 _) (hv 0 _) (Loads.tile_other _ 0 1 (by decide) _ _ _ _ _ _ _ _ _ _ _ _) (Loads.tile_other _ 1 0 (by decide) _ _ _ _ _ _ _ _ _ _ _ _) (hv 1 _) (hv 1 _) (Loads.tile_other _ 0 1 (by decide) _ _ _ _ _ _ _ _ _ _ _ _) (Loads.tile_other _ 1 0 (by decide) _ _ _ _ _ _ _ _ _ _ _ _) (hv 2 _) (hv 2 _) (Loads.tile_other _ 0 1 (by decide) _ _ _ _ _ _ _ _ _ _ _ _) (Loads.tile_other _ 1 0 (by decide) _ _ _ _ _ _ _ _ _ _ _ _) (hv 3 _) (hv 3 _) (Loads.tile_other _ 0 1 (by decide) _ _ _ _ _ _ _ _ _ _ _ _) (Loads.tile_other _ 1 0 (by decide) _ _ _ _ _ _ _ _ _ _ _ _) (hv 4 _) (hv 4 _) (Loads.tile_other _ 0 1 (by decide) _ _ _ _ _ _ _ _ _ _ _ _) (Loads.tile_other _ 1 0 (by decide) _ _ _ _ _ _ _ _ _ _ _ _) (hv 5 _) (hv 5 _) (Loads.tile_other _ 0 1 (by decide) _ _ _ _ _ _ _ _ _ _ _ _) (Loads.tile_other _ 1 0 (by decide) _ _ _ _ _ _ _ _ _ _ _ _) (hv 6 _) (hv 6 _) (Loads.tile_other _ 0 1 (by decide) _ _ _ _ _ _ _ _ _ _ _ _) (Loads.tile_other _ 1 0 (by decide) _ _ _ _ _ _ _ _ _ _ _ _) (hv 7 _) (hv 7 _) (Loads.tile_other _ 0 1 (by decide) _ _ _ _ _ _ _ _ _ _ _ _) (Loads.tile_other _ 1 0 (by decide) _ _ _ _ _ _ _ _ _ _ _ _) (hv 8 _) (hv 8 _) (Loads.tile_other _ 0 1 (by decide) _ _ _ _ _ _ _ _ _ _ _ _) (Loads.tile_other _ 1 0 (by decide) _ _ _ _ _ _ _ _ _ _ _ _) (hv 9 _) (hv 9 _) (Loads.tile_other _ 0 1 (by decide) _ _ _ _ _ _ _ _ _ _ _ _) (Loads.tile_other _ 1 0 (by decide) _ _ _ _ _ _ _ _ _ _ _ _) (hv 10 _) (hv 10 _) (Loads.tile_other _ 0 1 (by decide) _ _ _ _ _ _ _ _ _ _ _ _) (Loads.tile_other _ 1 0 (by decide) _ _ _ _ _ _ _ _ _ _ _ _) (hv 11 _) (hv 11 _) (Loads.tile_other _ 0 1 (by decide) _ _ _ _ _ _ _ _ _ _ _ _) (Loads.tile_other _ 1 0 (by decide) _ _ _ _ _ _ _ _ _ _ _ _) (hv 12 _) (hv 12 _) (Loads.tile_other _ 0 1 (by decide) _ _ _ _ _ _ _ _ _ _ _ _) (Loads.tile_other _ 1 0 (by decide) _ _ _ _ _ _ _ _ _ _ _ _) (hv 13 _) (hv 13 _) (Loads.tile_other _ 0 1 (by decide) _ _ _ _ _ _ _ _ _ _ _ _) (Loads.tile_other _ 1 0 (by decide) _ _ _ _ _ _ _ _ _ _ _ _) (hv 14 _) (hv 14 _) (Loads.tile_other _ 0 1 (by decide) _ _ _ _ _ _ _ _ _ _ _ _) (Loads.tile_other _ 1 0 (by decide) _ _ _ _ _ _ _ _ _ _ _ _) (hv 15 _) (hv 15 _))
  · exact (piece_of (r := 4) (hl _) (hg _) (Loads.load_other _ 0 1 (by decide) _ _ _ _ _ _) (Loads.load_other _ 1 0 (by decide) _ _ _ _ _ _) (score_fst (hq 4 _) (hk _)) (score_snd (hq 4 _) (hk _))
      (Loads.tile_other _ 0 1 (by decide) _ _ _ _ _ _ _ _ _ _ _ _) (Loads.tile_other _ 1 0 (by decide) _ _ _ _ _ _ _ _ _ _ _ _) (hv 0 _) (hv 0 _) (Loads.tile_other _ 0 1 (by decide) _ _ _ _ _ _ _ _ _ _ _ _) (Loads.tile_other _ 1 0 (by decide) _ _ _ _ _ _ _ _ _ _ _ _) (hv 1 _) (hv 1 _) (Loads.tile_other _ 0 1 (by decide) _ _ _ _ _ _ _ _ _ _ _ _) (Loads.tile_other _ 1 0 (by decide) _ _ _ _ _ _ _ _ _ _ _ _) (hv 2 _) (hv 2 _) (Loads.tile_other _ 0 1 (by decide) _ _ _ _ _ _ _ _ _ _ _ _) (Loads.tile_other _ 1 0 (by decide) _ _ _ _ _ _ _ _ _ _ _ _) (hv 3 _) (hv 3 _) (Loads.tile_other _ 0 1 (by decide) _ _ _ _ _ _ _ _ _ _ _ _) (Loads.tile_other _ 1 0 (by decide) _ _ _ _ _ _ _ _ _ _ _ _) (hv 4 _) (hv 4 _) (Loads.tile_other _ 0 1 (by decide) _ _ _ _ _ _ _ _ _ _ _ _) (Loads.tile_other _ 1 0 (by decide) _ _ _ _ _ _ _ _ _ _ _ _) (hv 5 _) (hv 5 _) (Loads.tile_other _ 0 1 (by decide) _ _ _ _ _ _ _ _ _ _ _ _) (Loads.tile_other _ 1 0 (by decide) _ _ _ _ _ _ _ _ _ _ _ _) (hv 6 _) (hv 6 _) (Loads.tile_other _ 0 1 (by decide) _ _ _ _ _ _ _ _ _ _ _ _) (Loads.tile_other _ 1 0 (by decide) _ _ _ _ _ _ _ _ _ _ _ _) (hv 7 _) (hv 7 _) (Loads.tile_other _ 0 1 (by decide) _ _ _ _ _ _ _ _ _ _ _ _) (Loads.tile_other _ 1 0 (by decide) _ _ _ _ _ _ _ _ _ _ _ _) (hv 8 _) (hv 8 _) (Loads.tile_other _ 0 1 (by decide) _ _ _ _ _ _ _ _ _ _ _ _) (Loads.tile_other _ 1 0 (by decide) _ _ _ _ _ _ _ _ _ _ _ _) (hv 9 _) (hv 9 _) (Loads.tile_other _ 0 1 (by decide) _ _ _ _ _ _ _ _ _ _ _ _) (Loads.tile_other _ 1 0 (by decide) _ _ _ _ _ _ _ _ _ _ _ _) (hv 10 _) (hv 10 _) (Loads.tile_other _ 0 1 (by decide) _ _ _ _ _ _ _ _ _ _ _ _) (Loads.tile_other _ 1 0 (by decide) _ _ _ _ _ _ _ _ _ _ _ _) (hv 11 _) (hv 11 _) (Loads.tile_other _ 0 1 (by decide) _ _ _ _ _ _ _ _ _ _ _ _) (Loads.tile_other _ 1 0 (by decide) _ _ _ _ _ _ _ _ _ _ _ _) (hv 12 _) (hv 12 _) (Loads.tile_other _ 0 1 (by decide) _ _ _ _ _ _ _ _ _ _ _ _) (Loads.tile_other _ 1 0 (by decide) _ _ _ _ _ _ _ _ _ _ _ _) (hv 13 _) (hv 13 _) (Loads.tile_other _ 0 1 (by decide) _ _ _ _ _ _ _ _ _ _ _ _) (Loads.tile_other _ 1 0 (by decide) _ _ _ _ _ _ _ _ _ _ _ _) (hv 14 _) (hv 14 _) (Loads.tile_other _ 0 1 (by decide) _ _ _ _ _ _ _ _ _ _ _ _) (Loads.tile_other _ 1 0 (by decide) _ _ _ _ _ _ _ _ _ _ _ _) (hv 15 _) (hv 15 _))
  · exact (piece_of (r := 3) (hl _) (hg _) (Loads.load_other _ 0 1 (by decide) _ _ _ _ _ _) (Loads.load_other _ 1 0 (by decide) _ _ _ _ _ _) (score_fst (hq 3 _) (hk _)) (score_snd (hq 3 _) (hk _))
      (Loads.tile_other _ 0 1 (by decide) _ _ _ _ _ _ _ _ _ _ _ _) (Loads.tile_other _ 1 0 (by decide) _ _ _ _ _ _ _ _ _ _ _ _) (hv 0 _) (hv 0 _) (Loads.tile_other _ 0 1 (by decide) _ _ _ _ _ _ _ _ _ _ _ _) (Loads.tile_other _ 1 0 (by decide) _ _ _ _ _ _ _ _ _ _ _ _) (hv 1 _) (hv 1 _) (Loads.tile_other _ 0 1 (by decide) _ _ _ _ _ _ _ _ _ _ _ _) (Loads.tile_other _ 1 0 (by decide) _ _ _ _ _ _ _ _ _ _ _ _) (hv 2 _) (hv 2 _) (Loads.tile_other _ 0 1 (by decide) _ _ _ _ _ _ _ _ _ _ _ _) (Loads.tile_other _ 1 0 (by decide) _ _ _ _ _ _ _ _ _ _ _ _) (hv 3 _) (hv 3 _) (Loads.tile_other _ 0 1 (by decide) _ _ _ _ _ _ _ _ _ _ _ _) (Loads.tile_other _ 1 0 (by decide) _ _ _ _ _ _ _ _ _ _ _ _) (hv 4 _) (hv 4 _) (Loads.tile_other _ 0 1 (by decide) _ _ _ _ _ _ _ _ _ _ _ _) (Loads.tile_other _ 1 0 (by decide) _ _ _ _ _ _ _ _ _ _ _ _) (hv 5 _) (hv 5 _) (Loads.tile_other _ 0 1 (by decide) _ _ _ _ _ _ _ _ _ _ _ _) (Loads.tile_other _ 1 0 (by decide) _ _ _ _ _ _ _ _ _ _ _ _) (hv 6 _) (hv 6 _) (Loads.tile_other _ 0 1 (by decide) _ _ _ _ _ _ _ _ _ _ _ _) (Loads.tile_other _ 1 0 (by decide) _ _ _ _ _ _ _ _ _ _ _ _) (hv 7 _) (hv 7 _) (Loads.tile_other _ 0 1 (by decide) _ _ _ _ _ _ _ _ _ _ _ _) (Loads.tile_other _ 1 0 (by decide) _ _ _ _ _ _ _ _ _ _ _ _) (hv 8 _) (hv 8 _) (Loads.tile_other _ 0 1 (by decide) _ _ _ _ _ _ _ _ _ _ _ _) (Loads.tile_other _ 1 0 (by decide) _ _ _ _ _ _ _ _ _ _ _ _) (hv 9 _) (hv 9 _) (Loads.tile_other _ 0 1 (by decide) _ _ _ _ _ _ _ _ _ _ _ _) (Loads.tile_other _ 1 0 (by decide) _ _ _ _ _ _ _ _ _ _ _ _) (hv 10 _) (hv 10 _) (Loads.tile_other _ 0 1 (by decide) _ _ _ _ _ _ _ _ _ _ _ _) (Loads.tile_other _ 1 0 (by decide) _ _ _ _ _ _ _ _ _ _ _ _) (hv 11 _) (hv 11 _) (Loads.tile_other _ 0 1 (by decide) _ _ _ _ _ _ _ _ _ _ _ _) (Loads.tile_other _ 1 0 (by decide) _ _ _ _ _ _ _ _ _ _ _ _) (hv 12 _) (hv 12 _) (Loads.tile_other _ 0 1 (by decide) _ _ _ _ _ _ _ _ _ _ _ _) (Loads.tile_other _ 1 0 (by decide) _ _ _ _ _ _ _ _ _ _ _ _) (hv 13 _) (hv 13 _) (Loads.tile_other _ 0 1 (by decide) _ _ _ _ _ _ _ _ _ _ _ _) (Loads.tile_other _ 1 0 (by decide) _ _ _ _ _ _ _ _ _ _ _ _) (hv 14 _) (hv 14 _) (Loads.tile_other _ 0 1 (by decide) _ _ _ _ _ _ _ _ _ _ _ _) (Loads.tile_other _ 1 0 (by decide) _ _ _ _ _ _ _ _ _ _ _ _) (hv 15 _) (hv 15 _))
  · exact (piece_of (r := 2) (hl _) (hg _) (Loads.load_other _ 0 1 (by decide) _ _ _ _ _ _) (Loads.load_other _ 1 0 (by decide) _ _ _ _ _ _) (score_fst (hq 2 _) (hk _)) (score_snd (hq 2 _) (hk _))
      (Loads.tile_other _ 0 1 (by decide) _ _ _ _ _ _ _ _ _ _ _ _) (Loads.tile_other _ 1 0 (by decide) _ _ _ _ _ _ _ _ _ _ _ _) (hv 0 _) (hv 0 _) (Loads.tile_other _ 0 1 (by decide) _ _ _ _ _ _ _ _ _ _ _ _) (Loads.tile_other _ 1 0 (by decide) _ _ _ _ _ _ _ _ _ _ _ _) (hv 1 _) (hv 1 _) (Loads.tile_other _ 0 1 (by decide) _ _ _ _ _ _ _ _ _ _ _ _) (Loads.tile_other _ 1 0 (by decide) _ _ _ _ _ _ _ _ _ _ _ _) (hv 2 _) (hv 2 _) (Loads.tile_other _ 0 1 (by decide) _ _ _ _ _ _ _ _ _ _ _ _) (Loads.tile_other _ 1 0 (by decide) _ _ _ _ _ _ _ _ _ _ _ _) (hv 3 _) (hv 3 _) (Loads.tile_other _ 0 1 (by decide) _ _ _ _ _ _ _ _ _ _ _ _) (Loads.tile_other _ 1 0 (by decide) _ _ _ _ _ _ _ _ _ _ _ _) (hv 4 _) (hv 4 _) (Loads.tile_other _ 0 1 (by decide) _ _ _ _ _ _ _ _ _ _ _ _) (Loads.tile_other _ 1 0 (by decide) _ _ _ _ _ _ _ _ _ _ _ _) (hv 5 _) (hv 5 _) (Loads.tile_other _ 0 1 (by decide) _ _ _ _ _ _ _ _ _ _ _ _) (Loads.tile_other _ 1 0 (by decide) _ _ _ _ _ _ _ _ _ _ _ _) (hv 6 _) (hv 6 _) (Loads.tile_other _ 0 1 (by decide) _ _ _ _ _ _ _ _ _ _ _ _) (Loads.tile_other _ 1 0 (by decide) _ _ _ _ _ _ _ _ _ _ _ _) (hv 7 _) (hv 7 _) (Loads.tile_other _ 0 1 (by decide) _ _ _ _ _ _ _ _ _ _ _ _) (Loads.tile_other _ 1 0 (by decide) _ _ _ _ _ _ _ _ _ _ _ _) (hv 8 _) (hv 8 _) (Loads.tile_other _ 0 1 (by decide) _ _ _ _ _ _ _ _ _ _ _ _) (Loads.tile_other _ 1 0 (by decide) _ _ _ _ _ _ _ _ _ _ _ _) (hv 9 _) (hv 9 _) (Loads.tile_other _ 0 1 (by decide) _ _ _ _ _ _ _ _ _ _ _ _) (Loads.tile_other _ 1 0 (by decide) _ _ _ _ _ _ _ _ _ _ _ _) (hv 10 _) (hv 10 _) (Loads.tile_other _ 0 1 (by decide) _ _ _ _ _ _ _ _ _ _ _ _) (Loads.tile_other _ 1 0 (by decide) _ _ _ _ _ _ _ _ _ _ _ _) (hv 11 _) (hv 11 _) (Loads.tile_other _ 0 1 (by decide) _ _ _ _ _ _ _ _ _ _ _ _) (Loads.tile_other _ 1 0 (by decide) _ _ _ _ _ _ _ _ _ _ _ _) (hv 12 _) (hv 12 _) (Loads.tile_other _ 0 1 (by decide) _ _ _ _ _ _ _ _ _ _ _ _) (Loads.tile_other _ 1 0 (by decide) _ _ _ _ _ _ _ _ _ _ _ _) (hv 13 _) (hv 13 _) (Loads.tile_other _ 0 1 (by decide) _ _ _ _ _ _ _ _ _ _ _ _) (Loads.tile_other _ 1 0 (by decide) _ _ _ _ _ _ _ _ _ _ _ _) (hv 14 _) (hv 14 _) (Loads.tile_other _ 0 1 (by decide) _ _ _ _ _ _ _ _ _ _ _ _) (Loads.tile_other _ 1 0 (by decide) _ _ _ _ _ _ _ _ _ _ _ _) (hv 15 _) (hv 15 _))
  · exact (piece_of (r := 1) (hl _) (hg _) (Loads.load_other _ 0 1 (by decide) _ _ _ _ _ _) (Loads.load_other _ 1 0 (by decide) _ _ _ _ _ _) (score_fst (hq 1 _) (hk _)) (score_snd (hq 1 _) (hk _))
      (Loads.tile_other _ 0 1 (by decide) _ _ _ _ _ _ _ _ _ _ _ _) (Loads.tile_other _ 1 0 (by decide) _ _ _ _ _ _ _ _ _ _ _ _) (hv 0 _) (hv 0 _) (Loads.tile_other _ 0 1 (by decide) _ _ _ _ _ _ _ _ _ _ _ _) (Loads.tile_other _ 1 0 (by decide) _ _ _ _ _ _ _ _ _ _ _ _) (hv 1 _) (hv 1 _) (Loads.tile_other _ 0 1 (by decide) _ _ _ _ _ _ _ _ _ _ _ _) (Loads.tile_other _ 1 0 (by decide) _ _ _ _ _ _ _ _ _ _ _ _) (hv 2 _) (hv 2 _) (Loads.tile_other _ 0 1 (by decide) _ _ _ _ _ _ _ _ _ _ _ _) (Loads.tile_other _ 1 0 (by decide) _ _ _ _ _ _ _ _ _ _ _ _) (hv 3 _) (hv 3 _) (Loads.tile_other _ 0 1 (by decide) _ _ _ _ _ _ _ _ _ _ _ _) (Loads.tile_other _ 1 0 (by decide) _ _ _ _ _ _ _ _ _ _ _ _) (hv 4 _) (hv 4 _) (Loads.tile_other _ 0 1 (by decide) _ _ _ _ _ _ _ _ _ _ _ _) (Loads.tile_other _ 1 0 (by decide) _ _ _ _ _ _ _ _ _ _ _ _) (hv 5 _) (hv 5 _) (Loads.tile_other _ 0 1 (by decide) _ _ _ _ _ _ _ _ _ _ _ _) (Loads.tile_other _ 1 0 (by decide) _ _ _ _ _ _ _ _ _ _ _ _) (hv 6 _) (hv 6 _) (Loads.tile_other _ 0 1 (by decide) _ _ _ _ _ _ _ _ _ _ _ _) (Loads.tile_other _ 1 0 (by decide) _ _ _ _ _ _ _ _ _ _ _ _) (hv 7 _) (hv 7 _) (Loads.tile_other _ 0 1 (by decide) _ _ _ _ _ _ _ _ _ _ _ _) (Loads.tile_other _ 1 0 (by decide) _ _ _ _ _ _ _ _ _ _ _ _) (hv 8 _) (hv 8 _) (Loads.tile_other _ 0 1 (by decide) _ _ _ _ _ _ _ _ _ _ _ _) (Loads.tile_other _ 1 0 (by decide) _ _ _ _ _ _ _ _ _ _ _ _) (hv 9 _) (hv 9 _) (Loads.tile_other _ 0 1 (by decide) _ _ _ _ _ _ _ _ _ _ _ _) (Loads.tile_other _ 1 0 (by decide) _ _ _ _ _ _ _ _ _ _ _ _) (hv 10 _) (hv 10 _) (Loads.tile_other _ 0 1 (by decide) _ _ _ _ _ _ _ _ _ _ _ _) (Loads.tile_other _ 1 0 (by decide) _ _ _ _ _ _ _ _ _ _ _ _) (hv 11 _) (hv 11 _) (Loads.tile_other _ 0 1 (by decide) _ _ _ _ _ _ _ _ _ _ _ _) (Loads.tile_other _ 1 0 (by decide) _ _ _ _ _ _ _ _ _ _ _ _) (hv 12 _) (hv 12 _) (Loads.tile_other _ 0 1 (by decide) _ _ _ _ _ _ _ _ _ _ _ _) (Loads.tile_other _ 1 0 (by decide) _ _ _ _ _ _ _ _ _ _ _ _) (hv 13 _) (hv 13 _) (Loads.tile_other _ 0 1 (by decide) _ _ _ _ _ _ _ _ _ _ _ _) (Loads.tile_other _ 1 0 (by decide) _ _ _ _ _ _ _ _ _ _ _ _) (hv 14 _) (hv 14 _) (Loads.tile_other _ 0 1 (by decide) _ _ _ _ _ _ _ _ _ _ _ _) (Loads.tile_other _ 1 0 (by decide) _ _ _ _ _ _ _ _ _ _ _ _) (hv 15 _) (hv 15 _))
  · exact (piece_of (r := 0) (hl _) (hg _) (Loads.load_other _ 0 1 (by decide) _ _ _ _ _ _) (Loads.load_other _ 1 0 (by decide) _ _ _ _ _ _) (score_fst (hq 0 _) (hk _)) (score_snd (hq 0 _) (hk _))
      (Loads.tile_other _ 0 1 (by decide) _ _ _ _ _ _ _ _ _ _ _ _) (Loads.tile_other _ 1 0 (by decide) _ _ _ _ _ _ _ _ _ _ _ _) (hv 0 _) (hv 0 _) (Loads.tile_other _ 0 1 (by decide) _ _ _ _ _ _ _ _ _ _ _ _) (Loads.tile_other _ 1 0 (by decide) _ _ _ _ _ _ _ _ _ _ _ _) (hv 1 _) (hv 1 _) (Loads.tile_other _ 0 1 (by decide) _ _ _ _ _ _ _ _ _ _ _ _) (Loads.tile_other _ 1 0 (by decide) _ _ _ _ _ _ _ _ _ _ _ _) (hv 2 _) (hv 2 _) (Loads.tile_other _ 0 1 (by decide) _ _ _ _ _ _ _ _ _ _ _ _) (Loads.tile_other _ 1 0 (by decide) _ _ _ _ _ _ _ _ _ _ _ _) (hv 3 _) (hv 3 _) (Loads.tile_other _ 0 1 (by decide) _ _ _ _ _ _ _ _ _ _ _ _) (Loads.tile_other _ 1 0 (by decide) _ _ _ _ _ _ _ _ _ _ _ _) (hv 4 _) (hv 4 _) (Loads.tile_other _ 0 1 (by decide) _ _ _ _ _ _ _ _ _ _ _ _) (Loads.tile_other _ 1 0 (by decide) _ _ _ _ _ _ _ _ _ _ _ _) (hv 5 _) (hv 5 _) (Loads.tile_other _ 0 1 (by decide) _ _ _ _ _ _ _ _ _ _ _ _) (Loads.tile_other _ 1 0 (by decide) _ _ _ _ _ _ _ _ _ _ _ _) (hv 6 _) (hv 6 _) (Loads.tile_other _ 0 1 (by decide) _ _ _ _ _ _ _ _ _ _ _ _) (Loads.tile_other _ 1 0 (by decide) _ _ _ _ _ _ _ _ _ _ _ _) (hv 7 _) (hv 7 _) (Loads.tile_other _ 0 1 (by decide) _ _ _ _ _ _ _ _ _ _ _ _) (Loads.tile_other _ 1 0 (by decide) _ _ _ _ _ _ _ _ _ _ _ _) (hv 8 _) (hv 8 _) (Loads.tile_other _ 0 1 (by decide) _ _ _ _ _ _ _ _ _ _ _ _) (Loads.tile_other _ 1 0 (by decide) _ _ _ _ _ _ _ _ _ _ _ _) (hv 9 _) (hv 9 _) (Loads.tile_other _ 0 1 (by decide) _ _ _ _ _ _ _ _ _ _ _ _) (Loads.tile_other _ 1 0 (by decide) _ _ _ _ _ _ _ _ _ _ _ _) (hv 10 _) (hv 10 _) (Loads.tile_other _ 0 1 (by decide) _ _ _ _ _ _ _ _ _ _ _ _) (Loads.tile_other _ 1 0 (by decide) _ _ _ _ _ _ _ _ _ _ _ _) (hv 11 _) (hv 11 _) (Loads.tile_other _ 0 1 (by decide) _ _ _ _ _ _ _ _ _ _ _ _) (Loads.tile_other _ 1 0 (by decide) _ _ _ _ _ _ _ _ _ _ _ _) (hv 12 _) (hv 12 _) (Loads.tile_other _ 0 1 (by decide) _ _ _ _ _ _ _ _ _ _ _ _) (Loads.tile_other _ 1 0 (by decide) _ _ _ _ _ _ _ _ _ _ _ _) (hv 13 _) (hv 13 _) (Loads.tile_other _ 0 1 (by decide) _ _ _ _ _ _ _ _ _ _ _ _) (Loads.tile_other _ 1 0 (by decide) _ _ _ _ _ _ _ _ _ _ _ _) (hv 14 _) (hv 14 _) (Loads.tile_other _ 0 1 (by decide) _ _ _ _ _ _ _ _ _ _ _ _) (Loads.tile_other _ 1 0 (by decide) _ _ _ _ _ _ _ _ _ _ _ _) (hv 15 _) (hv 15 _))

end Cert.Diff

end
-- ==== Proof.DiffMath.lean ====
/- The differential attention kernel's stores, element by element, over the extended reals. -/
module

public import proofs.«01_k».proof.Proof.DiffPieces
public import proofs.«01_k».proof.Proof.AttnMath
public import Idealize.ShloMosaic.Lib.Pipeline.ValueKit
public import Idealize.ShloMosaic.Lib.Pointwise

@[expose] public section

set_option maxRecDepth 16384

noncomputable section

namespace Cert.Diff

open Cert.KernelCIdeal Cert.KernelCIdeal.Gen Idealize.ShloMosaic Idealize.ShloMosaic.TcCoe Idealize.SL.Sem
open Cert.KernelIdeal.Value (dotR scaled_dot ofBits_neg_inf lane_lt add_of_zero zero_of_add)

/-- The kernel's folded scale denotes the real it was computed from. -/
theorem scale_eq : (Named.named κ "attn_scale" 0x3E38AA3B#32 : Ideal .f32) = ((8⁻¹ * (Real.log 2)⁻¹ : ℝ) : EReal) := by
  show (((1 / 8) * (Real.log 2)⁻¹ : ℝ) : EReal) = _
  norm_num

/-- The constant of lambda is a real number. -/
theorem init_real : ∃ r : ℝ, Ideal.ofBits .f32 0x3EF1014C#32 = ((r : ℝ) : EReal) := by
  refine ⟨(Ideal.ofBits .f32 0x3EF1014C#32).toReal, (EReal.coe_toReal ?_ ?_).symm⟩
  · simp [Ideal.ofBits, Ideal.ieee]
    rw [← EReal.coe_mul]
    exact EReal.coe_ne_top _
  · simp [Ideal.ofBits, Ideal.ieee]
    rw [← EReal.coe_mul]
    exact EReal.coe_ne_bot _

/-- Lambda: the difference of two exponentials of inner products, and a constant. -/
def lamOf (L1 K1 L2 K2 : Fin 64 → EReal) : EReal :=
  Ideal.exp (∑ d, L1 d * K1 d) - Ideal.exp (∑ d, L2 d * K2 d) + Ideal.ofBits .f32 0x3EF1014C#32

/-- Lambda of finite vectors is a real number. -/
theorem lam_real (L1 K1 L2 K2 : Fin 64 → ℝ) : ∃ r : ℝ, lamOf (fun d => ((L1 d : ℝ) : EReal)) (fun d => ((K1 d : ℝ) : EReal))
    (fun d => ((L2 d : ℝ) : EReal)) (fun d => ((K2 d : ℝ) : EReal)) = ((r : ℝ) : EReal) := by
  obtain ⟨r, hr⟩ := init_real
  unfold lamOf
  simp only [hr, ← EReal.coe_mul, Softmax.coe_sum, Ideal.exp_coe, ← EReal.coe_sub, ← EReal.coe_add]
  exact ⟨_, rfl⟩

/-- The kernel's lambda, from the four rows of the block of vectors. -/
theorem lam_at (l : Vec Ideal S4x64 .f32) : k0_pay2 l (ix2 0 0)
    = lamOf (fun d => l (ix2 0 d)) (fun d => l (ix2 1 d)) (fun d => l (ix2 2 d)) (fun d => l (ix2 3 d)) := by
  pointwise [k0_pay2]
  rfl

/-- An element of key tile `kt` of a score matrix. -/
theorem tile_at (s : Vec Ideal S1x256x4096 .f32) (kt : Fin 16) (r t : Fin 256) :
    tileC s kt (ix2 r t) = s (ix3 0 r ⟨kt.val * 256 + t.val, by omega⟩) := by
  unfold tileC
  pointwise
  refine congrArg (fun x => s (ix3 0 r x)) (Fin.ext ?_)
  show 256 * kt.val + t.val = kt.val * 256 + t.val
  omega

/-- An element of the rows of the value block beside key tile `kt`. -/
theorem vtile_at (v : Vec Ideal S1x4096x256 .bf16) (kt : Fin 16) (t : Fin 256) (e : Fin 256) :
    vtileC v kt (ix3 0 t e) = v (ix3 0 ⟨kt.val * 256 + t.val, by omega⟩ e) := by
  unfold vtileC
  refine congrArg v (funext fun a => Fin.ext ?_)
  fin_cases a <;> simp [LoadRect.idx_apply] <;> omega

/-- One key tile's contribution at a row and lane: its weights against a column of the value rows, summed. -/
theorem step_at (m t : FVec Ideal S256x256 .f32) (u : Vec Ideal S1x256x256 .bf16) (r : Fin 256) (e : Fin 256) :
    stepC m t u (ix2 r e) = ∑ k : Fin 256, Ideal.exp2 (t (ix2 r k) - m (ix2 r k)) * u (ix3 0 k e) := by
  pointwise [stepC]
  rfl

/-- The row maxima of a score matrix, as spread over a tile, at an element. -/
theorem max_at (s : Vec Ideal S1x256x4096 .f32) (r t : Fin 256) :
    maxC s (ix2 r t) = Finset.univ.fold max ⊥ fun j : Fin 4096 => s (ix3 0 r j) := by
  pointwise [maxC]
  rw [ofBits_neg_inf]

/-- A stream at an index: the exponential weights of the whole row against the value block's column. -/
theorem stream_at (s : Vec Ideal S1x256x4096 .f32) (v : Vec Ideal S1x4096x256 .bf16) (r : Fin 256) (e : Fin 256) :
    streamC s (vtileC v) (ix2 r e)
      = ∑ j : Fin 4096, Ideal.exp2 (s (ix3 0 r j) - Finset.univ.fold max ⊥ fun j : Fin 4096 => s (ix3 0 r j)) * v (ix3 0 j e) := by
  rw [Fin.sum_univ_tiles 16 256 rfl]
  have h : ∀ kt : Fin 16, stepC (maxC s) (tileC s kt) (vtileC v kt) (ix2 r e)
      = ∑ t : Fin 256, Ideal.exp2 (s (ix3 0 r ⟨kt.val * 256 + t.val, by omega⟩) - Finset.univ.fold max ⊥ fun j : Fin 4096 => s (ix3 0 r j))
          * v (ix3 0 ⟨kt.val * 256 + t.val, by omega⟩ e) := by
    intro kt
    rw [step_at]
    refine Finset.sum_congr rfl fun t _ => ?_
    rw [tile_at, max_at, vtile_at]
  refine Eq.trans ?_ (Finset.sum_congr rfl fun kt _ => h kt)
  simp only [Fin.sum_univ_succ, Fin.sum_univ_zero]
  unfold streamC
  simp only [← add_assoc, add_zero]
  rfl

variable (q : Vec Ideal S1x256x128 .f32) (k : Vec Ideal S1x4096x128 .bf16) (r : Fin 256)

/-- A score of the first stream: the second half's lanes are masked to zero. -/
theorem score_fst_at (Q K : Fin 64 → ℝ) (j : Fin 4096)
    (hq : ∀ d : Fin 64, q (ix3 0 r ⟨d.val, by omega⟩) = ((Q d : ℝ) : EReal)) (hk : ∀ d : Fin 64, k (ix3 0 j ⟨d.val, by omega⟩) = ((K d : ℝ) : EReal)) :
    scoreC (k0_pay5 q) k (ix3 0 r j) = ((dotR Q K * (8⁻¹ * (Real.log 2)⁻¹) : ℝ) : EReal) := by
  pointwise [scoreC, k0_pay5, k0_pay4, k0_pay3]
  rw [← scaled_dot, Fin.sum_univ_tiles 2 64 rfl, Fin.sum_univ_two]
  refine (add_of_zero (Finset.sum_eq_zero fun t _ => ?_)).trans (Finset.sum_congr rfl fun t _ => ?_)
  · rw [lane_lt, if_neg (by show ¬ 1 * 64 + t.val < 64; omega)]
    rfl
  · rw [lane_lt, if_pos (by show 0 * 64 + t.val < 64; omega), scale_eq, ← hq, ← hk]
    simp only [Fin.val_zero, Nat.zero_mul, Nat.zero_add]
    rfl

/-- A score of the second stream. -/
theorem score_snd_at (Q K : Fin 64 → ℝ) (j : Fin 4096)
    (hq : ∀ d : Fin 64, q (ix3 0 r ⟨64 + d.val, by omega⟩) = ((Q d : ℝ) : EReal)) (hk : ∀ d : Fin 64, k (ix3 0 j ⟨64 + d.val, by omega⟩) = ((K d : ℝ) : EReal)) :
    scoreC (k0_pay6 q) k (ix3 0 r j) = ((dotR Q K * (8⁻¹ * (Real.log 2)⁻¹) : ℝ) : EReal) := by
  pointwise [scoreC, k0_pay6, k0_pay4, k0_pay3]
  rw [← scaled_dot, Fin.sum_univ_tiles 2 64 rfl, Fin.sum_univ_two]
  refine (zero_of_add (Finset.sum_eq_zero fun t _ => ?_)).trans (Finset.sum_congr rfl fun t _ => ?_)
  · rw [lane_lt, if_pos (by show 0 * 64 + t.val < 64; omega)]
    rfl
  · rw [lane_lt, if_neg (by show ¬ 1 * 64 + t.val < 64; omega), scale_eq, ← hq, ← hk]
    simp only [Fin.val_one, Nat.one_mul]
    rfl

/-- A softmax weight of real queries and keys. -/
def sm (Q : Fin 64 → ℝ) (K : Fin 4096 → Fin 64 → ℝ) (j : Fin 4096) : EReal :=
  Ideal.div
    (Ideal.exp (((dotR Q (K j) * 8⁻¹ : ℝ) : EReal) - Finset.univ.fold max ⊥ fun j => ((dotR Q (K j) * 8⁻¹ : ℝ) : EReal)))
    (∑ j, Ideal.exp (((dotR Q (K j) * 8⁻¹ : ℝ) : EReal) - Finset.univ.fold max ⊥ fun j => ((dotR Q (K j) * 8⁻¹ : ℝ) : EReal)))

/-- One value of the differential attention: the values against the first softmax less lambda times the second. -/
def diffAttn (Q1 Q2 : Fin 64 → ℝ) (K1 K2 : Fin 4096 → Fin 64 → ℝ) (V : Fin 4096 → EReal) (lam : EReal) : EReal :=
  ∑ j, V j * (sm Q1 K1 j - lam * sm Q2 K2 j)

/-- ONE ROW OF THE DIFFERENCE. Two accumulations divided by their weight sums, one scaled by lambda and taken from the
    other, against the values on the difference of the two softmaxes. All are real numbers. -/
theorem diff_row (w1 w2 v : Fin 4096 → ℝ) (h1 : ∀ j, 0 < w1 j) (h2 : ∀ j, 0 < w2 j) (l : ℝ) :
    Ideal.div (∑ j, ((w1 j : ℝ) : EReal) * ((v j : ℝ) : EReal)) (∑ j, ((w1 j : ℝ) : EReal) * 1)
        - ((l : ℝ) : EReal) * Ideal.div (∑ j, ((w2 j : ℝ) : EReal) * ((v j : ℝ) : EReal)) (∑ j, ((w2 j : ℝ) : EReal) * 1)
      = ∑ j, ((v j : ℝ) : EReal) * (Ideal.div ((w1 j : ℝ) : EReal) (∑ j, ((w1 j : ℝ) : EReal)) - ((l : ℝ) : EReal) * Ideal.div ((w2 j : ℝ) : EReal) (∑ j, ((w2 j : ℝ) : EReal))) := by
  have p1 : 0 < ∑ j, w1 j := Finset.sum_pos (fun j _ => h1 j) Finset.univ_nonempty
  have p2 : 0 < ∑ j, w2 j := Finset.sum_pos (fun j _ => h2 j) Finset.univ_nonempty
  simp only [mul_one, ← EReal.coe_mul, Softmax.coe_sum, Ideal.div_coe p1.ne', Ideal.div_coe p2.ne', ← EReal.coe_sub]
  congr 1
  simp only [mul_sub, Finset.sum_sub_distrib, Finset.sum_mul, Finset.mul_sum]
  congr 1 <;> exact Finset.sum_congr rfl fun j _ => by ring

/-- A stream's quotient at a lane: the value sum over the weight sum. -/
theorem div_at (x : FVec Ideal S256x256 .f32) (e : Fin 128) :
    divC x (ix2 r e) = Ideal.div (x (ix2 r ⟨e.val, by omega⟩)) (x (ix2 r ⟨128 + e.val, by omega⟩)) := by
  pointwise [divC]

/-- The difference the kernel norms, at a lane. -/
theorem diff_at (lam : FVec Ideal S1x1 .f32) (x y : FVec Ideal S256x256 .f32) (e : Fin 128) :
    diffC lam x y (ix2 r e) = divC x (ix2 r e) - lam (ix2 0 0) * divC y (ix2 r e) := by
  pointwise [diffC]

/-- The norm of a row at a lane. -/
def normAt (z g : Fin 128 → EReal) (e : Fin 128) : EReal :=
  z e * Ideal.rsqrt (Ideal.div (∑ e, z e * z e) (Ideal.ofBits .f32 0x43000000#32) + Ideal.ofBits .f32 0x358637BD#32) * g e * Ideal.ofBits .f32 0x3F077F5A#32

/-- A store's element: the root mean square norm of its row with gain and constant. -/
theorem norm_at (z : FVec Ideal S256x128 .f32) (g : Vec Ideal S1x128 .f32) (e : Fin 128) :
    normC z g (ix3 0 r e) = normAt (fun e => z (ix2 r e)) (fun e => g (ix2 0 e)) e := by
  pointwise [normC]
  rfl

/-- The difference of two streams at a lane, on real queries, keys and values. -/
theorem diff_streams (lam : FVec Ideal S1x1 .f32) (l : ℝ) (hl : lam (ix2 0 0) = ((l : ℝ) : EReal)) (s s' : Vec Ideal S1x256x4096 .f32) (v : Vec Ideal S1x4096x256 .bf16)
    (Q1 Q2 : Fin 64 → ℝ) (K1 K2 : Fin 4096 → Fin 64 → ℝ) (V : Fin 4096 → ℝ) (e : Fin 128)
    (hs : ∀ j, s (ix3 0 r j) = ((dotR Q1 (K1 j) * (8⁻¹ * (Real.log 2)⁻¹) : ℝ) : EReal))
    (hs' : ∀ j, s' (ix3 0 r j) = ((dotR Q2 (K2 j) * (8⁻¹ * (Real.log 2)⁻¹) : ℝ) : EReal))
    (hv : ∀ j, v (ix3 0 j ⟨e.val, by omega⟩) = ((V j : ℝ) : EReal)) (ho : ∀ j, v (ix3 0 j ⟨128 + e.val, by omega⟩) = 1) :
    diffC lam (streamC s (vtileC v)) (streamC s' (vtileC v)) (ix2 r e) = diffAttn Q1 Q2 K1 K2 (fun j => ((V j : ℝ) : EReal)) ((l : ℝ) : EReal) := by
  rw [diff_at, div_at, div_at, stream_at, stream_at, stream_at, stream_at, hl]
  simp only [hs, hs', hv, ho]
  obtain ⟨w1, p1, e1, e1'⟩ := Softmax.weights fun j => dotR Q1 (K1 j)
  obtain ⟨w2, p2, e2, e2'⟩ := Softmax.weights fun j => dotR Q2 (K2 j)
  unfold diffAttn sm
  simp only [e1, e1', e2, e2']
  exact diff_row w1 w2 V p1 p2 l

end Cert.Diff

end
-- ==== Proof.DiffRef.lean ====
/- The differential attention reference's result, element by element, over the extended reals. -/
module

public import proofs.«01_k».proof.Proof.Gen.ReferenceCIdeal.Run
public import proofs.«01_k».proof.Proof.DiffMath
public import Idealize.ShloMosaic.Lib.Pipeline.ValueKit
public import Idealize.ShloMosaic.Lib.Pointwise

@[expose] public section

set_option maxRecDepth 16384

noncomputable section

namespace Cert.ReferenceCIdeal.Value

open Cert.ReferenceCIdeal Cert.ReferenceCIdeal.Gen Idealize.ShloMosaic Idealize.ShloMosaic.TcCoe Idealize.SL.Sem Idealize.ShloMosaic.StableHlo
open Cert.KernelIdeal.Value (dotR ofBits_neg_inf)
open Cert.Diff (sm diffAttn lamOf normAt)

section

variable {F : FTy → Type} [FloatOps F] (a0 a1 : FVec F S8x4096x8x2x64 .f32) (a2 : FVec F S8x4096x8x128 .f32) (a3 a4 a5 a6 : FVec F S64 .f32) (a7 : FVec F S128 .f32)

/-- Lambda. -/
def lamR : FVec F S_ .f32 :=
  addf (subf (Host.exp (Host.reduceAdd (mulf a3 a4) (constant S_ .f32 0x00000000#32) reducesTo_S64_S_d0 h_S_)) (Host.exp (Host.reduceAdd (mulf a5 a6) (constant S_ .f32 0x00000000#32) reducesTo_S64_S_d0 h_S_))) (constant S_ .f32 0x3EF1014C#32)

/-- The scaled scores. -/
def scR : FVec F S8x8x2x4096x4096 .f32 :=
  mulf (Host.dotGeneral dot_S8x4096x8x2x64_S8x4096x8x2x64_S8x8x2x4096x4096_4_4_1_1_023_023 none a0 a1) (broadcastInDim S8x8x2x4096x4096 ![] bcast_S_S8x8x2x4096x4096 (constant S_ .f32 0x3E000000#32))

/-- The exponentials of the scores less their row maximum. -/
def exR : FVec F S8x8x2x4096x4096 .f32 :=
  Host.exp (subf (scR a0 a1) (broadcastInDim S8x8x2x4096x4096 ![0, 1, 2, 3, 4] bcast_S8x8x2x4096x1_S8x8x2x4096x4096_0_1_2_3_4 (broadcastInDim S8x8x2x4096x1 ![0, 1, 2, 3] bcast_S8x8x2x4096_S8x8x2x4096x1_0_1_2_3 (maximumf (broadcastInDim S8x8x2x4096 ![] bcast_S_S8x8x2x4096 (constant S_ .f32 0xFF800000#32)) (Host.reduce FloatOps.maximumf (scR a0 a1) (constant S_ .f32 0xFF800000#32) reducesTo_S8x8x2x4096x4096_S8x8x2x4096_d4 h_S_)))))

/-- The two softmaxes' weights. -/
def wR : FVec F S8x8x2x4096x4096 .f32 :=
  Host.divf (exR a0 a1) (broadcastInDim S8x8x2x4096x4096 ![0, 1, 2, 3, 4] bcast_S8x8x2x4096x1_S8x8x2x4096x4096_0_1_2_3_4 (broadcastInDim S8x8x2x4096x1 ![0, 1, 2, 3] bcast_S8x8x2x4096_S8x8x2x4096x1_0_1_2_3 (Host.reduceAdd (exR a0 a1) (constant S_ .f32 0x00000000#32) reducesTo_S8x8x2x4096x4096_S8x8x2x4096_d4 h_S_)))

/-- The first softmax less lambda times the second, from the two. -/
def dfR (lam : FVec F S_ .f32) (w : FVec F S8x8x2x4096x4096 .f32) : FVec F S8x8x4096x4096 .f32 :=
  subf (shapeCast S8x8x4096x4096 (extractStridedSlice S8x8x1x4096x4096 ![0, 0, 0, 0, 0] w slices_S8x8x2x4096x4096_S8x8x1x4096x4096_0_0_0_0_0) shapeCasts_S8x8x1x4096x4096_S8x8x4096x4096)
    (mulf (broadcastInDim S8x8x4096x4096 ![] bcast_S_S8x8x4096x4096 lam) (shapeCast S8x8x4096x4096 (extractStridedSlice S8x8x1x4096x4096 ![0, 0, 1, 0, 0] w slices_S8x8x2x4096x4096_S8x8x1x4096x4096_0_0_1_0_0) shapeCasts_S8x8x1x4096x4096_S8x8x4096x4096))

/-- The values against the difference. -/
def oR (d : FVec F S8x8x4096x4096 .f32) : FVec F S8x4096x8x128 .f32 :=
  transpose S8x4096x8x128 [0, 3, 1, 2] (Host.dotGeneral dot_S8x4096x8x128_S8x8x4096x4096_S8x8x128x4096_1_3_3_2_02_01 none a2 d) transposes_S8x8x128x4096_S8x4096x8x128_0_3_1_2

/-- The norm, its gain and the closing constant. -/
def nR (z : FVec F S8x4096x8x128 .f32) : FVec F S8x4096x1024 .bf16 :=
  truncf .bf16 (shapeCast S8x4096x1024 (mulf (mulf (mulf z (broadcastInDim S8x4096x8x128 ![0, 1, 2, 3] bcast_S8x4096x8x1_S8x4096x8x128_0_1_2_3 (Host.rsqrt (addf (Host.divf (broadcastInDim S8x4096x8x1 ![0, 1, 2] bcast_S8x4096x8_S8x4096x8x1_0_1_2 (Host.reduceAdd (mulf z z) (constant S_ .f32 0x00000000#32) reducesTo_S8x4096x8x128_S8x4096x8_d3 h_S_)) (broadcastInDim S8x4096x8x1 ![] bcast_S_S8x4096x8x1 (constant S_ .f32 0x43000000#32))) (broadcastInDim S8x4096x8x1 ![] bcast_S_S8x4096x8x1 (constant S_ .f32 0x358637BD#32))))))
    (broadcastInDim S8x4096x8x128 ![0, 1, 2, 3] bcast_S1x1x1x128_S8x4096x8x128_0_1_2_3 (broadcastInDim S1x1x1x128 ![3] bcast_S128_S1x1x1x128_3 a7)))
    (broadcastInDim S8x4096x8x128 ![] bcast_S_S8x4096x8x128 (constant S_ .f32 0x3F077F5A#32))) shapeCasts_S8x4096x8x128_S8x4096x1024) bitsLt_bf16_f32

/-- The reference's result. -/
def REF : FVec F S8x4096x1024 .bf16 := nR a7 (oR a2 (dfR (lamR a3 a4 a5 a6) (wR a0 a1)))

end

/-- The result `run` states, stage by stage. -/
theorem res_eq {F : FTy → Type} [FloatOps F] (m : (ℓ : Loc nD τ sig) → Buf (Elt F) ℓ) (c : Dev nD) : res_main_v47 m c
    = REF (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  unfold res_main_v47 REF nR oR dfR wR exR scR lamR
  rfl

variable (a0 a1 : FVec Ideal S8x4096x8x2x64 .f32) (a2 : FVec Ideal S8x4096x8x128 .f32) (a3 a4 a5 a6 : FVec Ideal S64 .f32) (a7 : FVec Ideal S128 .f32)

/-- The reference's lambda. -/
theorem lamR_at (i : S_.Idx) : lamR a3 a4 a5 a6 i = lamOf (fun d => a3 (ix1 d)) (fun d => a4 (ix1 d)) (fun d => a5 (ix1 d)) (fun d => a6 (ix1 d)) := by
  have e : i = ix0 := funext fun a => a.elim0
  rw [e]
  pointwise [lamR]
  rfl

/-- The reference's scaled score, at an element: the dot product of a query and a key times one eighth. -/
theorem scR_at (b : Fin 8) (g : Fin 8) (h : Fin 2) (s j : Fin 4096) :
    scR a0 a1 (ix5 b g h s j) = (∑ d : Fin 64, a0 (ix5 b s g h d) * a1 (ix5 b j g h d)) * Ideal.ofBits .f32 0x3E000000#32 := by
  pointwise [scR]

/-- A host maximum along the last of five axes, at an index: the fold of `max` along that axis. -/
theorem hostMax_at {n0 n1 n2 n3 n4 : ℕ} (v : FVec Ideal ⟨5, ![n0, n1, n2, n3, n4]⟩ .f32) (c : FVec Ideal S_ .f32)
    (h : (⟨5, ![n0, n1, n2, n3, n4]⟩ : Shape).ReducesTo [4] ⟨4, ![n0, n1, n2, n3]⟩) (hu : 0 < S_.numel)
    (a : Fin n0) (b : Fin n1) (d : Fin n2) (e : Fin n3) :
    Host.reduce FloatOps.maximumf v c h hu (ix4 a b d e)
      = Finset.univ.fold max (c (Shape.Idx.first hu)) fun k : Fin n4 => v (ix5 a b d e k) := by
  simp only [pointwise]

/-- The row maxima of the scores. -/
def mxR (x : FVec Ideal S8x8x2x4096x4096 .f32) : FVec Ideal S8x8x2x4096 .f32 :=
  Host.reduce FloatOps.maximumf x (constant S_ .f32 0xFF800000#32) reducesTo_S8x8x2x4096x4096_S8x8x2x4096_d4 h_S_

/-- The reference's row maximum of the scores, at an element. -/
theorem mxR_at (x : FVec Ideal S8x8x2x4096x4096 .f32) (b : Fin 8) (g : Fin 8) (h : Fin 2) (s : Fin 4096) :
    mxR x (ix4 b g h s) = Finset.univ.fold max (⊥ : EReal) fun j : Fin 4096 => x (ix5 b g h s j) := by
  rw [← ofBits_neg_inf]
  exact hostMax_at x (constant S_ .f32 0xFF800000#32) reducesTo_S8x8x2x4096x4096_S8x8x2x4096_d4 h_S_ b g h s

/-- The exponentials, from the scores and the row maxima. -/
def exQ (x : FVec Ideal S8x8x2x4096x4096 .f32) (y : FVec Ideal S8x8x2x4096 .f32) : FVec Ideal S8x8x2x4096x4096 .f32 :=
  Host.exp (subf x (broadcastInDim S8x8x2x4096x4096 ![0, 1, 2, 3, 4] bcast_S8x8x2x4096x1_S8x8x2x4096x4096_0_1_2_3_4 (broadcastInDim S8x8x2x4096x1 ![0, 1, 2, 3] bcast_S8x8x2x4096_S8x8x2x4096x1_0_1_2_3 (maximumf (broadcastInDim S8x8x2x4096 ![] bcast_S_S8x8x2x4096 (constant S_ .f32 0xFF800000#32)) y))))

/-- The exponential of the scores less a given row value, at an element. -/
theorem exQ_at (x : FVec Ideal S8x8x2x4096x4096 .f32) (y : FVec Ideal S8x8x2x4096 .f32) (b : Fin 8) (g : Fin 8) (h : Fin 2) (s j : Fin 4096) :
    exQ x y (ix5 b g h s j) = Ideal.exp (x (ix5 b g h s j) - max (Ideal.ofBits FTy.f32 4286578688#32) (y (ix4 b g h s))) := by
  pointwise [exQ]

/-- The exponentials the reference forms, at an element. -/
theorem exR_at (b : Fin 8) (g : Fin 8) (h : Fin 2) (s j : Fin 4096) :
    exR a0 a1 (ix5 b g h s j) = Ideal.exp (scR a0 a1 (ix5 b g h s j) - Finset.univ.fold max (⊥ : EReal) fun j : Fin 4096 => scR a0 a1 (ix5 b g h s j)) := by
  have e : exR a0 a1 = exQ (scR a0 a1) (mxR (scR a0 a1)) := by unfold exR exQ mxR; rfl
  rw [e, exQ_at, mxR_at, ofBits_neg_inf, max_eq_right bot_le]

/-- The reference's softmax weight, at an element. -/
theorem wR_at (b : Fin 8) (g : Fin 8) (h : Fin 2) (s j : Fin 4096) :
    wR a0 a1 (ix5 b g h s j) = Ideal.div (exR a0 a1 (ix5 b g h s j)) (∑ j : Fin 4096, exR a0 a1 (ix5 b g h s j)) := by
  pointwise [wR]

/-- The first softmax's weight less lambda times the second's, at an element. -/
theorem dfR_at (lam : FVec Ideal S_ .f32) (w : FVec Ideal S8x8x2x4096x4096 .f32) (b g : Fin 8) (s j : Fin 4096) :
    dfR lam w (ix4 b g s j) = w (ix5 b g 0 s j) - lam ix0 * w (ix5 b g 1 s j) := by
  pointwise [dfR]

/-- The values against the difference, at an element. -/
theorem oR_at (d : FVec Ideal S8x8x4096x4096 .f32) (b : Fin 8) (s : Fin 4096) (g : Fin 8) (e : Fin 128) :
    oR a2 d (ix4 b s g e) = ∑ j : Fin 4096, a2 (ix4 b j g e) * d (ix4 b g s j) := by
  pointwise [oR]

/-- The reference's result from what it norms, at an element. -/
theorem nR_at (z : FVec Ideal S8x4096x8x128 .f32) (b : Fin 8) (s : Fin 4096) (l : Fin 1024) :
    nR a7 z (ix3 b s l) = normAt (fun e => z (ix4 b s ⟨l.val / 128, by omega⟩ e)) (fun e => a7 (ix1 e)) ⟨l.val % 128, by omega⟩ := by
  pointwise [nR]
  rfl

/-- The real numbers of a finite query or key array, along one head's lanes. -/
def xReal (a : FVec Ideal S8x4096x8x2x64 .f32) (b : Fin 8) (g : Fin 8) (h : Fin 2) (s : Fin 4096) (d : Fin 64) : ℝ := (a (ix5 b s g h d)).toReal

/-- On finite queries and keys the reference's result is the norm of the differential attention of its head. -/
theorem REF_diff (h0 : ∀ i, a0 i = (((a0 i).toReal : ℝ) : EReal)) (h1 : ∀ i, a1 i = (((a1 i).toReal : ℝ) : EReal))
    (b : Fin 8) (s : Fin 4096) (l : Fin 1024) :
    REF a0 a1 a2 a3 a4 a5 a6 a7 (ix3 b s l) = normAt (fun e => diffAttn (xReal a0 b ⟨l.val / 128, by omega⟩ 0 s) (xReal a0 b ⟨l.val / 128, by omega⟩ 1 s)
      (xReal a1 b ⟨l.val / 128, by omega⟩ 0) (xReal a1 b ⟨l.val / 128, by omega⟩ 1) (fun j => a2 (ix4 b j ⟨l.val / 128, by omega⟩ e))
      (lamOf (fun d => a3 (ix1 d)) (fun d => a4 (ix1 d)) (fun d => a5 (ix1 d)) (fun d => a6 (ix1 d)))) (fun e => a7 (ix1 e)) ⟨l.val % 128, by omega⟩ := by
  have c8 : Ideal.ofBits .f32 0x3E000000#32 = ((8⁻¹ : ℝ) : EReal) := by
    rw [show (8⁻¹ : ℝ) = 1 / 8 by norm_num]
    simp [Ideal.ofBits, Ideal.ieee]
    norm_num [← EReal.coe_mul, zpow_neg]
  have sc : ∀ (g : Fin 8) (h : Fin 2) (j : Fin 4096), scR a0 a1 (ix5 b g h s j) = ((dotR (xReal a0 b g h s) (xReal a1 b g h j) * 8⁻¹ : ℝ) : EReal) := by
    intro g h j
    rw [scR_at, c8, EReal.coe_mul]
    congr 1
    unfold dotR xReal
    rw [← Cert.Softmax.coe_sum]
    refine Finset.sum_congr rfl fun d _ => ?_
    rw [h0 (ix5 b s g h d), h1 (ix5 b j g h d), EReal.coe_mul, EReal.toReal_coe, EReal.toReal_coe]
  have w : ∀ (g : Fin 8) (h : Fin 2) (j : Fin 4096), wR a0 a1 (ix5 b g h s j) = sm (xReal a0 b g h s) (xReal a1 b g h) j := by
    intro g h j
    rw [wR_at]
    unfold sm
    simp only [exR_at, sc]
  unfold REF
  rw [nR_at]
  refine congrArg (fun z => normAt z (fun e => a7 (ix1 e)) ⟨l.val % 128, by omega⟩) (funext fun e => ?_)
  rw [oR_at]
  unfold diffAttn
  refine Finset.sum_congr rfl fun j _ => ?_
  rw [dfR_at, w, w, lamR_at]

end Cert.ReferenceCIdeal.Value

end
-- ==== Proof.DiffFinal.lean ====
/- The differential attention kernel's result is the reference's, on finite queries, keys, values and vectors of lambda. -/
module

public import proofs.«01_k».proof.Proof.DiffReads
public import proofs.«01_k».proof.Proof.DiffRef

@[expose] public section

set_option maxRecDepth 16384

noncomputable section

namespace Cert.Diff

open Cert.KernelCIdeal Cert.KernelCIdeal.Gen Idealize.ShloMosaic Idealize.ShloMosaic.TcCoe Idealize.SL.Sem Idealize.ShloMosaic.StableHlo
open Cert.ReferenceCIdeal.Value (xReal)

/-- The query tile at a row and a lane. -/
theorem qtile_at (q : Vec Ideal S1x2048x128 .f32) (r : Fin 8) (row : Fin 256) (l : Fin 128) :
    qtileC q r (ix3 0 row l) = q (ix3 0 ⟨256 * r.val + row.val, by omega⟩ l) := by
  unfold qtileC
  refine congrArg q ?_
  funext a
  refine Fin.ext ?_
  match a with
  | ⟨0, _⟩ => rfl
  | ⟨1, _⟩ => exact congrArg (256 * r.val + ·) (Nat.one_mul _)
  | ⟨2, _⟩ => exact (Nat.zero_add _).trans (Nat.one_mul _)

/-- A store of the kernel at an element: the norm of the differential attention of that element's row. -/
theorem piece_at (l : Vec Ideal S4x64 .f32) (g : Vec Ideal S1x128 .f32) (q : Vec Ideal S1x2048x128 .f32) (k : Vec Ideal S1x4096x128 .bf16) (v : Vec Ideal S1x4096x256 .bf16) (r : Fin 8)
    (row : Fin 256) (lane : Fin 128) (L : Fin 4 → Fin 64 → ℝ) (G : Fin 128 → EReal) (Q : Fin 2 → Fin 64 → ℝ) (K : Fin 2 → Fin 4096 → Fin 64 → ℝ) (V : Fin 4096 → Fin 128 → ℝ)
    (hl : ∀ i d, l (ix2 i d) = ((L i d : ℝ) : EReal)) (hg : ∀ e, g (ix2 0 e) = G e)
    (hq : ∀ l : Fin 128, q (ix3 0 ⟨256 * r.val + row.val, by omega⟩ l) = ((Q ⟨l.val / 64, by omega⟩ ⟨l.val % 64, by omega⟩ : ℝ) : EReal))
    (hk : ∀ (j : Fin 4096) (l : Fin 128), k (ix3 0 j l) = ((K ⟨l.val / 64, by omega⟩ j ⟨l.val % 64, by omega⟩ : ℝ) : EReal))
    (hv : ∀ (j : Fin 4096) (e : Fin 128), v (ix3 0 j ⟨e.val, by omega⟩) = ((V j e : ℝ) : EReal))
    (ho : ∀ (j : Fin 4096) (e : Fin 128), v (ix3 0 j ⟨128 + e.val, by omega⟩) = 1) :
    pieceC l g q k v r (ix3 0 row lane) = normAt (fun e => diffAttn (Q 0) (Q 1) (K 0) (K 1) (fun j => ((V j e : ℝ) : EReal))
      (lamOf (fun d => ((L 0 d : ℝ) : EReal)) (fun d => ((L 1 d : ℝ) : EReal)) (fun d => ((L 2 d : ℝ) : EReal)) (fun d => ((L 3 d : ℝ) : EReal)))) G lane := by
  obtain ⟨lam, hlam⟩ := lam_real (L 0) (L 1) (L 2) (L 3)
  have hl' : k0_pay2 l (ix2 0 0) = ((lam : ℝ) : EReal) := by
    rw [lam_at]
    simp only [hl]
    exact hlam
  have d0 : ∀ d : Fin 64, d.val / 64 = 0 := fun d => by omega
  have d1 : ∀ d : Fin 64, d.val % 64 = d.val := fun d => by omega
  have d2 : ∀ d : Fin 64, (64 + d.val) / 64 = 1 := fun d => by omega
  have d3 : ∀ d : Fin 64, (64 + d.val) % 64 = d.val := fun d => by omega
  unfold pieceC
  rw [norm_at, hlam]
  simp only [hg]
  refine congrArg (fun z => normAt z G lane) (funext fun e => ?_)
  refine diff_streams row _ lam hl' _ _ v (Q 0) (Q 1) (K 0) (K 1) (fun j => V j e) e (fun j => ?_) (fun j => ?_) (fun j => hv j e) (fun j => ho j e)
  · refine score_fst_at _ k row (Q 0) (K 0 j) j (fun d => (qtile_at q r row _).trans ((hq _).trans ?_)) (fun d => (hk j _).trans ?_)
    · simp only [d0, d1]; rfl
    · simp only [d0, d1]; rfl
  · refine score_snd_at _ k row (Q 1) (K 1 j) j (fun d => (qtile_at q r row _).trans ((hq _).trans ?_)) (fun d => (hk j _).trans ?_)
    · simp only [d2, d3]; rfl
    · simp only [d2, d3]; rfl

/-- The queries, keys, values and vectors of lambda are real numbers. -/
structure Finite (a0 a1 : FVec Ideal S8x4096x8x2x64 .f32) (a2 : FVec Ideal S8x4096x8x128 .f32) (a3 a4 a5 a6 : FVec Ideal S64 .f32) : Prop where
  h0 : ∀ i, a0 i = (((a0 i).toReal : ℝ) : EReal)
  h1 : ∀ i, a1 i = (((a1 i).toReal : ℝ) : EReal)
  h2 : ∀ i, a2 i = (((a2 i).toReal : ℝ) : EReal)
  h3 : ∀ i, a3 i = (((a3 i).toReal : ℝ) : EReal)
  h4 : ∀ i, a4 i = (((a4 i).toReal : ℝ) : EReal)
  h5 : ∀ i, a5 i = (((a5 i).toReal : ℝ) : EReal)
  h6 : ∀ i, a6 i = (((a6 i).toReal : ℝ) : EReal)

/-- The reference's result on real arguments, in the form a store takes. -/
theorem ref_at (a0 a1 : FVec Ideal S8x4096x8x2x64 .f32) (a2 : FVec Ideal S8x4096x8x128 .f32) (a3 a4 a5 a6 : FVec Ideal S64 .f32) (a7 : FVec Ideal S128 .f32)
    (H : Finite a0 a1 a2 a3 a4 a5 a6) (b : Fin 8) (s : Fin 4096) (g : Fin 8) (e : Fin 128) (l : Fin 1024) (hl : l.val = g.val * 128 + e.val) :
    Cert.ReferenceCIdeal.Value.REF (F := Ideal) a0 a1 a2 a3 a4 a5 a6 a7 (ix3 b s l)
      = normAt (fun e => diffAttn (xReal a0 b g 0 s) (xReal a0 b g 1 s) (xReal a1 b g 0) (xReal a1 b g 1) (fun j => (((a2 (ix4 b j g e)).toReal : ℝ) : EReal))
        (lamOf (fun d => (((a3 (ix1 d)).toReal : ℝ) : EReal)) (fun d => (((a4 (ix1 d)).toReal : ℝ) : EReal)) (fun d => (((a5 (ix1 d)).toReal : ℝ) : EReal)) (fun d => (((a6 (ix1 d)).toReal : ℝ) : EReal))))
        (fun e => a7 (ix1 e)) e := by
  have g1 : l.val / 128 = g.val := by omega
  have g2 : l.val % 128 = e.val := by omega
  refine (Cert.ReferenceCIdeal.Value.REF_diff a0 a1 a2 a3 a4 a5 a6 a7 H.h0 H.h1 b s l).trans ?_
  simp only [g1, g2, ← H.h2, ← H.h3, ← H.h4, ← H.h5, ← H.h6]

variable (m : (ℓ : Loc nD τ sig) → Buf (Elt Ideal) ℓ) (c : Dev nD)

/-- The arguments of a launch are real numbers. -/
abbrev FiniteAt : Prop := Finite (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))

/-- The reference's result of a launch's arguments. -/
abbrev refOf : FVec Ideal S8x4096x1024 .bf16 := Cert.ReferenceCIdeal.Value.REF (F := Ideal) (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The real numbers of lambda's four vectors. -/
def lReal (a b c d : FVec Ideal S64 .f32) (i : Fin 4) (x : Fin 64) : ℝ := (packL a b c d (ix2 i x)).toReal

/-- Real vectors make a real operand. -/
theorem packL_real (a b c d : FVec Ideal S64 .f32) (ha : ∀ i, a i = (((a i).toReal : ℝ) : EReal)) (hb : ∀ i, b i = (((b i).toReal : ℝ) : EReal))
    (hc : ∀ i, c i = (((c i).toReal : ℝ) : EReal)) (hd : ∀ i, d i = (((d i).toReal : ℝ) : EReal)) (i : Fin 4) (x : Fin 64) :
    packL a b c d (ix2 i x) = ((lReal a b c d i x : ℝ) : EReal) := by
  unfold lReal
  match i with
  | ⟨0, _⟩ => exact (packL_0 a b c d x).trans ((ha _).trans (by rw [← packL_0 a b c d x]; rfl))
  | ⟨1, _⟩ => exact (packL_1 a b c d x).trans ((hb _).trans (by rw [← packL_1 a b c d x]; rfl))
  | ⟨2, _⟩ => exact (packL_2 a b c d x).trans ((hc _).trans (by rw [← packL_2 a b c d x]; rfl))
  | ⟨3, _⟩ => exact (packL_3 a b c d x).trans ((hd _).trans (by rw [← packL_3 a b c d x]; rfl))

/-- A store of a grid point at an element, as the reference's result there. -/
theorem point_at (H : FiniteAt m c) (t : Fin cfg0.N) (r : Fin 8) (row : Fin 256) (lane : Fin 128) :
    pieceC (iblk m c 0 t) (iblk m c 1 t) (iblk m c 2 t) (iblk m c 3 t) (iblk m c 4 t) r (ix3 0 row lane)
      = refOf m c (ix3 (⟨t.val / 16, by have := lt_N t; omega⟩ : Fin 8) (⟨t.val % 2 * 2048 + (256 * r.val + row.val), by omega⟩ : Fin 4096)
          (⟨t.val / 2 % 8 * 128 + lane.val, by omega⟩ : Fin 1024)) := by
  have ht := lt_N t
  refine Eq.trans ?_ (ref_at _ _ _ _ _ _ _ _ H _ _ ⟨t.val / 2 % 8, by omega⟩ lane _ rfl).symm
  refine (piece_at _ _ _ _ _ r row lane (lReal (m ((c.tc : Thread nD τ).loc main_arg3)) (m ((c.tc : Thread nD τ).loc main_arg4)) (m ((c.tc : Thread nD τ).loc main_arg5)) (m ((c.tc : Thread nD τ).loc main_arg6)))
    (fun e => m ((c.tc : Thread nD τ).loc main_arg7) (ix1 e))
    (fun h => xReal (m ((c.tc : Thread nD τ).loc main_arg0)) ⟨t.val / 16, by omega⟩ ⟨t.val / 2 % 8, by omega⟩ h ⟨t.val % 2 * 2048 + (256 * r.val + row.val), by omega⟩)
    (fun h => xReal (m ((c.tc : Thread nD τ).loc main_arg1)) ⟨t.val / 16, by omega⟩ ⟨t.val / 2 % 8, by omega⟩ h)
    (fun j e => EReal.toReal (m ((c.tc : Thread nD τ).loc main_arg2) (ix4 (⟨t.val / 16, by omega⟩ : Fin 8) j (⟨t.val / 2 % 8, by omega⟩ : Fin 8) e)))
    (fun i d => ?_) (fun e => ?_) (fun l => ?_) (fun j l => ?_) (fun j e => ?_) (fun j e => ?_)).trans ?_
  · exact (read_l m c t i d).trans (packL_real _ _ _ _ H.h3 H.h4 H.h5 H.h6 i d)
  · exact read_g m c t e
  · exact (read_q m c t _ l).trans (H.h0 _)
  · exact (read_k m c t j l).trans (H.h1 _)
  · refine (read_v m c t j _).trans ((if_pos (by show e.val < 128; omega)).trans ?_)
    have e1 : e.val % 128 = e.val := by omega
    simp only [e1]
    exact H.h2 _
  · exact (read_v m c t j _).trans (if_neg (by show ¬ 128 + e.val < 128; omega))
  · unfold lReal
    simp only [packL_0, packL_1, packL_2, packL_3]

/-- The same, at any index of the result with the store's place. -/
theorem point_idx (H : FiniteAt m c) (t : Fin cfg0.N) (r : Fin 8) (x : S1x256x128.Idx) (i : S8x4096x1024.Idx)
    (e0 : (i 0).val = t.val / 16) (e1 : (i 1).val = t.val % 2 * 2048 + (256 * r.val + (x 1).val)) (e2 : (i 2).val = t.val / 2 % 8 * 128 + (x 2).val) :
    pieceC (iblk m c 0 t) (iblk m c 1 t) (iblk m c 2 t) (iblk m c 3 t) (iblk m c 4 t) r x = refOf m c i := by
  have hx0 : (x 0).val < 1 := (x 0).isLt
  have ex : x = ix3 0 (x 1) (x 2) := by
    funext a
    refine Fin.ext ?_
    match a with
    | ⟨0, _⟩ => show (x 0).val = 0; omega
    | ⟨1, _⟩ => rfl
    | ⟨2, _⟩ => rfl
  refine (congrArg (pieceC (F := Ideal) (iblk m c 0 t) (iblk m c 1 t) (iblk m c 2 t) (iblk m c 3 t) (iblk m c 4 t) r) ex).trans ((point_at m c H t r (x 1) (x 2)).trans (congrArg _ ?_))
  funext a
  refine Fin.ext ?_
  match a with
  | ⟨0, _⟩ => exact e0.symm
  | ⟨1, _⟩ => exact e1.symm
  | ⟨2, _⟩ => exact e2.symm

/-- The kernel's result array is the reference's. -/
theorem final (H : FiniteAt m c) : (dats m 0 c).arrAt 5 cfg0.N = refOf m c := by
  refine (dats m 0 c).arrAt_eq_of_covers 5 _ (by decide +kernel) fun t _ y => ?_
  blk_simp
  rw [after0_5]
  unfold outsAt0
  rw [out_eq]
  canon_tiles x h
  · exact point_idx m c H t 7 x _ (by blk_simp [idxC t]) (by blk_simp [idxC t]; show _ = t.val % 2 * 2048 + (1792 + (x 1).val); omega) (by blk_simp [idxC t]; omega)
  · exact point_idx m c H t 6 x _ (by blk_simp [idxC t]) (by blk_simp [idxC t]; show _ = t.val % 2 * 2048 + (1536 + (x 1).val); omega) (by blk_simp [idxC t]; omega)
  · exact point_idx m c H t 5 x _ (by blk_simp [idxC t]) (by blk_simp [idxC t]; show _ = t.val % 2 * 2048 + (1280 + (x 1).val); omega) (by blk_simp [idxC t]; omega)
  · exact point_idx m c H t 4 x _ (by blk_simp [idxC t]) (by blk_simp [idxC t]; show _ = t.val % 2 * 2048 + (1024 + (x 1).val); omega) (by blk_simp [idxC t]; omega)
  · exact point_idx m c H t 3 x _ (by blk_simp [idxC t]) (by blk_simp [idxC t]; show _ = t.val % 2 * 2048 + (768 + (x 1).val); omega) (by blk_simp [idxC t]; omega)
  · exact point_idx m c H t 2 x _ (by blk_simp [idxC t]) (by blk_simp [idxC t]; show _ = t.val % 2 * 2048 + (512 + (x 1).val); omega) (by blk_simp [idxC t]; omega)
  · exact point_idx m c H t 1 x _ (by blk_simp [idxC t]) (by blk_simp [idxC t]; show _ = t.val % 2 * 2048 + (256 + (x 1).val); omega) (by blk_simp [idxC t]; omega)
  · exact point_idx m c H t 0 x _ (by blk_simp [idxC t]) (by blk_simp [idxC t]; show _ = t.val % 2 * 2048 + (0 + (x 1).val); omega) (by blk_simp [idxC t]; omega)

end Cert.Diff

end
-- ==== Proof.DiffClaim.lean ====
/- The claim about the differential attention: on finite queries, keys, values and vectors of lambda the kernel and the
   reference end with the same result. -/
module

public import proofs.«01_k».proof.Defs
public import proofs.«01_k».proof.Proof.AttnClaim
public import proofs.«01_k».proof.Proof.DiffFinal
public import Idealize.ShloMosaic.Adequacy
public import Idealize.ShloMosaic.Init

@[expose] public section

set_option maxRecDepth 16384

noncomputable section

namespace Cert.Diff

open Cert.KernelCIdeal Cert.KernelCIdeal.Gen Idealize.ShloMosaic Idealize.ShloMosaic.TcCoe Idealize.SL.Sem Idealize.ShloMosaic.StableHlo

variable {F : FTy → Type} [FloatOps F] [Named F]
variable (m : (ℓ : Loc nD τ sig) → Buf (Elt F) ℓ) (ρ : Dev nD → PrngReg)

/-- Every run ends with the result array at what the points wrote back, the arguments unchanged. -/
theorem run_blocks : θ_run defs (onTc (τ := τ) (main (F := F))) ⟨m, fun _ => 0, ρ⟩ fun r => ∀ c : Dev nD,
      r.2.mem ((c : Thread nD τ).loc main_v13) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) (run_main m ρ)

end Cert.Diff

namespace Cert.DiffClaim

open Idealize.ShloMosaic Idealize.SL.Sem
open Cert.AttnClaim (real_of_lt)

/-- The witnesses of the precondition's side conditions. -/
theorem pre_facts : Cert.Pre_finite_c.Facts := ⟨by decide, by decide, by decide⟩

/-- On finite queries, keys, values and vectors of lambda the kernel and the reference end with the same result. -/
theorem algebraic : Cert.algebraic_KernelCIdeal_ReferenceCIdeal_pre_finite_c (hKernelCIdeal := Cert.KernelCIdeal.Gen.facts) (hReferenceCIdeal := Cert.ReferenceCIdeal.Gen.facts) (hPre_finite_c := pre_facts) := by
  intro m g m' g' hpre hagree
  refine ⟨_, Cert.Diff.run_blocks (F := Ideal) m g, ?_⟩
  refine (θ_run Cert.ReferenceCIdeal.defs _ _).mono (fun _ h c => ⟨(h c).1.trans ?_, (h c).2⟩) (Cert.ReferenceCIdeal.Value.run (F := Ideal) m' g')
  obtain ⟨e0, e1, e2, e3, e4, e5, e6, e7⟩ := hagree c
  obtain ⟨p0, p1, p2, p3, p4, p5, p6⟩ := hpre c
  rw [Cert.ReferenceCIdeal.Value.res_eq, e0, e1, e2, e3, e4, e5, e6, e7]
  refine Eq.trans ?_ (Cert.Diff.final m c ⟨fun i => real_of_lt _ (congrFun p0 i), fun i => real_of_lt _ (congrFun p1 i), fun i => real_of_lt _ (congrFun p2 i),
    fun i => real_of_lt _ (congrFun p3 i), fun i => real_of_lt _ (congrFun p4 i), fun i => real_of_lt _ (congrFun p5 i), fun i => real_of_lt _ (congrFun p6 i)⟩).symm
  rfl

end Cert.DiffClaim

end
-- ==== Proof.FfnRef.lean ====
/- The feed-forward reference, row by row, over the extended reals: its result is the specification's. -/
module

public import proofs.«01_k».proof.Proof.FfnArgs
public import proofs.«01_k».proof.Proof.Gen.ReferenceFIdeal.Run
public import Idealize.ShloMosaic.Lib.Pointwise

@[expose] public section

set_option maxRecDepth 16384

noncomputable section

namespace Cert.ReferenceFIdeal.Value

open Cert.ReferenceFIdeal Cert.ReferenceFIdeal.Gen Idealize.ShloMosaic Idealize.ShloMosaic.TcCoe Idealize.SL.Sem Idealize.ShloMosaic.StableHlo
open Cert.Ffn (P ofArgs n1 up pm pp cvr act LN mean gt cv cα cN cE)

/-- The result, as one term. -/
def RES (V0 : Valuation τ sig (Elt Ideal)) : FVec Ideal S32768x1024 .f32 :=
  shapeCast S32768x1024 (addf (mulf (mulf (subf (res_main_v62 V0) (broadcastInDim S8x4096x1024 ![0, 1, 2] bcast_S8x4096x1_S8x4096x1024_0_1_2 (res_main_v66 V0))) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v68 V0) (res_main_v68 V0)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 (V0 (Proc.devRef .tc main_arg9))))) (broadcastInDim S8x4096x1024 ![0, 1, 2] bcast_S1x1x1024_S8x4096x1024_0_1_2 (broadcastInDim S1x1x1024 ![2] bcast_S1024_S1x1x1024_2 (V0 (Proc.devRef .tc main_arg10))))) shapeCasts_S8x4096x1024_S32768x1024

/-- The specification's arguments, from the reference's. -/
def pR (V0 : Valuation τ sig (Elt Ideal)) : P :=
  ofArgs (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10))

variable (V0 : Valuation τ sig (Elt Ideal))

theorem M_at (b : Fin 8) (s : Fin 4096) (j : Fin 1024) : (pR V0).M (4096 * b.val + s.val) j = V0 (Proc.devRef .tc main_arg0) (ix3 b s j) := by
  have e1 : (4096 * b.val + s.val) / 4096 % 8 = b.val := by omega
  have e2 : (4096 * b.val + s.val) % 4096 = s.val := by omega
  show (V0 (Proc.devRef .tc main_arg0) : FVec Ideal S8x4096x1024 .f32) (ix3 ⟨(4096 * b.val + s.val) / 4096 % 8, _⟩ ⟨(4096 * b.val + s.val) % 4096, _⟩ j) = _
  simp only [e1, e2]

theorem X_at (b : Fin 8) (s : Fin 4096) (j : Fin 1024) : (pR V0).X (4096 * b.val + s.val) j = V0 (Proc.devRef .tc main_arg1) (ix3 b s j) := by
  have e1 : (4096 * b.val + s.val) / 4096 % 8 = b.val := by omega
  have e2 : (4096 * b.val + s.val) % 4096 = s.val := by omega
  show (V0 (Proc.devRef .tc main_arg1) : FVec Ideal S8x4096x1024 .f32) (ix3 ⟨(4096 * b.val + s.val) / 4096 % 8, _⟩ ⟨(4096 * b.val + s.val) % 4096, _⟩ j) = _
  simp only [e1, e2]

theorem v3_at (b : Fin 8) (s : Fin 4096) (k : Fin 1024) : (res_main_v3 V0 : FVec Ideal S8x4096x1024 .f32) (ix3 b s k)
    = cα * (pR V0).X (4096 * b.val + s.val) k + ∑ j : Fin 1024, (pR V0).M (4096 * b.val + s.val) j * (pR V0).WO j k := by
  simp only [M_at, X_at]
  pointwise [res_main_v3]
  rfl

theorem v7_at (b : Fin 8) (s : Fin 4096) : (res_main_v7 V0 : FVec Ideal S8x4096x1 .f32) (ix3 b s 0)
    = mean fun j => (res_main_v3 V0 : FVec Ideal S8x4096x1024 .f32) (ix3 b s j) := by
  pointwise [res_main_v7]
  rfl

/-- The first residual and its difference from its mean, as numbers. -/
def y3 (b : Fin 8) (s : Fin 4096) (k : Fin 1024) : EReal := (res_main_v3 V0 : FVec Ideal S8x4096x1024 .f32) (ix3 b s k)
def y9 (b : Fin 8) (s : Fin 4096) (k : Fin 1024) : EReal := (res_main_v9 V0 : FVec Ideal S8x4096x1024 .f32) (ix3 b s k)
def y62 (b : Fin 8) (s : Fin 4096) (k : Fin 1024) : EReal := (res_main_v62 V0 : FVec Ideal S8x4096x1024 .f32) (ix3 b s k)
def y68 (b : Fin 8) (s : Fin 4096) (k : Fin 1024) : EReal := (res_main_v68 V0 : FVec Ideal S8x4096x1024 .f32) (ix3 b s k)

theorem v9_at (b : Fin 8) (s : Fin 4096) (k : Fin 1024) : y9 V0 b s k = y3 V0 b s k - mean (y3 V0 b s) := by
  refine Eq.trans ?_ (congrArg (y3 V0 b s k - ·) (v7_at V0 b s))
  unfold y9
  pointwise [res_main_v9]
  rfl

theorem v27_at (b : Fin 8) (s : Fin 4096) (k : Fin 1024) : (res_main_v27 V0 : FVec Ideal S8x4096x1024 .f32) (ix3 b s k)
    = n1 (pR V0) (4096 * b.val + s.val) k := by
  have e : (fun k => cα * (pR V0).X (4096 * b.val + s.val) k + ∑ j : Fin 1024, (pR V0).M (4096 * b.val + s.val) j * (pR V0).WO j k) = y3 V0 b s :=
    (funext (v3_at V0 b s)).symm
  unfold n1
  rw [e]
  pointwise [res_main_v27]
  rw [v7_at V0 b s]
  have e9 : (fun j => y9 V0 b s j * y9 V0 b s j) = fun j => (y3 V0 b s j - mean (y3 V0 b s)) * (y3 V0 b s j - mean (y3 V0 b s)) :=
    funext fun j => by rw [v9_at]
  unfold LN
  rw [← e9]
  rfl

theorem sum_mul_congr {n : ℕ} (f f' g : Fin n → EReal) (h : ∀ j, f j = f' j) : ∑ j, f j * g j = ∑ j, f' j * g j := by
  rw [funext h]

theorem add_three (b x y z : EReal) : b + (x + y + z) = b + x + y + z := by
  rw [← add_assoc, ← add_assoc]

theorem v31_at (b : Fin 8) (s : Fin 4098) (c : Fin 5632) : (res_main_v31 V0 : FVec Ideal S8x4098x5632 .f32) (ix3 b s c)
    = if s.val = 0 ∨ s.val = 4097 then (0 : EReal) else up (pR V0) (4096 * b.val + (s.val - 1)) c := by
  pointwise [res_main_v31]
  by_cases h : 1 ≤ s.val ∧ s.val - 1 < 4096
  · rw [dif_pos h, if_neg (by omega)]
    have h2 : s.val - 1 < 4096 := h.2
    unfold up
    exact sum_mul_congr (fun j => (res_main_v27 V0 : FVec Ideal S8x4096x1024 .f32) (ix3 b ⟨s.val - 1, h2⟩ j)) _ (fun j => (pR V0).W j c) fun j => v27_at V0 b ⟨s.val - 1, h2⟩ j
  · have hs := s.isLt
    rw [dif_neg h, if_pos (by omega)]
    show (((0#32 : BitVec 32).toInt : ℝ) : EReal) = 0
    simp

theorem v56_at (b : Fin 8) (s : Fin 4096) (c : Fin 5632) : (res_main_v56 V0 : FVec Ideal S8x4096x5632 .f32) (ix3 b s c)
    = cvr (pR V0) (4096 * b.val + s.val) c := by
  pointwise [res_main_v56]
  simp only [v31_at]
  have h0 : (if s.val = 0 ∨ s.val = 4097 then (0 : EReal) else up (pR V0) (4096 * b.val + (s.val - 1)) c) = pm (pR V0) (4096 * b.val + s.val) c := by
    unfold pm
    by_cases h : s.val = 0
    · rw [if_pos (Or.inl h), if_pos (by omega)]
    · rw [if_neg (by omega), if_neg (by omega)]
      exact congrArg (fun z => up (pR V0) z c) (by omega)
  have h1 : (if 1 + s.val = 0 ∨ 1 + s.val = 4097 then (0 : EReal) else up (pR V0) (4096 * b.val + (1 + s.val - 1)) c) = up (pR V0) (4096 * b.val + s.val) c := by
    rw [if_neg (by omega)]
    exact congrArg (fun z => up (pR V0) z c) (by omega)
  have h2 : (if 2 + s.val = 0 ∨ 2 + s.val = 4097 then (0 : EReal) else up (pR V0) (4096 * b.val + (2 + s.val - 1)) c) = pp (pR V0) (4096 * b.val + s.val) c := by
    unfold pp
    by_cases h : s.val = 4095
    · rw [if_pos (by omega), if_pos (by omega)]
    · rw [if_neg (by omega), if_neg (by omega)]
      exact congrArg (fun z => up (pR V0) z c) (by omega)
  rw [h0, h1, h2]
  unfold cvr cv
  exact add_three _ _ _ _

theorem v57_at (b : Fin 8) (s : Fin 4096) (c : Fin 2816) : (res_main_v57 V0 : FVec Ideal S8x4096x2816 .f32) (ix3 b s c)
    = cvr (pR V0) (4096 * b.val + s.val) ⟨c.val, by omega⟩ := by
  refine Eq.trans ?_ (v56_at V0 b s ⟨c.val, by omega⟩)
  pointwise [res_main_v57]

theorem v62_at (b : Fin 8) (s : Fin 4096) (k : Fin 1024) : y62 V0 b s k
    = cα * n1 (pR V0) (4096 * b.val + s.val) k + ∑ j : Fin 2816, act (pR V0) (4096 * b.val + s.val) j * (pR V0).WD j k := by
  unfold y62
  pointwise [res_main_v62]
  refine congrArg₂ (· + ·) (congrArg (cα * ·) (v27_at V0 b s k)) (Finset.sum_congr rfl fun j _ => congrArg (· * (pR V0).WD j k) ?_)
  unfold act gt
  rw [v57_at V0 b s j, v56_at V0 b s _, zero_sub]

theorem v66_at (b : Fin 8) (s : Fin 4096) : (res_main_v66 V0 : FVec Ideal S8x4096x1 .f32) (ix3 b s 0) = mean (y62 V0 b s) := by
  pointwise [res_main_v66]
  rfl

theorem v68_at (b : Fin 8) (s : Fin 4096) (k : Fin 1024) : y68 V0 b s k = y62 V0 b s k - mean (y62 V0 b s) := by
  refine Eq.trans ?_ (congrArg (y62 V0 b s k - ·) (v66_at V0 b s))
  unfold y68
  pointwise [res_main_v68]
  rfl

/-- The reference's result is the specification's. -/
theorem RES_at (r : Fin 32768) (k : Fin 1024) : RES V0 (ix2 r k) = Cert.Ffn.out (pR V0) r.val k := by
  have hr : 4096 * (r.val / 4096) + r.val % 4096 = r.val := by omega
  have e : (fun k => cα * n1 (pR V0) r.val k + ∑ j : Fin 2816, act (pR V0) r.val j * (pR V0).WD j k) = y62 V0 ⟨r.val / 4096, by omega⟩ ⟨r.val % 4096, by omega⟩ := by
    funext k
    refine Eq.trans ?_ (v62_at V0 ⟨r.val / 4096, by omega⟩ ⟨r.val % 4096, by omega⟩ k).symm
    simp only [hr]
  unfold Cert.Ffn.out
  rw [e]
  pointwise [RES]
  rw [v66_at V0 _ _]
  have e9 : ∀ (b : Fin 8) (s : Fin 4096), (fun j => y68 V0 b s j * y68 V0 b s j) = fun j => (y62 V0 b s j - mean (y62 V0 b s)) * (y62 V0 b s j - mean (y62 V0 b s)) :=
    fun b s => funext fun j => by rw [v68_at]
  unfold LN
  rw [← e9]
  rfl

end Cert.ReferenceFIdeal.Value

end
-- ==== Proof.FfnClaim.lean ====
/- The claim about the feed-forward call with its mixer: the kernel and the reference end with the same result. -/
module

public import proofs.«01_k».proof.Defs
public import proofs.«01_k».proof.Proof.FfnFinal
public import proofs.«01_k».proof.Proof.FfnRef
public import Idealize.ShloMosaic.Adequacy
public import Idealize.ShloMosaic.Init

@[expose] public section

set_option maxRecDepth 16384

noncomputable section

namespace Cert.Ffn

open Cert.KernelFIdeal Cert.KernelFIdeal.Gen Idealize.ShloMosaic Idealize.ShloMosaic.TcCoe Idealize.SL.Sem Idealize.ShloMosaic.StableHlo

variable {F : FTy → Type} [FloatOps F] [Named F]
variable (m : (ℓ : Loc nD τ sig) → Buf (Elt F) ℓ) (ρ : Dev nD → PrngReg)

/-- Every run ends with the result array at what the points wrote back, the arguments unchanged. -/
theorem run_blocks : θ_run defs (onTc (τ := τ) (main (F := F))) ⟨m, fun _ => 0, ρ⟩ fun r => ∀ c : Dev nD,
      r.2.mem ((c : Thread nD τ).loc main_v11) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1 13,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 8).trans (((dats m 0 c).arrAt_in 8 rfl _).trans ((A_eq m c 8).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

end Cert.Ffn

namespace Cert.FfnClaim

open Idealize.ShloMosaic Idealize.SL.Sem

/-- The kernel and the reference end with the same result. -/
theorem algebraic : Cert.algebraic_KernelFIdeal_ReferenceFIdeal (hKernelFIdeal := Cert.KernelFIdeal.Gen.facts) (hReferenceFIdeal := Cert.ReferenceFIdeal.Gen.facts) := by
  intro m g m' g' _ hagree
  refine ⟨_, Cert.Ffn.run_blocks (F := Ideal) m g, ?_⟩
  refine (θ_run Cert.ReferenceFIdeal.defs _ _).mono (fun _ h c => ⟨(h c).1.trans ?_, (h c).2⟩) (Cert.ReferenceFIdeal.Value.run (F := Ideal) m' g')
  obtain ⟨e0, e1, e2, e3, e4, e5, e6, e7, e8, e9, e10⟩ := hagree c
  have ep : Cert.ReferenceFIdeal.Value.pR (StableHlo.launchContents m' c) = Cert.Ffn.pK m c := by
    show Cert.Ffn.ofArgs (m' ((c.tc : Thread Cert.ReferenceFIdeal.nD Cert.ReferenceFIdeal.τ).loc Cert.ReferenceFIdeal.main_arg0)) (m' ((c.tc : Thread Cert.ReferenceFIdeal.nD Cert.ReferenceFIdeal.τ).loc Cert.ReferenceFIdeal.main_arg1)) (m' ((c.tc : Thread Cert.ReferenceFIdeal.nD Cert.ReferenceFIdeal.τ).loc Cert.ReferenceFIdeal.main_arg2)) (m' ((c.tc : Thread Cert.ReferenceFIdeal.nD Cert.ReferenceFIdeal.τ).loc Cert.ReferenceFIdeal.main_arg3)) (m' ((c.tc : Thread Cert.ReferenceFIdeal.nD Cert.ReferenceFIdeal.τ).loc Cert.ReferenceFIdeal.main_arg4)) (m' ((c.tc : Thread Cert.ReferenceFIdeal.nD Cert.ReferenceFIdeal.τ).loc Cert.ReferenceFIdeal.main_arg5)) (m' ((c.tc : Thread Cert.ReferenceFIdeal.nD Cert.ReferenceFIdeal.τ).loc Cert.ReferenceFIdeal.main_arg6)) (m' ((c.tc : Thread Cert.ReferenceFIdeal.nD Cert.ReferenceFIdeal.τ).loc Cert.ReferenceFIdeal.main_arg7)) (m' ((c.tc : Thread Cert.ReferenceFIdeal.nD Cert.ReferenceFIdeal.τ).loc Cert.ReferenceFIdeal.main_arg8)) (m' ((c.tc : Thread Cert.ReferenceFIdeal.nD Cert.ReferenceFIdeal.τ).loc Cert.ReferenceFIdeal.main_arg9)) (m' ((c.tc : Thread Cert.ReferenceFIdeal.nD Cert.ReferenceFIdeal.τ).loc Cert.ReferenceFIdeal.main_arg10)) = _
    rw [e0, e1, e2, e3, e4, e5, e6, e7, e8, e9, e10]
    rfl
  refine Eq.trans ?_ (Cert.Ffn.final m c).symm
  show Cert.ReferenceFIdeal.Value.RES (StableHlo.launchContents m' c) = _
  rw [← ep]
  funext i
  have ei : i = ix2 (i 0) (i 1) := by
    funext a
    match a with
    | ⟨0, _⟩ => rfl
    | ⟨1, _⟩ => rfl
  exact (congrArg (Cert.ReferenceFIdeal.Value.RES (StableHlo.launchContents m' c)) ei).trans (Cert.ReferenceFIdeal.Value.RES_at _ (i 0) (i 1))

end Cert.FfnClaim

end
-- ==== Proof.lean ====
module

public import proofs.«01_k».proof.Defs
public import proofs.«01_k».proof.Proof.Gen.KernelC.Frame
public import proofs.«01_k».proof.Proof.Gen.KernelCIdeal.Frame
public import proofs.«01_k».proof.Proof.Gen.ReferenceCIdeal.Run
public import proofs.«01_k».proof.Proof.Gen.KernelF.Frame
public import proofs.«01_k».proof.Proof.Gen.KernelFIdeal.Frame
public import proofs.«01_k».proof.Proof.Gen.ReferenceFIdeal.Run
public import proofs.«01_k».proof.Proof.Gen.KernelG.Frame
public import proofs.«01_k».proof.Proof.Gen.KernelGIdeal.Frame
public import proofs.«01_k».proof.Proof.Gen.ReferenceGIdeal.Run
public import proofs.«01_k».proof.Proof.AttnClaim
public import proofs.«01_k».proof.Proof.Ffn1Claim
public import proofs.«01_k».proof.Proof.DiffClaim
public import proofs.«01_k».proof.Proof.FfnClaim
public import Idealize.ShloMosaic.Adequacy
public import Idealize.ShloMosaic.Init

@[expose] public section

noncomputable section

namespace Cert.Proof

open Idealize.ShloMosaic Idealize.SL.Sem

/-- The frame of the differential attention's reference. -/
theorem frame_riC : Cert.quiescent_ReferenceCIdeal (hReferenceCIdeal := Cert.ReferenceCIdeal.Gen.facts) := fun m ρ _ =>
  (θ_run Cert.ReferenceCIdeal.defs _ _).mono (fun r h => ⟨fun c => (h c).2, sem_eq_zero_of_no_sems (by decide) r.2⟩)
    (Cert.ReferenceCIdeal.Value.run (F := Ideal) m ρ)

/-- The frame of the feed-forward call with the mixer's reference. -/
theorem frame_riF : Cert.quiescent_ReferenceFIdeal (hReferenceFIdeal := Cert.ReferenceFIdeal.Gen.facts) := fun m ρ _ =>
  (θ_run Cert.ReferenceFIdeal.defs _ _).mono (fun r h => ⟨fun c => (h c).2, sem_eq_zero_of_no_sems (by decide) r.2⟩)
    (Cert.ReferenceFIdeal.Value.run (F := Ideal) m ρ)

/-- The frame of the feed-forward call without the mixer's reference. -/
theorem frame_riG : Cert.quiescent_ReferenceGIdeal (hReferenceGIdeal := Cert.ReferenceGIdeal.Gen.facts) := fun m ρ _ =>
  (θ_run Cert.ReferenceGIdeal.defs _ _).mono (fun r h => ⟨fun c => (h c).2, sem_eq_zero_of_no_sems (by decide) r.2⟩)
    (Cert.ReferenceGIdeal.Value.run (F := Ideal) m ρ)

/-- The differential attention's named constant. -/
theorem preservesC : Cert.preserves_KernelC_KernelCIdeal :=
  IdealRules.named_const.statement Cert.KernelCIdeal.κ "attn_scale" .f32 0x3E38AA3B#32 (((1 / 8) * (Real.log 2)⁻¹ : ℝ) : EReal) rfl

/-- Everything the certificate claims. -/
theorem claim : Cert.Claim :=
  ⟨Cert.Kernel.Gen.facts,
    Cert.KernelIdeal.Gen.facts,
    Cert.ReferenceIdeal.Gen.facts,
    Cert.KernelC.Gen.facts,
    Cert.KernelCIdeal.Gen.facts,
    Cert.ReferenceCIdeal.Gen.facts,
    Cert.KernelF.Gen.facts,
    Cert.KernelFIdeal.Gen.facts,
    Cert.ReferenceFIdeal.Gen.facts,
    Cert.KernelG.Gen.facts,
    Cert.KernelGIdeal.Gen.facts,
    Cert.ReferenceGIdeal.Gen.facts,
    AttnClaim.pre_facts,
    DiffClaim.pre_facts,
    AttnClaim.frame_p,
    AttnClaim.frame_pi,
    AttnClaim.frame_pi_pre,
    AttnClaim.frame_ri,
    AttnClaim.frame_ri_pre,
    fun m ρ _ => Cert.KernelC.Gen.frame m ρ,
    fun m ρ _ => Cert.KernelCIdeal.Gen.frame m ρ,
    fun m ρ _ => Cert.KernelCIdeal.Gen.frame m ρ,
    frame_riC,
    fun m ρ _ => frame_riC m ρ trivial,
    fun m ρ _ => Cert.KernelF.Gen.frame m ρ,
    fun m ρ _ => Cert.KernelFIdeal.Gen.frame m ρ,
    frame_riF,
    fun m ρ _ => Cert.KernelG.Gen.frame m ρ,
    fun m ρ _ => Cert.KernelGIdeal.Gen.frame m ρ,
    frame_riG,
    AttnClaim.preserves,
    AttnClaim.algebraic,
    preservesC,
    DiffClaim.algebraic,
    trivial,
    FfnClaim.algebraic,
    trivial,
    Ffn1Claim.algebraic⟩

end Cert.Proof

end
